-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_ShareRefIdeal (m : (ℓ : Loc Cert.ShareRefIdeal.nD Cert.ShareRefIdeal.τ Cert.ShareRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRef (m : (ℓ : Loc Cert.PairSumRef.nD Cert.PairSumRef.τ Cert.PairSumRef.sig) → Buf (Elt Bits) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRef (m : (ℓ : Loc Cert.ChipSumRef.nD Cert.ChipSumRef.τ Cert.ChipSumRef.sig) → Buf (Elt Bits) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRef (m : (ℓ : Loc Cert.AdamwRef.nD Cert.AdamwRef.τ Cert.AdamwRef.sig) → Buf (Elt Bits) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRef (m : (ℓ : Loc Cert.AdamwSmallRef.nD Cert.AdamwSmallRef.τ Cert.AdamwSmallRef.sig) → Buf (Elt Bits) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRef (m : (ℓ : Loc Cert.LossHeadRef.nD Cert.LossHeadRef.τ Cert.LossHeadRef.sig) → Buf (Elt Bits) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRef (m : (ℓ : Loc Cert.InRef.nD Cert.InRef.τ Cert.InRef.sig) → Buf (Elt Bits) ℓ) : Prop :=
  True

def Pre_InRefIdeal (m : (ℓ : Loc Cert.InRefIdeal.nD Cert.InRefIdeal.τ Cert.InRefIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRef (m : (ℓ : Loc Cert.InDaRef.nD Cert.InDaRef.τ Cert.InDaRef.sig) → Buf (Elt Bits) ℓ) : Prop :=
  True

def Pre_InDaRefIdeal (m : (ℓ : Loc Cert.InDaRefIdeal.nD Cert.InDaRefIdeal.τ Cert.InDaRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRef (m : (ℓ : Loc Cert.InDwRef.nD Cert.InDwRef.τ Cert.InDwRef.sig) → Buf (Elt Bits) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRef (m : (ℓ : Loc Cert.BranchRef.nD Cert.BranchRef.τ Cert.BranchRef.sig) → Buf (Elt Bits) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchDa (m : (ℓ : Loc Cert.BranchDa.nD Cert.BranchDa.τ Cert.BranchDa.sig) → Buf (Elt Bits) ℓ) : Prop :=
  True

def Pre_BranchDaIdeal (m : (ℓ : Loc Cert.BranchDaIdeal.nD Cert.BranchDaIdeal.τ Cert.BranchDaIdeal.sig) → Buf (Elt Ideal) ℓ) : Prop :=
  True

def Pre_BranchDaRef (m : (ℓ : Loc Cert.BranchDaRef.nD Cert.BranchDaRef.τ Cert.BranchDaRef.sig) → Buf (Elt Bits) ℓ) : Prop :=
  True

def Pre_BranchDaRefIdeal (m : (ℓ : Loc Cert.BranchDaRefIdeal.nD Cert.BranchDaRefIdeal.τ Cert.BranchDaRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRef (m : (ℓ : Loc Cert.BranchDwRef.nD Cert.BranchDwRef.τ Cert.BranchDwRef.sig) → Buf (Elt Bits) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRef (m : (ℓ : Loc Cert.OutRef.nD Cert.OutRef.τ Cert.OutRef.sig) → Buf (Elt Bits) ℓ) : Prop :=
  True

def Pre_OutRefIdeal (m : (ℓ : Loc Cert.OutRefIdeal.nD Cert.OutRefIdeal.τ Cert.OutRefIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaRef (m : (ℓ : Loc Cert.OutDaRef.nD Cert.OutDaRef.τ Cert.OutDaRef.sig) → Buf (Elt Bits) ℓ) : Prop :=
  True

def Pre_OutDaRefIdeal (m : (ℓ : Loc Cert.OutDaRefIdeal.nD Cert.OutDaRefIdeal.τ Cert.OutDaRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRef (m : (ℓ : Loc Cert.OutDwRef.nD Cert.OutDwRef.τ Cert.OutDwRef.sig) → Buf (Elt Bits) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRef (m : (ℓ : Loc Cert.QueryRef.nD Cert.QueryRef.τ Cert.QueryRef.sig) → Buf (Elt Bits) ℓ) : Prop :=
  True

def Pre_QueryRefIdeal (m : (ℓ : Loc Cert.QueryRefIdeal.nD Cert.QueryRefIdeal.τ Cert.QueryRefIdeal.sig) → Buf (Elt Ideal) ℓ) : Prop :=
  True

def Pre_QueryDa (m : (ℓ : Loc Cert.QueryDa.nD Cert.QueryDa.τ Cert.QueryDa.sig) → Buf (Elt Bits) ℓ) : Prop :=
  True

def Pre_QueryDaIdeal (m : (ℓ : Loc Cert.QueryDaIdeal.nD Cert.QueryDaIdeal.τ Cert.QueryDaIdeal.sig) → Buf (Elt Ideal) ℓ) : Prop :=
  True

def Pre_QueryDaRef (m : (ℓ : Loc Cert.QueryDaRef.nD Cert.QueryDaRef.τ Cert.QueryDaRef.sig) → Buf (Elt Bits) ℓ) : Prop :=
  True

def Pre_QueryDaRefIdeal (m : (ℓ : Loc Cert.QueryDaRefIdeal.nD Cert.QueryDaRefIdeal.τ Cert.QueryDaRefIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwRef (m : (ℓ : Loc Cert.QueryDwRef.nD Cert.QueryDwRef.τ Cert.QueryDwRef.sig) → Buf (Elt Bits) ℓ) : Prop :=
  True

def Pre_QueryDwRefIdeal (m : (ℓ : Loc Cert.QueryDwRefIdeal.nD Cert.QueryDwRefIdeal.τ Cert.QueryDwRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRef (m : (ℓ : Loc Cert.MemoryRef.nD Cert.MemoryRef.τ Cert.MemoryRef.sig) → Buf (Elt Bits) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_MemoryDa (m : (ℓ : Loc Cert.MemoryDa.nD Cert.MemoryDa.τ Cert.MemoryDa.sig) → Buf (Elt Bits) ℓ) : Prop :=
  True

def Pre_MemoryDaIdeal (m : (ℓ : Loc Cert.MemoryDaIdeal.nD Cert.MemoryDaIdeal.τ Cert.MemoryDaIdeal.sig) → Buf (Elt Ideal) ℓ) : Prop :=
  True

def Pre_MemoryDaRef (m : (ℓ : Loc Cert.MemoryDaRef.nD Cert.MemoryDaRef.τ Cert.MemoryDaRef.sig) → Buf (Elt Bits) ℓ) : Prop :=
  True

def Pre_MemoryDaRefIdeal (m : (ℓ : Loc Cert.MemoryDaRefIdeal.nD Cert.MemoryDaRefIdeal.τ Cert.MemoryDaRefIdeal.sig) → Buf (Elt Ideal) ℓ) : Prop :=
  True

def Pre_MemoryDw (m : (ℓ : Loc Cert.MemoryDw.nD Cert.MemoryDw.τ Cert.MemoryDw.sig) → Buf (Elt Bits) ℓ) : Prop :=
  True

def Pre_MemoryDwIdeal (m : (ℓ : Loc Cert.MemoryDwIdeal.nD Cert.MemoryDwIdeal.τ Cert.MemoryDwIdeal.sig) → Buf (Elt Ideal) ℓ) : Prop :=
  True

def Pre_MemoryDwRef (m : (ℓ : Loc Cert.MemoryDwRef.nD Cert.MemoryDwRef.τ Cert.MemoryDwRef.sig) → Buf (Elt Bits) ℓ) : Prop :=
  True

def Pre_MemoryDwRefIdeal (m : (ℓ : Loc Cert.MemoryDwRefIdeal.nD Cert.MemoryDwRefIdeal.τ Cert.MemoryDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRef (m : (ℓ : Loc Cert.UpRef.nD Cert.UpRef.τ Cert.UpRef.sig) → Buf (Elt Bits) ℓ) : Prop :=
  True

def Pre_UpRefIdeal (m : (ℓ : Loc Cert.UpRefIdeal.nD Cert.UpRefIdeal.τ Cert.UpRefIdeal.sig) → Buf (Elt Ideal) ℓ) : Prop :=
  True

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaRef (m : (ℓ : Loc Cert.UpDaRef.nD Cert.UpDaRef.τ Cert.UpDaRef.sig) → Buf (Elt Bits) ℓ) : Prop :=
  True

def Pre_UpDaRefIdeal (m : (ℓ : Loc Cert.UpDaRefIdeal.nD Cert.UpDaRefIdeal.τ Cert.UpDaRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRef (m : (ℓ : Loc Cert.UpDwRef.nD Cert.UpDwRef.τ Cert.UpDwRef.sig) → Buf (Elt Bits) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRef (m : (ℓ : Loc Cert.DownRef.nD Cert.DownRef.τ Cert.DownRef.sig) → Buf (Elt Bits) ℓ) : Prop :=
  True

def Pre_DownRefIdeal (m : (ℓ : Loc Cert.DownRefIdeal.nD Cert.DownRefIdeal.τ Cert.DownRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRef (m : (ℓ : Loc Cert.DownDaRef.nD Cert.DownDaRef.τ Cert.DownDaRef.sig) → Buf (Elt Bits) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRef (m : (ℓ : Loc Cert.DownDwRef.nD Cert.DownDwRef.τ Cert.DownDwRef.sig) → Buf (Elt Bits) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GdnScan (m : (ℓ : Loc Cert.GdnScan.nD Cert.GdnScan.τ Cert.GdnScan.sig) → Buf (Elt Bits) ℓ) : Prop :=
  True

def Pre_GdnScanIdeal (m : (ℓ : Loc Cert.GdnScanIdeal.nD Cert.GdnScanIdeal.τ Cert.GdnScanIdeal.sig) → Buf (Elt Ideal) ℓ) : Prop :=
  True

def Pre_GdnScanRef (m : (ℓ : Loc Cert.GdnScanRef.nD Cert.GdnScanRef.τ Cert.GdnScanRef.sig) → Buf (Elt Bits) ℓ) : Prop :=
  True

def Pre_GdnScanRefIdeal (m : (ℓ : Loc Cert.GdnScanRefIdeal.nD Cert.GdnScanRefIdeal.τ Cert.GdnScanRefIdeal.sig) → Buf (Elt Ideal) ℓ) : Prop :=
  True

def Pre_GdnGrad (m : (ℓ : Loc Cert.GdnGrad.nD Cert.GdnGrad.τ Cert.GdnGrad.sig) → Buf (Elt Bits) ℓ) : Prop :=
  True

def Pre_GdnGradIdeal (m : (ℓ : Loc Cert.GdnGradIdeal.nD Cert.GdnGradIdeal.τ Cert.GdnGradIdeal.sig) → Buf (Elt Ideal) ℓ) : Prop :=
  True

def Pre_GdnGradRef (m : (ℓ : Loc Cert.GdnGradRef.nD Cert.GdnGradRef.τ Cert.GdnGradRef.sig) → Buf (Elt Bits) ℓ) : Prop :=
  True

def Pre_GdnGradRefIdeal (m : (ℓ : Loc Cert.GdnGradRefIdeal.nD Cert.GdnGradRefIdeal.τ Cert.GdnGradRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickRef (m : (ℓ : Loc Cert.StickRef.nD Cert.StickRef.τ Cert.StickRef.sig) → Buf (Elt Bits) ℓ) : Prop :=
  True

def Pre_StickRefIdeal (m : (ℓ : Loc Cert.StickRefIdeal.nD Cert.StickRefIdeal.τ Cert.StickRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0))
      ∧ r.2.sem = fun _ => 0)

def quiescent_PairSumRef [hPairSumRef : Cert.PairSumRef.Facts] : Prop :=
  ∀ (m : (ℓ : Loc Cert.PairSumRef.nD Cert.PairSumRef.τ Cert.PairSumRef.sig) → Buf (Elt Bits) ℓ) (g : Dev Cert.PairSumRef.nD → PrngReg), Pre_PairSumRef m →
    θ_run (Cert.PairSumRef.defs (F := Bits)) (onTc (τ := Cert.PairSumRef.τ) (Cert.PairSumRef.main (F := Bits))) ⟨m, fun _ => 0, g⟩ (fun r => (∀ c : Dev Cert.PairSumRef.nD,
      r.2.mem ((c.tc : Thread Cert.PairSumRef.nD Cert.PairSumRef.τ).loc Cert.PairSumRef.main_arg0) = m ((c.tc : Thread Cert.PairSumRef.nD Cert.PairSumRef.τ).loc Cert.PairSumRef.main_arg0))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRef [hChipSumRef : Cert.ChipSumRef.Facts] : Prop :=
  ∀ (m : (ℓ : Loc Cert.ChipSumRef.nD Cert.ChipSumRef.τ Cert.ChipSumRef.sig) → Buf (Elt Bits) ℓ) (g : Dev Cert.ChipSumRef.nD → PrngReg), Pre_ChipSumRef m →
    θ_run (Cert.ChipSumRef.defs (F := Bits)) (onTc (τ := Cert.ChipSumRef.τ) (Cert.ChipSumRef.main (F := Bits))) ⟨m, fun _ => 0, g⟩ (fun r => (∀ c : Dev Cert.ChipSumRef.nD,
      r.2.mem ((c.tc : Thread Cert.ChipSumRef.nD Cert.ChipSumRef.τ).loc Cert.ChipSumRef.main_arg0) = m ((c.tc : Thread Cert.ChipSumRef.nD Cert.ChipSumRef.τ).loc Cert.ChipSumRef.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRef [hAdamwRef : Cert.AdamwRef.Facts] : Prop :=
  ∀ (m : (ℓ : Loc Cert.AdamwRef.nD Cert.AdamwRef.τ Cert.AdamwRef.sig) → Buf (Elt Bits) ℓ) (g : Dev Cert.AdamwRef.nD → PrngReg), Pre_AdamwRef m →
    θ_run (Cert.AdamwRef.defs (F := Bits)) (onTc (τ := Cert.AdamwRef.τ) (Cert.AdamwRef.main (F := Bits))) ⟨m, fun _ => 0, g⟩ (fun r => (∀ c : Dev Cert.AdamwRef.nD,
      r.2.mem ((c.tc : Thread Cert.AdamwRef.nD Cert.AdamwRef.τ).loc Cert.AdamwRef.main_arg0) = m ((c.tc : Thread Cert.AdamwRef.nD Cert.AdamwRef.τ).loc Cert.AdamwRef.main_arg0)
      ∧ r.2.mem ((c.tc : Thread Cert.AdamwRef.nD Cert.AdamwRef.τ).loc Cert.AdamwRef.main_arg1) = m ((c.tc : Thread Cert.AdamwRef.nD Cert.AdamwRef.τ).loc Cert.AdamwRef.main_arg1)
      ∧ r.2.mem ((c.tc : Thread Cert.AdamwRef.nD Cert.AdamwRef.τ).loc Cert.AdamwRef.main_arg2) = m ((c.tc : Thread Cert.AdamwRef.nD Cert.AdamwRef.τ).loc Cert.AdamwRef.main_arg2)
      ∧ r.2.mem ((c.tc : Thread Cert.AdamwRef.nD Cert.AdamwRef.τ).loc Cert.AdamwRef.main_arg3) = m ((c.tc : Thread Cert.AdamwRef.nD Cert.AdamwRef.τ).loc Cert.AdamwRef.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRef [hAdamwSmallRef : Cert.AdamwSmallRef.Facts] : Prop :=
  ∀ (m : (ℓ : Loc Cert.AdamwSmallRef.nD Cert.AdamwSmallRef.τ Cert.AdamwSmallRef.sig) → Buf (Elt Bits) ℓ) (g : Dev Cert.AdamwSmallRef.nD → PrngReg), Pre_AdamwSmallRef m →
    θ_run (Cert.AdamwSmallRef.defs (F := Bits)) (onTc (τ := Cert.AdamwSmallRef.τ) (Cert.AdamwSmallRef.main (F := Bits))) ⟨m, fun _ => 0, g⟩ (fun r => (∀ c : Dev Cert.AdamwSmallRef.nD,
      r.2.mem ((c.tc : Thread Cert.AdamwSmallRef.nD Cert.AdamwSmallRef.τ).loc Cert.AdamwSmallRef.main_arg0) = m ((c.tc : Thread Cert.AdamwSmallRef.nD Cert.AdamwSmallRef.τ).loc Cert.AdamwSmallRef.main_arg0)
      ∧ r.2.mem ((c.tc : Thread Cert.AdamwSmallRef.nD Cert.AdamwSmallRef.τ).loc Cert.AdamwSmallRef.main_arg1) = m ((c.tc : Thread Cert.AdamwSmallRef.nD Cert.AdamwSmallRef.τ).loc Cert.AdamwSmallRef.main_arg1)
      ∧ r.2.mem ((c.tc : Thread Cert.AdamwSmallRef.nD Cert.AdamwSmallRef.τ).loc Cert.AdamwSmallRef.main_arg2) = m ((c.tc : Thread Cert.AdamwSmallRef.nD Cert.AdamwSmallRef.τ).loc Cert.AdamwSmallRef.main_arg2)
      ∧ r.2.mem ((c.tc : Thread Cert.AdamwSmallRef.nD Cert.AdamwSmallRef.τ).loc Cert.AdamwSmallRef.main_arg3) = m ((c.tc : Thread Cert.AdamwSmallRef.nD Cert.AdamwSmallRef.τ).loc Cert.AdamwSmallRef.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRef [hLossHeadRef : Cert.LossHeadRef.Facts] : Prop :=
  ∀ (m : (ℓ : Loc Cert.LossHeadRef.nD Cert.LossHeadRef.τ Cert.LossHeadRef.sig) → Buf (Elt Bits) ℓ) (g : Dev Cert.LossHeadRef.nD → PrngReg), Pre_LossHeadRef m →
    θ_run (Cert.LossHeadRef.defs (F := Bits)) (onTc (τ := Cert.LossHeadRef.τ) (Cert.LossHeadRef.main (F := Bits))) ⟨m, fun _ => 0, g⟩ (fun r => (∀ c : Dev Cert.LossHeadRef.nD,
      r.2.mem ((c.tc : Thread Cert.LossHeadRef.nD Cert.LossHeadRef.τ).loc Cert.LossHeadRef.main_arg0) = m ((c.tc : Thread Cert.LossHeadRef.nD Cert.LossHeadRef.τ).loc Cert.LossHeadRef.main_arg0)
      ∧ r.2.mem ((c.tc : Thread Cert.LossHeadRef.nD Cert.LossHeadRef.τ).loc Cert.LossHeadRef.main_arg1) = m ((c.tc : Thread Cert.LossHeadRef.nD Cert.LossHeadRef.τ).loc Cert.LossHeadRef.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRef [hInRef : Cert.InRef.Facts] : Prop :=
  ∀ (m : (ℓ : Loc Cert.InRef.nD Cert.InRef.τ Cert.InRef.sig) → Buf (Elt Bits) ℓ) (g : Dev Cert.InRef.nD → PrngReg), Pre_InRef m →
    θ_run (Cert.InRef.defs (F := Bits)) (onTc (τ := Cert.InRef.τ) (Cert.InRef.main (F := Bits))) ⟨m, fun _ => 0, g⟩ (fun r => (∀ c : Dev Cert.InRef.nD,
      r.2.mem ((c.tc : Thread Cert.InRef.nD Cert.InRef.τ).loc Cert.InRef.main_arg0) = m ((c.tc : Thread Cert.InRef.nD Cert.InRef.τ).loc Cert.InRef.main_arg0)
      ∧ r.2.mem ((c.tc : Thread Cert.InRef.nD Cert.InRef.τ).loc Cert.InRef.main_arg1) = m ((c.tc : Thread Cert.InRef.nD Cert.InRef.τ).loc Cert.InRef.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ r.2.sem = fun _ => 0)

def quiescent_InDaRef [hInDaRef : Cert.InDaRef.Facts] : Prop :=
  ∀ (m : (ℓ : Loc Cert.InDaRef.nD Cert.InDaRef.τ Cert.InDaRef.sig) → Buf (Elt Bits) ℓ) (g : Dev Cert.InDaRef.nD → PrngReg), Pre_InDaRef m →
    θ_run (Cert.InDaRef.defs (F := Bits)) (onTc (τ := Cert.InDaRef.τ) (Cert.InDaRef.main (F := Bits))) ⟨m, fun _ => 0, g⟩ (fun r => (∀ c : Dev Cert.InDaRef.nD,
      r.2.mem ((c.tc : Thread Cert.InDaRef.nD Cert.InDaRef.τ).loc Cert.InDaRef.main_arg0) = m ((c.tc : Thread Cert.InDaRef.nD Cert.InDaRef.τ).loc Cert.InDaRef.main_arg0)
      ∧ r.2.mem ((c.tc : Thread Cert.InDaRef.nD Cert.InDaRef.τ).loc Cert.InDaRef.main_arg1) = m ((c.tc : Thread Cert.InDaRef.nD Cert.InDaRef.τ).loc Cert.InDaRef.main_arg1))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRef [hInDwRef : Cert.InDwRef.Facts] : Prop :=
  ∀ (m : (ℓ : Loc Cert.InDwRef.nD Cert.InDwRef.τ Cert.InDwRef.sig) → Buf (Elt Bits) ℓ) (g : Dev Cert.InDwRef.nD → PrngReg), Pre_InDwRef m →
    θ_run (Cert.InDwRef.defs (F := Bits)) (onTc (τ := Cert.InDwRef.τ) (Cert.InDwRef.main (F := Bits))) ⟨m, fun _ => 0, g⟩ (fun r => (∀ c : Dev Cert.InDwRef.nD,
      r.2.mem ((c.tc : Thread Cert.InDwRef.nD Cert.InDwRef.τ).loc Cert.InDwRef.main_arg0) = m ((c.tc : Thread Cert.InDwRef.nD Cert.InDwRef.τ).loc Cert.InDwRef.main_arg0)
      ∧ r.2.mem ((c.tc : Thread Cert.InDwRef.nD Cert.InDwRef.τ).loc Cert.InDwRef.main_arg1) = m ((c.tc : Thread Cert.InDwRef.nD Cert.InDwRef.τ).loc Cert.InDwRef.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRef [hBranchRef : Cert.BranchRef.Facts] : Prop :=
  ∀ (m : (ℓ : Loc Cert.BranchRef.nD Cert.BranchRef.τ Cert.BranchRef.sig) → Buf (Elt Bits) ℓ) (g : Dev Cert.BranchRef.nD → PrngReg), Pre_BranchRef m →
    θ_run (Cert.BranchRef.defs (F := Bits)) (onTc (τ := Cert.BranchRef.τ) (Cert.BranchRef.main (F := Bits))) ⟨m, fun _ => 0, g⟩ (fun r => (∀ c : Dev Cert.BranchRef.nD,
      r.2.mem ((c.tc : Thread Cert.BranchRef.nD Cert.BranchRef.τ).loc Cert.BranchRef.main_arg0) = m ((c.tc : Thread Cert.BranchRef.nD Cert.BranchRef.τ).loc Cert.BranchRef.main_arg0)
      ∧ r.2.mem ((c.tc : Thread Cert.BranchRef.nD Cert.BranchRef.τ).loc Cert.BranchRef.main_arg1) = m ((c.tc : Thread Cert.BranchRef.nD Cert.BranchRef.τ).loc Cert.BranchRef.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchDa [hBranchDa : Cert.BranchDa.Facts] : Prop :=
  ∀ (m : (ℓ : Loc Cert.BranchDa.nD Cert.BranchDa.τ Cert.BranchDa.sig) → Buf (Elt Bits) ℓ) (g : Dev Cert.BranchDa.nD → PrngReg), Pre_BranchDa m →
    θ_run (Cert.BranchDa.defs (F := Bits)) (onTc (τ := Cert.BranchDa.τ) (Cert.BranchDa.main (F := Bits))) ⟨m, fun _ => 0, g⟩ (fun r => (∀ c : Dev Cert.BranchDa.nD,
      r.2.mem ((c.tc : Thread Cert.BranchDa.nD Cert.BranchDa.τ).loc Cert.BranchDa.main_arg0) = m ((c.tc : Thread Cert.BranchDa.nD Cert.BranchDa.τ).loc Cert.BranchDa.main_arg0)
      ∧ r.2.mem ((c.tc : Thread Cert.BranchDa.nD Cert.BranchDa.τ).loc Cert.BranchDa.main_arg1) = m ((c.tc : Thread Cert.BranchDa.nD Cert.BranchDa.τ).loc Cert.BranchDa.main_arg1))
      ∧ r.2.sem = fun _ => 0)

def quiescent_BranchDaIdeal [hBranchDaIdeal : Cert.BranchDaIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg), Pre_BranchDaIdeal m →
    θ_run (Cert.BranchDaIdeal.defs (F := Ideal)) (onTc (τ := Cert.BranchDaIdeal.τ) (Cert.BranchDaIdeal.main (F := Ideal))) ⟨m, fun _ => 0, g⟩ (fun r => (∀ c : Dev Cert.BranchDaIdeal.nD,
      r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
      ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1))
      ∧ r.2.sem = fun _ => 0)

def quiescent_BranchDaRef [hBranchDaRef : Cert.BranchDaRef.Facts] : Prop :=
  ∀ (m : (ℓ : Loc Cert.BranchDaRef.nD Cert.BranchDaRef.τ Cert.BranchDaRef.sig) → Buf (Elt Bits) ℓ) (g : Dev Cert.BranchDaRef.nD → PrngReg), Pre_BranchDaRef m →
    θ_run (Cert.BranchDaRef.defs (F := Bits)) (onTc (τ := Cert.BranchDaRef.τ) (Cert.BranchDaRef.main (F := Bits))) ⟨m, fun _ => 0, g⟩ (fun r => (∀ c : Dev Cert.BranchDaRef.nD,
      r.2.mem ((c.tc : Thread Cert.BranchDaRef.nD Cert.BranchDaRef.τ).loc Cert.BranchDaRef.main_arg0) = m ((c.tc : Thread Cert.BranchDaRef.nD Cert.BranchDaRef.τ).loc Cert.BranchDaRef.main_arg0)
      ∧ r.2.mem ((c.tc : Thread Cert.BranchDaRef.nD Cert.BranchDaRef.τ).loc Cert.BranchDaRef.main_arg1) = m ((c.tc : Thread Cert.BranchDaRef.nD Cert.BranchDaRef.τ).loc Cert.BranchDaRef.main_arg1))
      ∧ r.2.sem = fun _ => 0)

def quiescent_BranchDaRefIdeal [hBranchDaRefIdeal : Cert.BranchDaRefIdeal.Facts] : Prop :=
  ∀ (m : (ℓ : Loc Cert.BranchDaRefIdeal.nD Cert.BranchDaRefIdeal.τ Cert.BranchDaRefIdeal.sig) → Buf (Elt Ideal) ℓ) (g : Dev Cert.BranchDaRefIdeal.nD → PrngReg), Pre_BranchDaRefIdeal m →
    θ_run (Cert.BranchDaRefIdeal.defs (F := Ideal)) (onTc (τ := Cert.BranchDaRefIdeal.τ) (Cert.BranchDaRefIdeal.main (F := Ideal))) ⟨m, fun _ => 0, g⟩ (fun r => (∀ c : Dev Cert.BranchDaRefIdeal.nD,
      r.2.mem ((c.tc : Thread Cert.BranchDaRefIdeal.nD Cert.BranchDaRefIdeal.τ).loc Cert.BranchDaRefIdeal.main_arg0) = m ((c.tc : Thread Cert.BranchDaRefIdeal.nD Cert.BranchDaRefIdeal.τ).loc Cert.BranchDaRefIdeal.main_arg0)
      ∧ r.2.mem ((c.tc : Thread Cert.BranchDaRefIdeal.nD Cert.BranchDaRefIdeal.τ).loc Cert.BranchDaRefIdeal.main_arg1) = m ((c.tc : Thread Cert.BranchDaRefIdeal.nD Cert.BranchDaRefIdeal.τ).loc Cert.BranchDaRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRef [hBranchDwRef : Cert.BranchDwRef.Facts] : Prop :=
  ∀ (m : (ℓ : Loc Cert.BranchDwRef.nD Cert.BranchDwRef.τ Cert.BranchDwRef.sig) → Buf (Elt Bits) ℓ) (g : Dev Cert.BranchDwRef.nD → PrngReg), Pre_BranchDwRef m →
    θ_run (Cert.BranchDwRef.defs (F := Bits)) (onTc (τ := Cert.BranchDwRef.τ) (Cert.BranchDwRef.main (F := Bits))) ⟨m, fun _ => 0, g⟩ (fun r => (∀ c : Dev Cert.BranchDwRef.nD,
      r.2.mem ((c.tc : Thread Cert.BranchDwRef.nD Cert.BranchDwRef.τ).loc Cert.BranchDwRef.main_arg0) = m ((c.tc : Thread Cert.BranchDwRef.nD Cert.BranchDwRef.τ).loc Cert.BranchDwRef.main_arg0)
      ∧ r.2.mem ((c.tc : Thread Cert.BranchDwRef.nD Cert.BranchDwRef.τ).loc Cert.BranchDwRef.main_arg1) = m ((c.tc : Thread Cert.BranchDwRef.nD Cert.BranchDwRef.τ).loc Cert.BranchDwRef.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRef [hOutRef : Cert.OutRef.Facts] : Prop :=
  ∀ (m : (ℓ : Loc Cert.OutRef.nD Cert.OutRef.τ Cert.OutRef.sig) → Buf (Elt Bits) ℓ) (g : Dev Cert.OutRef.nD → PrngReg), Pre_OutRef m →
    θ_run (Cert.OutRef.defs (F := Bits)) (onTc (τ := Cert.OutRef.τ) (Cert.OutRef.main (F := Bits))) ⟨m, fun _ => 0, g⟩ (fun r => (∀ c : Dev Cert.OutRef.nD,
      r.2.mem ((c.tc : Thread Cert.OutRef.nD Cert.OutRef.τ).loc Cert.OutRef.main_arg0) = m ((c.tc : Thread Cert.OutRef.nD Cert.OutRef.τ).loc Cert.OutRef.main_arg0)
      ∧ r.2.mem ((c.tc : Thread Cert.OutRef.nD Cert.OutRef.τ).loc Cert.OutRef.main_arg1) = m ((c.tc : Thread Cert.OutRef.nD Cert.OutRef.τ).loc Cert.OutRef.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ r.2.sem = fun _ => 0)

def quiescent_OutDaRef [hOutDaRef : Cert.OutDaRef.Facts] : Prop :=
  ∀ (m : (ℓ : Loc Cert.OutDaRef.nD Cert.OutDaRef.τ Cert.OutDaRef.sig) → Buf (Elt Bits) ℓ) (g : Dev Cert.OutDaRef.nD → PrngReg), Pre_OutDaRef m →
    θ_run (Cert.OutDaRef.defs (F := Bits)) (onTc (τ := Cert.OutDaRef.τ) (Cert.OutDaRef.main (F := Bits))) ⟨m, fun _ => 0, g⟩ (fun r => (∀ c : Dev Cert.OutDaRef.nD,
      r.2.mem ((c.tc : Thread Cert.OutDaRef.nD Cert.OutDaRef.τ).loc Cert.OutDaRef.main_arg0) = m ((c.tc : Thread Cert.OutDaRef.nD Cert.OutDaRef.τ).loc Cert.OutDaRef.main_arg0)
      ∧ r.2.mem ((c.tc : Thread Cert.OutDaRef.nD Cert.OutDaRef.τ).loc Cert.OutDaRef.main_arg1) = m ((c.tc : Thread Cert.OutDaRef.nD Cert.OutDaRef.τ).loc Cert.OutDaRef.main_arg1))
      ∧ r.2.sem = fun _ => 0)

def quiescent_OutDaRefIdeal [hOutDaRefIdeal : Cert.OutDaRefIdeal.Facts] : Prop :=
  ∀ (m : (ℓ : Loc Cert.OutDaRefIdeal.nD Cert.OutDaRefIdeal.τ Cert.OutDaRefIdeal.sig) → Buf (Elt Ideal) ℓ) (g : Dev Cert.OutDaRefIdeal.nD → PrngReg), Pre_OutDaRefIdeal m →
    θ_run (Cert.OutDaRefIdeal.defs (F := Ideal)) (onTc (τ := Cert.OutDaRefIdeal.τ) (Cert.OutDaRefIdeal.main (F := Ideal))) ⟨m, fun _ => 0, g⟩ (fun r => (∀ c : Dev Cert.OutDaRefIdeal.nD,
      r.2.mem ((c.tc : Thread Cert.OutDaRefIdeal.nD Cert.OutDaRefIdeal.τ).loc Cert.OutDaRefIdeal.main_arg0) = m ((c.tc : Thread Cert.OutDaRefIdeal.nD Cert.OutDaRefIdeal.τ).loc Cert.OutDaRefIdeal.main_arg0)
      ∧ r.2.mem ((c.tc : Thread Cert.OutDaRefIdeal.nD Cert.OutDaRefIdeal.τ).loc Cert.OutDaRefIdeal.main_arg1) = m ((c.tc : Thread Cert.OutDaRefIdeal.nD Cert.OutDaRefIdeal.τ).loc Cert.OutDaRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRef [hOutDwRef : Cert.OutDwRef.Facts] : Prop :=
  ∀ (m : (ℓ : Loc Cert.OutDwRef.nD Cert.OutDwRef.τ Cert.OutDwRef.sig) → Buf (Elt Bits) ℓ) (g : Dev Cert.OutDwRef.nD → PrngReg), Pre_OutDwRef m →
    θ_run (Cert.OutDwRef.defs (F := Bits)) (onTc (τ := Cert.OutDwRef.τ) (Cert.OutDwRef.main (F := Bits))) ⟨m, fun _ => 0, g⟩ (fun r => (∀ c : Dev Cert.OutDwRef.nD,
      r.2.mem ((c.tc : Thread Cert.OutDwRef.nD Cert.OutDwRef.τ).loc Cert.OutDwRef.main_arg0) = m ((c.tc : Thread Cert.OutDwRef.nD Cert.OutDwRef.τ).loc Cert.OutDwRef.main_arg0)
      ∧ r.2.mem ((c.tc : Thread Cert.OutDwRef.nD Cert.OutDwRef.τ).loc Cert.OutDwRef.main_arg1) = m ((c.tc : Thread Cert.OutDwRef.nD Cert.OutDwRef.τ).loc Cert.OutDwRef.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRef [hQueryRef : Cert.QueryRef.Facts] : Prop :=
  ∀ (m : (ℓ : Loc Cert.QueryRef.nD Cert.QueryRef.τ Cert.QueryRef.sig) → Buf (Elt Bits) ℓ) (g : Dev Cert.QueryRef.nD → PrngReg), Pre_QueryRef m →
    θ_run (Cert.QueryRef.defs (F := Bits)) (onTc (τ := Cert.QueryRef.τ) (Cert.QueryRef.main (F := Bits))) ⟨m, fun _ => 0, g⟩ (fun r => (∀ c : Dev Cert.QueryRef.nD,
      r.2.mem ((c.tc : Thread Cert.QueryRef.nD Cert.QueryRef.τ).loc Cert.QueryRef.main_arg0) = m ((c.tc : Thread Cert.QueryRef.nD Cert.QueryRef.τ).loc Cert.QueryRef.main_arg0)
      ∧ r.2.mem ((c.tc : Thread Cert.QueryRef.nD Cert.QueryRef.τ).loc Cert.QueryRef.main_arg1) = m ((c.tc : Thread Cert.QueryRef.nD Cert.QueryRef.τ).loc Cert.QueryRef.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_QueryDa [hQueryDa : Cert.QueryDa.Facts] : Prop :=
  ∀ (m : (ℓ : Loc Cert.QueryDa.nD Cert.QueryDa.τ Cert.QueryDa.sig) → Buf (Elt Bits) ℓ) (g : Dev Cert.QueryDa.nD → PrngReg), Pre_QueryDa m →
    θ_run (Cert.QueryDa.defs (F := Bits)) (onTc (τ := Cert.QueryDa.τ) (Cert.QueryDa.main (F := Bits))) ⟨m, fun _ => 0, g⟩ (fun r => (∀ c : Dev Cert.QueryDa.nD,
      r.2.mem ((c.tc : Thread Cert.QueryDa.nD Cert.QueryDa.τ).loc Cert.QueryDa.main_arg0) = m ((c.tc : Thread Cert.QueryDa.nD Cert.QueryDa.τ).loc Cert.QueryDa.main_arg0)
      ∧ r.2.mem ((c.tc : Thread Cert.QueryDa.nD Cert.QueryDa.τ).loc Cert.QueryDa.main_arg1) = m ((c.tc : Thread Cert.QueryDa.nD Cert.QueryDa.τ).loc Cert.QueryDa.main_arg1))
      ∧ r.2.sem = fun _ => 0)

def quiescent_QueryDaIdeal [hQueryDaIdeal : Cert.QueryDaIdeal.Facts] : Prop :=
  ∀ (m : (ℓ : Loc Cert.QueryDaIdeal.nD Cert.QueryDaIdeal.τ Cert.QueryDaIdeal.sig) → Buf (Elt Ideal) ℓ) (g : Dev Cert.QueryDaIdeal.nD → PrngReg), Pre_QueryDaIdeal m →
    θ_run (Cert.QueryDaIdeal.defs (F := Ideal)) (onTc (τ := Cert.QueryDaIdeal.τ) (Cert.QueryDaIdeal.main (F := Ideal))) ⟨m, fun _ => 0, g⟩ (fun r => (∀ c : Dev Cert.QueryDaIdeal.nD,
      r.2.mem ((c.tc : Thread Cert.QueryDaIdeal.nD Cert.QueryDaIdeal.τ).loc Cert.QueryDaIdeal.main_arg0) = m ((c.tc : Thread Cert.QueryDaIdeal.nD Cert.QueryDaIdeal.τ).loc Cert.QueryDaIdeal.main_arg0)
      ∧ r.2.mem ((c.tc : Thread Cert.QueryDaIdeal.nD Cert.QueryDaIdeal.τ).loc Cert.QueryDaIdeal.main_arg1) = m ((c.tc : Thread Cert.QueryDaIdeal.nD Cert.QueryDaIdeal.τ).loc Cert.QueryDaIdeal.main_arg1))
      ∧ r.2.sem = fun _ => 0)

def quiescent_QueryDaRef [hQueryDaRef : Cert.QueryDaRef.Facts] : Prop :=
  ∀ (m : (ℓ : Loc Cert.QueryDaRef.nD Cert.QueryDaRef.τ Cert.QueryDaRef.sig) → Buf (Elt Bits) ℓ) (g : Dev Cert.QueryDaRef.nD → PrngReg), Pre_QueryDaRef m →
    θ_run (Cert.QueryDaRef.defs (F := Bits)) (onTc (τ := Cert.QueryDaRef.τ) (Cert.QueryDaRef.main (F := Bits))) ⟨m, fun _ => 0, g⟩ (fun r => (∀ c : Dev Cert.QueryDaRef.nD,
      r.2.mem ((c.tc : Thread Cert.QueryDaRef.nD Cert.QueryDaRef.τ).loc Cert.QueryDaRef.main_arg0) = m ((c.tc : Thread Cert.QueryDaRef.nD Cert.QueryDaRef.τ).loc Cert.QueryDaRef.main_arg0)
      ∧ r.2.mem ((c.tc : Thread Cert.QueryDaRef.nD Cert.QueryDaRef.τ).loc Cert.QueryDaRef.main_arg1) = m ((c.tc : Thread Cert.QueryDaRef.nD Cert.QueryDaRef.τ).loc Cert.QueryDaRef.main_arg1))
      ∧ r.2.sem = fun _ => 0)

def quiescent_QueryDaRefIdeal [hQueryDaRefIdeal : Cert.QueryDaRefIdeal.Facts] : Prop :=
  ∀ (m : (ℓ : Loc Cert.QueryDaRefIdeal.nD Cert.QueryDaRefIdeal.τ Cert.QueryDaRefIdeal.sig) → Buf (Elt Ideal) ℓ) (g : Dev Cert.QueryDaRefIdeal.nD → PrngReg), Pre_QueryDaRefIdeal m →
    θ_run (Cert.QueryDaRefIdeal.defs (F := Ideal)) (onTc (τ := Cert.QueryDaRefIdeal.τ) (Cert.QueryDaRefIdeal.main (F := Ideal))) ⟨m, fun _ => 0, g⟩ (fun r => (∀ c : Dev Cert.QueryDaRefIdeal.nD,
      r.2.mem ((c.tc : Thread Cert.QueryDaRefIdeal.nD Cert.QueryDaRefIdeal.τ).loc Cert.QueryDaRefIdeal.main_arg0) = m ((c.tc : Thread Cert.QueryDaRefIdeal.nD Cert.QueryDaRefIdeal.τ).loc Cert.QueryDaRefIdeal.main_arg0)
      ∧ r.2.mem ((c.tc : Thread Cert.QueryDaRefIdeal.nD Cert.QueryDaRefIdeal.τ).loc Cert.QueryDaRefIdeal.main_arg1) = m ((c.tc : Thread Cert.QueryDaRefIdeal.nD Cert.QueryDaRefIdeal.τ).loc Cert.QueryDaRefIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwRef [hQueryDwRef : Cert.QueryDwRef.Facts] : Prop :=
  ∀ (m : (ℓ : Loc Cert.QueryDwRef.nD Cert.QueryDwRef.τ Cert.QueryDwRef.sig) → Buf (Elt Bits) ℓ) (g : Dev Cert.QueryDwRef.nD → PrngReg), Pre_QueryDwRef m →
    θ_run (Cert.QueryDwRef.defs (F := Bits)) (onTc (τ := Cert.QueryDwRef.τ) (Cert.QueryDwRef.main (F := Bits))) ⟨m, fun _ => 0, g⟩ (fun r => (∀ c : Dev Cert.QueryDwRef.nD,
      r.2.mem ((c.tc : Thread Cert.QueryDwRef.nD Cert.QueryDwRef.τ).loc Cert.QueryDwRef.main_arg0) = m ((c.tc : Thread Cert.QueryDwRef.nD Cert.QueryDwRef.τ).loc Cert.QueryDwRef.main_arg0)
      ∧ r.2.mem ((c.tc : Thread Cert.QueryDwRef.nD Cert.QueryDwRef.τ).loc Cert.QueryDwRef.main_arg1) = m ((c.tc : Thread Cert.QueryDwRef.nD Cert.QueryDwRef.τ).loc Cert.QueryDwRef.main_arg1))
      ∧ r.2.sem = fun _ => 0)

def quiescent_QueryDwRefIdeal [hQueryDwRefIdeal : Cert.QueryDwRefIdeal.Facts] : Prop :=
  ∀ (m : (ℓ : Loc Cert.QueryDwRefIdeal.nD Cert.QueryDwRefIdeal.τ Cert.QueryDwRefIdeal.sig) → Buf (Elt Ideal) ℓ) (g : Dev Cert.QueryDwRefIdeal.nD → PrngReg), Pre_QueryDwRefIdeal m →
    θ_run (Cert.QueryDwRefIdeal.defs (F := Ideal)) (onTc (τ := Cert.QueryDwRefIdeal.τ) (Cert.QueryDwRefIdeal.main (F := Ideal))) ⟨m, fun _ => 0, g⟩ (fun r => (∀ c : Dev Cert.QueryDwRefIdeal.nD,
      r.2.mem ((c.tc : Thread Cert.QueryDwRefIdeal.nD Cert.QueryDwRefIdeal.τ).loc Cert.QueryDwRefIdeal.main_arg0) = m ((c.tc : Thread Cert.QueryDwRefIdeal.nD Cert.QueryDwRefIdeal.τ).loc Cert.QueryDwRefIdeal.main_arg0)
      ∧ r.2.mem ((c.tc : Thread Cert.QueryDwRefIdeal.nD Cert.QueryDwRefIdeal.τ).loc Cert.QueryDwRefIdeal.main_arg1) = m ((c.tc : Thread Cert.QueryDwRefIdeal.nD Cert.QueryDwRefIdeal.τ).loc Cert.QueryDwRefIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRef [hMemoryRef : Cert.MemoryRef.Facts] : Prop :=
  ∀ (m : (ℓ : Loc Cert.MemoryRef.nD Cert.MemoryRef.τ Cert.MemoryRef.sig) → Buf (Elt Bits) ℓ) (g : Dev Cert.MemoryRef.nD → PrngReg), Pre_MemoryRef m →
    θ_run (Cert.MemoryRef.defs (F := Bits)) (onTc (τ := Cert.MemoryRef.τ) (Cert.MemoryRef.main (F := Bits))) ⟨m, fun _ => 0, g⟩ (fun r => (∀ c : Dev Cert.MemoryRef.nD,
      r.2.mem ((c.tc : Thread Cert.MemoryRef.nD Cert.MemoryRef.τ).loc Cert.MemoryRef.main_arg0) = m ((c.tc : Thread Cert.MemoryRef.nD Cert.MemoryRef.τ).loc Cert.MemoryRef.main_arg0)
      ∧ r.2.mem ((c.tc : Thread Cert.MemoryRef.nD Cert.MemoryRef.τ).loc Cert.MemoryRef.main_arg1) = m ((c.tc : Thread Cert.MemoryRef.nD Cert.MemoryRef.τ).loc Cert.MemoryRef.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_MemoryDa [hMemoryDa : Cert.MemoryDa.Facts] : Prop :=
  ∀ (m : (ℓ : Loc Cert.MemoryDa.nD Cert.MemoryDa.τ Cert.MemoryDa.sig) → Buf (Elt Bits) ℓ) (g : Dev Cert.MemoryDa.nD → PrngReg), Pre_MemoryDa m →
    θ_run (Cert.MemoryDa.defs (F := Bits)) (onTc (τ := Cert.MemoryDa.τ) (Cert.MemoryDa.main (F := Bits))) ⟨m, fun _ => 0, g⟩ (fun r => (∀ c : Dev Cert.MemoryDa.nD,
      r.2.mem ((c.tc : Thread Cert.MemoryDa.nD Cert.MemoryDa.τ).loc Cert.MemoryDa.main_arg0) = m ((c.tc : Thread Cert.MemoryDa.nD Cert.MemoryDa.τ).loc Cert.MemoryDa.main_arg0)
      ∧ r.2.mem ((c.tc : Thread Cert.MemoryDa.nD Cert.MemoryDa.τ).loc Cert.MemoryDa.main_arg1) = m ((c.tc : Thread Cert.MemoryDa.nD Cert.MemoryDa.τ).loc Cert.MemoryDa.main_arg1))
      ∧ r.2.sem = fun _ => 0)

def quiescent_MemoryDaIdeal [hMemoryDaIdeal : Cert.MemoryDaIdeal.Facts] : Prop :=
  ∀ (m : (ℓ : Loc Cert.MemoryDaIdeal.nD Cert.MemoryDaIdeal.τ Cert.MemoryDaIdeal.sig) → Buf (Elt Ideal) ℓ) (g : Dev Cert.MemoryDaIdeal.nD → PrngReg), Pre_MemoryDaIdeal m →
    θ_run (Cert.MemoryDaIdeal.defs (F := Ideal)) (onTc (τ := Cert.MemoryDaIdeal.τ) (Cert.MemoryDaIdeal.main (F := Ideal))) ⟨m, fun _ => 0, g⟩ (fun r => (∀ c : Dev Cert.MemoryDaIdeal.nD,
      r.2.mem ((c.tc : Thread Cert.MemoryDaIdeal.nD Cert.MemoryDaIdeal.τ).loc Cert.MemoryDaIdeal.main_arg0) = m ((c.tc : Thread Cert.MemoryDaIdeal.nD Cert.MemoryDaIdeal.τ).loc Cert.MemoryDaIdeal.main_arg0)
      ∧ r.2.mem ((c.tc : Thread Cert.MemoryDaIdeal.nD Cert.MemoryDaIdeal.τ).loc Cert.MemoryDaIdeal.main_arg1) = m ((c.tc : Thread Cert.MemoryDaIdeal.nD Cert.MemoryDaIdeal.τ).loc Cert.MemoryDaIdeal.main_arg1))
      ∧ r.2.sem = fun _ => 0)

def quiescent_MemoryDaRef [hMemoryDaRef : Cert.MemoryDaRef.Facts] : Prop :=
  ∀ (m : (ℓ : Loc Cert.MemoryDaRef.nD Cert.MemoryDaRef.τ Cert.MemoryDaRef.sig) → Buf (Elt Bits) ℓ) (g : Dev Cert.MemoryDaRef.nD → PrngReg), Pre_MemoryDaRef m →
    θ_run (Cert.MemoryDaRef.defs (F := Bits)) (onTc (τ := Cert.MemoryDaRef.τ) (Cert.MemoryDaRef.main (F := Bits))) ⟨m, fun _ => 0, g⟩ (fun r => (∀ c : Dev Cert.MemoryDaRef.nD,
      r.2.mem ((c.tc : Thread Cert.MemoryDaRef.nD Cert.MemoryDaRef.τ).loc Cert.MemoryDaRef.main_arg0) = m ((c.tc : Thread Cert.MemoryDaRef.nD Cert.MemoryDaRef.τ).loc Cert.MemoryDaRef.main_arg0)
      ∧ r.2.mem ((c.tc : Thread Cert.MemoryDaRef.nD Cert.MemoryDaRef.τ).loc Cert.MemoryDaRef.main_arg1) = m ((c.tc : Thread Cert.MemoryDaRef.nD Cert.MemoryDaRef.τ).loc Cert.MemoryDaRef.main_arg1))
      ∧ r.2.sem = fun _ => 0)

def quiescent_MemoryDaRefIdeal [hMemoryDaRefIdeal : Cert.MemoryDaRefIdeal.Facts] : Prop :=
  ∀ (m : (ℓ : Loc Cert.MemoryDaRefIdeal.nD Cert.MemoryDaRefIdeal.τ Cert.MemoryDaRefIdeal.sig) → Buf (Elt Ideal) ℓ) (g : Dev Cert.MemoryDaRefIdeal.nD → PrngReg), Pre_MemoryDaRefIdeal m →
    θ_run (Cert.MemoryDaRefIdeal.defs (F := Ideal)) (onTc (τ := Cert.MemoryDaRefIdeal.τ) (Cert.MemoryDaRefIdeal.main (F := Ideal))) ⟨m, fun _ => 0, g⟩ (fun r => (∀ c : Dev Cert.MemoryDaRefIdeal.nD,
      r.2.mem ((c.tc : Thread Cert.MemoryDaRefIdeal.nD Cert.MemoryDaRefIdeal.τ).loc Cert.MemoryDaRefIdeal.main_arg0) = m ((c.tc : Thread Cert.MemoryDaRefIdeal.nD Cert.MemoryDaRefIdeal.τ).loc Cert.MemoryDaRefIdeal.main_arg0)
      ∧ r.2.mem ((c.tc : Thread Cert.MemoryDaRefIdeal.nD Cert.MemoryDaRefIdeal.τ).loc Cert.MemoryDaRefIdeal.main_arg1) = m ((c.tc : Thread Cert.MemoryDaRefIdeal.nD Cert.MemoryDaRefIdeal.τ).loc Cert.MemoryDaRefIdeal.main_arg1))
      ∧ r.2.sem = fun _ => 0)

def quiescent_MemoryDw [hMemoryDw : Cert.MemoryDw.Facts] : Prop :=
  ∀ (m : (ℓ : Loc Cert.MemoryDw.nD Cert.MemoryDw.τ Cert.MemoryDw.sig) → Buf (Elt Bits) ℓ) (g : Dev Cert.MemoryDw.nD → PrngReg), Pre_MemoryDw m →
    θ_run (Cert.MemoryDw.defs (F := Bits)) (onTc (τ := Cert.MemoryDw.τ) (Cert.MemoryDw.main (F := Bits))) ⟨m, fun _ => 0, g⟩ (fun r => (∀ c : Dev Cert.MemoryDw.nD,
      r.2.mem ((c.tc : Thread Cert.MemoryDw.nD Cert.MemoryDw.τ).loc Cert.MemoryDw.main_arg0) = m ((c.tc : Thread Cert.MemoryDw.nD Cert.MemoryDw.τ).loc Cert.MemoryDw.main_arg0)
      ∧ r.2.mem ((c.tc : Thread Cert.MemoryDw.nD Cert.MemoryDw.τ).loc Cert.MemoryDw.main_arg1) = m ((c.tc : Thread Cert.MemoryDw.nD Cert.MemoryDw.τ).loc Cert.MemoryDw.main_arg1))
      ∧ r.2.sem = fun _ => 0)

def quiescent_MemoryDwIdeal [hMemoryDwIdeal : Cert.MemoryDwIdeal.Facts] : Prop :=
  ∀ (m : (ℓ : Loc Cert.MemoryDwIdeal.nD Cert.MemoryDwIdeal.τ Cert.MemoryDwIdeal.sig) → Buf (Elt Ideal) ℓ) (g : Dev Cert.MemoryDwIdeal.nD → PrngReg), Pre_MemoryDwIdeal m →
    θ_run (Cert.MemoryDwIdeal.defs (F := Ideal)) (onTc (τ := Cert.MemoryDwIdeal.τ) (Cert.MemoryDwIdeal.main (F := Ideal))) ⟨m, fun _ => 0, g⟩ (fun r => (∀ c : Dev Cert.MemoryDwIdeal.nD,
      r.2.mem ((c.tc : Thread Cert.MemoryDwIdeal.nD Cert.MemoryDwIdeal.τ).loc Cert.MemoryDwIdeal.main_arg0) = m ((c.tc : Thread Cert.MemoryDwIdeal.nD Cert.MemoryDwIdeal.τ).loc Cert.MemoryDwIdeal.main_arg0)
      ∧ r.2.mem ((c.tc : Thread Cert.MemoryDwIdeal.nD Cert.MemoryDwIdeal.τ).loc Cert.MemoryDwIdeal.main_arg1) = m ((c.tc : Thread Cert.MemoryDwIdeal.nD Cert.MemoryDwIdeal.τ).loc Cert.MemoryDwIdeal.main_arg1))
      ∧ r.2.sem = fun _ => 0)

def quiescent_MemoryDwRef [hMemoryDwRef : Cert.MemoryDwRef.Facts] : Prop :=
  ∀ (m : (ℓ : Loc Cert.MemoryDwRef.nD Cert.MemoryDwRef.τ Cert.MemoryDwRef.sig) → Buf (Elt Bits) ℓ) (g : Dev Cert.MemoryDwRef.nD → PrngReg), Pre_MemoryDwRef m →
    θ_run (Cert.MemoryDwRef.defs (F := Bits)) (onTc (τ := Cert.MemoryDwRef.τ) (Cert.MemoryDwRef.main (F := Bits))) ⟨m, fun _ => 0, g⟩ (fun r => (∀ c : Dev Cert.MemoryDwRef.nD,
      r.2.mem ((c.tc : Thread Cert.MemoryDwRef.nD Cert.MemoryDwRef.τ).loc Cert.MemoryDwRef.main_arg0) = m ((c.tc : Thread Cert.MemoryDwRef.nD Cert.MemoryDwRef.τ).loc Cert.MemoryDwRef.main_arg0)
      ∧ r.2.mem ((c.tc : Thread Cert.MemoryDwRef.nD Cert.MemoryDwRef.τ).loc Cert.MemoryDwRef.main_arg1) = m ((c.tc : Thread Cert.MemoryDwRef.nD Cert.MemoryDwRef.τ).loc Cert.MemoryDwRef.main_arg1))
      ∧ r.2.sem = fun _ => 0)

def quiescent_MemoryDwRefIdeal [hMemoryDwRefIdeal : Cert.MemoryDwRefIdeal.Facts] : Prop :=
  ∀ (m : (ℓ : Loc Cert.MemoryDwRefIdeal.nD Cert.MemoryDwRefIdeal.τ Cert.MemoryDwRefIdeal.sig) → Buf (Elt Ideal) ℓ) (g : Dev Cert.MemoryDwRefIdeal.nD → PrngReg), Pre_MemoryDwRefIdeal m →
    θ_run (Cert.MemoryDwRefIdeal.defs (F := Ideal)) (onTc (τ := Cert.MemoryDwRefIdeal.τ) (Cert.MemoryDwRefIdeal.main (F := Ideal))) ⟨m, fun _ => 0, g⟩ (fun r => (∀ c : Dev Cert.MemoryDwRefIdeal.nD,
      r.2.mem ((c.tc : Thread Cert.MemoryDwRefIdeal.nD Cert.MemoryDwRefIdeal.τ).loc Cert.MemoryDwRefIdeal.main_arg0) = m ((c.tc : Thread Cert.MemoryDwRefIdeal.nD Cert.MemoryDwRefIdeal.τ).loc Cert.MemoryDwRefIdeal.main_arg0)
      ∧ r.2.mem ((c.tc : Thread Cert.MemoryDwRefIdeal.nD Cert.MemoryDwRefIdeal.τ).loc Cert.MemoryDwRefIdeal.main_arg1) = m ((c.tc : Thread Cert.MemoryDwRefIdeal.nD Cert.MemoryDwRefIdeal.τ).loc Cert.MemoryDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRef [hUpRef : Cert.UpRef.Facts] : Prop :=
  ∀ (m : (ℓ : Loc Cert.UpRef.nD Cert.UpRef.τ Cert.UpRef.sig) → Buf (Elt Bits) ℓ) (g : Dev Cert.UpRef.nD → PrngReg), Pre_UpRef m →
    θ_run (Cert.UpRef.defs (F := Bits)) (onTc (τ := Cert.UpRef.τ) (Cert.UpRef.main (F := Bits))) ⟨m, fun _ => 0, g⟩ (fun r => (∀ c : Dev Cert.UpRef.nD,
      r.2.mem ((c.tc : Thread Cert.UpRef.nD Cert.UpRef.τ).loc Cert.UpRef.main_arg0) = m ((c.tc : Thread Cert.UpRef.nD Cert.UpRef.τ).loc Cert.UpRef.main_arg0)
      ∧ r.2.mem ((c.tc : Thread Cert.UpRef.nD Cert.UpRef.τ).loc Cert.UpRef.main_arg1) = m ((c.tc : Thread Cert.UpRef.nD Cert.UpRef.τ).loc Cert.UpRef.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ r.2.sem = fun _ => 0)

def quiescent_UpDaRef [hUpDaRef : Cert.UpDaRef.Facts] : Prop :=
  ∀ (m : (ℓ : Loc Cert.UpDaRef.nD Cert.UpDaRef.τ Cert.UpDaRef.sig) → Buf (Elt Bits) ℓ) (g : Dev Cert.UpDaRef.nD → PrngReg), Pre_UpDaRef m →
    θ_run (Cert.UpDaRef.defs (F := Bits)) (onTc (τ := Cert.UpDaRef.τ) (Cert.UpDaRef.main (F := Bits))) ⟨m, fun _ => 0, g⟩ (fun r => (∀ c : Dev Cert.UpDaRef.nD,
      r.2.mem ((c.tc : Thread Cert.UpDaRef.nD Cert.UpDaRef.τ).loc Cert.UpDaRef.main_arg0) = m ((c.tc : Thread Cert.UpDaRef.nD Cert.UpDaRef.τ).loc Cert.UpDaRef.main_arg0)
      ∧ r.2.mem ((c.tc : Thread Cert.UpDaRef.nD Cert.UpDaRef.τ).loc Cert.UpDaRef.main_arg1) = m ((c.tc : Thread Cert.UpDaRef.nD Cert.UpDaRef.τ).loc Cert.UpDaRef.main_arg1))
      ∧ r.2.sem = fun _ => 0)

def quiescent_UpDaRefIdeal [hUpDaRefIdeal : Cert.UpDaRefIdeal.Facts] : Prop :=
  ∀ (m : (ℓ : Loc Cert.UpDaRefIdeal.nD Cert.UpDaRefIdeal.τ Cert.UpDaRefIdeal.sig) → Buf (Elt Ideal) ℓ) (g : Dev Cert.UpDaRefIdeal.nD → PrngReg), Pre_UpDaRefIdeal m →
    θ_run (Cert.UpDaRefIdeal.defs (F := Ideal)) (onTc (τ := Cert.UpDaRefIdeal.τ) (Cert.UpDaRefIdeal.main (F := Ideal))) ⟨m, fun _ => 0, g⟩ (fun r => (∀ c : Dev Cert.UpDaRefIdeal.nD,
      r.2.mem ((c.tc : Thread Cert.UpDaRefIdeal.nD Cert.UpDaRefIdeal.τ).loc Cert.UpDaRefIdeal.main_arg0) = m ((c.tc : Thread Cert.UpDaRefIdeal.nD Cert.UpDaRefIdeal.τ).loc Cert.UpDaRefIdeal.main_arg0)
      ∧ r.2.mem ((c.tc : Thread Cert.UpDaRefIdeal.nD Cert.UpDaRefIdeal.τ).loc Cert.UpDaRefIdeal.main_arg1) = m ((c.tc : Thread Cert.UpDaRefIdeal.nD Cert.UpDaRefIdeal.τ).loc Cert.UpDaRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRef [hUpDwRef : Cert.UpDwRef.Facts] : Prop :=
  ∀ (m : (ℓ : Loc Cert.UpDwRef.nD Cert.UpDwRef.τ Cert.UpDwRef.sig) → Buf (Elt Bits) ℓ) (g : Dev Cert.UpDwRef.nD → PrngReg), Pre_UpDwRef m →
    θ_run (Cert.UpDwRef.defs (F := Bits)) (onTc (τ := Cert.UpDwRef.τ) (Cert.UpDwRef.main (F := Bits))) ⟨m, fun _ => 0, g⟩ (fun r => (∀ c : Dev Cert.UpDwRef.nD,
      r.2.mem ((c.tc : Thread Cert.UpDwRef.nD Cert.UpDwRef.τ).loc Cert.UpDwRef.main_arg0) = m ((c.tc : Thread Cert.UpDwRef.nD Cert.UpDwRef.τ).loc Cert.UpDwRef.main_arg0)
      ∧ r.2.mem ((c.tc : Thread Cert.UpDwRef.nD Cert.UpDwRef.τ).loc Cert.UpDwRef.main_arg1) = m ((c.tc : Thread Cert.UpDwRef.nD Cert.UpDwRef.τ).loc Cert.UpDwRef.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRef [hDownRef : Cert.DownRef.Facts] : Prop :=
  ∀ (m : (ℓ : Loc Cert.DownRef.nD Cert.DownRef.τ Cert.DownRef.sig) → Buf (Elt Bits) ℓ) (g : Dev Cert.DownRef.nD → PrngReg), Pre_DownRef m →
    θ_run (Cert.DownRef.defs (F := Bits)) (onTc (τ := Cert.DownRef.τ) (Cert.DownRef.main (F := Bits))) ⟨m, fun _ => 0, g⟩ (fun r => (∀ c : Dev Cert.DownRef.nD,
      r.2.mem ((c.tc : Thread Cert.DownRef.nD Cert.DownRef.τ).loc Cert.DownRef.main_arg0) = m ((c.tc : Thread Cert.DownRef.nD Cert.DownRef.τ).loc Cert.DownRef.main_arg0)
      ∧ r.2.mem ((c.tc : Thread Cert.DownRef.nD Cert.DownRef.τ).loc Cert.DownRef.main_arg1) = m ((c.tc : Thread Cert.DownRef.nD Cert.DownRef.τ).loc Cert.DownRef.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRef [hDownDaRef : Cert.DownDaRef.Facts] : Prop :=
  ∀ (m : (ℓ : Loc Cert.DownDaRef.nD Cert.DownDaRef.τ Cert.DownDaRef.sig) → Buf (Elt Bits) ℓ) (g : Dev Cert.DownDaRef.nD → PrngReg), Pre_DownDaRef m →
    θ_run (Cert.DownDaRef.defs (F := Bits)) (onTc (τ := Cert.DownDaRef.τ) (Cert.DownDaRef.main (F := Bits))) ⟨m, fun _ => 0, g⟩ (fun r => (∀ c : Dev Cert.DownDaRef.nD,
      r.2.mem ((c.tc : Thread Cert.DownDaRef.nD Cert.DownDaRef.τ).loc Cert.DownDaRef.main_arg0) = m ((c.tc : Thread Cert.DownDaRef.nD Cert.DownDaRef.τ).loc Cert.DownDaRef.main_arg0)
      ∧ r.2.mem ((c.tc : Thread Cert.DownDaRef.nD Cert.DownDaRef.τ).loc Cert.DownDaRef.main_arg1) = m ((c.tc : Thread Cert.DownDaRef.nD Cert.DownDaRef.τ).loc Cert.DownDaRef.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRef [hDownDwRef : Cert.DownDwRef.Facts] : Prop :=
  ∀ (m : (ℓ : Loc Cert.DownDwRef.nD Cert.DownDwRef.τ Cert.DownDwRef.sig) → Buf (Elt Bits) ℓ) (g : Dev Cert.DownDwRef.nD → PrngReg), Pre_DownDwRef m →
    θ_run (Cert.DownDwRef.defs (F := Bits)) (onTc (τ := Cert.DownDwRef.τ) (Cert.DownDwRef.main (F := Bits))) ⟨m, fun _ => 0, g⟩ (fun r => (∀ c : Dev Cert.DownDwRef.nD,
      r.2.mem ((c.tc : Thread Cert.DownDwRef.nD Cert.DownDwRef.τ).loc Cert.DownDwRef.main_arg0) = m ((c.tc : Thread Cert.DownDwRef.nD Cert.DownDwRef.τ).loc Cert.DownDwRef.main_arg0)
      ∧ r.2.mem ((c.tc : Thread Cert.DownDwRef.nD Cert.DownDwRef.τ).loc Cert.DownDwRef.main_arg1) = m ((c.tc : Thread Cert.DownDwRef.nD Cert.DownDwRef.τ).loc Cert.DownDwRef.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GdnScan [hGdnScan : Cert.GdnScan.Facts] : Prop :=
  ∀ (m : (ℓ : Loc Cert.GdnScan.nD Cert.GdnScan.τ Cert.GdnScan.sig) → Buf (Elt Bits) ℓ) (g : Dev Cert.GdnScan.nD → PrngReg), Pre_GdnScan m →
    θ_run (Cert.GdnScan.defs (F := Bits)) (onTc (τ := Cert.GdnScan.τ) (Cert.GdnScan.main (F := Bits))) ⟨m, fun _ => 0, g⟩ (fun r => (∀ c : Dev Cert.GdnScan.nD,
      r.2.mem ((c.tc : Thread Cert.GdnScan.nD Cert.GdnScan.τ).loc Cert.GdnScan.main_arg0) = m ((c.tc : Thread Cert.GdnScan.nD Cert.GdnScan.τ).loc Cert.GdnScan.main_arg0)
      ∧ r.2.mem ((c.tc : Thread Cert.GdnScan.nD Cert.GdnScan.τ).loc Cert.GdnScan.main_arg1) = m ((c.tc : Thread Cert.GdnScan.nD Cert.GdnScan.τ).loc Cert.GdnScan.main_arg1)
      ∧ r.2.mem ((c.tc : Thread Cert.GdnScan.nD Cert.GdnScan.τ).loc Cert.GdnScan.main_arg2) = m ((c.tc : Thread Cert.GdnScan.nD Cert.GdnScan.τ).loc Cert.GdnScan.main_arg2)
      ∧ r.2.mem ((c.tc : Thread Cert.GdnScan.nD Cert.GdnScan.τ).loc Cert.GdnScan.main_arg3) = m ((c.tc : Thread Cert.GdnScan.nD Cert.GdnScan.τ).loc Cert.GdnScan.main_arg3)
      ∧ r.2.mem ((c.tc : Thread Cert.GdnScan.nD Cert.GdnScan.τ).loc Cert.GdnScan.main_arg4) = m ((c.tc : Thread Cert.GdnScan.nD Cert.GdnScan.τ).loc Cert.GdnScan.main_arg4)
      ∧ r.2.mem ((c.tc : Thread Cert.GdnScan.nD Cert.GdnScan.τ).loc Cert.GdnScan.main_arg5) = m ((c.tc : Thread Cert.GdnScan.nD Cert.GdnScan.τ).loc Cert.GdnScan.main_arg5))
      ∧ r.2.sem = fun _ => 0)

def quiescent_GdnScanIdeal [hGdnScanIdeal : Cert.GdnScanIdeal.Facts] : Prop :=
  ∀ (m : (ℓ : Loc Cert.GdnScanIdeal.nD Cert.GdnScanIdeal.τ Cert.GdnScanIdeal.sig) → Buf (Elt Ideal) ℓ) (g : Dev Cert.GdnScanIdeal.nD → PrngReg), Pre_GdnScanIdeal m →
    θ_run (Cert.GdnScanIdeal.defs (F := Ideal)) (onTc (τ := Cert.GdnScanIdeal.τ) (Cert.GdnScanIdeal.main (F := Ideal))) ⟨m, fun _ => 0, g⟩ (fun r => (∀ c : Dev Cert.GdnScanIdeal.nD,
      r.2.mem ((c.tc : Thread Cert.GdnScanIdeal.nD Cert.GdnScanIdeal.τ).loc Cert.GdnScanIdeal.main_arg0) = m ((c.tc : Thread Cert.GdnScanIdeal.nD Cert.GdnScanIdeal.τ).loc Cert.GdnScanIdeal.main_arg0)
      ∧ r.2.mem ((c.tc : Thread Cert.GdnScanIdeal.nD Cert.GdnScanIdeal.τ).loc Cert.GdnScanIdeal.main_arg1) = m ((c.tc : Thread Cert.GdnScanIdeal.nD Cert.GdnScanIdeal.τ).loc Cert.GdnScanIdeal.main_arg1)
      ∧ r.2.mem ((c.tc : Thread Cert.GdnScanIdeal.nD Cert.GdnScanIdeal.τ).loc Cert.GdnScanIdeal.main_arg2) = m ((c.tc : Thread Cert.GdnScanIdeal.nD Cert.GdnScanIdeal.τ).loc Cert.GdnScanIdeal.main_arg2)
      ∧ r.2.mem ((c.tc : Thread Cert.GdnScanIdeal.nD Cert.GdnScanIdeal.τ).loc Cert.GdnScanIdeal.main_arg3) = m ((c.tc : Thread Cert.GdnScanIdeal.nD Cert.GdnScanIdeal.τ).loc Cert.GdnScanIdeal.main_arg3)
      ∧ r.2.mem ((c.tc : Thread Cert.GdnScanIdeal.nD Cert.GdnScanIdeal.τ).loc Cert.GdnScanIdeal.main_arg4) = m ((c.tc : Thread Cert.GdnScanIdeal.nD Cert.GdnScanIdeal.τ).loc Cert.GdnScanIdeal.main_arg4)
      ∧ r.2.mem ((c.tc : Thread Cert.GdnScanIdeal.nD Cert.GdnScanIdeal.τ).loc Cert.GdnScanIdeal.main_arg5) = m ((c.tc : Thread Cert.GdnScanIdeal.nD Cert.GdnScanIdeal.τ).loc Cert.GdnScanIdeal.main_arg5))
      ∧ r.2.sem = fun _ => 0)

def quiescent_GdnScanRef [hGdnScanRef : Cert.GdnScanRef.Facts] : Prop :=
  ∀ (m : (ℓ : Loc Cert.GdnScanRef.nD Cert.GdnScanRef.τ Cert.GdnScanRef.sig) → Buf (Elt Bits) ℓ) (g : Dev Cert.GdnScanRef.nD → PrngReg), Pre_GdnScanRef m →
    θ_run (Cert.GdnScanRef.defs (F := Bits)) (onTc (τ := Cert.GdnScanRef.τ) (Cert.GdnScanRef.main (F := Bits))) ⟨m, fun _ => 0, g⟩ (fun r => (∀ c : Dev Cert.GdnScanRef.nD,
      r.2.mem ((c.tc : Thread Cert.GdnScanRef.nD Cert.GdnScanRef.τ).loc Cert.GdnScanRef.main_arg0) = m ((c.tc : Thread Cert.GdnScanRef.nD Cert.GdnScanRef.τ).loc Cert.GdnScanRef.main_arg0)
      ∧ r.2.mem ((c.tc : Thread Cert.GdnScanRef.nD Cert.GdnScanRef.τ).loc Cert.GdnScanRef.main_arg1) = m ((c.tc : Thread Cert.GdnScanRef.nD Cert.GdnScanRef.τ).loc Cert.GdnScanRef.main_arg1)
      ∧ r.2.mem ((c.tc : Thread Cert.GdnScanRef.nD Cert.GdnScanRef.τ).loc Cert.GdnScanRef.main_arg2) = m ((c.tc : Thread Cert.GdnScanRef.nD Cert.GdnScanRef.τ).loc Cert.GdnScanRef.main_arg2)
      ∧ r.2.mem ((c.tc : Thread Cert.GdnScanRef.nD Cert.GdnScanRef.τ).loc Cert.GdnScanRef.main_arg3) = m ((c.tc : Thread Cert.GdnScanRef.nD Cert.GdnScanRef.τ).loc Cert.GdnScanRef.main_arg3)
      ∧ r.2.mem ((c.tc : Thread Cert.GdnScanRef.nD Cert.GdnScanRef.τ).loc Cert.GdnScanRef.main_arg4) = m ((c.tc : Thread Cert.GdnScanRef.nD Cert.GdnScanRef.τ).loc Cert.GdnScanRef.main_arg4)
      ∧ r.2.mem ((c.tc : Thread Cert.GdnScanRef.nD Cert.GdnScanRef.τ).loc Cert.GdnScanRef.main_arg5) = m ((c.tc : Thread Cert.GdnScanRef.nD Cert.GdnScanRef.τ).loc Cert.GdnScanRef.main_arg5))
      ∧ r.2.sem = fun _ => 0)

def quiescent_GdnScanRefIdeal [hGdnScanRefIdeal : Cert.GdnScanRefIdeal.Facts] : Prop :=
  ∀ (m : (ℓ : Loc Cert.GdnScanRefIdeal.nD Cert.GdnScanRefIdeal.τ Cert.GdnScanRefIdeal.sig) → Buf (Elt Ideal) ℓ) (g : Dev Cert.GdnScanRefIdeal.nD → PrngReg), Pre_GdnScanRefIdeal m →
    θ_run (Cert.GdnScanRefIdeal.defs (F := Ideal)) (onTc (τ := Cert.GdnScanRefIdeal.τ) (Cert.GdnScanRefIdeal.main (F := Ideal))) ⟨m, fun _ => 0, g⟩ (fun r => (∀ c : Dev Cert.GdnScanRefIdeal.nD,
      r.2.mem ((c.tc : Thread Cert.GdnScanRefIdeal.nD Cert.GdnScanRefIdeal.τ).loc Cert.GdnScanRefIdeal.main_arg0) = m ((c.tc : Thread Cert.GdnScanRefIdeal.nD Cert.GdnScanRefIdeal.τ).loc Cert.GdnScanRefIdeal.main_arg0)
      ∧ r.2.mem ((c.tc : Thread Cert.GdnScanRefIdeal.nD Cert.GdnScanRefIdeal.τ).loc Cert.GdnScanRefIdeal.main_arg1) = m ((c.tc : Thread Cert.GdnScanRefIdeal.nD Cert.GdnScanRefIdeal.τ).loc Cert.GdnScanRefIdeal.main_arg1)
      ∧ r.2.mem ((c.tc : Thread Cert.GdnScanRefIdeal.nD Cert.GdnScanRefIdeal.τ).loc Cert.GdnScanRefIdeal.main_arg2) = m ((c.tc : Thread Cert.GdnScanRefIdeal.nD Cert.GdnScanRefIdeal.τ).loc Cert.GdnScanRefIdeal.main_arg2)
      ∧ r.2.mem ((c.tc : Thread Cert.GdnScanRefIdeal.nD Cert.GdnScanRefIdeal.τ).loc Cert.GdnScanRefIdeal.main_arg3) = m ((c.tc : Thread Cert.GdnScanRefIdeal.nD Cert.GdnScanRefIdeal.τ).loc Cert.GdnScanRefIdeal.main_arg3)
      ∧ r.2.mem ((c.tc : Thread Cert.GdnScanRefIdeal.nD Cert.GdnScanRefIdeal.τ).loc Cert.GdnScanRefIdeal.main_arg4) = m ((c.tc : Thread Cert.GdnScanRefIdeal.nD Cert.GdnScanRefIdeal.τ).loc Cert.GdnScanRefIdeal.main_arg4)
      ∧ r.2.mem ((c.tc : Thread Cert.GdnScanRefIdeal.nD Cert.GdnScanRefIdeal.τ).loc Cert.GdnScanRefIdeal.main_arg5) = m ((c.tc : Thread Cert.GdnScanRefIdeal.nD Cert.GdnScanRefIdeal.τ).loc Cert.GdnScanRefIdeal.main_arg5))
      ∧ r.2.sem = fun _ => 0)

def quiescent_GdnGrad [hGdnGrad : Cert.GdnGrad.Facts] : Prop :=
  ∀ (m : (ℓ : Loc Cert.GdnGrad.nD Cert.GdnGrad.τ Cert.GdnGrad.sig) → Buf (Elt Bits) ℓ) (g : Dev Cert.GdnGrad.nD → PrngReg), Pre_GdnGrad m →
    θ_run (Cert.GdnGrad.defs (F := Bits)) (onTc (τ := Cert.GdnGrad.τ) (Cert.GdnGrad.main (F := Bits))) ⟨m, fun _ => 0, g⟩ (fun r => (∀ c : Dev Cert.GdnGrad.nD,
      r.2.mem ((c.tc : Thread Cert.GdnGrad.nD Cert.GdnGrad.τ).loc Cert.GdnGrad.main_arg0) = m ((c.tc : Thread Cert.GdnGrad.nD Cert.GdnGrad.τ).loc Cert.GdnGrad.main_arg0)
      ∧ r.2.mem ((c.tc : Thread Cert.GdnGrad.nD Cert.GdnGrad.τ).loc Cert.GdnGrad.main_arg1) = m ((c.tc : Thread Cert.GdnGrad.nD Cert.GdnGrad.τ).loc Cert.GdnGrad.main_arg1)
      ∧ r.2.mem ((c.tc : Thread Cert.GdnGrad.nD Cert.GdnGrad.τ).loc Cert.GdnGrad.main_arg2) = m ((c.tc : Thread Cert.GdnGrad.nD Cert.GdnGrad.τ).loc Cert.GdnGrad.main_arg2)
      ∧ r.2.mem ((c.tc : Thread Cert.GdnGrad.nD Cert.GdnGrad.τ).loc Cert.GdnGrad.main_arg3) = m ((c.tc : Thread Cert.GdnGrad.nD Cert.GdnGrad.τ).loc Cert.GdnGrad.main_arg3)
      ∧ r.2.mem ((c.tc : Thread Cert.GdnGrad.nD Cert.GdnGrad.τ).loc Cert.GdnGrad.main_arg4) = m ((c.tc : Thread Cert.GdnGrad.nD Cert.GdnGrad.τ).loc Cert.GdnGrad.main_arg4)
      ∧ r.2.mem ((c.tc : Thread Cert.GdnGrad.nD Cert.GdnGrad.τ).loc Cert.GdnGrad.main_arg5) = m ((c.tc : Thread Cert.GdnGrad.nD Cert.GdnGrad.τ).loc Cert.GdnGrad.main_arg5)
      ∧ r.2.mem ((c.tc : Thread Cert.GdnGrad.nD Cert.GdnGrad.τ).loc Cert.GdnGrad.main_arg6) = m ((c.tc : Thread Cert.GdnGrad.nD Cert.GdnGrad.τ).loc Cert.GdnGrad.main_arg6)
      ∧ r.2.mem ((c.tc : Thread Cert.GdnGrad.nD Cert.GdnGrad.τ).loc Cert.GdnGrad.main_arg7) = m ((c.tc : Thread Cert.GdnGrad.nD Cert.GdnGrad.τ).loc Cert.GdnGrad.main_arg7))
      ∧ r.2.sem = fun _ => 0)

def quiescent_GdnGradIdeal [hGdnGradIdeal : Cert.GdnGradIdeal.Facts] : Prop :=
  ∀ (m : (ℓ : Loc Cert.GdnGradIdeal.nD Cert.GdnGradIdeal.τ Cert.GdnGradIdeal.sig) → Buf (Elt Ideal) ℓ) (g : Dev Cert.GdnGradIdeal.nD → PrngReg), Pre_GdnGradIdeal m →
    θ_run (Cert.GdnGradIdeal.defs (F := Ideal)) (onTc (τ := Cert.GdnGradIdeal.τ) (Cert.GdnGradIdeal.main (F := Ideal))) ⟨m, fun _ => 0, g⟩ (fun r => (∀ c : Dev Cert.GdnGradIdeal.nD,
      r.2.mem ((c.tc : Thread Cert.GdnGradIdeal.nD Cert.GdnGradIdeal.τ).loc Cert.GdnGradIdeal.main_arg0) = m ((c.tc : Thread Cert.GdnGradIdeal.nD Cert.GdnGradIdeal.τ).loc Cert.GdnGradIdeal.main_arg0)
      ∧ r.2.mem ((c.tc : Thread Cert.GdnGradIdeal.nD Cert.GdnGradIdeal.τ).loc Cert.GdnGradIdeal.main_arg1) = m ((c.tc : Thread Cert.GdnGradIdeal.nD Cert.GdnGradIdeal.τ).loc Cert.GdnGradIdeal.main_arg1)
      ∧ r.2.mem ((c.tc : Thread Cert.GdnGradIdeal.nD Cert.GdnGradIdeal.τ).loc Cert.GdnGradIdeal.main_arg2) = m ((c.tc : Thread Cert.GdnGradIdeal.nD Cert.GdnGradIdeal.τ).loc Cert.GdnGradIdeal.main_arg2)
      ∧ r.2.mem ((c.tc : Thread Cert.GdnGradIdeal.nD Cert.GdnGradIdeal.τ).loc Cert.GdnGradIdeal.main_arg3) = m ((c.tc : Thread Cert.GdnGradIdeal.nD Cert.GdnGradIdeal.τ).loc Cert.GdnGradIdeal.main_arg3)
      ∧ r.2.mem ((c.tc : Thread Cert.GdnGradIdeal.nD Cert.GdnGradIdeal.τ).loc Cert.GdnGradIdeal.main_arg4) = m ((c.tc : Thread Cert.GdnGradIdeal.nD Cert.GdnGradIdeal.τ).loc Cert.GdnGradIdeal.main_arg4)
      ∧ r.2.mem ((c.tc : Thread Cert.GdnGradIdeal.nD Cert.GdnGradIdeal.τ).loc Cert.GdnGradIdeal.main_arg5) = m ((c.tc : Thread Cert.GdnGradIdeal.nD Cert.GdnGradIdeal.τ).loc Cert.GdnGradIdeal.main_arg5)
      ∧ r.2.mem ((c.tc : Thread Cert.GdnGradIdeal.nD Cert.GdnGradIdeal.τ).loc Cert.GdnGradIdeal.main_arg6) = m ((c.tc : Thread Cert.GdnGradIdeal.nD Cert.GdnGradIdeal.τ).loc Cert.GdnGradIdeal.main_arg6)
      ∧ r.2.mem ((c.tc : Thread Cert.GdnGradIdeal.nD Cert.GdnGradIdeal.τ).loc Cert.GdnGradIdeal.main_arg7) = m ((c.tc : Thread Cert.GdnGradIdeal.nD Cert.GdnGradIdeal.τ).loc Cert.GdnGradIdeal.main_arg7))
      ∧ r.2.sem = fun _ => 0)

def quiescent_GdnGradRef [hGdnGradRef : Cert.GdnGradRef.Facts] : Prop :=
  ∀ (m : (ℓ : Loc Cert.GdnGradRef.nD Cert.GdnGradRef.τ Cert.GdnGradRef.sig) → Buf (Elt Bits) ℓ) (g : Dev Cert.GdnGradRef.nD → PrngReg), Pre_GdnGradRef m →
    θ_run (Cert.GdnGradRef.defs (F := Bits)) (onTc (τ := Cert.GdnGradRef.τ) (Cert.GdnGradRef.main (F := Bits))) ⟨m, fun _ => 0, g⟩ (fun r => (∀ c : Dev Cert.GdnGradRef.nD,
      r.2.mem ((c.tc : Thread Cert.GdnGradRef.nD Cert.GdnGradRef.τ).loc Cert.GdnGradRef.main_arg0) = m ((c.tc : Thread Cert.GdnGradRef.nD Cert.GdnGradRef.τ).loc Cert.GdnGradRef.main_arg0)
      ∧ r.2.mem ((c.tc : Thread Cert.GdnGradRef.nD Cert.GdnGradRef.τ).loc Cert.GdnGradRef.main_arg1) = m ((c.tc : Thread Cert.GdnGradRef.nD Cert.GdnGradRef.τ).loc Cert.GdnGradRef.main_arg1)
      ∧ r.2.mem ((c.tc : Thread Cert.GdnGradRef.nD Cert.GdnGradRef.τ).loc Cert.GdnGradRef.main_arg2) = m ((c.tc : Thread Cert.GdnGradRef.nD Cert.GdnGradRef.τ).loc Cert.GdnGradRef.main_arg2)
      ∧ r.2.mem ((c.tc : Thread Cert.GdnGradRef.nD Cert.GdnGradRef.τ).loc Cert.GdnGradRef.main_arg3) = m ((c.tc : Thread Cert.GdnGradRef.nD Cert.GdnGradRef.τ).loc Cert.GdnGradRef.main_arg3)
      ∧ r.2.mem ((c.tc : Thread Cert.GdnGradRef.nD Cert.GdnGradRef.τ).loc Cert.GdnGradRef.main_arg4) = m ((c.tc : Thread Cert.GdnGradRef.nD Cert.GdnGradRef.τ).loc Cert.GdnGradRef.main_arg4)
      ∧ r.2.mem ((c.tc : Thread Cert.GdnGradRef.nD Cert.GdnGradRef.τ).loc Cert.GdnGradRef.main_arg5) = m ((c.tc : Thread Cert.GdnGradRef.nD Cert.GdnGradRef.τ).loc Cert.GdnGradRef.main_arg5)
      ∧ r.2.mem ((c.tc : Thread Cert.GdnGradRef.nD Cert.GdnGradRef.τ).loc Cert.GdnGradRef.main_arg6) = m ((c.tc : Thread Cert.GdnGradRef.nD Cert.GdnGradRef.τ).loc Cert.GdnGradRef.main_arg6)
      ∧ r.2.mem ((c.tc : Thread Cert.GdnGradRef.nD Cert.GdnGradRef.τ).loc Cert.GdnGradRef.main_arg7) = m ((c.tc : Thread Cert.GdnGradRef.nD Cert.GdnGradRef.τ).loc Cert.GdnGradRef.main_arg7))
      ∧ r.2.sem = fun _ => 0)

def quiescent_GdnGradRefIdeal [hGdnGradRefIdeal : Cert.GdnGradRefIdeal.Facts] : Prop :=
  ∀ (m : (ℓ : Loc Cert.GdnGradRefIdeal.nD Cert.GdnGradRefIdeal.τ Cert.GdnGradRefIdeal.sig) → Buf (Elt Ideal) ℓ) (g : Dev Cert.GdnGradRefIdeal.nD → PrngReg), Pre_GdnGradRefIdeal m →
    θ_run (Cert.GdnGradRefIdeal.defs (F := Ideal)) (onTc (τ := Cert.GdnGradRefIdeal.τ) (Cert.GdnGradRefIdeal.main (F := Ideal))) ⟨m, fun _ => 0, g⟩ (fun r => (∀ c : Dev Cert.GdnGradRefIdeal.nD,
      r.2.mem ((c.tc : Thread Cert.GdnGradRefIdeal.nD Cert.GdnGradRefIdeal.τ).loc Cert.GdnGradRefIdeal.main_arg0) = m ((c.tc : Thread Cert.GdnGradRefIdeal.nD Cert.GdnGradRefIdeal.τ).loc Cert.GdnGradRefIdeal.main_arg0)
      ∧ r.2.mem ((c.tc : Thread Cert.GdnGradRefIdeal.nD Cert.GdnGradRefIdeal.τ).loc Cert.GdnGradRefIdeal.main_arg1) = m ((c.tc : Thread Cert.GdnGradRefIdeal.nD Cert.GdnGradRefIdeal.τ).loc Cert.GdnGradRefIdeal.main_arg1)
      ∧ r.2.mem ((c.tc : Thread Cert.GdnGradRefIdeal.nD Cert.GdnGradRefIdeal.τ).loc Cert.GdnGradRefIdeal.main_arg2) = m ((c.tc : Thread Cert.GdnGradRefIdeal.nD Cert.GdnGradRefIdeal.τ).loc Cert.GdnGradRefIdeal.main_arg2)
      ∧ r.2.mem ((c.tc : Thread Cert.GdnGradRefIdeal.nD Cert.GdnGradRefIdeal.τ).loc Cert.GdnGradRefIdeal.main_arg3) = m ((c.tc : Thread Cert.GdnGradRefIdeal.nD Cert.GdnGradRefIdeal.τ).loc Cert.GdnGradRefIdeal.main_arg3)
      ∧ r.2.mem ((c.tc : Thread Cert.GdnGradRefIdeal.nD Cert.GdnGradRefIdeal.τ).loc Cert.GdnGradRefIdeal.main_arg4) = m ((c.tc : Thread Cert.GdnGradRefIdeal.nD Cert.GdnGradRefIdeal.τ).loc Cert.GdnGradRefIdeal.main_arg4)
      ∧ r.2.mem ((c.tc : Thread Cert.GdnGradRefIdeal.nD Cert.GdnGradRefIdeal.τ).loc Cert.GdnGradRefIdeal.main_arg5) = m ((c.tc : Thread Cert.GdnGradRefIdeal.nD Cert.GdnGradRefIdeal.τ).loc Cert.GdnGradRefIdeal.main_arg5)
      ∧ r.2.mem ((c.tc : Thread Cert.GdnGradRefIdeal.nD Cert.GdnGradRefIdeal.τ).loc Cert.GdnGradRefIdeal.main_arg6) = m ((c.tc : Thread Cert.GdnGradRefIdeal.nD Cert.GdnGradRefIdeal.τ).loc Cert.GdnGradRefIdeal.main_arg6)
      ∧ r.2.mem ((c.tc : Thread Cert.GdnGradRefIdeal.nD Cert.GdnGradRefIdeal.τ).loc Cert.GdnGradRefIdeal.main_arg7) = m ((c.tc : Thread Cert.GdnGradRefIdeal.nD Cert.GdnGradRefIdeal.τ).loc Cert.GdnGradRefIdeal.main_arg7))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickRef [hStickRef : Cert.StickRef.Facts] : Prop :=
  ∀ (m : (ℓ : Loc Cert.StickRef.nD Cert.StickRef.τ Cert.StickRef.sig) → Buf (Elt Bits) ℓ) (g : Dev Cert.StickRef.nD → PrngReg), Pre_StickRef m →
    θ_run (Cert.StickRef.defs (F := Bits)) (onTc (τ := Cert.StickRef.τ) (Cert.StickRef.main (F := Bits))) ⟨m, fun _ => 0, g⟩ (fun r => (∀ c : Dev Cert.StickRef.nD,
      r.2.mem ((c.tc : Thread Cert.StickRef.nD Cert.StickRef.τ).loc Cert.StickRef.main_arg0) = m ((c.tc : Thread Cert.StickRef.nD Cert.StickRef.τ).loc Cert.StickRef.main_arg0)
      ∧ r.2.mem ((c.tc : Thread Cert.StickRef.nD Cert.StickRef.τ).loc Cert.StickRef.main_arg1) = m ((c.tc : Thread Cert.StickRef.nD Cert.StickRef.τ).loc Cert.StickRef.main_arg1)
      ∧ r.2.mem ((c.tc : Thread Cert.StickRef.nD Cert.StickRef.τ).loc Cert.StickRef.main_arg2) = m ((c.tc : Thread Cert.StickRef.nD Cert.StickRef.τ).loc Cert.StickRef.main_arg2))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 86016, 128]⟩ ⟨3, ![8, 86016, 128]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨3, ![2, 86016, 128]⟩ ⟨3, ![8, 86016, 128]⟩ (Layout.meshBlock [2, 2, 2] ![[0, 1], [], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨4, ![2, 4, 86016, 128]⟩ ⟨4, ![16, 4, 86016, 128]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨3, ![4, 86016, 128]⟩ ⟨3, ![32, 86016, 128]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨4, ![2, 4, 86016, 128]⟩ ⟨4, ![16, 4, 86016, 128]⟩ 0 8 c (m' (((0 : Dev Cert.SiblingRef.nD).tc : Thread Cert.SiblingRef.nD Cert.SiblingRef.τ).loc Cert.SiblingRef.main_arg0))) →
    ∃ (v0 : Buf (Elt Bits) (((0 : Dev Cert.SiblingRef.nD).tc : Thread Cert.SiblingRef.nD Cert.SiblingRef.τ).loc Cert.SiblingRef.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨3, ![4, 86016, 128]⟩ ⟨3, ![32, 86016, 128]⟩ 0 8 c v0
          ∧ r.2.mem ((c.tc : Thread Cert.Sibling.nD Cert.Sibling.τ).loc Cert.Sibling.main_arg0) = m ((c.tc : Thread Cert.Sibling.nD Cert.Sibling.τ).loc Cert.Sibling.main_arg0))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 86016, 128]⟩ ⟨3, ![32, 86016, 128]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v2)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![4, 86016, 128]⟩ ⟨3, ![32, 86016, 128]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v2) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 86016, 128]⟩ ⟨3, ![32, 86016, 128]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v2)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![4, 86016, 128]⟩ ⟨3, ![32, 86016, 128]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v2) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![86016, 128]⟩ ⟨2, ![688128, 128]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v2)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.block ⟨3, ![2, 86016, 128]⟩ ⟨3, ![16, 86016, 128]⟩ 0 8 c v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v2) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![86016, 128]⟩ ⟨2, ![688128, 128]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v2)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.block ⟨3, ![2, 86016, 128]⟩ ⟨3, ![16, 86016, 128]⟩ 0 8 c v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v2) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m ((c.tc : Thread Cert.PairSumIdeal.nD Cert.PairSumIdeal.τ).loc Cert.PairSumIdeal.main_arg0) = Layout.block ⟨4, ![2, 4, 86016, 128]⟩ ⟨4, ![16, 4, 86016, 128]⟩ 0 8 c (m' (((0 : Dev Cert.PairSumRefIdeal.nD).tc : Thread Cert.PairSumRefIdeal.nD Cert.PairSumRefIdeal.τ).loc Cert.PairSumRefIdeal.main_arg0))) →
    ∃ (v0 : Buf (Elt Ideal) (((0 : Dev Cert.PairSumRefIdeal.nD).tc : Thread Cert.PairSumRefIdeal.nD Cert.PairSumRefIdeal.τ).loc Cert.PairSumRefIdeal.main_v2)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v7) = Layout.block ⟨3, ![4, 86016, 128]⟩ ⟨3, ![32, 86016, 128]⟩ 0 8 c v0
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0))
      ∧ θ_run (Cert.PairSumRefIdeal.defs (F := Ideal)) (onTc (τ := Cert.PairSumRefIdeal.τ) (Cert.PairSumRefIdeal.main (F := Ideal))) ⟨m', fun _ => 0, g'⟩ (fun r =>
          r.2.mem (((0 : Dev Cert.PairSumRefIdeal.nD).tc : Thread Cert.PairSumRefIdeal.nD Cert.PairSumRefIdeal.τ).loc Cert.PairSumRefIdeal.main_v2) = v0
          ∧ r.2.mem (((0 : Dev Cert.PairSumRefIdeal.nD).tc : Thread Cert.PairSumRefIdeal.nD Cert.PairSumRefIdeal.τ).loc Cert.PairSumRefIdeal.main_arg0) = m' (((0 : Dev Cert.PairSumRefIdeal.nD).tc : Thread Cert.PairSumRefIdeal.nD Cert.PairSumRefIdeal.τ).loc Cert.PairSumRefIdeal.main_arg0))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m ((c.tc : Thread Cert.ChipSumIdeal.nD Cert.ChipSumIdeal.τ).loc Cert.ChipSumIdeal.main_arg0) = Layout.block ⟨3, ![4, 86016, 128]⟩ ⟨3, ![32, 86016, 128]⟩ 0 8 c (m' (((0 : Dev Cert.ChipSumRefIdeal.nD).tc : Thread Cert.ChipSumRefIdeal.nD Cert.ChipSumRefIdeal.τ).loc Cert.ChipSumRefIdeal.main_arg0))) →
    ∃ (v0 : Buf (Elt Ideal) (((0 : Dev Cert.ChipSumRefIdeal.nD).tc : Thread Cert.ChipSumRefIdeal.nD Cert.ChipSumRefIdeal.τ).loc Cert.ChipSumRefIdeal.main_v3)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v2) = Layout.block ⟨2, ![86016, 128]⟩ ⟨2, ![688128, 128]⟩ 0 8 c v0
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r =>
          r.2.mem (((0 : Dev Cert.ChipSumRefIdeal.nD).tc : Thread Cert.ChipSumRefIdeal.nD Cert.ChipSumRefIdeal.τ).loc Cert.ChipSumRefIdeal.main_v3) = v0
          ∧ r.2.mem (((0 : Dev Cert.ChipSumRefIdeal.nD).tc : Thread Cert.ChipSumRefIdeal.nD Cert.ChipSumRefIdeal.τ).loc Cert.ChipSumRefIdeal.main_arg0) = m' (((0 : Dev Cert.ChipSumRefIdeal.nD).tc : Thread Cert.ChipSumRefIdeal.nD Cert.ChipSumRefIdeal.τ).loc Cert.ChipSumRefIdeal.main_arg0))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v9) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDa_InDaIdeal : Prop :=
  True

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)) →
    ∃ (v0 : (c : Dev Cert.InDaIdeal.nD) → Buf (Elt Ideal) ((c.tc : Thread Cert.InDaIdeal.nD Cert.InDaIdeal.τ).loc Cert.InDaIdeal.main_v0)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v0) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v1) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v1) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v0) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchDa_BranchDaIdeal : Prop :=
  True

def algebraic_BranchDaIdeal_BranchDaRefIdeal [hBranchDaIdeal : Cert.BranchDaIdeal.Facts] [hBranchDaRefIdeal : Cert.BranchDaRefIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg)
    (m' : (ℓ : Loc Cert.BranchDaRefIdeal.nD Cert.BranchDaRefIdeal.τ Cert.BranchDaRefIdeal.sig) → Buf (Elt Ideal) ℓ) (g' : Dev Cert.BranchDaRefIdeal.nD → PrngReg), Pre_BranchDaIdeal m →
    (∀ c : Dev Cert.BranchDaIdeal.nD,
      m' ((c.tc : Thread Cert.BranchDaRefIdeal.nD Cert.BranchDaRefIdeal.τ).loc Cert.BranchDaRefIdeal.main_arg0) = m ((c.tc : Thread Cert.BranchDaIdeal.nD Cert.BranchDaIdeal.τ).loc Cert.BranchDaIdeal.main_arg0)
      ∧ m' ((c.tc : Thread Cert.BranchDaRefIdeal.nD Cert.BranchDaRefIdeal.τ).loc Cert.BranchDaRefIdeal.main_arg1) = m ((c.tc : Thread Cert.BranchDaIdeal.nD Cert.BranchDaIdeal.τ).loc Cert.BranchDaIdeal.main_arg1)) →
    ∃ (v0 : (c : Dev Cert.BranchDaIdeal.nD) → Buf (Elt Ideal) ((c.tc : Thread Cert.BranchDaIdeal.nD Cert.BranchDaIdeal.τ).loc Cert.BranchDaIdeal.main_v0)),
      θ_run (Cert.BranchDaIdeal.defs (F := Ideal)) (onTc (τ := Cert.BranchDaIdeal.τ) (Cert.BranchDaIdeal.main (F := Ideal))) ⟨m, fun _ => 0, g⟩ (fun r => ∀ c : Dev Cert.BranchDaIdeal.nD,
          r.2.mem ((c.tc : Thread Cert.BranchDaIdeal.nD Cert.BranchDaIdeal.τ).loc Cert.BranchDaIdeal.main_v0) = v0 c
          ∧ r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
          ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1))
      ∧ θ_run (Cert.BranchDaRefIdeal.defs (F := Ideal)) (onTc (τ := Cert.BranchDaRefIdeal.τ) (Cert.BranchDaRefIdeal.main (F := Ideal))) ⟨m', fun _ => 0, g'⟩ (fun r => ∀ c : Dev Cert.BranchDaRefIdeal.nD,
          r.2.mem ((c.tc : Thread Cert.BranchDaRefIdeal.nD Cert.BranchDaRefIdeal.τ).loc Cert.BranchDaRefIdeal.main_v1) = v0 c
          ∧ r.2.mem ((c.tc : Thread Cert.BranchDaRefIdeal.nD Cert.BranchDaRefIdeal.τ).loc Cert.BranchDaRefIdeal.main_arg0) = m' ((c.tc : Thread Cert.BranchDaRefIdeal.nD Cert.BranchDaRefIdeal.τ).loc Cert.BranchDaRefIdeal.main_arg0)
          ∧ r.2.mem ((c.tc : Thread Cert.BranchDaRefIdeal.nD Cert.BranchDaRefIdeal.τ).loc Cert.BranchDaRefIdeal.main_arg1) = m' ((c.tc : Thread Cert.BranchDaRefIdeal.nD Cert.BranchDaRefIdeal.τ).loc Cert.BranchDaRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v1) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDa_OutDaIdeal : Prop :=
  True

def algebraic_OutDaIdeal_OutDaRefIdeal [hOutDaIdeal : Cert.OutDaIdeal.Facts] [hOutDaRefIdeal : Cert.OutDaRefIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaRefIdeal.nD Cert.OutDaRefIdeal.τ Cert.OutDaRefIdeal.sig) → Buf (Elt Ideal) ℓ) (g' : Dev Cert.OutDaRefIdeal.nD → PrngReg), Pre_OutDaIdeal m →
    (∀ c : Dev Cert.OutDaIdeal.nD,
      m' ((c.tc : Thread Cert.OutDaRefIdeal.nD Cert.OutDaRefIdeal.τ).loc Cert.OutDaRefIdeal.main_arg0) = m ((c.tc : Thread Cert.OutDaIdeal.nD Cert.OutDaIdeal.τ).loc Cert.OutDaIdeal.main_arg0)
      ∧ m' ((c.tc : Thread Cert.OutDaRefIdeal.nD Cert.OutDaRefIdeal.τ).loc Cert.OutDaRefIdeal.main_arg1) = m ((c.tc : Thread Cert.OutDaIdeal.nD Cert.OutDaIdeal.τ).loc Cert.OutDaIdeal.main_arg1)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ θ_run (Cert.OutDaRefIdeal.defs (F := Ideal)) (onTc (τ := Cert.OutDaRefIdeal.τ) (Cert.OutDaRefIdeal.main (F := Ideal))) ⟨m', fun _ => 0, g'⟩ (fun r => ∀ c : Dev Cert.OutDaRefIdeal.nD,
          r.2.mem ((c.tc : Thread Cert.OutDaRefIdeal.nD Cert.OutDaRefIdeal.τ).loc Cert.OutDaRefIdeal.main_v1) = v0 c
          ∧ r.2.mem ((c.tc : Thread Cert.OutDaRefIdeal.nD Cert.OutDaRefIdeal.τ).loc Cert.OutDaRefIdeal.main_arg0) = m' ((c.tc : Thread Cert.OutDaRefIdeal.nD Cert.OutDaRefIdeal.τ).loc Cert.OutDaRefIdeal.main_arg0)
          ∧ r.2.mem ((c.tc : Thread Cert.OutDaRefIdeal.nD Cert.OutDaRefIdeal.τ).loc Cert.OutDaRefIdeal.main_arg1) = m' ((c.tc : Thread Cert.OutDaRefIdeal.nD Cert.OutDaRefIdeal.τ).loc Cert.OutDaRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v1) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v0) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_QueryDa_QueryDaIdeal : Prop :=
  True

def algebraic_QueryDaIdeal_QueryDaRefIdeal [hQueryDaIdeal : Cert.QueryDaIdeal.Facts] [hQueryDaRefIdeal : Cert.QueryDaRefIdeal.Facts] : Prop :=
  ∀ (m : (ℓ : Loc Cert.QueryDaIdeal.nD Cert.QueryDaIdeal.τ Cert.QueryDaIdeal.sig) → Buf (Elt Ideal) ℓ) (g : Dev Cert.QueryDaIdeal.nD → PrngReg)
    (m' : (ℓ : Loc Cert.QueryDaRefIdeal.nD Cert.QueryDaRefIdeal.τ Cert.QueryDaRefIdeal.sig) → Buf (Elt Ideal) ℓ) (g' : Dev Cert.QueryDaRefIdeal.nD → PrngReg), Pre_QueryDaIdeal m →
    (∀ c : Dev Cert.QueryDaIdeal.nD,
      m' ((c.tc : Thread Cert.QueryDaRefIdeal.nD Cert.QueryDaRefIdeal.τ).loc Cert.QueryDaRefIdeal.main_arg0) = m ((c.tc : Thread Cert.QueryDaIdeal.nD Cert.QueryDaIdeal.τ).loc Cert.QueryDaIdeal.main_arg0)
      ∧ m' ((c.tc : Thread Cert.QueryDaRefIdeal.nD Cert.QueryDaRefIdeal.τ).loc Cert.QueryDaRefIdeal.main_arg1) = m ((c.tc : Thread Cert.QueryDaIdeal.nD Cert.QueryDaIdeal.τ).loc Cert.QueryDaIdeal.main_arg1)) →
    ∃ (v0 : (c : Dev Cert.QueryDaIdeal.nD) → Buf (Elt Ideal) ((c.tc : Thread Cert.QueryDaIdeal.nD Cert.QueryDaIdeal.τ).loc Cert.QueryDaIdeal.main_v0)),
      θ_run (Cert.QueryDaIdeal.defs (F := Ideal)) (onTc (τ := Cert.QueryDaIdeal.τ) (Cert.QueryDaIdeal.main (F := Ideal))) ⟨m, fun _ => 0, g⟩ (fun r => ∀ c : Dev Cert.QueryDaIdeal.nD,
          r.2.mem ((c.tc : Thread Cert.QueryDaIdeal.nD Cert.QueryDaIdeal.τ).loc Cert.QueryDaIdeal.main_v0) = v0 c
          ∧ r.2.mem ((c.tc : Thread Cert.QueryDaIdeal.nD Cert.QueryDaIdeal.τ).loc Cert.QueryDaIdeal.main_arg0) = m ((c.tc : Thread Cert.QueryDaIdeal.nD Cert.QueryDaIdeal.τ).loc Cert.QueryDaIdeal.main_arg0)
          ∧ r.2.mem ((c.tc : Thread Cert.QueryDaIdeal.nD Cert.QueryDaIdeal.τ).loc Cert.QueryDaIdeal.main_arg1) = m ((c.tc : Thread Cert.QueryDaIdeal.nD Cert.QueryDaIdeal.τ).loc Cert.QueryDaIdeal.main_arg1))
      ∧ θ_run (Cert.QueryDaRefIdeal.defs (F := Ideal)) (onTc (τ := Cert.QueryDaRefIdeal.τ) (Cert.QueryDaRefIdeal.main (F := Ideal))) ⟨m', fun _ => 0, g'⟩ (fun r => ∀ c : Dev Cert.QueryDaRefIdeal.nD,
          r.2.mem ((c.tc : Thread Cert.QueryDaRefIdeal.nD Cert.QueryDaRefIdeal.τ).loc Cert.QueryDaRefIdeal.main_v1) = v0 c
          ∧ r.2.mem ((c.tc : Thread Cert.QueryDaRefIdeal.nD Cert.QueryDaRefIdeal.τ).loc Cert.QueryDaRefIdeal.main_arg0) = m' ((c.tc : Thread Cert.QueryDaRefIdeal.nD Cert.QueryDaRefIdeal.τ).loc Cert.QueryDaRefIdeal.main_arg0)
          ∧ r.2.mem ((c.tc : Thread Cert.QueryDaRefIdeal.nD Cert.QueryDaRefIdeal.τ).loc Cert.QueryDaRefIdeal.main_arg1) = m' ((c.tc : Thread Cert.QueryDaRefIdeal.nD Cert.QueryDaRefIdeal.τ).loc Cert.QueryDaRefIdeal.main_arg1))

def preserves_QueryDw_QueryDwIdeal : Prop :=
  True

def algebraic_QueryDwIdeal_QueryDwRefIdeal [hQueryDwIdeal : Cert.QueryDwIdeal.Facts] [hQueryDwRefIdeal : Cert.QueryDwRefIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwRefIdeal.nD Cert.QueryDwRefIdeal.τ Cert.QueryDwRefIdeal.sig) → Buf (Elt Ideal) ℓ) (g' : Dev Cert.QueryDwRefIdeal.nD → PrngReg), Pre_QueryDwIdeal m →
    (∀ c : Dev Cert.QueryDwIdeal.nD,
      m' ((c.tc : Thread Cert.QueryDwRefIdeal.nD Cert.QueryDwRefIdeal.τ).loc Cert.QueryDwRefIdeal.main_arg0) = m ((c.tc : Thread Cert.QueryDwIdeal.nD Cert.QueryDwIdeal.τ).loc Cert.QueryDwIdeal.main_arg0)
      ∧ m' ((c.tc : Thread Cert.QueryDwRefIdeal.nD Cert.QueryDwRefIdeal.τ).loc Cert.QueryDwRefIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwRefIdeal.defs (F := Ideal)) (onTc (τ := Cert.QueryDwRefIdeal.τ) (Cert.QueryDwRefIdeal.main (F := Ideal))) ⟨m', fun _ => 0, g'⟩ (fun r => ∀ c : Dev Cert.QueryDwRefIdeal.nD,
          r.2.mem ((c.tc : Thread Cert.QueryDwRefIdeal.nD Cert.QueryDwRefIdeal.τ).loc Cert.QueryDwRefIdeal.main_v1) = v0 c
          ∧ r.2.mem ((c.tc : Thread Cert.QueryDwRefIdeal.nD Cert.QueryDwRefIdeal.τ).loc Cert.QueryDwRefIdeal.main_arg0) = m' ((c.tc : Thread Cert.QueryDwRefIdeal.nD Cert.QueryDwRefIdeal.τ).loc Cert.QueryDwRefIdeal.main_arg0)
          ∧ r.2.mem ((c.tc : Thread Cert.QueryDwRefIdeal.nD Cert.QueryDwRefIdeal.τ).loc Cert.QueryDwRefIdeal.main_arg1) = m' ((c.tc : Thread Cert.QueryDwRefIdeal.nD Cert.QueryDwRefIdeal.τ).loc Cert.QueryDwRefIdeal.main_arg1))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v0) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_MemoryDa_MemoryDaIdeal : Prop :=
  True

def algebraic_MemoryDaIdeal_MemoryDaRefIdeal [hMemoryDaIdeal : Cert.MemoryDaIdeal.Facts] [hMemoryDaRefIdeal : Cert.MemoryDaRefIdeal.Facts] : Prop :=
  ∀ (m : (ℓ : Loc Cert.MemoryDaIdeal.nD Cert.MemoryDaIdeal.τ Cert.MemoryDaIdeal.sig) → Buf (Elt Ideal) ℓ) (g : Dev Cert.MemoryDaIdeal.nD → PrngReg)
    (m' : (ℓ : Loc Cert.MemoryDaRefIdeal.nD Cert.MemoryDaRefIdeal.τ Cert.MemoryDaRefIdeal.sig) → Buf (Elt Ideal) ℓ) (g' : Dev Cert.MemoryDaRefIdeal.nD → PrngReg), Pre_MemoryDaIdeal m →
    (∀ c : Dev Cert.MemoryDaIdeal.nD,
      m' ((c.tc : Thread Cert.MemoryDaRefIdeal.nD Cert.MemoryDaRefIdeal.τ).loc Cert.MemoryDaRefIdeal.main_arg0) = m ((c.tc : Thread Cert.MemoryDaIdeal.nD Cert.MemoryDaIdeal.τ).loc Cert.MemoryDaIdeal.main_arg0)
      ∧ m' ((c.tc : Thread Cert.MemoryDaRefIdeal.nD Cert.MemoryDaRefIdeal.τ).loc Cert.MemoryDaRefIdeal.main_arg1) = m ((c.tc : Thread Cert.MemoryDaIdeal.nD Cert.MemoryDaIdeal.τ).loc Cert.MemoryDaIdeal.main_arg1)) →
    ∃ (v0 : (c : Dev Cert.MemoryDaIdeal.nD) → Buf (Elt Ideal) ((c.tc : Thread Cert.MemoryDaIdeal.nD Cert.MemoryDaIdeal.τ).loc Cert.MemoryDaIdeal.main_v0)),
      θ_run (Cert.MemoryDaIdeal.defs (F := Ideal)) (onTc (τ := Cert.MemoryDaIdeal.τ) (Cert.MemoryDaIdeal.main (F := Ideal))) ⟨m, fun _ => 0, g⟩ (fun r => ∀ c : Dev Cert.MemoryDaIdeal.nD,
          r.2.mem ((c.tc : Thread Cert.MemoryDaIdeal.nD Cert.MemoryDaIdeal.τ).loc Cert.MemoryDaIdeal.main_v0) = v0 c
          ∧ r.2.mem ((c.tc : Thread Cert.MemoryDaIdeal.nD Cert.MemoryDaIdeal.τ).loc Cert.MemoryDaIdeal.main_arg0) = m ((c.tc : Thread Cert.MemoryDaIdeal.nD Cert.MemoryDaIdeal.τ).loc Cert.MemoryDaIdeal.main_arg0)
          ∧ r.2.mem ((c.tc : Thread Cert.MemoryDaIdeal.nD Cert.MemoryDaIdeal.τ).loc Cert.MemoryDaIdeal.main_arg1) = m ((c.tc : Thread Cert.MemoryDaIdeal.nD Cert.MemoryDaIdeal.τ).loc Cert.MemoryDaIdeal.main_arg1))
      ∧ θ_run (Cert.MemoryDaRefIdeal.defs (F := Ideal)) (onTc (τ := Cert.MemoryDaRefIdeal.τ) (Cert.MemoryDaRefIdeal.main (F := Ideal))) ⟨m', fun _ => 0, g'⟩ (fun r => ∀ c : Dev Cert.MemoryDaRefIdeal.nD,
          r.2.mem ((c.tc : Thread Cert.MemoryDaRefIdeal.nD Cert.MemoryDaRefIdeal.τ).loc Cert.MemoryDaRefIdeal.main_v1) = v0 c
          ∧ r.2.mem ((c.tc : Thread Cert.MemoryDaRefIdeal.nD Cert.MemoryDaRefIdeal.τ).loc Cert.MemoryDaRefIdeal.main_arg0) = m' ((c.tc : Thread Cert.MemoryDaRefIdeal.nD Cert.MemoryDaRefIdeal.τ).loc Cert.MemoryDaRefIdeal.main_arg0)
          ∧ r.2.mem ((c.tc : Thread Cert.MemoryDaRefIdeal.nD Cert.MemoryDaRefIdeal.τ).loc Cert.MemoryDaRefIdeal.main_arg1) = m' ((c.tc : Thread Cert.MemoryDaRefIdeal.nD Cert.MemoryDaRefIdeal.τ).loc Cert.MemoryDaRefIdeal.main_arg1))

def preserves_MemoryDw_MemoryDwIdeal : Prop :=
  True

def algebraic_MemoryDwIdeal_MemoryDwRefIdeal [hMemoryDwIdeal : Cert.MemoryDwIdeal.Facts] [hMemoryDwRefIdeal : Cert.MemoryDwRefIdeal.Facts] : Prop :=
  ∀ (m : (ℓ : Loc Cert.MemoryDwIdeal.nD Cert.MemoryDwIdeal.τ Cert.MemoryDwIdeal.sig) → Buf (Elt Ideal) ℓ) (g : Dev Cert.MemoryDwIdeal.nD → PrngReg)
    (m' : (ℓ : Loc Cert.MemoryDwRefIdeal.nD Cert.MemoryDwRefIdeal.τ Cert.MemoryDwRefIdeal.sig) → Buf (Elt Ideal) ℓ) (g' : Dev Cert.MemoryDwRefIdeal.nD → PrngReg), Pre_MemoryDwIdeal m →
    (∀ c : Dev Cert.MemoryDwIdeal.nD,
      m' ((c.tc : Thread Cert.MemoryDwRefIdeal.nD Cert.MemoryDwRefIdeal.τ).loc Cert.MemoryDwRefIdeal.main_arg0) = m ((c.tc : Thread Cert.MemoryDwIdeal.nD Cert.MemoryDwIdeal.τ).loc Cert.MemoryDwIdeal.main_arg0)
      ∧ m' ((c.tc : Thread Cert.MemoryDwRefIdeal.nD Cert.MemoryDwRefIdeal.τ).loc Cert.MemoryDwRefIdeal.main_arg1) = m ((c.tc : Thread Cert.MemoryDwIdeal.nD Cert.MemoryDwIdeal.τ).loc Cert.MemoryDwIdeal.main_arg1)) →
    ∃ (v0 : (c : Dev Cert.MemoryDwIdeal.nD) → Buf (Elt Ideal) ((c.tc : Thread Cert.MemoryDwIdeal.nD Cert.MemoryDwIdeal.τ).loc Cert.MemoryDwIdeal.main_v0)),
      θ_run (Cert.MemoryDwIdeal.defs (F := Ideal)) (onTc (τ := Cert.MemoryDwIdeal.τ) (Cert.MemoryDwIdeal.main (F := Ideal))) ⟨m, fun _ => 0, g⟩ (fun r => ∀ c : Dev Cert.MemoryDwIdeal.nD,
          r.2.mem ((c.tc : Thread Cert.MemoryDwIdeal.nD Cert.MemoryDwIdeal.τ).loc Cert.MemoryDwIdeal.main_v0) = v0 c
          ∧ r.2.mem ((c.tc : Thread Cert.MemoryDwIdeal.nD Cert.MemoryDwIdeal.τ).loc Cert.MemoryDwIdeal.main_arg0) = m ((c.tc : Thread Cert.MemoryDwIdeal.nD Cert.MemoryDwIdeal.τ).loc Cert.MemoryDwIdeal.main_arg0)
          ∧ r.2.mem ((c.tc : Thread Cert.MemoryDwIdeal.nD Cert.MemoryDwIdeal.τ).loc Cert.MemoryDwIdeal.main_arg1) = m ((c.tc : Thread Cert.MemoryDwIdeal.nD Cert.MemoryDwIdeal.τ).loc Cert.MemoryDwIdeal.main_arg1))
      ∧ θ_run (Cert.MemoryDwRefIdeal.defs (F := Ideal)) (onTc (τ := Cert.MemoryDwRefIdeal.τ) (Cert.MemoryDwRefIdeal.main (F := Ideal))) ⟨m', fun _ => 0, g'⟩ (fun r => ∀ c : Dev Cert.MemoryDwRefIdeal.nD,
          r.2.mem ((c.tc : Thread Cert.MemoryDwRefIdeal.nD Cert.MemoryDwRefIdeal.τ).loc Cert.MemoryDwRefIdeal.main_v1) = v0 c
          ∧ r.2.mem ((c.tc : Thread Cert.MemoryDwRefIdeal.nD Cert.MemoryDwRefIdeal.τ).loc Cert.MemoryDwRefIdeal.main_arg0) = m' ((c.tc : Thread Cert.MemoryDwRefIdeal.nD Cert.MemoryDwRefIdeal.τ).loc Cert.MemoryDwRefIdeal.main_arg0)
          ∧ r.2.mem ((c.tc : Thread Cert.MemoryDwRefIdeal.nD Cert.MemoryDwRefIdeal.τ).loc Cert.MemoryDwRefIdeal.main_arg1) = m' ((c.tc : Thread Cert.MemoryDwRefIdeal.nD Cert.MemoryDwRefIdeal.τ).loc Cert.MemoryDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDa_UpDaIdeal : Prop :=
  True

def algebraic_UpDaIdeal_UpDaRefIdeal [hUpDaIdeal : Cert.UpDaIdeal.Facts] [hUpDaRefIdeal : Cert.UpDaRefIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaRefIdeal.nD Cert.UpDaRefIdeal.τ Cert.UpDaRefIdeal.sig) → Buf (Elt Ideal) ℓ) (g' : Dev Cert.UpDaRefIdeal.nD → PrngReg), Pre_UpDaIdeal m →
    (∀ c : Dev Cert.UpDaIdeal.nD,
      m' ((c.tc : Thread Cert.UpDaRefIdeal.nD Cert.UpDaRefIdeal.τ).loc Cert.UpDaRefIdeal.main_arg0) = m ((c.tc : Thread Cert.UpDaIdeal.nD Cert.UpDaIdeal.τ).loc Cert.UpDaIdeal.main_arg0)
      ∧ m' ((c.tc : Thread Cert.UpDaRefIdeal.nD Cert.UpDaRefIdeal.τ).loc Cert.UpDaRefIdeal.main_arg1) = m ((c.tc : Thread Cert.UpDaIdeal.nD Cert.UpDaIdeal.τ).loc Cert.UpDaIdeal.main_arg1)) →
    ∃ (v0 : (c : Dev Cert.UpDaIdeal.nD) → Buf (Elt Ideal) ((c.tc : Thread Cert.UpDaIdeal.nD Cert.UpDaIdeal.τ).loc Cert.UpDaIdeal.main_v0)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v0) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ θ_run (Cert.UpDaRefIdeal.defs (F := Ideal)) (onTc (τ := Cert.UpDaRefIdeal.τ) (Cert.UpDaRefIdeal.main (F := Ideal))) ⟨m', fun _ => 0, g'⟩ (fun r => ∀ c : Dev Cert.UpDaRefIdeal.nD,
          r.2.mem ((c.tc : Thread Cert.UpDaRefIdeal.nD Cert.UpDaRefIdeal.τ).loc Cert.UpDaRefIdeal.main_v1) = v0 c
          ∧ r.2.mem ((c.tc : Thread Cert.UpDaRefIdeal.nD Cert.UpDaRefIdeal.τ).loc Cert.UpDaRefIdeal.main_arg0) = m' ((c.tc : Thread Cert.UpDaRefIdeal.nD Cert.UpDaRefIdeal.τ).loc Cert.UpDaRefIdeal.main_arg0)
          ∧ r.2.mem ((c.tc : Thread Cert.UpDaRefIdeal.nD Cert.UpDaRefIdeal.τ).loc Cert.UpDaRefIdeal.main_arg1) = m' ((c.tc : Thread Cert.UpDaRefIdeal.nD Cert.UpDaRefIdeal.τ).loc Cert.UpDaRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v1) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v1) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v1) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GdnScan_GdnScanIdeal : Prop :=
  True

def algebraic_GdnScanIdeal_GdnScanRefIdeal [hGdnScanIdeal : Cert.GdnScanIdeal.Facts] [hGdnScanRefIdeal : Cert.GdnScanRefIdeal.Facts] : Prop :=
  ∀ (m : (ℓ : Loc Cert.GdnScanIdeal.nD Cert.GdnScanIdeal.τ Cert.GdnScanIdeal.sig) → Buf (Elt Ideal) ℓ) (g : Dev Cert.GdnScanIdeal.nD → PrngReg)
    (m' : (ℓ : Loc Cert.GdnScanRefIdeal.nD Cert.GdnScanRefIdeal.τ Cert.GdnScanRefIdeal.sig) → Buf (Elt Ideal) ℓ) (g' : Dev Cert.GdnScanRefIdeal.nD → PrngReg), Pre_GdnScanIdeal m →
    (∀ c : Dev Cert.GdnScanIdeal.nD,
      m' ((c.tc : Thread Cert.GdnScanRefIdeal.nD Cert.GdnScanRefIdeal.τ).loc Cert.GdnScanRefIdeal.main_arg0) = m ((c.tc : Thread Cert.GdnScanIdeal.nD Cert.GdnScanIdeal.τ).loc Cert.GdnScanIdeal.main_arg0)
      ∧ m' ((c.tc : Thread Cert.GdnScanRefIdeal.nD Cert.GdnScanRefIdeal.τ).loc Cert.GdnScanRefIdeal.main_arg1) = m ((c.tc : Thread Cert.GdnScanIdeal.nD Cert.GdnScanIdeal.τ).loc Cert.GdnScanIdeal.main_arg1)
      ∧ m' ((c.tc : Thread Cert.GdnScanRefIdeal.nD Cert.GdnScanRefIdeal.τ).loc Cert.GdnScanRefIdeal.main_arg2) = m ((c.tc : Thread Cert.GdnScanIdeal.nD Cert.GdnScanIdeal.τ).loc Cert.GdnScanIdeal.main_arg2)
      ∧ m' ((c.tc : Thread Cert.GdnScanRefIdeal.nD Cert.GdnScanRefIdeal.τ).loc Cert.GdnScanRefIdeal.main_arg3) = m ((c.tc : Thread Cert.GdnScanIdeal.nD Cert.GdnScanIdeal.τ).loc Cert.GdnScanIdeal.main_arg3)
      ∧ m' ((c.tc : Thread Cert.GdnScanRefIdeal.nD Cert.GdnScanRefIdeal.τ).loc Cert.GdnScanRefIdeal.main_arg4) = m ((c.tc : Thread Cert.GdnScanIdeal.nD Cert.GdnScanIdeal.τ).loc Cert.GdnScanIdeal.main_arg4)
      ∧ m' ((c.tc : Thread Cert.GdnScanRefIdeal.nD Cert.GdnScanRefIdeal.τ).loc Cert.GdnScanRefIdeal.main_arg5) = m ((c.tc : Thread Cert.GdnScanIdeal.nD Cert.GdnScanIdeal.τ).loc Cert.GdnScanIdeal.main_arg5)) →
    ∃ (v0 : (c : Dev Cert.GdnScanIdeal.nD) → Buf (Elt Ideal) ((c.tc : Thread Cert.GdnScanIdeal.nD Cert.GdnScanIdeal.τ).loc Cert.GdnScanIdeal.main_v0_0)) (v1 : (c : Dev Cert.GdnScanIdeal.nD) → Buf (Elt Ideal) ((c.tc : Thread Cert.GdnScanIdeal.nD Cert.GdnScanIdeal.τ).loc Cert.GdnScanIdeal.main_v0_1)),
      θ_run (Cert.GdnScanIdeal.defs (F := Ideal)) (onTc (τ := Cert.GdnScanIdeal.τ) (Cert.GdnScanIdeal.main (F := Ideal))) ⟨m, fun _ => 0, g⟩ (fun r => ∀ c : Dev Cert.GdnScanIdeal.nD,
          r.2.mem ((c.tc : Thread Cert.GdnScanIdeal.nD Cert.GdnScanIdeal.τ).loc Cert.GdnScanIdeal.main_v0_0) = v0 c
          ∧ r.2.mem ((c.tc : Thread Cert.GdnScanIdeal.nD Cert.GdnScanIdeal.τ).loc Cert.GdnScanIdeal.main_v0_1) = v1 c
          ∧ r.2.mem ((c.tc : Thread Cert.GdnScanIdeal.nD Cert.GdnScanIdeal.τ).loc Cert.GdnScanIdeal.main_arg0) = m ((c.tc : Thread Cert.GdnScanIdeal.nD Cert.GdnScanIdeal.τ).loc Cert.GdnScanIdeal.main_arg0)
          ∧ r.2.mem ((c.tc : Thread Cert.GdnScanIdeal.nD Cert.GdnScanIdeal.τ).loc Cert.GdnScanIdeal.main_arg1) = m ((c.tc : Thread Cert.GdnScanIdeal.nD Cert.GdnScanIdeal.τ).loc Cert.GdnScanIdeal.main_arg1)
          ∧ r.2.mem ((c.tc : Thread Cert.GdnScanIdeal.nD Cert.GdnScanIdeal.τ).loc Cert.GdnScanIdeal.main_arg2) = m ((c.tc : Thread Cert.GdnScanIdeal.nD Cert.GdnScanIdeal.τ).loc Cert.GdnScanIdeal.main_arg2)
          ∧ r.2.mem ((c.tc : Thread Cert.GdnScanIdeal.nD Cert.GdnScanIdeal.τ).loc Cert.GdnScanIdeal.main_arg3) = m ((c.tc : Thread Cert.GdnScanIdeal.nD Cert.GdnScanIdeal.τ).loc Cert.GdnScanIdeal.main_arg3)
          ∧ r.2.mem ((c.tc : Thread Cert.GdnScanIdeal.nD Cert.GdnScanIdeal.τ).loc Cert.GdnScanIdeal.main_arg4) = m ((c.tc : Thread Cert.GdnScanIdeal.nD Cert.GdnScanIdeal.τ).loc Cert.GdnScanIdeal.main_arg4)
          ∧ r.2.mem ((c.tc : Thread Cert.GdnScanIdeal.nD Cert.GdnScanIdeal.τ).loc Cert.GdnScanIdeal.main_arg5) = m ((c.tc : Thread Cert.GdnScanIdeal.nD Cert.GdnScanIdeal.τ).loc Cert.GdnScanIdeal.main_arg5))
      ∧ θ_run (Cert.GdnScanRefIdeal.defs (F := Ideal)) (onTc (τ := Cert.GdnScanRefIdeal.τ) (Cert.GdnScanRefIdeal.main (F := Ideal))) ⟨m', fun _ => 0, g'⟩ (fun r => ∀ c : Dev Cert.GdnScanRefIdeal.nD,
          r.2.mem ((c.tc : Thread Cert.GdnScanRefIdeal.nD Cert.GdnScanRefIdeal.τ).loc Cert.GdnScanRefIdeal.main_v3_8) = v0 c
          ∧ r.2.mem ((c.tc : Thread Cert.GdnScanRefIdeal.nD Cert.GdnScanRefIdeal.τ).loc Cert.GdnScanRefIdeal.main_v3_9) = v1 c
          ∧ r.2.mem ((c.tc : Thread Cert.GdnScanRefIdeal.nD Cert.GdnScanRefIdeal.τ).loc Cert.GdnScanRefIdeal.main_arg0) = m' ((c.tc : Thread Cert.GdnScanRefIdeal.nD Cert.GdnScanRefIdeal.τ).loc Cert.GdnScanRefIdeal.main_arg0)
          ∧ r.2.mem ((c.tc : Thread Cert.GdnScanRefIdeal.nD Cert.GdnScanRefIdeal.τ).loc Cert.GdnScanRefIdeal.main_arg1) = m' ((c.tc : Thread Cert.GdnScanRefIdeal.nD Cert.GdnScanRefIdeal.τ).loc Cert.GdnScanRefIdeal.main_arg1)
          ∧ r.2.mem ((c.tc : Thread Cert.GdnScanRefIdeal.nD Cert.GdnScanRefIdeal.τ).loc Cert.GdnScanRefIdeal.main_arg2) = m' ((c.tc : Thread Cert.GdnScanRefIdeal.nD Cert.GdnScanRefIdeal.τ).loc Cert.GdnScanRefIdeal.main_arg2)
          ∧ r.2.mem ((c.tc : Thread Cert.GdnScanRefIdeal.nD Cert.GdnScanRefIdeal.τ).loc Cert.GdnScanRefIdeal.main_arg3) = m' ((c.tc : Thread Cert.GdnScanRefIdeal.nD Cert.GdnScanRefIdeal.τ).loc Cert.GdnScanRefIdeal.main_arg3)
          ∧ r.2.mem ((c.tc : Thread Cert.GdnScanRefIdeal.nD Cert.GdnScanRefIdeal.τ).loc Cert.GdnScanRefIdeal.main_arg4) = m' ((c.tc : Thread Cert.GdnScanRefIdeal.nD Cert.GdnScanRefIdeal.τ).loc Cert.GdnScanRefIdeal.main_arg4)
          ∧ r.2.mem ((c.tc : Thread Cert.GdnScanRefIdeal.nD Cert.GdnScanRefIdeal.τ).loc Cert.GdnScanRefIdeal.main_arg5) = m' ((c.tc : Thread Cert.GdnScanRefIdeal.nD Cert.GdnScanRefIdeal.τ).loc Cert.GdnScanRefIdeal.main_arg5))

def preserves_GdnGrad_GdnGradIdeal : Prop :=
  True

def algebraic_GdnGradIdeal_GdnGradRefIdeal [hGdnGradIdeal : Cert.GdnGradIdeal.Facts] [hGdnGradRefIdeal : Cert.GdnGradRefIdeal.Facts] : Prop :=
  ∀ (m : (ℓ : Loc Cert.GdnGradIdeal.nD Cert.GdnGradIdeal.τ Cert.GdnGradIdeal.sig) → Buf (Elt Ideal) ℓ) (g : Dev Cert.GdnGradIdeal.nD → PrngReg)
    (m' : (ℓ : Loc Cert.GdnGradRefIdeal.nD Cert.GdnGradRefIdeal.τ Cert.GdnGradRefIdeal.sig) → Buf (Elt Ideal) ℓ) (g' : Dev Cert.GdnGradRefIdeal.nD → PrngReg), Pre_GdnGradIdeal m →
    (∀ c : Dev Cert.GdnGradIdeal.nD,
      m' ((c.tc : Thread Cert.GdnGradRefIdeal.nD Cert.GdnGradRefIdeal.τ).loc Cert.GdnGradRefIdeal.main_arg0) = m ((c.tc : Thread Cert.GdnGradIdeal.nD Cert.GdnGradIdeal.τ).loc Cert.GdnGradIdeal.main_arg0)
      ∧ m' ((c.tc : Thread Cert.GdnGradRefIdeal.nD Cert.GdnGradRefIdeal.τ).loc Cert.GdnGradRefIdeal.main_arg1) = m ((c.tc : Thread Cert.GdnGradIdeal.nD Cert.GdnGradIdeal.τ).loc Cert.GdnGradIdeal.main_arg1)
      ∧ m' ((c.tc : Thread Cert.GdnGradRefIdeal.nD Cert.GdnGradRefIdeal.τ).loc Cert.GdnGradRefIdeal.main_arg2) = m ((c.tc : Thread Cert.GdnGradIdeal.nD Cert.GdnGradIdeal.τ).loc Cert.GdnGradIdeal.main_arg2)
      ∧ m' ((c.tc : Thread Cert.GdnGradRefIdeal.nD Cert.GdnGradRefIdeal.τ).loc Cert.GdnGradRefIdeal.main_arg3) = m ((c.tc : Thread Cert.GdnGradIdeal.nD Cert.GdnGradIdeal.τ).loc Cert.GdnGradIdeal.main_arg3)
      ∧ m' ((c.tc : Thread Cert.GdnGradRefIdeal.nD Cert.GdnGradRefIdeal.τ).loc Cert.GdnGradRefIdeal.main_arg4) = m ((c.tc : Thread Cert.GdnGradIdeal.nD Cert.GdnGradIdeal.τ).loc Cert.GdnGradIdeal.main_arg4)
      ∧ m' ((c.tc : Thread Cert.GdnGradRefIdeal.nD Cert.GdnGradRefIdeal.τ).loc Cert.GdnGradRefIdeal.main_arg5) = m ((c.tc : Thread Cert.GdnGradIdeal.nD Cert.GdnGradIdeal.τ).loc Cert.GdnGradIdeal.main_arg5)
      ∧ m' ((c.tc : Thread Cert.GdnGradRefIdeal.nD Cert.GdnGradRefIdeal.τ).loc Cert.GdnGradRefIdeal.main_arg6) = m ((c.tc : Thread Cert.GdnGradIdeal.nD Cert.GdnGradIdeal.τ).loc Cert.GdnGradIdeal.main_arg6)
      ∧ m' ((c.tc : Thread Cert.GdnGradRefIdeal.nD Cert.GdnGradRefIdeal.τ).loc Cert.GdnGradRefIdeal.main_arg7) = m ((c.tc : Thread Cert.GdnGradIdeal.nD Cert.GdnGradIdeal.τ).loc Cert.GdnGradIdeal.main_arg7)) →
    ∃ (v0 : (c : Dev Cert.GdnGradIdeal.nD) → Buf (Elt Ideal) ((c.tc : Thread Cert.GdnGradIdeal.nD Cert.GdnGradIdeal.τ).loc Cert.GdnGradIdeal.main_v0_0)) (v1 : (c : Dev Cert.GdnGradIdeal.nD) → Buf (Elt Ideal) ((c.tc : Thread Cert.GdnGradIdeal.nD Cert.GdnGradIdeal.τ).loc Cert.GdnGradIdeal.main_v0_1)) (v2 : (c : Dev Cert.GdnGradIdeal.nD) → Buf (Elt Ideal) ((c.tc : Thread Cert.GdnGradIdeal.nD Cert.GdnGradIdeal.τ).loc Cert.GdnGradIdeal.main_v0_2)) (v3 : (c : Dev Cert.GdnGradIdeal.nD) → Buf (Elt Ideal) ((c.tc : Thread Cert.GdnGradIdeal.nD Cert.GdnGradIdeal.τ).loc Cert.GdnGradIdeal.main_v0_3)) (v4 : (c : Dev Cert.GdnGradIdeal.nD) → Buf (Elt Ideal) ((c.tc : Thread Cert.GdnGradIdeal.nD Cert.GdnGradIdeal.τ).loc Cert.GdnGradIdeal.main_v0_4)) (v5 : (c : Dev Cert.GdnGradIdeal.nD) → Buf (Elt Ideal) ((c.tc : Thread Cert.GdnGradIdeal.nD Cert.GdnGradIdeal.τ).loc Cert.GdnGradIdeal.main_v0_5)),
      θ_run (Cert.GdnGradIdeal.defs (F := Ideal)) (onTc (τ := Cert.GdnGradIdeal.τ) (Cert.GdnGradIdeal.main (F := Ideal))) ⟨m, fun _ => 0, g⟩ (fun r => ∀ c : Dev Cert.GdnGradIdeal.nD,
          r.2.mem ((c.tc : Thread Cert.GdnGradIdeal.nD Cert.GdnGradIdeal.τ).loc Cert.GdnGradIdeal.main_v0_0) = v0 c
          ∧ r.2.mem ((c.tc : Thread Cert.GdnGradIdeal.nD Cert.GdnGradIdeal.τ).loc Cert.GdnGradIdeal.main_v0_1) = v1 c
          ∧ r.2.mem ((c.tc : Thread Cert.GdnGradIdeal.nD Cert.GdnGradIdeal.τ).loc Cert.GdnGradIdeal.main_v0_2) = v2 c
          ∧ r.2.mem ((c.tc : Thread Cert.GdnGradIdeal.nD Cert.GdnGradIdeal.τ).loc Cert.GdnGradIdeal.main_v0_3) = v3 c
          ∧ r.2.mem ((c.tc : Thread Cert.GdnGradIdeal.nD Cert.GdnGradIdeal.τ).loc Cert.GdnGradIdeal.main_v0_4) = v4 c
          ∧ r.2.mem ((c.tc : Thread Cert.GdnGradIdeal.nD Cert.GdnGradIdeal.τ).loc Cert.GdnGradIdeal.main_v0_5) = v5 c
          ∧ r.2.mem ((c.tc : Thread Cert.GdnGradIdeal.nD Cert.GdnGradIdeal.τ).loc Cert.GdnGradIdeal.main_arg0) = m ((c.tc : Thread Cert.GdnGradIdeal.nD Cert.GdnGradIdeal.τ).loc Cert.GdnGradIdeal.main_arg0)
          ∧ r.2.mem ((c.tc : Thread Cert.GdnGradIdeal.nD Cert.GdnGradIdeal.τ).loc Cert.GdnGradIdeal.main_arg1) = m ((c.tc : Thread Cert.GdnGradIdeal.nD Cert.GdnGradIdeal.τ).loc Cert.GdnGradIdeal.main_arg1)
          ∧ r.2.mem ((c.tc : Thread Cert.GdnGradIdeal.nD Cert.GdnGradIdeal.τ).loc Cert.GdnGradIdeal.main_arg2) = m ((c.tc : Thread Cert.GdnGradIdeal.nD Cert.GdnGradIdeal.τ).loc Cert.GdnGradIdeal.main_arg2)
          ∧ r.2.mem ((c.tc : Thread Cert.GdnGradIdeal.nD Cert.GdnGradIdeal.τ).loc Cert.GdnGradIdeal.main_arg3) = m ((c.tc : Thread Cert.GdnGradIdeal.nD Cert.GdnGradIdeal.τ).loc Cert.GdnGradIdeal.main_arg3)
          ∧ r.2.mem ((c.tc : Thread Cert.GdnGradIdeal.nD Cert.GdnGradIdeal.τ).loc Cert.GdnGradIdeal.main_arg4) = m ((c.tc : Thread Cert.GdnGradIdeal.nD Cert.GdnGradIdeal.τ).loc Cert.GdnGradIdeal.main_arg4)
          ∧ r.2.mem ((c.tc : Thread Cert.GdnGradIdeal.nD Cert.GdnGradIdeal.τ).loc Cert.GdnGradIdeal.main_arg5) = m ((c.tc : Thread Cert.GdnGradIdeal.nD Cert.GdnGradIdeal.τ).loc Cert.GdnGradIdeal.main_arg5)
          ∧ r.2.mem ((c.tc : Thread Cert.GdnGradIdeal.nD Cert.GdnGradIdeal.τ).loc Cert.GdnGradIdeal.main_arg6) = m ((c.tc : Thread Cert.GdnGradIdeal.nD Cert.GdnGradIdeal.τ).loc Cert.GdnGradIdeal.main_arg6)
          ∧ r.2.mem ((c.tc : Thread Cert.GdnGradIdeal.nD Cert.GdnGradIdeal.τ).loc Cert.GdnGradIdeal.main_arg7) = m ((c.tc : Thread Cert.GdnGradIdeal.nD Cert.GdnGradIdeal.τ).loc Cert.GdnGradIdeal.main_arg7))
      ∧ θ_run (Cert.GdnGradRefIdeal.defs (F := Ideal)) (onTc (τ := Cert.GdnGradRefIdeal.τ) (Cert.GdnGradRefIdeal.main (F := Ideal))) ⟨m', fun _ => 0, g'⟩ (fun r => ∀ c : Dev Cert.GdnGradRefIdeal.nD,
          r.2.mem ((c.tc : Thread Cert.GdnGradRefIdeal.nD Cert.GdnGradRefIdeal.τ).loc Cert.GdnGradRefIdeal.main_v7_10) = v0 c
          ∧ r.2.mem ((c.tc : Thread Cert.GdnGradRefIdeal.nD Cert.GdnGradRefIdeal.τ).loc Cert.GdnGradRefIdeal.main_v7_11) = v1 c
          ∧ r.2.mem ((c.tc : Thread Cert.GdnGradRefIdeal.nD Cert.GdnGradRefIdeal.τ).loc Cert.GdnGradRefIdeal.main_v7_12) = v2 c
          ∧ r.2.mem ((c.tc : Thread Cert.GdnGradRefIdeal.nD Cert.GdnGradRefIdeal.τ).loc Cert.GdnGradRefIdeal.main_v7_13) = v3 c
          ∧ r.2.mem ((c.tc : Thread Cert.GdnGradRefIdeal.nD Cert.GdnGradRefIdeal.τ).loc Cert.GdnGradRefIdeal.main_v7_14) = v4 c
          ∧ r.2.mem ((c.tc : Thread Cert.GdnGradRefIdeal.nD Cert.GdnGradRefIdeal.τ).loc Cert.GdnGradRefIdeal.main_v7_15) = v5 c
          ∧ r.2.mem ((c.tc : Thread Cert.GdnGradRefIdeal.nD Cert.GdnGradRefIdeal.τ).loc Cert.GdnGradRefIdeal.main_arg0) = m' ((c.tc : Thread Cert.GdnGradRefIdeal.nD Cert.GdnGradRefIdeal.τ).loc Cert.GdnGradRefIdeal.main_arg0)
          ∧ r.2.mem ((c.tc : Thread Cert.GdnGradRefIdeal.nD Cert.GdnGradRefIdeal.τ).loc Cert.GdnGradRefIdeal.main_arg1) = m' ((c.tc : Thread Cert.GdnGradRefIdeal.nD Cert.GdnGradRefIdeal.τ).loc Cert.GdnGradRefIdeal.main_arg1)
          ∧ r.2.mem ((c.tc : Thread Cert.GdnGradRefIdeal.nD Cert.GdnGradRefIdeal.τ).loc Cert.GdnGradRefIdeal.main_arg2) = m' ((c.tc : Thread Cert.GdnGradRefIdeal.nD Cert.GdnGradRefIdeal.τ).loc Cert.GdnGradRefIdeal.main_arg2)
          ∧ r.2.mem ((c.tc : Thread Cert.GdnGradRefIdeal.nD Cert.GdnGradRefIdeal.τ).loc Cert.GdnGradRefIdeal.main_arg3) = m' ((c.tc : Thread Cert.GdnGradRefIdeal.nD Cert.GdnGradRefIdeal.τ).loc Cert.GdnGradRefIdeal.main_arg3)
          ∧ r.2.mem ((c.tc : Thread Cert.GdnGradRefIdeal.nD Cert.GdnGradRefIdeal.τ).loc Cert.GdnGradRefIdeal.main_arg4) = m' ((c.tc : Thread Cert.GdnGradRefIdeal.nD Cert.GdnGradRefIdeal.τ).loc Cert.GdnGradRefIdeal.main_arg4)
          ∧ r.2.mem ((c.tc : Thread Cert.GdnGradRefIdeal.nD Cert.GdnGradRefIdeal.τ).loc Cert.GdnGradRefIdeal.main_arg5) = m' ((c.tc : Thread Cert.GdnGradRefIdeal.nD Cert.GdnGradRefIdeal.τ).loc Cert.GdnGradRefIdeal.main_arg5)
          ∧ r.2.mem ((c.tc : Thread Cert.GdnGradRefIdeal.nD Cert.GdnGradRefIdeal.τ).loc Cert.GdnGradRefIdeal.main_arg6) = m' ((c.tc : Thread Cert.GdnGradRefIdeal.nD Cert.GdnGradRefIdeal.τ).loc Cert.GdnGradRefIdeal.main_arg6)
          ∧ r.2.mem ((c.tc : Thread Cert.GdnGradRefIdeal.nD Cert.GdnGradRefIdeal.τ).loc Cert.GdnGradRefIdeal.main_arg7) = m' ((c.tc : Thread Cert.GdnGradRefIdeal.nD Cert.GdnGradRefIdeal.τ).loc Cert.GdnGradRefIdeal.main_arg7))

def preserves_Stick_StickIdeal : Prop :=
  True

def algebraic_StickIdeal_StickRefIdeal [hStickIdeal : Cert.StickIdeal.Facts] [hStickRefIdeal : Cert.StickRefIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v0_0)) (v1 : (c : Dev Cert.StickIdeal.nD) → Buf (Elt Ideal) ((c.tc : Thread Cert.StickIdeal.nD Cert.StickIdeal.τ).loc Cert.StickIdeal.main_v0_1)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0_0) = v0 c
          ∧ r.2.mem ((c.tc : Thread Cert.StickIdeal.nD Cert.StickIdeal.τ).loc Cert.StickIdeal.main_v0_1) = v1 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v24) = v0 c
          ∧ r.2.mem ((c.tc : Thread Cert.StickRefIdeal.nD Cert.StickRefIdeal.τ).loc Cert.StickRefIdeal.main_v26) = v1 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2))

def Claim : Prop :=
  ∃ (hGather : Cert.Gather.Facts) (hGatherIdeal : Cert.GatherIdeal.Facts) (hGatherRef : Cert.GatherRef.Facts) (hGatherRefIdeal : Cert.GatherRefIdeal.Facts) (hSibling : Cert.Sibling.Facts) (hSiblingIdeal : Cert.SiblingIdeal.Facts) (hSiblingRef : Cert.SiblingRef.Facts) (hSiblingRefIdeal : Cert.SiblingRefIdeal.Facts) (hChips : Cert.Chips.Facts) (hChipsIdeal : Cert.ChipsIdeal.Facts) (hChipsRef : Cert.ChipsRef.Facts) (hChipsRefIdeal : Cert.ChipsRefIdeal.Facts) (hShare : Cert.Share.Facts) (hShareIdeal : Cert.ShareIdeal.Facts) (hShareRef : Cert.ShareRef.Facts) (hShareRefIdeal : Cert.ShareRefIdeal.Facts) (hPairSum : Cert.PairSum.Facts) (hPairSumIdeal : Cert.PairSumIdeal.Facts) (hPairSumRef : Cert.PairSumRef.Facts) (hPairSumRefIdeal : Cert.PairSumRefIdeal.Facts) (hChipSum : Cert.ChipSum.Facts) (hChipSumIdeal : Cert.ChipSumIdeal.Facts) (hChipSumRef : Cert.ChipSumRef.Facts) (hChipSumRefIdeal : Cert.ChipSumRefIdeal.Facts) (hAdamw : Cert.Adamw.Facts) (hAdamwIdeal : Cert.AdamwIdeal.Facts) (hAdamwRef : Cert.AdamwRef.Facts) (hAdamwRefIdeal : Cert.AdamwRefIdeal.Facts) (hAdamwSmall : Cert.AdamwSmall.Facts) (hAdamwSmallIdeal : Cert.AdamwSmallIdeal.Facts) (hAdamwSmallRef : Cert.AdamwSmallRef.Facts) (hAdamwSmallRefIdeal : Cert.AdamwSmallRefIdeal.Facts) (hLossHead : Cert.LossHead.Facts) (hLossHeadIdeal : Cert.LossHeadIdeal.Facts) (hLossHeadRef : Cert.LossHeadRef.Facts) (hLossHeadRefIdeal : Cert.LossHeadRefIdeal.Facts) (hIn : Cert.In.Facts) (hInIdeal : Cert.InIdeal.Facts) (hInRef : Cert.InRef.Facts) (hInRefIdeal : Cert.InRefIdeal.Facts) (hInDa : Cert.InDa.Facts) (hInDaIdeal : Cert.InDaIdeal.Facts) (hInDaRef : Cert.InDaRef.Facts) (hInDaRefIdeal : Cert.InDaRefIdeal.Facts) (hInDw : Cert.InDw.Facts) (hInDwIdeal : Cert.InDwIdeal.Facts) (hInDwRef : Cert.InDwRef.Facts) (hInDwRefIdeal : Cert.InDwRefIdeal.Facts) (hBranch : Cert.Branch.Facts) (hBranchIdeal : Cert.BranchIdeal.Facts) (hBranchRef : Cert.BranchRef.Facts) (hBranchRefIdeal : Cert.BranchRefIdeal.Facts) (hBranchDa : Cert.BranchDa.Facts) (hBranchDaIdeal : Cert.BranchDaIdeal.Facts) (hBranchDaRef : Cert.BranchDaRef.Facts) (hBranchDaRefIdeal : Cert.BranchDaRefIdeal.Facts) (hBranchDw : Cert.BranchDw.Facts) (hBranchDwIdeal : Cert.BranchDwIdeal.Facts) (hBranchDwRef : Cert.BranchDwRef.Facts) (hBranchDwRefIdeal : Cert.BranchDwRefIdeal.Facts) (hOut : Cert.Out.Facts) (hOutIdeal : Cert.OutIdeal.Facts) (hOutRef : Cert.OutRef.Facts) (hOutRefIdeal : Cert.OutRefIdeal.Facts) (hOutDa : Cert.OutDa.Facts) (hOutDaIdeal : Cert.OutDaIdeal.Facts) (hOutDaRef : Cert.OutDaRef.Facts) (hOutDaRefIdeal : Cert.OutDaRefIdeal.Facts) (hOutDw : Cert.OutDw.Facts) (hOutDwIdeal : Cert.OutDwIdeal.Facts) (hOutDwRef : Cert.OutDwRef.Facts) (hOutDwRefIdeal : Cert.OutDwRefIdeal.Facts) (hQuery : Cert.Query.Facts) (hQueryIdeal : Cert.QueryIdeal.Facts) (hQueryRef : Cert.QueryRef.Facts) (hQueryRefIdeal : Cert.QueryRefIdeal.Facts) (hQueryDa : Cert.QueryDa.Facts) (hQueryDaIdeal : Cert.QueryDaIdeal.Facts) (hQueryDaRef : Cert.QueryDaRef.Facts) (hQueryDaRefIdeal : Cert.QueryDaRefIdeal.Facts) (hQueryDw : Cert.QueryDw.Facts) (hQueryDwIdeal : Cert.QueryDwIdeal.Facts) (hQueryDwRef : Cert.QueryDwRef.Facts) (hQueryDwRefIdeal : Cert.QueryDwRefIdeal.Facts) (hMemory : Cert.Memory.Facts) (hMemoryIdeal : Cert.MemoryIdeal.Facts) (hMemoryRef : Cert.MemoryRef.Facts) (hMemoryRefIdeal : Cert.MemoryRefIdeal.Facts) (hMemoryDa : Cert.MemoryDa.Facts) (hMemoryDaIdeal : Cert.MemoryDaIdeal.Facts) (hMemoryDaRef : Cert.MemoryDaRef.Facts) (hMemoryDaRefIdeal : Cert.MemoryDaRefIdeal.Facts) (hMemoryDw : Cert.MemoryDw.Facts) (hMemoryDwIdeal : Cert.MemoryDwIdeal.Facts) (hMemoryDwRef : Cert.MemoryDwRef.Facts) (hMemoryDwRefIdeal : Cert.MemoryDwRefIdeal.Facts) (hUp : Cert.Up.Facts) (hUpIdeal : Cert.UpIdeal.Facts) (hUpRef : Cert.UpRef.Facts) (hUpRefIdeal : Cert.UpRefIdeal.Facts) (hUpDa : Cert.UpDa.Facts) (hUpDaIdeal : Cert.UpDaIdeal.Facts) (hUpDaRef : Cert.UpDaRef.Facts) (hUpDaRefIdeal : Cert.UpDaRefIdeal.Facts) (hUpDw : Cert.UpDw.Facts) (hUpDwIdeal : Cert.UpDwIdeal.Facts) (hUpDwRef : Cert.UpDwRef.Facts) (hUpDwRefIdeal : Cert.UpDwRefIdeal.Facts) (hDown : Cert.Down.Facts) (hDownIdeal : Cert.DownIdeal.Facts) (hDownRef : Cert.DownRef.Facts) (hDownRefIdeal : Cert.DownRefIdeal.Facts) (hDownDa : Cert.DownDa.Facts) (hDownDaIdeal : Cert.DownDaIdeal.Facts) (hDownDaRef : Cert.DownDaRef.Facts) (hDownDaRefIdeal : Cert.DownDaRefIdeal.Facts) (hDownDw : Cert.DownDw.Facts) (hDownDwIdeal : Cert.DownDwIdeal.Facts) (hDownDwRef : Cert.DownDwRef.Facts) (hDownDwRefIdeal : Cert.DownDwRefIdeal.Facts) (hGdnScan : Cert.GdnScan.Facts) (hGdnScanIdeal : Cert.GdnScanIdeal.Facts) (hGdnScanRef : Cert.GdnScanRef.Facts) (hGdnScanRefIdeal : Cert.GdnScanRefIdeal.Facts) (hGdnGrad : Cert.GdnGrad.Facts) (hGdnGradIdeal : Cert.GdnGradIdeal.Facts) (hGdnGradRef : Cert.GdnGradRef.Facts) (hGdnGradRefIdeal : Cert.GdnGradRefIdeal.Facts) (hStick : Cert.Stick.Facts) (hStickIdeal : Cert.StickIdeal.Facts) (hStickRef : Cert.StickRef.Facts) (hStickRefIdeal : Cert.StickRefIdeal.Facts),
    quiescent_Gather (hGather := hGather)
    ∧ quiescent_GatherIdeal (hGatherIdeal := hGatherIdeal)
    ∧ quiescent_GatherRef (hGatherRef := hGatherRef)
    ∧ quiescent_GatherRefIdeal (hGatherRefIdeal := hGatherRefIdeal)
    ∧ quiescent_Sibling (hSibling := hSibling)
    ∧ quiescent_SiblingIdeal (hSiblingIdeal := hSiblingIdeal)
    ∧ quiescent_SiblingRef (hSiblingRef := hSiblingRef)
    ∧ quiescent_SiblingRefIdeal (hSiblingRefIdeal := hSiblingRefIdeal)
    ∧ quiescent_Chips (hChips := hChips)
    ∧ quiescent_ChipsIdeal (hChipsIdeal := hChipsIdeal)
    ∧ quiescent_ChipsRef (hChipsRef := hChipsRef)
    ∧ quiescent_ChipsRefIdeal (hChipsRefIdeal := hChipsRefIdeal)
    ∧ quiescent_Share (hShare := hShare)
    ∧ quiescent_ShareIdeal (hShareIdeal := hShareIdeal)
    ∧ quiescent_ShareRef (hShareRef := hShareRef)
    ∧ quiescent_ShareRefIdeal (hShareRefIdeal := hShareRefIdeal)
    ∧ quiescent_PairSum (hPairSum := hPairSum)
    ∧ quiescent_PairSumIdeal (hPairSumIdeal := hPairSumIdeal)
    ∧ quiescent_PairSumRef (hPairSumRef := hPairSumRef)
    ∧ quiescent_PairSumRefIdeal (hPairSumRefIdeal := hPairSumRefIdeal)
    ∧ quiescent_ChipSum (hChipSum := hChipSum)
    ∧ quiescent_ChipSumIdeal (hChipSumIdeal := hChipSumIdeal)
    ∧ quiescent_ChipSumRef (hChipSumRef := hChipSumRef)
    ∧ quiescent_ChipSumRefIdeal (hChipSumRefIdeal := hChipSumRefIdeal)
    ∧ quiescent_Adamw (hAdamw := hAdamw)
    ∧ quiescent_AdamwIdeal (hAdamwIdeal := hAdamwIdeal)
    ∧ quiescent_AdamwRef (hAdamwRef := hAdamwRef)
    ∧ quiescent_AdamwRefIdeal (hAdamwRefIdeal := hAdamwRefIdeal)
    ∧ quiescent_AdamwSmall (hAdamwSmall := hAdamwSmall)
    ∧ quiescent_AdamwSmallIdeal (hAdamwSmallIdeal := hAdamwSmallIdeal)
    ∧ quiescent_AdamwSmallRef (hAdamwSmallRef := hAdamwSmallRef)
    ∧ quiescent_AdamwSmallRefIdeal (hAdamwSmallRefIdeal := hAdamwSmallRefIdeal)
    ∧ quiescent_LossHead (hLossHead := hLossHead)
    ∧ quiescent_LossHeadIdeal (hLossHeadIdeal := hLossHeadIdeal)
    ∧ quiescent_LossHeadRef (hLossHeadRef := hLossHeadRef)
    ∧ quiescent_LossHeadRefIdeal (hLossHeadRefIdeal := hLossHeadRefIdeal)
    ∧ quiescent_In (hIn := hIn)
    ∧ quiescent_InIdeal (hInIdeal := hInIdeal)
    ∧ quiescent_InRef (hInRef := hInRef)
    ∧ quiescent_InRefIdeal (hInRefIdeal := hInRefIdeal)
    ∧ quiescent_InDa (hInDa := hInDa)
    ∧ quiescent_InDaIdeal (hInDaIdeal := hInDaIdeal)
    ∧ quiescent_InDaRef (hInDaRef := hInDaRef)
    ∧ quiescent_InDaRefIdeal (hInDaRefIdeal := hInDaRefIdeal)
    ∧ quiescent_InDw (hInDw := hInDw)
    ∧ quiescent_InDwIdeal (hInDwIdeal := hInDwIdeal)
    ∧ quiescent_InDwRef (hInDwRef := hInDwRef)
    ∧ quiescent_InDwRefIdeal (hInDwRefIdeal := hInDwRefIdeal)
    ∧ quiescent_Branch (hBranch := hBranch)
    ∧ quiescent_BranchIdeal (hBranchIdeal := hBranchIdeal)
    ∧ quiescent_BranchRef (hBranchRef := hBranchRef)
    ∧ quiescent_BranchRefIdeal (hBranchRefIdeal := hBranchRefIdeal)
    ∧ quiescent_BranchDa (hBranchDa := hBranchDa)
    ∧ quiescent_BranchDaIdeal (hBranchDaIdeal := hBranchDaIdeal)
    ∧ quiescent_BranchDaRef (hBranchDaRef := hBranchDaRef)
    ∧ quiescent_BranchDaRefIdeal (hBranchDaRefIdeal := hBranchDaRefIdeal)
    ∧ quiescent_BranchDw (hBranchDw := hBranchDw)
    ∧ quiescent_BranchDwIdeal (hBranchDwIdeal := hBranchDwIdeal)
    ∧ quiescent_BranchDwRef (hBranchDwRef := hBranchDwRef)
    ∧ quiescent_BranchDwRefIdeal (hBranchDwRefIdeal := hBranchDwRefIdeal)
    ∧ quiescent_Out (hOut := hOut)
    ∧ quiescent_OutIdeal (hOutIdeal := hOutIdeal)
    ∧ quiescent_OutRef (hOutRef := hOutRef)
    ∧ quiescent_OutRefIdeal (hOutRefIdeal := hOutRefIdeal)
    ∧ quiescent_OutDa (hOutDa := hOutDa)
    ∧ quiescent_OutDaIdeal (hOutDaIdeal := hOutDaIdeal)
    ∧ quiescent_OutDaRef (hOutDaRef := hOutDaRef)
    ∧ quiescent_OutDaRefIdeal (hOutDaRefIdeal := hOutDaRefIdeal)
    ∧ quiescent_OutDw (hOutDw := hOutDw)
    ∧ quiescent_OutDwIdeal (hOutDwIdeal := hOutDwIdeal)
    ∧ quiescent_OutDwRef (hOutDwRef := hOutDwRef)
    ∧ quiescent_OutDwRefIdeal (hOutDwRefIdeal := hOutDwRefIdeal)
    ∧ quiescent_Query (hQuery := hQuery)
    ∧ quiescent_QueryIdeal (hQueryIdeal := hQueryIdeal)
    ∧ quiescent_QueryRef (hQueryRef := hQueryRef)
    ∧ quiescent_QueryRefIdeal (hQueryRefIdeal := hQueryRefIdeal)
    ∧ quiescent_QueryDa (hQueryDa := hQueryDa)
    ∧ quiescent_QueryDaIdeal (hQueryDaIdeal := hQueryDaIdeal)
    ∧ quiescent_QueryDaRef (hQueryDaRef := hQueryDaRef)
    ∧ quiescent_QueryDaRefIdeal (hQueryDaRefIdeal := hQueryDaRefIdeal)
    ∧ quiescent_QueryDw (hQueryDw := hQueryDw)
    ∧ quiescent_QueryDwIdeal (hQueryDwIdeal := hQueryDwIdeal)
    ∧ quiescent_QueryDwRef (hQueryDwRef := hQueryDwRef)
    ∧ quiescent_QueryDwRefIdeal (hQueryDwRefIdeal := hQueryDwRefIdeal)
    ∧ quiescent_Memory (hMemory := hMemory)
    ∧ quiescent_MemoryIdeal (hMemoryIdeal := hMemoryIdeal)
    ∧ quiescent_MemoryRef (hMemoryRef := hMemoryRef)
    ∧ quiescent_MemoryRefIdeal (hMemoryRefIdeal := hMemoryRefIdeal)
    ∧ quiescent_MemoryDa (hMemoryDa := hMemoryDa)
    ∧ quiescent_MemoryDaIdeal (hMemoryDaIdeal := hMemoryDaIdeal)
    ∧ quiescent_MemoryDaRef (hMemoryDaRef := hMemoryDaRef)
    ∧ quiescent_MemoryDaRefIdeal (hMemoryDaRefIdeal := hMemoryDaRefIdeal)
    ∧ quiescent_MemoryDw (hMemoryDw := hMemoryDw)
    ∧ quiescent_MemoryDwIdeal (hMemoryDwIdeal := hMemoryDwIdeal)
    ∧ quiescent_MemoryDwRef (hMemoryDwRef := hMemoryDwRef)
    ∧ quiescent_MemoryDwRefIdeal (hMemoryDwRefIdeal := hMemoryDwRefIdeal)
    ∧ quiescent_Up (hUp := hUp)
    ∧ quiescent_UpIdeal (hUpIdeal := hUpIdeal)
    ∧ quiescent_UpRef (hUpRef := hUpRef)
    ∧ quiescent_UpRefIdeal (hUpRefIdeal := hUpRefIdeal)
    ∧ quiescent_UpDa (hUpDa := hUpDa)
    ∧ quiescent_UpDaIdeal (hUpDaIdeal := hUpDaIdeal)
    ∧ quiescent_UpDaRef (hUpDaRef := hUpDaRef)
    ∧ quiescent_UpDaRefIdeal (hUpDaRefIdeal := hUpDaRefIdeal)
    ∧ quiescent_UpDw (hUpDw := hUpDw)
    ∧ quiescent_UpDwIdeal (hUpDwIdeal := hUpDwIdeal)
    ∧ quiescent_UpDwRef (hUpDwRef := hUpDwRef)
    ∧ quiescent_UpDwRefIdeal (hUpDwRefIdeal := hUpDwRefIdeal)
    ∧ quiescent_Down (hDown := hDown)
    ∧ quiescent_DownIdeal (hDownIdeal := hDownIdeal)
    ∧ quiescent_DownRef (hDownRef := hDownRef)
    ∧ quiescent_DownRefIdeal (hDownRefIdeal := hDownRefIdeal)
    ∧ quiescent_DownDa (hDownDa := hDownDa)
    ∧ quiescent_DownDaIdeal (hDownDaIdeal := hDownDaIdeal)
    ∧ quiescent_DownDaRef (hDownDaRef := hDownDaRef)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRef (hDownDwRef := hDownDwRef)
    ∧ quiescent_DownDwRefIdeal (hDownDwRefIdeal := hDownDwRefIdeal)
    ∧ quiescent_GdnScan (hGdnScan := hGdnScan)
    ∧ quiescent_GdnScanIdeal (hGdnScanIdeal := hGdnScanIdeal)
    ∧ quiescent_GdnScanRef (hGdnScanRef := hGdnScanRef)
    ∧ quiescent_GdnScanRefIdeal (hGdnScanRefIdeal := hGdnScanRefIdeal)
    ∧ quiescent_GdnGrad (hGdnGrad := hGdnGrad)
    ∧ quiescent_GdnGradIdeal (hGdnGradIdeal := hGdnGradIdeal)
    ∧ quiescent_GdnGradRef (hGdnGradRef := hGdnGradRef)
    ∧ quiescent_GdnGradRefIdeal (hGdnGradRefIdeal := hGdnGradRefIdeal)
    ∧ quiescent_Stick (hStick := hStick)
    ∧ quiescent_StickIdeal (hStickIdeal := hStickIdeal)
    ∧ quiescent_StickRef (hStickRef := hStickRef)
    ∧ quiescent_StickRefIdeal (hStickRefIdeal := hStickRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_PairSum_PairSumIdeal
    ∧ algebraic_PairSumIdeal_PairSumRefIdeal (hPairSumIdeal := hPairSumIdeal) (hPairSumRefIdeal := hPairSumRefIdeal)
    ∧ preserves_ChipSum_ChipSumIdeal
    ∧ algebraic_ChipSumIdeal_ChipSumRefIdeal (hChipSumIdeal := hChipSumIdeal) (hChipSumRefIdeal := hChipSumRefIdeal)
    ∧ preserves_Adamw_AdamwIdeal
    ∧ algebraic_AdamwIdeal_AdamwRefIdeal (hAdamwIdeal := hAdamwIdeal) (hAdamwRefIdeal := hAdamwRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_LossHead_LossHeadIdeal
    ∧ algebraic_LossHeadIdeal_LossHeadRefIdeal (hLossHeadIdeal := hLossHeadIdeal) (hLossHeadRefIdeal := hLossHeadRefIdeal)
    ∧ preserves_In_InIdeal
    ∧ algebraic_InIdeal_InRefIdeal (hInIdeal := hInIdeal) (hInRefIdeal := hInRefIdeal)
    ∧ preserves_InDa_InDaIdeal
    ∧ algebraic_InDaIdeal_InDaRefIdeal (hInDaIdeal := hInDaIdeal) (hInDaRefIdeal := hInDaRefIdeal)
    ∧ preserves_InDw_InDwIdeal
    ∧ algebraic_InDwIdeal_InDwRefIdeal (hInDwIdeal := hInDwIdeal) (hInDwRefIdeal := hInDwRefIdeal)
    ∧ preserves_Branch_BranchIdeal
    ∧ algebraic_BranchIdeal_BranchRefIdeal (hBranchIdeal := hBranchIdeal) (hBranchRefIdeal := hBranchRefIdeal)
    ∧ preserves_BranchDa_BranchDaIdeal
    ∧ algebraic_BranchDaIdeal_BranchDaRefIdeal (hBranchDaIdeal := hBranchDaIdeal) (hBranchDaRefIdeal := hBranchDaRefIdeal)
    ∧ preserves_BranchDw_BranchDwIdeal
    ∧ algebraic_BranchDwIdeal_BranchDwRefIdeal (hBranchDwIdeal := hBranchDwIdeal) (hBranchDwRefIdeal := hBranchDwRefIdeal)
    ∧ preserves_Out_OutIdeal
    ∧ algebraic_OutIdeal_OutRefIdeal (hOutIdeal := hOutIdeal) (hOutRefIdeal := hOutRefIdeal)
    ∧ preserves_OutDa_OutDaIdeal
    ∧ algebraic_OutDaIdeal_OutDaRefIdeal (hOutDaIdeal := hOutDaIdeal) (hOutDaRefIdeal := hOutDaRefIdeal)
    ∧ preserves_OutDw_OutDwIdeal
    ∧ algebraic_OutDwIdeal_OutDwRefIdeal (hOutDwIdeal := hOutDwIdeal) (hOutDwRefIdeal := hOutDwRefIdeal)
    ∧ preserves_Query_QueryIdeal
    ∧ algebraic_QueryIdeal_QueryRefIdeal (hQueryIdeal := hQueryIdeal) (hQueryRefIdeal := hQueryRefIdeal)
    ∧ preserves_QueryDa_QueryDaIdeal
    ∧ algebraic_QueryDaIdeal_QueryDaRefIdeal (hQueryDaIdeal := hQueryDaIdeal) (hQueryDaRefIdeal := hQueryDaRefIdeal)
    ∧ preserves_QueryDw_QueryDwIdeal
    ∧ algebraic_QueryDwIdeal_QueryDwRefIdeal (hQueryDwIdeal := hQueryDwIdeal) (hQueryDwRefIdeal := hQueryDwRefIdeal)
    ∧ preserves_Memory_MemoryIdeal
    ∧ algebraic_MemoryIdeal_MemoryRefIdeal (hMemoryIdeal := hMemoryIdeal) (hMemoryRefIdeal := hMemoryRefIdeal)
    ∧ preserves_MemoryDa_MemoryDaIdeal
    ∧ algebraic_MemoryDaIdeal_MemoryDaRefIdeal (hMemoryDaIdeal := hMemoryDaIdeal) (hMemoryDaRefIdeal := hMemoryDaRefIdeal)
    ∧ preserves_MemoryDw_MemoryDwIdeal
    ∧ algebraic_MemoryDwIdeal_MemoryDwRefIdeal (hMemoryDwIdeal := hMemoryDwIdeal) (hMemoryDwRefIdeal := hMemoryDwRefIdeal)
    ∧ preserves_Up_UpIdeal
    ∧ algebraic_UpIdeal_UpRefIdeal (hUpIdeal := hUpIdeal) (hUpRefIdeal := hUpRefIdeal)
    ∧ preserves_UpDa_UpDaIdeal
    ∧ algebraic_UpDaIdeal_UpDaRefIdeal (hUpDaIdeal := hUpDaIdeal) (hUpDaRefIdeal := hUpDaRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDa_DownDaIdeal
    ∧ algebraic_DownDaIdeal_DownDaRefIdeal (hDownDaIdeal := hDownDaIdeal) (hDownDaRefIdeal := hDownDaRefIdeal)
    ∧ preserves_DownDw_DownDwIdeal
    ∧ algebraic_DownDwIdeal_DownDwRefIdeal (hDownDwIdeal := hDownDwIdeal) (hDownDwRefIdeal := hDownDwRefIdeal)
    ∧ preserves_GdnScan_GdnScanIdeal
    ∧ algebraic_GdnScanIdeal_GdnScanRefIdeal (hGdnScanIdeal := hGdnScanIdeal) (hGdnScanRefIdeal := hGdnScanRefIdeal)
    ∧ preserves_GdnGrad_GdnGradIdeal
    ∧ algebraic_GdnGradIdeal_GdnGradRefIdeal (hGdnGradIdeal := hGdnGradIdeal) (hGdnGradRefIdeal := hGdnGradRefIdeal)
    ∧ preserves_Stick_StickIdeal
    ∧ algebraic_StickIdeal_StickRefIdeal (hStickIdeal := hStickIdeal) (hStickRefIdeal := hStickRefIdeal)
-- ==== Gather.lean ====
abbrev S2x86016x128 : Shape := ⟨3, ![2, 86016, 128]⟩
abbrev S4x2x86016x128 : Shape := ⟨4, ![4, 2, 86016, 128]⟩
abbrev S6 : Shape := ⟨1, ![6]⟩
abbrev S_ : Shape := ⟨0, ![]⟩
abbrev S1x2x86016x128 : Shape := ⟨4, ![1, 2, 86016, 128]⟩
abbrev S1 : Shape := ⟨1, ![1]⟩
abbrev S1x1x86016x128 : Shape := ⟨4, ![1, 1, 86016, 128]⟩
abbrev S86016x128 : Shape := ⟨2, ![86016, 128]⟩
abbrev S1x86016x128 : Shape := ⟨3, ![1, 86016, 128]⟩

abbrev nBuf : Space → Nat
  | .hbm => 2
  | .vmem => 0
  | .smem => 0
  | _ => 0

abbrev bufTy : (tb : Table) → Fin (tcTables nBuf tb) → BufTy
  | .hbm, ⟨0, _⟩ => ⟨S2x86016x128, .f32⟩
  | .hbm, ⟨1, _⟩ => ⟨S4x2x86016x128, .f32⟩
  | _, _ => ⟨S2x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_9 : BitVec 32 := 0#32
  let c0_i32_10 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  ![v14.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let c0_i32_20 : BitVec 32 := 0#32
  ![v8.toNat, 0, 0]
def k0_dev1 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v18 : BitVec 32 := Scalar.muli v9 c4_i32_13
  let v19 : BitVec 32 := Scalar.addi c0_i32_14 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v20 : BitVec 32 := Scalar.muli v5 c2_i32_15
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v22 : BitVec 32 := Scalar.muli v8 c1_i32_16
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v34 : BitVec 32 := Scalar.muli v10 c2_i32_25
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v36 : BitVec 32 := Scalar.muli v8 c1_i32_26
  let v37 : BitVec 32 := Scalar.addi v35 v36
  v37.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v46 : BitVec 32 := Scalar.muli v11 c4_i32_33
  let v47 : BitVec 32 := Scalar.addi c0_i32_34 v46
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v48 : BitVec 32 := Scalar.muli v12 c2_i32_35
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v50 : BitVec 32 := Scalar.muli v8 c1_i32_36
  let v51 : BitVec 32 := Scalar.addi v49 v50
  v51.toNat
def k0_off4 (d0 : Dev nD) : Fin 4 → Nat :=
  let c2_i32_41 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v60 : BitVec 32 := Scalar.muli c2_i32_41 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.addi v60 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_48 : BitVec 32 := 0#32
  let c0_i32_49 : BitVec 32 := 0#32
  ![v61.toNat, v8.toNat, 0, 0]
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v74 : BitVec 32 := Scalar.muli v2 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v76 : BitVec 32 := Scalar.muli v5 c2_i32_55
  let v77 : BitVec 32 := Scalar.addi v75 v76
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_56 : BitVec 32 := 1#32
  let v78 : BitVec 32 := Scalar.muli v15 c1_i32_56
  let v79 : BitVec 32 := Scalar.addi v77 v78
  v79.toNat
def k0_off5 (d0 : Dev nD) : Fin 4 → Nat :=
  let c2_i32_61 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v88 : BitVec 32 := Scalar.muli c2_i32_61 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v89 : BitVec 32 := Scalar.addi v88 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_68 : BitVec 32 := 0#32
  let c0_i32_69 : BitVec 32 := 0#32
  ![v89.toNat, v8.toNat, 0, 0]
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v102 : BitVec 32 := Scalar.muli v2 c4_i32_74
  let v103 : BitVec 32 := Scalar.addi c0_i32_75 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v104 : BitVec 32 := Scalar.muli v5 c2_i32_76
  let v105 : BitVec 32 := Scalar.addi v103 v104
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_77 : BitVec 32 := 1#32
  let v106 : BitVec 32 := Scalar.muli v15 c1_i32_77
  let v107 : BitVec 32 := Scalar.addi v105 v106
  v107.toNat
def k0_off6 (d0 : Dev nD) : Fin 4 → Nat :=
  let c2_i32_82 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v116 : BitVec 32 := Scalar.muli c2_i32_82 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v117 : BitVec 32 := Scalar.addi v116 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_89 : BitVec 32 := 0#32
  let c0_i32_90 : BitVec 32 := 0#32
  ![v117.toNat, v8.toNat, 0, 0]
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v130 : BitVec 32 := Scalar.muli v2 c4_i32_94
  let v131 : BitVec 32 := Scalar.addi c0_i32_95 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v132 : BitVec 32 := Scalar.muli v5 c2_i32_96
  let v133 : BitVec 32 := Scalar.addi v131 v132
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_97 : BitVec 32 := 1#32
  let v134 : BitVec 32 := Scalar.muli v15 c1_i32_97
  let v135 : BitVec 32 := Scalar.addi v133 v134
  v135.toNat
def k0_off7 (d0 : Dev nD) : Fin 4 → Nat :=
  let c2_i32_102 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v144 : BitVec 32 := Scalar.muli c2_i32_102 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.addi v144 v5
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v146 : BitVec 32 := Scalar.subi c1_i32_103 v8
  let c0_i32_110 : BitVec 32 := 0#32
  let c0_i32_111 : BitVec 32 := 0#32
  ![v145.toNat, v146.toNat, 0, 0]
def k0_off8 (d0 : Dev nD) : Fin 4 → Nat :=
  let c2_i32_114 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v159 : BitVec 32 := Scalar.muli c2_i32_114 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v160 : BitVec 32 := Scalar.addi v159 v10
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v161 : BitVec 32 := Scalar.subi c1_i32_115 v8
  let c0_i32_122 : BitVec 32 := 0#32
  let c0_i32_123 : BitVec 32 := 0#32
  ![v160.toNat, v161.toNat, 0, 0]
def k0_off9 (d0 : Dev nD) : Fin 4 → Nat :=
  let c2_i32_126 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v174 : BitVec 32 := Scalar.muli c2_i32_126 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v175 : BitVec 32 := Scalar.addi v174 v12
  let c1_i32_127 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_127 v8
  let c0_i32_134 : BitVec 32 := 0#32
  let c0_i32_135 : BitVec 32 := 0#32
  ![v175.toNat, v176.toNat, 0, 0]
-- ==== GatherRef.lean ====
abbrev S8x86016x128 : Shape := ⟨3, ![8, 86016, 128]⟩
abbrev S4x2x86016x128 : Shape := ⟨4, ![4, 2, 86016, 128]⟩

abbrev nBuf : Space → Nat
  | .hbm => 2
  | .vmem => 0
  | .smem => 0
  | _ => 0

abbrev bufTy : (tb : Table) → Fin (tcTables nBuf tb) → BufTy
  | .hbm, ⟨0, _⟩ => ⟨S8x86016x128, .f32⟩
  | .hbm, ⟨1, _⟩ => ⟨S4x2x86016x128, .f32⟩
  | _, _ => ⟨S8x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sibling.lean ====
abbrev S2x4x86016x128 : Shape := ⟨4, ![2, 4, 86016, 128]⟩
abbrev S4x86016x128 : Shape := ⟨3, ![4, 86016, 128]⟩
abbrev S_ : Shape := ⟨0, ![]⟩
abbrev S1x4x86016x128 : Shape := ⟨4, ![1, 4, 86016, 128]⟩

abbrev nBuf : Space → Nat
  | .hbm => 2
  | .vmem => 0
  | .smem => 0
  | _ => 0

abbrev bufTy : (tb : Table) → Fin (tcTables nBuf tb) → BufTy
  | .hbm, ⟨0, _⟩ => ⟨S2x4x86016x128, .f32⟩
  | .hbm, ⟨1, _⟩ => ⟨S4x86016x128, .f32⟩
  | _, _ => ⟨S2x4x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_8 : BitVec 32 := 0#32
  let c0_i32_9 : BitVec 32 := 0#32
  let c0_i32_10 : BitVec 32 := 0#32
  ![v9.toNat, 0, 0, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_7 : BitVec 32 := 1#32
  let v15 : BitVec 32 := Scalar.muli v10 c1_i32_7
  let v16 : BitVec 32 := Scalar.addi v14 v15
  v16.toNat
-- ==== SiblingRef.lean ====
abbrev S16x4x86016x128 : Shape := ⟨4, ![16, 4, 86016, 128]⟩
abbrev S4x2x2x4x86016x128 : Shape := ⟨6, ![4, 2, 2, 4, 86016, 128]⟩
abbrev S4x1x1x4x86016x128 : Shape := ⟨6, ![4, 1, 1, 4, 86016, 128]⟩
abbrev S4x4x86016x128 : Shape := ⟨4, ![4, 4, 86016, 128]⟩
abbrev S4x1x4x86016x128 : Shape := ⟨5, ![4, 1, 4, 86016, 128]⟩
abbrev S4x2x4x86016x128 : Shape := ⟨5, ![4, 2, 4, 86016, 128]⟩
abbrev S32x86016x128 : Shape := ⟨3, ![32, 86016, 128]⟩

abbrev nBuf : Space → Nat
  | .hbm => 10
  | .vmem => 0
  | .smem => 0
  | _ => 0

abbrev bufTy : (tb : Table) → Fin (tcTables nBuf tb) → BufTy
  | .hbm, ⟨0, _⟩ => ⟨S16x4x86016x128, .f32⟩
  | .hbm, ⟨1, _⟩ => ⟨S4x2x2x4x86016x128, .f32⟩
  | .hbm, ⟨2, _⟩ => ⟨S4x1x1x4x86016x128, .f32⟩
  | .hbm, ⟨3, _⟩ => ⟨S4x4x86016x128, .f32⟩
  | .hbm, ⟨4, _⟩ => ⟨S4x1x1x4x86016x128, .f32⟩
  | .hbm, ⟨5, _⟩ => ⟨S4x4x86016x128, .f32⟩
  | .hbm, ⟨6, _⟩ => ⟨S4x1x4x86016x128, .f32⟩
  | .hbm, ⟨7, _⟩ => ⟨S4x1x4x86016x128, .f32⟩
  | .hbm, ⟨8, _⟩ => ⟨S4x2x4x86016x128, .f32⟩
  | .hbm, ⟨9, _⟩ => ⟨S32x86016x128, .f32⟩
  | _, _ => ⟨S16x4x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chips.lean ====
abbrev S4x86016x128 : Shape := ⟨3, ![4, 86016, 128]⟩
abbrev S3 : Shape := ⟨1, ![3]⟩
abbrev S_ : Shape := ⟨0, ![]⟩
abbrev S1x86016x128 : Shape := ⟨3, ![1, 86016, 128]⟩
abbrev S86016x128 : Shape := ⟨2, ![86016, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x86016x128, .f32⟩
  | .hbm, ⟨1, _⟩ => ⟨S4x86016x128, .f32⟩
  | _, _ => ⟨S4x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipsRef.lean ====
abbrev S32x86016x128 : Shape := ⟨3, ![32, 86016, 128]⟩
abbrev S4x2x4x86016x128 : Shape := ⟨5, ![4, 2, 4, 86016, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x86016x128, .f32⟩
  | .hbm, ⟨1, _⟩ => ⟨S4x2x4x86016x128, .f32⟩
  | .hbm, ⟨2, _⟩ => ⟨S4x2x4x86016x128, .f32⟩
  | .hbm, ⟨3, _⟩ => ⟨S32x86016x128, .f32⟩
  | _, _ => ⟨S32x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Share.lean ====
abbrev S86016x128 : Shape := ⟨2, ![86016, 128]⟩
abbrev S2x86016x128 : Shape := ⟨3, ![2, 86016, 128]⟩
abbrev S_ : Shape := ⟨0, ![]⟩
abbrev S1x86016x128 : Shape := ⟨3, ![1, 86016, 128]⟩

abbrev nBuf : Space → Nat
  | .hbm => 2
  | .vmem => 0
  | .smem => 0
  | _ => 0

abbrev bufTy : (tb : Table) → Fin (tcTables nBuf tb) → BufTy
  | .hbm, ⟨0, _⟩ => ⟨S86016x128, .f32⟩
  | .hbm, ⟨1, _⟩ => ⟨S2x86016x128, .f32⟩
  | _, _ => ⟨S86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== ShareRef.lean ====
abbrev S688128x128 : Shape := ⟨2, ![688128, 128]⟩
abbrev S4x1x2x86016x128 : Shape := ⟨5, ![4, 1, 2, 86016, 128]⟩
abbrev S4x2x2x86016x128 : Shape := ⟨5, ![4, 2, 2, 86016, 128]⟩
abbrev S16x86016x128 : Shape := ⟨3, ![16, 86016, 128]⟩

abbrev nBuf : Space → Nat
  | .hbm => 4
  | .vmem => 0
  | .smem => 0
  | _ => 0

abbrev bufTy : (tb : Table) → Fin (tcTables nBuf tb) → BufTy
  | .hbm, ⟨0, _⟩ => ⟨S688128x128, .f32⟩
  | .hbm, ⟨1, _⟩ => ⟨S4x1x2x86016x128, .f32⟩
  | .hbm, ⟨2, _⟩ => ⟨S4x2x2x86016x128, .f32⟩
  | .hbm, ⟨3, _⟩ => ⟨S16x86016x128, .f32⟩
  | _, _ => ⟨S688128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== PairSum.lean ====
abbrev S2x4x86016x128 : Shape := ⟨4, ![2, 4, 86016, 128]⟩
abbrev S4x86016x128 : Shape := ⟨3, ![4, 86016, 128]⟩
abbrev S_ : Shape := ⟨0, ![]⟩
abbrev S1x4x86016x128 : Shape := ⟨4, ![1, 4, 86016, 128]⟩
abbrev S1 : Shape := ⟨1, ![1]⟩
abbrev S1x1x2048x128 : Shape := ⟨4, ![1, 1, 2048, 128]⟩
abbrev S1x2048x128 : Shape := ⟨3, ![1, 2048, 128]⟩
abbrev S2048x128 : Shape := ⟨2, ![2048, 128]⟩

abbrev nBuf : Space → Nat
  | .hbm => 9
  | .vmem => 6
  | .smem => 1
  | _ => 0

abbrev bufTy : (tb : Table) → Fin (tcTables nBuf tb) → BufTy
  | .hbm, ⟨0, _⟩ => ⟨S2x4x86016x128, .f32⟩
  | .hbm, ⟨1, _⟩ => ⟨S4x86016x128, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x86016x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .smem, ⟨0, _⟩ => ⟨S1, .i32⟩
  | _, _ => ⟨S2x4x86016x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v7 : Ref sig .tc := ⟨.hbm, 8, rfl⟩
abbrev main_v6 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 8
abbrev τ : Topo := Topo.v7x

variable {F : FTy → Type} [FloatOps F]

abbrev grid0 : Pipeline.Grid := .none

def k0_off1 (d0 : Dev nD) : Fin 4 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_8 : BitVec 32 := 0#32
  let c0_i32_9 : BitVec 32 := 0#32
  let c0_i32_10 : BitVec 32 := 0#32
  ![v9.toNat, 0, 0, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_7 : BitVec 32 := 1#32
  let v15 : BitVec 32 := Scalar.muli v10 c1_i32_7
  let v16 : BitVec 32 := Scalar.addi v14 v15
  v16.toNat
abbrev grid1 : Pipeline.Grid := ⟨2, ![4, 42], ![false, false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc1_transform_0 (inb_S1_S1_0 : ∀ a, (![0] : Fin 1 → Nat) a + S1.size a ≤ S1.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== PairSumRef.lean ====
abbrev S16x4x86016x128 : Shape := ⟨4, ![16, 4, 86016, 128]⟩
abbrev S4x2x2x4x86016x128 : Shape := ⟨6, ![4, 2, 2, 4, 86016, 128]⟩
abbrev S_ : Shape := ⟨0, ![]⟩
abbrev S4x2x4x86016x128 : Shape := ⟨5, ![4, 2, 4, 86016, 128]⟩
abbrev S32x86016x128 : Shape := ⟨3, ![32, 86016, 128]⟩

abbrev nBuf : Space → Nat
  | .hbm => 5
  | .vmem => 0
  | .smem => 0
  | _ => 0

abbrev bufTy : (tb : Table) → Fin (tcTables nBuf tb) → BufTy
  | .hbm, ⟨0, _⟩ => ⟨S16x4x86016x128, .f32⟩
  | .hbm, ⟨1, _⟩ => ⟨S4x2x2x4x86016x128, .f32⟩
  | .hbm, ⟨2, _⟩ => ⟨S_, .f32⟩
  | .hbm, ⟨3, _⟩ => ⟨S4x2x4x86016x128, .f32⟩
  | .hbm, ⟨4, _⟩ => ⟨S32x86016x128, .f32⟩
  | _, _ => ⟨S16x4x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ChipSum.lean ====
abbrev S4x86016x128 : Shape := ⟨3, ![4, 86016, 128]⟩
abbrev S3 : Shape := ⟨1, ![3]⟩
abbrev S_ : Shape := ⟨0, ![]⟩
abbrev S1x86016x128 : Shape := ⟨3, ![1, 86016, 128]⟩
abbrev S86016x128 : Shape := ⟨2, ![86016, 128]⟩
abbrev S1 : Shape := ⟨1, ![1]⟩
abbrev S4x2048x128 : Shape := ⟨3, ![4, 2048, 128]⟩
abbrev S2048x128 : Shape := ⟨2, ![2048, 128]⟩
abbrev S1x2048x128 : Shape := ⟨3, ![1, 2048, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x86016x128, .f32⟩
  | .hbm, ⟨1, _⟩ => ⟨S4x86016x128, .f32⟩
  | .hbm, ⟨2, _⟩ => ⟨S86016x128, .f32⟩
  | .local _ .vmem, ⟨0, _⟩ => ⟨S4x2048x128, .f32⟩
  | .local _ .vmem, ⟨1, _⟩ => ⟨S4x2048x128, .f32⟩
  | .local _ .vmem, ⟨2, _⟩ => ⟨S2048x128, .f32⟩
  | .local _ .vmem, ⟨3, _⟩ => ⟨S2048x128, .f32⟩
  | _, _ => ⟨S4x86016x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
abbrev grid1 : Pipeline.Grid := ⟨1, ![42], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ChipSumRef.lean ====
abbrev S32x86016x128 : Shape := ⟨3, ![32, 86016, 128]⟩
abbrev S4x2x4x86016x128 : Shape := ⟨5, ![4, 2, 4, 86016, 128]⟩
abbrev S_ : Shape := ⟨0, ![]⟩
abbrev S2x4x86016x128 : Shape := ⟨4, ![2, 4, 86016, 128]⟩
abbrev S4x2x86016x128 : Shape := ⟨4, ![4, 2, 86016, 128]⟩
abbrev S688128x128 : Shape := ⟨2, ![688128, 128]⟩

abbrev nBuf : Space → Nat
  | .hbm => 6
  | .vmem => 0
  | .smem => 0
  | _ => 0

abbrev bufTy : (tb : Table) → Fin (tcTables nBuf tb) → BufTy
  | .hbm, ⟨0, _⟩ => ⟨S32x86016x128, .f32⟩
  | .hbm, ⟨1, _⟩ => ⟨S4x2x4x86016x128, .f32⟩
  | .hbm, ⟨2, _⟩ => ⟨S_, .f32⟩
  | .hbm, ⟨3, _⟩ => ⟨S2x4x86016x128, .f32⟩
  | .hbm, ⟨4, _⟩ => ⟨S4x2x86016x128, .f32⟩
  | .hbm, ⟨5, _⟩ => ⟨S688128x128, .f32⟩
  | _, _ => ⟨S32x86016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Adamw.lean ====
abbrev S172032x128 : Shape := ⟨2, ![172032, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S172032x128, .f32⟩
  | .hbm, ⟨1, _⟩ => ⟨S172032x128, .f32⟩
  | .hbm, ⟨2, _⟩ => ⟨S172032x128, .f32⟩
  | .hbm, ⟨3, _⟩ => ⟨S172032x128, .f32⟩
  | .hbm, ⟨4, _⟩ => ⟨S172032x128, .f32⟩
  | .hbm, ⟨5, _⟩ => ⟨S172032x128, .f32⟩
  | .hbm, ⟨6, _⟩ => ⟨S172032x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S172032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![84], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRef.lean ====
abbrev S172032x128 : Shape := ⟨2, ![172032, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S172032x128, .f32⟩
  | .hbm, ⟨1, _⟩ => ⟨S172032x128, .f32⟩
  | .hbm, ⟨2, _⟩ => ⟨S172032x128, .f32⟩
  | .hbm, ⟨3, _⟩ => ⟨S172032x128, .f32⟩
  | .hbm, ⟨4, _⟩ => ⟨S_, .f32⟩
  | .hbm, ⟨5, _⟩ => ⟨S172032x128, .f32⟩
  | .hbm, ⟨6, _⟩ => ⟨S172032x128, .f32⟩
  | .hbm, ⟨7, _⟩ => ⟨S_, .f32⟩
  | .hbm, ⟨8, _⟩ => ⟨S172032x128, .f32⟩
  | .hbm, ⟨9, _⟩ => ⟨S172032x128, .f32⟩
  | .hbm, ⟨10, _⟩ => ⟨S172032x128, .f32⟩
  | .hbm, ⟨11, _⟩ => ⟨S_, .f32⟩
  | .hbm, ⟨12, _⟩ => ⟨S172032x128, .f32⟩
  | .hbm, ⟨13, _⟩ => ⟨S172032x128, .f32⟩
  | .hbm, ⟨14, _⟩ => ⟨S172032x128, .f32⟩
  | .hbm, ⟨15, _⟩ => ⟨S_, .f32⟩
  | .hbm, ⟨16, _⟩ => ⟨S172032x128, .f32⟩
  | .hbm, ⟨17, _⟩ => ⟨S172032x128, .f32⟩
  | .hbm, ⟨18, _⟩ => ⟨S172032x128, .f32⟩
  | .hbm, ⟨19, _⟩ => ⟨S_, .f32⟩
  | .hbm, ⟨20, _⟩ => ⟨S172032x128, .f32⟩
  | .hbm, ⟨21, _⟩ => ⟨S172032x128, .f32⟩
  | .hbm, ⟨22, _⟩ => ⟨S_, .f32⟩
  | .hbm, ⟨23, _⟩ => ⟨S172032x128, .f32⟩
  | .hbm, ⟨24, _⟩ => ⟨S172032x128, .f32⟩
  | .hbm, ⟨25, _⟩ => ⟨S172032x128, .f32⟩
  | .hbm, ⟨26, _⟩ => ⟨S_, .f32⟩
  | .hbm, ⟨27, _⟩ => ⟨S172032x128, .f32⟩
  | .hbm, ⟨28, _⟩ => ⟨S172032x128, .f32⟩
  | .hbm, ⟨29, _⟩ => ⟨S172032x128, .f32⟩
  | .hbm, ⟨30, _⟩ => ⟨S_, .f32⟩
  | .hbm, ⟨31, _⟩ => ⟨S172032x128, .f32⟩
  | .hbm, ⟨32, _⟩ => ⟨S172032x128, .f32⟩
  | .hbm, ⟨33, _⟩ => ⟨S172032x128, .f32⟩
  | .hbm, ⟨34, _⟩ => ⟨S_, .f32⟩
  | .hbm, ⟨35, _⟩ => ⟨S172032x128, .f32⟩
  | .hbm, ⟨36, _⟩ => ⟨S172032x128, .f32⟩
  | _, _ => ⟨S172032x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRefIdeal.lean ====
abbrev S172032x128 : Shape := ⟨2, ![172032, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S172032x128, .f32⟩
  | .hbm, ⟨1, _⟩ => ⟨S172032x128, .f32⟩
  | .hbm, ⟨2, _⟩ => ⟨S172032x128, .f32⟩
  | .hbm, ⟨3, _⟩ => ⟨S172032x128, .f32⟩
  | .hbm, ⟨4, _⟩ => ⟨S_, .f32⟩
  | .hbm, ⟨5, _⟩ => ⟨S172032x128, .f32⟩
  | .hbm, ⟨6, _⟩ => ⟨S172032x128, .f32⟩
  | .hbm, ⟨7, _⟩ => ⟨S_, .f32⟩
  | .hbm, ⟨8, _⟩ => ⟨S172032x128, .f32⟩
  | .hbm, ⟨9, _⟩ => ⟨S172032x128, .f32⟩
  | .hbm, ⟨10, _⟩ => ⟨S172032x128, .f32⟩
  | .hbm, ⟨11, _⟩ => ⟨S_, .f32⟩
  | .hbm, ⟨12, _⟩ => ⟨S172032x128, .f32⟩
  | .hbm, ⟨13, _⟩ => ⟨S172032x128, .f32⟩
  | .hbm, ⟨14, _⟩ => ⟨S172032x128, .f32⟩
  | .hbm, ⟨15, _⟩ => ⟨S_, .f32⟩
  | .hbm, ⟨16, _⟩ => ⟨S172032x128, .f32⟩
  | .hbm, ⟨17, _⟩ => ⟨S172032x128, .f32⟩
  | .hbm, ⟨18, _⟩ => ⟨S172032x128, .f32⟩
  | .hbm, ⟨19, _⟩ => ⟨S_, .f32⟩
  | .hbm, ⟨20, _⟩ => ⟨S172032x128, .f32⟩
  | .hbm, ⟨21, _⟩ => ⟨S172032x128, .f32⟩
  | .hbm, ⟨22, _⟩ => ⟨S_, .f32⟩
  | .hbm, ⟨23, _⟩ => ⟨S172032x128, .f32⟩
  | .hbm, ⟨24, _⟩ => ⟨S172032x128, .f32⟩
  | .hbm, ⟨25, _⟩ => ⟨S172032x128, .f32⟩
  | .hbm, ⟨26, _⟩ => ⟨S_, .f32⟩
  | .hbm, ⟨27, _⟩ => ⟨S172032x128, .f32⟩
  | .hbm, ⟨28, _⟩ => ⟨S172032x128, .f32⟩
  | .hbm, ⟨29, _⟩ => ⟨S172032x128, .f32⟩
  | .hbm, ⟨30, _⟩ => ⟨S_, .f32⟩
  | .hbm, ⟨31, _⟩ => ⟨S172032x128, .f32⟩
  | .hbm, ⟨32, _⟩ => ⟨S172032x128, .f32⟩
  | .hbm, ⟨33, _⟩ => ⟨S172032x128, .f32⟩
  | .hbm, ⟨34, _⟩ => ⟨S_, .f32⟩
  | .hbm, ⟨35, _⟩ => ⟨S172032x128, .f32⟩
  | .hbm, ⟨36, _⟩ => ⟨S172032x128, .f32⟩
  | _, _ => ⟨S172032x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S424x128 : Shape := ⟨2, ![424, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S424x128, .f32⟩
  | .hbm, ⟨5, _⟩ => ⟨S424x128, .f32⟩
  | .hbm, ⟨6, _⟩ => ⟨S424x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S424x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![53], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRef.lean ====
abbrev S424x128 : Shape := ⟨2, ![424, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S424x128, .f32⟩
  | .hbm, ⟨1, _⟩ => ⟨S424x128, .f32⟩
  | .hbm, ⟨2, _⟩ => ⟨S424x128, .f32⟩
  | .hbm, ⟨3, _⟩ => ⟨S424x128, .f32⟩
  | .hbm, ⟨4, _⟩ => ⟨S_, .f32⟩
  | .hbm, ⟨5, _⟩ => ⟨S424x128, .f32⟩
  | .hbm, ⟨6, _⟩ => ⟨S424x128, .f32⟩
  | .hbm, ⟨7, _⟩ => ⟨S_, .f32⟩
  | .hbm, ⟨8, _⟩ => ⟨S424x128, .f32⟩
  | .hbm, ⟨9, _⟩ => ⟨S424x128, .f32⟩
  | .hbm, ⟨10, _⟩ => ⟨S424x128, .f32⟩
  | .hbm, ⟨11, _⟩ => ⟨S_, .f32⟩
  | .hbm, ⟨12, _⟩ => ⟨S424x128, .f32⟩
  | .hbm, ⟨13, _⟩ => ⟨S424x128, .f32⟩
  | .hbm, ⟨14, _⟩ => ⟨S424x128, .f32⟩
  | .hbm, ⟨15, _⟩ => ⟨S_, .f32⟩
  | .hbm, ⟨16, _⟩ => ⟨S424x128, .f32⟩
  | .hbm, ⟨17, _⟩ => ⟨S424x128, .f32⟩
  | .hbm, ⟨18, _⟩ => ⟨S424x128, .f32⟩
  | .hbm, ⟨19, _⟩ => ⟨S_, .f32⟩
  | .hbm, ⟨20, _⟩ => ⟨S424x128, .f32⟩
  | .hbm, ⟨21, _⟩ => ⟨S424x128, .f32⟩
  | .hbm, ⟨22, _⟩ => ⟨S_, .f32⟩
  | .hbm, ⟨23, _⟩ => ⟨S424x128, .f32⟩
  | .hbm, ⟨24, _⟩ => ⟨S424x128, .f32⟩
  | .hbm, ⟨25, _⟩ => ⟨S424x128, .f32⟩
  | .hbm, ⟨26, _⟩ => ⟨S_, .f32⟩
  | .hbm, ⟨27, _⟩ => ⟨S424x128, .f32⟩
  | .hbm, ⟨28, _⟩ => ⟨S424x128, .f32⟩
  | .hbm, ⟨29, _⟩ => ⟨S424x128, .f32⟩
  | .hbm, ⟨30, _⟩ => ⟨S_, .f32⟩
  | .hbm, ⟨31, _⟩ => ⟨S424x128, .f32⟩
  | .hbm, ⟨32, _⟩ => ⟨S424x128, .f32⟩
  | .hbm, ⟨33, _⟩ => ⟨S424x128, .f32⟩
  | .hbm, ⟨34, _⟩ => ⟨S_, .f32⟩
  | .hbm, ⟨35, _⟩ => ⟨S424x128, .f32⟩
  | .hbm, ⟨36, _⟩ => ⟨S424x128, .f32⟩
  | _, _ => ⟨S424x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== LossHead.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRef.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== In.lean ====
abbrev S8192x1024 : Shape := ⟨2, ![8192, 1024]⟩
abbrev S1024x8320 : Shape := ⟨2, ![1024, 8320]⟩
abbrev S8192x8320 : Shape := ⟨2, ![8192, 8320]⟩
abbrev S512x1024 : Shape := ⟨2, ![512, 1024]⟩
abbrev S1024x1664 : Shape := ⟨2, ![1024, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S8192x8320, .f32⟩
  | .local _ .vmem, ⟨0, _⟩ => ⟨S512x1024, .f32⟩
  | .local _ .vmem, ⟨1, _⟩ => ⟨S512x1024, .f32⟩
  | .local _ .vmem, ⟨2, _⟩ => ⟨S1024x1664, .f32⟩
  | .local _ .vmem, ⟨3, _⟩ => ⟨S1024x1664, .f32⟩
  | .local _ .vmem, ⟨4, _⟩ => ⟨S512x1664, .f32⟩
  | .local _ .vmem, ⟨5, _⟩ => ⟨S512x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x1024 : Shape := ⟨2, ![8192, 1024]⟩
abbrev S1024x8320 : Shape := ⟨2, ![1024, 8320]⟩
abbrev S8192x8320 : Shape := ⟨2, ![8192, 8320]⟩
abbrev S512x1024 : Shape := ⟨2, ![512, 1024]⟩
abbrev S1024x1664 : Shape := ⟨2, ![1024, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S8192x8320, .f32⟩
  | .local _ .vmem, ⟨0, _⟩ => ⟨S512x1024, .f32⟩
  | .local _ .vmem, ⟨1, _⟩ => ⟨S512x1024, .f32⟩
  | .local _ .vmem, ⟨2, _⟩ => ⟨S1024x1664, .f32⟩
  | .local _ .vmem, ⟨3, _⟩ => ⟨S1024x1664, .f32⟩
  | .local _ .vmem, ⟨4, _⟩ => ⟨S512x1664, .f32⟩
  | .local _ .vmem, ⟨5, _⟩ => ⟨S512x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRef.lean ====
abbrev S8192x1024 : Shape := ⟨2, ![8192, 1024]⟩
abbrev S1024x8320 : Shape := ⟨2, ![1024, 8320]⟩
abbrev S8192x8320 : Shape := ⟨2, ![8192, 8320]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S8192x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InRefIdeal.lean ====
abbrev S8192x1024 : Shape := ⟨2, ![8192, 1024]⟩
abbrev S1024x8320 : Shape := ⟨2, ![1024, 8320]⟩
abbrev S8192x8320 : Shape := ⟨2, ![8192, 8320]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8320, .f32⟩
  | .hbm, ⟨2, _⟩ => ⟨S8192x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDa.lean ====
abbrev S8192x8320 : Shape := ⟨2, ![8192, 8320]⟩
abbrev S1024x8320 : Shape := ⟨2, ![1024, 8320]⟩
abbrev S8192x1024 : Shape := ⟨2, ![8192, 1024]⟩
abbrev S512x640 : Shape := ⟨2, ![512, 640]⟩
abbrev S1024x640 : Shape := ⟨2, ![1024, 640]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S8192x1024, .f32⟩
  | .local _ .vmem, ⟨0, _⟩ => ⟨S512x640, .f32⟩
  | .local _ .vmem, ⟨1, _⟩ => ⟨S512x640, .f32⟩
  | .local _ .vmem, ⟨2, _⟩ => ⟨S1024x640, .f32⟩
  | .local _ .vmem, ⟨3, _⟩ => ⟨S1024x640, .f32⟩
  | .local _ .vmem, ⟨4, _⟩ => ⟨S512x1024, .f32⟩
  | .local _ .vmem, ⟨5, _⟩ => ⟨S512x1024, .f32⟩
  | _, _ => ⟨S8192x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaIdeal.lean ====
abbrev S8192x8320 : Shape := ⟨2, ![8192, 8320]⟩
abbrev S1024x8320 : Shape := ⟨2, ![1024, 8320]⟩
abbrev S8192x1024 : Shape := ⟨2, ![8192, 1024]⟩
abbrev S512x640 : Shape := ⟨2, ![512, 640]⟩
abbrev S1024x640 : Shape := ⟨2, ![1024, 640]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S8192x1024, .f32⟩
  | .local _ .vmem, ⟨0, _⟩ => ⟨S512x640, .f32⟩
  | .local _ .vmem, ⟨1, _⟩ => ⟨S512x640, .f32⟩
  | .local _ .vmem, ⟨2, _⟩ => ⟨S1024x640, .f32⟩
  | .local _ .vmem, ⟨3, _⟩ => ⟨S1024x640, .f32⟩
  | .local _ .vmem, ⟨4, _⟩ => ⟨S512x1024, .f32⟩
  | .local _ .vmem, ⟨5, _⟩ => ⟨S512x1024, .f32⟩
  | _, _ => ⟨S8192x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 13], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaRef.lean ====
abbrev S8192x8320 : Shape := ⟨2, ![8192, 8320]⟩
abbrev S1024x8320 : Shape := ⟨2, ![1024, 8320]⟩
abbrev S8320x1024 : Shape := ⟨2, ![8320, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S8320x1024, .f32⟩
  | .hbm, ⟨3, _⟩ => ⟨S8192x1024, .f32⟩
  | _, _ => ⟨S8192x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDaRefIdeal.lean ====
abbrev S8192x8320 : Shape := ⟨2, ![8192, 8320]⟩
abbrev S1024x8320 : Shape := ⟨2, ![1024, 8320]⟩
abbrev S8320x1024 : Shape := ⟨2, ![8320, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x8320, .f32⟩
  | .hbm, ⟨1, _⟩ => ⟨S1024x8320, .f32⟩
  | .hbm, ⟨2, _⟩ => ⟨S8320x1024, .f32⟩
  | .hbm, ⟨3, _⟩ => ⟨S8192x1024, .f32⟩
  | _, _ => ⟨S8192x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDw.lean ====
abbrev S8192x1024 : Shape := ⟨2, ![8192, 1024]⟩
abbrev S8192x8320 : Shape := ⟨2, ![8192, 8320]⟩
abbrev S1024x8320 : Shape := ⟨2, ![1024, 8320]⟩
abbrev S1024x512 : Shape := ⟨2, ![1024, 512]⟩
abbrev S1024x1664 : Shape := ⟨2, ![1024, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8320, .f32⟩
  | .local _ .vmem, ⟨0, _⟩ => ⟨S1024x512, .f32⟩
  | .local _ .vmem, ⟨1, _⟩ => ⟨S1024x512, .f32⟩
  | .local _ .vmem, ⟨2, _⟩ => ⟨S1024x1664, .f32⟩
  | .local _ .vmem, ⟨3, _⟩ => ⟨S1024x1664, .f32⟩
  | .local _ .vmem, ⟨4, _⟩ => ⟨S512x1664, .f32⟩
  | .local _ .vmem, ⟨5, _⟩ => ⟨S512x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x1024 : Shape := ⟨2, ![8192, 1024]⟩
abbrev S8192x8320 : Shape := ⟨2, ![8192, 8320]⟩
abbrev S1024x8320 : Shape := ⟨2, ![1024, 8320]⟩
abbrev S1024x512 : Shape := ⟨2, ![1024, 512]⟩
abbrev S1024x1664 : Shape := ⟨2, ![1024, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8320, .f32⟩
  | .local _ .vmem, ⟨0, _⟩ => ⟨S1024x512, .f32⟩
  | .local _ .vmem, ⟨1, _⟩ => ⟨S1024x512, .f32⟩
  | .local _ .vmem, ⟨2, _⟩ => ⟨S1024x1664, .f32⟩
  | .local _ .vmem, ⟨3, _⟩ => ⟨S1024x1664, .f32⟩
  | .local _ .vmem, ⟨4, _⟩ => ⟨S512x1664, .f32⟩
  | .local _ .vmem, ⟨5, _⟩ => ⟨S512x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRef.lean ====
abbrev S8192x1024 : Shape := ⟨2, ![8192, 1024]⟩
abbrev S8192x8320 : Shape := ⟨2, ![8192, 8320]⟩
abbrev S1024x8192 : Shape := ⟨2, ![1024, 8192]⟩
abbrev S1024x8320 : Shape := ⟨2, ![1024, 8320]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8192, .f32⟩
  | .hbm, ⟨3, _⟩ => ⟨S1024x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDwRefIdeal.lean ====
abbrev S8192x1024 : Shape := ⟨2, ![8192, 1024]⟩
abbrev S8192x8320 : Shape := ⟨2, ![8192, 8320]⟩
abbrev S1024x8192 : Shape := ⟨2, ![1024, 8192]⟩
abbrev S1024x8320 : Shape := ⟨2, ![1024, 8320]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8320, .f32⟩
  | .hbm, ⟨2, _⟩ => ⟨S1024x8192, .f32⟩
  | .hbm, ⟨3, _⟩ => ⟨S1024x8320, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Branch.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchIdeal.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRef.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDa.lean ====
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .f32⟩
  | .local _ .vmem, ⟨4, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDaIdeal.lean ====
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .f32⟩
  | .local _ .vmem, ⟨4, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDaRef.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S1024x512, .f32⟩
  | .hbm, ⟨3, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchDaRefIdeal.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S1024x512, .f32⟩
  | .hbm, ⟨3, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchDw.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwIdeal.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRef.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x8192, .f32⟩
  | .hbm, ⟨3, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchDwRefIdeal.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x8192, .f32⟩
  | .hbm, ⟨3, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRef.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDa.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaRef.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDaRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRef.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Query.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryIdeal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRef.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryRefIdeal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QueryDa.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDaIdeal.lean ====
abbrev S8192x512 : Shape := ⟨2, ![8192, 512]⟩
abbrev S1024x512 : Shape := ⟨2, ![1024, 512]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S512x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDaRef.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S512x1024, .f32⟩
  | .hbm, ⟨3, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryDaRefIdeal.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S512x1024, .f32⟩
  | .hbm, ⟨3, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryDw.lean ====
abbrev S8192x1024 : Shape := ⟨2, ![8192, 1024]⟩
abbrev S8192x512 : Shape := ⟨2, ![8192, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDwIdeal.lean ====
abbrev S8192x1024 : Shape := ⟨2, ![8192, 1024]⟩
abbrev S8192x512 : Shape := ⟨2, ![8192, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDwRef.lean ====
abbrev S8192x1024 : Shape := ⟨2, ![8192, 1024]⟩
abbrev S8192x512 : Shape := ⟨2, ![8192, 512]⟩
abbrev S1024x8192 : Shape := ⟨2, ![1024, 8192]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x8192, .f32⟩
  | .hbm, ⟨3, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryDwRefIdeal.lean ====
abbrev S8192x1024 : Shape := ⟨2, ![8192, 1024]⟩
abbrev S8192x512 : Shape := ⟨2, ![8192, 512]⟩
abbrev S1024x8192 : Shape := ⟨2, ![1024, 8192]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x8192, .f32⟩
  | .hbm, ⟨3, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Memory.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryIdeal.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryRef.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemoryRefIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemoryDa.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryDaIdeal.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryDaRef.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemoryDaRefIdeal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemoryDw.lean ====
abbrev S256x1024 : Shape := ⟨2, ![256, 1024]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S512x1024, .f32⟩
  | .local _ .vmem, ⟨4, _⟩ => ⟨S512x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryDwIdeal.lean ====
abbrev S256x1024 : Shape := ⟨2, ![256, 1024]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S512x1024, .f32⟩
  | .local _ .vmem, ⟨4, _⟩ => ⟨S512x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemoryDwRef.lean ====
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x256, .f32⟩
  | .hbm, ⟨3, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemoryDwRefIdeal.lean ====
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x256, .f32⟩
  | .hbm, ⟨3, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S1024x1408, .f32⟩
  | .local _ .vmem, ⟨3, _⟩ => ⟨S1024x1408, .f32⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S1024x1408, .f32⟩
  | .local _ .vmem, ⟨3, _⟩ => ⟨S1024x1408, .f32⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRef.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDa.lean ====
abbrev S8192x5632 : Shape := ⟨2, ![8192, 5632]⟩
abbrev S1024x5632 : Shape := ⟨2, ![1024, 5632]⟩
abbrev S8192x1024 : Shape := ⟨2, ![8192, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .local _ .vmem, ⟨0, _⟩ => ⟨S512x1408, .f32⟩
  | .local _ .vmem, ⟨1, _⟩ => ⟨S512x1408, .f32⟩
  | .local _ .vmem, ⟨2, _⟩ => ⟨S1024x1408, .f32⟩
  | .local _ .vmem, ⟨3, _⟩ => ⟨S1024x1408, .f32⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaIdeal.lean ====
abbrev S8192x5632 : Shape := ⟨2, ![8192, 5632]⟩
abbrev S1024x5632 : Shape := ⟨2, ![1024, 5632]⟩
abbrev S8192x1024 : Shape := ⟨2, ![8192, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .local _ .vmem, ⟨0, _⟩ => ⟨S512x1408, .f32⟩
  | .local _ .vmem, ⟨1, _⟩ => ⟨S512x1408, .f32⟩
  | .local _ .vmem, ⟨2, _⟩ => ⟨S1024x1408, .f32⟩
  | .local _ .vmem, ⟨3, _⟩ => ⟨S1024x1408, .f32⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaRef.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S5632x1024, .f32⟩
  | .hbm, ⟨3, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDaRefIdeal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S5632x1024, .f32⟩
  | .hbm, ⟨3, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x5632, .f32⟩
  | .local _ .vmem, ⟨0, _⟩ => ⟨S1024x512, .f32⟩
  | .local _ .vmem, ⟨1, _⟩ => ⟨S1024x512, .f32⟩
  | .local _ .vmem, ⟨2, _⟩ => ⟨S1024x1408, .f32⟩
  | .local _ .vmem, ⟨3, _⟩ => ⟨S1024x1408, .f32⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x5632 : Shape := ⟨2, ![8192, 5632]⟩
abbrev S1024x5632 : Shape := ⟨2, ![1024, 5632]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x5632, .f32⟩
  | .local _ .vmem, ⟨0, _⟩ => ⟨S1024x512, .f32⟩
  | .local _ .vmem, ⟨1, _⟩ => ⟨S1024x512, .f32⟩
  | .local _ .vmem, ⟨2, _⟩ => ⟨S1024x1408, .f32⟩
  | .local _ .vmem, ⟨3, _⟩ => ⟨S1024x1408, .f32⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRef.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x8192, .f32⟩
  | .hbm, ⟨3, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDwRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024x8192, .f32⟩
  | .hbm, ⟨3, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .local _ .vmem, ⟨0, _⟩ => ⟨S512x1408, .f32⟩
  | .local _ .vmem, ⟨1, _⟩ => ⟨S512x1408, .f32⟩
  | .local _ .vmem, ⟨2, _⟩ => ⟨S1408x1024, .f32⟩
  | .local _ .vmem, ⟨3, _⟩ => ⟨S1408x1024, .f32⟩
  | .local _ .vmem, ⟨4, _⟩ => ⟨S512x1024, .f32⟩
  | .local _ .vmem, ⟨5, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRef.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDa.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .f32⟩
  | .local _ .vmem, ⟨3, _⟩ => ⟨S1408x1024, .f32⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRef.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S1024x2816, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRef.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnScan.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S128x4x128x128 : Shape := ⟨4, ![128, 4, 128, 128]⟩
abbrev S1x4x64x128 : Shape := ⟨4, ![1, 4, 64, 128]⟩
abbrev S1x4x64x64 : Shape := ⟨4, ![1, 4, 64, 64]⟩
abbrev S1x4x1x128 : Shape := ⟨4, ![1, 4, 1, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S1x128 : Shape := ⟨2, ![1, 128]⟩

abbrev nBuf : Space → Nat
  | .hbm => 8
  | .vmem => 17
  | .smem => 0
  | _ => 0

abbrev bufTy : (tb : Table) → Fin (tcTables nBuf tb) → BufTy
  | .hbm, ⟨0, _⟩ => ⟨S128x4x64x128, .f32⟩
  | .hbm, ⟨1, _⟩ => ⟨S128x4x64x128, .f32⟩
  | .hbm, ⟨2, _⟩ => ⟨S128x4x64x128, .f32⟩
  | .hbm, ⟨3, _⟩ => ⟨S128x4x64x64, .f32⟩
  | .hbm, ⟨4, _⟩ => ⟨S128x4x64x128, .f32⟩
  | .hbm, ⟨5, _⟩ => ⟨S128x4x1x128, .f32⟩
  | .hbm, ⟨6, _⟩ => ⟨S128x4x64x128, .f32⟩
  | .hbm, ⟨7, _⟩ => ⟨S128x4x128x128, .f32⟩
  | .local _ .vmem, ⟨0, _⟩ => ⟨S1x4x64x128, .f32⟩
  | .local _ .vmem, ⟨1, _⟩ => ⟨S1x4x64x128, .f32⟩
  | .local _ .vmem, ⟨2, _⟩ => ⟨S1x4x64x128, .f32⟩
  | .local _ .vmem, ⟨3, _⟩ => ⟨S1x4x64x128, .f32⟩
  | .local _ .vmem, ⟨4, _⟩ => ⟨S1x4x64x128, .f32⟩
  | .local _ .vmem, ⟨5, _⟩ => ⟨S1x4x64x128, .f32⟩
  | .local _ .vmem, ⟨6, _⟩ => ⟨S1x4x64x64, .f32⟩
  | .local _ .vmem, ⟨7, _⟩ => ⟨S1x4x64x64, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x1x128, .f32⟩
  | .local _ .vmem, ⟨11, _⟩ => ⟨S1x4x1x128, .f32⟩
  | .local _ .vmem, ⟨12, _⟩ => ⟨S1x4x64x128, .f32⟩
  | .local _ .vmem, ⟨13, _⟩ => ⟨S1x4x64x128, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | _, _ => ⟨S128x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnScanRef.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S_ : Shape := ⟨0, ![]⟩
abbrev S4x128x128 : Shape := ⟨3, ![4, 128, 128]⟩
abbrev S128x4x128x128 : Shape := ⟨4, ![128, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x4x128x128 : Shape := ⟨4, ![1, 4, 128, 128]⟩

abbrev nBuf : Space → Nat
  | .hbm => 76
  | .vmem => 0
  | .smem => 0
  | _ => 0

abbrev bufTy : (tb : Table) → Fin (tcTables nBuf tb) → BufTy
  | .hbm, ⟨0, _⟩ => ⟨S128x4x64x128, .f32⟩
  | .hbm, ⟨1, _⟩ => ⟨S128x4x64x128, .f32⟩
  | .hbm, ⟨2, _⟩ => ⟨S128x4x64x128, .f32⟩
  | .hbm, ⟨3, _⟩ => ⟨S128x4x64x64, .f32⟩
  | .hbm, ⟨4, _⟩ => ⟨S128x4x64x128, .f32⟩
  | .hbm, ⟨5, _⟩ => ⟨S128x4x1x128, .f32⟩
  | .hbm, ⟨6, _⟩ => ⟨S_, .f32⟩
  | .hbm, ⟨7, _⟩ => ⟨S4x128x128, .f32⟩
  | .hbm, ⟨8, _⟩ => ⟨S_, .f32⟩
  | .hbm, ⟨9, _⟩ => ⟨S128x4x64x128, .f32⟩
  | .hbm, ⟨10, _⟩ => ⟨S_, .f32⟩
  | .hbm, ⟨11, _⟩ => ⟨S128x4x128x128, .f32⟩
  | .hbm, ⟨12, _⟩ => ⟨S_, .i32⟩
  | .hbm, ⟨13, _⟩ => ⟨S128x4x64x128, .f32⟩
  | .hbm, ⟨14, _⟩ => ⟨S128x4x64x128, .f32⟩
  | .hbm, ⟨15, _⟩ => ⟨S128x4x64x128, .f32⟩
  | .hbm, ⟨16, _⟩ => ⟨S128x4x64x64, .f32⟩
  | .hbm, ⟨17, _⟩ => ⟨S128x4x64x128, .f32⟩
  | .hbm, ⟨18, _⟩ => ⟨S128x4x1x128, .f32⟩
  | .hbm, ⟨19, _⟩ => ⟨S_, .i32⟩
  | .hbm, ⟨20, _⟩ => ⟨S4x128x128, .f32⟩
  | .hbm, ⟨21, _⟩ => ⟨S128x4x64x128, .f32⟩
  | .hbm, ⟨22, _⟩ => ⟨S128x4x128x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x4x64x128, .f32⟩
  | .hbm, ⟨29, _⟩ => ⟨S4x64x128, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x4x64x128, .f32⟩
  | .hbm, ⟨34, _⟩ => ⟨S4x64x128, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x4x64x128, .f32⟩
  | .hbm, ⟨39, _⟩ => ⟨S4x64x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x64x64, .f32⟩
  | .hbm, ⟨44, _⟩ => ⟨S4x64x64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x4x64x128, .f32⟩
  | .hbm, ⟨49, _⟩ => ⟨S4x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x1x128, .f32⟩
  | .hbm, ⟨54, _⟩ => ⟨S4x1x128, .f32⟩
  | .hbm, ⟨55, _⟩ => ⟨S4x64x128, .f32⟩
  | .hbm, ⟨56, _⟩ => ⟨S4x64x128, .f32⟩
  | .hbm, ⟨57, _⟩ => ⟨S4x64x128, .f32⟩
  | .hbm, ⟨58, _⟩ => ⟨S4x64x128, .f32⟩
  | .hbm, ⟨59, _⟩ => ⟨S4x64x128, .f32⟩
  | .hbm, ⟨60, _⟩ => ⟨S4x128x128, .f32⟩
  | .hbm, ⟨61, _⟩ => ⟨S4x128x128, .f32⟩
  | .hbm, ⟨62, _⟩ => ⟨S4x128x128, .f32⟩
  | .hbm, ⟨63, _⟩ => ⟨S4x128x128, .f32⟩
  | .hbm, ⟨64, _⟩ => ⟨S1x4x64x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S128x4x64x128, .f32⟩
  | .hbm, ⟨69, _⟩ => ⟨S1x4x128x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S128x4x128x128, .f32⟩
  | .hbm, ⟨74, _⟩ => ⟨S_, .i32⟩
  | .hbm, ⟨75, _⟩ => ⟨S_, .i32⟩
  | _, _ => ⟨S128x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_c : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev main_while0c_c_11 : Ref sig .tc := ⟨.hbm, 23, rfl⟩
abbrev main_while0c_v4 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_c_1 : Ref sig .tc := ⟨.hbm, 27, rfl⟩
abbrev main_while0b_call0_v0 : Ref sig .tc := ⟨.hbm, 28, rfl⟩
abbrev main_while0b_v4 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_call1_c_1 : Ref sig .tc := ⟨.hbm, 32, rfl⟩
abbrev main_while0b_call1_v0 : Ref sig .tc := ⟨.hbm, 33, rfl⟩
abbrev main_while0b_v5 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_v0 : Ref sig .tc := ⟨.hbm, 38, rfl⟩
abbrev main_while0b_v6 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_c_1 : Ref sig .tc := ⟨.hbm, 42, rfl⟩
abbrev main_while0b_call3_v0 : Ref sig .tc := ⟨.hbm, 43, rfl⟩
abbrev main_while0b_v7 : Ref sig .tc := ⟨.hbm, 44, rfl⟩
abbrev main_while0b_call4_c : Ref sig .tc := ⟨.hbm, 45, rfl⟩
abbrev main_while0b_call4_c_0 : Ref sig .tc := ⟨.hbm, 46, rfl⟩
abbrev main_while0b_call4_c_1 : Ref sig .tc := ⟨.hbm, 47, rfl⟩
abbrev main_while0b_call4_v0 : Ref sig .tc := ⟨.hbm, 48, rfl⟩
abbrev main_while0b_v8 : Ref sig .tc := ⟨.hbm, 49, rfl⟩
abbrev main_while0b_call5_c : Ref sig .tc := ⟨.hbm, 50, rfl⟩
abbrev main_while0b_call5_c_0 : Ref sig .tc := ⟨.hbm, 51, rfl⟩
abbrev main_while0b_call5_c_1 : Ref sig .tc := ⟨.hbm, 52, rfl⟩
abbrev main_while0b_call5_v0 : Ref sig .tc := ⟨.hbm, 53, rfl⟩
abbrev main_while0b_v9 : Ref sig .tc := ⟨.hbm, 54, rfl⟩
abbrev main_while0b_v10 : Ref sig .tc := ⟨.hbm, 55, rfl⟩
abbrev main_while0b_v11 : Ref sig .tc := ⟨.hbm, 56, rfl⟩
abbrev main_while0b_v12 : Ref sig .tc := ⟨.hbm, 57, rfl⟩
abbrev main_while0b_v13 : Ref sig .tc := ⟨.hbm, 58, rfl⟩
abbrev main_while0b_v14 : Ref sig .tc := ⟨.hbm, 59, rfl⟩
abbrev main_while0b_v15 : Ref sig .tc := ⟨.hbm, 60, rfl⟩
abbrev main_while0b_v16 : Ref sig .tc := ⟨.hbm, 61, rfl⟩
abbrev main_while0b_v17 : Ref sig .tc := ⟨.hbm, 62, rfl⟩
abbrev main_while0b_v18 : Ref sig .tc := ⟨.hbm, 63, rfl⟩
abbrev main_while0b_call6_v0 : Ref sig .tc := ⟨.hbm, 64, rfl⟩
abbrev main_while0b_call6_c : Ref sig .tc := ⟨.hbm, 65, rfl⟩
abbrev main_while0b_call6_c_0 : Ref sig .tc := ⟨.hbm, 66, rfl⟩
abbrev main_while0b_call6_c_1 : Ref sig .tc := ⟨.hbm, 67, rfl⟩
abbrev main_while0b_v19 : Ref sig .tc := ⟨.hbm, 68, rfl⟩
abbrev main_while0b_call7_v0 : Ref sig .tc := ⟨.hbm, 69, rfl⟩
abbrev main_while0b_call7_c : Ref sig .tc := ⟨.hbm, 70, rfl⟩
abbrev main_while0b_call7_c_0 : Ref sig .tc := ⟨.hbm, 71, rfl⟩
abbrev main_while0b_call7_c_1 : Ref sig .tc := ⟨.hbm, 72, rfl⟩
abbrev main_while0b_v20 : Ref sig .tc := ⟨.hbm, 73, rfl⟩
abbrev main_while0b_c_11 : Ref sig .tc := ⟨.hbm, 74, rfl⟩
abbrev main_while0b_v21 : Ref sig .tc := ⟨.hbm, 75, rfl⟩

abbrev nD : Nat := 1
abbrev τ : Topo := Topo.v7x

variable {F : FTy → Type} [FloatOps F]

abbrev main_while0_count : Scf.Loop 32 := ⟨0#32, 128#32, 1#32⟩
-- ==== GdnGrad.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S128x4x128x128 : Shape := ⟨4, ![128, 4, 128, 128]⟩
abbrev S1x4x64x128 : Shape := ⟨4, ![1, 4, 64, 128]⟩
abbrev S1x4x64x64 : Shape := ⟨4, ![1, 4, 64, 64]⟩
abbrev S1x4x1x128 : Shape := ⟨4, ![1, 4, 1, 128]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S64x64 : Shape := ⟨2, ![64, 64]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 14
  | .vmem => 29
  | .smem => 0
  | _ => 0

abbrev bufTy : (tb : Table) → Fin (tcTables nBuf tb) → BufTy
  | .hbm, ⟨0, _⟩ => ⟨S128x4x64x128, .f32⟩
  | .hbm, ⟨1, _⟩ => ⟨S128x4x64x128, .f32⟩
  | .hbm, ⟨2, _⟩ => ⟨S128x4x64x128, .f32⟩
  | .hbm, ⟨3, _⟩ => ⟨S128x4x64x64, .f32⟩
  | .hbm, ⟨4, _⟩ => ⟨S128x4x64x128, .f32⟩
  | .hbm, ⟨5, _⟩ => ⟨S128x4x1x128, .f32⟩
  | .hbm, ⟨6, _⟩ => ⟨S128x4x128x128, .f32⟩
  | .hbm, ⟨7, _⟩ => ⟨S128x4x64x128, .f32⟩
  | .hbm, ⟨8, _⟩ => ⟨S128x4x64x128, .f32⟩
  | .hbm, ⟨9, _⟩ => ⟨S128x4x64x128, .f32⟩
  | .hbm, ⟨10, _⟩ => ⟨S128x4x64x128, .f32⟩
  | .hbm, ⟨11, _⟩ => ⟨S128x4x64x64, .f32⟩
  | .hbm, ⟨12, _⟩ => ⟨S128x4x64x128, .f32⟩
  | .hbm, ⟨13, _⟩ => ⟨S128x4x1x128, .f32⟩
  | .local _ .vmem, ⟨0, _⟩ => ⟨S1x4x64x128, .f32⟩
  | .local _ .vmem, ⟨1, _⟩ => ⟨S1x4x64x128, .f32⟩
  | .local _ .vmem, ⟨2, _⟩ => ⟨S1x4x64x128, .f32⟩
  | .local _ .vmem, ⟨3, _⟩ => ⟨S1x4x64x128, .f32⟩
  | .local _ .vmem, ⟨4, _⟩ => ⟨S1x4x64x128, .f32⟩
  | .local _ .vmem, ⟨5, _⟩ => ⟨S1x4x64x128, .f32⟩
  | .local _ .vmem, ⟨6, _⟩ => ⟨S1x4x64x64, .f32⟩
  | .local _ .vmem, ⟨7, _⟩ => ⟨S1x4x64x64, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x1x128, .f32⟩
  | .local _ .vmem, ⟨11, _⟩ => ⟨S1x4x1x128, .f32⟩
  | .local _ .vmem, ⟨12, _⟩ => ⟨S1x4x128x128, .f32⟩
  | .local _ .vmem, ⟨13, _⟩ => ⟨S1x4x128x128, .f32⟩
  | .local _ .vmem, ⟨14, _⟩ => ⟨S1x4x64x128, .f32⟩
  | .local _ .vmem, ⟨15, _⟩ => ⟨S1x4x64x128, .f32⟩
  | .local _ .vmem, ⟨16, _⟩ => ⟨S1x4x64x128, .f32⟩
  | .local _ .vmem, ⟨17, _⟩ => ⟨S1x4x64x128, .f32⟩
  | .local _ .vmem, ⟨18, _⟩ => ⟨S1x4x64x128, .f32⟩
  | .local _ .vmem, ⟨19, _⟩ => ⟨S1x4x64x128, .f32⟩
  | .local _ .vmem, ⟨20, _⟩ => ⟨S1x4x64x128, .f32⟩
  | .local _ .vmem, ⟨21, _⟩ => ⟨S1x4x64x128, .f32⟩
  | .local _ .vmem, ⟨22, _⟩ => ⟨S1x4x64x64, .f32⟩
  | .local _ .vmem, ⟨23, _⟩ => ⟨S1x4x64x64, .f32⟩
  | .local _ .vmem, ⟨24, _⟩ => ⟨S1x4x64x128, .f32⟩
  | .local _ .vmem, ⟨25, _⟩ => ⟨S1x4x64x128, .f32⟩
  | .local _ .vmem, ⟨26, _⟩ => ⟨S1x4x1x128, .f32⟩
  | .local _ .vmem, ⟨27, _⟩ => ⟨S1x4x1x128, .f32⟩
  | .local _ .vmem, ⟨28, _⟩ => ⟨S4x128x128, .f32⟩
  | _, _ => ⟨S128x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GdnGradRef.lean ====
abbrev S128x4x64x128 : Shape := ⟨4, ![128, 4, 64, 128]⟩
abbrev S128x4x64x64 : Shape := ⟨4, ![128, 4, 64, 64]⟩
abbrev S128x4x1x128 : Shape := ⟨4, ![128, 4, 1, 128]⟩
abbrev S128x4x128x128 : Shape := ⟨4, ![128, 4, 128, 128]⟩
abbrev S_ : Shape := ⟨0, ![]⟩
abbrev S4x128x128 : Shape := ⟨3, ![4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x4x128x128 : Shape := ⟨4, ![1, 4, 128, 128]⟩
abbrev S4x128 : Shape := ⟨2, ![4, 128]⟩

abbrev nBuf : Space → Nat
  | .hbm => 137
  | .vmem => 0
  | .smem => 0
  | _ => 0

abbrev hbmTy0_0 (i : Nat) : BufTy := match i % 128 with
  | 0 => ⟨S128x4x64x128, .f32⟩
  | 1 => ⟨S128x4x64x128, .f32⟩
  | 2 => ⟨S128x4x64x128, .f32⟩
  | 3 => ⟨S128x4x64x64, .f32⟩
  | 4 => ⟨S128x4x64x128, .f32⟩
  | 5 => ⟨S128x4x1x128, .f32⟩
  | 6 => ⟨S128x4x128x128, .f32⟩
  | 7 => ⟨S128x4x64x128, .f32⟩
  | 8 => ⟨S_, .f32⟩
  | 9 => ⟨S4x128x128, .f32⟩
  | 10 => ⟨S_, .f32⟩
  | 11 => ⟨S128x4x64x128, .f32⟩
  | 12 => ⟨S_, .f32⟩
  | 13 => ⟨S128x4x64x128, .f32⟩
  | 14 => ⟨S_, .f32⟩
  | 15 => ⟨S128x4x64x128, .f32⟩
  | 16 => ⟨S_, .f32⟩
  | 17 => ⟨S128x4x64x64, .f32⟩
  | 18 => ⟨S_, .f32⟩
  | 19 => ⟨S128x4x64x128, .f32⟩
  | 20 => ⟨S_, .f32⟩
  | 21 => ⟨S128x4x1x128, .f32⟩
  | 22 => ⟨S_, .i32⟩
  | 23 => ⟨S128x4x64x128, .f32⟩
  | 24 => ⟨S128x4x64x128, .f32⟩
  | 25 => ⟨S128x4x64x128, .f32⟩
  | 26 => ⟨S128x4x64x64, .f32⟩
  | 27 => ⟨S128x4x64x128, .f32⟩
  | 28 => ⟨S128x4x1x128, .f32⟩
  | 29 => ⟨S128x4x128x128, .f32⟩
  | 30 => ⟨S128x4x64x128, .f32⟩
  | 31 => ⟨S_, .i32⟩
  | 32 => ⟨S4x128x128, .f32⟩
  | 33 => ⟨S128x4x64x128, .f32⟩
  | 34 => ⟨S128x4x64x128, .f32⟩
  | 35 => ⟨S128x4x64x128, .f32⟩
  | 36 => ⟨S128x4x64x64, .f32⟩
  | 37 => ⟨S128x4x64x128, .f32⟩
  | 38 => ⟨S128x4x1x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S1x4x64x128, .f32⟩
  | 49 => ⟨S4x64x128, .f32⟩
  | 50 => ⟨S_, .i32⟩
  | 51 => ⟨S_, .i32⟩
  | 52 => ⟨S_, .i32⟩
  | 53 => ⟨S1x4x64x128, .f32⟩
  | 54 => ⟨S4x64x128, .f32⟩
  | 55 => ⟨S_, .i32⟩
  | 56 => ⟨S_, .i32⟩
  | 57 => ⟨S_, .i32⟩
  | 58 => ⟨S1x4x64x128, .f32⟩
  | 59 => ⟨S4x64x128, .f32⟩
  | 60 => ⟨S_, .i32⟩
  | 61 => ⟨S_, .i32⟩
  | 62 => ⟨S_, .i32⟩
  | 63 => ⟨S1x4x64x64, .f32⟩
  | 64 => ⟨S4x64x64, .f32⟩
  | 65 => ⟨S_, .i32⟩
  | 66 => ⟨S_, .i32⟩
  | 67 => ⟨S_, .i32⟩
  | 68 => ⟨S1x4x64x128, .f32⟩
  | 69 => ⟨S4x64x128, .f32⟩
  | 70 => ⟨S_, .i32⟩
  | 71 => ⟨S_, .i32⟩
  | 72 => ⟨S_, .i32⟩
  | 73 => ⟨S1x4x1x128, .f32⟩
  | 74 => ⟨S4x1x128, .f32⟩
  | 75 => ⟨S_, .i32⟩
  | 76 => ⟨S_, .i32⟩
  | 77 => ⟨S_, .i32⟩
  | 78 => ⟨S1x4x128x128, .f32⟩
  | 79 => ⟨S4x128x128, .f32⟩
  | 80 => ⟨S_, .i32⟩
  | 81 => ⟨S_, .i32⟩
  | 82 => ⟨S_, .i32⟩
  | 83 => ⟨S1x4x64x128, .f32⟩
  | 84 => ⟨S4x64x128, .f32⟩
  | 85 => ⟨S4x64x128, .f32⟩
  | 86 => ⟨S4x64x128, .f32⟩
  | 87 => ⟨S4x64x128, .f32⟩
  | 88 => ⟨S4x64x128, .f32⟩
  | 89 => ⟨S4x64x128, .f32⟩
  | 90 => ⟨S4x64x128, .f32⟩
  | 91 => ⟨S4x64x128, .f32⟩
  | 92 => ⟨S4x64x128, .f32⟩
  | 93 => ⟨S4x64x64, .f32⟩
  | 94 => ⟨S4x64x128, .f32⟩
  | 95 => ⟨S4x128x128, .f32⟩
  | 96 => ⟨S_, .f32⟩
  | 97 => ⟨S4x128, .f32⟩
  | 98 => ⟨S4x1x128, .f32⟩
  | 99 => ⟨S4x128x128, .f32⟩
  | 100 => ⟨S4x128x128, .f32⟩
  | 101 => ⟨S4x128x128, .f32⟩
  | 102 => ⟨S4x128x128, .f32⟩
  | 103 => ⟨S4x128x128, .f32⟩
  | 104 => ⟨S4x128x128, .f32⟩
  | 105 => ⟨S1x4x64x128, .f32⟩
  | 106 => ⟨S_, .i32⟩
  | 107 => ⟨S_, .i32⟩
  | 108 => ⟨S_, .i32⟩
  | 109 => ⟨S128x4x64x128, .f32⟩
  | 110 => ⟨S1x4x64x128, .f32⟩
  | 111 => ⟨S_, .i32⟩
  | 112 => ⟨S_, .i32⟩
  | 113 => ⟨S_, .i32⟩
  | 114 => ⟨S128x4x64x128, .f32⟩
  | 115 => ⟨S1x4x64x128, .f32⟩
  | 116 => ⟨S_, .i32⟩
  | 117 => ⟨S_, .i32⟩
  | 118 => ⟨S_, .i32⟩
  | 119 => ⟨S128x4x64x128, .f32⟩
  | 120 => ⟨S1x4x64x64, .f32⟩
  | 121 => ⟨S_, .i32⟩
  | 122 => ⟨S_, .i32⟩
  | 123 => ⟨S_, .i32⟩
  | 124 => ⟨S128x4x64x64, .f32⟩
  | 125 => ⟨S1x4x64x128, .f32⟩
  | 126 => ⟨S_, .i32⟩
  | 127 => ⟨S_, .i32⟩
  | _ => ⟨S128x4x64x128, .f32⟩

abbrev hbmTy0_1 (i : Nat) : BufTy := match i % 128 with
  | 0 => ⟨S_, .i32⟩
  | 1 => ⟨S128x4x64x128, .f32⟩
  | 2 => ⟨S1x4x1x128, .f32⟩
  | 3 => ⟨S_, .i32⟩
  | 4 => ⟨S_, .i32⟩
  | 5 => ⟨S_, .i32⟩
  | 6 => ⟨S128x4x1x128, .f32⟩
  | 7 => ⟨S_, .i32⟩
  | 8 => ⟨S_, .i32⟩
  | _ => ⟨S128x4x64x128, .f32⟩

abbrev hbmTy (i : Nat) : BufTy := match i / 128 with
  | 0 => hbmTy0_0 i
  | 1 => hbmTy0_1 i
  | _ => ⟨S128x4x64x128, .f32⟩

abbrev bufTy : (tb : Table) → Fin (tcTables nBuf tb) → BufTy
  | .hbm, ⟨i, _⟩ => hbmTy i
  | _, _ => ⟨S128x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_c : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_v7_7 : Ref sig .tc := ⟨.hbm, 30, rfl⟩
abbrev main_v7_8 : Ref sig .tc := ⟨.hbm, 31, rfl⟩
abbrev main_v7_9 : Ref sig .tc := ⟨.hbm, 32, rfl⟩
abbrev main_v7_10 : Ref sig .tc := ⟨.hbm, 33, rfl⟩
abbrev main_v7_11 : Ref sig .tc := ⟨.hbm, 34, rfl⟩
abbrev main_v7_12 : Ref sig .tc := ⟨.hbm, 35, rfl⟩
abbrev main_v7_13 : Ref sig .tc := ⟨.hbm, 36, rfl⟩
abbrev main_v7_14 : Ref sig .tc := ⟨.hbm, 37, rfl⟩
abbrev main_v7_15 : Ref sig .tc := ⟨.hbm, 38, rfl⟩
abbrev main_while0c_c_21 : Ref sig .tc := ⟨.hbm, 39, rfl⟩
abbrev main_while0c_v8 : Ref sig .tc := ⟨.hbm, 40, rfl⟩
abbrev main_while0b_c_21 : Ref sig .tc := ⟨.hbm, 41, rfl⟩
abbrev main_while0b_v8 : Ref sig .tc := ⟨.hbm, 42, rfl⟩
abbrev main_while0b_c_22 : Ref sig .tc := ⟨.hbm, 43, rfl⟩
abbrev main_while0b_v9 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v10 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v11 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v12 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v13 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v14 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_v0 : Ref sig .tc := ⟨.hbm, 73, rfl⟩
abbrev main_while0b_v15 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_call6_c_1 : Ref sig .tc := ⟨.hbm, 77, rfl⟩
abbrev main_while0b_call6_v0 : Ref sig .tc := ⟨.hbm, 78, rfl⟩
abbrev main_while0b_v16 : Ref sig .tc := ⟨.hbm, 79, rfl⟩
abbrev main_while0b_call7_c : Ref sig .tc := ⟨.hbm, 80, rfl⟩
abbrev main_while0b_call7_c_0 : Ref sig .tc := ⟨.hbm, 81, rfl⟩
abbrev main_while0b_call7_c_1 : Ref sig .tc := ⟨.hbm, 82, rfl⟩
abbrev main_while0b_call7_v0 : Ref sig .tc := ⟨.hbm, 83, rfl⟩
abbrev main_while0b_v17 : Ref sig .tc := ⟨.hbm, 84, rfl⟩
abbrev main_while0b_v18 : Ref sig .tc := ⟨.hbm, 85, rfl⟩
abbrev main_while0b_v19 : Ref sig .tc := ⟨.hbm, 86, rfl⟩
abbrev main_while0b_v20 : Ref sig .tc := ⟨.hbm, 87, rfl⟩
abbrev main_while0b_v21 : Ref sig .tc := ⟨.hbm, 88, rfl⟩
abbrev main_while0b_v22 : Ref sig .tc := ⟨.hbm, 89, rfl⟩
abbrev main_while0b_v23 : Ref sig .tc := ⟨.hbm, 90, rfl⟩
abbrev main_while0b_v24 : Ref sig .tc := ⟨.hbm, 91, rfl⟩
abbrev main_while0b_v25 : Ref sig .tc := ⟨.hbm, 92, rfl⟩
abbrev main_while0b_v26 : Ref sig .tc := ⟨.hbm, 93, rfl⟩
abbrev main_while0b_v27 : Ref sig .tc := ⟨.hbm, 94, rfl⟩
abbrev main_while0b_v28 : Ref sig .tc := ⟨.hbm, 95, rfl⟩
abbrev main_while0b_cst_23 : Ref sig .tc := ⟨.hbm, 96, rfl⟩
abbrev main_while0b_v29 : Ref sig .tc := ⟨.hbm, 97, rfl⟩
abbrev main_while0b_v30 : Ref sig .tc := ⟨.hbm, 98, rfl⟩
abbrev main_while0b_v31 : Ref sig .tc := ⟨.hbm, 99, rfl⟩
abbrev main_while0b_v32 : Ref sig .tc := ⟨.hbm, 100, rfl⟩
abbrev main_while0b_v33 : Ref sig .tc := ⟨.hbm, 101, rfl⟩
abbrev main_while0b_v34 : Ref sig .tc := ⟨.hbm, 102, rfl⟩
abbrev main_while0b_v35 : Ref sig .tc := ⟨.hbm, 103, rfl⟩
abbrev main_while0b_v36 : Ref sig .tc := ⟨.hbm, 104, rfl⟩
abbrev main_while0b_call8_v0 : Ref sig .tc := ⟨.hbm, 105, rfl⟩
abbrev main_while0b_call8_c : Ref sig .tc := ⟨.hbm, 106, rfl⟩
abbrev main_while0b_call8_c_0 : Ref sig .tc := ⟨.hbm, 107, rfl⟩
abbrev main_while0b_call8_c_1 : Ref sig .tc := ⟨.hbm, 108, rfl⟩
abbrev main_while0b_v37 : Ref sig .tc := ⟨.hbm, 109, rfl⟩
abbrev main_while0b_call9_v0 : Ref sig .tc := ⟨.hbm, 110, rfl⟩
abbrev main_while0b_call9_c : Ref sig .tc := ⟨.hbm, 111, rfl⟩
abbrev main_while0b_call9_c_0 : Ref sig .tc := ⟨.hbm, 112, rfl⟩
abbrev main_while0b_call9_c_1 : Ref sig .tc := ⟨.hbm, 113, rfl⟩
abbrev main_while0b_v38 : Ref sig .tc := ⟨.hbm, 114, rfl⟩
abbrev main_while0b_call10_v0 : Ref sig .tc := ⟨.hbm, 115, rfl⟩
abbrev main_while0b_call10_c : Ref sig .tc := ⟨.hbm, 116, rfl⟩
abbrev main_while0b_call10_c_0 : Ref sig .tc := ⟨.hbm, 117, rfl⟩
abbrev main_while0b_call10_c_1 : Ref sig .tc := ⟨.hbm, 118, rfl⟩
abbrev main_while0b_v39 : Ref sig .tc := ⟨.hbm, 119, rfl⟩
abbrev main_while0b_call11_v0 : Ref sig .tc := ⟨.hbm, 120, rfl⟩
abbrev main_while0b_call11_c : Ref sig .tc := ⟨.hbm, 121, rfl⟩
abbrev main_while0b_call11_c_0 : Ref sig .tc := ⟨.hbm, 122, rfl⟩
abbrev main_while0b_call11_c_1 : Ref sig .tc := ⟨.hbm, 123, rfl⟩
abbrev main_while0b_v40 : Ref sig .tc := ⟨.hbm, 124, rfl⟩
abbrev main_while0b_call12_v0 : Ref sig .tc := ⟨.hbm, 125, rfl⟩
abbrev main_while0b_call12_c : Ref sig .tc := ⟨.hbm, 126, rfl⟩
abbrev main_while0b_call12_c_0 : Ref sig .tc := ⟨.hbm, 127, rfl⟩
abbrev main_while0b_call12_c_1 : Ref sig .tc := ⟨.hbm, 128, rfl⟩
abbrev main_while0b_v41 : Ref sig .tc := ⟨.hbm, 129, rfl⟩
abbrev main_while0b_call13_v0 : Ref sig .tc := ⟨.hbm, 130, rfl⟩
abbrev main_while0b_call13_c : Ref sig .tc := ⟨.hbm, 131, rfl⟩
abbrev main_while0b_call13_c_0 : Ref sig .tc := ⟨.hbm, 132, rfl⟩
abbrev main_while0b_call13_c_1 : Ref sig .tc := ⟨.hbm, 133, rfl⟩
abbrev main_while0b_v42 : Ref sig .tc := ⟨.hbm, 134, rfl⟩
abbrev main_while0b_c_24 : Ref sig .tc := ⟨.hbm, 135, rfl⟩
abbrev main_while0b_v43 : Ref sig .tc := ⟨.hbm, 136, rfl⟩

abbrev nD : Nat := 1
abbrev τ : Topo := Topo.v7x

variable {F : FTy → Type} [FloatOps F]

abbrev main_while0_count : Scf.Loop 32 := ⟨0#32, 128#32, 1#32⟩
-- ==== Stick.lean ====
abbrev S8192x512 : Shape := ⟨2, ![8192, 512]⟩
abbrev S4x8192x1 : Shape := ⟨3, ![4, 8192, 1]⟩
abbrev S256x128 : Shape := ⟨2, ![256, 128]⟩
abbrev S8192x128 : Shape := ⟨2, ![8192, 128]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S4x8192x1, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S1x256x1, .f32⟩
  | .local _ .vmem, ⟨9, _⟩ => ⟨S1x256x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v12 : BitVec 32 := Scalar.muli arg1 c256_i32
  v12
def k0_off1 (i : grid0.Coords) : Fin 2 → Nat :=
  let arg1 : BitVec 32 := BitVec.ofNat 32 (i 1).val
  let c256_i32 : BitVec 32 := 256#32
  let v12 : BitVec 32 := Scalar.muli arg1 c256_i32
  let v13 : BitVec 32 := v12
  let v14 : Index := Scalar.indexCast v13
  let c0_2 : Index := 0#32
  ![v14.toNat, 0]
@[reducible] def k0_t1_loop (i : grid0.Coords) : Scf.Loop 32 :=
  let c0_i32 : BitVec 32 := 0#32
  let arg1 : BitVec 32 := BitVec.ofNat 32 (i 1).val
  let v54 : BitVec 32 := Scalar.subi arg1 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_16 : BitVec 32 := 1#32
  ⟨c0_i32, v58, c1_i32_16⟩
def k0_mult2 (i : grid0.Coords) (k0_t1 : Fin (k0_t1_loop i).trips) : BitVec 32 :=
  let arg1 : BitVec 32 := BitVec.ofNat 32 (i 1).val
  let c1_i32_23 : BitVec 32 := 1#32
  let v65 : BitVec 32 := Scalar.subi arg1 c1_i32_23
  let c0_i32 : BitVec 32 := 0#32
  let c1_i32_16 : BitVec 32 := 1#32
  let arg7 : BitVec 32 := Scf.iv c0_i32 c1_i32_16 k0_t1
  let v66 : BitVec 32 := Scalar.subi v65 arg7
  let c256_i32_24 : BitVec 32 := 256#32
  let v67 : BitVec 32 := Scalar.muli v66 c256_i32_24
  v67
def k0_off2 (i : grid0.Coords) (k0_t1 : Fin (k0_t1_loop i).trips) : Fin 2 → Nat :=
  let arg1 : BitVec 32 := BitVec.ofNat 32 (i 1).val
  let c1_i32_23 : BitVec 32 := 1#32
  let v65 : BitVec 32 := Scalar.subi arg1 c1_i32_23
  let c0_i32 : BitVec 32 := 0#32
  let c1_i32_16 : BitVec 32 := 1#32
  let arg7 : BitVec 32 := Scf.iv c0_i32 c1_i32_16 k0_t1
  let v66 : BitVec 32 := Scalar.subi v65 arg7
  let c256_i32_24 : BitVec 32 := 256#32
  let v67 : BitVec 32 := Scalar.muli v66 c256_i32_24
  let v68 : BitVec 32 := v67
  let v69 : Index := Scalar.indexCast v68
  let c0_25 : Index := 0#32
  ![v69.toNat, 0]
@[reducible] def k0_t2_loop (i : grid0.Coords) : Scf.Loop 32 :=
  let c0_i32 : BitVec 32 := 0#32
  let arg1 : BitVec 32 := BitVec.ofNat 32 (i 1).val
  let v54 : BitVec 32 := Scalar.subi arg1 c0_i32
  let c1_i32 : BitVec 32 := 1#32
  let v56 : BitVec 32 := Scalar.divsi v54 c1_i32
  let v57 : BitVec 32 := Scalar.muli v56 c1_i32
  let v58 : BitVec 32 := Scalar.addi c0_i32 v57
  let v55 : BitVec 32 := Scalar.addi c0_i32 v54
  let c1_i32_17 : BitVec 32 := 1#32
  ⟨v58, v55, c1_i32_17⟩
def k0_mult3 (i : grid0.Coords) (k0_t2 : Fin (k0_t2_loop i).trips) : BitVec 32 :=
  let arg1 : BitVec 32 := BitVec.ofNat 32 (i 1).val
  let c1_i32_23 : BitVec 32 := 1#32
  let v65 : BitVec 32 := Scalar.subi arg1 c1_i32_23
  let c0_i32 : BitVec 32 := 0#32
  let v54 : BitVec 32 := Scalar.subi arg1 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_17 : BitVec 32 := 1#32
  let arg7 : BitVec 32 := Scf.iv v58 c1_i32_17 k0_t2
  let v66 : BitVec 32 := Scalar.subi v65 arg7
  let c256_i32_24 : BitVec 32 := 256#32
  let v67 : BitVec 32 := Scalar.muli v66 c256_i32_24
  v67
def k0_off3 (i : grid0.Coords) (k0_t2 : Fin (k0_t2_loop i).trips) : Fin 2 → Nat :=
  let arg1 : BitVec 32 := BitVec.ofNat 32 (i 1).val
  let c1_i32_23 : BitVec 32 := 1#32
  let v65 : BitVec 32 := Scalar.subi arg1 c1_i32_23
  let c0_i32 : BitVec 32 := 0#32
  let v54 : BitVec 32 := Scalar.subi arg1 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_17 : BitVec 32 := 1#32
  let arg7 : BitVec 32 := Scf.iv v58 c1_i32_17 k0_t2
  let v66 : BitVec 32 := Scalar.subi v65 arg7
  let c256_i32_24 : BitVec 32 := 256#32
  let v67 : BitVec 32 := Scalar.muli v66 c256_i32_24
  let v68 : BitVec 32 := v67
  let v69 : Index := Scalar.indexCast v68
  let c0_25 : Index := 0#32
  ![v69.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickRef.lean ====
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩
abbrev S4x8192 : Shape := ⟨2, ![4, 8192]⟩
abbrev S4x8192x1 : Shape := ⟨3, ![4, 8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x4x128, .f32⟩
  | .hbm, ⟨5, _⟩ => ⟨S8192x512, .f32⟩
  | .hbm, ⟨6, _⟩ => ⟨S8192x4x128, .f32⟩
  | .hbm, ⟨7, _⟩ => ⟨S8192x512, .f32⟩
  | .hbm, ⟨8, _⟩ => ⟨S8192x4x128, .f32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S4x8192x8192, .i1⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S_, .f32⟩
  | .hbm, ⟨36, _⟩ => ⟨S4x8192x8192, .i1⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S_, .f32⟩
  | .hbm, ⟨41, _⟩ => ⟨S4x8192x8192, .f32⟩
  | .hbm, ⟨42, _⟩ => ⟨S4x8192x8192, .f32⟩
  | .hbm, ⟨43, _⟩ => ⟨S_, .f32⟩
  | .hbm, ⟨44, _⟩ => ⟨S_, .f32⟩
  | .hbm, ⟨45, _⟩ => ⟨S4x8192x8192, .i1⟩
  | .hbm, ⟨46, _⟩ => ⟨S4x8192x8192, .f32⟩
  | .hbm, ⟨47, _⟩ => ⟨S4x8192x8192, .f32⟩
  | .hbm, ⟨48, _⟩ => ⟨S4x8192x8192, .f32⟩
  | .hbm, ⟨49, _⟩ => ⟨S4x128x8192, .f32⟩
  | .hbm, ⟨50, _⟩ => ⟨S8192x4x128, .f32⟩
  | .hbm, ⟨51, _⟩ => ⟨S8192x512, .f32⟩
  | .hbm, ⟨52, _⟩ => ⟨S_, .f32⟩
  | .hbm, ⟨53, _⟩ => ⟨S4x8192, .f32⟩
  | .hbm, ⟨54, _⟩ => ⟨S4x8192x1, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== Proof.Talk.lean ====
/-
# A launch for kernels that write to each other without a handshake

The calls of this problem start their remote copies at once: no device waits for a signal of its peer before it
writes into the peer's result. So each device must hold, from the very start, the part of its peers' memory that it
is going to write. `run_talk` is the launch for that situation. One global step is given, of ALL devices at once, the
counters of the first kernel's own semaphores and all the unscoped buffers, and deals them to the devices as the
protocol needs. After the first kernel region any list of further segments (host operations, kernels that do not
talk) may follow, each device its own list, and each device may hold its own contents in a kernel's prefetched tables.
-/
module

public import Idealize.ShloMosaic.Lib.Pipeline.Regions
public import Idealize.ShloMosaic.Lib.Tactic

@[expose] public section

set_option Elab.async false

noncomputable section

namespace Cert.Talk

open Idealize.ShloMosaic
open Idealize.ShloMosaic.TcCoe
open Idealize.SL Idealize.SL.RA
open Idealize.SL.BI (sProp bigSep bigSep_sep' bigSep_mono bigSep_congr bigSep_elim bigSep_univ_prod)
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

variable {p : P} {K : Type} [Fintype K] {osem : K → SemLoc sig}
  (hw : WinFacts₀ (pcs p).spec) (ho : OwnSemFacts (pcs p).spec osem)

/-- What a core's region boundary holds besides the counters of the kernel's own semaphores. -/
def rest (c : Dev nD) : sProp 𝕄 :=
  iprop(scopedBufs (c.tc : Thread nD τ) ∗ PerCore.cellsSems0 (pinD pcs a) p c ∗ PerCore.idleSems0 (pinD pcs a) phinj p (fun _ => ho) c ∗ opIdle (c.tc : Thread nD τ))

include hw ho in
/-- A core's region boundary is the kernel's own counters at zero and the rest. -/
theorem boundary_take (c : Dev nD) :
    (boundary (c.tc : Thread nD τ) : sProp 𝕄) ⊢ iprop(ownSems0 osem c ∗ rest pcs a phinj ho c) := by
  have hss := PerCore.scopedSems0_split (pinD pcs a) phinj p (fun _ => hw) (fun _ => ho) (Ix := Ix) (Val := Val) (Name := Name) (U := U) (Lvl := Lvl) c
  unfold boundary rest
  rw [hss]
  iintro ⟨Hb, ⟨⟨Hc, Ho⟩, Hi⟩, Hid⟩
  isplitl [Ho]; · iexact Ho
  isplitl [Hb]; · iexact Hb
  isplitl [Hc]; · iexact Hc
  isplitl [Hi] <;> iassumption

include hw ho phinj in
/-- The first region's step on one core, its own counters already handed to the protocol: from `start c` the
    windows' arrays, the tables, the core's dues, what enters the kernel's invariant and what bypasses it are sorted
    out; the kernel gives its own counters back at zero; the continuation gets a whole region boundary. -/
theorem wp_first [Preorder Lvl] [∀ e, Nonempty (Val e)] [Infinite Name] [EP.LandsIn (upEmb : UEmb _ 𝕄)]
    (hpos : ∀ w : Fin (pcs p).W, 0 < ((pcs p).spec w).block.numel)
    (hstage : ∀ (w : Fin (pcs p).W) (s : Fin ((pcs p).spec w).nbuf), (((pcs p).spec w).stage s).IsWhole)
    (hbody : ∀ c, BodyObligationLoose (pdats p c) defs₀ 𝒱₀ ι Set.univ)
    (hwaits : ∀ c, (levAts L lv : sProp 𝕄) ⊢ PerCore.cellsWaits (pinD pcs a) pdats ι p c)
    (start X Y Z T : Dev nD → sProp 𝕄)
    (hentry : ∀ c, iprop(start c ∗ levAts L lv)
      ⊢ |={Set.univ}=> iprop((pdats p c).arrays ((pdats p c).arrAt · 0) ∗ prefHeld (pcs p).pre c (fun _ => fullShare) (a c p).1
          ∗ (pdats p c).owesAt ι 0 ∗ X c ∗ Z c))
    (hin : ∀ c, iprop(X c ∗ prefHeld (pcs p).pre c (fun _ => fullShare) (a c p).1 ∗ scopedRest (pcs p).spec c) ⊢ (pdats p c).Φ 0)
    (hout : ∀ c, (pdats p c).Φ (Fin.last (pinD pcs a c p).N) ⊢ iprop(Y c ∗ ownSems0 osem c ∗ scopedRest (pcs p).spec c))
    (hexit : ∀ c, iprop((pdats p c).arrays ((pdats p c).arrAt · (pinD pcs a c p).N) ∗ (pdats p c).owesAt ι (Fin.last (pinD pcs a c p).N) ∗ Y c ∗ Z c)
      ⊢ |={Set.univ}=> T c)
    (c : Dev nD) (k : PUnit → Prog (TpuEff nD τ sig Val (Sig Λ₀ P fun p => (pcs p).Adm) .tc) PUnit) (Q : PUnit → sProp 𝕄) :
    iprop((iprop(boundary (c.tc : Thread nD τ) ∗ T c) -∗ wp frame (wpE 𝔻 𝕍 (c.tc : Thread nD τ) none) Set.univ (k ⟨⟩) Q)
        ∗ rest pcs a phinj ho c ∗ start c ∗ levAts L lv ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  have hss := PerCore.scopedSems0_split (pinD pcs a) phinj p (fun _ => hw) (fun _ => ho) (Ix := Ix) (Val := Val) (Name := Name) (U := U) (Lvl := Lvl) c
  have hsb := PerCore.scopedBufs_split (pinD pcs a) p c hw.stage_scoped hw.stage_inj hstage (τ := τ) (Ix := Ix) (Val := Val) (Name := Name) (U := U) (Lvl := Lvl)
  have hback : iprop((pdats p c).Φ (Fin.last (pinD pcs a c p).N) ∗ PerCore.cellsSems0 (pinD pcs a) p c ∗ Dat.staging (pinD pcs a c p) c
        ∗ PerCore.idleSems0 (pinD pcs a) phinj p (fun _ => ho) c)
      ⊢ iprop(Y c ∗ scopedSems0 (c.tc : Thread nD τ) ∗ scopedBufs (c.tc : Thread nD τ)) := by
    rw [hss, hsb]
    iintro ⟨HΦ, Hc, Hst, Hi⟩
    icases (hout c) $$ HΦ with ⟨HY, Hos, Hr⟩
    isplitl [HY]; · iexact HY
    isplitl [Hc Hos Hi]
    · isplitr [Hi]
      · isplitl [Hc] <;> iassumption
      · iexact Hi
    · isplitl [Hst] <;> iassumption
  unfold rest
  iintro ⟨Hk, ⟨Hsc, Hc, Hi, Hid⟩, Hs, #Hla, Hg, Ht⟩
  ihave Hw := (hwaits c) $$ Hla
  iapply (fupd_wp frame (wpE 𝔻 𝕍 (c.tc : Thread nD τ) none) Set.univ _ _)
  imod (PerCore.cellsInit_alloc (pinD pcs a) pdats EP phinj p c) $$ [Hc Hg] with ⟨%κ, -, Hci⟩
  · isplitl [Hc] <;> iassumption
  imod (hentry c) $$ [Hs] with ⟨Ha, Hpf, HO, HX, HZ⟩
  · isplitl [Hs]; · iexact Hs
    iexact Hla
  imodintro
  iapply (PerCore.wp_customCall_entry_frame pcs a pdats ι EP κ phinj p defs₀ 𝒱₀ (fun _ => fullShare) c Set.univ (fun _ _ => Set.mem_univ _)
      (hbody c) hpos none (fun u h => nomatch h) (X := X c) (Y := Y c) (R := scopedRest (pcs p).spec c)
      (I := PerCore.idleSems0 (pinD pcs a) phinj p (fun _ => ho) c) (Entails.of_eq hsb) (hin c) hback (k := k) (Q := Q)) $$ [Ha HO Hw Hci Ht Hpf HX Hi Hsc]
  · isplitl [Ha HO Hw Hci Ht]
    · unfold PerCore.EntryPre
      isplitl [Ha]; · iexact Ha
      isplitl [HO]; · iexact HO
      isplitl [Hw]; · iexact Hw
      isplitl [Hci] <;> iassumption
    isplitl [Hpf]; · iexact Hpf
    isplitl [HX]; · iexact HX
    isplitl [Hi] <;> iassumption
  iintro ⟨Hpost, HY, Hss, Hsc⟩
  iapply (fupd_wp frame (wpE 𝔻 𝕍 (c.tc : Thread nD τ) none) Set.univ _ _)
  unfold PerCore.EntryPost
  icases Hpost with ⟨Ha, HO⟩
  imod (hexit c) $$ [Ha HO HY HZ] with HT
  · isplitl [Ha]; · iexact Ha
    isplitl [HO]; · iexact HO
    isplitl [HY] <;> iassumption
  imodintro
  iapply Hk
  isplitr [HT]
  · unfold boundary
    isplitl [Hsc]; · iexact Hsc
    isplitl [Hss] <;> iassumption
  · iexact HT

include phinj hw ho in
/-- A program whose first kernel talks: every device runs `customCall (entry p)` and then the segments `segs`. From a
    memory `m` with all counters at zero, every fair execution ends and its final memory satisfies `Q`. The step
    `hglob` deals all devices' own counters, unscoped buffers, launch credits and ghost resources at once; the other
    hypotheses are those of `wp_first`, of the segments, and the reading of the last thread state. -/
theorem run_talk [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (segs : Dev nD → List (PerCore.Seg pcs a pdats ι defs₀ 𝒱₀ L lv))
    (hmain : ∀ c, main c = .op (.customCall (entry p) ()) fun _ => PerCore.Seg.run (segs c))
    (hnd : ∀ c, (PerCore.Seg.pipes (segs c)).Nodup) (hnp : ∀ c, p ∉ PerCore.Seg.pipes (segs c))
    (hpos : ∀ w : Fin (pcs p).W, 0 < ((pcs p).spec w).block.numel)
    (hstage : ∀ (w : Fin (pcs p).W) (s : Fin ((pcs p).spec w).nbuf), (((pcs p).spec w).stage s).IsWhole)
    (hbody : ∀ c, BodyObligationLoose (pdats p c) defs₀ 𝒱₀ ι Set.univ)
    (hwaits : ∀ c, (levAts L lv : sProp 𝕄) ⊢ PerCore.cellsWaits (pinD pcs a) pdats ι p c)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (G' X Y Z T Tₙ : Dev nD → sProp 𝕄)
    (hglob : (bigSep Finset.univ fun c : Dev nD => iprop(ownSems0 osem c ∗ unscopedBufs c (fun b => m ((c.tc : Thread nD τ).loc b))
        ∗ unscopedSems0 c ∗ launchCred O₀ c ∗ G c)) ⊢ |={Set.univ}=> bigSep Finset.univ G')
    (hentry : ∀ c, iprop((G' c ∗ owes (c.tc : Thread nD τ) (O₀ c) ∅) ∗ levAts L lv)
      ⊢ |={Set.univ}=> iprop((pdats p c).arrays ((pdats p c).arrAt · 0) ∗ prefHeld (pcs p).pre c (fun _ => fullShare) (a c p).1
          ∗ (pdats p c).owesAt ι 0 ∗ X c ∗ Z c))
    (hin : ∀ c, iprop(X c ∗ prefHeld (pcs p).pre c (fun _ => fullShare) (a c p).1 ∗ scopedRest (pcs p).spec c) ⊢ (pdats p c).Φ 0)
    (hout : ∀ c, (pdats p c).Φ (Fin.last (pinD pcs a c p).N) ⊢ iprop(Y c ∗ ownSems0 osem c ∗ scopedRest (pcs p).spec c))
    (hexit : ∀ c, iprop((pdats p c).arrays ((pdats p c).arrAt · (pinD pcs a c p).N) ∗ (pdats p c).owesAt ι (Fin.last (pinD pcs a c p).N) ∗ Y c ∗ Z c)
      ⊢ |={Set.univ}=> T c)
    (hch : ∀ c, PerCore.Seg.ChainsAt c T (segs c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(G' c ∗ owes (c.tc : Thread nD τ) (O₀ c) ∅)
  let pre : Dev nD → sProp 𝕄 := fun c => iprop(rest pcs a phinj ho c ∗ start c ∗ levAts L lv ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => rest pcs a phinj ho c)
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => iprop(ownSems0 osem c ∗ unscopedBufs c (fun b => m ((c.tc : Thread nD τ).loc b))
                ∗ unscopedSems0 c ∗ launchCred O₀ c)) : sProp 𝕄) := by
      simp only [← bigSep_sep']
      refine bigSep_mono fun c _ => (coreInit_boundary_owing O₀ m g c).trans ?_
      iintro ⟨Hb, Hub, Hus, HL, Hlv, -, Hcr⟩
      icases (boundary_take pcs a phinj hw ho c) $$ Hb with ⟨Hos, Hr⟩
      isplitl [Hr]; · iexact Hr
      isplitl [HL]; · iexact HL
      isplitl [Hlv]; · iexact Hlv
      isplitl [Hos]; · iexact Hos
      isplitl [Hub]; · iexact Hub
      isplitl [Hus] <;> iassumption
    have hlev : (bigSep Finset.univ fun c : Dev nD => levels0 (Ix := Ix) (Val := Val) (Name := Name) (U := U) (Lvl := Lvl) (τ := τ) (sig := sig) c)
        ⊢ (|==> levAts L lv : sProp 𝕄) := by
      refine (bigSep_mono fun c _ => lev_assign_cells (c.tc : Thread nD τ) L lv).trans <| (BI.bigSep_bupd _ _).trans <| BI.bupd_mono ?_
      have hne (d : Dev nD) (q : Proc τ) (hq : q ≠ Proc.tc) : (coreLevAts ((d, q) : Thread nD τ) L lv : sProp 𝕄) = BI.emp := by
        unfold coreLevAts
        rw [bigSep_congr (Ψ := fun _ : SemLoc sig => (BI.emp : sProp 𝕄)) fun sm _ => by rw [hL (((d, q) : Thread nD τ), sm) hq, BI.bigSep_empty],
          BI.bigSep_emp_const]
      rw [show (levAts L lv : sProp 𝕄) = bigSep Finset.univ fun c : Thread nD τ => coreLevAts c L lv
          from (bigSep_univ_prod fun g : GSem nD τ sig => bigSep (L g) fun ι => levAt g ι (lv g ι)),
        bigSep_threads (fun c : Thread nD τ => coreLevAts c L lv),
        bigSep_congr (s := Finset.univ) (Φ := fun d : Dev nD => bigSep (Finset.univ.erase Proc.tc) fun q => (coreLevAts ((d, q) : Thread nD τ) L lv : sProp 𝕄))
          (Ψ := fun _ => (BI.emp : sProp 𝕄)) fun d _ => (bigSep_congr fun q hq => hne d q (Finset.ne_of_mem_erase hq)).trans (BI.bigSep_emp_const _),
        BI.bigSep_emp_const, bigSep_sep']
      show (_ : sProp 𝕄) ⊢ _
      iintro ⟨-, H⟩
      isplitl [H]; · iexact H
      iempintro
    have hghost : iprop((bigSep Finset.univ fun c : Dev nD => bigSep Finset.univ fun p => PerCore.cellsGhost (pinD pcs a) EP p c)
          ∗ (bigSep Finset.univ fun c : Dev nD => bigSep Finset.univ fun p => (PerCore.toksInit (pinD pcs a) EP p c : sProp 𝕄)))
        ⊢ bigSep Finset.univ fun c : Dev nD => PerCore.ghostOn pcs a EP Finset.univ c := by
      rw [← bigSep_sep']
      refine bigSep_mono fun c _ => show (_ : sProp 𝕄) ⊢ _ from Entails.of_eq ?_
      unfold PerCore.ghostOn; rw [bigSep_sep']
    iintro ⟨Hcores, Hu⟩
    icases hcores $$ Hcores with ⟨Hr, HO, Hlv, Hall⟩
    imod hlev $$ Hlv with #Hla
    imod hu₀ $$ Hu with ⟨HP, HG⟩
    imod (PerCore.fund_ghost (pinD pcs a) EP phinj) $$ HP with ⟨Hg, Ht⟩
    have hjoin : iprop((bigSep Finset.univ fun c : Dev nD => iprop(ownSems0 osem c ∗ unscopedBufs c (fun b => m ((c.tc : Thread nD τ).loc b))
            ∗ unscopedSems0 c ∗ launchCred O₀ c)) ∗ bigSep Finset.univ G)
        ⊢ (bigSep Finset.univ fun c : Dev nD => iprop(ownSems0 osem c ∗ unscopedBufs c (fun b => m ((c.tc : Thread nD τ).loc b))
            ∗ unscopedSems0 c ∗ launchCred O₀ c ∗ G c) : sProp 𝕄) := by
      rw [← bigSep_sep']
      refine bigSep_mono fun c _ => show (_ : sProp 𝕄) ⊢ _ from ?_
      iintro ⟨⟨Hos, Hub, Hus, Hcr⟩, HG⟩
      isplitl [Hos]; · iexact Hos
      isplitl [Hub]; · iexact Hub
      isplitl [Hus]; · iexact Hus
      isplitl [Hcr] <;> iassumption
    imod hglob $$ [Hall HG] with HG'
    · iapply hjoin
      isplitl [Hall] <;> iassumption
    imodintro
    iexists ()
    isplitr []
    · simp only [pre, start, bigSep_sep']
      isplitl [Hr]; · iexact Hr
      isplitl [HG' HO]; · isplitl [HG'] <;> iassumption
      isplitr; · iapply (BI.bigSep_intro_persistent (S := Finset.univ) fun (c : Dev nD) _ => (BI.Entails.refl (levAts L lv : sProp 𝕄))); iexact Hla
      iapply hghost
      isplitl [Hg] <;> iassumption
    · iempintro
  · -- one core's run
    simp only [pre]
    rw [hmain c, show (PerCore.ghostOn pcs a EP Finset.univ c : sProp 𝕄) = _ from PerCore.ghostOn_erase pcs a EP (Finset.mem_univ p) c]
    iintro ⟨Hr, Hs, #Hla, ⟨Hg, Ht⟩, Hrest⟩
    iapply (wp_first pcs a pdats ι phinj EP defs₀ 𝒱₀ L lv hw ho hpos hstage hbody hwaits start X Y Z T hentry hin hout hexit c)
    isplitl [Hrest]
    · iintro ⟨Hbd, HT⟩
      iapply (PerCore.wp_segs pcs a pdats ι phinj EP defs₀ 𝒱₀ L lv c (segs c) (Finset.univ.erase p) T _ (hnd c)
        (fun q hq => Finset.mem_erase.mpr ⟨fun h => hnp c (h ▸ hq), Finset.mem_univ q⟩) (hch c))
      isplitr [Hbd HT Hrest]
      · iintro ⟨Hbd, HT, HW⟩
        unfold post; simp only [liftTc_tc, fin]
        isplitl [HT Hbd]
        · isplitl [HT] <;> iassumption
        · iexact HW
      · isplitl [Hbd]; · iexact Hbd
        isplitl [HT]; · iexact HT
        isplitr
        · iexact Hla
        · iexact Hrest
    · isplitl [Hr]; · iexact Hr
      isplitl [Hs]; · iexact Hs
      isplitr; · iexact Hla
      isplitl [Hg] <;> iassumption
  · -- the final state
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Talk
-- ==== Proof.Exchange.lean ====
/-
# One-round exchanges

All four exchange calls have the same shape: every device has a few semaphores, each of them is credited exactly once,
by one device that is fixed in advance, and waited for exactly once by its owner. `Proto` records such an exchange. This
module derives from it, once for all calls: the schedule, the launch (`run_exchange`), and the three steps a body is
made of (`wp_put` a remote copy, `wp_copy_here` a local copy, `wp_take` a wait).
-/
module

public import proofs.«01_k».proof.Proof.Talk
public import Idealize.ShloMosaic.Lib.Pipeline.Kit

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

/-- An exchange: `k` semaphores a device, cell `i` of a device credited once with `amt i`; device `c` is the one that
    credits cell `i` of device `peer i c` (an involution; the device itself for a send or a local copy); `owed` are the
    cells credited from another device; a device waiting at level `l` still owes only cells of higher levels. -/
structure Proto (nD : ℕ) (sig : RefSig) (k : ℕ) where
  sem : Fin k → SemLoc sig
  inj : Function.Injective sem
  amt : Fin k → ℕ
  amt_pos : ∀ i, 0 < amt i
  peer : Fin k → Dev nD → Dev nD
  peer_peer : ∀ i c, peer i (peer i c) = c
  owed : Finset (Fin k)
  lvl : Fin k → ℕ

variable {nD : ℕ} {τ : Topo} {sig : RefSig} {Val : EltTy → Type}

/-- The ghost state: the pipeline library's and the exchange's. -/
abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable {k : ℕ} (p : Proto nD sig k)

/-! ## The schedule -/

/-- Cell `i` of device `c`. -/
def cell (c : Dev nD) (i : Fin k) : GSem nD τ sig := ((c.tc : Thread nD τ), p.sem i)

open Classical in
/-- Which cell a semaphore is. -/
def idx (sm : SemLoc sig) : Option (Fin k) := if h : ∃ i, p.sem i = sm then some h.choose else none

theorem idx_sem (i : Fin k) : idx p (p.sem i) = some i := by
  have h : ∃ j, p.sem j = p.sem i := ⟨i, rfl⟩
  unfold idx; rw [dif_pos h, p.inj h.choose_spec]

theorem cell_inj : Function.Injective fun ci : Dev nD × Fin k => (cell p ci.1 ci.2 : GSem nD τ sig) := by
  rintro ⟨c, i⟩ ⟨c', i'⟩ h
  have h1 : c = c' := congrArg (fun g : GSem nD τ sig => g.1.1) h
  have h2 : i = i' := p.inj (congrArg Prod.snd h)
  rw [h1, h2]

variable (pay : Dev nD → Fin k → sProp (MT nD τ sig Unit Val ℕ (UU nD τ sig) ℕ))

/-- One round, one duty a cell; the payload of cell `i` of device `c` is `pay c i`. -/
def rd : Rounds.Schedule (GSem nD τ sig) Unit 𝕄 where
  duties g r := if r = 0 ∧ g.1.2 = .tc ∧ (idx p g.2).isSome then {()} else ∅
  unitless _ := False
  amount g _ _ := (idx p g.2).elim 1 p.amt
  payload g _ _ := (idx p g.2).elim iprop(emp) (pay g.1.1)
  amount_pos g _ _ _ := by
    cases idx p g.2 with
    | none => exact Nat.one_pos
    | some i => exact p.amt_pos i

/-- Every payload may be stored in a cell's invariant. -/
class PayStorable : Prop where
  st : ∀ c i, BI.Storable (upEmb : UEmb _ 𝕄) (pay c i)

instance rd_storable [h : PayStorable pay] (g : GSem nD τ sig) (r : ℕ) (d : Unit) :
    BI.Storable (upEmb : UEmb _ 𝕄) ((rd p pay).payload g r d) := by
  show BI.Storable upEmb ((idx p g.2).elim iprop(emp) (pay g.1.1))
  cases idx p g.2 with
  | none => exact inferInstanceAs (BI.Storable upEmb (iprop(emp) : sProp 𝕄))
  | some i => exact h.st g.1.1 i

theorem duties_zero (c : Dev nD) (i : Fin k) : (rd p pay).duties (cell p c i) 0 = {()} :=
  if_pos ⟨rfl, rfl, by show (idx p (p.sem i)).isSome = true; rw [idx_sem]; rfl⟩
theorem duties_later (g : GSem nD τ sig) : ∀ r, 1 ≤ r → (rd p pay).duties g r = ∅ := fun r hr => if_neg fun h => by omega
theorem amount_eq (c : Dev nD) (i : Fin k) (u : Unit) : (rd p pay).amount (cell p c i) 0 u = p.amt i := by
  show (idx p (p.sem i)).elim 1 p.amt = _; rw [idx_sem]; rfl
theorem payload_eq (c : Dev nD) (i : Fin k) (u : Unit) : (rd p pay).payload (cell p c i) 0 u = pay c i := by
  show (idx p (p.sem i)).elim iprop(emp) (pay c) = _; rw [idx_sem]; rfl
theorem expect_eq (c : Dev nD) (i : Fin k) : (rd p pay).expect (cell p c i) 0 = p.amt i := by
  unfold Schedule.expect Schedule.amountOf; rw [duties_zero, Finset.sum_singleton, amount_eq]
theorem rest_eq (c : Dev nD) (i : Fin k) :
    bigSep ((rd p pay).duties (cell p c i) 0 \ ∅) (fun u => (rd p pay).payload (cell p c i) 0 u) = pay c i := by
  rw [Finset.sdiff_empty, duties_zero, bigSep_singleton, payload_eq]

/-! ## What is owed, and the levels -/

/-- What device `c` owes for the cells `S`. -/
def due (S : Finset (Fin k)) (c : Dev nD) : CellTallies nD τ sig Unit := ∑ i ∈ S, tallyAt (cell p (p.peer i c) i) () (p.amt i)

theorem due_erase {S : Finset (Fin k)} {i : Fin k} (h : i ∈ S) (c : Dev nD) :
    (due p S c : CellTallies nD τ sig Unit) = due p (S.erase i) c + tallyAt (cell p (p.peer i c) i) () (p.amt i) :=
  (Finset.sum_erase_add S _ h).symm

theorem due_empty (c : Dev nD) : (due p ∅ c : CellTallies nD τ sig Unit) = 0 := Finset.sum_empty

theorem due_apply (S : Finset (Fin k)) (c : Dev nD) (g : GSem nD τ sig) (u : Unit) :
    due p S c g u = ∑ i ∈ S, if g = cell p (p.peer i c) i then p.amt i else 0 := by
  unfold due
  rw [Finset.sum_apply, Finsupp.finset_sum_apply]
  exact Finset.sum_congr rfl fun i _ => by
    rw [tallyAt_apply]; exact if_congr ⟨fun h => h.1, fun h => ⟨h, rfl⟩⟩ rfl rfl

theorem due_pos {S : Finset (Fin k)} {c : Dev nD} {g : GSem nD τ sig} {u : Unit} (h : 0 < due p S c g u) :
    ∃ i ∈ S, g = cell p (p.peer i c) i := by
  by_contra hn
  rw [due_apply, Finset.sum_eq_zero fun i hi => if_neg fun he => hn ⟨i, hi, he⟩] at h
  exact Nat.lt_irrefl 0 h

/-- What the other devices owe cell `i` of device `c` at launch. -/
theorem due_at (d c : Dev nD) {i : Fin k} (hi : i ∈ p.owed) :
    due p p.owed d (cell p c i : GSem nD τ sig) () = if d = p.peer i c then p.amt i else 0 := by
  rw [due_apply, Finset.sum_eq_single_of_mem i hi fun j _ hj => if_neg fun h => hj
    (congrArg Prod.snd (@cell_inj nD τ sig k p (c, i) (p.peer j d, j) h)).symm]
  refine if_congr ⟨fun h => ?_, fun h => ?_⟩ rfl rfl
  · have := congrArg Prod.fst (@cell_inj nD τ sig k p (c, i) (p.peer i d, i) h)
    rw [show c = p.peer i d from this, p.peer_peer]
  · rw [h, p.peer_peer]

def L (g : GSem nD τ sig) : Finset Unit := if g.1.2 = .tc then {()} else ∅
def lv (g : GSem nD τ sig) (_ : Unit) : ℕ := (idx p g.2).elim 0 p.lvl
theorem L_of_ne (g : GSem nD τ sig) (h : g.1.2 ≠ .tc) : L g = ∅ := if_neg h
theorem L_cell (c : Dev nD) (i : Fin k) : L (cell p c i : GSem nD τ sig) = {()} := if_pos rfl
theorem lv_cell (c : Dev nD) (i : Fin k) (u : Unit) : lv p (cell p c i : GSem nD τ sig) u = p.lvl i := by
  show (idx p (p.sem i)).elim 0 p.lvl = _; rw [idx_sem]; rfl

theorem mayWait (c : Dev nD) (i : Fin k) (S : Finset (Fin k)) (hS : ∀ j ∈ S, p.lvl i < p.lvl j) :
    (levAts L (lv p) : sProp 𝕄) ⊢ MayWait (c.tc : Thread nD τ) (p.sem i) () (due p S c) := by
  refine MayOwe.of_cut (L := L) (lev := lv p) (p.lvl i)
    (fun q hq => by rw [Finset.mem_singleton.mp hq]; exact (L_cell p c i).symm ▸ Finset.mem_singleton_self _)
    (fun g u hg => ?_) (fun q hq => by rw [Finset.mem_singleton.mp hq]; exact le_of_eq (lv_cell p c i ())) (fun g u hg => ?_)
  · obtain ⟨j, -, rfl⟩ := due_pos p hg; rw [L_cell]; exact Finset.mem_singleton_self _
  · obtain ⟨j, hj, rfl⟩ := due_pos p hg; rw [lv_cell]; exact hS j hj

/-! ## What a body works with -/

/-- The invariants of all cells of all devices, at the names `K`, the round they have reached, and the levels. -/
def tools (K : Dev nD × Fin k → ℕ) : sProp 𝕄 :=
  iprop((bigSep Finset.univ fun ci : Dev nD × Fin k => cellInv ER (rd p pay) (K ci) (cell p ci.1 ci.2))
    ∗ (bigSep Finset.univ fun ci : Dev nD × Fin k => reached ER (cell p ci.1 ci.2) 0) ∗ levAts L (lv p))

instance tools_persistent (K : Dev nD × Fin k → ℕ) : BI.Persistent (tools p pay K) := by unfold tools; infer_instance

theorem tools_inv (K : Dev nD × Fin k → ℕ) (c : Dev nD) (i : Fin k) :
    tools p pay K ⊢ cellInv ER (rd p pay) (K (c, i)) (cell p c i) := by
  unfold tools
  iintro ⟨H, -, -⟩
  iapply (show (bigSep Finset.univ fun ci : Dev nD × Fin k => cellInv ER (rd p pay) (K ci) (cell p ci.1 ci.2) : sProp 𝕄) ⊢ _ from bigSep_elim (Finset.mem_univ (c, i)))
  iexact H

theorem tools_reached (K : Dev nD × Fin k → ℕ) (c : Dev nD) (i : Fin k) : tools p pay K ⊢ reached ER (cell p c i) 0 := by
  unfold tools
  iintro ⟨-, H, -⟩
  iapply (show (bigSep Finset.univ fun ci : Dev nD × Fin k => reached ER (cell p ci.1 ci.2) 0 : sProp 𝕄) ⊢ _ from bigSep_elim (Finset.mem_univ (c, i)))
  iexact H

theorem tools_lev (K : Dev nD × Fin k → ℕ) : tools p pay K ⊢ levAts L (lv p) := by
  unfold tools
  iintro ⟨-, -, H⟩
  iexact H

/-- The owner's place at cell `i`, not yet waited for. -/
def ready (c : Dev nD) (i : Fin k) : sProp 𝕄 := atPos ER (cell p c i) 0 ∅ 0
/-- Device `c`'s right to credit cell `i` of device `peer i c`. -/
def tok (c : Dev nD) (i : Fin k) : sProp 𝕄 := dutyTok ER (cell p (p.peer i c) i) 0 ()
/-- That cell `i` of device `c` will be credited. -/
def credit (c : Dev nD) (i : Fin k) : sProp 𝕄 := cred (tallyAt (cell p c i) () (p.amt i))
/-- Cell `i` of device `c` reads zero for good. -/
def zero (c : Dev nD) (i : Fin k) : sProp 𝕄 := semVal (cell p c i) 0
/-- Device `c` owes exactly the cells `S`. -/
def owing (S : Finset (Fin k)) (c : Dev nD) : sProp 𝕄 := iprop(∃ W, owes (c.tc : Thread nD τ) (due p S c) W)

/-- What the launch gives device `c` of the exchange. -/
def start (c : Dev nD) : sProp 𝕄 :=
  iprop((∃ K, tools p pay K) ∗ (bigSep Finset.univ fun i => ready p c i) ∗ (bigSep Finset.univ fun i => tok p c i)
    ∗ bigSep p.owed fun i => credit p c i)

section Steps

variable {Λ : Idealize.SL.Sem.Labels} (defs : Defs nD τ sig Val Λ) (𝒱 : Variants) (bd : Option 𝒱.V)
  [∀ e, Nonempty (Val e)] [PayStorable pay]
  {α : Type} {Q : α → sProp (MT nD τ sig Unit Val ℕ (UU nD τ sig) ℕ)} (K : Dev nD × Fin k → ℕ) (c : Dev nD)

/-- A WAIT for cell `i`, while only cells of higher levels are owed: the owner gets the payload, and the cell reads
    zero for good. -/
theorem wp_take (i : Fin k) (S : Finset (Fin k)) (hS : ∀ j ∈ S, p.lvl i < p.lvl j) {sm : SemLoc sig} (hsm : p.sem i = sm)
    {n : ℕ} (hn : p.amt i = n) {w : TpuEff nD τ sig Val Λ .tc PUnit}
    (hw : ∀ R : PUnit → sProp 𝕄, wpE defs 𝒱 (c.tc : Thread nD τ) bd Set.univ w R = waitSpec (c.tc : Thread nD τ) Set.univ sm n R)
    {f : PUnit → Prog (TpuEff nD τ sig Val Λ .tc) α} :
    iprop(tools p pay K ∗ credit p c i ∗ owing p S c ∗ ready p c i)
      ⊢ iprop(((owing p S c ∗ zero p c i ∗ pay c i) -∗ wp frame (wpE defs 𝒱 (c.tc : Thread nD τ) bd) Set.univ (f ⟨⟩) Q)
          -∗ wp frame (wpE defs 𝒱 (c.tc : Thread nD τ) bd) Set.univ (.op w f) Q) := by
  subst hsm hn
  unfold credit owing ready zero
  iintro ⟨#Ht, Hc, ⟨%W, HO⟩, Hat⟩ Hk
  iapply (Rounds.wp_wait_rest_token 𝒱 ER (rd p pay) (c.tc : Thread nD τ) bd (κ := K (c, i)) hw (Set.mem_univ _) ()
      (O := due p S c) (W := W) (R := 0) (m := 0) (T := ∅) (by rw [Nat.zero_add]; exact (expect_eq p pay c i).symm)) $$ [Hc HO Hat]
  · isplitr; · iapply (tools_inv p pay K c i); iexact Ht
    isplitl [Hc]; · iexact Hc
    isplitl [HO]; · iexact HO
    isplitr; · iapply (mayWait p c i S hS); iapply (tools_lev p pay K); iexact Ht
    iexact Hat
  iintro ⟨HO, Hat, -, Hp⟩
  imod (Rounds.cell_close ER (rd p pay) (Set.mem_univ (K (c, i))) (fun h => h) (R := 0 + 1) (duties_later p pay (cell p c i))) $$ [Hat] with Hz
  · isplitr; · iapply (tools_inv p pay K c i); iexact Ht
    iexact Hat
  iapply Hk
  isplitl [HO]; · iexists _; iexact HO
  isplitl [Hz]; · iexact Hz
  iapply (Entails.of_eq (rest_eq p pay c i)); iexact Hp

/-- A wait for a copy's cell, of which `dst` has the size. -/
theorem wp_take_dma (i : Fin k) (S : Finset (Fin k)) (hS : ∀ j ∈ S, p.lvl i < p.lvl j) {q : DmaSem sig} (hsm : p.sem i = .dma q)
    {sp sp' : Space} {s s' : Shape} {e e' : EltTy} {src : Memref sig .tc sp' s' e'} {κ' : Kind} {dst : Memref sig κ' sp s e}
    (hn : p.amt i = dst.view.dmaCredit) {hsrc : src.view.WordExact} {hdst : dst.view.WordExact}
    {f : PUnit → Prog (TpuEff nD τ sig Val Λ .tc) α} :
    iprop(tools p pay K ∗ credit p c i ∗ owing p S c ∗ ready p c i)
      ⊢ iprop(((owing p S c ∗ zero p c i ∗ pay c i) -∗ wp frame (wpE defs 𝒱 (c.tc : Thread nD τ) bd) Set.univ (f ⟨⟩) Q)
          -∗ wp frame (wpE defs 𝒱 (c.tc : Thread nD τ) bd) Set.univ (.op (.waitDma2 q src dst hsrc hdst) f) Q) :=
  wp_take p pay defs 𝒱 bd K c i S hS hsm hn (fun R => wpE_waitDma2_eq 𝒱 (c.tc : Thread nD τ) bd Set.univ R)

/-- A REMOTE COPY with send cell `s` and receive cell `r`: the source share is the send cell's payload, the written
    destination the receive cell's on the device `peer r c`. -/
theorem wp_put (s r : Fin k) (S : Finset (Fin k)) (hr : r ∈ S) (hs : p.peer s c = c) (n : Dev nD) (hn : n = p.peer r c)
    {sp sp' : Space} {sh : Shape} {e : EltTy} {src : Memref sig .tc sp sh e} {dst : Memref sig (Dev.tc n : Thread nD τ).2.kind sp' sh e}
    {hsc : dst.view.ref.isScScratch = false} {sS sR : SemLoc sig} (hS : p.sem s = sS) (hR : p.sem r = sR)
    {hsrc : src.view.WordExact} {hdst : dst.view.WordExact} {hsem : DmaTarget.Typed sp sR (.remote (Dev.tc n : Thread nD τ) dst sS hsc)}
    {f : PUnit → Prog (TpuEff nD τ sig Val Λ .tc) α} {q : PosShare TreeShare}
    {fs : Buf Val (src.view.loc (c.tc : Thread nD τ))} {fd : Buf Val (dst.view.loc (n.tc : Thread nD τ))}
    (ha : dst.view.amount sR = p.amt r) (hsr : p.amt s = p.amt r)
    (hpay : (src.view.loc (c.tc : Thread nD τ) ↦[src.view.set]{q} fs : sProp 𝕄) ⊢ pay c s)
    (hpay' : (dst.view.loc (n.tc : Thread nD τ) ↦[dst.view.set]{fullShare} (dst.view.write Val fd (src.view.read Val fs) Finset.univ) : sProp 𝕄) ⊢ pay n r)
    (hroute : τ.routes (c.tc : Thread nD τ) (n.tc : Thread nD τ) = true) :
    iprop(tools p pay K ∗ (src.view.loc (c.tc : Thread nD τ) ↦[src.view.set]{q} fs) ∗ (dst.view.loc (n.tc : Thread nD τ) ↦[dst.view.set]{fullShare} fd)
        ∗ owing p S c ∗ tok p c s ∗ tok p c r)
      ⊢ iprop(((credit p c s ∗ owing p (S.erase r) c) -∗ wp frame (wpE defs 𝒱 (c.tc : Thread nD τ) bd) Set.univ (f ⟨⟩) Q)
          -∗ wp frame (wpE defs 𝒱 (c.tc : Thread nD τ) bd) Set.univ
            (.op (.enqueueDma src (.remote (Dev.tc n : Thread nD τ) dst sS hsc) sR hsrc hdst hsem) f) Q) := by
  subst hS hR hn
  unfold tok owing credit
  rw [hs]
  iintro ⟨#Ht, Hsrc, Hdst, ⟨%W, HO⟩, Hts, Htr⟩ Hk
  iapply (Rounds.wp_send_pointsTo 𝒱 ER (rd p pay) (c.tc : Thread nD τ) bd (κ₁ := K (c, s)) (κ₂ := K (p.peer r c, r))
      (r₁ := 0) (r₂ := 0) (d₁ := ()) (d₂ := ()) (fd := fd)
      (show () ∈ (rd p pay).duties (cell p c s) 0 by rw [duties_zero]; exact Finset.mem_singleton_self _)
      (show () ∈ (rd p pay).duties (cell p (p.peer r c) r) 0 by rw [duties_zero]; exact Finset.mem_singleton_self _)
      () () (p.amt r) ha ((amount_eq p pay c s ()).trans hsr) (amount_eq p pay (p.peer r c) r ()) (due p (S.erase r) c) (due_erase p hr c) (W := W)
      (hpay.trans (Entails.of_eq (payload_eq p pay c s ()).symm))
      (hpay'.trans (Entails.of_eq (payload_eq p pay (p.peer r c) r ()).symm)) hroute) $$ [Hsrc Hdst HO Hts Htr]
  · isplitr; · iapply (tools_inv p pay K c s); iexact Ht
    isplitr; · iapply (tools_inv p pay K (p.peer r c) r); iexact Ht
    isplitl [Hsrc]; · iexact Hsrc
    isplitl [Hdst]; · iexact Hdst
    isplitl [HO]; · iexact HO
    isplitl [Hts]; · iexact Hts
    isplitr; · iapply (tools_reached p pay K c s); iexact Ht
    isplitl [Htr]; · iexact Htr
    iapply (tools_reached p pay K (p.peer r c) r); iexact Ht
  iintro ⟨Hc, HO⟩
  iapply Hk
  rw [hsr]
  isplitl [Hc]; · iexact Hc
  iexists W; iexact HO

/-- A LOCAL COPY with cell `i`: the written destination and the source share are the cell's payload. -/
theorem wp_copy_here (i : Fin k) (hi : p.peer i c = c)
    {sp sp' : Space} {sh : Shape} {e : EltTy} {src : Memref sig (c.tc : Thread nD τ).2.kind sp sh e} {dst : Memref sig (c.tc : Thread nD τ).2.kind sp' sh e}
    {sm : SemLoc sig} (hsm : p.sem i = sm)
    {hsrc : src.view.WordExact} {hdst : dst.view.WordExact} {hsem : DmaTarget.Typed (nD := nD) (τ := τ) sp sm (.here dst)}
    {f : PUnit → Prog (TpuEff nD τ sig Val Λ .tc) α} {q : PosShare TreeShare}
    {fs : Buf Val (src.view.loc (c.tc : Thread nD τ))} {fd : Buf Val (dst.view.loc (c.tc : Thread nD τ))}
    (ha : dst.view.amount sm = p.amt i)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ pay c i) :
    iprop(tools p pay K ∗ (src.view.loc (c.tc : Thread nD τ) ↦[src.view.set]{q} fs) ∗ (dst.view.loc (c.tc : Thread nD τ) ↦[dst.view.set]{fullShare} fd) ∗ tok p c i)
      ⊢ iprop((credit p c i -∗ wp frame (wpE defs 𝒱 (c.tc : Thread nD τ) bd) Set.univ (f ⟨⟩) Q)
          -∗ wp frame (wpE defs 𝒱 (c.tc : Thread nD τ) bd) Set.univ (.op (.enqueueDma src (.here dst) sm hsrc hdst hsem) f) Q) := by
  subst hsm
  unfold tok credit
  rw [hi]
  iintro ⟨#Ht, Hsrc, Hdst, Htk⟩ Hk
  iapply (Rounds.wp_copy_pointsTo 𝒱 ER (rd p pay) (c.tc : Thread nD τ) bd (κ := K (c, i)) (r := 0) (d := ()) (fd := fd)
      (show () ∈ (rd p pay).duties (cell p c i) 0 by rw [duties_zero]; exact Finset.mem_singleton_self _)
      () (p.amt i) ha (amount_eq p pay c i ())
      (hpay.trans (Entails.of_eq (payload_eq p pay c i ()).symm))) $$ [Hsrc Hdst Htk]
  · isplitr; · iapply (tools_inv p pay K c i); iexact Ht
    isplitl [Hsrc]; · iexact Hsrc
    isplitl [Hdst]; · iexact Hdst
    isplitl [Htk]; · iexact Htk
    iapply (tools_reached p pay K c i); iexact Ht
  iintro Hc
  iapply Hk
  iexact Hc

end Steps

/-! ## Reading the final memory -/

/-- A fact read off the final state keeps the state. -/
theorem keep_state {A : sProp 𝕄} {s' : Phys nD τ sig Val} {φ : Prop} (h : (iprop(A ∗ SI s') : sProp 𝕄) ⊢ ⌜φ⌝) :
    (iprop(A ∗ SI s') : sProp 𝕄) ⊢ |={Set.univ}=> iprop(⌜φ⌝ ∗ SI s') := fun x hx => by
  have hφ : φ := h x hx
  refine (show (iprop(A ∗ SI s') : sProp 𝕄) ⊢ |={Set.univ}=> iprop(⌜φ⌝ ∗ SI s') from ?_) x hx
  iintro ⟨-, H⟩
  imodintro
  isplitr; · ipureintro; exact hφ
  iexact H

theorem read_held {ℓ : Loc nD τ sig} {q : PosShare TreeShare} {f : Buf Val ℓ} {s' : Phys nD τ sig Val} :
    (iprop((ℓ ↦{q} f) ∗ SI s') : sProp 𝕄) ⊢ ⌜s'.mem.mem ℓ = f⌝ := fun x hx => by
  have h := (sep_comm.1.trans SI_pointsTo_agree : (iprop((ℓ ↦{q} f) ∗ SI s') : sProp 𝕄) ⊢ _) x hx
  exact funext fun i => h i (Finset.mem_univ i)

/-- An argument and a result held whole are read together. -/
theorem read_two {ℓ ℓ' : Loc nD τ sig} {q q' : PosShare TreeShare} {f : Buf Val ℓ} {f' : Buf Val ℓ'} (s' : Phys nD τ sig Val) :
    (iprop(iprop((ℓ ↦{q} f) ∗ (ℓ' ↦{q'} f')) ∗ SI s') : sProp 𝕄)
      ⊢ |={Set.univ}=> iprop(⌜s'.mem.mem ℓ = f ∧ s'.mem.mem ℓ' = f'⌝ ∗ SI s') :=
  keep_state fun x hx => ⟨((sep_mono_left sep_elim_left).trans read_held) x hx, ((sep_mono_left sep_elim_right).trans read_held) x hx⟩

/-! ## The launch -/

/-- The exchange's cells and tokens in the launch element. -/
def cells : Finset (GSem nD τ sig) := Finset.univ.map ⟨fun ci : Dev nD × Fin k => cell p ci.1 ci.2, cell_inj p⟩
def toks : Finset (GSem nD τ sig × ℕ × Unit) :=
  Finset.univ.map ⟨fun ci : Dev nD × Fin k => (cell p ci.1 ci.2, 0, ()), fun _ _ h => cell_inj p (congrArg Prod.fst h)⟩

/-- What the launch element gives device `c`: each cell's state, its place, and its own cells' tokens. -/
def seed (c : Dev nD) : sProp 𝕄 :=
  iprop((bigSep Finset.univ fun i => roundState ER (rd p pay) (cell p c i) 0)
    ∗ (bigSep Finset.univ fun i => ready p c i) ∗ (bigSep Finset.univ fun i => reached ER (cell p c i) 0)
    ∗ (bigSep Finset.univ fun i => dutyTok ER (cell p c i) 0 ()))

theorem fund_seed : BI.own (ER (initOf (cells p) (toks p))) ⊢ (|==> bigSep Finset.univ (seed p pay) : sProp 𝕄) := by
  have hX (Φ : GSem nD τ sig → sProp 𝕄) :
      bigSep (cells p) Φ = bigSep Finset.univ fun c : Dev nD => bigSep Finset.univ fun i : Fin k => Φ (cell p c i) := by
    unfold cells; rw [bigSep_map, bigSep_univ_prod]; rfl
  have hT : bigSep (toks p) (fun x => (dutyTok ER x.1 x.2.1 x.2.2 : sProp 𝕄))
      = bigSep Finset.univ fun c : Dev nD => bigSep Finset.univ fun i : Fin k => dutyTok ER (cell p c i) 0 () := by
    unfold toks; rw [bigSep_map, bigSep_univ_prod]; rfl
  iintro HX
  imod (Rounds.fund ER (rd p pay) (cells p) (toks p)) $$ HX with ⟨Hst, Hr, Hat, Htok⟩
  imodintro
  unfold seed ready; simp only [bigSep_sep']
  isplitl [Hst]; · iapply (Entails.of_eq (hX fun g => roundState ER (rd p pay) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

theorem alloc [PayStorable pay] :
    iprop((bigSep Finset.univ fun c : Dev nD => bigSep Finset.univ fun i : Fin k => zero p c i)
        ∗ bigSep Finset.univ fun c : Dev nD => bigSep Finset.univ fun i : Fin k => roundState ER (rd p pay) (cell p c i) 0)
      ⊢ (|={Set.univ}=> iprop(∃ K : Dev nD × Fin k → ℕ, bigSep Finset.univ fun ci : Dev nD × Fin k => cellInv ER (rd p pay) (K ci) (cell p ci.1 ci.2)) : sProp 𝕄) := by
  rw [← bigSep_univ_prod (fun ci : Dev nD × Fin k => (zero p ci.1 ci.2 : sProp 𝕄)),
    ← bigSep_univ_prod (fun ci : Dev nD × Fin k => (roundState ER (rd p pay) (cell p ci.1 ci.2) 0 : sProp 𝕄)), ← bigSep_sep']
  have h1 : (bigSep Finset.univ fun ci : Dev nD × Fin k => iprop(zero p ci.1 ci.2 ∗ roundState ER (rd p pay) (cell p ci.1 ci.2) 0))
      ⊢ (|={Set.univ}=> bigSep Finset.univ fun ci : Dev nD × Fin k => iprop(∃ κ : ℕ, cellInv ER (rd p pay) κ (cell p ci.1 ci.2)) : sProp 𝕄) :=
    (bigSep_mono fun ci _ => (Rounds.body_intro ER (rd p pay) (cell p ci.1 ci.2)).trans inv_alloc).trans (bigSep_fupd _ _)
  iintro H
  imod h1 $$ H with H
  imodintro
  iapply (show (_ : sProp 𝕄) ⊢ _ from BI.bigSep_exists_pi Finset.univ
    (fun (ci : Dev nD × Fin k) (κ : ℕ) => (cellInv ER (rd p pay) κ (cell p ci.1 ci.2) : sProp 𝕄)))
  iexact H

/-- The involution of cell `i` as a permutation of the devices. -/
def perm (i : Fin k) : Dev nD ≃ Dev nD := ⟨p.peer i, p.peer i, p.peer_peer i, p.peer_peer i⟩

theorem tok_deal : (bigSep Finset.univ fun c : Dev nD => bigSep Finset.univ fun i : Fin k => dutyTok ER (cell p c i) 0 ())
    = (bigSep Finset.univ fun c : Dev nD => bigSep Finset.univ fun i : Fin k => tok p c i : sProp 𝕄) := by
  rw [BI.bigSep_univ_comm, BI.bigSep_univ_comm (Φ := fun (c : Dev nD) (i : Fin k) => (tok p c i : sProp 𝕄))]
  exact bigSep_congr fun i _ => bigSep_univ_equiv (perm p i) (fun c : Dev nD => (dutyTok ER (cell p c i) 0 () : sProp 𝕄))

theorem credits (c : Dev nD) : (Pipeline.launchCred (due p p.owed) c : sProp 𝕄) ⊢ bigSep p.owed fun i => credit p c i := by
  have h1 (i : Fin k) (hi : i ∈ p.owed) :
      (cred (tallyOn (cell p c i) (launchCredit (τ := τ) (Pipeline.owing (due p p.owed)) 0 (cell p c i))) : sProp 𝕄) = credit p c i := by
    unfold credit tallyAt
    refine congrArg _ (congrArg _ (Finsupp.ext fun u => ?_)); cases u
    rw [Pipeline.launchCredit_owing, Finsupp.single_eq_same, Finset.sum_congr rfl fun d _ => due_at p d c hi,
      Finset.sum_ite_eq' Finset.univ (p.peer i c) fun _ => p.amt i, if_pos (Finset.mem_univ _)]
  unfold Pipeline.launchCred
  rw [← bigSep_congr h1]
  have h2 : (bigSep (p.owed.map ⟨p.sem, p.inj⟩) fun sm => cred (tallyOn ((c.tc : Thread nD τ), sm) (launchCredit (Pipeline.owing (due p p.owed)) 0 ((c.tc : Thread nD τ), sm))))
      = (bigSep p.owed fun i => cred (tallyOn (cell p c i) (launchCredit (τ := τ) (Pipeline.owing (due p p.owed)) 0 (cell p c i))) : sProp 𝕄) := by
    rw [bigSep_map]; rfl
  rw [← h2]
  exact BI.bigSep_subset (Finset.subset_univ (p.owed.map ⟨p.sem, p.inj⟩))

variable {Λ₀ : Idealize.SL.Sem.Labels} {P : Type} [Fintype P]
variable (pcs : P → PCfg sig Λ₀ Val) (a : Dev nD → (x : P) → (pcs x).Adm)
  (pdats : (x : P) → (c : Dev nD) → Dat τ Val Unit ℕ (UU nD τ sig) ℕ (Pipeline.pinD pcs a c x) c)
  (phinj : Function.Injective (Pipeline.PerCore.cellOf (nD := nD) (Pipeline.pinD pcs a)))
  (defs₀ : Defs nD τ sig Val Λ₀) (𝒱₀ : Variants)

/-- The launch element: the pipeline library's and the exchange's. -/
def u₀ : UU nD τ sig :=
  (initOf (Pipeline.PerCore.cells (Pipeline.pinD pcs a) phinj) (Pipeline.PerCore.launchToks (Pipeline.pinD pcs a) phinj), initOf (cells p) (toks p))

include phinj in
/-- A program whose first kernel is an exchange without windows, each device with its own segments after it and its own
    contents of the kernels' prefetched tables. The unscoped buffers of all devices are dealt as
    `mem c` (`hdeal`), what device `c`'s body needs of its own and of its peers' memory; the body leads from
    `start ∗ mem` to `fin` with all the exchange's cells at zero; whatever follows starts from `T`. -/
theorem run_exchange [DecidableEq P] [∀ e, Nonempty (Val e)] [PayStorable pay]
    {x : P} (hw : Pipeline.WinFacts₀ (pcs x).spec) (ho : Pipeline.OwnSemFacts (pcs x).spec p.sem)
    (hW : (pcs x).W = 0) (hpre : (pcs x).pre.K = 0)
    (m : (ℓ : Loc nD τ sig) → Buf Val ℓ) (g : Dev nD → PrngReg)
    (main : Dev nD → Prog (TpuEff nD τ sig Val (Pipeline.Sig Λ₀ P fun q => (pcs q).Adm) .tc) PUnit)
    (segs : Dev nD → List (Pipeline.PerCore.Seg pcs a pdats () defs₀ 𝒱₀ L (lv p)))
    (hmain : ∀ c, main c = .op (.customCall (Pipeline.entry x) ()) fun _ => Pipeline.PerCore.Seg.run (segs c))
    (hnd : ∀ c, (Pipeline.PerCore.Seg.pipes (segs c)).Nodup) (hnp : ∀ c, x ∉ Pipeline.PerCore.Seg.pipes (segs c))
    (hbody : ∀ c, Pipeline.BodyObligationLoose (pdats x c) defs₀ 𝒱₀ () Set.univ)
    (howed₀ : ∀ c, (pdats x c).owed 0 = due p p.owed c) (howedN : ∀ c, (pdats x c).owed (Fin.last _) = 0)
    (mem fin T Tₙ : Dev nD → sProp 𝕄)
    (hdeal : (bigSep Finset.univ fun c : Dev nD => unscopedBufs c (fun b => m ((c.tc : Thread nD τ).loc b)) : sProp 𝕄) ⊢ bigSep Finset.univ mem)
    (hin : ∀ c, iprop(start p pay c ∗ mem c ∗ Pipeline.scopedRest (pcs x).spec c) ⊢ (pdats x c).Φ 0)
    (hout : ∀ c, (pdats x c).Φ (Fin.last (Pipeline.pinD pcs a c x).N)
      ⊢ iprop(fin c ∗ (bigSep Finset.univ fun i => zero p c i) ∗ Pipeline.scopedRest (pcs x).spec c))
    (hexit : ∀ c, iprop(fin c ∗ ∃ W, owes (c.tc : Thread nD τ) (0 : CellTallies nD τ sig Unit) W) ⊢ |={Set.univ}=> T c)
    (hch : ∀ c, Pipeline.PerCore.Seg.ChainsAt c T (segs c) fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  haveI : IsEmpty (Fin (pcs x).W) := by rw [hW]; infer_instance
  haveI : IsEmpty (Fin (pcs x).pre.K) := by rw [hpre]; infer_instance
  have hpref (c : Dev nD) (q : Fin (pcs x).pre.K → PosShare TreeShare) (V : (pcs x).pre.Contents Val) :
      (Pipeline.prefHeld (pcs x).pre c q V : sProp 𝕄) = iprop(emp) := by
    unfold Pipeline.prefHeld; rw [Finset.univ_eq_empty, bigSep_empty]; try rfl
  have harr (c : Dev nD) (V) : ((pdats x c).arrays V : sProp 𝕄) = iprop(emp) := by
    unfold Dat.arrays; rw [Finset.univ_eq_empty, bigSep_empty]; try rfl
  refine Talk.run_talk pcs a pdats () phinj EP defs₀ 𝒱₀ L (lv p) hw ho m g main segs hmain hnd hnp
    (fun w => isEmptyElim w) (fun w => isEmptyElim w) hbody
    (fun c => Pipeline.PerCore.cellsWaits_intro (Pipeline.pinD pcs a) pdats () x c fun w => isEmptyElim w)
    (due p p.owed) L_of_ne (seed p pay) (u₀ p pcs a phinj) ?_
    (fun c => iprop((∃ K : Dev nD × Fin k → ℕ, bigSep Finset.univ fun ci : Dev nD × Fin k => cellInv ER (rd p pay) (K ci) (cell p ci.1 ci.2))
      ∗ (bigSep Finset.univ fun ci : Dev nD × Fin k => reached ER (cell p ci.1 ci.2) 0)
      ∗ (bigSep Finset.univ fun i => ready p c i) ∗ (bigSep Finset.univ fun i => tok p c i) ∗ (bigSep p.owed fun i => credit p c i) ∗ mem c))
    (fun c => iprop(start p pay c ∗ mem c)) fin (fun _ => iprop(emp)) T Tₙ ?_ ?_ ?_ ?_ ?_ hch QY hfin hQ
  · unfold u₀
    iintro Hu
    icases (ownU_pair _ _) $$ Hu with ⟨HP, HX⟩
    imod (fund_seed p pay) $$ HX with HG
    imodintro
    isplitl [HP] <;> iassumption
  · simp only [bigSep_sep', seed]
    iintro ⟨Hos, Hub, -, Hcr, Hst, Hat, #Hr, Htok⟩
    imod (alloc p pay) $$ [Hos Hst] with HI
    · isplitl [Hos]
      · iexact Hos
      · iexact Hst
    icases HI with ⟨%K, #HI⟩
    ihave Hm := hdeal $$ Hub
    ihave Ht := (Entails.of_eq (tok_deal p)) $$ Htok
    ihave Hc := (show (bigSep Finset.univ fun c : Dev nD => Pipeline.launchCred (due p p.owed) c : sProp 𝕄)
      ⊢ bigSep Finset.univ fun c : Dev nD => bigSep p.owed fun i => credit p c i from bigSep_mono fun c _ => credits p c) $$ Hcr
    imodintro
    isplitr
    · iapply (BI.bigSep_intro_persistent (S := Finset.univ) fun (c : Dev nD) _ =>
        (BI.Entails.refl (iprop(∃ K : Dev nD × Fin k → ℕ, bigSep Finset.univ fun ci : Dev nD × Fin k => cellInv ER (rd p pay) (K ci) (cell p ci.1 ci.2)) : sProp 𝕄)))
      iexists K; iexact HI
    isplitr
    · iapply (BI.bigSep_intro_persistent (S := Finset.univ) fun (c : Dev nD) _ =>
        (BI.Entails.refl (bigSep Finset.univ fun ci : Dev nD × Fin k => reached ER (cell p ci.1 ci.2) 0 : sProp 𝕄)))
      iapply (Entails.of_eq (bigSep_univ_prod fun ci : Dev nD × Fin k => (reached ER (cell p ci.1 ci.2) 0 : sProp 𝕄)).symm); iexact Hr
    isplitl [Hat]; · iexact Hat
    isplitl [Ht]; · iexact Ht
    isplitl [Hc]; · iexact Hc
    iexact Hm
  · intro c
    rw [harr, hpref]
    unfold Dat.owesAt Pipeline.owesWithin
    rw [howed₀ c]
    iintro ⟨⟨⟨⟨%K, HI⟩, Hr, Hat, Ht, Hc, Hm⟩, HO⟩, Hlev⟩
    imodintro
    isplitr; · iempintro
    isplitr; · iempintro
    isplitl [HO]
    · iexists ∅; isplitr; · ipureintro; rw [Finset.coe_empty]; exact Set.empty_subset _
      iexact HO
    isplitl
    · isplitr [Hm]
      · unfold start tools
        isplitl [HI Hr Hlev]
        · iexists K
          isplitl [HI]; · iexact HI
          isplitl [Hr] <;> iassumption
        isplitl [Hat]; · iexact Hat
        isplitl [Ht] <;> iassumption
      · iexact Hm
    · iempintro
  · intro c
    refine BIBase.Entails.trans ?_ (hin c)
    iintro ⟨⟨Hs, Hm⟩, -, Hr⟩
    isplitl [Hs]; · iexact Hs
    isplitl [Hm] <;> iassumption
  · intro c
    exact hout c
  · intro c
    rw [harr]
    refine BIBase.Entails.trans ?_ (hexit c)
    unfold Dat.owesAt Pipeline.owesWithin
    rw [howedN c]
    iintro ⟨-, ⟨%W, -, HO⟩, HY, -⟩
    isplitl [HY]; · iexact HY
    iexists W; iexact HO

end Cert.Exchange
-- ==== Proof.Blocks.lean ====
/-
# Results written block by block

In three of the exchanges a device's result is made of blocks, each written once: by a copy of its own or by a copy of
another device. At launch every block is dealt to the device that writes it; in the end the blocks are joined again.
-/
module

public import proofs.«01_k».proof.Proof.Exchange

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

local notation "𝕄" => MT nD τ sig Unit Val ℕ (UU nD τ sig) ℕ

/-- What was written through a view, against a whole content `R` that reads the same through it. -/
theorem settle {t : Thread nD τ} {sp : Space} {s : Shape} {e : EltTy} (M : Memref sig t.2.kind sp s e) {q : PosShare TreeShare}
    (f R : Buf Val (M.view.loc t)) (v : s.Idx → Val e) (h : M.view.read Val R = v) :
    (M.view.loc t ↦[M.view.set]{q} M.view.write Val f v Finset.univ : sProp 𝕄) ⊢ (M.view.loc t ↦[M.view.set]{q} R) := by
  refine Entails.of_eq (pointsTo_congr fun i hi => ?_)
  rw [← h, View.write_read_eq_piecewise]
  exact Finset.piecewise_eq_of_mem _ _ _ hi

/-- The elements of one block of a buffer, the block named with its unit axes dropped. -/
theorem mem_block {κ : Kind} (b : Ref sig κ) {off size : Fin b.ty.shape.rank → ℕ} {inb} {hr} {s' : Shape} {hq} {i : b.ty.shape.Idx} :
    i ∈ (((Memref.whole b).slice (Rect.unit (s := b.ty.shape) off size inb) hr).squeeze s' hq).view.set
      ↔ ∀ a, off a ≤ (i a).val ∧ (i a).val < off a + size a := by
  have h : (((Memref.whole b).slice (Rect.unit (s := b.ty.shape) off size inb) hr).squeeze s' hq).view.set
      = (Rect.unit (s := b.ty.shape) off size inb).set :=
    (View.set_reshape _ _).trans (View.set_slice_whole b _)
  rw [h]
  exact Rect.mem_set_unit

/-- A buffer named as a view is the buffer held whole. -/
theorem held_whole (b : Ref sig .tc) {c : Dev nD} {q : PosShare TreeShare} {f : Buf Val ((c.tc : Thread nD τ).loc b)} :
    ((Memref.whole b).view.loc (c.tc : Thread nD τ) ↦[(Memref.whole b).view.set]{q} f : sProp 𝕄) = ((c.tc : Thread nD τ).loc b ↦{q} f) := by
  simp only [Memref.view_whole, View.set_whole]

/-- Two half shares of a buffer. -/
theorem halves (b : Ref sig .tc) {c : Dev nD} {q : PosShare TreeShare} {f : Buf Val ((c.tc : Thread nD τ).loc b)} :
    ((c.tc : Thread nD τ).loc b ↦{q} f : sProp 𝕄)
      ⊣⊢ iprop(((c.tc : Thread nD τ).loc b ↦{q.left} f) ∗ ((c.tc : Thread nD τ).loc b ↦{q.right} f)) :=
  pointsTo_share (PosShare.mem_left_op_right q)

section Deal

variable {k : ℕ} (p : Proto nD sig k) (b : Ref sig .tc) (W : Finset (Fin k))
  (B : Dev nD → Fin k → Finset b.ty.Idx) (which : Dev nD → b.ty.Idx → Fin k)
  (hW : ∀ c z, which c z ∈ W) (hB : ∀ c, ∀ i ∈ W, ∀ z, z ∈ B c i ↔ which c z = i)

include hW hB in
/-- A device's buffer is the blocks written into it. -/
theorem blocks (c : Dev nD) (q : PosShare TreeShare) (f : Buf Val ((c.tc : Thread nD τ).loc b)) :
    ((c.tc : Thread nD τ).loc b ↦{q} f : sProp 𝕄) = bigSep W fun i => (c.tc : Thread nD τ).loc b ↦[B c i]{q} f := by
  classical
  rw [← pointsTo_biUnion (ℓ := (c.tc : Thread nD τ).loc b) W (B c) fun i hi j hj hij => Finset.disjoint_left.mpr fun z h h' =>
    hij (((hB c i hi z).mp h).symm.trans ((hB c j hj z).mp h'))]
  congr 1
  exact (Finset.eq_univ_iff_forall.mpr fun z => Finset.mem_biUnion.mpr ⟨which c z, hW c z, (hB c _ (hW c z) z).mpr rfl⟩).symm

/-- Over the devices and the written cells, in either order. -/
theorem swap (Φ : Dev nD → Fin k → sProp (MT nD τ sig Unit Val ℕ (UU nD τ sig) ℕ)) :
    (bigSep Finset.univ fun c => bigSep W fun i => Φ c i)
      = bigSep (Finset.univ : Finset {i // i ∈ W}) fun i => bigSep Finset.univ fun c => Φ c i.1 := by
  have h (c : Dev nD) : bigSep W (Φ c) = bigSep (Finset.univ : Finset {i // i ∈ W}) fun i => Φ c i.1 := by
    conv_lhs => rw [← Finset.attach_map_val (s := W)]
    rw [bigSep_map, Finset.univ_eq_attach]; rfl
  rw [bigSep_congr fun c _ => h c]
  exact BI.bigSep_univ_comm _

include hW hB in
/-- Dealing the blocks to the devices that write them. -/
theorem deal_blocks (f : (c : Dev nD) → Buf Val ((c.tc : Thread nD τ).loc b)) :
    (bigSep Finset.univ fun c : Dev nD => (c.tc : Thread nD τ).loc b ↦{fullShare} f c : sProp 𝕄)
      ⊢ bigSep Finset.univ fun c : Dev nD => bigSep W fun i => iprop(∃ g, ((p.peer i c).tc : Thread nD τ).loc b ↦[B (p.peer i c) i]{fullShare} g) := by
  rw [bigSep_congr fun c _ => blocks b W B which hW hB c fullShare (f c), swap, swap]
  refine bigSep_mono fun i _ => ?_
  obtain ⟨i, hi⟩ := i
  rw [bigSep_univ_equiv (perm p i) (fun c : Dev nD => ((c.tc : Thread nD τ).loc b ↦[B c i]{fullShare} f c : sProp 𝕄))]
  refine bigSep_mono fun c _ => ?_
  show (((p.peer i c).tc : Thread nD τ).loc b ↦[B (p.peer i c) i]{fullShare} f (p.peer i c) : sProp 𝕄) ⊢ _
  iintro H; iexists _; iexact H

end Deal

end Cert.Exchange
-- ==== Proof.GatherRun.lean ====
/-
# The gather of the weights

Every device starts with its chip's shard, copies it whole into its own result, and sends the half of its core's index to
the three other chips, to the core of the same index. Each half it receives it passes on to the other core of its chip, so
that every core ends with all halves of all chips. Thirteen semaphores a device: `0` to `2` the sends' to the chips, `3` to
`5` the passing on's, `6` to `8` the receives' from the chips, `9` to `11` those from the other core, `12` the local copy's.
The halves passed on are waited for at a higher level, for they are still owed while the first receives are waited for.
-/
module

public import proofs.«01_k».proof.Proof.Blocks
public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Value
public import Idealize.ShloMosaic.Lib.ValueIdxRank6

@[expose] public section

set_option Elab.async false

noncomputable section

namespace Cert.GatherRun

open Cert.GatherIdeal Cert.GatherIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The three other chips, the core of the same index. -/
def ch0 (c : Dev nD) : Dev nD := ⟨2 * (c.val / 2 % 2) + c.val % 2 + 4 - 4 * (c.val / 4), by revert c; decide⟩
def ch1 (c : Dev nD) : Dev nD := ⟨4 * (c.val / 4) + c.val % 2 + 2 - 2 * (c.val / 2 % 2), by revert c; decide⟩
def ch2 (c : Dev nD) : Dev nD := ⟨c.val % 2 + 6 - (4 * (c.val / 4) + 2 * (c.val / 2 % 2)), by revert c; decide⟩
theorem ch0_ch0 : ∀ c, ch0 (ch0 c) = c := by decide
theorem ch1_ch1 : ∀ c, ch1 (ch1 c) = c := by decide
theorem ch2_ch2 : ∀ c, ch2 (ch2 c) = c := by decide
theorem dev1_eq (c : Dev nD) : (⟨k0_dev1 c, k0_dev1_lt c⟩ : Dev nD) = ch0 c := Fin.ext (k0_dev1_eq c)
theorem dev2_eq (c : Dev nD) : (⟨k0_dev2 c, k0_dev2_lt c⟩ : Dev nD) = ch1 c := Fin.ext (k0_dev2_eq c)
theorem dev3_eq (c : Dev nD) : (⟨k0_dev3 c, k0_dev3_lt c⟩ : Dev nD) = ch2 c := Fin.ext (k0_dev3_eq c)

/-- The other core of the chip. -/
def sib (c : Dev nD) : Dev nD := ⟨4 * (c.val / 4) + 2 * (c.val / 2 % 2) + 1 - c.val % 2, by revert c; decide⟩
theorem sib_sib : ∀ c, sib (sib c) = c := by decide
theorem dev4_eq (c : Dev nD) : (⟨k0_dev4 c, k0_dev4_lt c⟩ : Dev nD) = sib c := Fin.ext (k0_dev4_eq c)
theorem dev5_eq (c : Dev nD) : (⟨k0_dev5 c, k0_dev5_lt c⟩ : Dev nD) = sib c := Fin.ext (k0_dev5_eq c)
theorem dev6_eq (c : Dev nD) : (⟨k0_dev6 c, k0_dev6_lt c⟩ : Dev nD) = sib c := Fin.ext (k0_dev6_eq c)

/-- The blocks in closed form: a chip's two halves, one half of a chip, one half of the argument. -/
theorem off1_eq (c : Dev nD) : k0_off1 c = ![c.val / 2, 0, 0, 0] := (k0_off1_eq c).trans (by revert c; decide)
theorem off2_eq (c : Dev nD) : k0_off2 c = ![c.val / 2, c.val % 2, 0, 0] := (k0_off2_eq c).trans (by revert c; decide)
theorem off3_eq (c : Dev nD) : k0_off3 c = ![c.val % 2, 0, 0] := k0_off3_eq c
theorem off4_eq (c : Dev nD) : k0_off4 c = ![(ch0 c).val / 2, c.val % 2, 0, 0] := (k0_off4_eq c).trans (by revert c; decide)
theorem off5_eq (c : Dev nD) : k0_off5 c = ![(ch1 c).val / 2, c.val % 2, 0, 0] := (k0_off5_eq c).trans (by revert c; decide)
theorem off6_eq (c : Dev nD) : k0_off6 c = ![(ch2 c).val / 2, c.val % 2, 0, 0] := (k0_off6_eq c).trans (by revert c; decide)
theorem off7_eq (c : Dev nD) : k0_off7 c = ![(ch0 c).val / 2, 1 - c.val % 2, 0, 0] := (k0_off7_eq c).trans (by revert c; decide)
theorem off8_eq (c : Dev nD) : k0_off8 c = ![(ch1 c).val / 2, 1 - c.val % 2, 0, 0] := (k0_off8_eq c).trans (by revert c; decide)
theorem off9_eq (c : Dev nD) : k0_off9 c = ![(ch2 c).val / 2, 1 - c.val % 2, 0, 0] := (k0_off9_eq c).trans (by revert c; decide)
/-- The same block, named by the device that writes it and by the device that holds it. -/
theorem off_ch0 (c : Dev nD) : k0_off4 (ch0 c) = k0_off2 c := (off4_eq _).trans (Eq.trans (by revert c; decide) (off2_eq c).symm)
theorem off_sib0 (c : Dev nD) : k0_off7 (sib c) = k0_off4 c := (off7_eq _).trans (Eq.trans (by revert c; decide) (off4_eq c).symm)
theorem off_ch1 (c : Dev nD) : k0_off5 (ch1 c) = k0_off2 c := (off5_eq _).trans (Eq.trans (by revert c; decide) (off2_eq c).symm)
theorem off_sib1 (c : Dev nD) : k0_off8 (sib c) = k0_off5 c := (off8_eq _).trans (Eq.trans (by revert c; decide) (off5_eq c).symm)
theorem off_ch2 (c : Dev nD) : k0_off6 (ch2 c) = k0_off2 c := (off6_eq _).trans (Eq.trans (by revert c; decide) (off2_eq c).symm)
theorem off_sib2 (c : Dev nD) : k0_off9 (sib c) = k0_off6 c := (off9_eq _).trans (Eq.trans (by revert c; decide) (off6_eq c).symm)

/-- One half of the argument; one half of a chip, both halves of a chip in the result. -/
abbrev argM (off : Fin 3 → ℕ) (inb : ∀ a, off a + S1x86016x128.size a ≤ S2x86016x128.size a) : Memref sig .tc .hbm S86016x128 .f32 :=
  ((Memref.whole main_arg0).slice (Rect.unit (s := S2x86016x128) off S1x86016x128.size inb) (fun _ => rfl)).squeeze
    S86016x128 squeezes_S1x86016x128_S86016x128
abbrev halfM (off : Fin 4 → ℕ) (inb : ∀ a, off a + S1x1x86016x128.size a ≤ S4x2x86016x128.size a) : Memref sig .tc .hbm S86016x128 .f32 :=
  ((Memref.whole main_v1).slice (Rect.unit (s := S4x2x86016x128) off S1x1x86016x128.size inb) (fun _ => rfl)).squeeze
    S86016x128 squeezes_S1x1x86016x128_S86016x128
abbrev chipM (off : Fin 4 → ℕ) (inb : ∀ a, off a + S1x2x86016x128.size a ≤ S4x2x86016x128.size a) : Memref sig .tc .hbm S2x86016x128 .f32 :=
  ((Memref.whole main_v1).slice (Rect.unit (s := S4x2x86016x128) off S1x2x86016x128.size inb) (fun _ => rfl)).squeeze
    S2x86016x128 squeezes_S1x2x86016x128_S2x86016x128

/-- What device `c` copies for itself and what it sends, and where they are written. -/
abbrev allM : Memref sig .tc .hbm S2x86016x128 .f32 := Memref.whole main_arg0
abbrev ownM (c : Dev nD) := chipM (k0_off1 c) (k0_off1_inb c)
abbrev srcM (c : Dev nD) := argM (k0_off3 c) (k0_off3_inb c)
abbrev dstM (c : Dev nD) := halfM (k0_off2 c) (k0_off2_inb c)
/-- The halves it receives from the three chips and passes on, and those it receives from the other core. -/
abbrev got0 (c : Dev nD) := halfM (k0_off4 c) (k0_off4_inb c)
abbrev got1 (c : Dev nD) := halfM (k0_off5 c) (k0_off5_inb c)
abbrev got2 (c : Dev nD) := halfM (k0_off6 c) (k0_off6_inb c)
abbrev oth0 (c : Dev nD) := halfM (k0_off7 c) (k0_off7_inb c)
abbrev oth1 (c : Dev nD) := halfM (k0_off8 c) (k0_off8_inb c)
abbrev oth2 (c : Dev nD) := halfM (k0_off9 c) (k0_off9_inb c)

/-- The semaphore of a send, of a receive. -/
abbrev sS0 : DmaSem sig := ((cc0_scratch0.slice (Rect.unit (s := S6) ![0] S1.size inb_S6_S1_0)).squeeze S_ squeezes_S1_S_).sem
abbrev sS1 : DmaSem sig := ((cc0_scratch0.slice (Rect.unit (s := S6) ![1] S1.size inb_S6_S1_1)).squeeze S_ squeezes_S1_S_).sem
abbrev sS2 : DmaSem sig := ((cc0_scratch0.slice (Rect.unit (s := S6) ![2] S1.size inb_S6_S1_2)).squeeze S_ squeezes_S1_S_).sem
abbrev sS3 : DmaSem sig := ((cc0_scratch0.slice (Rect.unit (s := S6) ![3] S1.size inb_S6_S1_3)).squeeze S_ squeezes_S1_S_).sem
abbrev sS4 : DmaSem sig := ((cc0_scratch0.slice (Rect.unit (s := S6) ![4] S1.size inb_S6_S1_4)).squeeze S_ squeezes_S1_S_).sem
abbrev sS5 : DmaSem sig := ((cc0_scratch0.slice (Rect.unit (s := S6) ![5] S1.size inb_S6_S1_5)).squeeze S_ squeezes_S1_S_).sem
abbrev sR0 : DmaSem sig := ((cc0_scratch1.slice (Rect.unit (s := S6) ![0] S1.size inb_S6_S1_0)).squeeze S_ squeezes_S1_S_).sem
abbrev sR1 : DmaSem sig := ((cc0_scratch1.slice (Rect.unit (s := S6) ![1] S1.size inb_S6_S1_1)).squeeze S_ squeezes_S1_S_).sem
abbrev sR2 : DmaSem sig := ((cc0_scratch1.slice (Rect.unit (s := S6) ![2] S1.size inb_S6_S1_2)).squeeze S_ squeezes_S1_S_).sem
abbrev sR3 : DmaSem sig := ((cc0_scratch1.slice (Rect.unit (s := S6) ![3] S1.size inb_S6_S1_3)).squeeze S_ squeezes_S1_S_).sem
abbrev sR4 : DmaSem sig := ((cc0_scratch1.slice (Rect.unit (s := S6) ![4] S1.size inb_S6_S1_4)).squeeze S_ squeezes_S1_S_).sem
abbrev sR5 : DmaSem sig := ((cc0_scratch1.slice (Rect.unit (s := S6) ![5] S1.size inb_S6_S1_5)).squeeze S_ squeezes_S1_S_).sem

/-- The credit of one half, of the local copy. -/
abbrev N : ℕ := (dstM 0).view.dmaCredit
abbrev N2 : ℕ := (ownM 0).view.dmaCredit
theorem N_pos : 0 < N := View.dmaCredit_pos _ (by decide)
theorem N2_pos : 0 < N2 := View.dmaCredit_pos _ (by decide)

def p : Proto nD sig 13 where
  sem := ![.dma sS0, .dma sS1, .dma sS2, .dma sS3, .dma sS4, .dma sS5, .dma sR0, .dma sR1, .dma sR2, .dma sR3, .dma sR4, .dma sR5,
    .dma cc0_scratch2.sem]
  inj := by decide
  amt := ![N, N, N, N, N, N, N, N, N, N, N, N, N2]
  amt_pos i := by
    fin_cases i
    case _ => exact N_pos
    case _ => exact N_pos
    case _ => exact N_pos
    case _ => exact N_pos
    case _ => exact N_pos
    case _ => exact N_pos
    case _ => exact N_pos
    case _ => exact N_pos
    case _ => exact N_pos
    case _ => exact N_pos
    case _ => exact N_pos
    case _ => exact N_pos
    case _ => exact N2_pos
  peer := ![id, id, id, id, id, id, ch0, ch1, ch2, sib, sib, sib, id]
  peer_peer := by decide
  owed := {6, 7, 8, 9, 10, 11}
  lvl := ![0, 0, 0, 0, 0, 0, 0, 0, 0, 1, 1, 1, 0]

/-- What is owed after each of the six sends. -/
abbrev O1 : Finset (Fin 13) := p.owed.erase 6
abbrev O2 : Finset (Fin 13) := O1.erase 7
abbrev O3 : Finset (Fin 13) := O2.erase 8
abbrev O4 : Finset (Fin 13) := O3.erase 9
abbrev O5 : Finset (Fin 13) := O4.erase 10
abbrev O6 : Finset (Fin 13) := O5.erase 11

variable (m : (ℓ : Loc nD τ sig) → Buf (Elt F) ℓ) (ρ : Dev nD → PrngReg)

/-- The argument of device `c`. -/
def arg (c : Dev nD) : S2x86016x128.Idx → Elt F .f32 := m ((c.tc : Thread nD τ).loc main_arg0)
/-- Where device `c` has half `h` of chip `j` from: its own, or the chip's core of that index. -/
def from' (c : Dev nD) (j h : ℕ) : Dev nD := ⟨2 * (j % 4) + (if j = c.val / 2 then c.val % 2 else h % 2), by split_ifs <;> (show _ < 8; omega)⟩
/-- What device `c` ends with: both halves of every chip. -/
def res (c : Dev nD) : Buf (Elt F) ((c.tc : Thread nD τ).loc main_v1) :=
  fun z : S4x2x86016x128.Idx => arg m (from' c (z 0).val (z 1).val) (ix3 (z 1) (z 2) (z 3))

/-! ## The blocks -/

/-- The elements of half `h` of chip `n`, of chip `n`, of one half of the argument. -/
theorem mem_half (off : Fin 4 → ℕ) (inb) (n h : ℕ) (e : off = ![n, h, 0, 0]) (z : S4x2x86016x128.Idx) :
    z ∈ (halfM off inb).view.set ↔ (z 0).val = n ∧ (z 1).val = h := by
  refine (mem_block main_v1).trans ?_
  subst e
  have h2 : (z 2).val < 86016 := (z 2).isLt
  have h3 : (z 3).val < 128 := (z 3).isLt
  constructor
  · intro e
    have h0 : n ≤ (z 0).val ∧ (z 0).val < n + 1 := e 0
    have h1 : h ≤ (z 1).val ∧ (z 1).val < h + 1 := e 1
    omega
  · intro e a
    fin_cases a
    · show n ≤ (z 0).val ∧ (z 0).val < n + 1; omega
    · show h ≤ (z 1).val ∧ (z 1).val < h + 1; omega
    · show 0 ≤ (z 2).val ∧ (z 2).val < 0 + 86016; omega
    · show 0 ≤ (z 3).val ∧ (z 3).val < 0 + 128; omega
theorem mem_chip (off : Fin 4 → ℕ) (inb) (n : ℕ) (e : off = ![n, 0, 0, 0]) (z : S4x2x86016x128.Idx) :
    z ∈ (chipM off inb).view.set ↔ (z 0).val = n := by
  refine (mem_block main_v1).trans ?_
  subst e
  have h1 : (z 1).val < 2 := (z 1).isLt
  have h2 : (z 2).val < 86016 := (z 2).isLt
  have h3 : (z 3).val < 128 := (z 3).isLt
  constructor
  · intro e
    have h0 : n ≤ (z 0).val ∧ (z 0).val < n + 1 := e 0
    omega
  · intro e a
    fin_cases a
    · show n ≤ (z 0).val ∧ (z 0).val < n + 1; omega
    · show 0 ≤ (z 1).val ∧ (z 1).val < 0 + 2; omega
    · show 0 ≤ (z 2).val ∧ (z 2).val < 0 + 86016; omega
    · show 0 ≤ (z 3).val ∧ (z 3).val < 0 + 128; omega
theorem set_half {off off' : Fin 4 → ℕ} (h : off = off') (inb) (inb') : (halfM off inb).view.set = (halfM off' inb').view.set := by
  subst h; rfl

/-- The blocks of device `c`'s result, by the semaphore that tells of their writing. -/
def B (c : Dev nD) : Fin 13 → Finset (main_v1 : Ref sig .tc).ty.Idx :=
  ![∅, ∅, ∅, ∅, ∅, ∅, (got0 c).view.set, (got1 c).view.set, (got2 c).view.set, (oth0 c).view.set, (oth1 c).view.set, (oth2 c).view.set,
    (ownM c).view.set]
def W : Finset (Fin 13) := {6, 7, 8, 9, 10, 11, 12}
def which (c : Dev nD) (j h : ℕ) : Fin 13 :=
  if j = c.val / 2 then 12
  else if j = (ch0 c).val / 2 then (if h = c.val % 2 then 6 else 9)
  else if j = (ch1 c).val / 2 then (if h = c.val % 2 then 7 else 10)
  else (if h = c.val % 2 then 8 else 11)
theorem which_mem (c : Dev nD) (z : (main_v1 : Ref sig .tc).ty.Idx) : which c (z (0 : Fin 4)).val (z (1 : Fin 4)).val ∈ W := by
  unfold which; split_ifs <;> decide
theorem which12 : ∀ c : Dev nD, ∀ j : Fin 4, ∀ h : Fin 2, j.val = c.val / 2 ↔ which c j.val h.val = 12 := by decide
theorem which6 : ∀ c : Dev nD, ∀ j : Fin 4, ∀ h : Fin 2, (j.val = (ch0 c).val / 2 ∧ h.val = c.val % 2) ↔ which c j.val h.val = 6 := by decide
theorem which9 : ∀ c : Dev nD, ∀ j : Fin 4, ∀ h : Fin 2, (j.val = (ch0 c).val / 2 ∧ h.val = 1 - c.val % 2) ↔ which c j.val h.val = 9 := by decide
theorem which7 : ∀ c : Dev nD, ∀ j : Fin 4, ∀ h : Fin 2, (j.val = (ch1 c).val / 2 ∧ h.val = c.val % 2) ↔ which c j.val h.val = 7 := by decide
theorem which10 : ∀ c : Dev nD, ∀ j : Fin 4, ∀ h : Fin 2, (j.val = (ch1 c).val / 2 ∧ h.val = 1 - c.val % 2) ↔ which c j.val h.val = 10 := by decide
theorem which8 : ∀ c : Dev nD, ∀ j : Fin 4, ∀ h : Fin 2, (j.val = (ch2 c).val / 2 ∧ h.val = c.val % 2) ↔ which c j.val h.val = 8 := by decide
theorem which11 : ∀ c : Dev nD, ∀ j : Fin 4, ∀ h : Fin 2, (j.val = (ch2 c).val / 2 ∧ h.val = 1 - c.val % 2) ↔ which c j.val h.val = 11 := by decide
theorem mem_B (c : Dev nD) : ∀ i ∈ W, ∀ z : S4x2x86016x128.Idx, z ∈ B c i ↔ which c (z 0).val (z 1).val = i := fun i hi z => by
  fin_cases i
  iterate 6 exact absurd hi (by decide)
  · exact (mem_half _ (k0_off4_inb _) _ _ (off4_eq c) z).trans (which6 c (z 0) (z 1))
  · exact (mem_half _ (k0_off5_inb _) _ _ (off5_eq c) z).trans (which7 c (z 0) (z 1))
  · exact (mem_half _ (k0_off6_inb _) _ _ (off6_eq c) z).trans (which8 c (z 0) (z 1))
  · exact (mem_half _ (k0_off7_inb _) _ _ (off7_eq c) z).trans (which9 c (z 0) (z 1))
  · exact (mem_half _ (k0_off8_inb _) _ _ (off8_eq c) z).trans (which10 c (z 0) (z 1))
  · exact (mem_half _ (k0_off9_inb _) _ _ (off9_eq c) z).trans (which11 c (z 0) (z 1))
  · exact (mem_chip _ (k0_off1_inb _) _ (off1_eq c) z).trans (which12 c (z 0) (z 1))

/-- The half of the argument that is sent, and the other. -/
def A (c : Dev nD) : Fin 2 → Finset (main_arg0 : Ref sig .tc).ty.Idx := ![(srcM c).view.set, Finset.univ \ (srcM c).view.set]
open Classical in
def whichA (c : Dev nD) (z : (main_arg0 : Ref sig .tc).ty.Idx) : Fin 2 := if z ∈ (srcM c).view.set then 0 else 1
theorem mem_A (c : Dev nD) : ∀ i ∈ (Finset.univ : Finset (Fin 2)), ∀ z, z ∈ A c i ↔ whichA c z = i := fun i hi z => by
  unfold whichA
  fin_cases i
  · show z ∈ (srcM c).view.set ↔ _
    by_cases h : z ∈ (srcM c).view.set <;> simp [h]
  · show z ∈ Finset.univ \ (srcM c).view.set ↔ _
    by_cases h : z ∈ (srcM c).view.set <;> simp [h]

/-! ## What a block holds -/

/-- A block of an array, at an index. -/
theorem read_half {α : Type} (f : S4x2x86016x128.Idx → α) (off : Fin 4 → ℕ) (inb : ∀ a, off a + S1x1x86016x128.size a ≤ S4x2x86016x128.size a)
    (n : Fin 4) (h : Fin 2) (e : off = ![n.val, h.val, 0, 0]) (r : Fin 86016) (l : Fin 128) :
    shapeCast S86016x128 (fun z => f ((Rect.unit (s := S4x2x86016x128) off S1x1x86016x128.size inb).emb z)) (squeezes_S1x1x86016x128_S86016x128).numel_eq (ix2 r l)
      = f (ix4 n h r l) := by
  refine (shapeCast_apply _ _ (ix2 r l) (ix4 (0 : Fin 1) (0 : Fin 1) r l)
    (by rw [Shape.rowMajor_val_four, Shape.rowMajor_val_two]
        show ((0 * 1 + 0) * 86016 + r.val) * 128 + l.val = r.val * 128 + l.val
        omega)).trans (congrArg f ?_)
  funext b; apply Fin.ext
  refine (Rect.emb_apply _ _ _).trans ?_
  refine (congrArg (· + 1 * (ix4 (0 : Fin 1) (0 : Fin 1) r l b).val) (congrFun e b)).trans ?_
  fin_cases b <;> simp
theorem read_chip {α : Type} (f : S4x2x86016x128.Idx → α) (off : Fin 4 → ℕ) (inb : ∀ a, off a + S1x2x86016x128.size a ≤ S4x2x86016x128.size a)
    (n : Fin 4) (e : off = ![n.val, 0, 0, 0]) (h : Fin 2) (r : Fin 86016) (l : Fin 128) :
    shapeCast S2x86016x128 (fun z => f ((Rect.unit (s := S4x2x86016x128) off S1x2x86016x128.size inb).emb z)) (squeezes_S1x2x86016x128_S2x86016x128).numel_eq (ix3 h r l)
      = f (ix4 n h r l) := by
  refine (shapeCast_apply _ _ (ix3 h r l) (ix4 (0 : Fin 1) h r l)
    (by rw [Shape.rowMajor_val_four, Shape.rowMajor_val_three]
        show ((0 * 2 + h.val) * 86016 + r.val) * 128 + l.val = (h.val * 86016 + r.val) * 128 + l.val
        omega)).trans (congrArg f ?_)
  funext b; apply Fin.ext
  refine (Rect.emb_apply _ _ _).trans ?_
  refine (congrArg (· + 1 * (ix4 (0 : Fin 1) h r l b).val) (congrFun e b)).trans ?_
  fin_cases b <;> simp
theorem read_src {α : Type} (f : S2x86016x128.Idx → α) (off : Fin 3 → ℕ) (inb : ∀ a, off a + S1x86016x128.size a ≤ S2x86016x128.size a)
    (h : Fin 2) (e : off = ![h.val, 0, 0]) (r : Fin 86016) (l : Fin 128) :
    shapeCast S86016x128 (fun z => f ((Rect.unit (s := S2x86016x128) off S1x86016x128.size inb).emb z)) (squeezes_S1x86016x128_S86016x128).numel_eq (ix2 r l)
      = f (ix3 h r l) := by
  refine (shapeCast_apply _ _ (ix2 r l) (ix3 (0 : Fin 1) r l)
    (by rw [Shape.rowMajor_val_three, Shape.rowMajor_val_two]
        show (0 * 86016 + r.val) * 128 + l.val = r.val * 128 + l.val
        omega)).trans (congrArg f ?_)
  funext b; apply Fin.ext
  refine (Rect.emb_apply _ _ _).trans ?_
  refine (congrArg (· + 1 * (ix3 (0 : Fin 1) r l b).val) (congrFun e b)).trans ?_
  fin_cases b <;> simp

omit [FloatOps F] in
/-- A half in a device's result, at an index. -/
theorem half_res (d : Dev nD) (off : Fin 4 → ℕ) (inb) (n : Fin 4) (h : Fin 2) (e : off = ![n.val, h.val, 0, 0]) (r : Fin 86016) (l : Fin 128) :
    (halfM off inb).view.read (Elt F) (res m d) (ix2 r l) = arg m (from' d n.val h.val) (ix3 h r l) :=
  (congrFun (show (halfM off inb).view.read (Elt F) (res m d) = shapeCast S86016x128 (fun z => res m d
    ((Rect.unit (s := S4x2x86016x128) off S1x1x86016x128.size inb).emb z)) (squeezes_S1x1x86016x128_S86016x128).numel_eq from rfl) _).trans
    (read_half (res m d) off inb n h e r l)

omit [FloatOps F] in
/-- What device `c` sends to a device `d` of another chip is what that ends with in the half. -/
theorem read_res (c d : Dev nD) (h : from' d (c.val / 2) (c.val % 2) = c) :
    (dstM c).view.read (Elt F) (res m d) = (srcM c).view.read (Elt F) (m ((c.tc : Thread nD τ).loc main_arg0)) := by
  have hc : c.val < 8 := c.isLt
  have e : (srcM c).view.read (Elt F) (m ((c.tc : Thread nD τ).loc main_arg0)) = shapeCast S86016x128 (fun z => arg m c
      ((Rect.unit (s := S2x86016x128) (k0_off3 c) S1x86016x128.size (k0_off3_inb c)).emb z)) (squeezes_S1x86016x128_S86016x128).numel_eq := rfl
  have H (r : Fin 86016) (l : Fin 128) : (dstM c).view.read (Elt F) (res m d) (ix2 r l)
      = (srcM c).view.read (Elt F) (m ((c.tc : Thread nD τ).loc main_arg0)) (ix2 r l) := by
    refine (half_res m d _ _ ⟨c.val / 2, by omega⟩ ⟨c.val % 2, by omega⟩ (off2_eq c) r l).trans ?_
    refine Eq.trans ?_ ((congrFun e _).trans (read_src (arg m c) _ _ ⟨c.val % 2, by omega⟩ (off3_eq c) r l)).symm
    exact congrFun (congrArg (arg m) h) _
  funext y
  rw [eq_ix2 (n0 := 86016) (n1 := 128) y]
  exact H _ _

omit [FloatOps F] in
/-- A half of another chip is the same on both cores. -/
theorem read_pass (c d : Dev nD) (off : Fin 4 → ℕ) (inb) (n : Fin 4) (h : Fin 2) (e : off = ![n.val, h.val, 0, 0])
    (he : from' d n.val h.val = from' c n.val h.val) :
    (halfM off inb).view.read (Elt F) (res m d) = (halfM off inb).view.read (Elt F) (res m c) := by
  have H (r : Fin 86016) (l : Fin 128) : (halfM off inb).view.read (Elt F) (res m d) (ix2 r l)
      = (halfM off inb).view.read (Elt F) (res m c) (ix2 r l) :=
    (half_res m d _ _ n h e r l).trans (Eq.trans (congrFun (congrArg (arg m) he) _) (half_res m c _ _ n h e r l).symm)
  funext y
  rw [eq_ix2 (n0 := 86016) (n1 := 128) y]
  exact H _ _

omit [FloatOps F] in
/-- A device's own chip holds its own argument. -/
theorem read_own (c : Dev nD) : (ownM c).view.read (Elt F) (res m c) = allM.view.read (Elt F) (m ((c.tc : Thread nD τ).loc main_arg0)) := by
  have hc : c.val < 8 := c.isLt
  have e : (ownM c).view.read (Elt F) (res m c) = shapeCast S2x86016x128 (fun z => res m c
      ((Rect.unit (s := S4x2x86016x128) (k0_off1 c) S1x2x86016x128.size (k0_off1_inb c)).emb z)) (squeezes_S1x2x86016x128_S2x86016x128).numel_eq := rfl
  have H (h : Fin 2) (r : Fin 86016) (l : Fin 128) : (ownM c).view.read (Elt F) (res m c) (ix3 h r l) = arg m c (ix3 h r l) := by
    refine (congrFun e _).trans ((read_chip (res m c) _ _ ⟨c.val / 2, by omega⟩ (off1_eq c) h r l).trans ?_)
    show arg m (from' c (c.val / 2) h.val) (ix3 h r l) = _
    rw [show from' c (c.val / 2) h.val = c from Fin.ext (by
      show 2 * (c.val / 2 % 4) + (if c.val / 2 = c.val / 2 then c.val % 2 else h.val % 2) = c.val
      rw [if_pos rfl]; omega)]
  funext y
  rw [eq_ix3 (n0 := 2) (n1 := 86016) (n2 := 128) y]
  exact H _ _ _

theorem from_ch0 : ∀ c : Dev nD, from' (ch0 c) (c.val / 2) (c.val % 2) = c := by decide
theorem from_sib0 : ∀ c : Dev nD, from' (sib c) ((ch0 c).val / 2) (c.val % 2) = from' c ((ch0 c).val / 2) (c.val % 2) := by decide
theorem from_ch1 : ∀ c : Dev nD, from' (ch1 c) (c.val / 2) (c.val % 2) = c := by decide
theorem from_sib1 : ∀ c : Dev nD, from' (sib c) ((ch1 c).val / 2) (c.val % 2) = from' c ((ch1 c).val / 2) (c.val % 2) := by decide
theorem from_ch2 : ∀ c : Dev nD, from' (ch2 c) (c.val / 2) (c.val % 2) = c := by decide
theorem from_sib2 : ∀ c : Dev nD, from' (sib c) ((ch2 c).val / 2) (c.val % 2) = from' c ((ch2 c).val / 2) (c.val % 2) := by decide

/-! ## The exchange's state -/

/-- The shares of the half that is sent three times. -/
abbrev q0 : PosShare TreeShare := fullShare.right.left
abbrev q1 : PosShare TreeShare := fullShare.right.right.left
abbrev q2 : PosShare TreeShare := fullShare.right.right.right

/-- A send gives back the share it read, a passing on the half it read; a receive gives the half written; the local copy
    gives the chip written and its share of the argument. -/
def pay (c : Dev nD) : Fin 13 → sProp 𝕄 :=
  ![(((c.tc : Thread nD τ).loc main_arg0) ↦[A c 0]{q0} m ((c.tc : Thread nD τ).loc main_arg0)), (((c.tc : Thread nD τ).loc main_arg0) ↦[A c 0]{q1} m ((c.tc : Thread nD τ).loc main_arg0)), (((c.tc : Thread nD τ).loc main_arg0) ↦[A c 0]{q2} m ((c.tc : Thread nD τ).loc main_arg0)),
    (((c.tc : Thread nD τ).loc main_v1) ↦[B c 6]{fullShare} res m c), (((c.tc : Thread nD τ).loc main_v1) ↦[B c 7]{fullShare} res m c), (((c.tc : Thread nD τ).loc main_v1) ↦[B c 8]{fullShare} res m c),
    (((c.tc : Thread nD τ).loc main_v1) ↦[B c 6]{fullShare} res m c), (((c.tc : Thread nD τ).loc main_v1) ↦[B c 7]{fullShare} res m c), (((c.tc : Thread nD τ).loc main_v1) ↦[B c 8]{fullShare} res m c),
    (((c.tc : Thread nD τ).loc main_v1) ↦[B c 9]{fullShare} res m c), (((c.tc : Thread nD τ).loc main_v1) ↦[B c 10]{fullShare} res m c), (((c.tc : Thread nD τ).loc main_v1) ↦[B c 11]{fullShare} res m c),
    iprop((((c.tc : Thread nD τ).loc main_v1) ↦[B c 12]{fullShare} res m c) ∗ (((c.tc : Thread nD τ).loc main_arg0) ↦{fullShare.left} m ((c.tc : Thread nD τ).loc main_arg0)))]

instance : PayStorable (pay m) := ⟨fun c i => by
  fin_cases i
  iterate 12 exact inferInstanceAs (BI.Storable _ (pointsTo _ _ _ _))
  exact inferInstanceAs (BI.Storable _ iprop(pointsTo _ _ _ _ ∗ pointsTo _ _ _ _))⟩

/-- What device `c` holds to run: its array, and the seven blocks it writes. -/
def mem (c : Dev nD) : sProp 𝕄 :=
  iprop(((c.tc : Thread nD τ).loc main_arg0 ↦{fullShare} m ((c.tc : Thread nD τ).loc main_arg0))
    ∗ bigSep W fun i => iprop(∃ g, ((p.peer i c).tc : Thread nD τ).loc main_v1 ↦[B (p.peer i c) i]{fullShare} g))
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1 ∗ zero p c 2 ∗ zero p c 3 ∗ zero p c 4 ∗ zero p c 5 ∗ zero p c 6 ∗ zero p c 7 ∗ zero p c 8 ∗ zero p c 9 ∗ zero p c 10 ∗ zero p c 11 ∗ zero p c 12)

def dats (_ : Fin 1) (c : Dev nD) : Dat τ (Elt F) Unit ℕ (UU nD τ sig) ℕ cfg0 c where
  A w := w.elim0
  after w _ := w.elim0
  Φ t := match t with
    | ⟨0, _⟩ => iprop(start p (pay m) c ∗ mem m c)
    | ⟨_ + 1, _⟩ => Φ₁ m c
  q _ := fullShare
  owed t := match t with
    | ⟨0, _⟩ => due p p.owed c
    | ⟨_ + 1, _⟩ => 0

abbrev 𝒱₀ : Variants := Variants.none

theorem B_ch0 (c : Dev nD) : B (ch0 c) 6 = (dstM c).view.set := set_half (off_ch0 c) (k0_off4_inb _) _
theorem B_sib0 (c : Dev nD) : B (sib c) 9 = (got0 c).view.set := set_half (off_sib0 c) (k0_off7_inb _) _
omit [FloatOps F] in
theorem pay_recv0 (c n : Dev nD) (hn : n = ch0 c) (f : Buf (Elt F) ((dstM c).view.loc (n.tc : Thread nD τ))) :
    ((dstM c).view.loc (n.tc : Thread nD τ) ↦[(dstM c).view.set]{fullShare}
      ((dstM c).view.write (Elt F) f ((srcM c).view.read (Elt F) (m ((c.tc : Thread nD τ).loc main_arg0))) Finset.univ) : sProp 𝕄) ⊢ pay m n 6 := by
  subst hn
  refine (settle (t := ((ch0 c).tc : Thread nD τ)) (dstM c) f (res m (ch0 c)) _ (read_res m c (ch0 c) (from_ch0 c))).trans (Entails.of_eq ?_)
  show _ = ((((ch0 c).tc : Thread nD τ).loc main_v1) ↦[B (ch0 c) 6]{fullShare} res m (ch0 c) : sProp 𝕄)
  rw [B_ch0 c]
omit [FloatOps F] in
theorem pay_pass0 (c n : Dev nD) (hn : n = sib c) (f : Buf (Elt F) ((got0 c).view.loc (n.tc : Thread nD τ))) :
    ((got0 c).view.loc (n.tc : Thread nD τ) ↦[(got0 c).view.set]{fullShare}
      ((got0 c).view.write (Elt F) f ((got0 c).view.read (Elt F) (res m c)) Finset.univ) : sProp 𝕄) ⊢ pay m n 9 := by
  subst hn
  have hc : c.val < 8 := c.isLt
  have hd : (ch0 c).val < 8 := (ch0 c).isLt
  refine (settle (t := ((sib c).tc : Thread nD τ)) (got0 c) f (res m (sib c)) _
    (read_pass m c (sib c) _ _ ⟨(ch0 c).val / 2, by omega⟩ ⟨c.val % 2, by omega⟩ (off4_eq c) (from_sib0 c))).trans (Entails.of_eq ?_)
  show _ = ((((sib c).tc : Thread nD τ).loc main_v1) ↦[B (sib c) 9]{fullShare} res m (sib c) : sProp 𝕄)
  rw [B_sib0 c]
omit [FloatOps F] in
theorem dst_at0 (c n : Dev nD) (hn : n = ch0 c) :
    iprop(∃ g, ((p.peer 6 c).tc : Thread nD τ).loc main_v1 ↦[B (p.peer 6 c) 6]{fullShare} g)
      ⊢ (iprop(∃ f, (dstM c).view.loc (n.tc : Thread nD τ) ↦[(dstM c).view.set]{fullShare} f) : sProp 𝕄) := by
  subst hn
  rw [show p.peer 6 c = ch0 c from rfl, B_ch0 c]
omit [FloatOps F] in
theorem pass_at0 (c n : Dev nD) (hn : n = sib c) :
    iprop(∃ g, ((p.peer 9 c).tc : Thread nD τ).loc main_v1 ↦[B (p.peer 9 c) 9]{fullShare} g)
      ⊢ (iprop(∃ f, (got0 c).view.loc (n.tc : Thread nD τ) ↦[(got0 c).view.set]{fullShare} f) : sProp 𝕄) := by
  subst hn
  rw [show p.peer 9 c = sib c from rfl, B_sib0 c]
omit [FloatOps F] in
theorem pay_send0 (c : Dev nD) : ((srcM c).view.loc (c.tc : Thread nD τ) ↦[(srcM c).view.set]{q0} m ((c.tc : Thread nD τ).loc main_arg0) : sProp 𝕄)
    ⊢ pay m c 0 := BI.Entails.refl _
omit [FloatOps F] in
theorem got_arg0 (c : Dev nD) : pay m c 0 ⊢ ((((c.tc : Thread nD τ).loc main_arg0) ↦[A c 0]{q0} m ((c.tc : Thread nD τ).loc main_arg0)) : sProp 𝕄) := BI.Entails.refl _
omit [FloatOps F] in
theorem src_at0 (c : Dev nD) : (((c.tc : Thread nD τ).loc main_arg0) ↦[A c 0]{q0} m ((c.tc : Thread nD τ).loc main_arg0)) ⊢ ((srcM c).view.loc (c.tc : Thread nD τ) ↦[(srcM c).view.set]{q0} m ((c.tc : Thread nD τ).loc main_arg0) : sProp 𝕄) := BI.Entails.refl _
omit [FloatOps F] in
theorem pay_hand0 (c : Dev nD) : ((got0 c).view.loc (c.tc : Thread nD τ) ↦[(got0 c).view.set]{fullShare} res m c : sProp 𝕄)
    ⊢ pay m c 3 := BI.Entails.refl _
omit [FloatOps F] in
theorem hand_at0 (c : Dev nD) : pay m c 6 ⊢ ((got0 c).view.loc (c.tc : Thread nD τ) ↦[(got0 c).view.set]{fullShare} res m c : sProp 𝕄) :=
  BI.Entails.refl _
omit [FloatOps F] in
theorem got_hand0 (c : Dev nD) : pay m c 3 ⊢ ((((c.tc : Thread nD τ).loc main_v1) ↦[B c 6]{fullShare} res m c) : sProp 𝕄) := BI.Entails.refl _
omit [FloatOps F] in
theorem got_oth0 (c : Dev nD) : pay m c 9 ⊢ ((((c.tc : Thread nD τ).loc main_v1) ↦[B c 9]{fullShare} res m c) : sProp 𝕄) := BI.Entails.refl _
theorem amt_put0 (c : Dev nD) : (dstM c).view.amount (.dma sR0) = p.amt 6 := rfl
theorem amt_pass0 (c : Dev nD) : (got0 c).view.amount (.dma sR3) = p.amt 9 := rfl
theorem amt_same0 : p.amt 0 = p.amt 6 := rfl
theorem amt_even0 : p.amt 3 = p.amt 9 := rfl

theorem B_ch1 (c : Dev nD) : B (ch1 c) 7 = (dstM c).view.set := set_half (off_ch1 c) (k0_off5_inb _) _
theorem B_sib1 (c : Dev nD) : B (sib c) 10 = (got1 c).view.set := set_half (off_sib1 c) (k0_off8_inb _) _
omit [FloatOps F] in
theorem pay_recv1 (c n : Dev nD) (hn : n = ch1 c) (f : Buf (Elt F) ((dstM c).view.loc (n.tc : Thread nD τ))) :
    ((dstM c).view.loc (n.tc : Thread nD τ) ↦[(dstM c).view.set]{fullShare}
      ((dstM c).view.write (Elt F) f ((srcM c).view.read (Elt F) (m ((c.tc : Thread nD τ).loc main_arg0))) Finset.univ) : sProp 𝕄) ⊢ pay m n 7 := by
  subst hn
  refine (settle (t := ((ch1 c).tc : Thread nD τ)) (dstM c) f (res m (ch1 c)) _ (read_res m c (ch1 c) (from_ch1 c))).trans (Entails.of_eq ?_)
  show _ = ((((ch1 c).tc : Thread nD τ).loc main_v1) ↦[B (ch1 c) 7]{fullShare} res m (ch1 c) : sProp 𝕄)
  rw [B_ch1 c]
omit [FloatOps F] in
theorem pay_pass1 (c n : Dev nD) (hn : n = sib c) (f : Buf (Elt F) ((got1 c).view.loc (n.tc : Thread nD τ))) :
    ((got1 c).view.loc (n.tc : Thread nD τ) ↦[(got1 c).view.set]{fullShare}
      ((got1 c).view.write (Elt F) f ((got1 c).view.read (Elt F) (res m c)) Finset.univ) : sProp 𝕄) ⊢ pay m n 10 := by
  subst hn
  have hc : c.val < 8 := c.isLt
  have hd : (ch1 c).val < 8 := (ch1 c).isLt
  refine (settle (t := ((sib c).tc : Thread nD τ)) (got1 c) f (res m (sib c)) _
    (read_pass m c (sib c) _ _ ⟨(ch1 c).val / 2, by omega⟩ ⟨c.val % 2, by omega⟩ (off5_eq c) (from_sib1 c))).trans (Entails.of_eq ?_)
  show _ = ((((sib c).tc : Thread nD τ).loc main_v1) ↦[B (sib c) 10]{fullShare} res m (sib c) : sProp 𝕄)
  rw [B_sib1 c]
omit [FloatOps F] in
theorem dst_at1 (c n : Dev nD) (hn : n = ch1 c) :
    iprop(∃ g, ((p.peer 7 c).tc : Thread nD τ).loc main_v1 ↦[B (p.peer 7 c) 7]{fullShare} g)
      ⊢ (iprop(∃ f, (dstM c).view.loc (n.tc : Thread nD τ) ↦[(dstM c).view.set]{fullShare} f) : sProp 𝕄) := by
  subst hn
  rw [show p.peer 7 c = ch1 c from rfl, B_ch1 c]
omit [FloatOps F] in
theorem pass_at1 (c n : Dev nD) (hn : n = sib c) :
    iprop(∃ g, ((p.peer 10 c).tc : Thread nD τ).loc main_v1 ↦[B (p.peer 10 c) 10]{fullShare} g)
      ⊢ (iprop(∃ f, (got1 c).view.loc (n.tc : Thread nD τ) ↦[(got1 c).view.set]{fullShare} f) : sProp 𝕄) := by
  subst hn
  rw [show p.peer 10 c = sib c from rfl, B_sib1 c]
omit [FloatOps F] in
theorem pay_send1 (c : Dev nD) : ((srcM c).view.loc (c.tc : Thread nD τ) ↦[(srcM c).view.set]{q1} m ((c.tc : Thread nD τ).loc main_arg0) : sProp 𝕄)
    ⊢ pay m c 1 := BI.Entails.refl _
omit [FloatOps F] in
theorem got_arg1 (c : Dev nD) : pay m c 1 ⊢ ((((c.tc : Thread nD τ).loc main_arg0) ↦[A c 0]{q1} m ((c.tc : Thread nD τ).loc main_arg0)) : sProp 𝕄) := BI.Entails.refl _
omit [FloatOps F] in
theorem src_at1 (c : Dev nD) : (((c.tc : Thread nD τ).loc main_arg0) ↦[A c 0]{q1} m ((c.tc : Thread nD τ).loc main_arg0)) ⊢ ((srcM c).view.loc (c.tc : Thread nD τ) ↦[(srcM c).view.set]{q1} m ((c.tc : Thread nD τ).loc main_arg0) : sProp 𝕄) := BI.Entails.refl _
omit [FloatOps F] in
theorem pay_hand1 (c : Dev nD) : ((got1 c).view.loc (c.tc : Thread nD τ) ↦[(got1 c).view.set]{fullShare} res m c : sProp 𝕄)
    ⊢ pay m c 4 := BI.Entails.refl _
omit [FloatOps F] in
theorem hand_at1 (c : Dev nD) : pay m c 7 ⊢ ((got1 c).view.loc (c.tc : Thread nD τ) ↦[(got1 c).view.set]{fullShare} res m c : sProp 𝕄) :=
  BI.Entails.refl _
omit [FloatOps F] in
theorem got_hand1 (c : Dev nD) : pay m c 4 ⊢ ((((c.tc : Thread nD τ).loc main_v1) ↦[B c 7]{fullShare} res m c) : sProp 𝕄) := BI.Entails.refl _
omit [FloatOps F] in
theorem got_oth1 (c : Dev nD) : pay m c 10 ⊢ ((((c.tc : Thread nD τ).loc main_v1) ↦[B c 10]{fullShare} res m c) : sProp 𝕄) := BI.Entails.refl _
theorem amt_put1 (c : Dev nD) : (dstM c).view.amount (.dma sR1) = p.amt 7 := rfl
theorem amt_pass1 (c : Dev nD) : (got1 c).view.amount (.dma sR4) = p.amt 10 := rfl
theorem amt_same1 : p.amt 1 = p.amt 7 := rfl
theorem amt_even1 : p.amt 4 = p.amt 10 := rfl

theorem B_ch2 (c : Dev nD) : B (ch2 c) 8 = (dstM c).view.set := set_half (off_ch2 c) (k0_off6_inb _) _
theorem B_sib2 (c : Dev nD) : B (sib c) 11 = (got2 c).view.set := set_half (off_sib2 c) (k0_off9_inb _) _
omit [FloatOps F] in
theorem pay_recv2 (c n : Dev nD) (hn : n = ch2 c) (f : Buf (Elt F) ((dstM c).view.loc (n.tc : Thread nD τ))) :
    ((dstM c).view.loc (n.tc : Thread nD τ) ↦[(dstM c).view.set]{fullShare}
      ((dstM c).view.write (Elt F) f ((srcM c).view.read (Elt F) (m ((c.tc : Thread nD τ).loc main_arg0))) Finset.univ) : sProp 𝕄) ⊢ pay m n 8 := by
  subst hn
  refine (settle (t := ((ch2 c).tc : Thread nD τ)) (dstM c) f (res m (ch2 c)) _ (read_res m c (ch2 c) (from_ch2 c))).trans (Entails.of_eq ?_)
  show _ = ((((ch2 c).tc : Thread nD τ).loc main_v1) ↦[B (ch2 c) 8]{fullShare} res m (ch2 c) : sProp 𝕄)
  rw [B_ch2 c]
omit [FloatOps F] in
theorem pay_pass2 (c n : Dev nD) (hn : n = sib c) (f : Buf (Elt F) ((got2 c).view.loc (n.tc : Thread nD τ))) :
    ((got2 c).view.loc (n.tc : Thread nD τ) ↦[(got2 c).view.set]{fullShare}
      ((got2 c).view.write (Elt F) f ((got2 c).view.read (Elt F) (res m c)) Finset.univ) : sProp 𝕄) ⊢ pay m n 11 := by
  subst hn
  have hc : c.val < 8 := c.isLt
  have hd : (ch2 c).val < 8 := (ch2 c).isLt
  refine (settle (t := ((sib c).tc : Thread nD τ)) (got2 c) f (res m (sib c)) _
    (read_pass m c (sib c) _ _ ⟨(ch2 c).val / 2, by omega⟩ ⟨c.val % 2, by omega⟩ (off6_eq c) (from_sib2 c))).trans (Entails.of_eq ?_)
  show _ = ((((sib c).tc : Thread nD τ).loc main_v1) ↦[B (sib c) 11]{fullShare} res m (sib c) : sProp 𝕄)
  rw [B_sib2 c]
omit [FloatOps F] in
theorem dst_at2 (c n : Dev nD) (hn : n = ch2 c) :
    iprop(∃ g, ((p.peer 8 c).tc : Thread nD τ).loc main_v1 ↦[B (p.peer 8 c) 8]{fullShare} g)
      ⊢ (iprop(∃ f, (dstM c).view.loc (n.tc : Thread nD τ) ↦[(dstM c).view.set]{fullShare} f) : sProp 𝕄) := by
  subst hn
  rw [show p.peer 8 c = ch2 c from rfl, B_ch2 c]
omit [FloatOps F] in
theorem pass_at2 (c n : Dev nD) (hn : n = sib c) :
    iprop(∃ g, ((p.peer 11 c).tc : Thread nD τ).loc main_v1 ↦[B (p.peer 11 c) 11]{fullShare} g)
      ⊢ (iprop(∃ f, (got2 c).view.loc (n.tc : Thread nD τ) ↦[(got2 c).view.set]{fullShare} f) : sProp 𝕄) := by
  subst hn
  rw [show p.peer 11 c = sib c from rfl, B_sib2 c]
omit [FloatOps F] in
theorem pay_send2 (c : Dev nD) : ((srcM c).view.loc (c.tc : Thread nD τ) ↦[(srcM c).view.set]{q2} m ((c.tc : Thread nD τ).loc main_arg0) : sProp 𝕄)
    ⊢ pay m c 2 := BI.Entails.refl _
omit [FloatOps F] in
theorem got_arg2 (c : Dev nD) : pay m c 2 ⊢ ((((c.tc : Thread nD τ).loc main_arg0) ↦[A c 0]{q2} m ((c.tc : Thread nD τ).loc main_arg0)) : sProp 𝕄) := BI.Entails.refl _
omit [FloatOps F] in
theorem src_at2 (c : Dev nD) : (((c.tc : Thread nD τ).loc main_arg0) ↦[A c 0]{q2} m ((c.tc : Thread nD τ).loc main_arg0)) ⊢ ((srcM c).view.loc (c.tc : Thread nD τ) ↦[(srcM c).view.set]{q2} m ((c.tc : Thread nD τ).loc main_arg0) : sProp 𝕄) := BI.Entails.refl _
omit [FloatOps F] in
theorem pay_hand2 (c : Dev nD) : ((got2 c).view.loc (c.tc : Thread nD τ) ↦[(got2 c).view.set]{fullShare} res m c : sProp 𝕄)
    ⊢ pay m c 5 := BI.Entails.refl _
omit [FloatOps F] in
theorem hand_at2 (c : Dev nD) : pay m c 8 ⊢ ((got2 c).view.loc (c.tc : Thread nD τ) ↦[(got2 c).view.set]{fullShare} res m c : sProp 𝕄) :=
  BI.Entails.refl _
omit [FloatOps F] in
theorem got_hand2 (c : Dev nD) : pay m c 5 ⊢ ((((c.tc : Thread nD τ).loc main_v1) ↦[B c 8]{fullShare} res m c) : sProp 𝕄) := BI.Entails.refl _
omit [FloatOps F] in
theorem got_oth2 (c : Dev nD) : pay m c 11 ⊢ ((((c.tc : Thread nD τ).loc main_v1) ↦[B c 11]{fullShare} res m c) : sProp 𝕄) := BI.Entails.refl _
theorem amt_put2 (c : Dev nD) : (dstM c).view.amount (.dma sR2) = p.amt 8 := rfl
theorem amt_pass2 (c : Dev nD) : (got2 c).view.amount (.dma sR5) = p.amt 11 := rfl
theorem amt_same2 : p.amt 2 = p.amt 8 := rfl
theorem amt_even2 : p.amt 5 = p.amt 11 := rfl
theorem sem_s0 : p.sem 0 = .dma sS0 := rfl
theorem sem_r0 : p.sem 6 = .dma sR0 := rfl
theorem sem_s1 : p.sem 1 = .dma sS1 := rfl
theorem sem_r1 : p.sem 7 = .dma sR1 := rfl
theorem sem_s2 : p.sem 2 = .dma sS2 := rfl
theorem sem_r2 : p.sem 8 = .dma sR2 := rfl
theorem sem_s3 : p.sem 3 = .dma sS3 := rfl
theorem sem_r3 : p.sem 9 = .dma sR3 := rfl
theorem sem_s4 : p.sem 4 = .dma sS4 := rfl
theorem sem_r4 : p.sem 10 = .dma sR4 := rfl
theorem sem_s5 : p.sem 5 = .dma sS5 := rfl
theorem sem_r5 : p.sem 11 = .dma sR5 := rfl
theorem in0 : (6 : Fin 13) ∈ p.owed := by decide
theorem in1 : (7 : Fin 13) ∈ O1 := by decide
theorem in2 : (8 : Fin 13) ∈ O2 := by decide
theorem in3 : (9 : Fin 13) ∈ O3 := by decide
theorem in4 : (10 : Fin 13) ∈ O4 := by decide
theorem in5 : (11 : Fin 13) ∈ O5 := by decide
theorem amt_src0 (off) (inb) : p.amt 0 = (argM off inb).view.dmaCredit := rfl
theorem amt_half0 (off) (inb) : p.amt 0 = (halfM off inb).view.dmaCredit := rfl
theorem amt_src1 (off) (inb) : p.amt 1 = (argM off inb).view.dmaCredit := rfl
theorem amt_half1 (off) (inb) : p.amt 1 = (halfM off inb).view.dmaCredit := rfl
theorem amt_src2 (off) (inb) : p.amt 2 = (argM off inb).view.dmaCredit := rfl
theorem amt_half2 (off) (inb) : p.amt 2 = (halfM off inb).view.dmaCredit := rfl
theorem amt_src3 (off) (inb) : p.amt 3 = (argM off inb).view.dmaCredit := rfl
theorem amt_half3 (off) (inb) : p.amt 3 = (halfM off inb).view.dmaCredit := rfl
theorem amt_src4 (off) (inb) : p.amt 4 = (argM off inb).view.dmaCredit := rfl
theorem amt_half4 (off) (inb) : p.amt 4 = (halfM off inb).view.dmaCredit := rfl
theorem amt_src5 (off) (inb) : p.amt 5 = (argM off inb).view.dmaCredit := rfl
theorem amt_half5 (off) (inb) : p.amt 5 = (halfM off inb).view.dmaCredit := rfl
theorem amt_src6 (off) (inb) : p.amt 6 = (argM off inb).view.dmaCredit := rfl
theorem amt_half6 (off) (inb) : p.amt 6 = (halfM off inb).view.dmaCredit := rfl
theorem amt_src7 (off) (inb) : p.amt 7 = (argM off inb).view.dmaCredit := rfl
theorem amt_half7 (off) (inb) : p.amt 7 = (halfM off inb).view.dmaCredit := rfl
theorem amt_src8 (off) (inb) : p.amt 8 = (argM off inb).view.dmaCredit := rfl
theorem amt_half8 (off) (inb) : p.amt 8 = (halfM off inb).view.dmaCredit := rfl
theorem amt_src9 (off) (inb) : p.amt 9 = (argM off inb).view.dmaCredit := rfl
theorem amt_half9 (off) (inb) : p.amt 9 = (halfM off inb).view.dmaCredit := rfl
theorem amt_src10 (off) (inb) : p.amt 10 = (argM off inb).view.dmaCredit := rfl
theorem amt_half10 (off) (inb) : p.amt 10 = (halfM off inb).view.dmaCredit := rfl
theorem amt_src11 (off) (inb) : p.amt 11 = (argM off inb).view.dmaCredit := rfl
theorem amt_half11 (off) (inb) : p.amt 11 = (halfM off inb).view.dmaCredit := rfl
theorem above6 : ∀ j ∈ O3, p.lvl 6 < p.lvl j := by decide
theorem above7 : ∀ j ∈ O4, p.lvl 7 < p.lvl j := by decide
theorem above8 : ∀ j ∈ O5, p.lvl 8 < p.lvl j := by decide
theorem O6_eq : O6 = ∅ := by decide
theorem none_owed {i : Fin 13} : ∀ j ∈ O6, p.lvl i < p.lvl j := by
  rw [O6_eq]; exact fun j hj => absurd hj (Finset.notMem_empty j)

omit [FloatOps F] in
theorem pay_here (c : Dev nD) (f : Buf (Elt F) ((ownM c).view.loc (c.tc : Thread nD τ))) :
    iprop(((ownM c).view.loc (c.tc : Thread nD τ) ↦[(ownM c).view.set]{fullShare}
      ((ownM c).view.write (Elt F) f (allM.view.read (Elt F) (m ((c.tc : Thread nD τ).loc main_arg0))) Finset.univ))
      ∗ (allM.view.loc (c.tc : Thread nD τ) ↦[allM.view.set]{fullShare.left} m ((c.tc : Thread nD τ).loc main_arg0))) ⊢ (pay m c 12 : sProp 𝕄) :=
  (sep_mono_left (settle (t := (c.tc : Thread nD τ)) (ownM c) f (res m c) _ (read_own m c))).trans (sep_mono_right (Entails.of_eq (held_whole main_arg0)))
omit [FloatOps F] in
theorem dst_here (c : Dev nD) :
    iprop(∃ g, ((p.peer 12 c).tc : Thread nD τ).loc main_v1 ↦[B (p.peer 12 c) 12]{fullShare} g)
      ⊢ (iprop(∃ f, (ownM c).view.loc (c.tc : Thread nD τ) ↦[(ownM c).view.set]{fullShare} f) : sProp 𝕄) := BI.Entails.refl _
omit [FloatOps F] in
theorem src_here (c : Dev nD) : (((c.tc : Thread nD τ).loc main_arg0) ↦{fullShare.left} m ((c.tc : Thread nD τ).loc main_arg0)) ⊢ (allM.view.loc (c.tc : Thread nD τ) ↦[allM.view.set]{fullShare.left} m ((c.tc : Thread nD τ).loc main_arg0) : sProp 𝕄) :=
  Entails.of_eq (held_whole main_arg0).symm
omit [FloatOps F] in
theorem pay_own (c : Dev nD) : pay m c 12 ⊢ (iprop((((c.tc : Thread nD τ).loc main_v1) ↦[B c 12]{fullShare} res m c) ∗ (((c.tc : Thread nD τ).loc main_arg0) ↦{fullShare.left} m ((c.tc : Thread nD τ).loc main_arg0))) : sProp 𝕄) := BI.Entails.refl _

theorem hroute (c n : Dev nD) : τ.routes (c.tc : Thread nD τ) (n.tc : Thread nD τ) = true := by revert c n; decide
theorem amt_here (c : Dev nD) : (ownM c).view.amount (.dma cc0_scratch2.sem) = p.amt 12 := rfl
theorem amt_own (c : Dev nD) : p.amt 12 = (ownM c).view.dmaCredit := rfl
theorem sem_here : p.sem 12 = .dma cc0_scratch2.sem := rfl

omit [FloatOps F] in
theorem thirteen (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem sepW (Φ : Fin 13 → sProp 𝕄) : bigSep W Φ = iprop(Φ 6 ∗ Φ 7 ∗ Φ 8 ∗ Φ 9 ∗ Φ 10 ∗ Φ 11 ∗ Φ 12) :=
  bigSep_eq_bigSepL_of_eq [6, 7, 8, 9, 10, 11, 12] (by decide) (by decide) Φ
omit [FloatOps F] in
theorem sepO (Φ : Fin 13 → sProp 𝕄) : bigSep p.owed Φ = iprop(Φ 6 ∗ Φ 7 ∗ Φ 8 ∗ Φ 9 ∗ Φ 10 ∗ Φ 11) :=
  bigSep_eq_bigSepL_of_eq [6, 7, 8, 9, 10, 11] (by decide) (by decide) Φ
omit [FloatOps F] in
theorem two (Φ : Fin 2 → sProp 𝕄) : bigSep Finset.univ Φ = iprop(Φ 0 ∗ Φ 1) := bigSep_univ_eq_bigSepL [0, 1] (by decide) (by decide) Φ

omit [FloatOps F] in
/-- The sent half, in its three shares. -/
theorem three (c : Dev nD) : (((c.tc : Thread nD τ).loc main_arg0) ↦[A c 0]{fullShare.right} m ((c.tc : Thread nD τ).loc main_arg0) : sProp 𝕄)
    ⊣⊢ iprop((((c.tc : Thread nD τ).loc main_arg0) ↦[A c 0]{q0} m ((c.tc : Thread nD τ).loc main_arg0)) ∗ (((c.tc : Thread nD τ).loc main_arg0) ↦[A c 0]{q1} m ((c.tc : Thread nD τ).loc main_arg0)) ∗ (((c.tc : Thread nD τ).loc main_arg0) ↦[A c 0]{q2} m ((c.tc : Thread nD τ).loc main_arg0))) :=
  ⟨(pointsTo_share (PosShare.mem_left_op_right fullShare.right)).1.trans
      (sep_mono_right (pointsTo_share (PosShare.mem_left_op_right fullShare.right.right)).1),
    (sep_mono_right (pointsTo_share (PosShare.mem_left_op_right fullShare.right.right)).2).trans
      (pointsTo_share (PosShare.mem_left_op_right fullShare.right)).2⟩
omit [FloatOps F] in
/-- The argument: the local copy's share, the three sends', and the half that is not sent. -/
theorem shares (c : Dev nD) : ((c.tc : Thread nD τ).loc main_arg0 ↦{fullShare} m ((c.tc : Thread nD τ).loc main_arg0) : sProp 𝕄)
    ⊣⊢ iprop((((c.tc : Thread nD τ).loc main_arg0) ↦{fullShare.left} m ((c.tc : Thread nD τ).loc main_arg0)) ∗ ((((c.tc : Thread nD τ).loc main_arg0) ↦[A c 0]{q0} m ((c.tc : Thread nD τ).loc main_arg0)) ∗ (((c.tc : Thread nD τ).loc main_arg0) ↦[A c 0]{q1} m ((c.tc : Thread nD τ).loc main_arg0)) ∗ (((c.tc : Thread nD τ).loc main_arg0) ↦[A c 0]{q2} m ((c.tc : Thread nD τ).loc main_arg0))) ∗ (((c.tc : Thread nD τ).loc main_arg0) ↦[A c 1]{fullShare.right} m ((c.tc : Thread nD τ).loc main_arg0))) := by
  have e : (((c.tc : Thread nD τ).loc main_arg0) ↦{fullShare.right} m ((c.tc : Thread nD τ).loc main_arg0) : sProp 𝕄) = iprop((((c.tc : Thread nD τ).loc main_arg0) ↦[A c 0]{fullShare.right} m ((c.tc : Thread nD τ).loc main_arg0)) ∗ (((c.tc : Thread nD τ).loc main_arg0) ↦[A c 1]{fullShare.right} m ((c.tc : Thread nD τ).loc main_arg0))) :=
    (blocks main_arg0 Finset.univ A whichA (fun _ _ => Finset.mem_univ _) mem_A c fullShare.right (m ((c.tc : Thread nD τ).loc main_arg0))).trans (two _)
  have h := halves (Val := Elt F) (q := fullShare) (f := m ((c.tc : Thread nD τ).loc main_arg0)) main_arg0
  rw [e] at h
  exact ⟨h.1.trans (sep_mono_right (sep_mono_left (three m c).1)), (sep_mono_right (sep_mono_left (three m c).2)).trans h.2⟩

abbrev call := cc0_all_gather_chips (F := F) (Memref.whole main_arg0) (Memref.isWhole_whole _) (Memref.whole main_v1) (Memref.isWhole_whole _) cc0_scratch0 cc0_scratch1 cc0_scratch2

set_option maxHeartbeats 4000000 in
theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ call Kt := by
  unfold call
  simp only [cc0_all_gather_chips_eq_skeleton]; unfold cc0_all_gather_chips_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold start mem
  rw [thirteen fun i => (ready p c i : sProp 𝕄), thirteen fun i => (tok p c i : sProp 𝕄), sepO, sepW]
  iintro ⟨⟨⟨⟨%K, #Ht⟩, ⟨Hr0, Hr1, Hr2, Hr3, Hr4, Hr5, Hr6, Hr7, Hr8, Hr9, Hr10, Hr11, Hr12⟩, ⟨Ht0, Ht1, Ht2, Ht3, Ht4, Ht5, Ht6, Ht7, Ht8, Ht9, Ht10, Ht11, Ht12⟩, ⟨Hc6, Hc7, Hc8, Hc9, Hc10, Hc11⟩⟩,
    ⟨Hx, ⟨Hd6, Hd7, Hd8, Hd9, Hd10, Hd11, Hd12⟩⟩, HO⟩, Hk⟩
  icases (dst_at0 c _ (dev1_eq c)) $$ Hd6 with ⟨%f0, Hd6⟩
  icases (dst_at1 c _ (dev2_eq c)) $$ Hd7 with ⟨%f1, Hd7⟩
  icases (dst_at2 c _ (dev3_eq c)) $$ Hd8 with ⟨%f2, Hd8⟩
  icases (pass_at0 c _ (dev4_eq c)) $$ Hd9 with ⟨%f3, Hd9⟩
  icases (pass_at1 c _ (dev5_eq c)) $$ Hd10 with ⟨%f4, Hd10⟩
  icases (pass_at2 c _ (dev6_eq c)) $$ Hd11 with ⟨%f5, Hd11⟩
  icases (dst_here c) $$ Hd12 with ⟨%g, Hd12⟩
  icases (shares m c).1 $$ Hx with ⟨Hl, ⟨Ha0, Ha1, Ha2⟩, Hx⟩
  icases (src_here m c) $$ Hl with Hl
  icases (src_at0 m c) $$ Ha0 with Ha0
  icases (src_at1 m c) $$ Ha1 with Ha1
  icases (src_at2 m c) $$ Ha2 with Ha2
  have hcopy := fun k => wp_copy_here p (pay m) (defs₀ (F := F)) 𝒱₀ none (Q := Kt) (f := k) K c 12 rfl (src := allM) (dst := ownM c) sem_here
    (hsrc := (Memref.isWhole_whole main_arg0).wordExact) (hdst := (View.wordExact_bits rfl).reshape _ _) (hsem := ⟨Or.inl rfl, trivial⟩)
    (q := fullShare.left) (fs := m ((c.tc : Thread nD τ).loc main_arg0)) (fd := g) (amt_here c) (pay_here m c g)
  iapply (hcopy _) $$ [Hl Hd12 Ht12]
  · isplitr; · iexact Ht
    isplitl [Hl]; · iexact Hl
    isplitl [Hd12]; · iexact Hd12
    iexact Ht12
  iintro Hc12
  have hput0 := fun k => wp_put p (pay m) (defs₀ (F := F)) 𝒱₀ none (Q := Kt) (f := k) K c 0 6 p.owed in0 rfl
    ⟨k0_dev1 c, k0_dev1_lt c⟩ (dev1_eq c) (src := srcM c) (dst := dstM c) sem_s0 sem_r0 (hsc := rfl)
    (hsrc := (View.wordExact_bits rfl).reshape _ _) (hdst := (View.wordExact_bits rfl).reshape _ _)
    (hsem := ⟨⟨rfl, Or.inl rfl⟩, trivial⟩)
    (q := q0) (fs := m ((c.tc : Thread nD τ).loc main_arg0)) (fd := f0) (amt_put0 c) amt_same0 (pay_send0 m c) (pay_recv0 m c _ (dev1_eq c) f0)
    (hroute c ⟨k0_dev1 c, k0_dev1_lt c⟩)
  iapply (hput0 _) $$ [Ha0 Hd6 HO Ht0 Ht6]
  · isplitr; · iexact Ht
    isplitl [Ha0]; · iexact Ha0
    isplitl [Hd6]; · iexact Hd6
    isplitl [HO]; · iexact HO
    isplitl [Ht0] <;> iassumption
  iintro ⟨Hc0, HO⟩
  have hput1 := fun k => wp_put p (pay m) (defs₀ (F := F)) 𝒱₀ none (Q := Kt) (f := k) K c 1 7 O1 in1 rfl
    ⟨k0_dev2 c, k0_dev2_lt c⟩ (dev2_eq c) (src := srcM c) (dst := dstM c) sem_s1 sem_r1 (hsc := rfl)
    (hsrc := (View.wordExact_bits rfl).reshape _ _) (hdst := (View.wordExact_bits rfl).reshape _ _)
    (hsem := ⟨⟨rfl, Or.inl rfl⟩, trivial⟩)
    (q := q1) (fs := m ((c.tc : Thread nD τ).loc main_arg0)) (fd := f1) (amt_put1 c) amt_same1 (pay_send1 m c) (pay_recv1 m c _ (dev2_eq c) f1)
    (hroute c ⟨k0_dev2 c, k0_dev2_lt c⟩)
  iapply (hput1 _) $$ [Ha1 Hd7 HO Ht1 Ht7]
  · isplitr; · iexact Ht
    isplitl [Ha1]; · iexact Ha1
    isplitl [Hd7]; · iexact Hd7
    isplitl [HO]; · iexact HO
    isplitl [Ht1] <;> iassumption
  iintro ⟨Hc1, HO⟩
  have hput2 := fun k => wp_put p (pay m) (defs₀ (F := F)) 𝒱₀ none (Q := Kt) (f := k) K c 2 8 O2 in2 rfl
    ⟨k0_dev3 c, k0_dev3_lt c⟩ (dev3_eq c) (src := srcM c) (dst := dstM c) sem_s2 sem_r2 (hsc := rfl)
    (hsrc := (View.wordExact_bits rfl).reshape _ _) (hdst := (View.wordExact_bits rfl).reshape _ _)
    (hsem := ⟨⟨rfl, Or.inl rfl⟩, trivial⟩)
    (q := q2) (fs := m ((c.tc : Thread nD τ).loc main_arg0)) (fd := f2) (amt_put2 c) amt_same2 (pay_send2 m c) (pay_recv2 m c _ (dev3_eq c) f2)
    (hroute c ⟨k0_dev3 c, k0_dev3_lt c⟩)
  iapply (hput2 _) $$ [Ha2 Hd8 HO Ht2 Ht8]
  · isplitr; · iexact Ht
    isplitl [Ha2]; · iexact Ha2
    isplitl [Hd8]; · iexact Hd8
    isplitl [HO]; · iexact HO
    isplitl [Ht2] <;> iassumption
  iintro ⟨Hc2, HO⟩
  have hw6 := fun k => wp_take_dma p (pay m) (defs₀ (F := F)) 𝒱₀ none (Q := Kt) (f := k) K c 6 O3 above6 sem_r0
    (src := srcM c) (dst := got0 c) (amt_half6 _ _) (hdst := (View.wordExact_bits rfl).reshape _ _) (hsrc := (View.wordExact_bits rfl).reshape _ _)
  iapply (hw6 _) $$ [Hc6 HO Hr6]
  · isplitr; · iexact Ht
    isplitl [Hc6]; · iexact Hc6
    isplitl [HO] <;> iassumption
  iintro ⟨HO, Hz6, Hg6⟩
  icases (hand_at0 m c) $$ Hg6 with Hg6
  have hput3 := fun k => wp_put p (pay m) (defs₀ (F := F)) 𝒱₀ none (Q := Kt) (f := k) K c 3 9 O3 in3 rfl
    ⟨k0_dev4 c, k0_dev4_lt c⟩ (dev4_eq c) (src := got0 c) (dst := got0 c) sem_s3 sem_r3 (hsc := rfl)
    (hsrc := (View.wordExact_bits rfl).reshape _ _) (hdst := (View.wordExact_bits rfl).reshape _ _)
    (hsem := ⟨⟨rfl, Or.inl rfl⟩, trivial⟩)
    (q := fullShare) (fs := res m c) (fd := f3) (amt_pass0 c) amt_even0 (pay_hand0 m c) (pay_pass0 m c _ (dev4_eq c) f3)
    (hroute c ⟨k0_dev4 c, k0_dev4_lt c⟩)
  iapply (hput3 _) $$ [Hg6 Hd9 HO Ht3 Ht9]
  · isplitr; · iexact Ht
    isplitl [Hg6]; · iexact Hg6
    isplitl [Hd9]; · iexact Hd9
    isplitl [HO]; · iexact HO
    isplitl [Ht3] <;> iassumption
  iintro ⟨Hc3, HO⟩
  have hw7 := fun k => wp_take_dma p (pay m) (defs₀ (F := F)) 𝒱₀ none (Q := Kt) (f := k) K c 7 O4 above7 sem_r1
    (src := srcM c) (dst := got1 c) (amt_half7 _ _) (hdst := (View.wordExact_bits rfl).reshape _ _) (hsrc := (View.wordExact_bits rfl).reshape _ _)
  iapply (hw7 _) $$ [Hc7 HO Hr7]
  · isplitr; · iexact Ht
    isplitl [Hc7]; · iexact Hc7
    isplitl [HO] <;> iassumption
  iintro ⟨HO, Hz7, Hg7⟩
  icases (hand_at1 m c) $$ Hg7 with Hg7
  have hput4 := fun k => wp_put p (pay m) (defs₀ (F := F)) 𝒱₀ none (Q := Kt) (f := k) K c 4 10 O4 in4 rfl
    ⟨k0_dev5 c, k0_dev5_lt c⟩ (dev5_eq c) (src := got1 c) (dst := got1 c) sem_s4 sem_r4 (hsc := rfl)
    (hsrc := (View.wordExact_bits rfl).reshape _ _) (hdst := (View.wordExact_bits rfl).reshape _ _)
    (hsem := ⟨⟨rfl, Or.inl rfl⟩, trivial⟩)
    (q := fullShare) (fs := res m c) (fd := f4) (amt_pass1 c) amt_even1 (pay_hand1 m c) (pay_pass1 m c _ (dev5_eq c) f4)
    (hroute c ⟨k0_dev5 c, k0_dev5_lt c⟩)
  iapply (hput4 _) $$ [Hg7 Hd10 HO Ht4 Ht10]
  · isplitr; · iexact Ht
    isplitl [Hg7]; · iexact Hg7
    isplitl [Hd10]; · iexact Hd10
    isplitl [HO]; · iexact HO
    isplitl [Ht4] <;> iassumption
  iintro ⟨Hc4, HO⟩
  have hw8 := fun k => wp_take_dma p (pay m) (defs₀ (F := F)) 𝒱₀ none (Q := Kt) (f := k) K c 8 O5 above8 sem_r2
    (src := srcM c) (dst := got2 c) (amt_half8 _ _) (hdst := (View.wordExact_bits rfl).reshape _ _) (hsrc := (View.wordExact_bits rfl).reshape _ _)
  iapply (hw8 _) $$ [Hc8 HO Hr8]
  · isplitr; · iexact Ht
    isplitl [Hc8]; · iexact Hc8
    isplitl [HO] <;> iassumption
  iintro ⟨HO, Hz8, Hg8⟩
  icases (hand_at2 m c) $$ Hg8 with Hg8
  have hput5 := fun k => wp_put p (pay m) (defs₀ (F := F)) 𝒱₀ none (Q := Kt) (f := k) K c 5 11 O5 in5 rfl
    ⟨k0_dev6 c, k0_dev6_lt c⟩ (dev6_eq c) (src := got2 c) (dst := got2 c) sem_s5 sem_r5 (hsc := rfl)
    (hsrc := (View.wordExact_bits rfl).reshape _ _) (hdst := (View.wordExact_bits rfl).reshape _ _)
    (hsem := ⟨⟨rfl, Or.inl rfl⟩, trivial⟩)
    (q := fullShare) (fs := res m c) (fd := f5) (amt_pass2 c) amt_even2 (pay_hand2 m c) (pay_pass2 m c _ (dev6_eq c) f5)
    (hroute c ⟨k0_dev6 c, k0_dev6_lt c⟩)
  iapply (hput5 _) $$ [Hg8 Hd11 HO Ht5 Ht11]
  · isplitr; · iexact Ht
    isplitl [Hg8]; · iexact Hg8
    isplitl [Hd11]; · iexact Hd11
    isplitl [HO]; · iexact HO
    isplitl [Ht5] <;> iassumption
  iintro ⟨Hc5, HO⟩
  have hw9 := fun k => wp_take_dma p (pay m) (defs₀ (F := F)) 𝒱₀ none (Q := Kt) (f := k) K c 9 O6 none_owed sem_r3
    (src := oth0 c) (dst := oth0 c) (amt_half9 _ _) (hdst := (View.wordExact_bits rfl).reshape _ _) (hsrc := (View.wordExact_bits rfl).reshape _ _)
  iapply (hw9 _) $$ [Hc9 HO Hr9]
  · isplitr; · iexact Ht
    isplitl [Hc9]; · iexact Hc9
    isplitl [HO] <;> iassumption
  iintro ⟨HO, Hz9, Hg9⟩
  have hw10 := fun k => wp_take_dma p (pay m) (defs₀ (F := F)) 𝒱₀ none (Q := Kt) (f := k) K c 10 O6 none_owed sem_r4
    (src := oth1 c) (dst := oth1 c) (amt_half10 _ _) (hdst := (View.wordExact_bits rfl).reshape _ _) (hsrc := (View.wordExact_bits rfl).reshape _ _)
  iapply (hw10 _) $$ [Hc10 HO Hr10]
  · isplitr; · iexact Ht
    isplitl [Hc10]; · iexact Hc10
    isplitl [HO] <;> iassumption
  iintro ⟨HO, Hz10, Hg10⟩
  have hw11 := fun k => wp_take_dma p (pay m) (defs₀ (F := F)) 𝒱₀ none (Q := Kt) (f := k) K c 11 O6 none_owed sem_r5
    (src := oth2 c) (dst := oth2 c) (amt_half11 _ _) (hdst := (View.wordExact_bits rfl).reshape _ _) (hsrc := (View.wordExact_bits rfl).reshape _ _)
  iapply (hw11 _) $$ [Hc11 HO Hr11]
  · isplitr; · iexact Ht
    isplitl [Hc11]; · iexact Hc11
    isplitl [HO] <;> iassumption
  iintro ⟨HO, Hz11, Hg11⟩
  have hw0 := fun k => wp_take_dma p (pay m) (defs₀ (F := F)) 𝒱₀ none (Q := Kt) (f := k) K c 0 O6 none_owed sem_s0
    (src := dstM c) (dst := srcM c) (amt_src0 _ _) (hdst := (View.wordExact_bits rfl).reshape _ _) (hsrc := (View.wordExact_bits rfl).reshape _ _)
  iapply (hw0 _) $$ [Hc0 HO Hr0]
  · isplitr; · iexact Ht
    isplitl [Hc0]; · iexact Hc0
    isplitl [HO] <;> iassumption
  iintro ⟨HO, Hz0, Hg0⟩
  have hw1 := fun k => wp_take_dma p (pay m) (defs₀ (F := F)) 𝒱₀ none (Q := Kt) (f := k) K c 1 O6 none_owed sem_s1
    (src := dstM c) (dst := srcM c) (amt_src1 _ _) (hdst := (View.wordExact_bits rfl).reshape _ _) (hsrc := (View.wordExact_bits rfl).reshape _ _)
  iapply (hw1 _) $$ [Hc1 HO Hr1]
  · isplitr; · iexact Ht
    isplitl [Hc1]; · iexact Hc1
    isplitl [HO] <;> iassumption
  iintro ⟨HO, Hz1, Hg1⟩
  have hw2 := fun k => wp_take_dma p (pay m) (defs₀ (F := F)) 𝒱₀ none (Q := Kt) (f := k) K c 2 O6 none_owed sem_s2
    (src := dstM c) (dst := srcM c) (amt_src2 _ _) (hdst := (View.wordExact_bits rfl).reshape _ _) (hsrc := (View.wordExact_bits rfl).reshape _ _)
  iapply (hw2 _) $$ [Hc2 HO Hr2]
  · isplitr; · iexact Ht
    isplitl [Hc2]; · iexact Hc2
    isplitl [HO] <;> iassumption
  iintro ⟨HO, Hz2, Hg2⟩
  have hw3 := fun k => wp_take_dma p (pay m) (defs₀ (F := F)) 𝒱₀ none (Q := Kt) (f := k) K c 3 O6 none_owed sem_s3
    (src := got0 c) (dst := got0 c) (amt_half3 _ _) (hdst := (View.wordExact_bits rfl).reshape _ _) (hsrc := (View.wordExact_bits rfl).reshape _ _)
  iapply (hw3 _) $$ [Hc3 HO Hr3]
  · isplitr; · iexact Ht
    isplitl [Hc3]; · iexact Hc3
    isplitl [HO] <;> iassumption
  iintro ⟨HO, Hz3, Hg3⟩
  have hw4 := fun k => wp_take_dma p (pay m) (defs₀ (F := F)) 𝒱₀ none (Q := Kt) (f := k) K c 4 O6 none_owed sem_s4
    (src := got1 c) (dst := got1 c) (amt_half4 _ _) (hdst := (View.wordExact_bits rfl).reshape _ _) (hsrc := (View.wordExact_bits rfl).reshape _ _)
  iapply (hw4 _) $$ [Hc4 HO Hr4]
  · isplitr; · iexact Ht
    isplitl [Hc4]; · iexact Hc4
    isplitl [HO] <;> iassumption
  iintro ⟨HO, Hz4, Hg4⟩
  have hw5 := fun k => wp_take_dma p (pay m) (defs₀ (F := F)) 𝒱₀ none (Q := Kt) (f := k) K c 5 O6 none_owed sem_s5
    (src := got2 c) (dst := got2 c) (amt_half5 _ _) (hdst := (View.wordExact_bits rfl).reshape _ _) (hsrc := (View.wordExact_bits rfl).reshape _ _)
  iapply (hw5 _) $$ [Hc5 HO Hr5]
  · isplitr; · iexact Ht
    isplitl [Hc5]; · iexact Hc5
    isplitl [HO] <;> iassumption
  iintro ⟨HO, Hz5, Hg5⟩
  have hw12 := fun k => wp_take_dma p (pay m) (defs₀ (F := F)) 𝒱₀ none (Q := Kt) (f := k) K c 12 O6 none_owed sem_here
    (src := allM) (dst := ownM c) (amt_own c) (hdst := (View.wordExact_bits rfl).reshape _ _) (hsrc := (Memref.isWhole_whole main_arg0).wordExact)
  iapply (hw12 _) $$ [Hc12 HO Hr12]
  · isplitr; · iexact Ht
    isplitl [Hc12]; · iexact Hc12
    isplitl [HO] <;> iassumption
  iintro ⟨HO, Hz12, Hg12⟩
  icases (pay_own m c) $$ Hg12 with ⟨Hb, Hl⟩
  rw [wp_ret]
  imodintro
  iapply Hk
  isplitr [HO]
  · unfold Φ₁ fin
    isplitl [Hg0 Hg1 Hg2 Hg3 Hg4 Hg5 Hg9 Hg10 Hg11 Hb Hl Hx]
    · isplitl [Hg0 Hg1 Hg2 Hl Hx]
      · iapply (shares m c).2
        isplitl [Hl]; · iexact Hl
        isplitr [Hx]
        · isplitl [Hg0]; · iapply (got_arg0 m c); iexact Hg0
          isplitl [Hg1]; · iapply (got_arg1 m c); iexact Hg1
          iapply (got_arg2 m c); iexact Hg2
        iexact Hx
      · iapply (Entails.of_eq ((blocks main_v1 W B (fun c z => which c (z (0 : Fin 4)).val (z (1 : Fin 4)).val) which_mem mem_B c fullShare (res m c)).trans (sepW _)).symm)
        isplitl [Hg3]; · iapply (got_hand0 m c); iexact Hg3
        isplitl [Hg4]; · iapply (got_hand1 m c); iexact Hg4
        isplitl [Hg5]; · iapply (got_hand2 m c); iexact Hg5
        isplitl [Hg9]; · iapply (got_oth0 m c); iexact Hg9
        isplitl [Hg10]; · iapply (got_oth1 m c); iexact Hg10
        isplitl [Hg11]; · iapply (got_oth2 m c); iexact Hg11
        iexact Hb
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  · rw [← O6_eq]; iexact HO

/-! ## The run -/

set_option maxRecDepth 4000 in
theorem body_obligation (c : Dev nD) : BodyObligation (dats m 0 c) (defs₀ (F := F)) 𝒱₀ () Set.univ := fun t => by
  rw [fin_N0 t]
  simp only [Finset.univ_eq_empty (α := Fin cfg0.W), bigSep_empty]
  show iprop(iprop(start p (pay m) c ∗ mem m c) ∗ (dats m 0 c).owesAt () t0_0.castSucc ∗ emp)
    ⊢ wp frame (wpE (defs₀ (F := F)) 𝒱₀ (c.tc : Thread nD τ) none) Set.univ
      call
      (fun _ => iprop(Φ₁ m c ∗ (dats m 0 c).owesAt () t0_0.succ ∗ emp))
  unfold Dat.owesAt Pipeline.owesWithin
  rw [show (dats m 0 c).owed t0_0.castSucc = due p p.owed c from rfl, show (dats m 0 c).owed t0_0.succ = 0 from rfl]
  iintro ⟨⟨Hs, Hm⟩, ⟨%W, %hW, HO⟩, -⟩
  iapply (sound_body m c _)
  isplitl
  · isplitl [Hs]; · iexact Hs
    isplitl [Hm]; · iexact Hm
    unfold owing
    iexists W; iexact HO
  · unfold owing
    iintro ⟨HΦ, ⟨%W', HO⟩⟩
    rw [due_empty]
    isplitl [HΦ]; · iexact HΦ
    isplitl
    · iexists W'
      isplitr; · ipureintro; exact fun _ _ => Or.inl trivial
      iexact HO
    · iempintro

theorem ownSemFacts : Pipeline.OwnSemFacts cfg0.spec p.sem := by decide

omit [FloatOps F] in
theorem deal : (bigSep Finset.univ fun c : Dev nD => unscopedBufs c (fun b => m ((c.tc : Thread nD τ).loc b)) : sProp 𝕄) ⊢ bigSep Finset.univ (mem m) := by
  have h (c : Dev nD) : (unscopedBufs c (fun b => m ((c.tc : Thread nD τ).loc b)) : sProp 𝕄)
      = iprop(((c.tc : Thread nD τ).loc main_arg0 ↦{fullShare} m ((c.tc : Thread nD τ).loc main_arg0))
        ∗ ((c.tc : Thread nD τ).loc main_v1 ↦{fullShare} m ((c.tc : Thread nD τ).loc main_v1))) := by
    unfold unscopedBufs; exact bigSep_eq_bigSepL_of_eq [main_arg0, main_v1] (by decide) (by decide) _
  rw [bigSep_congr fun c _ => h c]
  unfold mem
  simp only [bigSep_sep']
  iintro ⟨Hx, Ho⟩
  isplitl [Hx]; · iexact Hx
  iapply (deal_blocks p main_v1 W B (fun c z => which c (z (0 : Fin 4)).val (z (1 : Fin 4)).val) which_mem mem_B fun c => m ((c.tc : Thread nD τ).loc main_v1))
  iexact Ho

/-- What is read of device `c`'s memory in the end. -/
def QY (c : Dev nD) (s : MemSt nD τ sig (Elt F)) : Prop :=
  s.mem ((c.tc : Thread nD τ).loc main_arg0) = m ((c.tc : Thread nD τ).loc main_arg0) ∧ s.mem ((c.tc : Thread nD τ).loc main_v1) = res m c

/-- For any float values, from any memory with zero counters: every fair execution ends, with each device's argument
    unchanged, its result both halves of every chip, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) (fun q => (cfgs q).toPCfg) (fun _ q => (cfgs q).toPCfg_adm) (dats m) cellOf_inj defs₀ 𝒱₀ (x := (0 : Fin 1))
    winFacts0.to₀ ownSemFacts rfl rfl m ρ main (fun _ => []) (fun _ => rfl) (fun _ => List.nodup_nil) (fun _ => List.not_mem_nil)
    (fun c => (body_obligation m c).loose) (fun _ => rfl) (fun _ => rfl) (mem m) (fin m) (fun c => iprop(fin m c ∗ ∃ W, owes (c.tc : Thread nD τ) (0 : CellTallies nD τ sig Unit) W))
    (fin m) (deal m)
    (fun c => by
      show _ ⊢ iprop(start p (pay m) c ∗ mem m c)
      iintro ⟨Hs, Hm, -⟩
      isplitl [Hs] <;> iassumption)
    (fun c => by
      rw [thirteen fun i => (zero p c i : sProp 𝕄)]
      show Φ₁ m c ⊢ iprop(fin m c ∗ iprop(zero p c 0 ∗ zero p c 1 ∗ zero p c 2 ∗ zero p c 3 ∗ zero p c 4 ∗ zero p c 5 ∗ zero p c 6 ∗ zero p c 7 ∗ zero p c 8 ∗ zero p c 9 ∗ zero p c 10 ∗ zero p c 11 ∗ zero p c 12) ∗ Pipeline.scopedRest cfg0.spec c)
      rw [scopedRest0_eq]
      unfold Φ₁
      iintro ⟨Hf, Hz⟩
      isplitl [Hf]; · iexact Hf
      isplitl [Hz]; · iexact Hz
      iempintro)
    (fun c => by iintro H; imodintro; iexact H)
    (fun c => BI.Entails.refl _)
    (QY m)
    (fun c s' => read_two s')
    (fun s h hs => ⟨h, sem_eq_zero_of_scoped (by decide) hs⟩)

end Cert.GatherRun
-- ==== Proof.GatherValue.lean ====
/-
# The gather of the weights: the value

The kernel's result, the same on every device, index by index against the plain statement: the shards of all chips.
-/
module

public import proofs.«01_k».proof.Proof.GatherRun
public import proofs.«01_k».proof.Proof.Gen.GatherRefIdeal.Run
public import Idealize.ShloMosaic.Lib.Pipeline.Value
public import Idealize.ShloMosaic.Lib.ValueIdxRank6

@[expose] public section

noncomputable section

namespace Cert.GatherRun

open Idealize.ShloMosaic Idealize.ShloMosaic.TcCoe Idealize.ShloMosaic.ValueIdx Idealize.SL.Sem
open Cert.GatherIdeal Cert.GatherIdeal.Gen

section Ref

open Cert.GatherRefIdeal Cert.GatherRefIdeal.Gen

variable {α : Type}

/-- The reference's term. -/
abbrev gathered (X : S8x86016x128.Idx → α) : Cert.GatherRefIdeal.S4x2x86016x128.Idx → α :=
  shapeCast Cert.GatherRefIdeal.S4x2x86016x128 X shapeCasts_S8x86016x128_S4x2x86016x128

/-- The reference at an index: half `h` of chip `j` is row `2 j + h`. -/
theorem gathered_apply (X : S8x86016x128.Idx → α) (j : Fin 4) (h : Fin 2) (r : Fin 86016) (l : Fin 128) :
    gathered X (ix4 j h r l) = X (ix3 (⟨2 * j.val + h.val, by omega⟩ : Fin 8) r l) :=
  shapeCast_apply _ _ (ix4 j h r l) (ix3 (⟨2 * j.val + h.val, by omega⟩ : Fin 8) r l)
    (by rw [Shape.rowMajor_val_four, Shape.rowMajor_val_three]
        show ((2 * j.val + h.val) * 86016 + r.val) * 128 + l.val = ((j.val * 2 + h.val) * 86016 + r.val) * 128 + l.val
        omega)

end Ref

variable {F : FTy → Type} [FloatOps F] (m : (ℓ : Loc nD τ sig) → Buf (Elt F) ℓ)

/-- A chip's shard begins at twice the chip's number. -/
theorem shard_at : ∀ d : Dev nD, Layout.meshLin [2, 2, 2] d.val [0, 1] = d.val / 2 := by decide
theorem from_chip : ∀ c : Dev nD, ∀ j : Fin 4, ∀ h : Fin 2, (from' c j.val h.val).val / 2 = j.val := by decide

omit [FloatOps F] in
/-- Every device's result is the reference's. -/
theorem res_block (X : (⟨3, ![8, 86016, 128]⟩ : Shape).Idx → Elt F .f32)
    (hm : ∀ c : Dev nD, m ((c.tc : Thread nD τ).loc main_arg0)
      = Layout.blockN ⟨3, ![2, 86016, 128]⟩ ⟨3, ![8, 86016, 128]⟩ (Layout.meshBlock [2, 2, 2] ![[0, 1], [], []] c) X)
    (c : Dev nD) : res m c = gathered X := by
  have H : ∀ (j : Fin 4) (h : Fin 2) (r : Fin 86016) (l : Fin 128), res m c (ix4 j h r l) = gathered X (ix4 j h r l) := by
    intro j h r l
    have hs : ∀ t : Layout.TilesN ⟨3, ![2, 86016, 128]⟩ ⟨3, ![8, 86016, 128]⟩ (fun b => Layout.cutSize [2, 2, 2] (![[0, 1], [], []] b)),
        t.idx (Layout.meshBlock [2, 2, 2] ![[0, 1], [], []] (from' c j.val h.val)) (ix3 h r l)
          = ix3 (⟨2 * j.val + h.val, by omega⟩ : Fin 8) r l := fun t => by
      funext b; apply Fin.ext; rw [Layout.TilesN.idx_val]
      fin_cases b
      · show Layout.meshLin [2, 2, 2] (from' c j.val h.val).val [0, 1] * 2 + h.val = 2 * j.val + h.val
        rw [shard_at, from_chip]; omega
      · show 0 * 86016 + r.val = r.val
        omega
      · show 0 * 128 + l.val = l.val
        omega
    show arg m (from' c j.val h.val) (ix3 h r l) = _
    unfold arg
    rw [hm (from' c j.val h.val), Layout.blockN_apply, hs]
    exact (gathered_apply X j h r l).symm
  funext i
  rw [eq_ix4 (n0 := 4) (n1 := 2) (n2 := 86016) (n3 := 128) i]
  exact H _ _ _ _

end Cert.GatherRun
-- ==== Proof.GatherClaims.lean ====
/-
# The gather of the weights: the claims
-/
module

public import proofs.«01_k».proof.Proof.GatherValue
public import proofs.«01_k».proof.Defs
public import proofs.«01_k».proof.Proof.Gen.Gather
public import proofs.«01_k».proof.Proof.Gen.GatherRef.Run
public import Idealize.ShloMosaic.Lib.Quiescent

@[expose] public section

noncomputable section

namespace Cert.GatherRun

open Idealize.ShloMosaic Idealize.ShloMosaic.TcCoe Idealize.SL.Sem
open Cert.Gather.Gen Cert.GatherRef.Gen Cert.GatherIdeal.Gen Cert.GatherRefIdeal.Gen

theorem frame_kernel : Cert.quiescent_Gather := fun m ρ _ =>
  (θ_run Cert.GatherIdeal.defs _ _).mono (fun _ h => ⟨fun c => (h.1 c).1, h.2⟩) (run_main (F := Bits) m ρ)
theorem frame_kernel_ideal : Cert.quiescent_GatherIdeal := fun m ρ _ =>
  (θ_run Cert.GatherIdeal.defs _ _).mono (fun _ h => ⟨fun c => (h.1 c).1, h.2⟩) (run_main (F := Ideal) m ρ)
theorem frame_ref : Cert.quiescent_GatherRef := fun m ρ _ =>
  (θ_run Cert.GatherRef.defs _ _).mono (fun r h => ⟨fun c => (h c).2, sem_eq_zero_of_no_sems (by decide) r.2⟩) (Cert.GatherRef.Value.run (F := Bits) m ρ)
theorem frame_ref_ideal : Cert.quiescent_GatherRefIdeal := fun m ρ _ =>
  (θ_run Cert.GatherRefIdeal.defs _ _).mono (fun r h => ⟨fun c => (h c).2, sem_eq_zero_of_no_sems (by decide) r.2⟩) (Cert.GatherRefIdeal.Value.run (F := Ideal) m ρ)

/-- Over the extended reals: every device ends with the reference's result. -/
theorem algebraic : Cert.algebraic_GatherIdeal_GatherRefIdeal := fun m ρ m' ρ' _ hm =>
  ⟨_, (θ_run Cert.GatherIdeal.defs _ _).mono (fun _ h c => ⟨(h.1 c).2.trans (res_block m _ hm c), (h.1 c).1⟩) (run_main (F := Ideal) m ρ),
    (θ_run Cert.GatherRefIdeal.defs _ _).mono (fun _ h => h 0) (Cert.GatherRefIdeal.Value.run (F := Ideal) m' ρ')⟩
/-- The same, bit for bit. -/
theorem bitexact : Cert.bitexact_Gather_GatherRef := fun m ρ m' ρ' _ hm =>
  ⟨_, (θ_run Cert.GatherIdeal.defs _ _).mono (fun _ h c => ⟨(h.1 c).2.trans (res_block (F := Bits) m _ hm c), (h.1 c).1⟩) (run_main (F := Bits) m ρ),
    (θ_run Cert.GatherRef.defs _ _).mono (fun _ h => h 0) (Cert.GatherRef.Value.run (F := Bits) m' ρ')⟩

end Cert.GatherRun
-- ==== Proof.SiblingRun.lean ====
/-
# The exchange between the two cores of a chip

Every device sends the half of its array that belongs to its sibling straight into the sibling's result, and waits for
its own result to be written by the sibling. Two semaphores a device: `0` the send's, `1` the receive's.
-/
module

public import proofs.«01_k».proof.Proof.Exchange
public import proofs.«01_k».proof.Proof.Gen.SiblingIdeal
public import proofs.«01_k».proof.Proof.Gen.SiblingIdeal.Skeleton
public import proofs.«01_k».proof.Proof.Gen.SiblingIdeal.Launch

@[expose] public section

set_option Elab.async false

noncomputable section

namespace Cert.SiblingRun

open Cert.SiblingIdeal Cert.SiblingIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The other core of the chip. -/
def sib (c : Dev nD) : Dev nD := ⟨4 * (c.val / 4) + 2 * (c.val / 2 % 2) + 1 - c.val % 2, by revert c; decide⟩
theorem sib_sib : ∀ c, sib (sib c) = c := by decide
theorem dev1_eq (c : Dev nD) : (⟨k0_dev1 c, k0_dev1_lt c⟩ : Dev nD) = sib c := Fin.ext (k0_dev1_eq c)

/-- What device `c` sends: the half of its array at its sibling's core index. -/
abbrev srcM (c : Dev nD) : Memref sig .tc .hbm S4x86016x128 .f32 :=
  ((Memref.whole main_arg0).slice (Rect.unit (s := S2x4x86016x128) (k0_off1 c) S1x4x86016x128.size (k0_off1_inb c)) (fun _ => rfl)).squeeze
    S4x86016x128 squeezes_S1x4x86016x128_S4x86016x128
abbrev dstM : Memref sig .tc .hbm S4x86016x128 .f32 := Memref.whole main_v1

/-- The credit of one transfer. -/
abbrev N : ℕ := dstM.view.dmaCredit

def p : Proto nD sig 2 where
  sem := ![.dma cc0_scratch0.sem, .dma cc0_scratch1.sem]
  inj := by decide
  amt _ := N
  amt_pos _ := View.dmaCredit_pos _ (by decide)
  peer := ![id, sib]
  peer_peer i c := by fin_cases i; · rfl
                      exact sib_sib c
  owed := {1}
  lvl _ := 0

variable (m : (ℓ : Loc nD τ sig) → Buf (Elt F) ℓ) (ρ : Dev nD → PrngReg)

/-- The data device `c` sends. -/
def sent (c : Dev nD) : (main_v1 : Ref sig .tc).ty.Contents (Elt F) := (srcM c).view.read (Elt F) (m ((c.tc : Thread nD τ).loc main_arg0))
/-- What device `c` ends with: what its sibling sent. -/
def res (c : Dev nD) : Buf (Elt F) ((c.tc : Thread nD τ).loc main_v1) := sent m (sib c)

/-- The send gives the sent half back, the receive the result. -/
def pay (c : Dev nD) : Fin 2 → sProp 𝕄 :=
  ![((srcM c).view.loc (c.tc : Thread nD τ) ↦[(srcM c).view.set]{fullShare} m ((c.tc : Thread nD τ).loc main_arg0)),
    ((c.tc : Thread nD τ).loc main_v1 ↦{fullShare} res m c)]

instance : PayStorable (pay m) := ⟨fun c i => by fin_cases i <;> exact inferInstanceAs (BI.Storable _ (pointsTo _ _ _ _))⟩

/-- What device `c` holds to run: its array, and its sibling's result. -/
def mem (c : Dev nD) : sProp 𝕄 :=
  iprop(((c.tc : Thread nD τ).loc main_arg0 ↦{fullShare} m ((c.tc : Thread nD τ).loc main_arg0))
    ∗ ∃ f, ((sib c).tc : Thread nD τ).loc main_v1 ↦{fullShare} f)
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1)

def dats (_ : Fin 1) (c : Dev nD) : Dat τ (Elt F) Unit ℕ (UU nD τ sig) ℕ cfg0 c where
  A w := w.elim0
  after w _ := w.elim0
  Φ t := match t with
    | ⟨0, _⟩ => iprop(start p (pay m) c ∗ mem m c)
    | ⟨_ + 1, _⟩ => Φ₁ m c
  q _ := fullShare
  owed t := match t with
    | ⟨0, _⟩ => due p p.owed c
    | ⟨_ + 1, _⟩ => 0

abbrev 𝒱₀ : Variants := Variants.none

omit [FloatOps F] in
theorem pay_recv (c n : Dev nD) (hn : n = sib c) (f : Buf (Elt F) (dstM.view.loc (n.tc : Thread nD τ))) :
    (dstM.view.loc (n.tc : Thread nD τ) ↦[dstM.view.set]{fullShare}
      (dstM.view.write (Elt F) f ((srcM c).view.read (Elt F) (m ((c.tc : Thread nD τ).loc main_arg0))) Finset.univ) : sProp 𝕄) ⊢ pay m n 1 := by
  subst hn
  have h : pay m (sib c) 1 = (((sib c).tc : Thread nD τ).loc main_v1 ↦{fullShare} sent m c : sProp 𝕄) := by
    show (_ ↦{fullShare} res m (sib c)) = _
    rw [show res m (sib c) = sent m c from congrArg (sent m) (sib_sib c)]
  rw [h]
  have h2 : dstM.view.write (Elt F) f ((srcM c).view.read (Elt F) (m ((c.tc : Thread nD τ).loc main_arg0))) Finset.univ = sent m c :=
    View.write_whole_univ (Val := Elt F) main_v1 f (sent m c)
  rw [h2]
  simp only [Memref.view_whole, View.set_whole]
  exact BI.Entails.refl _

omit [FloatOps F] in
theorem dst_at (c n : Dev nD) (hn : n = sib c) :
    iprop(∃ f, ((sib c).tc : Thread nD τ).loc main_v1 ↦{fullShare} f)
      ⊢ (iprop(∃ f, dstM.view.loc (n.tc : Thread nD τ) ↦[dstM.view.set]{fullShare} f) : sProp 𝕄) := by
  subst hn
  simp only [Memref.view_whole, View.set_whole]
  exact BI.Entails.refl _

theorem hroute (c n : Dev nD) : τ.routes (c.tc : Thread nD τ) (n.tc : Thread nD τ) = true := by revert c n; decide

set_option maxRecDepth 4000 in
theorem amt_put : dstM.view.amount (.dma cc0_scratch1.sem) = p.amt 1 := rfl
theorem amt_src (c : Dev nD) : p.amt 0 = (srcM c).view.dmaCredit := rfl
theorem none_owed {i : Fin 2} : ∀ j ∈ p.owed.erase 1, p.lvl i < p.lvl j := by
  rw [show p.owed.erase 1 = ∅ from rfl]; exact fun j hj => absurd hj (Finset.notMem_empty j)
theorem amt_send : p.amt 0 = p.amt 1 := rfl
theorem sem_send : p.sem 0 = .dma cc0_scratch0.sem := rfl
theorem sem_recv : p.sem 1 = .dma cc0_scratch1.sem := rfl

omit [FloatOps F] in
theorem pay_send (c : Dev nD) : ((srcM c).view.loc (c.tc : Thread nD τ) ↦[(srcM c).view.set]{fullShare} m ((c.tc : Thread nD τ).loc main_arg0) : sProp 𝕄)
    ⊢ pay m c 0 := BI.Entails.refl _

omit [FloatOps F] in
theorem pay_sent (c : Dev nD) : pay m c 0
    ⊢ ((srcM c).view.loc (c.tc : Thread nD τ) ↦[(srcM c).view.set]{fullShare} m ((c.tc : Thread nD τ).loc main_arg0) : sProp 𝕄) := BI.Entails.refl _
omit [FloatOps F] in
theorem pay_got (c : Dev nD) : pay m c 1 ⊢ ((c.tc : Thread nD τ).loc main_v1 ↦{fullShare} res m c : sProp 𝕄) := BI.Entails.refl _

omit [FloatOps F] in
theorem two (Φ : Fin 2 → sProp 𝕄) : bigSep Finset.univ Φ = iprop(Φ 0 ∗ Φ 1) := bigSep_univ_eq_bigSepL [0, 1] (by decide) (by decide) Φ

theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ
          (cc0_rs_sibling_exchange (Memref.whole main_arg0) (Memref.isWhole_whole _) (Memref.whole main_v1) (Memref.isWhole_whole _) cc0_scratch0 cc0_scratch1) Kt := by
  simp only [cc0_rs_sibling_exchange_eq_skeleton]; unfold cc0_rs_sibling_exchange_skel
  simp only [Prog.lift, Prog.bind_op, Prog.bind_ret, Prog.pure_eq_ret, wp_deviceId]
  unfold start mem
  rw [two fun i => (ready p c i : sProp 𝕄), two fun i => (tok p c i : sProp 𝕄), show p.owed = {1} from rfl, bigSep_singleton]
  iintro ⟨⟨⟨⟨%K, #Ht⟩, ⟨Hr0, Hr1⟩, ⟨Ht0, Ht1⟩, Hc1⟩, ⟨Hx, Hd⟩, HO⟩, Hk⟩
  icases (dst_at c _ (dev1_eq c)) $$ Hd with ⟨%f, Hd⟩
  icases (pointsTo_split_subset (Finset.subset_univ (srcM c).view.set)).1 $$ Hx with ⟨Hs, Hrest⟩
  have hput := fun k => wp_put p (pay m) (defs₀ (F := F)) 𝒱₀ none (Q := Kt) (f := k) K c 0 1 p.owed (Finset.mem_singleton_self _) rfl
    ⟨k0_dev1 c, k0_dev1_lt c⟩ (dev1_eq c) (src := srcM c) (dst := dstM) sem_send sem_recv (hsc := rfl)
    (hsrc := (View.wordExact_bits rfl).reshape _ _) (hdst := (Memref.isWhole_whole main_v1).wordExact)
    (hsem := ⟨⟨rfl, Or.inl rfl⟩, trivial⟩)
    (fs := m ((c.tc : Thread nD τ).loc main_arg0)) (fd := f) amt_put amt_send (pay_send m c) (pay_recv m c _ (dev1_eq c) f)
    (hroute c ⟨k0_dev1 c, k0_dev1_lt c⟩)
  have ht0 := fun k => wp_take_dma p (pay m) (defs₀ (F := F)) 𝒱₀ none (Q := Kt) (f := k) K c 0 (p.owed.erase 1) none_owed sem_send
    (src := dstM) (dst := srcM c) (amt_src c) (hsrc := (Memref.isWhole_whole main_v1).wordExact) (hdst := (View.wordExact_bits rfl).reshape _ _)
  have ht1 := fun k => wp_take_dma p (pay m) (defs₀ (F := F)) 𝒱₀ none (Q := Kt) (f := k) K c 1 (p.owed.erase 1) none_owed sem_recv
    (src := srcM c) (dst := dstM) rfl (hdst := (Memref.isWhole_whole main_v1).wordExact) (hsrc := (View.wordExact_bits rfl).reshape _ _)
  iapply (hput _) $$ [Hs Hd HO Ht0 Ht1]
  · isplitr; · iexact Ht
    isplitl [Hs]; · iexact Hs
    isplitl [Hd]; · iexact Hd
    isplitl [HO]; · iexact HO
    isplitl [Ht0] <;> iassumption
  iintro ⟨Hc0, HO⟩
  iapply (ht0 _) $$ [Hc0 HO Hr0]
  · isplitr; · iexact Ht
    isplitl [Hc0]; · iexact Hc0
    isplitl [HO] <;> iassumption
  iintro ⟨HO, Hz0, Hs⟩
  iapply (ht1 _) $$ [Hc1 HO Hr1]
  · isplitr; · iexact Ht
    isplitl [Hc1]; · iexact Hc1
    isplitl [HO] <;> iassumption
  iintro ⟨HO, Hz1, Hd⟩
  rw [wp_ret]
  imodintro
  iapply Hk
  isplitr [HO]
  · unfold Φ₁ fin
    isplitl [Hs Hrest Hd]
    · isplitl [Hs Hrest]
      · iapply (pointsTo_split_subset (Finset.subset_univ (srcM c).view.set)).2
        isplitl [Hs]; · iapply (pay_sent m c); iexact Hs
        iexact Hrest
      · iapply (pay_got m c); iexact Hd
    isplitl [Hz0] <;> iassumption
  · iexact HO

/-! ## The run -/

set_option maxRecDepth 4000 in
theorem body_obligation (c : Dev nD) : BodyObligation (dats m 0 c) (defs₀ (F := F)) 𝒱₀ () Set.univ := fun t => by
  rw [fin_N0 t]
  simp only [Finset.univ_eq_empty (α := Fin cfg0.W), bigSep_empty]
  show iprop(iprop(start p (pay m) c ∗ mem m c) ∗ (dats m 0 c).owesAt () t0_0.castSucc ∗ emp)
    ⊢ wp frame (wpE (defs₀ (F := F)) 𝒱₀ (c.tc : Thread nD τ) none) Set.univ
      (cc0_rs_sibling_exchange (Memref.whole main_arg0) (Memref.isWhole_whole _) (Memref.whole main_v1) (Memref.isWhole_whole _) cc0_scratch0 cc0_scratch1)
      (fun _ => iprop(Φ₁ m c ∗ (dats m 0 c).owesAt () t0_0.succ ∗ emp))
  unfold Dat.owesAt Pipeline.owesWithin
  rw [show (dats m 0 c).owed t0_0.castSucc = due p p.owed c from rfl, show (dats m 0 c).owed t0_0.succ = 0 from rfl]
  iintro ⟨⟨Hs, Hm⟩, ⟨%W, %hW, HO⟩, -⟩
  iapply (sound_body m c _)
  isplitl
  · isplitl [Hs]; · iexact Hs
    isplitl [Hm]; · iexact Hm
    unfold owing
    iexists W; iexact HO
  · unfold owing
    iintro ⟨HΦ, ⟨%W', HO⟩⟩
    rw [due_empty]
    isplitl [HΦ]; · iexact HΦ
    isplitl
    · iexists W'
      isplitr; · ipureintro; exact fun _ _ => Or.inl trivial
      iexact HO
    · iempintro

theorem ownSemFacts : Pipeline.OwnSemFacts cfg0.spec p.sem := by decide

omit [FloatOps F] in
theorem deal : (bigSep Finset.univ fun c : Dev nD => unscopedBufs c (fun b => m ((c.tc : Thread nD τ).loc b)) : sProp 𝕄) ⊢ bigSep Finset.univ (mem m) := by
  have h (c : Dev nD) : (unscopedBufs c (fun b => m ((c.tc : Thread nD τ).loc b)) : sProp 𝕄)
      = iprop(((c.tc : Thread nD τ).loc main_arg0 ↦{fullShare} m ((c.tc : Thread nD τ).loc main_arg0))
        ∗ ((c.tc : Thread nD τ).loc main_v1 ↦{fullShare} m ((c.tc : Thread nD τ).loc main_v1))) := by
    unfold unscopedBufs; exact bigSep_eq_bigSepL_of_eq [main_arg0, main_v1] (by decide) (by decide) _
  rw [bigSep_congr fun c _ => h c]
  unfold mem
  simp only [bigSep_sep']
  iintro ⟨Hx, Ho⟩
  isplitl [Hx]; · iexact Hx
  iapply (show (bigSep Finset.univ fun c : Dev nD => (c.tc : Thread nD τ).loc main_v1 ↦{fullShare} m ((c.tc : Thread nD τ).loc main_v1) : sProp 𝕄)
    ⊢ bigSep Finset.univ fun c : Dev nD => iprop(∃ f, ((sib c).tc : Thread nD τ).loc main_v1 ↦{fullShare} f) from by
    rw [bigSep_univ_equiv (perm p 1) (fun c : Dev nD => ((c.tc : Thread nD τ).loc main_v1 ↦{fullShare} m ((c.tc : Thread nD τ).loc main_v1) : sProp 𝕄))]
    refine bigSep_mono fun c _ => ?_
    show (((sib c).tc : Thread nD τ).loc main_v1 ↦{fullShare} m (((sib c).tc : Thread nD τ).loc main_v1) : sProp 𝕄) ⊢ _
    iintro H; iexists _; iexact H)
  iexact Ho

/-- What is read of device `c`'s memory in the end. -/
def QY (c : Dev nD) (s : MemSt nD τ sig (Elt F)) : Prop :=
  s.mem ((c.tc : Thread nD τ).loc main_arg0) = m ((c.tc : Thread nD τ).loc main_arg0) ∧ s.mem ((c.tc : Thread nD τ).loc main_v1) = res m c

/-- For any float values, from any memory with zero counters: every fair execution ends, with each device's argument
    unchanged, its result the half its sibling sent, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) (fun q => (cfgs q).toPCfg) (fun _ q => (cfgs q).toPCfg_adm) (dats m) cellOf_inj defs₀ 𝒱₀ (x := (0 : Fin 1))
    winFacts0.to₀ ownSemFacts rfl rfl m ρ main (fun _ => []) (fun _ => rfl) (fun _ => List.nodup_nil) (fun _ => List.not_mem_nil)
    (fun c => (body_obligation m c).loose) (fun _ => rfl) (fun _ => rfl) (mem m) (fin m) (fun c => iprop(fin m c ∗ ∃ W, owes (c.tc : Thread nD τ) (0 : CellTallies nD τ sig Unit) W))
    (fin m) (deal m)
    (fun c => by
      show _ ⊢ iprop(start p (pay m) c ∗ mem m c)
      iintro ⟨Hs, Hm, -⟩
      isplitl [Hs] <;> iassumption)
    (fun c => by
      rw [two fun i => (zero p c i : sProp 𝕄)]
      show Φ₁ m c ⊢ iprop(fin m c ∗ iprop(zero p c 0 ∗ zero p c 1) ∗ Pipeline.scopedRest cfg0.spec c)
      rw [scopedRest0_eq]
      unfold Φ₁
      iintro ⟨Hf, Hz⟩
      isplitl [Hf]; · iexact Hf
      isplitl [Hz]; · iexact Hz
      iempintro)
    (fun c => by iintro H; imodintro; iexact H)
    (fun c => BI.Entails.refl _)
    (QY m)
    (fun c s' => read_two s')
    (fun s h hs => ⟨h, sem_eq_zero_of_scoped (by decide) hs⟩)

end Cert.SiblingRun
-- ==== Proof.SiblingValue.lean ====
/-
# The exchange between the two cores of a chip: the value

The kernel's result on device `c`, index by index, against the plain statement over whole arrays: swap, in every chip,
the half each core holds for its sibling.
-/
module

public import proofs.«01_k».proof.Proof.SiblingRun
public import proofs.«01_k».proof.Proof.Gen.SiblingRefIdeal.Run
public import Idealize.ShloMosaic.Lib.Pipeline.Value
public import Idealize.ShloMosaic.Lib.ValueIdxRank6

@[expose] public section

noncomputable section

namespace Cert.SiblingRun

open Idealize.ShloMosaic Idealize.ShloMosaic.TcCoe Idealize.ShloMosaic.ValueIdx Idealize.SL.Sem
open Cert.SiblingIdeal Cert.SiblingIdeal.Gen

section Ref

open Cert.SiblingRefIdeal Cert.SiblingRefIdeal.Gen

variable {α : Type}

/-- The reference's term. -/
abbrev swapped (X : S16x4x86016x128.Idx → α) : S32x86016x128.Idx → α :=
  shapeCast S32x86016x128 (concatenate S4x2x4x86016x128 1
    [⟨S4x1x4x86016x128, broadcastInDim S4x1x4x86016x128 ![0, 2, 3, 4] bcast_S4x4x86016x128_S4x1x4x86016x128_0_2_3_4
        (shapeCast S4x4x86016x128 (extractStridedSlice S4x1x1x4x86016x128 ![0, 1, 0, 0, 0, 0]
          (shapeCast S4x2x2x4x86016x128 X shapeCasts_S16x4x86016x128_S4x2x2x4x86016x128)
          slices_S4x2x2x4x86016x128_S4x1x1x4x86016x128_0_1_0_0_0_0) shapeCasts_S4x1x1x4x86016x128_S4x4x86016x128)⟩,
     ⟨S4x1x4x86016x128, broadcastInDim S4x1x4x86016x128 ![0, 2, 3, 4] bcast_S4x4x86016x128_S4x1x4x86016x128_0_2_3_4
        (shapeCast S4x4x86016x128 (extractStridedSlice S4x1x1x4x86016x128 ![0, 0, 1, 0, 0, 0]
          (shapeCast S4x2x2x4x86016x128 X shapeCasts_S16x4x86016x128_S4x2x2x4x86016x128)
          slices_S4x2x2x4x86016x128_S4x1x1x4x86016x128_0_0_1_0_0_0) shapeCasts_S4x1x1x4x86016x128_S4x4x86016x128)⟩]
    concatenates_S4x1x4x86016x128_S4x1x4x86016x128_S4x2x4x86016x128_d1) shapeCasts_S4x2x4x86016x128_S32x86016x128

/-- One of the two pieces of the concatenation: half `y` of core `x` of every chip. -/
theorem piece_apply (X : S16x4x86016x128.Idx → α) (x y : Fin 2) (a : Fin 4) (j : Fin 4) (r : Fin 86016) (l : Fin 128)
    (h : S4x2x2x4x86016x128.Slices ![0, x.val, y.val, 0, 0, 0] S4x1x1x4x86016x128) :
    broadcastInDim S4x1x4x86016x128 ![0, 2, 3, 4] bcast_S4x4x86016x128_S4x1x4x86016x128_0_2_3_4
        (shapeCast S4x4x86016x128 (extractStridedSlice S4x1x1x4x86016x128 ![0, x.val, y.val, 0, 0, 0]
          (shapeCast S4x2x2x4x86016x128 X shapeCasts_S16x4x86016x128_S4x2x2x4x86016x128) h) shapeCasts_S4x1x1x4x86016x128_S4x4x86016x128)
        (ix5 a (0 : Fin 1) j r l)
      = X (ix4 ⟨4 * a.val + 2 * x.val + y.val, by omega⟩ j r l) := by
  rw [broadcastInDim_apply _ _ _ _ (ix4 a j r l) (fun b => by fin_cases b <;> rfl),
    shapeCast_apply _ _ _ (ix6 a (0 : Fin 1) (0 : Fin 1) j r l)
      (by rw [Shape.rowMajor_val_six, Shape.rowMajor_val_four]; show (((((a.val * 1 + 0) * 1 + 0) * 4 + j.val) * 86016 + r.val) * 128 + l.val) = _
          show _ = (((a.val * 4 + j.val) * 86016 + r.val) * 128 + l.val); omega),
    extractStridedSlice_apply _ _ _ _ (ix6 a x y j r l) (fun b => by fin_cases b <;> simp),
    shapeCast_apply _ _ _ (ix4 ⟨4 * a.val + 2 * x.val + y.val, by omega⟩ j r l)
      (by rw [Shape.rowMajor_val_six, Shape.rowMajor_val_four]
          show ((((4 * a.val + 2 * x.val + y.val) * 4 + j.val) * 86016 + r.val) * 128 + l.val)
            = (((((a.val * 2 + x.val) * 2 + y.val) * 4 + j.val) * 86016 + r.val) * 128 + l.val)
          omega)]

/-- The reference at an index: row `n` is the result of device `n / 4`, whose sibling holds the half. -/
theorem swapped_apply (X : S16x4x86016x128.Idx → α) (n : Fin 32) (r : Fin 86016) (l : Fin 128) :
    swapped X (ix3 n r l) = X (ix4 ⟨4 * (n.val / 8) + 2 - n.val / 4 % 2, by omega⟩
      ⟨n.val % 4, Nat.mod_lt _ (by decide)⟩ r l) := by
  unfold swapped
  rw [shapeCast_apply _ _ (ix3 n r l) (ix5 ⟨n.val / 8, by omega⟩ ⟨n.val / 4 % 2, by omega⟩ ⟨n.val % 4, by omega⟩ r l)
      (by rw [Shape.rowMajor_val_five, Shape.rowMajor_val_three]
          show (((n.val / 8 * 2 + n.val / 4 % 2) * 4 + n.val % 4) * 86016 + r.val) * 128 + l.val
            = (n.val * 86016 + r.val) * 128 + l.val
          omega)]
  rcases Nat.mod_two_eq_zero_or_one (n.val / 4) with hb | hb
  · refine (concatenate_pair_apply_left (t := S4x2x4x86016x128) (s₁ := S4x1x4x86016x128) (s₂ := S4x1x4x86016x128) (1 : Fin 5) _ _ _ _ rfl (ix5 ⟨n.val / 8, by omega⟩ (0 : Fin 1) ⟨n.val % 4, by omega⟩ r l)
      (fun b => by fin_cases b <;> first | rfl | exact hb.symm)).trans ?_
    refine (piece_apply X 1 0 _ _ _ _ _).trans (congrArg X ?_)
    congr 1
    apply Fin.ext; show 4 * (n.val / 8) + 2 * 1 + 0 = 4 * (n.val / 8) + 2 - n.val / 4 % 2; omega
  · refine (concatenate_pair_apply_right (t := S4x2x4x86016x128) (s₁ := S4x1x4x86016x128) (s₂ := S4x1x4x86016x128) (1 : Fin 5) _ _ _ _ rfl rfl (ix5 ⟨n.val / 8, by omega⟩ (0 : Fin 1) ⟨n.val % 4, by omega⟩ r l)
      (fun b hne => by fin_cases b <;> first | rfl | exact absurd rfl hne) (by show 0 + 1 = n.val / 4 % 2; omega)).trans ?_
    refine (piece_apply X 0 1 _ _ _ _ _).trans (congrArg X ?_)
    congr 1
    apply Fin.ext; show 4 * (n.val / 8) + 2 * 0 + 1 = 4 * (n.val / 8) + 2 - n.val / 4 % 2; omega

end Ref

variable {F : FTy → Type} [FloatOps F] (m : (ℓ : Loc nD τ sig) → Buf (Elt F) ℓ)

omit [FloatOps F] in
/-- What device `c` sends, at an index. -/
theorem sent_apply (c : Dev nD) (j : Fin 4) (r : Fin 86016) (l : Fin 128) :
    sent m c (ix3 j r l) = m ((c.tc : Thread nD τ).loc main_arg0) (ix4 ⟨1 - c.val % 2, by omega⟩ j r l) := by
  have h : sent m c = shapeCast S4x86016x128 (fun z => m ((c.tc : Thread nD τ).loc main_arg0)
      ((Rect.unit (s := S2x4x86016x128) (k0_off1 c) S1x4x86016x128.size (k0_off1_inb c)).emb z)) (squeezes_S1x4x86016x128_S4x86016x128).numel_eq := rfl
  refine (congrFun h _).trans ((shapeCast_apply _ _ (ix3 j r l) (ix4 (0 : Fin 1) j r l)
    (by rw [Shape.rowMajor_val_four, Shape.rowMajor_val_three]
        show ((0 * 4 + j.val) * 86016 + r.val) * 128 + l.val = (j.val * 86016 + r.val) * 128 + l.val
        omega)).trans ?_)
  refine congrArg (m ((c.tc : Thread nD τ).loc main_arg0)) (funext fun b => Fin.ext ?_)
  refine (Rect.emb_apply _ _ _).trans ?_
  refine (congrArg (· + 1 * (ix4 (0 : Fin 1) j r l b).val) (congrFun (k0_off1_eq c) b)).trans ?_
  fin_cases b <;> simp

omit [FloatOps F] in
/-- Device `c`'s result is its block of the reference's. -/
theorem res_block (X : (⟨4, ![16, 4, 86016, 128]⟩ : Shape).Idx → Elt F .f32)
    (hm : ∀ c : Dev nD, m ((c.tc : Thread nD τ).loc main_arg0) = Layout.block ⟨4, ![2, 4, 86016, 128]⟩ ⟨4, ![16, 4, 86016, 128]⟩ 0 8 c X)
    (c : Dev nD) : res m c = Layout.block ⟨3, ![4, 86016, 128]⟩ ⟨3, ![32, 86016, 128]⟩ 0 8 c (swapped X) := by
  have hc : c.val < 8 := c.isLt
  have H : ∀ (j : Fin 4) (r : Fin 86016) (l : Fin 128), res m c (ix3 j r l)
      = Layout.block ⟨3, ![4, 86016, 128]⟩ ⟨3, ![32, 86016, 128]⟩ 0 8 c (swapped X) (by decide) (ix3 j r l) := by
    intro j r l
    have hi : ∀ h : Layout.Tiles ⟨3, ![4, 86016, 128]⟩ ⟨3, ![32, 86016, 128]⟩ 0 8,
        h.idx c (ix3 j r l) = ix3 (⟨c.val * 4 + j.val, by omega⟩ : Fin 32) r l := fun h => by
      funext b; apply Fin.ext; rw [Layout.Tiles.idx_val]; fin_cases b <;> rfl
    have hs : ∀ h : Layout.Tiles ⟨4, ![2, 4, 86016, 128]⟩ ⟨4, ![16, 4, 86016, 128]⟩ 0 8,
        h.idx (sib c) (ix4 (⟨1 - (sib c).val % 2, by omega⟩ : Fin 2) j r l)
          = ix4 (⟨4 * ((c.val * 4 + j.val) / 8) + 2 - (c.val * 4 + j.val) / 4 % 2, by omega⟩ : Fin 16)
            (⟨(c.val * 4 + j.val) % 4, Nat.mod_lt _ (by decide)⟩ : Fin 4) r l := fun h => by
      funext b; apply Fin.ext; rw [Layout.Tiles.idx_val]
      fin_cases b
      · show (4 * (c.val / 4) + 2 * (c.val / 2 % 2) + 1 - c.val % 2) * 2 + (1 - (4 * (c.val / 4) + 2 * (c.val / 2 % 2) + 1 - c.val % 2) % 2)
          = 4 * ((c.val * 4 + j.val) / 8) + 2 - (c.val * 4 + j.val) / 4 % 2
        omega
      · show j.val = (c.val * 4 + j.val) % 4; omega
      · rfl
      · rfl
    refine (sent_apply m (sib c) j r l).trans ?_
    rw [hm (sib c), Layout.block_apply, Layout.block_apply, hi, hs, swapped_apply]
  funext i
  rw [eq_ix3 (n0 := 4) (n1 := 86016) (n2 := 128) i]
  exact H _ _ _

end Cert.SiblingRun
-- ==== Proof.SiblingClaims.lean ====
/-
# The exchange between the two cores of a chip: the claims
-/
module

public import proofs.«01_k».proof.Proof.SiblingValue
public import proofs.«01_k».proof.Defs
public import proofs.«01_k».proof.Proof.Gen.Sibling
public import proofs.«01_k».proof.Proof.Gen.SiblingRef.Run
public import Idealize.ShloMosaic.Lib.Quiescent

@[expose] public section

noncomputable section

namespace Cert.SiblingRun

open Idealize.ShloMosaic Idealize.ShloMosaic.TcCoe Idealize.SL.Sem
open Cert.Sibling.Gen Cert.SiblingRef.Gen Cert.SiblingIdeal.Gen Cert.SiblingRefIdeal.Gen

theorem frame_kernel : Cert.quiescent_Sibling := fun m ρ _ =>
  (θ_run Cert.SiblingIdeal.defs _ _).mono (fun _ h => ⟨fun c => (h.1 c).1, h.2⟩) (run_main (F := Bits) m ρ)
theorem frame_kernel_ideal : Cert.quiescent_SiblingIdeal := fun m ρ _ =>
  (θ_run Cert.SiblingIdeal.defs _ _).mono (fun _ h => ⟨fun c => (h.1 c).1, h.2⟩) (run_main (F := Ideal) m ρ)
theorem frame_ref : Cert.quiescent_SiblingRef := fun m ρ _ =>
  (θ_run Cert.SiblingRef.defs _ _).mono (fun r h => ⟨fun c => (h c).2, sem_eq_zero_of_no_sems (by decide) r.2⟩) (Cert.SiblingRef.Value.run (F := Bits) m ρ)
theorem frame_ref_ideal : Cert.quiescent_SiblingRefIdeal := fun m ρ _ =>
  (θ_run Cert.SiblingRefIdeal.defs _ _).mono (fun r h => ⟨fun c => (h c).2, sem_eq_zero_of_no_sems (by decide) r.2⟩) (Cert.SiblingRefIdeal.Value.run (F := Ideal) m ρ)

/-- Over the extended reals: every device ends with its part of the reference's result. -/
theorem algebraic : Cert.algebraic_SiblingIdeal_SiblingRefIdeal := fun m ρ m' ρ' _ hm =>
  ⟨_, (θ_run Cert.SiblingIdeal.defs _ _).mono (fun _ h c => ⟨(h.1 c).2.trans (res_block m _ hm c), (h.1 c).1⟩) (run_main (F := Ideal) m ρ),
    (θ_run Cert.SiblingRefIdeal.defs _ _).mono (fun _ h => h 0) (Cert.SiblingRefIdeal.Value.run (F := Ideal) m' ρ')⟩
/-- The same, bit for bit. -/
theorem bitexact : Cert.bitexact_Sibling_SiblingRef := fun m ρ m' ρ' _ hm =>
  ⟨_, (θ_run Cert.SiblingIdeal.defs _ _).mono (fun _ h c => ⟨(h.1 c).2.trans (res_block (F := Bits) m _ hm c), (h.1 c).1⟩) (run_main (F := Bits) m ρ),
    (θ_run Cert.SiblingRef.defs _ _).mono (fun _ h => h 0) (Cert.SiblingRef.Value.run (F := Bits) m' ρ')⟩

end Cert.SiblingRun
-- ==== Proof.ChipsRun.lean ====
/-
# The exchange between the four chips

Every device sends to each of the three other chips, to the core of its own index, the block of its array that belongs to
that chip, and copies its own block into its own result. Seven semaphores a device: `0` to `2` the sends', `3` to `5` the
receives', `6` the local copy's. The argument falls into the four blocks that are read, the result into the four written.
-/
module

public import proofs.«01_k».proof.Proof.Blocks
public import proofs.«01_k».proof.Proof.Gen.ChipsIdeal
public import proofs.«01_k».proof.Proof.Gen.ChipsIdeal.Skeleton
public import proofs.«01_k».proof.Proof.Gen.ChipsIdeal.Launch
public import Idealize.ShloMosaic.Lib.Pipeline.Value
public import Idealize.ShloMosaic.Lib.ValueIdxRank6

@[expose] public section

set_option Elab.async false

noncomputable section

namespace Cert.ChipsRun

open Cert.ChipsIdeal Cert.ChipsIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The three other chips, the core of the same index. -/
def ch0 (c : Dev nD) : Dev nD := ⟨2 * (c.val / 2 % 2) + c.val % 2 + 4 - 4 * (c.val / 4), by revert c; decide⟩
def ch1 (c : Dev nD) : Dev nD := ⟨4 * (c.val / 4) + c.val % 2 + 2 - 2 * (c.val / 2 % 2), by revert c; decide⟩
def ch2 (c : Dev nD) : Dev nD := ⟨c.val % 2 + 6 - (4 * (c.val / 4) + 2 * (c.val / 2 % 2)), by revert c; decide⟩
theorem ch0_ch0 : ∀ c, ch0 (ch0 c) = c := by decide
theorem ch1_ch1 : ∀ c, ch1 (ch1 c) = c := by decide
theorem ch2_ch2 : ∀ c, ch2 (ch2 c) = c := by decide
theorem dev1_eq (c : Dev nD) : (⟨k0_dev1 c, k0_dev1_lt c⟩ : Dev nD) = ch0 c := Fin.ext (k0_dev1_eq c)
theorem dev2_eq (c : Dev nD) : (⟨k0_dev2 c, k0_dev2_lt c⟩ : Dev nD) = ch1 c := Fin.ext (k0_dev2_eq c)
theorem dev3_eq (c : Dev nD) : (⟨k0_dev3 c, k0_dev3_lt c⟩ : Dev nD) = ch2 c := Fin.ext (k0_dev3_eq c)

/-- The blocks in closed form: a device's own chip, and the chips of its peers. -/
theorem off1_eq (c : Dev nD) : k0_off1 c = ![c.val / 2, 0, 0] := (k0_off1_eq c).trans (by revert c; decide)
theorem off2_eq (c : Dev nD) : k0_off2 c = ![(ch0 c).val / 2, 0, 0] := (k0_off2_eq c).trans (by revert c; decide)
theorem off3_eq (c : Dev nD) : k0_off3 c = ![(ch1 c).val / 2, 0, 0] := (k0_off3_eq c).trans (by revert c; decide)
theorem off4_eq (c : Dev nD) : k0_off4 c = ![(ch2 c).val / 2, 0, 0] := (k0_off4_eq c).trans (by revert c; decide)

/-- One block of the argument, of the result. -/
abbrev argM (off : Fin 3 → ℕ) (inb : ∀ a, off a + S1x86016x128.size a ≤ S4x86016x128.size a) : Memref sig .tc .hbm S86016x128 .f32 :=
  ((Memref.whole main_arg0).slice (Rect.unit (s := S4x86016x128) off S1x86016x128.size inb) (fun _ => rfl)).squeeze
    S86016x128 squeezes_S1x86016x128_S86016x128
abbrev resM (off : Fin 3 → ℕ) (inb : ∀ a, off a + S1x86016x128.size a ≤ S4x86016x128.size a) : Memref sig .tc .hbm S86016x128 .f32 :=
  ((Memref.whole main_v1).slice (Rect.unit (s := S4x86016x128) off S1x86016x128.size inb) (fun _ => rfl)).squeeze
    S86016x128 squeezes_S1x86016x128_S86016x128

/-- What device `c` sends to itself and to its peers, and where it is written on each of them. -/
abbrev own (c : Dev nD) := argM (k0_off1 c) (k0_off1_inb c)
abbrev src0 (c : Dev nD) := argM (k0_off2 c) (k0_off2_inb c)
abbrev src1 (c : Dev nD) := argM (k0_off3 c) (k0_off3_inb c)
abbrev src2 (c : Dev nD) := argM (k0_off4 c) (k0_off4_inb c)
abbrev dstM (c : Dev nD) := resM (k0_off1 c) (k0_off1_inb c)

/-- The semaphore of a send, of a receive. -/
abbrev sS0 : DmaSem sig := ((cc0_scratch0.slice (Rect.unit (s := S3) ![0] S1.size inb_S3_S1_0)).squeeze S_ squeezes_S1_S_).sem
abbrev sS1 : DmaSem sig := ((cc0_scratch0.slice (Rect.unit (s := S3) ![1] S1.size inb_S3_S1_1)).squeeze S_ squeezes_S1_S_).sem
abbrev sS2 : DmaSem sig := ((cc0_scratch0.slice (Rect.unit (s := S3) ![2] S1.size inb_S3_S1_2)).squeeze S_ squeezes_S1_S_).sem
abbrev sR0 : DmaSem sig := ((cc0_scratch1.slice (Rect.unit (s := S3) ![0] S1.size inb_S3_S1_0)).squeeze S_ squeezes_S1_S_).sem
abbrev sR1 : DmaSem sig := ((cc0_scratch1.slice (Rect.unit (s := S3) ![1] S1.size inb_S3_S1_1)).squeeze S_ squeezes_S1_S_).sem
abbrev sR2 : DmaSem sig := ((cc0_scratch1.slice (Rect.unit (s := S3) ![2] S1.size inb_S3_S1_2)).squeeze S_ squeezes_S1_S_).sem

/-- The credit of one transfer. -/
abbrev N : ℕ := (dstM 0).view.dmaCredit

def p : Proto nD sig 7 where
  sem := ![.dma sS0, .dma sS1, .dma sS2, .dma sR0, .dma sR1, .dma sR2, .dma cc0_scratch2.sem]
  inj := by decide
  amt _ := N
  amt_pos _ := View.dmaCredit_pos _ (by decide)
  peer := ![id, id, id, ch0, ch1, ch2, id]
  peer_peer := by decide
  owed := {3, 4, 5}
  lvl _ := 0

/-- What is owed after the first, the second and the third send. -/
abbrev O1 : Finset (Fin 7) := p.owed.erase 3
abbrev O2 : Finset (Fin 7) := O1.erase 4
abbrev O3 : Finset (Fin 7) := O2.erase 5

variable (m : (ℓ : Loc nD τ sig) → Buf (Elt F) ℓ) (ρ : Dev nD → PrngReg)

/-- The argument of device `c`. -/
def arg (c : Dev nD) : S4x86016x128.Idx → Elt F .f32 := m ((c.tc : Thread nD τ).loc main_arg0)
/-- The core of device `c`'s index on chip `j`. -/
def on (c : Dev nD) (j : ℕ) : Dev nD := ⟨2 * (j % 4) + c.val % 2, by show _ < 8; omega⟩
/-- What device `c` ends with: from every chip, the block that belongs to its own. -/
def res (c : Dev nD) : Buf (Elt F) ((c.tc : Thread nD τ).loc main_v1) :=
  fun z : S4x86016x128.Idx => arg m (on c (z 0).val) (ix3 (⟨c.val / 2, by have : c.val < 8 := c.isLt; omega⟩ : Fin 4) (z 1) (z 2))

/-! ## The blocks -/

/-- The elements of a block. -/
theorem mem_res (off : Fin 3 → ℕ) (inb) (n : ℕ) (h : off = ![n, 0, 0]) (z : S4x86016x128.Idx) : z ∈ (resM off inb).view.set ↔ (z 0).val = n := by
  refine (mem_block main_v1).trans ?_
  subst h
  have h1 : (z 1).val < 86016 := (z 1).isLt
  have h2 : (z 2).val < 128 := (z 2).isLt
  constructor
  · intro h
    have h0 : n ≤ (z 0).val ∧ (z 0).val < n + 1 := h 0
    omega
  · intro h a
    fin_cases a
    · show n ≤ (z 0).val ∧ (z 0).val < n + 1; omega
    · show 0 ≤ (z 1).val ∧ (z 1).val < 0 + 86016; omega
    · show 0 ≤ (z 2).val ∧ (z 2).val < 0 + 128; omega
theorem mem_arg (off : Fin 3 → ℕ) (inb) (n : ℕ) (h : off = ![n, 0, 0]) (z : S4x86016x128.Idx) : z ∈ (argM off inb).view.set ↔ (z 0).val = n :=
  (mem_block main_arg0).trans ((mem_block main_v1 (hr := fun _ => rfl) (hq := squeezes_S1x86016x128_S86016x128)).symm.trans (mem_res off inb n h z))

/-- The blocks written into device `c`'s result: by the receives from its peers, by its own copy. -/
def B (c : Dev nD) (i : Fin 7) : Finset (main_v1 : Ref sig .tc).ty.Idx := (dstM (p.peer i c)).view.set
def W : Finset (Fin 7) := {3, 4, 5, 6}
def which (c : Dev nD) (j : ℕ) : Fin 7 := if j = c.val / 2 then 6 else if j = (ch0 c).val / 2 then 3 else if j = (ch1 c).val / 2 then 4 else 5
theorem which_dec : ∀ c : Dev nD, ∀ i ∈ W, ∀ j : Fin 4, j.val = (p.peer i c).val / 2 ↔ which c j.val = i := by decide
theorem which_mem (c : Dev nD) (z : (main_v1 : Ref sig .tc).ty.Idx) : which c (z (0 : Fin 3)).val ∈ W := by
  unfold which; split_ifs <;> decide
theorem mem_B (c : Dev nD) : ∀ i ∈ W, ∀ z : S4x86016x128.Idx, z ∈ B c i ↔ which c (z 0).val = i := fun i hi z =>
  (mem_res _ (k0_off1_inb _) _ (off1_eq (p.peer i c)) z).trans (which_dec c i hi (z 0))

/-- The blocks read from device `c`'s argument: by the sends, by its own copy. -/
def A (c : Dev nD) : Fin 7 → Finset (main_arg0 : Ref sig .tc).ty.Idx :=
  ![(src0 c).view.set, (src1 c).view.set, (src2 c).view.set, ∅, ∅, ∅, (own c).view.set]
def WA : Finset (Fin 7) := {0, 1, 2, 6}
def whichA (c : Dev nD) (j : ℕ) : Fin 7 := if j = c.val / 2 then 6 else if j = (ch0 c).val / 2 then 0 else if j = (ch1 c).val / 2 then 1 else 2
theorem whichA_dec : ∀ c : Dev nD, ∀ i ∈ WA, ∀ j : Fin 4, j.val = (![ch0, ch1, ch2, id, id, id, id] i c).val / 2 ↔ whichA c j.val = i := by decide
theorem whichA_mem (c : Dev nD) (z : (main_arg0 : Ref sig .tc).ty.Idx) : whichA c (z (0 : Fin 3)).val ∈ WA := by
  unfold whichA; split_ifs <;> decide
theorem mem_A (c : Dev nD) : ∀ i ∈ WA, ∀ z : S4x86016x128.Idx, z ∈ A c i ↔ whichA c (z 0).val = i := fun i hi z => by
  refine Iff.trans ?_ (whichA_dec c i hi (z 0))
  fin_cases i
  · exact mem_arg _ (k0_off2_inb _) _ (off2_eq c) z
  · exact mem_arg _ (k0_off3_inb _) _ (off3_eq c) z
  · exact mem_arg _ (k0_off4_inb _) _ (off4_eq c) z
  · exact absurd hi (by decide)
  · exact absurd hi (by decide)
  · exact absurd hi (by decide)
  · exact mem_arg _ (k0_off1_inb _) _ (off1_eq c) z

/-! ## What a block holds -/

/-- A block of an array, at an index. -/
theorem read_block {α : Type} (f : S4x86016x128.Idx → α) (off : Fin 3 → ℕ) (inb : ∀ a, off a + S1x86016x128.size a ≤ S4x86016x128.size a)
    (n : Fin 4) (h : off = ![n.val, 0, 0]) (r : Fin 86016) (l : Fin 128) :
    shapeCast S86016x128 (fun z => f ((Rect.unit (s := S4x86016x128) off S1x86016x128.size inb).emb z)) (squeezes_S1x86016x128_S86016x128).numel_eq (ix2 r l)
      = f (ix3 n r l) := by
  refine (shapeCast_apply _ _ (ix2 r l) (ix3 (0 : Fin 1) r l)
    (by rw [Shape.rowMajor_val_three, Shape.rowMajor_val_two]
        show (0 * 86016 + r.val) * 128 + l.val = r.val * 128 + l.val
        omega)).trans (congrArg f ?_)
  funext b; apply Fin.ext
  refine (Rect.emb_apply _ _ _).trans ?_
  refine (congrArg (· + 1 * (ix3 (0 : Fin 1) r l b).val) (congrFun h b)).trans ?_
  fin_cases b <;> simp

omit [FloatOps F] in
/-- What device `c` sends to device `d` is what device `d` ends with in the block of device `c`'s chip. -/
theorem read_res (c d : Dev nD) (h : on d (c.val / 2) = c) (off : Fin 3 → ℕ) (inb) (ho : off = ![d.val / 2, 0, 0]) :
    (dstM c).view.read (Elt F) (res m d) = (argM off inb).view.read (Elt F) (m ((c.tc : Thread nD τ).loc main_arg0)) := by
  have hc : c.val < 8 := c.isLt
  have hd : d.val < 8 := d.isLt
  have e : (dstM c).view.read (Elt F) (res m d) = shapeCast S86016x128 (fun z => res m d
      ((Rect.unit (s := S4x86016x128) (k0_off1 c) S1x86016x128.size (k0_off1_inb c)).emb z)) (squeezes_S1x86016x128_S86016x128).numel_eq := rfl
  have e' : (argM off inb).view.read (Elt F) (m ((c.tc : Thread nD τ).loc main_arg0)) = shapeCast S86016x128 (fun z => arg m c
      ((Rect.unit (s := S4x86016x128) off S1x86016x128.size inb).emb z)) (squeezes_S1x86016x128_S86016x128).numel_eq := rfl
  have H (r : Fin 86016) (l : Fin 128) : (dstM c).view.read (Elt F) (res m d) (ix2 r l)
      = (argM off inb).view.read (Elt F) (m ((c.tc : Thread nD τ).loc main_arg0)) (ix2 r l) := by
    refine (congrFun e _).trans ((read_block (res m d) _ _ ⟨c.val / 2, by omega⟩ (off1_eq c) r l).trans ?_)
    refine Eq.trans ?_ ((congrFun e' _).trans (read_block (arg m c) off inb ⟨d.val / 2, by omega⟩ ho r l)).symm
    exact congrFun (congrArg (arg m) h) _
  funext y
  rw [eq_ix2 (n0 := 86016) (n1 := 128) y]
  exact H _ _

theorem on_self : ∀ c : Dev nD, on c (c.val / 2) = c := by decide
theorem on_ch0 : ∀ c : Dev nD, on (ch0 c) (c.val / 2) = c := by decide
theorem on_ch1 : ∀ c : Dev nD, on (ch1 c) (c.val / 2) = c := by decide
theorem on_ch2 : ∀ c : Dev nD, on (ch2 c) (c.val / 2) = c := by decide

/-! ## The exchange's state -/

/-- A send gives back the block it read, a receive the block written; the local copy gives both. -/
def pay (c : Dev nD) : Fin 7 → sProp 𝕄 :=
  ![(((c.tc : Thread nD τ).loc main_arg0) ↦[A c 0]{fullShare} m ((c.tc : Thread nD τ).loc main_arg0)),
    (((c.tc : Thread nD τ).loc main_arg0) ↦[A c 1]{fullShare} m ((c.tc : Thread nD τ).loc main_arg0)),
    (((c.tc : Thread nD τ).loc main_arg0) ↦[A c 2]{fullShare} m ((c.tc : Thread nD τ).loc main_arg0)),
    (((c.tc : Thread nD τ).loc main_v1) ↦[B c 3]{fullShare} res m c),
    (((c.tc : Thread nD τ).loc main_v1) ↦[B c 4]{fullShare} res m c),
    (((c.tc : Thread nD τ).loc main_v1) ↦[B c 5]{fullShare} res m c),
    iprop((((c.tc : Thread nD τ).loc main_v1) ↦[B c 6]{fullShare} res m c)
      ∗ (((c.tc : Thread nD τ).loc main_arg0) ↦[A c 6]{fullShare} m ((c.tc : Thread nD τ).loc main_arg0)))]

instance : PayStorable (pay m) := ⟨fun c i => by
  fin_cases i
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ iprop(pointsTo _ _ _ _ ∗ pointsTo _ _ _ _))⟩

/-- What device `c` holds to run: its array, and the four blocks it writes. -/
def mem (c : Dev nD) : sProp 𝕄 :=
  iprop(((c.tc : Thread nD τ).loc main_arg0 ↦{fullShare} m ((c.tc : Thread nD τ).loc main_arg0))
    ∗ bigSep W fun i => iprop(∃ g, ((p.peer i c).tc : Thread nD τ).loc main_v1 ↦[B (p.peer i c) i]{fullShare} g))
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1 ∗ zero p c 2 ∗ zero p c 3 ∗ zero p c 4 ∗ zero p c 5 ∗ zero p c 6)

def dats (_ : Fin 1) (c : Dev nD) : Dat τ (Elt F) Unit ℕ (UU nD τ sig) ℕ cfg0 c where
  A w := w.elim0
  after w _ := w.elim0
  Φ t := match t with
    | ⟨0, _⟩ => iprop(start p (pay m) c ∗ mem m c)
    | ⟨_ + 1, _⟩ => Φ₁ m c
  q _ := fullShare
  owed t := match t with
    | ⟨0, _⟩ => due p p.owed c
    | ⟨_ + 1, _⟩ => 0

abbrev 𝒱₀ : Variants := Variants.none

theorem B_ch0 (c : Dev nD) : B (ch0 c) 3 = (dstM c).view.set := by
  show (dstM (ch0 (ch0 c))).view.set = _; rw [ch0_ch0]
omit [FloatOps F] in
theorem pay_recv0 (c n : Dev nD) (hn : n = ch0 c) (f : Buf (Elt F) ((dstM c).view.loc (n.tc : Thread nD τ))) :
    ((dstM c).view.loc (n.tc : Thread nD τ) ↦[(dstM c).view.set]{fullShare}
      ((dstM c).view.write (Elt F) f ((src0 c).view.read (Elt F) (m ((c.tc : Thread nD τ).loc main_arg0))) Finset.univ) : sProp 𝕄) ⊢ pay m n 3 := by
  subst hn
  refine (settle (t := ((ch0 c).tc : Thread nD τ)) (dstM c) f (res m (ch0 c)) _ (read_res m c (ch0 c) (on_ch0 c) _ _ (off2_eq c))).trans (Entails.of_eq ?_)
  show _ = ((((ch0 c).tc : Thread nD τ).loc main_v1) ↦[B (ch0 c) 3]{fullShare} res m (ch0 c) : sProp 𝕄)
  rw [B_ch0 c]
omit [FloatOps F] in
theorem dst_at0 (c n : Dev nD) (hn : n = ch0 c) :
    iprop(∃ g, ((p.peer 3 c).tc : Thread nD τ).loc main_v1 ↦[B (p.peer 3 c) 3]{fullShare} g)
      ⊢ (iprop(∃ f, (dstM c).view.loc (n.tc : Thread nD τ) ↦[(dstM c).view.set]{fullShare} f) : sProp 𝕄) := by
  subst hn
  rw [show p.peer 3 c = ch0 c from rfl, B_ch0 c]
omit [FloatOps F] in
theorem pay_send0 (c : Dev nD) : ((src0 c).view.loc (c.tc : Thread nD τ) ↦[(src0 c).view.set]{fullShare} m ((c.tc : Thread nD τ).loc main_arg0) : sProp 𝕄)
    ⊣⊢ pay m c 0 := ⟨BI.Entails.refl _, BI.Entails.refl _⟩
omit [FloatOps F] in
theorem got_arg0 (c : Dev nD) : pay m c 0 ⊢ (((c.tc : Thread nD τ).loc main_arg0) ↦[A c 0]{fullShare} m ((c.tc : Thread nD τ).loc main_arg0) : sProp 𝕄) := BI.Entails.refl _
omit [FloatOps F] in
theorem got_res0 (c : Dev nD) : pay m c 3 ⊢ ((c.tc : Thread nD τ).loc main_v1 ↦[B c 3]{fullShare} res m c : sProp 𝕄) := BI.Entails.refl _
theorem amt_put0 (c : Dev nD) : (dstM c).view.amount (.dma sR0) = p.amt 3 := rfl
theorem amt_same0 : p.amt 0 = p.amt 3 := rfl
theorem sem_send0 : p.sem 0 = .dma sS0 := rfl
theorem sem_recv0 : p.sem 3 = .dma sR0 := rfl

theorem B_ch1 (c : Dev nD) : B (ch1 c) 4 = (dstM c).view.set := by
  show (dstM (ch1 (ch1 c))).view.set = _; rw [ch1_ch1]
omit [FloatOps F] in
theorem pay_recv1 (c n : Dev nD) (hn : n = ch1 c) (f : Buf (Elt F) ((dstM c).view.loc (n.tc : Thread nD τ))) :
    ((dstM c).view.loc (n.tc : Thread nD τ) ↦[(dstM c).view.set]{fullShare}
      ((dstM c).view.write (Elt F) f ((src1 c).view.read (Elt F) (m ((c.tc : Thread nD τ).loc main_arg0))) Finset.univ) : sProp 𝕄) ⊢ pay m n 4 := by
  subst hn
  refine (settle (t := ((ch1 c).tc : Thread nD τ)) (dstM c) f (res m (ch1 c)) _ (read_res m c (ch1 c) (on_ch1 c) _ _ (off3_eq c))).trans (Entails.of_eq ?_)
  show _ = ((((ch1 c).tc : Thread nD τ).loc main_v1) ↦[B (ch1 c) 4]{fullShare} res m (ch1 c) : sProp 𝕄)
  rw [B_ch1 c]
omit [FloatOps F] in
theorem dst_at1 (c n : Dev nD) (hn : n = ch1 c) :
    iprop(∃ g, ((p.peer 4 c).tc : Thread nD τ).loc main_v1 ↦[B (p.peer 4 c) 4]{fullShare} g)
      ⊢ (iprop(∃ f, (dstM c).view.loc (n.tc : Thread nD τ) ↦[(dstM c).view.set]{fullShare} f) : sProp 𝕄) := by
  subst hn
  rw [show p.peer 4 c = ch1 c from rfl, B_ch1 c]
omit [FloatOps F] in
theorem pay_send1 (c : Dev nD) : ((src1 c).view.loc (c.tc : Thread nD τ) ↦[(src1 c).view.set]{fullShare} m ((c.tc : Thread nD τ).loc main_arg0) : sProp 𝕄)
    ⊣⊢ pay m c 1 := ⟨BI.Entails.refl _, BI.Entails.refl _⟩
omit [FloatOps F] in
theorem got_arg1 (c : Dev nD) : pay m c 1 ⊢ (((c.tc : Thread nD τ).loc main_arg0) ↦[A c 1]{fullShare} m ((c.tc : Thread nD τ).loc main_arg0) : sProp 𝕄) := BI.Entails.refl _
omit [FloatOps F] in
theorem got_res1 (c : Dev nD) : pay m c 4 ⊢ ((c.tc : Thread nD τ).loc main_v1 ↦[B c 4]{fullShare} res m c : sProp 𝕄) := BI.Entails.refl _
theorem amt_put1 (c : Dev nD) : (dstM c).view.amount (.dma sR1) = p.amt 4 := rfl
theorem amt_same1 : p.amt 1 = p.amt 4 := rfl
theorem sem_send1 : p.sem 1 = .dma sS1 := rfl
theorem sem_recv1 : p.sem 4 = .dma sR1 := rfl

theorem B_ch2 (c : Dev nD) : B (ch2 c) 5 = (dstM c).view.set := by
  show (dstM (ch2 (ch2 c))).view.set = _; rw [ch2_ch2]
omit [FloatOps F] in
theorem pay_recv2 (c n : Dev nD) (hn : n = ch2 c) (f : Buf (Elt F) ((dstM c).view.loc (n.tc : Thread nD τ))) :
    ((dstM c).view.loc (n.tc : Thread nD τ) ↦[(dstM c).view.set]{fullShare}
      ((dstM c).view.write (Elt F) f ((src2 c).view.read (Elt F) (m ((c.tc : Thread nD τ).loc main_arg0))) Finset.univ) : sProp 𝕄) ⊢ pay m n 5 := by
  subst hn
  refine (settle (t := ((ch2 c).tc : Thread nD τ)) (dstM c) f (res m (ch2 c)) _ (read_res m c (ch2 c) (on_ch2 c) _ _ (off4_eq c))).trans (Entails.of_eq ?_)
  show _ = ((((ch2 c).tc : Thread nD τ).loc main_v1) ↦[B (ch2 c) 5]{fullShare} res m (ch2 c) : sProp 𝕄)
  rw [B_ch2 c]
omit [FloatOps F] in
theorem dst_at2 (c n : Dev nD) (hn : n = ch2 c) :
    iprop(∃ g, ((p.peer 5 c).tc : Thread nD τ).loc main_v1 ↦[B (p.peer 5 c) 5]{fullShare} g)
      ⊢ (iprop(∃ f, (dstM c).view.loc (n.tc : Thread nD τ) ↦[(dstM c).view.set]{fullShare} f) : sProp 𝕄) := by
  subst hn
  rw [show p.peer 5 c = ch2 c from rfl, B_ch2 c]
omit [FloatOps F] in
theorem pay_send2 (c : Dev nD) : ((src2 c).view.loc (c.tc : Thread nD τ) ↦[(src2 c).view.set]{fullShare} m ((c.tc : Thread nD τ).loc main_arg0) : sProp 𝕄)
    ⊣⊢ pay m c 2 := ⟨BI.Entails.refl _, BI.Entails.refl _⟩
omit [FloatOps F] in
theorem got_arg2 (c : Dev nD) : pay m c 2 ⊢ (((c.tc : Thread nD τ).loc main_arg0) ↦[A c 2]{fullShare} m ((c.tc : Thread nD τ).loc main_arg0) : sProp 𝕄) := BI.Entails.refl _
omit [FloatOps F] in
theorem got_res2 (c : Dev nD) : pay m c 5 ⊢ ((c.tc : Thread nD τ).loc main_v1 ↦[B c 5]{fullShare} res m c : sProp 𝕄) := BI.Entails.refl _
theorem amt_put2 (c : Dev nD) : (dstM c).view.amount (.dma sR2) = p.amt 5 := rfl
theorem amt_same2 : p.amt 2 = p.amt 5 := rfl
theorem sem_send2 : p.sem 2 = .dma sS2 := rfl
theorem sem_recv2 : p.sem 5 = .dma sR2 := rfl

omit [FloatOps F] in
theorem pay_here (c : Dev nD) (f : Buf (Elt F) ((dstM c).view.loc (c.tc : Thread nD τ))) :
    iprop(((dstM c).view.loc (c.tc : Thread nD τ) ↦[(dstM c).view.set]{fullShare}
      ((dstM c).view.write (Elt F) f ((own c).view.read (Elt F) (m ((c.tc : Thread nD τ).loc main_arg0))) Finset.univ))
      ∗ ((own c).view.loc (c.tc : Thread nD τ) ↦[(own c).view.set]{fullShare} m ((c.tc : Thread nD τ).loc main_arg0))) ⊢ (pay m c 6 : sProp 𝕄) :=
  sep_mono_left (settle (t := (c.tc : Thread nD τ)) (dstM c) f (res m c) _ (read_res m c c (on_self c) _ _ (off1_eq c)))
omit [FloatOps F] in
theorem dst_here (c : Dev nD) :
    iprop(∃ g, ((p.peer 6 c).tc : Thread nD τ).loc main_v1 ↦[B (p.peer 6 c) 6]{fullShare} g)
      ⊢ (iprop(∃ f, (dstM c).view.loc (c.tc : Thread nD τ) ↦[(dstM c).view.set]{fullShare} f) : sProp 𝕄) := BI.Entails.refl _
omit [FloatOps F] in
theorem src_here (c : Dev nD) : (((c.tc : Thread nD τ).loc main_arg0) ↦[A c 6]{fullShare} m ((c.tc : Thread nD τ).loc main_arg0))
    ⊢ ((own c).view.loc (c.tc : Thread nD τ) ↦[(own c).view.set]{fullShare} m ((c.tc : Thread nD τ).loc main_arg0) : sProp 𝕄) := BI.Entails.refl _
omit [FloatOps F] in
theorem src_send (c : Dev nD) : iprop((((c.tc : Thread nD τ).loc main_arg0) ↦[A c 0]{fullShare} m ((c.tc : Thread nD τ).loc main_arg0))
      ∗ (((c.tc : Thread nD τ).loc main_arg0) ↦[A c 1]{fullShare} m ((c.tc : Thread nD τ).loc main_arg0)) ∗ (((c.tc : Thread nD τ).loc main_arg0) ↦[A c 2]{fullShare} m ((c.tc : Thread nD τ).loc main_arg0)))
    ⊢ (iprop(((src0 c).view.loc (c.tc : Thread nD τ) ↦[(src0 c).view.set]{fullShare} m ((c.tc : Thread nD τ).loc main_arg0))
      ∗ ((src1 c).view.loc (c.tc : Thread nD τ) ↦[(src1 c).view.set]{fullShare} m ((c.tc : Thread nD τ).loc main_arg0))
      ∗ ((src2 c).view.loc (c.tc : Thread nD τ) ↦[(src2 c).view.set]{fullShare} m ((c.tc : Thread nD τ).loc main_arg0))) : sProp 𝕄) := BI.Entails.refl _
omit [FloatOps F] in
theorem pay_own (c : Dev nD) : pay m c 6 ⊢ (iprop(((c.tc : Thread nD τ).loc main_v1 ↦[B c 6]{fullShare} res m c)
      ∗ (((c.tc : Thread nD τ).loc main_arg0) ↦[A c 6]{fullShare} m ((c.tc : Thread nD τ).loc main_arg0))) : sProp 𝕄) := BI.Entails.refl _

theorem hroute (c n : Dev nD) : τ.routes (c.tc : Thread nD τ) (n.tc : Thread nD τ) = true := by revert c n; decide
theorem amt_here (c : Dev nD) : (dstM c).view.amount (.dma cc0_scratch2.sem) = p.amt 6 := rfl
theorem amt_arg (off) (inb) (i : Fin 7) : p.amt i = (argM off inb).view.dmaCredit := rfl
theorem amt_res (off) (inb) (i : Fin 7) : p.amt i = (resM off inb).view.dmaCredit := rfl
theorem sem_here : p.sem 6 = .dma cc0_scratch2.sem := rfl
theorem O3_eq : O3 = ∅ := by decide
theorem none_owed {i : Fin 7} : ∀ j ∈ O3, p.lvl i < p.lvl j := by
  rw [O3_eq]; exact fun j hj => absurd hj (Finset.notMem_empty j)
theorem in0 : (3 : Fin 7) ∈ p.owed := by decide
theorem in1 : (4 : Fin 7) ∈ O1 := by decide
theorem in2 : (5 : Fin 7) ∈ O2 := by decide

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sepW (Φ : Fin 7 → sProp 𝕄) : bigSep W Φ = iprop(Φ 3 ∗ Φ 4 ∗ Φ 5 ∗ Φ 6) := bigSep_eq_bigSepL_of_eq [3, 4, 5, 6] (by decide) (by decide) Φ
omit [FloatOps F] in
theorem sepA (Φ : Fin 7 → sProp 𝕄) : bigSep WA Φ = iprop(Φ 0 ∗ Φ 1 ∗ Φ 2 ∗ Φ 6) := bigSep_eq_bigSepL_of_eq [0, 1, 2, 6] (by decide) (by decide) Φ
omit [FloatOps F] in
theorem sepO (Φ : Fin 7 → sProp 𝕄) : bigSep p.owed Φ = iprop(Φ 3 ∗ Φ 4 ∗ Φ 5) := bigSep_eq_bigSepL_of_eq [3, 4, 5] (by decide) (by decide) Φ
omit [FloatOps F] in
/-- The argument is its four blocks. -/
theorem four (c : Dev nD) : ((c.tc : Thread nD τ).loc main_arg0 ↦{fullShare} m ((c.tc : Thread nD τ).loc main_arg0) : sProp 𝕄)
    = iprop((((c.tc : Thread nD τ).loc main_arg0) ↦[A c 0]{fullShare} m ((c.tc : Thread nD τ).loc main_arg0)) ∗ (((c.tc : Thread nD τ).loc main_arg0) ↦[A c 1]{fullShare} m ((c.tc : Thread nD τ).loc main_arg0))
      ∗ (((c.tc : Thread nD τ).loc main_arg0) ↦[A c 2]{fullShare} m ((c.tc : Thread nD τ).loc main_arg0)) ∗ (((c.tc : Thread nD τ).loc main_arg0) ↦[A c 6]{fullShare} m ((c.tc : Thread nD τ).loc main_arg0))) :=
  (blocks main_arg0 WA A (fun c z => whichA c (z (0 : Fin 3)).val) whichA_mem mem_A c fullShare (m ((c.tc : Thread nD τ).loc main_arg0))).trans (sepA _)

abbrev call := cc0_rs_chip_exchange (F := F) (Memref.whole main_arg0) (Memref.isWhole_whole _) (Memref.whole main_v1) (Memref.isWhole_whole _) cc0_scratch0 cc0_scratch1 cc0_scratch2

set_option maxHeartbeats 1600000 in
theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ call Kt := by
  unfold call
  simp only [cc0_rs_chip_exchange_eq_skeleton]; unfold cc0_rs_chip_exchange_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold start mem
  rw [seven fun i => (ready p c i : sProp 𝕄), seven fun i => (tok p c i : sProp 𝕄), sepO, sepW, four m c]
  iintro ⟨⟨⟨⟨%K, #Ht⟩, ⟨Hr0, Hr1, Hr2, Hr3, Hr4, Hr5, Hr6⟩, ⟨Ht0, Ht1, Ht2, Ht3, Ht4, Ht5, Ht6⟩, ⟨Hc3, Hc4, Hc5⟩⟩,
    ⟨⟨Ha0, Ha1, Ha2, Ha6⟩, ⟨Hd3, Hd4, Hd5, Hd6⟩⟩, HO⟩, Hk⟩
  icases (dst_at0 c _ (dev1_eq c)) $$ Hd3 with ⟨%f0, Hd3⟩
  icases (dst_at1 c _ (dev2_eq c)) $$ Hd4 with ⟨%f1, Hd4⟩
  icases (dst_at2 c _ (dev3_eq c)) $$ Hd5 with ⟨%f2, Hd5⟩
  icases (dst_here c) $$ Hd6 with ⟨%g, Hd6⟩
  icases (src_here m c) $$ Ha6 with Ha6
  icases (src_send m c) $$ [Ha0 Ha1 Ha2] with ⟨Ha0, Ha1, Ha2⟩
  · isplitl [Ha0]; · iexact Ha0
    isplitl [Ha1] <;> iassumption
  have hcopy := fun k => wp_copy_here p (pay m) (defs₀ (F := F)) 𝒱₀ none (Q := Kt) (f := k) K c 6 rfl (src := own c) (dst := dstM c) sem_here
    (hsrc := (View.wordExact_bits rfl).reshape _ _) (hdst := (View.wordExact_bits rfl).reshape _ _) (hsem := ⟨Or.inl rfl, trivial⟩)
    (q := fullShare) (fs := m ((c.tc : Thread nD τ).loc main_arg0)) (fd := g) (amt_here c) (pay_here m c g)
  iapply (hcopy _) $$ [Ha6 Hd6 Ht6]
  · isplitr; · iexact Ht
    isplitl [Ha6]; · iexact Ha6
    isplitl [Hd6]; · iexact Hd6
    iexact Ht6
  iintro Hc6
  have hput0 := fun k => wp_put p (pay m) (defs₀ (F := F)) 𝒱₀ none (Q := Kt) (f := k) K c 0 3 p.owed in0 rfl
    ⟨k0_dev1 c, k0_dev1_lt c⟩ (dev1_eq c) (src := src0 c) (dst := dstM c) sem_send0 sem_recv0 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f0) (amt_put0 c) amt_same0 (pay_send0 m c).1 (pay_recv0 m c _ (dev1_eq c) f0)
    (hroute c ⟨k0_dev1 c, k0_dev1_lt c⟩)
  iapply (hput0 _) $$ [Ha0 Hd3 HO Ht0 Ht3]
  · isplitr; · iexact Ht
    isplitl [Ha0]; · iexact Ha0
    isplitl [Hd3]; · iexact Hd3
    isplitl [HO]; · iexact HO
    isplitl [Ht0] <;> iassumption
  iintro ⟨Hc0, HO⟩
  have hput1 := fun k => wp_put p (pay m) (defs₀ (F := F)) 𝒱₀ none (Q := Kt) (f := k) K c 1 4 O1 in1 rfl
    ⟨k0_dev2 c, k0_dev2_lt c⟩ (dev2_eq c) (src := src1 c) (dst := dstM c) sem_send1 sem_recv1 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f1) (amt_put1 c) amt_same1 (pay_send1 m c).1 (pay_recv1 m c _ (dev2_eq c) f1)
    (hroute c ⟨k0_dev2 c, k0_dev2_lt c⟩)
  iapply (hput1 _) $$ [Ha1 Hd4 HO Ht1 Ht4]
  · isplitr; · iexact Ht
    isplitl [Ha1]; · iexact Ha1
    isplitl [Hd4]; · iexact Hd4
    isplitl [HO]; · iexact HO
    isplitl [Ht1] <;> iassumption
  iintro ⟨Hc1, HO⟩
  have hput2 := fun k => wp_put p (pay m) (defs₀ (F := F)) 𝒱₀ none (Q := Kt) (f := k) K c 2 5 O2 in2 rfl
    ⟨k0_dev3 c, k0_dev3_lt c⟩ (dev3_eq c) (src := src2 c) (dst := dstM c) sem_send2 sem_recv2 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f2) (amt_put2 c) amt_same2 (pay_send2 m c).1 (pay_recv2 m c _ (dev3_eq c) f2)
    (hroute c ⟨k0_dev3 c, k0_dev3_lt c⟩)
  iapply (hput2 _) $$ [Ha2 Hd5 HO Ht2 Ht5]
  · isplitr; · iexact Ht
    isplitl [Ha2]; · iexact Ha2
    isplitl [Hd5]; · iexact Hd5
    isplitl [HO]; · iexact HO
    isplitl [Ht2] <;> iassumption
  iintro ⟨Hc2, HO⟩
  have hw0 := fun k => wp_take_dma p (pay m) (defs₀ (F := F)) 𝒱₀ none (Q := Kt) (f := k) K c 0 O3 none_owed sem_send0
    (src := dstM c) (dst := src0 c) (amt_arg _ _ _) (hdst := (View.wordExact_bits rfl).reshape _ _) (hsrc := (View.wordExact_bits rfl).reshape _ _)
  iapply (hw0 _) $$ [Hc0 HO Hr0]
  · isplitr; · iexact Ht
    isplitl [Hc0]; · iexact Hc0
    isplitl [HO] <;> iassumption
  iintro ⟨HO, Hz0, Hg0⟩
  have hw3 := fun k => wp_take_dma p (pay m) (defs₀ (F := F)) 𝒱₀ none (Q := Kt) (f := k) K c 3 O3 none_owed sem_recv0
    (src := src0 c) (dst := dstM c) (amt_res _ _ _) (hdst := (View.wordExact_bits rfl).reshape _ _) (hsrc := (View.wordExact_bits rfl).reshape _ _)
  iapply (hw3 _) $$ [Hc3 HO Hr3]
  · isplitr; · iexact Ht
    isplitl [Hc3]; · iexact Hc3
    isplitl [HO] <;> iassumption
  iintro ⟨HO, Hz3, Hg3⟩
  have hw1 := fun k => wp_take_dma p (pay m) (defs₀ (F := F)) 𝒱₀ none (Q := Kt) (f := k) K c 1 O3 none_owed sem_send1
    (src := dstM c) (dst := src1 c) (amt_arg _ _ _) (hdst := (View.wordExact_bits rfl).reshape _ _) (hsrc := (View.wordExact_bits rfl).reshape _ _)
  iapply (hw1 _) $$ [Hc1 HO Hr1]
  · isplitr; · iexact Ht
    isplitl [Hc1]; · iexact Hc1
    isplitl [HO] <;> iassumption
  iintro ⟨HO, Hz1, Hg1⟩
  have hw4 := fun k => wp_take_dma p (pay m) (defs₀ (F := F)) 𝒱₀ none (Q := Kt) (f := k) K c 4 O3 none_owed sem_recv1
    (src := src1 c) (dst := dstM c) (amt_res _ _ _) (hdst := (View.wordExact_bits rfl).reshape _ _) (hsrc := (View.wordExact_bits rfl).reshape _ _)
  iapply (hw4 _) $$ [Hc4 HO Hr4]
  · isplitr; · iexact Ht
    isplitl [Hc4]; · iexact Hc4
    isplitl [HO] <;> iassumption
  iintro ⟨HO, Hz4, Hg4⟩
  have hw2 := fun k => wp_take_dma p (pay m) (defs₀ (F := F)) 𝒱₀ none (Q := Kt) (f := k) K c 2 O3 none_owed sem_send2
    (src := dstM c) (dst := src2 c) (amt_arg _ _ _) (hdst := (View.wordExact_bits rfl).reshape _ _) (hsrc := (View.wordExact_bits rfl).reshape _ _)
  iapply (hw2 _) $$ [Hc2 HO Hr2]
  · isplitr; · iexact Ht
    isplitl [Hc2]; · iexact Hc2
    isplitl [HO] <;> iassumption
  iintro ⟨HO, Hz2, Hg2⟩
  have hw5 := fun k => wp_take_dma p (pay m) (defs₀ (F := F)) 𝒱₀ none (Q := Kt) (f := k) K c 5 O3 none_owed sem_recv2
    (src := src2 c) (dst := dstM c) (amt_res _ _ _) (hdst := (View.wordExact_bits rfl).reshape _ _) (hsrc := (View.wordExact_bits rfl).reshape _ _)
  iapply (hw5 _) $$ [Hc5 HO Hr5]
  · isplitr; · iexact Ht
    isplitl [Hc5]; · iexact Hc5
    isplitl [HO] <;> iassumption
  iintro ⟨HO, Hz5, Hg5⟩
  have hw6 := fun k => wp_take_dma p (pay m) (defs₀ (F := F)) 𝒱₀ none (Q := Kt) (f := k) K c 6 O3 none_owed sem_here
    (src := own c) (dst := dstM c) (amt_res _ _ _) (hdst := (View.wordExact_bits rfl).reshape _ _) (hsrc := (View.wordExact_bits rfl).reshape _ _)
  iapply (hw6 _) $$ [Hc6 HO Hr6]
  · isplitr; · iexact Ht
    isplitl [Hc6]; · iexact Hc6
    isplitl [HO] <;> iassumption
  iintro ⟨HO, Hz6, Hg6⟩
  icases (pay_own m c) $$ Hg6 with ⟨Hb6, Ha6⟩
  rw [wp_ret]
  imodintro
  iapply Hk
  isplitr [HO]
  · unfold Φ₁ fin
    isplitl [Hg0 Hg1 Hg2 Hg3 Hg4 Hg5 Hb6 Ha6]
    · isplitl [Hg0 Hg1 Hg2 Ha6]
      · rw [four m c]
        isplitl [Hg0]; · iapply (got_arg0 m c); iexact Hg0
        isplitl [Hg1]; · iapply (got_arg1 m c); iexact Hg1
        isplitl [Hg2]; · iapply (got_arg2 m c); iexact Hg2
        iexact Ha6
      · iapply (Entails.of_eq ((blocks main_v1 W B (fun c z => which c (z (0 : Fin 3)).val) which_mem mem_B c fullShare (res m c)).trans (sepW _)).symm)
        isplitl [Hg3]; · iapply (got_res0 m c); iexact Hg3
        isplitl [Hg4]; · iapply (got_res1 m c); iexact Hg4
        isplitl [Hg5]; · iapply (got_res2 m c); iexact Hg5
        iexact Hb6
    isplitl [Hz0]; · iexact Hz0
    isplitl [Hz1]; · iexact Hz1
    isplitl [Hz2]; · iexact Hz2
    isplitl [Hz3]; · iexact Hz3
    isplitl [Hz4]; · iexact Hz4
    isplitl [Hz5] <;> iassumption
  · rw [← O3_eq]; iexact HO

/-! ## The run -/

set_option maxRecDepth 4000 in
theorem body_obligation (c : Dev nD) : BodyObligation (dats m 0 c) (defs₀ (F := F)) 𝒱₀ () Set.univ := fun t => by
  rw [fin_N0 t]
  simp only [Finset.univ_eq_empty (α := Fin cfg0.W), bigSep_empty]
  show iprop(iprop(start p (pay m) c ∗ mem m c) ∗ (dats m 0 c).owesAt () t0_0.castSucc ∗ emp)
    ⊢ wp frame (wpE (defs₀ (F := F)) 𝒱₀ (c.tc : Thread nD τ) none) Set.univ
      call
      (fun _ => iprop(Φ₁ m c ∗ (dats m 0 c).owesAt () t0_0.succ ∗ emp))
  unfold Dat.owesAt Pipeline.owesWithin
  rw [show (dats m 0 c).owed t0_0.castSucc = due p p.owed c from rfl, show (dats m 0 c).owed t0_0.succ = 0 from rfl]
  iintro ⟨⟨Hs, Hm⟩, ⟨%W, %hW, HO⟩, -⟩
  iapply (sound_body m c _)
  isplitl
  · isplitl [Hs]; · iexact Hs
    isplitl [Hm]; · iexact Hm
    unfold owing
    iexists W; iexact HO
  · unfold owing
    iintro ⟨HΦ, ⟨%W', HO⟩⟩
    rw [due_empty]
    isplitl [HΦ]; · iexact HΦ
    isplitl
    · iexists W'
      isplitr; · ipureintro; exact fun _ _ => Or.inl trivial
      iexact HO
    · iempintro

theorem ownSemFacts : Pipeline.OwnSemFacts cfg0.spec p.sem := by decide

omit [FloatOps F] in
theorem deal : (bigSep Finset.univ fun c : Dev nD => unscopedBufs c (fun b => m ((c.tc : Thread nD τ).loc b)) : sProp 𝕄) ⊢ bigSep Finset.univ (mem m) := by
  have h (c : Dev nD) : (unscopedBufs c (fun b => m ((c.tc : Thread nD τ).loc b)) : sProp 𝕄)
      = iprop(((c.tc : Thread nD τ).loc main_arg0 ↦{fullShare} m ((c.tc : Thread nD τ).loc main_arg0))
        ∗ ((c.tc : Thread nD τ).loc main_v1 ↦{fullShare} m ((c.tc : Thread nD τ).loc main_v1))) := by
    unfold unscopedBufs; exact bigSep_eq_bigSepL_of_eq [main_arg0, main_v1] (by decide) (by decide) _
  rw [bigSep_congr fun c _ => h c]
  unfold mem
  simp only [bigSep_sep']
  iintro ⟨Hx, Ho⟩
  isplitl [Hx]; · iexact Hx
  iapply (deal_blocks p main_v1 W B (fun c z => which c (z (0 : Fin 3)).val) which_mem mem_B fun c => m ((c.tc : Thread nD τ).loc main_v1))
  iexact Ho

/-- What is read of device `c`'s memory in the end. -/
def QY (c : Dev nD) (s : MemSt nD τ sig (Elt F)) : Prop :=
  s.mem ((c.tc : Thread nD τ).loc main_arg0) = m ((c.tc : Thread nD τ).loc main_arg0) ∧ s.mem ((c.tc : Thread nD τ).loc main_v1) = res m c

/-- For any float values, from any memory with zero counters: every fair execution ends, with each device's argument
    unchanged, its result the blocks of its chip, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) (fun q => (cfgs q).toPCfg) (fun _ q => (cfgs q).toPCfg_adm) (dats m) cellOf_inj defs₀ 𝒱₀ (x := (0 : Fin 1))
    winFacts0.to₀ ownSemFacts rfl rfl m ρ main (fun _ => []) (fun _ => rfl) (fun _ => List.nodup_nil) (fun _ => List.not_mem_nil)
    (fun c => (body_obligation m c).loose) (fun _ => rfl) (fun _ => rfl) (mem m) (fin m) (fun c => iprop(fin m c ∗ ∃ W, owes (c.tc : Thread nD τ) (0 : CellTallies nD τ sig Unit) W))
    (fin m) (deal m)
    (fun c => by
      show _ ⊢ iprop(start p (pay m) c ∗ mem m c)
      iintro ⟨Hs, Hm, -⟩
      isplitl [Hs] <;> iassumption)
    (fun c => by
      rw [seven fun i => (zero p c i : sProp 𝕄)]
      show Φ₁ m c ⊢ iprop(fin m c ∗ iprop(zero p c 0 ∗ zero p c 1 ∗ zero p c 2 ∗ zero p c 3 ∗ zero p c 4 ∗ zero p c 5 ∗ zero p c 6) ∗ Pipeline.scopedRest cfg0.spec c)
      rw [scopedRest0_eq]
      unfold Φ₁
      iintro ⟨Hf, Hz⟩
      isplitl [Hf]; · iexact Hf
      isplitl [Hz]; · iexact Hz
      iempintro)
    (fun c => by iintro H; imodintro; iexact H)
    (fun c => BI.Entails.refl _)
    (QY m)
    (fun c s' => read_two s')
    (fun s h hs => ⟨h, sem_eq_zero_of_scoped (by decide) hs⟩)

end Cert.ChipsRun
-- ==== Proof.ChipsValue.lean ====
/-
# The exchange between the four chips: the value

The kernel's result on device `c`, index by index, against the plain statement over whole arrays: the transpose of chips
and blocks.
-/
module

public import proofs.«01_k».proof.Proof.ChipsRun
public import proofs.«01_k».proof.Proof.Gen.ChipsRefIdeal.Run
public import Idealize.ShloMosaic.Lib.Pipeline.Value
public import Idealize.ShloMosaic.Lib.ValueIdxRank6

@[expose] public section

noncomputable section

namespace Cert.ChipsRun

open Idealize.ShloMosaic Idealize.ShloMosaic.TcCoe Idealize.ShloMosaic.ValueIdx Idealize.SL.Sem
open Cert.ChipsIdeal Cert.ChipsIdeal.Gen

section Ref

open Cert.ChipsRefIdeal Cert.ChipsRefIdeal.Gen

variable {α : Type}

/-- The reference's term. -/
abbrev exchanged (X : S32x86016x128.Idx → α) : S32x86016x128.Idx → α :=
  shapeCast S32x86016x128 (transpose S4x2x4x86016x128 [2, 1, 0, 3, 4] (shapeCast S4x2x4x86016x128 X shapeCasts_S32x86016x128_S4x2x4x86016x128)
    transposes_S4x2x4x86016x128_S4x2x4x86016x128_2_1_0_3_4) shapeCasts_S4x2x4x86016x128_S32x86016x128

/-- The reference at an index: chip `n / 8`, core `n / 4 % 2`, row `n % 4` comes from chip `n % 4`, row `n / 8`. -/
theorem exchanged_apply (X : S32x86016x128.Idx → α) (n : Fin 32) (r : Fin 86016) (l : Fin 128) :
    exchanged X (ix3 n r l) = X (ix3 (⟨n.val % 4 * 8 + n.val / 4 % 2 * 4 + n.val / 8, by omega⟩ : Fin 32) r l) := by
  unfold exchanged
  rw [shapeCast_apply _ _ (ix3 n r l) (ix5 (⟨n.val / 8, by omega⟩ : Fin 4) (⟨n.val / 4 % 2, by omega⟩ : Fin 2) (⟨n.val % 4, by omega⟩ : Fin 4) r l)
      (by rw [Shape.rowMajor_val_five, Shape.rowMajor_val_three]
          show (((n.val / 8 * 2 + n.val / 4 % 2) * 4 + n.val % 4) * 86016 + r.val) * 128 + l.val = (n.val * 86016 + r.val) * 128 + l.val
          omega),
    transpose_apply _ _ _ _ (ix5 (⟨n.val % 4, by omega⟩ : Fin 4) (⟨n.val / 4 % 2, by omega⟩ : Fin 2) (⟨n.val / 8, by omega⟩ : Fin 4) r l) (fun b => by fin_cases b <;> rfl),
    shapeCast_apply _ _ _ (ix3 (⟨n.val % 4 * 8 + n.val / 4 % 2 * 4 + n.val / 8, by omega⟩ : Fin 32) r l)
      (by rw [Shape.rowMajor_val_five, Shape.rowMajor_val_three]
          show ((n.val % 4 * 8 + n.val / 4 % 2 * 4 + n.val / 8) * 86016 + r.val) * 128 + l.val = (((n.val % 4 * 2 + n.val / 4 % 2) * 4 + n.val / 8) * 86016 + r.val) * 128 + l.val
          omega)]

end Ref

variable {F : FTy → Type} [FloatOps F] (m : (ℓ : Loc nD τ sig) → Buf (Elt F) ℓ)

omit [FloatOps F] in
/-- Device `c`'s result is its block of the reference's. -/
theorem res_block (X : (⟨3, ![32, 86016, 128]⟩ : Shape).Idx → Elt F .f32)
    (hm : ∀ c : Dev nD, m ((c.tc : Thread nD τ).loc main_arg0) = Layout.block ⟨3, ![4, 86016, 128]⟩ ⟨3, ![32, 86016, 128]⟩ 0 8 c X)
    (c : Dev nD) : res m c = Layout.block ⟨3, ![4, 86016, 128]⟩ ⟨3, ![32, 86016, 128]⟩ 0 8 c (exchanged X) := by
  have hc : c.val < 8 := c.isLt
  have H : ∀ (j : Fin 4) (r : Fin 86016) (l : Fin 128), res m c (ix3 j r l)
      = Layout.block ⟨3, ![4, 86016, 128]⟩ ⟨3, ![32, 86016, 128]⟩ 0 8 c (exchanged X) (by decide) (ix3 j r l) := by
    intro j r l
    have hi : ∀ h : Layout.Tiles ⟨3, ![4, 86016, 128]⟩ ⟨3, ![32, 86016, 128]⟩ 0 8,
        h.idx c (ix3 j r l) = ix3 (⟨c.val * 4 + j.val, by omega⟩ : Fin 32) r l := fun h => by
      funext b; apply Fin.ext; rw [Layout.Tiles.idx_val]; fin_cases b <;> rfl
    have hs : ∀ h : Layout.Tiles ⟨3, ![4, 86016, 128]⟩ ⟨3, ![32, 86016, 128]⟩ 0 8,
        h.idx (on c j.val) (ix3 (⟨c.val / 2, by omega⟩ : Fin 4) r l)
          = ix3 (⟨(c.val * 4 + j.val) % 4 * 8 + (c.val * 4 + j.val) / 4 % 2 * 4 + (c.val * 4 + j.val) / 8, by omega⟩ : Fin 32) r l := fun h => by
      funext b; apply Fin.ext; rw [Layout.Tiles.idx_val]
      fin_cases b
      · show (2 * (j.val % 4) + c.val % 2) * 4 + c.val / 2
          = (c.val * 4 + j.val) % 4 * 8 + (c.val * 4 + j.val) / 4 % 2 * 4 + (c.val * 4 + j.val) / 8
        omega
      · rfl
      · rfl
    show arg m (on c j.val) (ix3 (⟨c.val / 2, by omega⟩ : Fin 4) r l) = _
    unfold arg
    rw [hm (on c j.val), Layout.block_apply, Layout.block_apply, hi, hs, exchanged_apply]
  funext i
  rw [eq_ix3 (n0 := 4) (n1 := 86016) (n2 := 128) i]
  exact H _ _ _

end Cert.ChipsRun
-- ==== Proof.ChipsClaims.lean ====
/-
# The exchange between the four chips: the claims
-/
module

public import proofs.«01_k».proof.Proof.ChipsValue
public import proofs.«01_k».proof.Defs
public import proofs.«01_k».proof.Proof.Gen.Chips
public import proofs.«01_k».proof.Proof.Gen.ChipsRef.Run
public import Idealize.ShloMosaic.Lib.Quiescent

@[expose] public section

noncomputable section

namespace Cert.ChipsRun

open Idealize.ShloMosaic Idealize.ShloMosaic.TcCoe Idealize.SL.Sem
open Cert.Chips.Gen Cert.ChipsRef.Gen Cert.ChipsIdeal.Gen Cert.ChipsRefIdeal.Gen

theorem frame_kernel : Cert.quiescent_Chips := fun m ρ _ =>
  (θ_run Cert.ChipsIdeal.defs _ _).mono (fun _ h => ⟨fun c => (h.1 c).1, h.2⟩) (run_main (F := Bits) m ρ)
theorem frame_kernel_ideal : Cert.quiescent_ChipsIdeal := fun m ρ _ =>
  (θ_run Cert.ChipsIdeal.defs _ _).mono (fun _ h => ⟨fun c => (h.1 c).1, h.2⟩) (run_main (F := Ideal) m ρ)
theorem frame_ref : Cert.quiescent_ChipsRef := fun m ρ _ =>
  (θ_run Cert.ChipsRef.defs _ _).mono (fun r h => ⟨fun c => (h c).2, sem_eq_zero_of_no_sems (by decide) r.2⟩) (Cert.ChipsRef.Value.run (F := Bits) m ρ)
theorem frame_ref_ideal : Cert.quiescent_ChipsRefIdeal := fun m ρ _ =>
  (θ_run Cert.ChipsRefIdeal.defs _ _).mono (fun r h => ⟨fun c => (h c).2, sem_eq_zero_of_no_sems (by decide) r.2⟩) (Cert.ChipsRefIdeal.Value.run (F := Ideal) m ρ)

/-- Over the extended reals: every device ends with its part of the reference's result. -/
theorem algebraic : Cert.algebraic_ChipsIdeal_ChipsRefIdeal := fun m ρ m' ρ' _ hm =>
  ⟨_, (θ_run Cert.ChipsIdeal.defs _ _).mono (fun _ h c => ⟨(h.1 c).2.trans (res_block m _ hm c), (h.1 c).1⟩) (run_main (F := Ideal) m ρ),
    (θ_run Cert.ChipsRefIdeal.defs _ _).mono (fun _ h => h 0) (Cert.ChipsRefIdeal.Value.run (F := Ideal) m' ρ')⟩
/-- The same, bit for bit. -/
theorem bitexact : Cert.bitexact_Chips_ChipsRef := fun m ρ m' ρ' _ hm =>
  ⟨_, (θ_run Cert.ChipsIdeal.defs _ _).mono (fun _ h c => ⟨(h.1 c).2.trans (res_block (F := Bits) m _ hm c), (h.1 c).1⟩) (run_main (F := Bits) m ρ),
    (θ_run Cert.ChipsRef.defs _ _).mono (fun _ h => h 0) (Cert.ChipsRef.Value.run (F := Bits) m' ρ')⟩

end Cert.ChipsRun
-- ==== Proof.ShareRun.lean ====
/-
# Sharing the halves of a chip

Every device copies its half into its own result and into its sibling's. Three semaphores a device: `0` the send's, `1` the
receive's, `2` the local copy's. The argument is read by both copies at once, each holding half a share of it.
-/
module

public import proofs.«01_k».proof.Proof.Blocks
public import proofs.«01_k».proof.Proof.Gen.ShareIdeal
public import proofs.«01_k».proof.Proof.Gen.ShareIdeal.Skeleton
public import proofs.«01_k».proof.Proof.Gen.ShareIdeal.Launch
public import Idealize.ShloMosaic.Lib.Pipeline.Value
public import Idealize.ShloMosaic.Lib.ValueIdxRank6

@[expose] public section

set_option Elab.async false

noncomputable section

namespace Cert.ShareRun

open Cert.ShareIdeal Cert.ShareIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The other core of the chip. -/
def sib (c : Dev nD) : Dev nD := ⟨4 * (c.val / 4) + 2 * (c.val / 2 % 2) + 1 - c.val % 2, by revert c; decide⟩
theorem sib_sib : ∀ c, sib (sib c) = c := by decide
theorem dev1_eq (c : Dev nD) : (⟨k0_dev1 c, k0_dev1_lt c⟩ : Dev nD) = sib c := Fin.ext (k0_dev1_eq c)

/-- The argument, the source of both copies. -/
abbrev srcM : Memref sig .tc .hbm S86016x128 .f32 := Memref.whole main_arg0
/-- The block of a result that device `c` writes, on its own device and on its sibling. -/
abbrev dstM (c : Dev nD) : Memref sig .tc .hbm S86016x128 .f32 :=
  ((Memref.whole main_v1).slice (Rect.unit (s := S2x86016x128) (k0_off1 c) S1x86016x128.size (k0_off1_inb c)) (fun _ => rfl)).squeeze
    S86016x128 squeezes_S1x86016x128_S86016x128

/-- The credit of one transfer. -/
abbrev N : ℕ := srcM.view.dmaCredit

def p : Proto nD sig 3 where
  sem := ![.dma cc0_scratch0.sem, .dma cc0_scratch1.sem, .dma cc0_scratch2.sem]
  inj := by decide
  amt _ := N
  amt_pos _ := View.dmaCredit_pos _ (by decide)
  peer := ![id, sib, id]
  peer_peer i c := by fin_cases i; · rfl
                      · exact sib_sib c
                      · rfl
  owed := {1}
  lvl _ := 0

variable (m : (ℓ : Loc nD τ sig) → Buf (Elt F) ℓ) (ρ : Dev nD → PrngReg)

/-- The argument of device `c`. -/
def arg (c : Dev nD) : S86016x128.Idx → Elt F .f32 := m ((c.tc : Thread nD τ).loc main_arg0)
/-- Core `j` of the chip of device `c`. -/
def mate (c : Dev nD) (j : ℕ) : Dev nD := ⟨2 * (c.val / 2) + j % 2, by have : c.val < 8 := c.isLt; show _ < 8; omega⟩
/-- What device `c` ends with: the halves of its chip's two cores. -/
def res (c : Dev nD) : Buf (Elt F) ((c.tc : Thread nD τ).loc main_v1) :=
  fun z : S2x86016x128.Idx => arg m (mate c (z 0).val) (ix2 (z 1) (z 2))

/-- The blocks written into device `c`'s result: by the receive from its sibling, by its own copy. -/
def B (c : Dev nD) (i : Fin 3) : Finset (main_v1 : Ref sig .tc).ty.Idx := (dstM (p.peer i c)).view.set
theorem B_sib (c : Dev nD) : B (sib c) 1 = (dstM c).view.set := by
  show (dstM (sib (sib c))).view.set = _
  rw [sib_sib]
def W : Finset (Fin 3) := {1, 2}
def which (c : Dev nD) (z : S2x86016x128.Idx) : Fin 3 := if (z 0).val = c.val % 2 then 2 else 1

theorem which_mem (c : Dev nD) (z : (main_v1 : Ref sig .tc).ty.Idx) : which c z ∈ W := by
  unfold which; split_ifs <;> decide

theorem mem_dst (c : Dev nD) (z : S2x86016x128.Idx) : z ∈ (dstM c).view.set ↔ (z 0).val = c.val % 2 := by
  refine (mem_block main_v1).trans ?_
  rw [k0_off1_eq]
  have h1 : (z 1).val < 86016 := (z 1).isLt
  have h2 : (z 2).val < 128 := (z 2).isLt
  constructor
  · intro h
    have h0 : c.val % 2 ≤ (z 0).val ∧ (z 0).val < c.val % 2 + 1 := h 0
    omega
  · intro h a
    fin_cases a
    · show c.val % 2 ≤ (z 0).val ∧ (z 0).val < c.val % 2 + 1; omega
    · show 0 ≤ (z 1).val ∧ (z 1).val < 0 + 86016; omega
    · show 0 ≤ (z 2).val ∧ (z 2).val < 0 + 128; omega

theorem mem_B (c : Dev nD) : ∀ i ∈ W, ∀ z, z ∈ B c i ↔ which c z = i := by
  intro i hi z
  have hz : (z 0).val < 2 := (z 0).isLt
  refine (mem_dst _ z).trans ?_
  unfold which
  rcases Finset.mem_insert.mp hi with rfl | h
  · show (z 0).val = (sib c).val % 2 ↔ _
    have : (sib c).val % 2 = 1 - c.val % 2 := by revert c; decide
    rw [this]
    split_ifs with h
    · exact ⟨fun h' => by omega, fun h' => absurd h' (by decide)⟩
    · exact ⟨fun _ => rfl, fun _ => by omega⟩
  · rw [Finset.mem_singleton.mp h]
    show (z 0).val = c.val % 2 ↔ _
    split_ifs with h
    · exact ⟨fun _ => rfl, fun _ => h⟩
    · exact ⟨fun h' => absurd h' h, fun h' => absurd h' (by decide)⟩

omit [FloatOps F] in
/-- Device `c`'s block of a result on its chip is its argument. -/
theorem read_res (c d : Dev nD) (h : mate d (c.val % 2) = c) : (dstM c).view.read (Elt F) (res m d) = srcM.view.read (Elt F) (m ((c.tc : Thread nD τ).loc main_arg0)) := by
  have e : (dstM c).view.read (Elt F) (res m d) = shapeCast S86016x128 (fun z => res m d
      ((Rect.unit (s := S2x86016x128) (k0_off1 c) S1x86016x128.size (k0_off1_inb c)).emb z)) (squeezes_S1x86016x128_S86016x128).numel_eq := rfl
  have H (r : Fin 86016) (l : Fin 128) : (dstM c).view.read (Elt F) (res m d) (ix2 r l) = arg m c (ix2 r l) := by
    refine (congrFun e _).trans ((shapeCast_apply _ _ (ix2 r l) (ix3 (0 : Fin 1) r l)
      (by rw [Shape.rowMajor_val_three, Shape.rowMajor_val_two]
          show (0 * 86016 + r.val) * 128 + l.val = r.val * 128 + l.val
          omega)).trans ?_)
    have hi : (Rect.unit (s := S2x86016x128) (k0_off1 c) S1x86016x128.size (k0_off1_inb c)).emb (ix3 (0 : Fin 1) r l)
        = ix3 (⟨c.val % 2, Nat.mod_lt _ (by decide)⟩ : Fin 2) r l := by
      funext b; apply Fin.ext
      refine (Rect.emb_apply _ _ _).trans ?_
      refine (congrArg (· + 1 * (ix3 (0 : Fin 1) r l b).val) (congrFun (k0_off1_eq c) b)).trans ?_
      fin_cases b <;> simp
    rw [hi]
    exact congrFun (congrArg (arg m) h) (ix2 r l)
  funext y
  rw [eq_ix2 (n0 := 86016) (n1 := 128) y]
  exact H _ _

theorem mate_self : ∀ c : Dev nD, mate c (c.val % 2) = c := by decide
theorem mate_sib : ∀ c : Dev nD, mate (sib c) (c.val % 2) = c := by decide

/-- The send and the local copy give their half shares of the argument back, the receive and the local copy a block. -/
def pay (c : Dev nD) : Fin 3 → sProp 𝕄 :=
  ![(srcM.view.loc (c.tc : Thread nD τ) ↦[srcM.view.set]{fullShare.right} m ((c.tc : Thread nD τ).loc main_arg0)),
    ((c.tc : Thread nD τ).loc main_v1 ↦[B c 1]{fullShare} res m c),
    iprop(((c.tc : Thread nD τ).loc main_v1 ↦[B c 2]{fullShare} res m c)
      ∗ (srcM.view.loc (c.tc : Thread nD τ) ↦[srcM.view.set]{fullShare.left} m ((c.tc : Thread nD τ).loc main_arg0)))]

instance : PayStorable (pay m) := ⟨fun c i => by
  fin_cases i
  · exact inferInstanceAs (BI.Storable _ (pointsTo _ _ _ _))
  · exact inferInstanceAs (BI.Storable _ (pointsTo _ _ _ _))
  · exact inferInstanceAs (BI.Storable _ iprop(pointsTo _ _ _ _ ∗ pointsTo _ _ _ _))⟩

/-- What device `c` holds to run: its array, and the two blocks it writes. -/
def mem (c : Dev nD) : sProp 𝕄 :=
  iprop(((c.tc : Thread nD τ).loc main_arg0 ↦{fullShare} m ((c.tc : Thread nD τ).loc main_arg0))
    ∗ bigSep W fun i => iprop(∃ g, ((p.peer i c).tc : Thread nD τ).loc main_v1 ↦[B (p.peer i c) i]{fullShare} g))
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1 ∗ zero p c 2)

def dats (_ : Fin 1) (c : Dev nD) : Dat τ (Elt F) Unit ℕ (UU nD τ sig) ℕ cfg0 c where
  A w := w.elim0
  after w _ := w.elim0
  Φ t := match t with
    | ⟨0, _⟩ => iprop(start p (pay m) c ∗ mem m c)
    | ⟨_ + 1, _⟩ => Φ₁ m c
  q _ := fullShare
  owed t := match t with
    | ⟨0, _⟩ => due p p.owed c
    | ⟨_ + 1, _⟩ => 0

abbrev 𝒱₀ : Variants := Variants.none

omit [FloatOps F] in
theorem pay_recv (c n : Dev nD) (hn : n = sib c) (f : Buf (Elt F) ((dstM c).view.loc (n.tc : Thread nD τ))) :
    ((dstM c).view.loc (n.tc : Thread nD τ) ↦[(dstM c).view.set]{fullShare}
      ((dstM c).view.write (Elt F) f (srcM.view.read (Elt F) (m ((c.tc : Thread nD τ).loc main_arg0))) Finset.univ) : sProp 𝕄) ⊢ pay m n 1 := by
  subst hn
  refine (settle (t := ((sib c).tc : Thread nD τ)) (dstM c) f (res m (sib c)) _ (read_res m c (sib c) (mate_sib c))).trans (Entails.of_eq ?_)
  show _ = ((((sib c).tc : Thread nD τ).loc main_v1) ↦[B (sib c) 1]{fullShare} res m (sib c) : sProp 𝕄)
  rw [B_sib c]

omit [FloatOps F] in
theorem pay_here (c : Dev nD) (f : Buf (Elt F) ((dstM c).view.loc (c.tc : Thread nD τ))) :
    iprop(((dstM c).view.loc (c.tc : Thread nD τ) ↦[(dstM c).view.set]{fullShare}
      ((dstM c).view.write (Elt F) f (srcM.view.read (Elt F) (m ((c.tc : Thread nD τ).loc main_arg0))) Finset.univ))
      ∗ (srcM.view.loc (c.tc : Thread nD τ) ↦[srcM.view.set]{fullShare.left} m ((c.tc : Thread nD τ).loc main_arg0))) ⊢ (pay m c 2 : sProp 𝕄) :=
  sep_mono_left (settle (t := (c.tc : Thread nD τ)) (dstM c) f (res m c) _ (read_res m c c (mate_self c)))

omit [FloatOps F] in
theorem dst_at (c n : Dev nD) (hn : n = sib c) :
    iprop(∃ g, ((p.peer 1 c).tc : Thread nD τ).loc main_v1 ↦[B (p.peer 1 c) 1]{fullShare} g)
      ⊢ (iprop(∃ f, (dstM c).view.loc (n.tc : Thread nD τ) ↦[(dstM c).view.set]{fullShare} f) : sProp 𝕄) := by
  subst hn
  rw [show p.peer 1 c = sib c from rfl, B_sib c]

omit [FloatOps F] in
theorem dst_here (c : Dev nD) :
    iprop(∃ g, ((p.peer 2 c).tc : Thread nD τ).loc main_v1 ↦[B (p.peer 2 c) 2]{fullShare} g)
      ⊢ (iprop(∃ f, (dstM c).view.loc (c.tc : Thread nD τ) ↦[(dstM c).view.set]{fullShare} f) : sProp 𝕄) := BI.Entails.refl _

omit [FloatOps F] in
/-- The two shares of the argument, and the argument from them. -/
theorem shares (c : Dev nD) : ((c.tc : Thread nD τ).loc main_arg0 ↦{fullShare} m ((c.tc : Thread nD τ).loc main_arg0) : sProp 𝕄)
    ⊣⊢ iprop((srcM.view.loc (c.tc : Thread nD τ) ↦[srcM.view.set]{fullShare.left} m ((c.tc : Thread nD τ).loc main_arg0))
      ∗ (srcM.view.loc (c.tc : Thread nD τ) ↦[srcM.view.set]{fullShare.right} m ((c.tc : Thread nD τ).loc main_arg0))) := by
  rw [held_whole main_arg0, held_whole main_arg0]; exact halves main_arg0

theorem hroute (c n : Dev nD) : τ.routes (c.tc : Thread nD τ) (n.tc : Thread nD τ) = true := by revert c n; decide

theorem amt_put (c : Dev nD) : (dstM c).view.amount (.dma cc0_scratch1.sem) = p.amt 1 := rfl
theorem amt_here (c : Dev nD) : (dstM c).view.amount (.dma cc0_scratch2.sem) = p.amt 2 := rfl
theorem amt_dst (c : Dev nD) (i : Fin 3) : p.amt i = (dstM c).view.dmaCredit := rfl
theorem none_owed {i : Fin 3} : ∀ j ∈ p.owed.erase 1, p.lvl i < p.lvl j := by
  rw [show p.owed.erase 1 = ∅ from rfl]; exact fun j hj => absurd hj (Finset.notMem_empty j)
theorem amt_send : p.amt 0 = p.amt 1 := rfl
theorem sem_send : p.sem 0 = .dma cc0_scratch0.sem := rfl
theorem sem_recv : p.sem 1 = .dma cc0_scratch1.sem := rfl
theorem sem_here : p.sem 2 = .dma cc0_scratch2.sem := rfl

omit [FloatOps F] in
theorem pay_send (c : Dev nD) : (srcM.view.loc (c.tc : Thread nD τ) ↦[srcM.view.set]{fullShare.right} m ((c.tc : Thread nD τ).loc main_arg0) : sProp 𝕄)
    ⊣⊢ pay m c 0 := ⟨BI.Entails.refl _, BI.Entails.refl _⟩
omit [FloatOps F] in
theorem pay_got (c : Dev nD) : pay m c 1 ⊢ ((c.tc : Thread nD τ).loc main_v1 ↦[B c 1]{fullShare} res m c : sProp 𝕄) := BI.Entails.refl _
omit [FloatOps F] in
theorem pay_own (c : Dev nD) : pay m c 2 ⊢ (iprop(((c.tc : Thread nD τ).loc main_v1 ↦[B c 2]{fullShare} res m c)
      ∗ (srcM.view.loc (c.tc : Thread nD τ) ↦[srcM.view.set]{fullShare.left} m ((c.tc : Thread nD τ).loc main_arg0))) : sProp 𝕄) := BI.Entails.refl _

omit [FloatOps F] in
theorem three (Φ : Fin 3 → sProp 𝕄) : bigSep Finset.univ Φ = iprop(Φ 0 ∗ Φ 1 ∗ Φ 2) := bigSep_univ_eq_bigSepL [0, 1, 2] (by decide) (by decide) Φ
omit [FloatOps F] in
theorem duo (Φ : Fin 3 → sProp 𝕄) : bigSep W Φ = iprop(Φ 1 ∗ Φ 2) := bigSep_eq_bigSepL_of_eq [1, 2] (by decide) (by decide) Φ

theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ
          (cc0_rs_sibling_gather (Memref.whole main_arg0) (Memref.isWhole_whole _) (Memref.whole main_v1) (Memref.isWhole_whole _) cc0_scratch0 cc0_scratch1 cc0_scratch2) Kt := by
  simp only [cc0_rs_sibling_gather_eq_skeleton]; unfold cc0_rs_sibling_gather_skel
  simp only [k0_part1_eq_skeleton]; unfold k0_part1_skel
  simp only [Prog.lift, Prog.bind_op, Prog.bind_ret, Prog.pure_eq_ret, wp_deviceId]
  unfold start mem
  rw [three fun i => (ready p c i : sProp 𝕄), three fun i => (tok p c i : sProp 𝕄), show p.owed = {1} from rfl, bigSep_singleton, duo]
  iintro ⟨⟨⟨⟨%K, #Ht⟩, ⟨Hr0, Hr1, Hr2⟩, ⟨Ht0, Ht1, Ht2⟩, Hc1⟩, ⟨Hx, Hd, Ho⟩, HO⟩, Hk⟩
  icases (dst_at c _ (dev1_eq c)) $$ Hd with ⟨%f, Hd⟩
  icases (dst_here c) $$ Ho with ⟨%g, Ho⟩
  icases (shares m c).1 $$ Hx with ⟨Hl, Hs⟩
  have hcopy := fun k => wp_copy_here p (pay m) (defs₀ (F := F)) 𝒱₀ none (Q := Kt) (f := k) K c 2 rfl (src := srcM) (dst := dstM c) sem_here
    (hsrc := (Memref.isWhole_whole main_arg0).wordExact) (hdst := (View.wordExact_bits rfl).reshape _ _) (hsem := ⟨Or.inl rfl, trivial⟩)
    (q := fullShare.left) (fs := m ((c.tc : Thread nD τ).loc main_arg0)) (fd := g) (amt_here c) (pay_here m c g)
  have hput := fun k => wp_put p (pay m) (defs₀ (F := F)) 𝒱₀ none (Q := Kt) (f := k) K c 0 1 p.owed (Finset.mem_singleton_self _) rfl
    ⟨k0_dev1 c, k0_dev1_lt c⟩ (dev1_eq c) (src := srcM) (dst := dstM c) sem_send sem_recv (hsc := rfl)
    (hsrc := (Memref.isWhole_whole main_arg0).wordExact) (hdst := (View.wordExact_bits rfl).reshape _ _)
    (hsem := ⟨⟨rfl, Or.inl rfl⟩, trivial⟩)
    (q := fullShare.right) (fs := m ((c.tc : Thread nD τ).loc main_arg0)) (fd := f) (amt_put c) amt_send (pay_send m c).1 (pay_recv m c _ (dev1_eq c) f)
    (hroute c ⟨k0_dev1 c, k0_dev1_lt c⟩)
  have ht0 := fun k => wp_take_dma p (pay m) (defs₀ (F := F)) 𝒱₀ none (Q := Kt) (f := k) K c 0 (p.owed.erase 1) none_owed sem_send
    (src := dstM c) (dst := srcM) rfl (hdst := (Memref.isWhole_whole main_arg0).wordExact) (hsrc := (View.wordExact_bits rfl).reshape _ _)
  have ht1 := fun k => wp_take_dma p (pay m) (defs₀ (F := F)) 𝒱₀ none (Q := Kt) (f := k) K c 1 (p.owed.erase 1) none_owed sem_recv
    (src := srcM) (dst := dstM c) (amt_dst c 1) (hsrc := (Memref.isWhole_whole main_arg0).wordExact) (hdst := (View.wordExact_bits rfl).reshape _ _)
  have ht2 := fun k => wp_take_dma p (pay m) (defs₀ (F := F)) 𝒱₀ none (Q := Kt) (f := k) K c 2 (p.owed.erase 1) none_owed sem_here
    (src := srcM) (dst := dstM c) (amt_dst c 2) (hsrc := (Memref.isWhole_whole main_arg0).wordExact) (hdst := (View.wordExact_bits rfl).reshape _ _)
  iapply (hcopy _) $$ [Hl Ho Ht2]
  · isplitr; · iexact Ht
    isplitl [Hl]; · iexact Hl
    isplitl [Ho]; · iexact Ho
    iexact Ht2
  iintro Hc2
  iapply (hput _) $$ [Hs Hd HO Ht0 Ht1]
  · isplitr; · iexact Ht
    isplitl [Hs]; · iexact Hs
    isplitl [Hd]; · iexact Hd
    isplitl [HO]; · iexact HO
    isplitl [Ht0] <;> iassumption
  iintro ⟨Hc0, HO⟩
  iapply (ht0 _) $$ [Hc0 HO Hr0]
  · isplitr; · iexact Ht
    isplitl [Hc0]; · iexact Hc0
    isplitl [HO] <;> iassumption
  iintro ⟨HO, Hz0, Hs⟩
  iapply (ht1 _) $$ [Hc1 HO Hr1]
  · isplitr; · iexact Ht
    isplitl [Hc1]; · iexact Hc1
    isplitl [HO] <;> iassumption
  iintro ⟨HO, Hz1, Hd⟩
  iapply (ht2 _) $$ [Hc2 HO Hr2]
  · isplitr; · iexact Ht
    isplitl [Hc2]; · iexact Hc2
    isplitl [HO] <;> iassumption
  iintro ⟨HO, Hz2, Ho⟩
  icases (pay_own m c) $$ Ho with ⟨Ho, Hl⟩
  rw [wp_ret]
  imodintro
  iapply Hk
  isplitr [HO]
  · unfold Φ₁ fin
    isplitl [Hs Hl Hd Ho]
    · isplitl [Hs Hl]
      · iapply (shares m c).2
        isplitl [Hl]; · iexact Hl
        iapply (pay_send m c).2; iexact Hs
      · iapply (Entails.of_eq ((blocks main_v1 W B which which_mem mem_B c fullShare (res m c)).trans (duo _)).symm)
        isplitl [Hd]; · iapply (pay_got m c); iexact Hd
        iexact Ho
    isplitl [Hz0]; · iexact Hz0
    isplitl [Hz1] <;> iassumption
  · iexact HO

/-! ## The run -/

set_option maxRecDepth 4000 in
theorem body_obligation (c : Dev nD) : BodyObligation (dats m 0 c) (defs₀ (F := F)) 𝒱₀ () Set.univ := fun t => by
  rw [fin_N0 t]
  simp only [Finset.univ_eq_empty (α := Fin cfg0.W), bigSep_empty]
  show iprop(iprop(start p (pay m) c ∗ mem m c) ∗ (dats m 0 c).owesAt () t0_0.castSucc ∗ emp)
    ⊢ wp frame (wpE (defs₀ (F := F)) 𝒱₀ (c.tc : Thread nD τ) none) Set.univ
      (cc0_rs_sibling_gather (Memref.whole main_arg0) (Memref.isWhole_whole _) (Memref.whole main_v1) (Memref.isWhole_whole _) cc0_scratch0 cc0_scratch1 cc0_scratch2)
      (fun _ => iprop(Φ₁ m c ∗ (dats m 0 c).owesAt () t0_0.succ ∗ emp))
  unfold Dat.owesAt Pipeline.owesWithin
  rw [show (dats m 0 c).owed t0_0.castSucc = due p p.owed c from rfl, show (dats m 0 c).owed t0_0.succ = 0 from rfl]
  iintro ⟨⟨Hs, Hm⟩, ⟨%W, %hW, HO⟩, -⟩
  iapply (sound_body m c _)
  isplitl
  · isplitl [Hs]; · iexact Hs
    isplitl [Hm]; · iexact Hm
    unfold owing
    iexists W; iexact HO
  · unfold owing
    iintro ⟨HΦ, ⟨%W', HO⟩⟩
    rw [due_empty]
    isplitl [HΦ]; · iexact HΦ
    isplitl
    · iexists W'
      isplitr; · ipureintro; exact fun _ _ => Or.inl trivial
      iexact HO
    · iempintro

theorem ownSemFacts : Pipeline.OwnSemFacts cfg0.spec p.sem := by decide

omit [FloatOps F] in
theorem deal : (bigSep Finset.univ fun c : Dev nD => unscopedBufs c (fun b => m ((c.tc : Thread nD τ).loc b)) : sProp 𝕄) ⊢ bigSep Finset.univ (mem m) := by
  have h (c : Dev nD) : (unscopedBufs c (fun b => m ((c.tc : Thread nD τ).loc b)) : sProp 𝕄)
      = iprop(((c.tc : Thread nD τ).loc main_arg0 ↦{fullShare} m ((c.tc : Thread nD τ).loc main_arg0))
        ∗ ((c.tc : Thread nD τ).loc main_v1 ↦{fullShare} m ((c.tc : Thread nD τ).loc main_v1))) := by
    unfold unscopedBufs; exact bigSep_eq_bigSepL_of_eq [main_arg0, main_v1] (by decide) (by decide) _
  rw [bigSep_congr fun c _ => h c]
  unfold mem
  simp only [bigSep_sep']
  iintro ⟨Hx, Ho⟩
  isplitl [Hx]; · iexact Hx
  iapply (deal_blocks p main_v1 W B which which_mem mem_B fun c => m ((c.tc : Thread nD τ).loc main_v1))
  iexact Ho

/-- What is read of device `c`'s memory in the end. -/
def QY (c : Dev nD) (s : MemSt nD τ sig (Elt F)) : Prop :=
  s.mem ((c.tc : Thread nD τ).loc main_arg0) = m ((c.tc : Thread nD τ).loc main_arg0) ∧ s.mem ((c.tc : Thread nD τ).loc main_v1) = res m c

/-- For any float values, from any memory with zero counters: every fair execution ends, with each device's argument
    unchanged, its result the two halves of its chip, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) (fun q => (cfgs q).toPCfg) (fun _ q => (cfgs q).toPCfg_adm) (dats m) cellOf_inj defs₀ 𝒱₀ (x := (0 : Fin 1))
    winFacts0.to₀ ownSemFacts rfl rfl m ρ main (fun _ => []) (fun _ => rfl) (fun _ => List.nodup_nil) (fun _ => List.not_mem_nil)
    (fun c => (body_obligation m c).loose) (fun _ => rfl) (fun _ => rfl) (mem m) (fin m) (fun c => iprop(fin m c ∗ ∃ W, owes (c.tc : Thread nD τ) (0 : CellTallies nD τ sig Unit) W))
    (fin m) (deal m)
    (fun c => by
      show _ ⊢ iprop(start p (pay m) c ∗ mem m c)
      iintro ⟨Hs, Hm, -⟩
      isplitl [Hs] <;> iassumption)
    (fun c => by
      rw [three fun i => (zero p c i : sProp 𝕄)]
      show Φ₁ m c ⊢ iprop(fin m c ∗ iprop(zero p c 0 ∗ zero p c 1 ∗ zero p c 2) ∗ Pipeline.scopedRest cfg0.spec c)
      rw [scopedRest0_eq]
      unfold Φ₁
      iintro ⟨Hf, Hz⟩
      isplitl [Hf]; · iexact Hf
      isplitl [Hz]; · iexact Hz
      iempintro)
    (fun c => by iintro H; imodintro; iexact H)
    (fun c => BI.Entails.refl _)
    (QY m)
    (fun c s' => read_two s')
    (fun s h hs => ⟨h, sem_eq_zero_of_scoped (by decide) hs⟩)

end Cert.ShareRun
-- ==== Proof.ShareValue.lean ====
/-
# Sharing the halves of a chip: the value

The kernel's result on device `c`, index by index, against the plain statement over whole arrays: every core gets both
halves of its chip.
-/
module

public import proofs.«01_k».proof.Proof.ShareRun
public import proofs.«01_k».proof.Proof.Gen.ShareRefIdeal.Run
public import Idealize.ShloMosaic.Lib.Pipeline.Value
public import Idealize.ShloMosaic.Lib.ValueIdxRank6

@[expose] public section

noncomputable section

namespace Cert.ShareRun

open Idealize.ShloMosaic Idealize.ShloMosaic.TcCoe Idealize.ShloMosaic.ValueIdx Idealize.SL.Sem
open Cert.ShareIdeal Cert.ShareIdeal.Gen

section Ref

open Cert.ShareRefIdeal Cert.ShareRefIdeal.Gen

variable {α : Type}

/-- The reference's term. -/
abbrev shared (X : S688128x128.Idx → α) : S16x86016x128.Idx → α :=
  shapeCast S16x86016x128 (broadcastInDim S4x2x2x86016x128 ![0, 1, 2, 3, 4] bcast_S4x1x2x86016x128_S4x2x2x86016x128_0_1_2_3_4
    (shapeCast S4x1x2x86016x128 X shapeCasts_S688128x128_S4x1x2x86016x128)) shapeCasts_S4x2x2x86016x128_S16x86016x128

/-- The reference at an index: row `n` is half `n % 2` of chip `n / 4`. -/
theorem shared_apply (X : S688128x128.Idx → α) (n : Fin 16) (r : Fin 86016) (l : Fin 128) :
    shared X (ix3 n r l) = X (ix2 ⟨(2 * (n.val / 4) + n.val % 2) * 86016 + r.val, by omega⟩ l) := by
  unfold shared
  rw [shapeCast_apply _ _ (ix3 n r l) (ix5 (⟨n.val / 4, by omega⟩ : Fin 4) (⟨n.val / 2 % 2, by omega⟩ : Fin 2) (⟨n.val % 2, by omega⟩ : Fin 2) r l)
      (by rw [Shape.rowMajor_val_five, Shape.rowMajor_val_three]
          show (((n.val / 4 * 2 + n.val / 2 % 2) * 2 + n.val % 2) * 86016 + r.val) * 128 + l.val = (n.val * 86016 + r.val) * 128 + l.val
          omega),
    broadcastInDim_apply _ _ _ _ (ix5 (⟨n.val / 4, by omega⟩ : Fin 4) (0 : Fin 1) (⟨n.val % 2, by omega⟩ : Fin 2) r l) (fun b => by fin_cases b <;> rfl),
    shapeCast_apply _ _ _ (ix2 ⟨(2 * (n.val / 4) + n.val % 2) * 86016 + r.val, by omega⟩ l)
      (by rw [Shape.rowMajor_val_five, Shape.rowMajor_val_two]
          show ((2 * (n.val / 4) + n.val % 2) * 86016 + r.val) * 128 + l.val = (((n.val / 4 * 1 + 0) * 2 + n.val % 2) * 86016 + r.val) * 128 + l.val
          omega)]

end Ref

variable {F : FTy → Type} [FloatOps F] (m : (ℓ : Loc nD τ sig) → Buf (Elt F) ℓ)

omit [FloatOps F] in
/-- Device `c`'s result is its block of the reference's. -/
theorem res_block (X : (⟨2, ![688128, 128]⟩ : Shape).Idx → Elt F .f32)
    (hm : ∀ c : Dev nD, m ((c.tc : Thread nD τ).loc main_arg0) = Layout.block ⟨2, ![86016, 128]⟩ ⟨2, ![688128, 128]⟩ 0 8 c X)
    (c : Dev nD) : res m c = Layout.block ⟨3, ![2, 86016, 128]⟩ ⟨3, ![16, 86016, 128]⟩ 0 8 c (shared X) := by
  have hc : c.val < 8 := c.isLt
  have H : ∀ (j : Fin 2) (r : Fin 86016) (l : Fin 128), res m c (ix3 j r l)
      = Layout.block ⟨3, ![2, 86016, 128]⟩ ⟨3, ![16, 86016, 128]⟩ 0 8 c (shared X) (by decide) (ix3 j r l) := by
    intro j r l
    have hi : ∀ h : Layout.Tiles ⟨3, ![2, 86016, 128]⟩ ⟨3, ![16, 86016, 128]⟩ 0 8,
        h.idx c (ix3 j r l) = ix3 (⟨c.val * 2 + j.val, by omega⟩ : Fin 16) r l := fun h => by
      funext b; apply Fin.ext; rw [Layout.Tiles.idx_val]; fin_cases b <;> rfl
    have hs : ∀ h : Layout.Tiles ⟨2, ![86016, 128]⟩ ⟨2, ![688128, 128]⟩ 0 8,
        h.idx (mate c j.val) (ix2 r l)
          = ix2 (⟨(2 * ((c.val * 2 + j.val) / 4) + (c.val * 2 + j.val) % 2) * 86016 + r.val, by omega⟩ : Fin 688128) l := fun h => by
      funext b; apply Fin.ext; rw [Layout.Tiles.idx_val]
      fin_cases b
      · show (2 * (c.val / 2) + j.val % 2) * 86016 + r.val
          = (2 * ((c.val * 2 + j.val) / 4) + (c.val * 2 + j.val) % 2) * 86016 + r.val
        omega
      · rfl
    show arg m (mate c j.val) (ix2 r l) = _
    unfold arg
    rw [hm (mate c j.val), Layout.block_apply, Layout.block_apply, hi, hs, shared_apply]
  funext i
  rw [eq_ix3 (n0 := 2) (n1 := 86016) (n2 := 128) i]
  exact H _ _ _

end Cert.ShareRun
-- ==== Proof.ShareClaims.lean ====
/-
# Sharing the halves of a chip: the claims
-/
module

public import proofs.«01_k».proof.Proof.ShareValue
public import proofs.«01_k».proof.Defs
public import proofs.«01_k».proof.Proof.Gen.Share
public import proofs.«01_k».proof.Proof.Gen.ShareRef.Run
public import Idealize.ShloMosaic.Lib.Quiescent

@[expose] public section

noncomputable section

namespace Cert.ShareRun

open Idealize.ShloMosaic Idealize.ShloMosaic.TcCoe Idealize.SL.Sem
open Cert.Share.Gen Cert.ShareRef.Gen Cert.ShareIdeal.Gen Cert.ShareRefIdeal.Gen

theorem frame_kernel : Cert.quiescent_Share := fun m ρ _ =>
  (θ_run Cert.ShareIdeal.defs _ _).mono (fun _ h => ⟨fun c => (h.1 c).1, h.2⟩) (run_main (F := Bits) m ρ)
theorem frame_kernel_ideal : Cert.quiescent_ShareIdeal := fun m ρ _ =>
  (θ_run Cert.ShareIdeal.defs _ _).mono (fun _ h => ⟨fun c => (h.1 c).1, h.2⟩) (run_main (F := Ideal) m ρ)
theorem frame_ref : Cert.quiescent_ShareRef := fun m ρ _ =>
  (θ_run Cert.ShareRef.defs _ _).mono (fun r h => ⟨fun c => (h c).2, sem_eq_zero_of_no_sems (by decide) r.2⟩) (Cert.ShareRef.Value.run (F := Bits) m ρ)
theorem frame_ref_ideal : Cert.quiescent_ShareRefIdeal := fun m ρ _ =>
  (θ_run Cert.ShareRefIdeal.defs _ _).mono (fun r h => ⟨fun c => (h c).2, sem_eq_zero_of_no_sems (by decide) r.2⟩) (Cert.ShareRefIdeal.Value.run (F := Ideal) m ρ)

/-- Over the extended reals: every device ends with its part of the reference's result. -/
theorem algebraic : Cert.algebraic_ShareIdeal_ShareRefIdeal := fun m ρ m' ρ' _ hm =>
  ⟨_, (θ_run Cert.ShareIdeal.defs _ _).mono (fun _ h c => ⟨(h.1 c).2.trans (res_block m _ hm c), (h.1 c).1⟩) (run_main (F := Ideal) m ρ),
    (θ_run Cert.ShareRefIdeal.defs _ _).mono (fun _ h => h 0) (Cert.ShareRefIdeal.Value.run (F := Ideal) m' ρ')⟩
/-- The same, bit for bit. -/
theorem bitexact : Cert.bitexact_Share_ShareRef := fun m ρ m' ρ' _ hm =>
  ⟨_, (θ_run Cert.ShareIdeal.defs _ _).mono (fun _ h c => ⟨(h.1 c).2.trans (res_block (F := Bits) m _ hm c), (h.1 c).1⟩) (run_main (F := Bits) m ρ),
    (θ_run Cert.ShareRef.defs _ _).mono (fun _ h => h 0) (Cert.ShareRef.Value.run (F := Bits) m' ρ')⟩

end Cert.ShareRun
-- ==== Proof.PairSumRegion.lean ====
/-
# Adding what the sibling sent to a device's own half

The second kernel of a device adds, element by element, the half of the device's array at its own core index and what its
sibling sent: 168 grid points, each over a block of 2048 rows. Which half is the device's own is read from a table of one
word, its core index, so each device has its own contents of the table. Here that kernel is run: its body on the staged
blocks, what it leaves in the result's array, and the segment it is in the program.
-/
module

public import proofs.«01_k».proof.Proof.Exchange
public import proofs.«01_k».proof.Proof.Gen.PairSumIdeal
public import proofs.«01_k».proof.Proof.Gen.PairSumIdeal.Skeleton
public import proofs.«01_k».proof.Proof.Gen.PairSumIdeal.Points
public import proofs.«01_k».proof.Proof.Gen.PairSumIdeal.Launch
public import Idealize.ShloMosaic.Lib.Pipeline.Value
public import Idealize.ShloMosaic.Lib.Pipeline.RegionsLoop
public import Idealize.ShloMosaic.Lib.ValueIdxRank6

@[expose] public section

set_option Elab.async false

noncomputable section

namespace Cert.PairSumRun

open Cert.PairSumIdeal Cert.PairSumIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-! ## The tables -/

/-- A device's core index. -/
def core (c : Dev nD) : Fin 2 := ⟨c.val % 2, Nat.mod_lt _ (by decide)⟩
/-- The table of device `c`: its core index. -/
def tbl (c : Dev nD) : pre1.Contents (Elt F) := fun
  | 0 => fun _ => BitVec.ofNat 32 (core c).val
  | ⟨_ + 1, h⟩ => absurd h (Nat.not_lt.2 (Nat.le_add_left _ _))

theorem core_word : ∀ c : Dev nD, (BitVec.ofNat 32 (core c).val).toNat = (core c).val := by decide
theorem own_index (c : Dev nD) (i : grid1.Coords) : cc1_transform_0 (F := F) inb_S1_S1_0 numel1_S1 (tbl c) i (0 : Fin 4) = (core c).val := core_word c

/-- Every block the table selects is inside the array. -/
theorem tbl_ok (c : Dev nD) : ok1 (F := F) (tbl c) := fun i => ⟨fun a => by
  have h := hinb1_1 i
  match a with
  | ⟨0, _⟩ =>
    show (cc1_transform_0 (F := F) inb_S1_S1_0 numel1_S1 (tbl c) i (0 : Fin 4) + 1) * 1 ≤ 2
    rw [own_index]; have := (core c).isLt; omega
  | ⟨1, _⟩ => exact h 0
  | ⟨2, _⟩ => exact h 1
  | ⟨3, _⟩ => exact h 2, .inl rfl⟩

/-- The contents of the kernels' tables on device `c`: the exchange has none. -/
def adm (c : Dev nD) : (q : Fin 2) → (pcfgs (F := F) q).Adm
  | ⟨0, _⟩ => cfg0.toPCfg_adm
  | ⟨1, _⟩ => ⟨tbl c, tbl_ok c⟩

/-- The second kernel on device `c`. -/
abbrev cfgA (c : Dev nD) : Cfg sig Λ₀ := cfg1 (F := F) ⟨tbl c, tbl_ok c⟩

-- the contents of every device's buffers when the region is entered
variable (V : (c : Dev nD) → (b : Ref sig .tc) → Buf (Elt F) ((c : Thread nD τ).loc b))

/-! ## The body -/

/-- The whole of a staged block. -/
abbrev rG : Rect S1x1x2048x128 := Rect.unit (s := S1x1x2048x128) ![0, 0, 0, 0] S1x1x2048x128.size inb_S1x1x2048x128_S1x1x2048x128_0_0_0_0
abbrev rA : Rect S1x2048x128 := Rect.unit (s := S1x2048x128) ![0, 0, 0] S1x2048x128.size inb_S1x2048x128_S1x2048x128_0_0_0

/-- What the body leaves in the result's staging buffer, of the two operands' staged blocks. -/
def left (x : Vec F S1x1x2048x128 .f32) (y : Vec F S1x2048x128 .f32) : Vec F S1x2048x128 .f32 :=
  View.canon [⟨rA, k1_pay1 (View.ld x rG) (View.ld y rA)⟩]

theorem cover (p : Vec F S1x2048x128 .f32) (y : S1x2048x128.Idx) : ∃ pc ∈ ([⟨rA, p⟩] : List (View.Piece (Elt F) S1x2048x128 .f32)), y ∈ pc.1.set :=
  View.cover_of_tiled [⟨rA, p⟩] S1x2048x128.size (by rfl) y

set_option maxHeartbeats 1000000 in
/-- From the three staging buffers the body runs to its return, the operands' as they were and the result's at `left`. -/
theorem sound_add (c : Dev nD) (E : Set ℕ) (i : grid1.Coords) (Mt : Memref sig .tc .smem S1 .i32) (ht : Mt.IsWhole)
    (M0 : Memref sig .tc .vmem S1x1x2048x128 .f32) (h0 : M0.IsWhole) (M1 : Memref sig .tc .vmem S1x2048x128 .f32) (h1 : M1.IsWhole)
    (M2 : Memref sig .tc .vmem S1x2048x128 .f32) (h2 : M2.IsWhole)
    (x : Vec F S1x1x2048x128 .f32) (y : Vec F S1x2048x128 .f32) (K : PUnit → sProp 𝕄) :
    iprop(owns (c : Thread nD τ) M0 fullShare x ∗ owns (c : Thread nD τ) M1 fullShare y ∗ (∃ d, owns (c : Thread nD τ) M2 fullShare d)
        ∗ (iprop(owns (c : Thread nD τ) M0 fullShare x ∗ owns (c : Thread nD τ) M1 fullShare y ∗ owns (c : Thread nD τ) M2 fullShare (left x y)) -∗ K ⟨⟩))
      ⊢ wp frame (wpE (defs₀ (F := F)) Variants.none c none) E (cc1_rs_add_own_half i Mt ht M0 h0 M1 h1 M2 h2) K := by
  simp only [cc1_rs_add_own_half_eq_skeleton]; unfold cc1_rs_add_own_half_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data -/

/-- The operands' blocks at a point. -/
abbrev blkG (c : Dev nD) (t : Fin (cfgA (F := F) c).N) : Vec F S1x1x2048x128 .f32 := (((cfgA (F := F) c).win 0).blk t).view.read (Elt F) (V c main_arg0)
abbrev blkA (c : Dev nD) (t : Fin (cfgA (F := F) c).N) : Vec F S1x2048x128 .f32 := (((cfgA (F := F) c).win 1).blk t).view.read (Elt F) (V c main_v1)

/-- The arrays at `V`; after the body the operands' buffers at their blocks and the result's at `left` of them; the table
    is held throughout. -/
def datS (c : Dev nD) : Dat τ (Elt F) Unit ℕ (UU nD τ sig) ℕ (cfgA (F := F) c) c where
  A w := V c (Pipeline.arrRef spec1 w)
  after w t := match w with
    | ⟨0, _⟩ => blkG V c t
    | ⟨1, _⟩ => blkA V c t
    | ⟨2, _⟩ => left (blkG V c t) (blkA V c t)
  Φ _ := iprop(Pipeline.prefHeld (Ix := Unit) (Name := ℕ) (U := UU nD τ sig) (Lvl := ℕ) (Val := Elt F) pre1 c (fun _ => fullShare) (tbl c)
    ∗ Pipeline.scopedRest (Ix := Unit) (Name := ℕ) (U := UU nD τ sig) (Lvl := ℕ) (Val := Elt F) spec1 c)
  q _ := fullShare
  owed _ := 0

theorem after_g (c : Dev nD) (t) : (datS V c).after 0 t = blkG V c t := by dsimp only [datS]; rfl
theorem after_a (c : Dev nD) (t) : (datS V c).after 1 t = blkA V c t := by dsimp only [datS]; rfl
theorem after_out (c : Dev nD) (t) : (datS V c).after 2 t = left (blkG V c t) (blkA V c t) := by dsimp only [datS]; rfl
theorem before_g (c : Dev nD) (t) (d) : (datS V c).before 0 t d = blkG V c t :=
  ((datS V c).before_in_eq_fetched 0 rfl (fun _ => rfl) (fun _ _ _ => rfl) (fun t => by rw [after_g]; rfl) t d).trans rfl
theorem before_a (c : Dev nD) (t) (d) : (datS V c).before 1 t d = blkA V c t :=
  ((datS V c).before_in_eq_fetched 1 rfl (fun _ => rfl) (fun _ _ _ => rfl) (fun t => by rw [after_a]; rfl) t d).trans rfl

/-- The kernel body at a point, on the current staging buffers. -/
abbrev bodyA (c : Dev nD) (t : Fin (cfgA (F := F) c).N) : Prog (TpuEff nD τ sig (Elt F) Λ₀ .tc) PUnit :=
  cc1_rs_add_own_half (grid1.coords t) (Memref.whole main_v6) (Memref.isWhole_whole _)
    (spec1_0.stage ((cfgA (F := F) c).slots t 0)) (hstage1_0 (((cfgA (F := F) c).slots t 0).cast nbuf1_0))
    (spec1_1.stage ((cfgA (F := F) c).slots t 1)) (hstage1_1 (((cfgA (F := F) c).slots t 1).cast nbuf1_1))
    (spec1_2.stage ((cfgA (F := F) c).slots t 2)) (hstage1_2 (((cfgA (F := F) c).slots t 2).cast nbuf1_2))
theorem row (c : Dev nD) (t : Fin (cfgA (F := F) c).N) :
    defs₀ (F := F) .tc (cfgA (F := F) c).body ((cfgA (F := F) c).bodyArgs t ((cfgA (F := F) c).slots t)) = bodyA c t := by
  unfold defs₀; rw [Defs.onTc_tc]

theorem body_add (c : Dev nD) : BodyObligation (datS V c) (defs₀ (F := F)) Variants.none () Set.univ := fun t => by
  rw [bigSep_W1, bigSep_W1, row]
  rw [after_g, after_a, after_out, show (datS V c).Φ t.succ = (datS V c).Φ t.castSucc from rfl,
    show (datS V c).owesAt () t.succ = (datS V c).owesAt () t.castSucc from rfl]
  iintro ⟨HΦ, Ho, ⟨%d0, H0⟩, ⟨%d1, H1⟩, ⟨%d2, H2⟩⟩
  iapply (sound_add c Set.univ (grid1.coords t) _ _ _ _ _ _ _ _ (blkG V c t) (blkA V c t) _)
  isplitl [H0]; · iapply (Entails.of_eq (congrArg (owns _ _ fullShare) (before_g V c t d0))); iexact H0
  isplitl [H1]; · iapply (Entails.of_eq (congrArg (owns _ _ fullShare) (before_a V c t d1))); iexact H1
  isplitl [H2]; · iexists _; iexact H2
  iintro ⟨H0, H1, H2⟩
  isplitl [HΦ]; · iexact HΦ
  isplitl [Ho]; · iexact Ho
  isplitl [H0]; · iexact H0
  isplitl [H1] <;> iassumption

/-! ## The array after the region -/

/-- Half `k` of an array, and another array added to it. -/
def added (k : Fin 2) (g : S2x4x86016x128.Idx → Elt F .f32) (a : S4x86016x128.Idx → Elt F .f32) : S4x86016x128.Idx → Elt F .f32 := fun i =>
  FloatOps.addf (g (ix4 k (i 0) (i 1) (i 2))) (a i)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the body leaves, at an index. -/
theorem left_apply (x : Vec F S1x1x2048x128 .f32) (y : Vec F S1x2048x128 .f32) (r : Fin 2048) (l : Fin 128) :
    left x y (ix3 (0 : Fin 1) r l) = FloatOps.addf (x (ix4 (0 : Fin 1) (0 : Fin 1) r l)) (y (ix3 (0 : Fin 1) r l)) := by
  unfold left
  rw [View.canon_unit_zero hz3]
  unfold k1_pay1
  rw [View.ld_unit_zero hz4, View.ld_unit_zero hz3]
  have e2 : (S2048x128.rowMajor (ix2 r l)).val = (S1x2048x128.rowMajor (ix3 (0 : Fin 1) r l)).val := by
    rw [Shape.rowMajor_val_two, Shape.rowMajor_val_three]
    show r.val * 128 + l.val = (0 * 2048 + r.val) * 128 + l.val
    omega
  refine (shapeCast_apply _ _ (ix3 (0 : Fin 1) r l) (ix2 r l) e2).trans ?_
  exact congrArg₂ FloatOps.addf
    (shapeCast_apply _ _ (ix2 r l) (ix4 (0 : Fin 1) (0 : Fin 1) r l)
      (by rw [Shape.rowMajor_val_two, Shape.rowMajor_val_four]
          show ((0 * 1 + 0) * 2048 + r.val) * 128 + l.val = r.val * 128 + l.val
          omega))
    (shapeCast_apply _ _ (ix2 r l) (ix3 (0 : Fin 1) r l) e2.symm)

/-- The result's block at a point. -/
abbrev at2 (t : Fin grid1.N) : Fin 3 → ℕ := cc1_transform_2 (grid1.coords t)
theorem at2_last (t : Fin grid1.N) : at2 t (2 : Fin 3) = 0 := rfl
theorem at2_onto : ∀ (j : Fin 4) (q : Fin 42), ∃ t : Fin grid1.N, at2 t = ![j.val, q.val, 0] := by decide +kernel

theorem at2_moves : ∀ t : Fin grid1.N, t.val + 1 = grid1.N ∨ ∃ h : t.val + 1 < grid1.N, at2 ⟨t.val + 1, h⟩ ≠ at2 t := by decide +kernel
theorem at2_inb (t : Fin grid1.N) (a : Fin 3) : at2 t a * S1x2048x128.size a + S1x2048x128.size a ≤ S4x86016x128.size a :=
  (Nat.succ_mul _ _).symm.trans_le (hinb1_2 (grid1.coords t) a)

/-- What a point writes back is its block of the sum. -/
theorem flushed_eq (c : Dev nD) (t : Fin (cfgA (F := F) c).N) :
    (datS V c).flushed 2 t = (((cfgA (F := F) c).win 2).blk t).view.read (Elt F) (added (core c) (V c main_arg0) (V c main_v1)) := by
  show ((cfgA (F := F) c).win 2).cut (grid1.coords t) ((datS V c).after 2 t) = _
  rw [after_out]
  have H (r : Fin 2048) (l : Fin 128) : left (blkG V c t) (blkA V c t) (ix3 (0 : Fin 1) r l)
      = added (core c) (V c main_arg0) (V c main_v1) ((((cfgA (F := F) c).win 2).blk t).view.emb (ix3 (0 : Fin 1) r l)) := by
    rw [left_apply]
    refine congrArg₂ FloatOps.addf (congrArg (V c main_arg0 : S2x4x86016x128.Idx → Elt F .f32) ?_) (congrArg (V c main_v1 : S4x86016x128.Idx → Elt F .f32) ?_)
    · funext a; apply Fin.ext
      match a with
      | ⟨0, _⟩ =>
        show cc1_transform_0 (F := F) inb_S1_S1_0 numel1_S1 (tbl c) (grid1.coords t) (0 : Fin 4) * 1 + 1 * 0 = (core c).val
        rw [own_index]; omega
      | ⟨1, _⟩ => rfl
      | ⟨2, _⟩ => rfl
      | ⟨3, _⟩ => rfl
    · rfl
  refine funext fun y : S1x2048x128.Idx => ?_
  rw [eq_ix3 (n0 := 1) (n1 := 2048) (n2 := 128) y, show y 0 = (0 : Fin 1) from Subsingleton.elim (α := Fin 1) _ _]
  exact H _ _

theorem flush_out (c : Dev nD) (t : Fin (cfgA (F := F) c).N) : ((cfgA (F := F) c).win 2).flush t = true := by
  show (true && (decide (t.val + 1 = grid1.N) || decide (∃ h : t.val + 1 < grid1.N, at2 ⟨t.val + 1, h⟩ ≠ at2 t))) = true
  rcases at2_moves t with h | h <;> simp [h]

theorem mem_blk (c : Dev nD) (t : Fin (cfgA (F := F) c).N) (i : S4x86016x128.Idx) :
    i ∈ (((cfgA (F := F) c).win 2).blk t).view.set
      ↔ ∀ a : Fin 3, at2 t a * S1x2048x128.size a ≤ (i a).val ∧ (i a).val < at2 t a * S1x2048x128.size a + S1x2048x128.size a := by
  show i ∈ ((View.whole main_v7).slice (Rect.unit (s := S4x86016x128) (fun a => at2 t a * S1x2048x128.size a) S1x2048x128.size (at2_inb t))).set ↔ _
  rw [View.set_slice_whole, Rect.mem_set_unit]
  exact Iff.rfl

/-- The blocks written back fill the result's array: it holds the sum. -/
theorem final (c : Dev nD) : (datS V c).arrAt 2 (cfgA (F := F) c).N = added (core c) (V c main_arg0) (V c main_v1) :=
  (datS V c).arrAt_eq_of_cover 2 _ (fun t _ => flushed_eq V c t) fun i : S4x86016x128.Idx => by
    have h0 : (i 0).val < 4 := (i 0).isLt
    have h1 : (i 1).val < 86016 := (i 1).isLt
    have h2 : (i 2).val < 128 := (i 2).isLt
    obtain ⟨t, ht⟩ := at2_onto ⟨(i 0).val, h0⟩ ⟨(i 1).val / 2048, by omega⟩
    have q0 : at2 t (0 : Fin 3) = (i 0).val := congrFun ht 0
    have q1 : at2 t (1 : Fin 3) = (i 1).val / 2048 := congrFun ht 1
    refine ⟨t, flush_out c t, (mem_blk c t i).2 fun a => ?_⟩
    match a with
    | ⟨0, _⟩ => show at2 t (0 : Fin 3) * 1 ≤ (i 0).val ∧ (i 0).val < at2 t (0 : Fin 3) * 1 + 1; omega
    | ⟨1, _⟩ => show at2 t (1 : Fin 3) * 2048 ≤ (i 1).val ∧ (i 1).val < at2 t (1 : Fin 3) * 2048 + 2048; omega
    | ⟨2, _⟩ => show at2 t (2 : Fin 3) * 128 ≤ (i 2).val ∧ (i 2).val < at2 t (2 : Fin 3) * 128 + 128; rw [at2_last]; omega

/-! ## The segment -/

variable (d0 : (c : Dev nD) → Dat τ (Elt F) Unit ℕ (UU nD τ sig) ℕ cfg0 c)

/-- The proof data of both regions, the exchange's given. -/
def both : (q : Fin 2) → (c : Dev nD) → Dat τ (Elt F) Unit ℕ (UU nD τ sig) ℕ (Pipeline.pinD (pcfgs (F := F)) adm c q) c
  | ⟨0, _⟩ => d0
  | ⟨1, _⟩ => datS V

/-- The contents after the region: the result's array at the sum, everything else as before. -/
def after (c : Dev nD) (b : Ref sig .tc) : Buf (Elt F) ((c : Thread nD τ).loc b) :=
  Function.update (V c) main_v7 (added (core c) (V c main_arg0) (V c main_v1)) b

theorem after_v7 (c : Dev nD) : after V c main_v7 = added (core c) (V c main_arg0) (V c main_v1) := Function.update_self _ _ _
theorem after_ne (c : Dev nD) (b : Ref sig .tc) (h : b ≠ main_v7) : after V c b = V c b := Function.update_of_ne h _ _

-- each device's table holds its core index when the region is entered
variable (hV : ∀ c : Dev nD, V c main_v6 = tbl (F := F) c 0)

/-- The buffers no window is of, the table among them, before and after the region. -/
theorem rest_split (c : Dev nD) (V' : (b : Ref sig .tc) → Buf (Elt F) ((c : Thread nD τ).loc b)) (h : V' main_v6 = tbl (F := F) c 0) :
    (Pipeline.unscopedRest (Ix := Unit) (Name := ℕ) (U := UU nD τ sig) (Lvl := ℕ) spec1 c V' : sProp 𝕄)
      = iprop(Pipeline.prefHeld (Ix := Unit) (Name := ℕ) (U := UU nD τ sig) (Lvl := ℕ) (Val := Elt F) pre1 c (fun _ => fullShare) (tbl c)
        ∗ Pipeline.unscopedRestP (Ix := Unit) (Name := ℕ) (U := UU nD τ sig) (Lvl := ℕ) pre1 spec1 c V') := by
  rw [Pipeline.unscopedRest_split preFacts1]
  congr 2
  funext k
  match k with
  | ⟨0, _⟩ => exact h

set_option backward.isDefEq.respectTransparency.types false in
/-- The three arrays and the rest are all unscoped buffers. -/
theorem join (c : Dev nD) : iprop((both V d0 1 c).arrays ((both V d0 1 c).arrAt · (cfgA (F := F) c).N)
      ∗ Pipeline.unscopedRest (Ix := Unit) (Name := ℕ) (U := UU nD τ sig) (Lvl := ℕ) spec1 c (V c)) ⊢ (unscopedBufs c (after V c) : sProp 𝕄) := by
  rw [Pipeline.PerCore.unscopedBufs_split (Pipeline.pinD (pcfgs (F := F)) adm) 1 c (launch1 (F := F)).win.arr_unscoped (launch1 (F := F)).win.arr_inj (after V c),
    Pipeline.PerCore.arrays_eq (Pipeline.pinD (pcfgs (F := F)) adm) (both V d0) 1 c (launch1 (F := F)).arr_whole ((both V d0 1 c).share_full fun _ => rfl)]
  refine sep_mono (Entails.of_eq (bigSep_congr fun w _ => ?_)) (Entails.of_eq ?_)
  · fin_cases w
    · exact congrArg _ (((both V d0 1 c).arrAt_in 0 rfl _).trans (after_ne V c main_arg0 (by decide)).symm)
    · exact congrArg _ (((both V d0 1 c).arrAt_in 1 rfl _).trans (after_ne V c main_v1 (by decide)).symm)
    · exact congrArg _ ((final V c).trans (after_v7 V c).symm)
  · unfold Pipeline.unscopedRest
    exact bigSep_congr fun b hb => by
      rw [after_ne V c b fun h => (Finset.mem_sdiff.mp hb).2 (h ▸ Finset.mem_image.mpr ⟨2, Finset.mem_univ _, rfl⟩)]

set_option backward.isDefEq.respectTransparency.types false in
/-- The region: from all unscoped buffers at `V` to all of them at `after V`. -/
def seg (lvl : GSem nD τ sig → Unit → ℕ) : Pipeline.PerCore.RegionSeg (pcfgs (F := F)) adm (both V d0) () defs₀ Variants.none L lvl 1 where
  win := launch1.win.to₀
  block_pos := launch1.block_pos
  stage_whole := launch1.stage_whole
  K := PEmpty
  osem k := k.elim
  ho := Pipeline.OwnSemFacts.none _
  hbody c := (body_add V c).loose
  hwaits := Pipeline.PerCore.hwaits_of_owed_zero (pcfgs (F := F)) adm (both V d0) () L lvl 1 fun _ _ => rfl
  pre c := iprop(unscopedBufs c (V c) ∗ ∃ W, owes (c.tc : Thread nD τ) (0 : CellTallies nD τ sig Unit) W)
  post c := iprop(unscopedBufs c (after V c) ∗ ∃ W, owes (c.tc : Thread nD τ) (0 : CellTallies nD τ sig Unit) W)
  X _ := BI.emp
  Y c := Pipeline.prefHeld (Ix := Unit) (Name := ℕ) (U := UU nD τ sig) (Lvl := ℕ) (Val := Elt F) pre1 c (fun _ => fullShare) (tbl c)
  Z c := Pipeline.unscopedRestP (Ix := Unit) (Name := ℕ) (U := UU nD τ sig) (Lvl := ℕ) pre1 spec1 c (V c)
  hentry c := by
    rw [Pipeline.ownSems0_none]
    have hsplit := Pipeline.PerCore.arrays_of_unscopedBufs (p := 1) (pcfgs (F := F)) adm (both V d0) launch1.win launch1.arr_whole c
      ((both V d0 1 c).share_full fun _ => rfl) (V c) fun _ => rfl
    iintro ⟨⟨Hub, HO⟩, -, -⟩
    ihave H := hsplit $$ Hub
    icases H with ⟨Ha, Hrest⟩
    ihave Hr := (Entails.of_eq (rest_split c (V c) (hV c))) $$ Hrest
    icases Hr with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    show _ ⊢ iprop(Pipeline.prefHeld (Ix := Unit) (Name := ℕ) (U := UU nD τ sig) (Lvl := ℕ) (Val := Elt F) pre1 c (fun _ => fullShare) (tbl c)
      ∗ Pipeline.scopedRest (Ix := Unit) (Name := ℕ) (U := UU nD τ sig) (Lvl := ℕ) (Val := Elt F) spec1 c)
    iintro ⟨-, Ht, Hr⟩
    isplitl [Ht]; · iexact Ht
    iexact Hr
  hout c := by
    rw [Pipeline.ownSems0_none]
    show iprop(Pipeline.prefHeld (Ix := Unit) (Name := ℕ) (U := UU nD τ sig) (Lvl := ℕ) (Val := Elt F) pre1 c (fun _ => fullShare) (tbl c)
      ∗ Pipeline.scopedRest (Ix := Unit) (Name := ℕ) (U := UU nD τ sig) (Lvl := ℕ) (Val := Elt F) spec1 c) ⊢ _
    iintro ⟨Ht, Hr⟩
    isplitl [Ht]; · iexact Ht
    isplitr; · iempintro
    iexact Hr
  hexit c := by
    iintro ⟨Ha, HO, Ht, Hrest⟩
    imodintro
    isplitl [Ha Ht Hrest]
    · iapply (join V d0 c)
      isplitl [Ha]; · iexact Ha
      iapply (Entails.of_eq (rest_split c (V c) (hV c)).symm)
      isplitl [Ht] <;> iassumption
    unfold Pipeline.Dat.owesAt Pipeline.owesWithin
    icases HO with ⟨%W, -, HO⟩; iexists W; iexact HO

end Cert.PairSumRun
-- ==== Proof.PairSumRun.lean ====
/-
# The exchange between the two cores of a chip, and then the addition

Every device sends the half of its array that belongs to its sibling straight into the sibling's result, and waits for
its own result to be written by the sibling. Two semaphores a device: `0` the send's, `1` the receive's. Then a device
computes its core index into a table, and its second kernel adds its own half and what it received.
-/
module

public import proofs.«01_k».proof.Proof.PairSumRegion
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Regions

@[expose] public section

set_option Elab.async false

noncomputable section

namespace Cert.PairSumRun

open Cert.PairSumIdeal Cert.PairSumIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The other core of the chip. -/
def sib (c : Dev nD) : Dev nD := ⟨4 * (c.val / 4) + 2 * (c.val / 2 % 2) + 1 - c.val % 2, by revert c; decide⟩
theorem sib_sib : ∀ c, sib (sib c) = c := by decide
theorem dev1_eq (c : Dev nD) : (⟨k0_dev1 c, k0_dev1_lt c⟩ : Dev nD) = sib c := Fin.ext (k0_dev1_eq c)

/-- What device `c` sends: the half of its array at its sibling's core index. -/
abbrev srcM (c : Dev nD) : Memref sig .tc .hbm S4x86016x128 .f32 :=
  ((Memref.whole main_arg0).slice (Rect.unit (s := S2x4x86016x128) (k0_off1 c) S1x4x86016x128.size (k0_off1_inb c)) (fun _ => rfl)).squeeze
    S4x86016x128 squeezes_S1x4x86016x128_S4x86016x128
abbrev dstM : Memref sig .tc .hbm S4x86016x128 .f32 := Memref.whole main_v1

/-- The credit of one transfer. -/
abbrev N : ℕ := dstM.view.dmaCredit

def p : Proto nD sig 2 where
  sem := ![.dma cc0_scratch0.sem, .dma cc0_scratch1.sem]
  inj := by decide
  amt _ := N
  amt_pos _ := View.dmaCredit_pos _ (by decide)
  peer := ![id, sib]
  peer_peer i c := by fin_cases i; · rfl
                      exact sib_sib c
  owed := {1}
  lvl _ := 0

variable (m : (ℓ : Loc nD τ sig) → Buf (Elt F) ℓ) (ρ : Dev nD → PrngReg)

/-- The data device `c` sends. -/
def sent (c : Dev nD) : (main_v1 : Ref sig .tc).ty.Contents (Elt F) := (srcM c).view.read (Elt F) (m ((c.tc : Thread nD τ).loc main_arg0))
/-- What device `c` ends with: what its sibling sent. -/
def res (c : Dev nD) : Buf (Elt F) ((c.tc : Thread nD τ).loc main_v1) := sent m (sib c)

/-- The send gives the sent half back, the receive the result. -/
def pay (c : Dev nD) : Fin 2 → sProp 𝕄 :=
  ![((srcM c).view.loc (c.tc : Thread nD τ) ↦[(srcM c).view.set]{fullShare} m ((c.tc : Thread nD τ).loc main_arg0)),
    ((c.tc : Thread nD τ).loc main_v1 ↦{fullShare} res m c)]

instance : PayStorable (pay m) := ⟨fun c i => by fin_cases i <;> exact inferInstanceAs (BI.Storable _ (pointsTo _ _ _ _))⟩

/-- What device `c` holds to run: its array, and its sibling's result. -/
def mem (c : Dev nD) : sProp 𝕄 :=
  iprop(((c.tc : Thread nD τ).loc main_arg0 ↦{fullShare} m ((c.tc : Thread nD τ).loc main_arg0))
    ∗ ∃ f, ((sib c).tc : Thread nD τ).loc main_v1 ↦{fullShare} f)
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1)

/-- The unscoped buffers the exchange does not use. -/
def others : Finset (Ref sig .tc) := {main_c, main_c_0, main_v2, main_v3, main_v4, main_v5, main_v6, main_v7}
/-- They come along, at their launch contents. -/
def kept (c : Dev nD) : sProp 𝕄 := bigSep others fun b => (c.tc : Thread nD τ).loc b ↦{fullShare} m ((c.tc : Thread nD τ).loc b)
/-- What the exchange leaves alone: these buffers, and the second kernel's staging. -/
def side (c : Dev nD) : sProp 𝕄 := iprop(kept m c ∗ Pipeline.scopedRest cfg0.spec c)

def datX (c : Dev nD) : Dat τ (Elt F) Unit ℕ (UU nD τ sig) ℕ cfg0 c where
  A w := w.elim0
  after w _ := w.elim0
  Φ t := match t with
    | ⟨0, _⟩ => iprop((start p (pay m) c ∗ mem m c) ∗ side m c)
    | ⟨_ + 1, _⟩ => iprop(Φ₁ m c ∗ side m c)
  q _ := fullShare
  owed t := match t with
    | ⟨0, _⟩ => due p p.owed c
    | ⟨_ + 1, _⟩ => 0

abbrev 𝒱₀ : Variants := Variants.none

omit [FloatOps F] in
theorem pay_recv (c n : Dev nD) (hn : n = sib c) (f : Buf (Elt F) (dstM.view.loc (n.tc : Thread nD τ))) :
    (dstM.view.loc (n.tc : Thread nD τ) ↦[dstM.view.set]{fullShare}
      (dstM.view.write (Elt F) f ((srcM c).view.read (Elt F) (m ((c.tc : Thread nD τ).loc main_arg0))) Finset.univ) : sProp 𝕄) ⊢ pay m n 1 := by
  subst hn
  have h : pay m (sib c) 1 = (((sib c).tc : Thread nD τ).loc main_v1 ↦{fullShare} sent m c : sProp 𝕄) := by
    show (_ ↦{fullShare} res m (sib c)) = _
    rw [show res m (sib c) = sent m c from congrArg (sent m) (sib_sib c)]
  rw [h]
  have h2 : dstM.view.write (Elt F) f ((srcM c).view.read (Elt F) (m ((c.tc : Thread nD τ).loc main_arg0))) Finset.univ = sent m c :=
    View.write_whole_univ (Val := Elt F) main_v1 f (sent m c)
  rw [h2]
  simp only [Memref.view_whole, View.set_whole]
  exact BI.Entails.refl _

omit [FloatOps F] in
theorem dst_at (c n : Dev nD) (hn : n = sib c) :
    iprop(∃ f, ((sib c).tc : Thread nD τ).loc main_v1 ↦{fullShare} f)
      ⊢ (iprop(∃ f, dstM.view.loc (n.tc : Thread nD τ) ↦[dstM.view.set]{fullShare} f) : sProp 𝕄) := by
  subst hn
  simp only [Memref.view_whole, View.set_whole]
  exact BI.Entails.refl _

theorem hroute (c n : Dev nD) : τ.routes (c.tc : Thread nD τ) (n.tc : Thread nD τ) = true := by revert c n; decide

set_option maxRecDepth 4000 in
theorem amt_put : dstM.view.amount (.dma cc0_scratch1.sem) = p.amt 1 := rfl
theorem amt_src (c : Dev nD) : p.amt 0 = (srcM c).view.dmaCredit := rfl
theorem none_owed {i : Fin 2} : ∀ j ∈ p.owed.erase 1, p.lvl i < p.lvl j := by
  rw [show p.owed.erase 1 = ∅ from rfl]; exact fun j hj => absurd hj (Finset.notMem_empty j)
theorem amt_send : p.amt 0 = p.amt 1 := rfl
theorem sem_send : p.sem 0 = .dma cc0_scratch0.sem := rfl
theorem sem_recv : p.sem 1 = .dma cc0_scratch1.sem := rfl

omit [FloatOps F] in
theorem pay_send (c : Dev nD) : ((srcM c).view.loc (c.tc : Thread nD τ) ↦[(srcM c).view.set]{fullShare} m ((c.tc : Thread nD τ).loc main_arg0) : sProp 𝕄)
    ⊢ pay m c 0 := BI.Entails.refl _

omit [FloatOps F] in
theorem pay_sent (c : Dev nD) : pay m c 0
    ⊢ ((srcM c).view.loc (c.tc : Thread nD τ) ↦[(srcM c).view.set]{fullShare} m ((c.tc : Thread nD τ).loc main_arg0) : sProp 𝕄) := BI.Entails.refl _
omit [FloatOps F] in
theorem pay_got (c : Dev nD) : pay m c 1 ⊢ ((c.tc : Thread nD τ).loc main_v1 ↦{fullShare} res m c : sProp 𝕄) := BI.Entails.refl _

omit [FloatOps F] in
theorem two (Φ : Fin 2 → sProp 𝕄) : bigSep Finset.univ Φ = iprop(Φ 0 ∗ Φ 1) := bigSep_univ_eq_bigSepL [0, 1] (by decide) (by decide) Φ

theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ
          (cc0_rs_sibling_exchange (Memref.whole main_arg0) (Memref.isWhole_whole _) (Memref.whole main_v1) (Memref.isWhole_whole _) cc0_scratch0 cc0_scratch1) Kt := by
  simp only [cc0_rs_sibling_exchange_eq_skeleton]; unfold cc0_rs_sibling_exchange_skel
  simp only [Prog.lift, Prog.bind_op, Prog.bind_ret, Prog.pure_eq_ret, wp_deviceId]
  unfold start mem
  rw [two fun i => (ready p c i : sProp 𝕄), two fun i => (tok p c i : sProp 𝕄), show p.owed = {1} from rfl, bigSep_singleton]
  iintro ⟨⟨⟨⟨%K, #Ht⟩, ⟨Hr0, Hr1⟩, ⟨Ht0, Ht1⟩, Hc1⟩, ⟨Hx, Hd⟩, HO⟩, Hk⟩
  icases (dst_at c _ (dev1_eq c)) $$ Hd with ⟨%f, Hd⟩
  icases (pointsTo_split_subset (Finset.subset_univ (srcM c).view.set)).1 $$ Hx with ⟨Hs, Hrest⟩
  have hput := fun k => wp_put p (pay m) (defs₀ (F := F)) 𝒱₀ none (Q := Kt) (f := k) K c 0 1 p.owed (Finset.mem_singleton_self _) rfl
    ⟨k0_dev1 c, k0_dev1_lt c⟩ (dev1_eq c) (src := srcM c) (dst := dstM) sem_send sem_recv (hsc := rfl)
    (hsrc := (View.wordExact_bits rfl).reshape _ _) (hdst := (Memref.isWhole_whole main_v1).wordExact)
    (hsem := ⟨⟨rfl, Or.inl rfl⟩, trivial⟩)
    (fs := m ((c.tc : Thread nD τ).loc main_arg0)) (fd := f) amt_put amt_send (pay_send m c) (pay_recv m c _ (dev1_eq c) f)
    (hroute c ⟨k0_dev1 c, k0_dev1_lt c⟩)
  have ht0 := fun k => wp_take_dma p (pay m) (defs₀ (F := F)) 𝒱₀ none (Q := Kt) (f := k) K c 0 (p.owed.erase 1) none_owed sem_send
    (src := dstM) (dst := srcM c) (amt_src c) (hsrc := (Memref.isWhole_whole main_v1).wordExact) (hdst := (View.wordExact_bits rfl).reshape _ _)
  have ht1 := fun k => wp_take_dma p (pay m) (defs₀ (F := F)) 𝒱₀ none (Q := Kt) (f := k) K c 1 (p.owed.erase 1) none_owed sem_recv
    (src := srcM c) (dst := dstM) rfl (hdst := (Memref.isWhole_whole main_v1).wordExact) (hsrc := (View.wordExact_bits rfl).reshape _ _)
  iapply (hput _) $$ [Hs Hd HO Ht0 Ht1]
  · isplitr; · iexact Ht
    isplitl [Hs]; · iexact Hs
    isplitl [Hd]; · iexact Hd
    isplitl [HO]; · iexact HO
    isplitl [Ht0] <;> iassumption
  iintro ⟨Hc0, HO⟩
  iapply (ht0 _) $$ [Hc0 HO Hr0]
  · isplitr; · iexact Ht
    isplitl [Hc0]; · iexact Hc0
    isplitl [HO] <;> iassumption
  iintro ⟨HO, Hz0, Hs⟩
  iapply (ht1 _) $$ [Hc1 HO Hr1]
  · isplitr; · iexact Ht
    isplitl [Hc1]; · iexact Hc1
    isplitl [HO] <;> iassumption
  iintro ⟨HO, Hz1, Hd⟩
  rw [wp_ret]
  imodintro
  iapply Hk
  isplitr [HO]
  · unfold Φ₁ fin
    isplitl [Hs Hrest Hd]
    · isplitl [Hs Hrest]
      · iapply (pointsTo_split_subset (Finset.subset_univ (srcM c).view.set)).2
        isplitl [Hs]; · iapply (pay_sent m c); iexact Hs
        iexact Hrest
      · iapply (pay_got m c); iexact Hd
    isplitl [Hz0] <;> iassumption
  · iexact HO

/-! ## Between the kernels -/

/-- The buffers after the exchange: the result holds what was received. -/
def mid (c : Dev nD) : Valuation τ sig (Elt F) := Function.update (fun b => m (c, b)) main_v1 (res m c)
/-- The buffers after the table is computed. -/
def tabled (c : Dev nD) (b : Ref sig .tc) : Buf (Elt F) ((c : Thread nD τ).loc b) := StableHlo.after (hostOps1 c) (mid m c) b

omit [FloatOps F] in
theorem mid_v1 (c : Dev nD) : mid m c main_v1 = res m c := Function.update_self ..
omit [FloatOps F] in
theorem mid_ne (c : Dev nD) (b : Ref sig .tc) (h : b ≠ main_v1) : mid m c b = m ((c.tc : Thread nD τ).loc b) :=
  Function.update_of_ne (StableHlo.devRef_ne_of_ne h) ..

theorem tabled_of (c : Dev nD) (b : Ref sig .tc) (h : b ∉ hostOps1_W) : tabled m c b = mid m c b :=
  StableHlo.after_of_writes_sub (hostOps1 c) _ (hostOps1_writes c) h

/-- The remainder by two of the device's number, as the program computes it. -/
theorem word_core : ∀ c : Dev nD, IntOp.remui .host (IntOp.divui .host c.word 1#32) 2#32 = BitVec.ofNat 32 (core c).val := by decide

/-- The program's table is the device's core index. -/
theorem table_core (c : Dev nD) : tabled m c main_v6 = tbl (F := F) c 0 := by
  unfold tabled
  after_results
  exact funext fun i => word_core c

/-- The stretch between the kernels on device `c`. -/
def between (c : Dev nD) : Pipeline.HostSeg (Ix := Unit) (Name := ℕ) (U := UU nD τ sig) (Lvl := ℕ) (pcfgs (F := F)) defs₀ 𝒱₀ L (lv p) :=
  Pipeline.HostSeg.ofOps _ _ _ _ _ (Pipeline.ucRefs τ sig) (hostOps1 c)
    (fun op h => Pipeline.sub_ucRefs op ((List.forall_iff_forall_mem.mp (hostOps1_sub c)) op h))
    (fun op h => (List.forall_iff_forall_mem.mp (hostOps1_fresh c)) op h) (mid m)
    (fun c => iprop(∃ W, owes (c.tc : Thread nD τ) (0 : CellTallies nD τ sig Unit) W))

/-- What a device runs after the exchange. -/
abbrev segs (c : Dev nD) : List (Pipeline.PerCore.Seg (pcfgs (F := F)) adm (both (tabled m) (datX m)) () defs₀ 𝒱₀ L (lv p)) :=
  [.host (between m c), .region (seg (tabled m) (datX m) (table_core m) (lv p))]

/-! ## The run -/

set_option maxRecDepth 4000 in
theorem body_obligation (c : Dev nD) : BodyObligation (datX m c) (defs₀ (F := F)) 𝒱₀ () Set.univ := fun t => by
  rw [fin_N0 t]
  simp only [Finset.univ_eq_empty (α := Fin cfg0.W), bigSep_empty]
  show iprop(iprop((start p (pay m) c ∗ mem m c) ∗ side m c) ∗ (datX m c).owesAt () t0_0.castSucc ∗ emp)
    ⊢ wp frame (wpE (defs₀ (F := F)) 𝒱₀ (c.tc : Thread nD τ) none) Set.univ
      (cc0_rs_sibling_exchange (Memref.whole main_arg0) (Memref.isWhole_whole _) (Memref.whole main_v1) (Memref.isWhole_whole _) cc0_scratch0 cc0_scratch1)
      (fun _ => iprop(iprop(Φ₁ m c ∗ side m c) ∗ (datX m c).owesAt () t0_0.succ ∗ emp))
  unfold Dat.owesAt Pipeline.owesWithin
  rw [show (datX m c).owed t0_0.castSucc = due p p.owed c from rfl, show (datX m c).owed t0_0.succ = 0 from rfl]
  iintro ⟨⟨⟨Hs, Hm⟩, Hside⟩, ⟨%W, %hW, HO⟩, -⟩
  iapply (sound_body m c _)
  isplitl [Hs Hm HO]
  · isplitl [Hs]; · iexact Hs
    isplitl [Hm]; · iexact Hm
    unfold owing
    iexists W; iexact HO
  · unfold owing
    iintro ⟨HΦ, ⟨%W', HO⟩⟩
    rw [due_empty]
    isplitl [HΦ Hside]
    · isplitl [HΦ] <;> iassumption
    isplitl
    · iexists W'
      isplitr; · ipureintro; exact fun _ _ => Or.inl trivial
      iexact HO
    · iempintro

theorem ownSemFacts : Pipeline.OwnSemFacts cfg0.spec p.sem := by decide

omit [FloatOps F] in
/-- The unscoped buffers of a device: the argument, what the exchange writes, and the others. -/
theorem parts (c : Dev nD) (V : (b : Ref sig .tc) → Buf (Elt F) ((c : Thread nD τ).loc b)) : (unscopedBufs c V : sProp 𝕄)
    = iprop(((c.tc : Thread nD τ).loc main_arg0 ↦{fullShare} V main_arg0) ∗ ((c.tc : Thread nD τ).loc main_v1 ↦{fullShare} V main_v1)
      ∗ bigSep others fun b => (c.tc : Thread nD τ).loc b ↦{fullShare} V b) := by
  unfold unscopedBufs
  rw [show (Finset.univ.filter fun b : Ref sig .tc => ¬ b.isScoped) = insert main_arg0 (insert main_v1 others) from by decide,
    bigSep_insert (by decide), bigSep_insert (by decide)]
  rfl

abbrev memS (c : Dev nD) : sProp 𝕄 := iprop(mem m c ∗ kept m c)
abbrev finS (c : Dev nD) : sProp 𝕄 := iprop(fin m c ∗ kept m c)

omit [FloatOps F] in
theorem deal : (bigSep Finset.univ fun c : Dev nD => unscopedBufs c (fun b => m ((c.tc : Thread nD τ).loc b)) : sProp 𝕄) ⊢ bigSep Finset.univ (memS m) := by
  rw [bigSep_congr fun c _ => parts c _]
  unfold memS mem kept
  simp only [bigSep_sep']
  iintro ⟨Hx, Ho, Hs⟩
  isplitr [Hs]
  · isplitl [Hx]; · iexact Hx
    iapply (show (bigSep Finset.univ fun c : Dev nD => (c.tc : Thread nD τ).loc main_v1 ↦{fullShare} m ((c.tc : Thread nD τ).loc main_v1) : sProp 𝕄)
      ⊢ bigSep Finset.univ fun c : Dev nD => iprop(∃ f, ((sib c).tc : Thread nD τ).loc main_v1 ↦{fullShare} f) from by
      rw [bigSep_univ_equiv (perm p 1) (fun c : Dev nD => ((c.tc : Thread nD τ).loc main_v1 ↦{fullShare} m ((c.tc : Thread nD τ).loc main_v1) : sProp 𝕄))]
      refine bigSep_mono fun c _ => ?_
      show (((sib c).tc : Thread nD τ).loc main_v1 ↦{fullShare} m (((sib c).tc : Thread nD τ).loc main_v1) : sProp 𝕄) ⊢ _
      iintro H; iexists _; iexact H)
    iexact Ho
  · iexact Hs

omit [FloatOps F] in
/-- After the exchange a device's buffers are at `mid`. -/
theorem to_mid (c : Dev nD) : finS m c ⊢ unscopedBufs c (fun b => mid m c b) := by
  rw [parts, mid_v1, mid_ne m c main_arg0 (by decide)]
  unfold finS fin kept
  rw [bigSep_congr fun b hb => by rw [← mid_ne m c b (fun h => absurd (h ▸ hb) (by decide))]]
  iintro ⟨⟨Ha, Hr⟩, Hs⟩
  isplitl [Ha]; · iexact Ha
  isplitl [Hr] <;> iassumption

/-- What is read of device `c`'s memory in the end. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_v7) = added (core c) (m ((c.tc : Thread nD τ).loc main_arg0)) (res m c)

/-- The end: the argument and the sum are among the buffers held. -/
theorem at_end (c : Dev nD) : unscopedBufs c (after (tabled m) c) ⊢ (iprop(iprop(((c.tc : Thread nD τ).loc main_arg0 ↦{fullShare} m ((c.tc : Thread nD τ).loc main_arg0))
      ∗ ((c.tc : Thread nD τ).loc main_v7 ↦{fullShare} added (core c) (m ((c.tc : Thread nD τ).loc main_arg0)) (res m c)))) : sProp 𝕄) := by
  have h0 : tabled m c main_arg0 = m ((c.tc : Thread nD τ).loc main_arg0) := (tabled_of m c _ (by decide)).trans (mid_ne m c _ (by decide))
  have h1 : tabled m c main_v1 = res m c := (tabled_of m c _ (by decide)).trans (mid_v1 m c)
  have hs : (bigSep others fun b => (c.tc : Thread nD τ).loc b ↦{fullShare} after (tabled m) c b : sProp 𝕄)
      = iprop(((c.tc : Thread nD τ).loc main_v7 ↦{fullShare} after (tabled m) c main_v7) ∗ bigSep (others.erase main_v7) fun b => (c.tc : Thread nD τ).loc b ↦{fullShare} after (tabled m) c b) := by
    conv_lhs => rw [show others = insert main_v7 (others.erase main_v7) from by decide]
    exact bigSep_insert (by decide)
  rw [parts, hs, after_v7, after_ne _ c main_arg0 (by decide), h0, h1]
  iintro ⟨Ha, -, Hs, -⟩
  isplitl [Ha] <;> iassumption

theorem cells_tab (c : Dev nD) : ∀ q : Fin 2, Pipeline.specSems (Pipeline.pinD (pcfgs (F := F)) adm c q).spec = semTab q
  | ⟨0, _⟩ => rfl
  | ⟨1, _⟩ => rfl

/-- No two pipelines stage through one semaphore. -/
theorem cells_inj : Function.Injective (Pipeline.PerCore.cellOf (nD := nD) (τ := τ) (Pipeline.pinD (pcfgs (F := F)) adm)) :=
  Pipeline.PerCore.cellOf_injective _ (fun c q => Pipeline.specSemsDistinct_of_nodup _ ((cells_tab (F := F) c q).symm ▸ semsDistinct q)) fun c q q' h =>
    Pipeline.specSemsDisjoint_of_disjoint _ _
      ((cells_tab (F := F) c q).symm ▸ (cells_tab (F := F) c q').symm ▸ fun _ hd hd' => List.forall_iff_forall_mem.1 (semsDisjoint q q' h) _ hd hd')

/-- The stretch between the kernels starts where the exchange ends. -/
theorem enter (c : Dev nD) : iprop(unscopedBufs c (fun b => mid m c b) ∗ ∃ W, owes (c.tc : Thread nD τ) (0 : CellTallies nD τ sig Unit) W)
    ⊢ (between m c).pre c := by
  rw [Pipeline.unscopedBufs_held (Ix := Unit) (Name := ℕ) (U := UU nD τ sig) (Lvl := ℕ) c (mid m c)]
  exact BI.Entails.refl _

theorem between_post (c : Dev nD) : (between m c).post c = iprop(StableHlo.held (c.tc : Thread nD τ) (Pipeline.ucRefs τ sig) (StableHlo.after (hostOps1 c) (mid m c))
    ∗ ∃ W, owes (c.tc : Thread nD τ) (0 : CellTallies nD τ sig Unit) W) := rfl

/-- And ends where the second kernel starts. -/
theorem leave (c : Dev nD) : (between m c).post c
    ⊢ iprop(unscopedBufs c (tabled m c) ∗ ∃ W, owes (c.tc : Thread nD τ) (0 : CellTallies nD τ sig Unit) W) := by
  rw [between_post, ← Pipeline.unscopedBufs_held (Ix := Unit) (Name := ℕ) (U := UU nD τ sig) (Lvl := ℕ) c (StableHlo.after (hostOps1 c) (mid m c))]
  exact BI.Entails.refl _

theorem chains (c : Dev nD) : Pipeline.PerCore.Seg.ChainsAt c
    (fun c => iprop(unscopedBufs c (fun b => mid m c b) ∗ ∃ W, owes (c.tc : Thread nD τ) (0 : CellTallies nD τ sig Unit) W)) (segs m c)
    (fun c => iprop(unscopedBufs c (after (tabled m) c) ∗ ∃ W, owes (c.tc : Thread nD τ) (0 : CellTallies nD τ sig Unit) W)) :=
  ⟨enter m c, leave m c, BI.Entails.refl _⟩

/-- For any float values, from any memory with zero counters: every fair execution ends, with each device's argument
    unchanged, its result the sum of its own half and its sibling's, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) pcfgs adm (both (tabled m) (datX m)) cells_inj defs₀ 𝒱₀ (x := (0 : Fin 2))
    winFacts0.to₀ ownSemFacts rfl rfl m ρ main (segs m) (fun _ => rfl)
    (fun _ => show [(1 : Fin 2)].Nodup by decide) (fun _ => show (0 : Fin 2) ∉ [(1 : Fin 2)] by decide)
    (fun c => (body_obligation m c).loose) (fun _ => rfl) (fun _ => rfl) (memS m) (finS m)
    (fun c => iprop(unscopedBufs c (fun b => mid m c b) ∗ ∃ W, owes (c.tc : Thread nD τ) (0 : CellTallies nD τ sig Unit) W))
    (fun c => unscopedBufs c (after (tabled m) c)) (deal m)
    (fun c => by
      show _ ⊢ iprop((start p (pay m) c ∗ mem m c) ∗ side m c)
      unfold side memS
      iintro ⟨Hs, ⟨Hm, Hv⟩, Hr⟩
      isplitl [Hs Hm]
      · isplitl [Hs] <;> iassumption
      isplitl [Hv] <;> iassumption)
    (fun c => by
      rw [two fun i => (zero p c i : sProp 𝕄)]
      show iprop(Φ₁ m c ∗ side m c) ⊢ iprop(finS m c ∗ iprop(zero p c 0 ∗ zero p c 1) ∗ Pipeline.scopedRest cfg0.spec c)
      unfold Φ₁ side finS
      iintro ⟨⟨Hf, Hz⟩, Hv, Hr⟩
      isplitl [Hf Hv]
      · isplitl [Hf] <;> iassumption
      isplitl [Hz] <;> iassumption)
    (fun c => by
      iintro ⟨Hf, HO⟩; imodintro
      isplitl [Hf]; · iapply (to_mid m c); iexact Hf
      iexact HO)
    (chains m)
    (QY m)
    (fun c s' => (sep_mono_left (at_end m c)).trans (read_two s'))
    (fun s h hs => ⟨h, sem_eq_zero_of_scoped (by decide) hs⟩)

end Cert.PairSumRun
-- ==== Proof.PairSumValue.lean ====
/-
# The exchange between the two cores of a chip and the addition: the value

Over the extended reals: the kernels' result on device `c`, index by index, against the plain statement over whole arrays,
which sums over the two cores of a chip.
-/
module

public import proofs.«01_k».proof.Proof.PairSumRun
public import proofs.«01_k».proof.Proof.Gen.PairSumRefIdeal.Run
public import Idealize.ShloMosaic.Lib.IdealHost
public import Idealize.ShloMosaic.Lib.ValueIdxRank6

@[expose] public section

noncomputable section

namespace Cert.PairSumRun

open Idealize.ShloMosaic Idealize.ShloMosaic.TcCoe Idealize.ShloMosaic.ValueIdx Idealize.SL.Sem
open Cert.PairSumIdeal Cert.PairSumIdeal.Gen

section Ref

open Cert.PairSumRefIdeal Cert.PairSumRefIdeal.Gen

/-- The reference's sum over the two cores of a chip: chip, half, block, row, lane. -/
abbrev overCores (X : S16x4x86016x128.Idx → Elt Ideal .f32) : S4x2x4x86016x128.Idx → Elt Ideal .f32 :=
  Host.reduceAdd (F := Ideal) (shapeCast S4x2x2x4x86016x128 X shapeCasts_S16x4x86016x128_S4x2x2x4x86016x128) (constant (F := Ideal) Cert.PairSumRefIdeal.S_ .f32 0x00000000#32)
    reducesTo_S4x2x2x4x86016x128_S4x2x4x86016x128_d1 h_S_

/-- The reference's term. -/
abbrev pairSum (X : S16x4x86016x128.Idx → Elt Ideal .f32) : S32x86016x128.Idx → Elt Ideal .f32 :=
  shapeCast S32x86016x128 (overCores X) shapeCasts_S4x2x4x86016x128_S32x86016x128

theorem reduces_cores : S4x2x2x4x86016x128.Reduces [1] S4x2x4x86016x128 := by decide

theorem overCores_apply (X : S16x4x86016x128.Idx → Elt Ideal .f32) (a : Fin 4) (h : Fin 2) (j : Fin 4) (r : Fin 86016) (l : Fin 128) :
    overCores X (ix5 a h j r l) = ∑ k : Fin 2, (X (ix4 (⟨4 * a.val + 2 * k.val + h.val, by omega⟩ : Fin 16) j r l) : EReal) := by
  refine (Ideal.hostReduceAdd_single reducesTo_S4x2x2x4x86016x128_S4x2x4x86016x128_d1 reduces_cores _ _ (ix5 a h j r l)).trans ?_
  refine (congrArg (· + _) Ideal.ofBits_zero_f32).trans ((zero_add _).trans (Finset.sum_congr rfl fun k _ => ?_))
  have hk : reduces_cores.lift (ix5 a h j r l) k = ix6 a (k : Fin 2) h j r l := by
    funext b; apply Fin.ext; fin_cases b <;> rfl
  rw [hk]
  exact shapeCast_apply _ _ (ix6 a (k : Fin 2) h j r l) _ (by
    rw [Shape.rowMajor_val_six, Shape.rowMajor_val_four]
    show (((4 * a.val + 2 * (k : Fin 2).val + h.val) * 4 + j.val) * 86016 + r.val) * 128 + l.val
      = ((((a.val * 2 + (k : Fin 2).val) * 2 + h.val) * 4 + j.val) * 86016 + r.val) * 128 + l.val
    omega)

/-- The reference at an index: row `n` is block `n % 4` of device `n / 4`, that is of half `n / 4 % 2` of chip `n / 8`. -/
theorem pairSum_apply (X : S16x4x86016x128.Idx → Elt Ideal .f32) (n : Fin 32) (r : Fin 86016) (l : Fin 128) :
    pairSum X (ix3 n r l) = ∑ k : Fin 2, (X (ix4 (⟨4 * (n.val / 8) + 2 * k.val + n.val / 4 % 2, by omega⟩ : Fin 16)
      (⟨n.val % 4, by omega⟩ : Fin 4) r l) : EReal) := by
  unfold pairSum
  rw [shapeCast_apply _ _ (ix3 n r l) (ix5 (⟨n.val / 8, by omega⟩ : Fin 4) (⟨n.val / 4 % 2, by omega⟩ : Fin 2) (⟨n.val % 4, by omega⟩ : Fin 4) r l)
      (by rw [Shape.rowMajor_val_five, Shape.rowMajor_val_three]
          show (((n.val / 8 * 2 + n.val / 4 % 2) * 4 + n.val % 4) * 86016 + r.val) * 128 + l.val = (n.val * 86016 + r.val) * 128 + l.val
          omega)]
  exact overCores_apply X _ _ _ _ _

end Ref

variable (m : (ℓ : Loc nD τ sig) → Buf (Elt Ideal) ℓ)

/-- What device `c` sends, at an index: the half that is not at its own core index. -/
theorem sent_apply (c : Dev nD) (j : Fin 4) (r : Fin 86016) (l : Fin 128) :
    sent m c (ix3 j r l) = m ((c.tc : Thread nD τ).loc main_arg0) (ix4 ⟨1 - c.val % 2, by omega⟩ j r l) := by
  have h : sent m c = shapeCast S4x86016x128 (fun z => m ((c.tc : Thread nD τ).loc main_arg0)
      ((Rect.unit (s := S2x4x86016x128) (k0_off1 c) S1x4x86016x128.size (k0_off1_inb c)).emb z)) (squeezes_S1x4x86016x128_S4x86016x128).numel_eq := rfl
  refine (congrFun h _).trans ((shapeCast_apply _ _ (ix3 j r l) (ix4 (0 : Fin 1) j r l)
    (by rw [Shape.rowMajor_val_four, Shape.rowMajor_val_three]
        show ((0 * 4 + j.val) * 86016 + r.val) * 128 + l.val = (j.val * 86016 + r.val) * 128 + l.val
        omega)).trans ?_)
  refine congrArg (m ((c.tc : Thread nD τ).loc main_arg0)) (funext fun b => Fin.ext ?_)
  refine (Rect.emb_apply _ _ _).trans ?_
  refine (congrArg (· + 1 * (ix4 (0 : Fin 1) j r l b).val) (congrFun (k0_off1_eq c) b)).trans ?_
  fin_cases b <;> simp

/-- A sum over the two cores of a chip, begun at either one. -/
theorem sum_cores (k : Fin 2) (f : Fin 2 → EReal) : f k + f ⟨1 - k.val, by omega⟩ = ∑ i : Fin 2, f i := by
  rw [Fin.sum_univ_two]
  fin_cases k
  · rfl
  · exact add_comm _ _

/-- Device `c`'s result is its block of the reference's. -/
theorem sum_block (X : (⟨4, ![16, 4, 86016, 128]⟩ : Shape).Idx → Elt Ideal .f32)
    (hm : ∀ c : Dev nD, m ((c.tc : Thread nD τ).loc main_arg0) = Layout.block ⟨4, ![2, 4, 86016, 128]⟩ ⟨4, ![16, 4, 86016, 128]⟩ 0 8 c X)
    (c : Dev nD) : added (F := Ideal) (core c) (m ((c.tc : Thread nD τ).loc main_arg0)) (res m c)
      = Layout.block ⟨3, ![4, 86016, 128]⟩ ⟨3, ![32, 86016, 128]⟩ 0 8 c (pairSum X) := by
  have hc : c.val < 8 := c.isLt
  have H : ∀ (j : Fin 4) (r : Fin 86016) (l : Fin 128), added (F := Ideal) (core c) (m ((c.tc : Thread nD τ).loc main_arg0)) (res m c) (ix3 j r l)
      = Layout.block ⟨3, ![4, 86016, 128]⟩ ⟨3, ![32, 86016, 128]⟩ 0 8 c (pairSum X) (by decide) (ix3 j r l) := by
    intro j r l
    have hi : ∀ h : Layout.Tiles ⟨3, ![4, 86016, 128]⟩ ⟨3, ![32, 86016, 128]⟩ 0 8,
        h.idx c (ix3 j r l) = ix3 (⟨c.val * 4 + j.val, by omega⟩ : Fin 32) r l := fun h => by
      funext b; apply Fin.ext; rw [Layout.Tiles.idx_val]; fin_cases b <;> rfl
    have hs : ∀ (d : Dev nD) (x : Fin 2) (k : Fin 2) (hk : 2 * d.val + x.val = 4 * (c.val / 2) + 2 * k.val + c.val % 2),
        ∀ h : Layout.Tiles ⟨4, ![2, 4, 86016, 128]⟩ ⟨4, ![16, 4, 86016, 128]⟩ 0 8,
        h.idx d (ix4 x j r l)
          = ix4 (⟨4 * ((c.val * 4 + j.val) / 8) + 2 * k.val + (c.val * 4 + j.val) / 4 % 2, by omega⟩ : Fin 16)
            (⟨(c.val * 4 + j.val) % 4, Nat.mod_lt _ (by decide)⟩ : Fin 4) r l := fun d x k hk h => by
      funext b; apply Fin.ext; rw [Layout.Tiles.idx_val]
      fin_cases b
      · show d.val * 2 + x.val = 4 * ((c.val * 4 + j.val) / 8) + 2 * k.val + (c.val * 4 + j.val) / 4 % 2
        omega
      · show j.val = (c.val * 4 + j.val) % 4; omega
      · rfl
      · rfl
    have own : m ((c.tc : Thread nD τ).loc main_arg0) (ix4 (core c) j r l)
        = X (ix4 (⟨4 * ((c.val * 4 + j.val) / 8) + 2 * (core c).val + (c.val * 4 + j.val) / 4 % 2, by have := (core c).isLt; omega⟩ : Fin 16)
            (⟨(c.val * 4 + j.val) % 4, Nat.mod_lt _ (by decide)⟩ : Fin 4) r l) := by
      rw [hm c, Layout.block_apply, hs c (core c) (core c) (by show 2 * c.val + c.val % 2 = 4 * (c.val / 2) + 2 * (c.val % 2) + c.val % 2; omega)]
    have other : res m c (ix3 j r l)
        = X (ix4 (⟨4 * ((c.val * 4 + j.val) / 8) + 2 * (1 - (core c).val) + (c.val * 4 + j.val) / 4 % 2, by omega⟩ : Fin 16)
            (⟨(c.val * 4 + j.val) % 4, Nat.mod_lt _ (by decide)⟩ : Fin 4) r l) := by
      refine (sent_apply m (sib c) j r l).trans ?_
      rw [hm (sib c), Layout.block_apply, hs (sib c) _ ⟨1 - (core c).val, by omega⟩ (by
        show 2 * (4 * (c.val / 4) + 2 * (c.val / 2 % 2) + 1 - c.val % 2) + (1 - (4 * (c.val / 4) + 2 * (c.val / 2 % 2) + 1 - c.val % 2) % 2)
          = 4 * (c.val / 2) + 2 * (1 - c.val % 2) + c.val % 2
        omega)]
    refine (congrArg₂ (fun x y : EReal => x + y) own other).trans ?_
    rw [Layout.block_apply, hi, pairSum_apply]
    exact sum_cores (core c) fun k : Fin 2 => (X (ix4 (⟨4 * ((c.val * 4 + j.val) / 8) + 2 * k.val + (c.val * 4 + j.val) / 4 % 2, by omega⟩ : Fin 16)
            (⟨(c.val * 4 + j.val) % 4, Nat.mod_lt _ (by decide)⟩ : Fin 4) r l) : EReal)
  funext i
  rw [eq_ix3 (n0 := 4) (n1 := 86016) (n2 := 128) i]
  exact H _ _ _

end Cert.PairSumRun
-- ==== Proof.PairSumClaims.lean ====
/-
# The exchange between the two cores of a chip and the addition: the claims
-/
module

public import proofs.«01_k».proof.Proof.PairSumValue
public import proofs.«01_k».proof.Defs
public import proofs.«01_k».proof.Proof.Gen.PairSum
public import proofs.«01_k».proof.Proof.Gen.PairSum.Launch
public import proofs.«01_k».proof.Proof.Gen.PairSumRef.Run
public import Idealize.ShloMosaic.Lib.Quiescent

@[expose] public section

noncomputable section

namespace Cert.PairSumRun

open Idealize.ShloMosaic Idealize.ShloMosaic.TcCoe Idealize.SL.Sem
open Cert.PairSum.Gen Cert.PairSumRef.Gen Cert.PairSumIdeal.Gen Cert.PairSumRefIdeal.Gen

/-- The kernel's two printings run the same bodies, label by label. -/
theorem same_defs₀ : Cert.PairSum.defs₀ (F := Bits) = Cert.PairSumIdeal.defs₀ (F := Bits) :=
  congrArg Defs.onTc (funext fun l => funext fun a => by
    match l, a with
    | ⟨0, _⟩, a => rfl
    | ⟨1, _⟩, a => rfl)
/-- And the same pipelines. -/
theorem same_pcfgs : Cert.PairSum.pcfgs (F := Bits) = Cert.PairSumIdeal.pcfgs (F := Bits) := rfl

section Transfer

open Cert.PairSumIdeal

/-- The kernel's program over given pipelines: the exchange, the table, the addition. -/
def mainOf (pcs : Fin 2 → Pipeline.PCfg sig Λ₀ (Elt Bits)) :
    Dev nD → Prog (TpuEff nD τ sig (Elt Bits) (Pipeline.Sig Λ₀ (Fin 2) fun q => (pcs q).Adm) .tc) PUnit := fun c =>
  Pipeline.chain [Prog.lift (.customCall (Pipeline.entry 0) ()), StableHlo.seq (Cert.PairSumIdeal.Gen.hostOps1 c), Prog.lift (.customCall (Pipeline.entry 1) ())]

/-- A run over some pipelines is one over equal ones. -/
theorem transfer {pcs pcs' : Fin 2 → Pipeline.PCfg sig Λ₀ (Elt Bits)} (h : pcs = pcs') {d d' : Defs nD τ sig (Elt Bits) Λ₀} (hd : d = d')
    (s : MemSt nD τ sig (Elt Bits)) (Q : _ → Prop)
    (H : θ_run (Pipeline.defs pcs' d') (onTc (τ := τ) (mainOf pcs')) s Q) : θ_run (Pipeline.defs pcs d) (onTc (τ := τ) (mainOf pcs)) s Q := by
  subst h; subst hd; exact H

end Transfer

theorem main_eq : Cert.PairSum.main (F := Bits) = mainOf Cert.PairSum.pcfgs := funext fun c => Cert.PairSum.Gen.main_chain c
theorem main_ideal_eq : Cert.PairSumIdeal.main (F := Bits) = mainOf Cert.PairSumIdeal.pcfgs := funext fun c => Cert.PairSumIdeal.Gen.main_chain c

theorem frame_kernel : Cert.quiescent_PairSum := fun m ρ _ => by
  have h := run_main (F := Bits) m ρ
  rw [main_ideal_eq] at h
  rw [main_eq]
  exact (transfer same_pcfgs same_defs₀ _ _ ((θ_run Cert.PairSumIdeal.defs _ _).mono (fun _ h => ⟨fun c => (h.1 c).1, h.2⟩) h))
theorem frame_kernel_ideal : Cert.quiescent_PairSumIdeal := fun m ρ _ =>
  (θ_run Cert.PairSumIdeal.defs _ _).mono (fun _ h => ⟨fun c => (h.1 c).1, h.2⟩) (run_main (F := Ideal) m ρ)
theorem frame_ref : Cert.quiescent_PairSumRef := fun m ρ _ =>
  (θ_run Cert.PairSumRef.defs _ _).mono (fun r h => ⟨fun c => (h c).2, sem_eq_zero_of_no_sems (by decide) r.2⟩) (Cert.PairSumRef.Value.run (F := Bits) m ρ)
theorem frame_ref_ideal : Cert.quiescent_PairSumRefIdeal := fun m ρ _ =>
  (θ_run Cert.PairSumRefIdeal.defs _ _).mono (fun r h => ⟨fun c => (h c).2, sem_eq_zero_of_no_sems (by decide) r.2⟩) (Cert.PairSumRefIdeal.Value.run (F := Ideal) m ρ)

/-- Over the extended reals: every device ends with its part of the reference's sum. -/
theorem algebraic : Cert.algebraic_PairSumIdeal_PairSumRefIdeal := fun m ρ m' ρ' _ hm =>
  ⟨_, (θ_run Cert.PairSumIdeal.defs _ _).mono (fun _ h c => ⟨(h.1 c).2.trans (sum_block m _ hm c), (h.1 c).1⟩) (run_main (F := Ideal) m ρ),
    (θ_run Cert.PairSumRefIdeal.defs _ _).mono (fun _ h => h 0) (Cert.PairSumRefIdeal.Value.run (F := Ideal) m' ρ')⟩

end Cert.PairSumRun
-- ==== Proof.ChipSumRegion.lean ====
/-
# The sum over the four chips: one region

The pipelined kernel that adds the four blocks of its operand, from any contents of its device's buffers: what its body
leaves in the result's staging buffer, the region as a segment of @main, and the result's array when all 42 points are
written back.
-/
module

public import proofs.«01_k».proof.Proof.Exchange
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import Idealize.ShloMosaic.Lib.Pipeline.Value
public import Idealize.ShloMosaic.Lib.Pipeline.FrameBody
public import Idealize.ShloMosaic.Lib.Pipeline.RegionsLoop
public import Idealize.ShloMosaic.Lib.ValueIdxRank6

@[expose] public section

set_option Elab.async false

noncomputable section

namespace Cert.ChipSumRun

open Cert.ChipSumIdeal Cert.ChipSumIdeal.Gen Cert.Exchange

open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

-- the contents of every device's buffers when the region is entered
variable (V : (c : Dev nD) → (b : Ref sig .tc) → Buf (Elt F) ((c : Thread nD τ).loc b))

/-! ## The body -/

/-- The whole of the result's block; one of the four blocks of the operand's. -/
abbrev rOut : Rect S2048x128 := Rect.unit (s := S2048x128) ![0, 0] S2048x128.size inb_S2048x128_S2048x128_0_0
abbrev rIn (j : ℕ) (h : ∀ a, (![j, 0, 0] : Fin 3 → ℕ) a + S1x2048x128.size a ≤ S4x2048x128.size a) : Rect S4x2048x128 :=
  Rect.unit (s := S4x2048x128) ![j, 0, 0] S1x2048x128.size h

/-- What the body stores of the operand's staged block. -/
def summed (x : Vec F S4x2048x128 .f32) : Vec F S2048x128 .f32 :=
  k1_pay1 (View.ld x (rIn 0 inb_S4x2048x128_S1x2048x128_0_0_0)) (View.ld x (rIn 1 inb_S4x2048x128_S1x2048x128_1_0_0))
    (View.ld x (rIn 2 inb_S4x2048x128_S1x2048x128_2_0_0)) (View.ld x (rIn 3 inb_S4x2048x128_S1x2048x128_3_0_0))
/-- What it leaves in the result's staging buffer. -/
def left (x : Vec F S4x2048x128 .f32) : Vec F S2048x128 .f32 := View.canon [⟨rOut, summed x⟩]

theorem cover (p : Vec F S2048x128 .f32) (y : S2048x128.Idx) : ∃ pc ∈ ([⟨rOut, p⟩] : List (View.Piece (Elt F) S2048x128 .f32)), y ∈ pc.1.set :=
  View.cover_of_tiled [⟨rOut, p⟩] S2048x128.size (by rfl) y

set_option maxHeartbeats 1000000 in
/-- From both staging buffers the body runs to its return, the operand's as it was and the result's at `left`. -/
theorem sound_sum (c : Dev nD) (E : Set ℕ) (i : grid1.Coords) (M0 : Memref sig .tc .vmem S4x2048x128 .f32) (h0 : M0.IsWhole)
    (M1 : Memref sig .tc .vmem S2048x128 .f32) (h1 : M1.IsWhole) (x : Vec F S4x2048x128 .f32) (K : PUnit → sProp 𝕄) :
    iprop(owns (c : Thread nD τ) M0 fullShare x ∗ (∃ d, owns (c : Thread nD τ) M1 fullShare d)
        ∗ (iprop(owns (c : Thread nD τ) M0 fullShare x ∗ owns (c : Thread nD τ) M1 fullShare (left x)) -∗ K ⟨⟩))
      ⊢ wp frame (wpE (defs₀ (F := F)) Variants.none c none) E (cc1_rs_sum_chips i M0 h0 M1 h1) K := by
  simp only [cc1_rs_sum_chips_eq_skeleton]; unfold cc1_rs_sum_chips_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The proof data -/

/-- The operand's block at a point. -/
abbrev blkIn (c : Dev nD) (t : Fin cfg1.N) : Vec F S4x2048x128 .f32 := ((cfg1.win 0).blk t).view.read (Elt F) (V c main_v1)

/-- The arrays at `V`; after the body the operand's buffer at its block and the result's at `left` of it; nothing scoped is
    left over and nothing is owed. -/
def datS (c : Dev nD) : Dat τ (Elt F) Unit ℕ (UU nD τ sig) ℕ cfg1 c where
  A w := V c (Pipeline.arrRef spec1 w)
  after w t := match w with
    | ⟨0, _⟩ => blkIn V c t
    | ⟨1, _⟩ => left (blkIn V c t)
  Φ _ := Pipeline.scopedRest (Ix := Unit) (Name := ℕ) (U := UU nD τ sig) (Lvl := ℕ) (Val := Elt F) spec1 c
  q _ := fullShare
  owed _ := 0

theorem after_in (c : Dev nD) (t : Fin cfg1.N) : (datS V c).after 0 t = blkIn V c t := by dsimp only [datS]
theorem after_out (c : Dev nD) (t : Fin cfg1.N) : (datS V c).after 1 t = left (blkIn V c t) := by dsimp only [datS]
theorem before_in (c : Dev nD) (t : Fin cfg1.N) (d) : (datS V c).before 0 t d = blkIn V c t :=
  ((datS V c).before_in_eq_fetched 0 rfl (fun _ => rfl) (fun _ _ _ => rfl) (fun t => by rw [after_in]; rfl) t d).trans rfl

theorem row (t : Fin cfg1.N) : defs₀ (F := F) .tc cfg1.body (cfg1.bodyArgs t (cfg1.slots t)) = bodyAt1 t := by
  unfold defs₀; rw [Defs.onTc_tc]

theorem body_sum (c : Dev nD) : BodyObligation (datS V c) (defs₀ (F := F)) Variants.none () Set.univ := fun t => by
  rw [bigSep_W1, bigSep_W1, row]
  simp only [before_in]
  rw [after_in, after_out, show (datS V c).Φ t.succ = (datS V c).Φ t.castSucc from rfl,
    show (datS V c).owesAt () t.succ = (datS V c).owesAt () t.castSucc from rfl]
  iintro ⟨HΦ, Ho, ⟨%d0, H0⟩, ⟨%d1, H1⟩⟩
  iapply (sound_sum c Set.univ (grid1.coords t) _ _ _ _ (blkIn V c t) _)
  isplitl [H0]; · iexact H0
  isplitl [H1]; · iexists _; iexact H1
  iintro ⟨H0, H1⟩
  isplitl [HΦ]; · iexact HΦ
  isplitl [Ho]; · iexact Ho
  isplitl [H0] <;> iassumption

/-! ## The array after the region -/

/-- The sum of the four blocks of an array, in the kernel's order. -/
def total (x : S4x86016x128.Idx → Elt F .f32) : S86016x128.Idx → Elt F .f32 := fun i =>
  FloatOps.addf (FloatOps.addf (FloatOps.addf (x (ix3 (0 : Fin 4) (i 0) (i 1))) (x (ix3 (1 : Fin 4) (i 0) (i 1)))) (x (ix3 (2 : Fin 4) (i 0) (i 1))))
    (x (ix3 (3 : Fin 4) (i 0) (i 1)))

theorem hz : (![0, 0] : Fin 2 → Nat) = fun _ => 0 := funext fun a => by fin_cases a <;> rfl

omit [FloatOps F] in
/-- One of the four blocks, at an index. -/
theorem piece (x : Vec F S4x2048x128 .f32) (j : Fin 4) (h) (r : Fin 2048) (l : Fin 128) :
    shapeCast S2048x128 (View.ld x (rIn j.val h)) shapeCasts_S1x2048x128_S2048x128 (ix2 r l) = x (ix3 j r l) := by
  refine (shapeCast_apply _ _ (ix2 r l) (ix3 (0 : Fin 1) r l)
    (by rw [Shape.rowMajor_val_three, Shape.rowMajor_val_two]
        show (0 * 2048 + r.val) * 128 + l.val = r.val * 128 + l.val
        omega)).trans ?_
  show x ((rIn j.val h).emb (ix3 (0 : Fin 1) r l)) = _
  refine congrArg x ?_
  funext b; apply Fin.ext
  refine (Rect.emb_apply _ _ _).trans ?_
  fin_cases b <;> simp

/-- What the body leaves, at an index. -/
theorem left_apply (x : Vec F S4x2048x128 .f32) (r : Fin 2048) (l : Fin 128) :
    left x (ix2 r l) = FloatOps.addf (FloatOps.addf (FloatOps.addf (x (ix3 (0 : Fin 4) r l)) (x (ix3 (1 : Fin 4) r l))) (x (ix3 (2 : Fin 4) r l))) (x (ix3 (3 : Fin 4) r l)) := by
  unfold left
  rw [View.canon_unit_zero hz]
  unfold summed k1_pay1
  rw [← piece x 0 inb_S4x2048x128_S1x2048x128_0_0_0, ← piece x 1 inb_S4x2048x128_S1x2048x128_1_0_0, ← piece x 2 inb_S4x2048x128_S1x2048x128_2_0_0,
    ← piece x 3 inb_S4x2048x128_S1x2048x128_3_0_0]
  rfl

/-- The blocks of both windows at a point: the operand's rows are the result's. -/
theorem idx_facts : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 := (by decide +kernel : ∀ t : Fin grid1.N, _)
theorem idx_onto : ∀ q : Fin 42, ∃ t : Fin cfg1.N, win1_1.index t = ![q.val, 0] :=
  (by decide +kernel : ∀ q : Fin 42, ∃ t : Fin grid1.N, win1_1.index t = ![q.val, 0])

/-- What a point writes back is its block of the sum. -/
theorem flushed_eq (c : Dev nD) (t : Fin cfg1.N) : (datS V c).flushed 1 t = ((cfg1.win 1).blk t).view.read (Elt F) (total (V c main_v1)) := by
  show (cfg1.win 1).cut (grid1.coords t) ((datS V c).after 1 t) = _
  rw [after_out]
  obtain ⟨e0, e1, e2, e3⟩ := idx_facts t
  have K (r : Fin 2048) (l : Fin 128) (z : S86016x128.Idx) (he : ∀ j : Fin 4, ((cfg1.win 0).blk t).view.emb (ix3 j r l) = ix3 j (z 0) (z 1)) :
      left (blkIn V c t) (ix2 r l) = total (V c main_v1) z := by
    have hb (j : Fin 4) : blkIn V c t (ix3 j r l) = (V c main_v1 : S4x86016x128.Idx → Elt F .f32) (ix3 j (z 0) (z 1)) :=
      congrArg (V c main_v1 : S4x86016x128.Idx → Elt F .f32) (he j)
    rw [left_apply, hb 0, hb 1, hb 2, hb 3]
    rfl
  have H (r : Fin 2048) (l : Fin 128) : left (blkIn V c t) (ix2 r l) = total (V c main_v1) (((cfg1.win 1).blk t).view.emb (ix2 r l)) :=
    K r l _ fun j => by
      funext a; apply Fin.ext
      match a with
      | ⟨0, _⟩ => show win1_0.index t (0 : Fin 3) * 4 + 1 * j.val = j.val; omega
      | ⟨1, _⟩ => show win1_0.index t (1 : Fin 3) * 2048 + 1 * r.val = win1_1.index t (0 : Fin 2) * 2048 + 1 * r.val; omega
      | ⟨2, _⟩ => show win1_0.index t (2 : Fin 3) * 128 + 1 * l.val = win1_1.index t (1 : Fin 2) * 128 + 1 * l.val; omega
  funext y
  rw [eq_ix2 (n0 := 2048) (n1 := 128) y]
  exact H _ _

theorem mem_blk (t : Fin cfg1.N) (i : S86016x128.Idx) :
    i ∈ ((cfg1.win 1).blk t).view.set ↔ ∀ a : Fin 2, win1_1.index t a * S2048x128.size a ≤ (i a).val ∧ (i a).val < win1_1.index t a * S2048x128.size a + S2048x128.size a := by
  show i ∈ ((View.whole main_v2).slice (win1_1.rect t)).set ↔ _
  rw [View.set_slice_whole, Rect.mem_set_unit]
  exact Iff.rfl

/-- The blocks written back fill the result's array: it holds the sum. -/
theorem final (c : Dev nD) : (datS V c).arrAt 1 cfg1.N = total (V c main_v1) :=
  (datS V c).arrAt_eq_of_cover 1 _ (fun t _ => flushed_eq V c t) fun i => by
    have h0 : (i 0).val < 86016 := (i 0).isLt
    have h1 : (i 1).val < 128 := (i 1).isLt
    obtain ⟨t, ht⟩ := idx_onto ⟨(i 0).val / 2048, by omega⟩
    have q0 : win1_1.index t (0 : Fin 2) = (i 0).val / 2048 := congrFun ht 0
    have q1 : win1_1.index t (1 : Fin 2) = 0 := congrFun ht 1
    refine ⟨t, flush1_1 t, (mem_blk t i).2 fun a => ?_⟩
    match a with
    | ⟨0, _⟩ => show win1_1.index t (0 : Fin 2) * 2048 ≤ (i 0).val ∧ (i 0).val < win1_1.index t (0 : Fin 2) * 2048 + 2048; omega
    | ⟨1, _⟩ => show win1_1.index t (1 : Fin 2) * 128 ≤ (i 1).val ∧ (i 1).val < win1_1.index t (1 : Fin 2) * 128 + 128; omega

/-! ## The segment -/

variable (d0 : (c : Dev nD) → Dat τ (Elt F) Unit ℕ (UU nD τ sig) ℕ cfg0 c)

/-- The proof data of both regions, the exchange's given. -/
def both : (q : Fin 2) → (c : Dev nD) → Dat τ (Elt F) Unit ℕ (UU nD τ sig) ℕ (cfgs q) c
  | ⟨0, _⟩ => d0
  | ⟨1, _⟩ => datS V

/-- The contents after the region: the result's array at the sum, everything else as before. -/
def after (c : Dev nD) (b : Ref sig .tc) : Buf (Elt F) ((c : Thread nD τ).loc b) :=
  Function.update (V c) main_v2 (total (V c main_v1)) b

theorem after_v2 (c : Dev nD) : after V c main_v2 = total (V c main_v1) := Function.update_self _ _ _
theorem after_ne (c : Dev nD) (b : Ref sig .tc) (h : b ≠ main_v2) : after V c b = V c b := Function.update_of_ne h _ _

set_option backward.isDefEq.respectTransparency.types false in
/-- The region: from all unscoped buffers at `V` to all of them at `after V`. -/
def seg (lvl : GSem nD τ sig → Unit → ℕ) : Pipeline.PerCore.RegionSeg (fun q => (cfgs q).toPCfg (Val := Elt F)) (fun _ q => (cfgs q).toPCfg_adm) (both V d0) () defs₀ Variants.none L lvl 1 where
  win := launch1.win.to₀
  block_pos := launch1.block_pos
  stage_whole := launch1.stage_whole
  K := PEmpty
  osem k := k.elim
  ho := Pipeline.OwnSemFacts.none _
  hbody c := (body_sum V c).loose
  hwaits := Pipeline.PerCore.hwaits_of_owed_zero _ _ _ _ L lvl 1 fun _ _ => rfl
  pre c := iprop(unscopedBufs c (V c) ∗ ∃ W, owes (c : Thread nD τ) (0 : CellTallies nD τ sig Unit) W)
  post c := iprop(unscopedBufs c (after V c) ∗ ∃ W, owes (c : Thread nD τ) (0 : CellTallies nD τ sig Unit) W)
  X _ := BI.emp
  Y _ := BI.emp
  Z c := Pipeline.unscopedRest (Ix := Unit) (Name := ℕ) (U := UU nD τ sig) (Lvl := ℕ) spec1 c (V c)
  hentry c := by
    rw [Pipeline.ownSems0_none]
    have hsplit := Pipeline.arrays_of_unscopedBufs (p := 1) (fun q => (cfgs q).toPCfg (Val := Elt F)) (fun q => (cfgs q).toPCfg_adm) (both V d0) launch1.win launch1.arr_whole c
      ((both V d0 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (both V d0 1 c).Φ 0 = Pipeline.scopedRest (Ix := Unit) (Name := ℕ) (U := UU nD τ sig) (Lvl := ℕ) (Val := Elt F) spec1 c from rfl]
    iintro ⟨-, -, Hr⟩; iexact Hr
  hout c := by
    rw [Pipeline.ownSems0_none, show (both V d0 1 c).Φ (Fin.last _) = Pipeline.scopedRest (Ix := Unit) (Name := ℕ) (U := UU nD τ sig) (Lvl := ℕ) (Val := Elt F) spec1 c from rfl]
    iintro Hr
    isplitr; · iempintro
    isplitr; · iempintro
    iexact Hr
  hexit c := by
    have hjoin := Pipeline.unscopedBufs_of_arrays (p := 1) (fun q => (cfgs q).toPCfg (Val := Elt F)) (fun q => (cfgs q).toPCfg_adm) (Ix := Unit) (Name := ℕ) (U := UU nD τ sig) (Lvl := ℕ) launch1.win launch1.arr_whole c
      (both V d0) ((both V d0 1 c).share_full fun _ => rfl) (V c) (after V c) ((both V d0 1 c).arrAt · cfg1.N)
      (fun w => by
        fin_cases w
        · exact ((both V d0 1 c).arrAt_in 0 rfl _).trans (after_ne V c main_v1 (by decide)).symm
        · exact (final V c).trans (after_v2 V c).symm)
      (fun b hb => after_ne V c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.ChipSumRun
-- ==== Proof.ChipSumRun.lean ====
/-
# The exchange between the four chips, followed by the sum over them

The exchange is that of the chips alone: every device sends to each of the three other chips, to the core of its own
index, the block of its array that belongs to that chip, and copies its own block. The second kernel then adds the four
blocks a device has. Here the exchange's body is run in the program of both, and the two kernels one after the other.
-/
module

public import proofs.«01_k».proof.Proof.Blocks
public import proofs.«01_k».proof.Proof.ChipSumRegion
public import proofs.«01_k».proof.Proof.Gen.ChipSumIdeal
public import proofs.«01_k».proof.Proof.Gen.ChipSumIdeal.Skeleton
public import proofs.«01_k».proof.Proof.Gen.ChipSumIdeal.Launch
public import Idealize.ShloMosaic.Lib.Pipeline.Value
public import Idealize.ShloMosaic.Lib.ValueIdxRank6

@[expose] public section

set_option Elab.async false

noncomputable section

namespace Cert.ChipSumRun

open Cert.ChipSumIdeal Cert.ChipSumIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ sig) ℕ

/-- The three other chips, the core of the same index. -/
def ch0 (c : Dev nD) : Dev nD := ⟨2 * (c.val / 2 % 2) + c.val % 2 + 4 - 4 * (c.val / 4), by revert c; decide⟩
def ch1 (c : Dev nD) : Dev nD := ⟨4 * (c.val / 4) + c.val % 2 + 2 - 2 * (c.val / 2 % 2), by revert c; decide⟩
def ch2 (c : Dev nD) : Dev nD := ⟨c.val % 2 + 6 - (4 * (c.val / 4) + 2 * (c.val / 2 % 2)), by revert c; decide⟩
theorem ch0_ch0 : ∀ c, ch0 (ch0 c) = c := by decide
theorem ch1_ch1 : ∀ c, ch1 (ch1 c) = c := by decide
theorem ch2_ch2 : ∀ c, ch2 (ch2 c) = c := by decide
theorem dev1_eq (c : Dev nD) : (⟨k0_dev1 c, k0_dev1_lt c⟩ : Dev nD) = ch0 c := Fin.ext (k0_dev1_eq c)
theorem dev2_eq (c : Dev nD) : (⟨k0_dev2 c, k0_dev2_lt c⟩ : Dev nD) = ch1 c := Fin.ext (k0_dev2_eq c)
theorem dev3_eq (c : Dev nD) : (⟨k0_dev3 c, k0_dev3_lt c⟩ : Dev nD) = ch2 c := Fin.ext (k0_dev3_eq c)

/-- The blocks in closed form: a device's own chip, and the chips of its peers. -/
theorem off1_eq (c : Dev nD) : k0_off1 c = ![c.val / 2, 0, 0] := (k0_off1_eq c).trans (by revert c; decide)
theorem off2_eq (c : Dev nD) : k0_off2 c = ![(ch0 c).val / 2, 0, 0] := (k0_off2_eq c).trans (by revert c; decide)
theorem off3_eq (c : Dev nD) : k0_off3 c = ![(ch1 c).val / 2, 0, 0] := (k0_off3_eq c).trans (by revert c; decide)
theorem off4_eq (c : Dev nD) : k0_off4 c = ![(ch2 c).val / 2, 0, 0] := (k0_off4_eq c).trans (by revert c; decide)

/-- One block of the argument, of the result. -/
abbrev argM (off : Fin 3 → ℕ) (inb : ∀ a, off a + S1x86016x128.size a ≤ S4x86016x128.size a) : Memref sig .tc .hbm S86016x128 .f32 :=
  ((Memref.whole main_arg0).slice (Rect.unit (s := S4x86016x128) off S1x86016x128.size inb) (fun _ => rfl)).squeeze
    S86016x128 squeezes_S1x86016x128_S86016x128
abbrev resM (off : Fin 3 → ℕ) (inb : ∀ a, off a + S1x86016x128.size a ≤ S4x86016x128.size a) : Memref sig .tc .hbm S86016x128 .f32 :=
  ((Memref.whole main_v1).slice (Rect.unit (s := S4x86016x128) off S1x86016x128.size inb) (fun _ => rfl)).squeeze
    S86016x128 squeezes_S1x86016x128_S86016x128

/-- What device `c` sends to itself and to its peers, and where it is written on each of them. -/
abbrev own (c : Dev nD) := argM (k0_off1 c) (k0_off1_inb c)
abbrev src0 (c : Dev nD) := argM (k0_off2 c) (k0_off2_inb c)
abbrev src1 (c : Dev nD) := argM (k0_off3 c) (k0_off3_inb c)
abbrev src2 (c : Dev nD) := argM (k0_off4 c) (k0_off4_inb c)
abbrev dstM (c : Dev nD) := resM (k0_off1 c) (k0_off1_inb c)

/-- The semaphore of a send, of a receive. -/
abbrev sS0 : DmaSem sig := ((cc0_scratch0.slice (Rect.unit (s := S3) ![0] S1.size inb_S3_S1_0)).squeeze S_ squeezes_S1_S_).sem
abbrev sS1 : DmaSem sig := ((cc0_scratch0.slice (Rect.unit (s := S3) ![1] S1.size inb_S3_S1_1)).squeeze S_ squeezes_S1_S_).sem
abbrev sS2 : DmaSem sig := ((cc0_scratch0.slice (Rect.unit (s := S3) ![2] S1.size inb_S3_S1_2)).squeeze S_ squeezes_S1_S_).sem
abbrev sR0 : DmaSem sig := ((cc0_scratch1.slice (Rect.unit (s := S3) ![0] S1.size inb_S3_S1_0)).squeeze S_ squeezes_S1_S_).sem
abbrev sR1 : DmaSem sig := ((cc0_scratch1.slice (Rect.unit (s := S3) ![1] S1.size inb_S3_S1_1)).squeeze S_ squeezes_S1_S_).sem
abbrev sR2 : DmaSem sig := ((cc0_scratch1.slice (Rect.unit (s := S3) ![2] S1.size inb_S3_S1_2)).squeeze S_ squeezes_S1_S_).sem

/-- The credit of one transfer. -/
abbrev N : ℕ := (dstM 0).view.dmaCredit

def p : Proto nD sig 7 where
  sem := ![.dma sS0, .dma sS1, .dma sS2, .dma sR0, .dma sR1, .dma sR2, .dma cc0_scratch2.sem]
  inj := by decide
  amt _ := N
  amt_pos _ := View.dmaCredit_pos _ (by decide)
  peer := ![id, id, id, ch0, ch1, ch2, id]
  peer_peer := by decide
  owed := {3, 4, 5}
  lvl _ := 0

/-- What is owed after the first, the second and the third send. -/
abbrev O1 : Finset (Fin 7) := p.owed.erase 3
abbrev O2 : Finset (Fin 7) := O1.erase 4
abbrev O3 : Finset (Fin 7) := O2.erase 5

variable (m : (ℓ : Loc nD τ sig) → Buf (Elt F) ℓ) (ρ : Dev nD → PrngReg)

/-- The argument of device `c`. -/
def arg (c : Dev nD) : S4x86016x128.Idx → Elt F .f32 := m ((c.tc : Thread nD τ).loc main_arg0)
/-- The core of device `c`'s index on chip `j`. -/
def on (c : Dev nD) (j : ℕ) : Dev nD := ⟨2 * (j % 4) + c.val % 2, by show _ < 8; omega⟩
/-- What device `c` ends with: from every chip, the block that belongs to its own. -/
def res (c : Dev nD) : Buf (Elt F) ((c.tc : Thread nD τ).loc main_v1) :=
  fun z : S4x86016x128.Idx => arg m (on c (z 0).val) (ix3 (⟨c.val / 2, by have : c.val < 8 := c.isLt; omega⟩ : Fin 4) (z 1) (z 2))

/-! ## The blocks -/

/-- The elements of a block. -/
theorem mem_res (off : Fin 3 → ℕ) (inb) (n : ℕ) (h : off = ![n, 0, 0]) (z : S4x86016x128.Idx) : z ∈ (resM off inb).view.set ↔ (z 0).val = n := by
  refine (mem_block main_v1).trans ?_
  subst h
  have h1 : (z 1).val < 86016 := (z 1).isLt
  have h2 : (z 2).val < 128 := (z 2).isLt
  constructor
  · intro h
    have h0 : n ≤ (z 0).val ∧ (z 0).val < n + 1 := h 0
    omega
  · intro h a
    fin_cases a
    · show n ≤ (z 0).val ∧ (z 0).val < n + 1; omega
    · show 0 ≤ (z 1).val ∧ (z 1).val < 0 + 86016; omega
    · show 0 ≤ (z 2).val ∧ (z 2).val < 0 + 128; omega
theorem mem_arg (off : Fin 3 → ℕ) (inb) (n : ℕ) (h : off = ![n, 0, 0]) (z : S4x86016x128.Idx) : z ∈ (argM off inb).view.set ↔ (z 0).val = n :=
  (mem_block main_arg0).trans ((mem_block main_v1 (hr := fun _ => rfl) (hq := squeezes_S1x86016x128_S86016x128)).symm.trans (mem_res off inb n h z))

/-- The blocks written into device `c`'s result: by the receives from its peers, by its own copy. -/
def B (c : Dev nD) (i : Fin 7) : Finset (main_v1 : Ref sig .tc).ty.Idx := (dstM (p.peer i c)).view.set
def W : Finset (Fin 7) := {3, 4, 5, 6}
def which (c : Dev nD) (j : ℕ) : Fin 7 := if j = c.val / 2 then 6 else if j = (ch0 c).val / 2 then 3 else if j = (ch1 c).val / 2 then 4 else 5
theorem which_dec : ∀ c : Dev nD, ∀ i ∈ W, ∀ j : Fin 4, j.val = (p.peer i c).val / 2 ↔ which c j.val = i := by decide
theorem which_mem (c : Dev nD) (z : (main_v1 : Ref sig .tc).ty.Idx) : which c (z (0 : Fin 3)).val ∈ W := by
  unfold which; split_ifs <;> decide
theorem mem_B (c : Dev nD) : ∀ i ∈ W, ∀ z : S4x86016x128.Idx, z ∈ B c i ↔ which c (z 0).val = i := fun i hi z =>
  (mem_res _ (k0_off1_inb _) _ (off1_eq (p.peer i c)) z).trans (which_dec c i hi (z 0))

/-- The blocks read from device `c`'s argument: by the sends, by its own copy. -/
def A (c : Dev nD) : Fin 7 → Finset (main_arg0 : Ref sig .tc).ty.Idx :=
  ![(src0 c).view.set, (src1 c).view.set, (src2 c).view.set, ∅, ∅, ∅, (own c).view.set]
def WA : Finset (Fin 7) := {0, 1, 2, 6}
def whichA (c : Dev nD) (j : ℕ) : Fin 7 := if j = c.val / 2 then 6 else if j = (ch0 c).val / 2 then 0 else if j = (ch1 c).val / 2 then 1 else 2
theorem whichA_dec : ∀ c : Dev nD, ∀ i ∈ WA, ∀ j : Fin 4, j.val = (![ch0, ch1, ch2, id, id, id, id] i c).val / 2 ↔ whichA c j.val = i := by decide
theorem whichA_mem (c : Dev nD) (z : (main_arg0 : Ref sig .tc).ty.Idx) : whichA c (z (0 : Fin 3)).val ∈ WA := by
  unfold whichA; split_ifs <;> decide
theorem mem_A (c : Dev nD) : ∀ i ∈ WA, ∀ z : S4x86016x128.Idx, z ∈ A c i ↔ whichA c (z 0).val = i := fun i hi z => by
  refine Iff.trans ?_ (whichA_dec c i hi (z 0))
  fin_cases i
  · exact mem_arg _ (k0_off2_inb _) _ (off2_eq c) z
  · exact mem_arg _ (k0_off3_inb _) _ (off3_eq c) z
  · exact mem_arg _ (k0_off4_inb _) _ (off4_eq c) z
  · exact absurd hi (by decide)
  · exact absurd hi (by decide)
  · exact absurd hi (by decide)
  · exact mem_arg _ (k0_off1_inb _) _ (off1_eq c) z

/-! ## What a block holds -/

/-- A block of an array, at an index. -/
theorem read_block {α : Type} (f : S4x86016x128.Idx → α) (off : Fin 3 → ℕ) (inb : ∀ a, off a + S1x86016x128.size a ≤ S4x86016x128.size a)
    (n : Fin 4) (h : off = ![n.val, 0, 0]) (r : Fin 86016) (l : Fin 128) :
    shapeCast S86016x128 (fun z => f ((Rect.unit (s := S4x86016x128) off S1x86016x128.size inb).emb z)) (squeezes_S1x86016x128_S86016x128).numel_eq (ix2 r l)
      = f (ix3 n r l) := by
  refine (shapeCast_apply _ _ (ix2 r l) (ix3 (0 : Fin 1) r l)
    (by rw [Shape.rowMajor_val_three, Shape.rowMajor_val_two]
        show (0 * 86016 + r.val) * 128 + l.val = r.val * 128 + l.val
        omega)).trans (congrArg f ?_)
  funext b; apply Fin.ext
  refine (Rect.emb_apply _ _ _).trans ?_
  refine (congrArg (· + 1 * (ix3 (0 : Fin 1) r l b).val) (congrFun h b)).trans ?_
  fin_cases b <;> simp

omit [FloatOps F] in
/-- What device `c` sends to device `d` is what device `d` ends with in the block of device `c`'s chip. -/
theorem read_res (c d : Dev nD) (h : on d (c.val / 2) = c) (off : Fin 3 → ℕ) (inb) (ho : off = ![d.val / 2, 0, 0]) :
    (dstM c).view.read (Elt F) (res m d) = (argM off inb).view.read (Elt F) (m ((c.tc : Thread nD τ).loc main_arg0)) := by
  have hc : c.val < 8 := c.isLt
  have hd : d.val < 8 := d.isLt
  have e : (dstM c).view.read (Elt F) (res m d) = shapeCast S86016x128 (fun z => res m d
      ((Rect.unit (s := S4x86016x128) (k0_off1 c) S1x86016x128.size (k0_off1_inb c)).emb z)) (squeezes_S1x86016x128_S86016x128).numel_eq := rfl
  have e' : (argM off inb).view.read (Elt F) (m ((c.tc : Thread nD τ).loc main_arg0)) = shapeCast S86016x128 (fun z => arg m c
      ((Rect.unit (s := S4x86016x128) off S1x86016x128.size inb).emb z)) (squeezes_S1x86016x128_S86016x128).numel_eq := rfl
  have H (r : Fin 86016) (l : Fin 128) : (dstM c).view.read (Elt F) (res m d) (ix2 r l)
      = (argM off inb).view.read (Elt F) (m ((c.tc : Thread nD τ).loc main_arg0)) (ix2 r l) := by
    refine (congrFun e _).trans ((read_block (res m d) _ _ ⟨c.val / 2, by omega⟩ (off1_eq c) r l).trans ?_)
    refine Eq.trans ?_ ((congrFun e' _).trans (read_block (arg m c) off inb ⟨d.val / 2, by omega⟩ ho r l)).symm
    exact congrFun (congrArg (arg m) h) _
  funext y
  rw [eq_ix2 (n0 := 86016) (n1 := 128) y]
  exact H _ _

theorem on_self : ∀ c : Dev nD, on c (c.val / 2) = c := by decide
theorem on_ch0 : ∀ c : Dev nD, on (ch0 c) (c.val / 2) = c := by decide
theorem on_ch1 : ∀ c : Dev nD, on (ch1 c) (c.val / 2) = c := by decide
theorem on_ch2 : ∀ c : Dev nD, on (ch2 c) (c.val / 2) = c := by decide

/-! ## The exchange's state -/

/-- A send gives back the block it read, a receive the block written; the local copy gives both. -/
def pay (c : Dev nD) : Fin 7 → sProp 𝕄 :=
  ![(((c.tc : Thread nD τ).loc main_arg0) ↦[A c 0]{fullShare} m ((c.tc : Thread nD τ).loc main_arg0)),
    (((c.tc : Thread nD τ).loc main_arg0) ↦[A c 1]{fullShare} m ((c.tc : Thread nD τ).loc main_arg0)),
    (((c.tc : Thread nD τ).loc main_arg0) ↦[A c 2]{fullShare} m ((c.tc : Thread nD τ).loc main_arg0)),
    (((c.tc : Thread nD τ).loc main_v1) ↦[B c 3]{fullShare} res m c),
    (((c.tc : Thread nD τ).loc main_v1) ↦[B c 4]{fullShare} res m c),
    (((c.tc : Thread nD τ).loc main_v1) ↦[B c 5]{fullShare} res m c),
    iprop((((c.tc : Thread nD τ).loc main_v1) ↦[B c 6]{fullShare} res m c)
      ∗ (((c.tc : Thread nD τ).loc main_arg0) ↦[A c 6]{fullShare} m ((c.tc : Thread nD τ).loc main_arg0)))]

instance : PayStorable (pay m) := ⟨fun c i => by
  fin_cases i
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ (pointsTo _ _ _ _))
  · exact inferInstanceAs (BI.Storable _ iprop(pointsTo _ _ _ _ ∗ pointsTo _ _ _ _))⟩

/-- What device `c` holds to run: its array, and the four blocks it writes. -/
def mem (c : Dev nD) : sProp 𝕄 :=
  iprop(((c.tc : Thread nD τ).loc main_arg0 ↦{fullShare} m ((c.tc : Thread nD τ).loc main_arg0))
    ∗ bigSep W fun i => iprop(∃ g, ((p.peer i c).tc : Thread nD τ).loc main_v1 ↦[B (p.peer i c) i]{fullShare} g))
/-- What it holds in the end. -/
def fin (c : Dev nD) : sProp 𝕄 :=
  iprop(((c.tc : Thread nD τ).loc main_arg0 ↦{fullShare} m ((c.tc : Thread nD τ).loc main_arg0))
    ∗ ((c.tc : Thread nD τ).loc main_v1 ↦{fullShare} res m c))
def Φ₁ (c : Dev nD) : sProp 𝕄 := iprop(fin m c ∗ zero p c 0 ∗ zero p c 1 ∗ zero p c 2 ∗ zero p c 3 ∗ zero p c 4 ∗ zero p c 5 ∗ zero p c 6)

/-- What the exchange leaves alone: the array of the sum, and the second kernel's staging buffers. -/
def side (c : Dev nD) : sProp 𝕄 :=
  iprop(((c.tc : Thread nD τ).loc main_v2 ↦{fullShare} m ((c.tc : Thread nD τ).loc main_v2))
    ∗ Pipeline.scopedRest (Ix := Unit) (Name := ℕ) (U := UU nD τ sig) (Lvl := ℕ) (Val := Elt F) cfg0.spec c)

/-- The exchange's proof data. -/
def datX (c : Dev nD) : Dat τ (Elt F) Unit ℕ (UU nD τ sig) ℕ cfg0 c where
  A w := w.elim0
  after w _ := w.elim0
  Φ t := match t with
    | ⟨0, _⟩ => iprop((start p (pay m) c ∗ mem m c) ∗ side m c)
    | ⟨_ + 1, _⟩ => iprop(Φ₁ m c ∗ side m c)
  q _ := fullShare
  owed t := match t with
    | ⟨0, _⟩ => due p p.owed c
    | ⟨_ + 1, _⟩ => 0

/-- The buffers between the two kernels: the exchange's result in place, the rest as launched. -/
def mid (c : Dev nD) (b : Ref sig .tc) : Buf (Elt F) ((c : Thread nD τ).loc b) :=
  Function.update (fun b : Ref sig .tc => m ((c : Thread nD τ).loc b)) main_v1 (res m c) b

theorem mid_v1 (c : Dev nD) : mid m c main_v1 = res m c := Function.update_self _ _ _
theorem mid_ne (c : Dev nD) (b : Ref sig .tc) (h : b ≠ main_v1) : mid m c b = m ((c : Thread nD τ).loc b) := Function.update_of_ne h _ _

/-- Both kernels' proof data. -/
abbrev dats : (q : Fin 2) → (c : Dev nD) → Dat τ (Elt F) Unit ℕ (UU nD τ sig) ℕ (cfgs q) c := both (mid m) (datX m)

abbrev 𝒱₀ : Variants := Variants.none

theorem B_ch0 (c : Dev nD) : B (ch0 c) 3 = (dstM c).view.set := by
  show (dstM (ch0 (ch0 c))).view.set = _; rw [ch0_ch0]
omit [FloatOps F] in
theorem pay_recv0 (c n : Dev nD) (hn : n = ch0 c) (f : Buf (Elt F) ((dstM c).view.loc (n.tc : Thread nD τ))) :
    ((dstM c).view.loc (n.tc : Thread nD τ) ↦[(dstM c).view.set]{fullShare}
      ((dstM c).view.write (Elt F) f ((src0 c).view.read (Elt F) (m ((c.tc : Thread nD τ).loc main_arg0))) Finset.univ) : sProp 𝕄) ⊢ pay m n 3 := by
  subst hn
  refine (settle (t := ((ch0 c).tc : Thread nD τ)) (dstM c) f (res m (ch0 c)) _ (read_res m c (ch0 c) (on_ch0 c) _ _ (off2_eq c))).trans (Entails.of_eq ?_)
  show _ = ((((ch0 c).tc : Thread nD τ).loc main_v1) ↦[B (ch0 c) 3]{fullShare} res m (ch0 c) : sProp 𝕄)
  rw [B_ch0 c]
omit [FloatOps F] in
theorem dst_at0 (c n : Dev nD) (hn : n = ch0 c) :
    iprop(∃ g, ((p.peer 3 c).tc : Thread nD τ).loc main_v1 ↦[B (p.peer 3 c) 3]{fullShare} g)
      ⊢ (iprop(∃ f, (dstM c).view.loc (n.tc : Thread nD τ) ↦[(dstM c).view.set]{fullShare} f) : sProp 𝕄) := by
  subst hn
  rw [show p.peer 3 c = ch0 c from rfl, B_ch0 c]
omit [FloatOps F] in
theorem pay_send0 (c : Dev nD) : ((src0 c).view.loc (c.tc : Thread nD τ) ↦[(src0 c).view.set]{fullShare} m ((c.tc : Thread nD τ).loc main_arg0) : sProp 𝕄)
    ⊣⊢ pay m c 0 := ⟨BI.Entails.refl _, BI.Entails.refl _⟩
omit [FloatOps F] in
theorem got_arg0 (c : Dev nD) : pay m c 0 ⊢ (((c.tc : Thread nD τ).loc main_arg0) ↦[A c 0]{fullShare} m ((c.tc : Thread nD τ).loc main_arg0) : sProp 𝕄) := BI.Entails.refl _
omit [FloatOps F] in
theorem got_res0 (c : Dev nD) : pay m c 3 ⊢ ((c.tc : Thread nD τ).loc main_v1 ↦[B c 3]{fullShare} res m c : sProp 𝕄) := BI.Entails.refl _
theorem amt_put0 (c : Dev nD) : (dstM c).view.amount (.dma sR0) = p.amt 3 := rfl
theorem amt_same0 : p.amt 0 = p.amt 3 := rfl
theorem sem_send0 : p.sem 0 = .dma sS0 := rfl
theorem sem_recv0 : p.sem 3 = .dma sR0 := rfl

theorem B_ch1 (c : Dev nD) : B (ch1 c) 4 = (dstM c).view.set := by
  show (dstM (ch1 (ch1 c))).view.set = _; rw [ch1_ch1]
omit [FloatOps F] in
theorem pay_recv1 (c n : Dev nD) (hn : n = ch1 c) (f : Buf (Elt F) ((dstM c).view.loc (n.tc : Thread nD τ))) :
    ((dstM c).view.loc (n.tc : Thread nD τ) ↦[(dstM c).view.set]{fullShare}
      ((dstM c).view.write (Elt F) f ((src1 c).view.read (Elt F) (m ((c.tc : Thread nD τ).loc main_arg0))) Finset.univ) : sProp 𝕄) ⊢ pay m n 4 := by
  subst hn
  refine (settle (t := ((ch1 c).tc : Thread nD τ)) (dstM c) f (res m (ch1 c)) _ (read_res m c (ch1 c) (on_ch1 c) _ _ (off3_eq c))).trans (Entails.of_eq ?_)
  show _ = ((((ch1 c).tc : Thread nD τ).loc main_v1) ↦[B (ch1 c) 4]{fullShare} res m (ch1 c) : sProp 𝕄)
  rw [B_ch1 c]
omit [FloatOps F] in
theorem dst_at1 (c n : Dev nD) (hn : n = ch1 c) :
    iprop(∃ g, ((p.peer 4 c).tc : Thread nD τ).loc main_v1 ↦[B (p.peer 4 c) 4]{fullShare} g)
      ⊢ (iprop(∃ f, (dstM c).view.loc (n.tc : Thread nD τ) ↦[(dstM c).view.set]{fullShare} f) : sProp 𝕄) := by
  subst hn
  rw [show p.peer 4 c = ch1 c from rfl, B_ch1 c]
omit [FloatOps F] in
theorem pay_send1 (c : Dev nD) : ((src1 c).view.loc (c.tc : Thread nD τ) ↦[(src1 c).view.set]{fullShare} m ((c.tc : Thread nD τ).loc main_arg0) : sProp 𝕄)
    ⊣⊢ pay m c 1 := ⟨BI.Entails.refl _, BI.Entails.refl _⟩
omit [FloatOps F] in
theorem got_arg1 (c : Dev nD) : pay m c 1 ⊢ (((c.tc : Thread nD τ).loc main_arg0) ↦[A c 1]{fullShare} m ((c.tc : Thread nD τ).loc main_arg0) : sProp 𝕄) := BI.Entails.refl _
omit [FloatOps F] in
theorem got_res1 (c : Dev nD) : pay m c 4 ⊢ ((c.tc : Thread nD τ).loc main_v1 ↦[B c 4]{fullShare} res m c : sProp 𝕄) := BI.Entails.refl _
theorem amt_put1 (c : Dev nD) : (dstM c).view.amount (.dma sR1) = p.amt 4 := rfl
theorem amt_same1 : p.amt 1 = p.amt 4 := rfl
theorem sem_send1 : p.sem 1 = .dma sS1 := rfl
theorem sem_recv1 : p.sem 4 = .dma sR1 := rfl

theorem B_ch2 (c : Dev nD) : B (ch2 c) 5 = (dstM c).view.set := by
  show (dstM (ch2 (ch2 c))).view.set = _; rw [ch2_ch2]
omit [FloatOps F] in
theorem pay_recv2 (c n : Dev nD) (hn : n = ch2 c) (f : Buf (Elt F) ((dstM c).view.loc (n.tc : Thread nD τ))) :
    ((dstM c).view.loc (n.tc : Thread nD τ) ↦[(dstM c).view.set]{fullShare}
      ((dstM c).view.write (Elt F) f ((src2 c).view.read (Elt F) (m ((c.tc : Thread nD τ).loc main_arg0))) Finset.univ) : sProp 𝕄) ⊢ pay m n 5 := by
  subst hn
  refine (settle (t := ((ch2 c).tc : Thread nD τ)) (dstM c) f (res m (ch2 c)) _ (read_res m c (ch2 c) (on_ch2 c) _ _ (off4_eq c))).trans (Entails.of_eq ?_)
  show _ = ((((ch2 c).tc : Thread nD τ).loc main_v1) ↦[B (ch2 c) 5]{fullShare} res m (ch2 c) : sProp 𝕄)
  rw [B_ch2 c]
omit [FloatOps F] in
theorem dst_at2 (c n : Dev nD) (hn : n = ch2 c) :
    iprop(∃ g, ((p.peer 5 c).tc : Thread nD τ).loc main_v1 ↦[B (p.peer 5 c) 5]{fullShare} g)
      ⊢ (iprop(∃ f, (dstM c).view.loc (n.tc : Thread nD τ) ↦[(dstM c).view.set]{fullShare} f) : sProp 𝕄) := by
  subst hn
  rw [show p.peer 5 c = ch2 c from rfl, B_ch2 c]
omit [FloatOps F] in
theorem pay_send2 (c : Dev nD) : ((src2 c).view.loc (c.tc : Thread nD τ) ↦[(src2 c).view.set]{fullShare} m ((c.tc : Thread nD τ).loc main_arg0) : sProp 𝕄)
    ⊣⊢ pay m c 2 := ⟨BI.Entails.refl _, BI.Entails.refl _⟩
omit [FloatOps F] in
theorem got_arg2 (c : Dev nD) : pay m c 2 ⊢ (((c.tc : Thread nD τ).loc main_arg0) ↦[A c 2]{fullShare} m ((c.tc : Thread nD τ).loc main_arg0) : sProp 𝕄) := BI.Entails.refl _
omit [FloatOps F] in
theorem got_res2 (c : Dev nD) : pay m c 5 ⊢ ((c.tc : Thread nD τ).loc main_v1 ↦[B c 5]{fullShare} res m c : sProp 𝕄) := BI.Entails.refl _
theorem amt_put2 (c : Dev nD) : (dstM c).view.amount (.dma sR2) = p.amt 5 := rfl
theorem amt_same2 : p.amt 2 = p.amt 5 := rfl
theorem sem_send2 : p.sem 2 = .dma sS2 := rfl
theorem sem_recv2 : p.sem 5 = .dma sR2 := rfl

omit [FloatOps F] in
theorem pay_here (c : Dev nD) (f : Buf (Elt F) ((dstM c).view.loc (c.tc : Thread nD τ))) :
    iprop(((dstM c).view.loc (c.tc : Thread nD τ) ↦[(dstM c).view.set]{fullShare}
      ((dstM c).view.write (Elt F) f ((own c).view.read (Elt F) (m ((c.tc : Thread nD τ).loc main_arg0))) Finset.univ))
      ∗ ((own c).view.loc (c.tc : Thread nD τ) ↦[(own c).view.set]{fullShare} m ((c.tc : Thread nD τ).loc main_arg0))) ⊢ (pay m c 6 : sProp 𝕄) :=
  sep_mono_left (settle (t := (c.tc : Thread nD τ)) (dstM c) f (res m c) _ (read_res m c c (on_self c) _ _ (off1_eq c)))
omit [FloatOps F] in
theorem dst_here (c : Dev nD) :
    iprop(∃ g, ((p.peer 6 c).tc : Thread nD τ).loc main_v1 ↦[B (p.peer 6 c) 6]{fullShare} g)
      ⊢ (iprop(∃ f, (dstM c).view.loc (c.tc : Thread nD τ) ↦[(dstM c).view.set]{fullShare} f) : sProp 𝕄) := BI.Entails.refl _
omit [FloatOps F] in
theorem src_here (c : Dev nD) : (((c.tc : Thread nD τ).loc main_arg0) ↦[A c 6]{fullShare} m ((c.tc : Thread nD τ).loc main_arg0))
    ⊢ ((own c).view.loc (c.tc : Thread nD τ) ↦[(own c).view.set]{fullShare} m ((c.tc : Thread nD τ).loc main_arg0) : sProp 𝕄) := BI.Entails.refl _
omit [FloatOps F] in
theorem src_send (c : Dev nD) : iprop((((c.tc : Thread nD τ).loc main_arg0) ↦[A c 0]{fullShare} m ((c.tc : Thread nD τ).loc main_arg0))
      ∗ (((c.tc : Thread nD τ).loc main_arg0) ↦[A c 1]{fullShare} m ((c.tc : Thread nD τ).loc main_arg0)) ∗ (((c.tc : Thread nD τ).loc main_arg0) ↦[A c 2]{fullShare} m ((c.tc : Thread nD τ).loc main_arg0)))
    ⊢ (iprop(((src0 c).view.loc (c.tc : Thread nD τ) ↦[(src0 c).view.set]{fullShare} m ((c.tc : Thread nD τ).loc main_arg0))
      ∗ ((src1 c).view.loc (c.tc : Thread nD τ) ↦[(src1 c).view.set]{fullShare} m ((c.tc : Thread nD τ).loc main_arg0))
      ∗ ((src2 c).view.loc (c.tc : Thread nD τ) ↦[(src2 c).view.set]{fullShare} m ((c.tc : Thread nD τ).loc main_arg0))) : sProp 𝕄) := BI.Entails.refl _
omit [FloatOps F] in
theorem pay_own (c : Dev nD) : pay m c 6 ⊢ (iprop(((c.tc : Thread nD τ).loc main_v1 ↦[B c 6]{fullShare} res m c)
      ∗ (((c.tc : Thread nD τ).loc main_arg0) ↦[A c 6]{fullShare} m ((c.tc : Thread nD τ).loc main_arg0))) : sProp 𝕄) := BI.Entails.refl _

theorem hroute (c n : Dev nD) : τ.routes (c.tc : Thread nD τ) (n.tc : Thread nD τ) = true := by revert c n; decide
theorem amt_here (c : Dev nD) : (dstM c).view.amount (.dma cc0_scratch2.sem) = p.amt 6 := rfl
theorem amt_arg (off) (inb) (i : Fin 7) : p.amt i = (argM off inb).view.dmaCredit := rfl
theorem amt_res (off) (inb) (i : Fin 7) : p.amt i = (resM off inb).view.dmaCredit := rfl
theorem sem_here : p.sem 6 = .dma cc0_scratch2.sem := rfl
theorem O3_eq : O3 = ∅ := by decide
theorem none_owed {i : Fin 7} : ∀ j ∈ O3, p.lvl i < p.lvl j := by
  rw [O3_eq]; exact fun j hj => absurd hj (Finset.notMem_empty j)
theorem in0 : (3 : Fin 7) ∈ p.owed := by decide
theorem in1 : (4 : Fin 7) ∈ O1 := by decide
theorem in2 : (5 : Fin 7) ∈ O2 := by decide

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sepW (Φ : Fin 7 → sProp 𝕄) : bigSep W Φ = iprop(Φ 3 ∗ Φ 4 ∗ Φ 5 ∗ Φ 6) := bigSep_eq_bigSepL_of_eq [3, 4, 5, 6] (by decide) (by decide) Φ
omit [FloatOps F] in
theorem sepA (Φ : Fin 7 → sProp 𝕄) : bigSep WA Φ = iprop(Φ 0 ∗ Φ 1 ∗ Φ 2 ∗ Φ 6) := bigSep_eq_bigSepL_of_eq [0, 1, 2, 6] (by decide) (by decide) Φ
omit [FloatOps F] in
theorem sepO (Φ : Fin 7 → sProp 𝕄) : bigSep p.owed Φ = iprop(Φ 3 ∗ Φ 4 ∗ Φ 5) := bigSep_eq_bigSepL_of_eq [3, 4, 5] (by decide) (by decide) Φ
omit [FloatOps F] in
/-- The argument is its four blocks. -/
theorem four (c : Dev nD) : ((c.tc : Thread nD τ).loc main_arg0 ↦{fullShare} m ((c.tc : Thread nD τ).loc main_arg0) : sProp 𝕄)
    = iprop((((c.tc : Thread nD τ).loc main_arg0) ↦[A c 0]{fullShare} m ((c.tc : Thread nD τ).loc main_arg0)) ∗ (((c.tc : Thread nD τ).loc main_arg0) ↦[A c 1]{fullShare} m ((c.tc : Thread nD τ).loc main_arg0))
      ∗ (((c.tc : Thread nD τ).loc main_arg0) ↦[A c 2]{fullShare} m ((c.tc : Thread nD τ).loc main_arg0)) ∗ (((c.tc : Thread nD τ).loc main_arg0) ↦[A c 6]{fullShare} m ((c.tc : Thread nD τ).loc main_arg0))) :=
  (blocks main_arg0 WA A (fun c z => whichA c (z (0 : Fin 3)).val) whichA_mem mem_A c fullShare (m ((c.tc : Thread nD τ).loc main_arg0))).trans (sepA _)

abbrev call := cc0_rs_chip_exchange (F := F) (Memref.whole main_arg0) (Memref.isWhole_whole _) (Memref.whole main_v1) (Memref.isWhole_whole _) cc0_scratch0 cc0_scratch1 cc0_scratch2

set_option maxHeartbeats 1600000 in
theorem sound_body (c : Dev nD) (Kt : PUnit → sProp 𝕄) :
    iprop((start p (pay m) c ∗ mem m c ∗ owing p p.owed c) ∗ ((Φ₁ m c ∗ owing p ∅ c) -∗ Kt ⟨⟩))
      ⊢ wp frame (wpE (defs₀ (F := F)) 𝒱₀ (c.tc : Thread nD τ) none) Set.univ call Kt := by
  unfold call
  simp only [cc0_rs_chip_exchange_eq_skeleton]; unfold cc0_rs_chip_exchange_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold start mem
  rw [seven fun i => (ready p c i : sProp 𝕄), seven fun i => (tok p c i : sProp 𝕄), sepO, sepW, four m c]
  iintro ⟨⟨⟨⟨%K, #Ht⟩, ⟨Hr0, Hr1, Hr2, Hr3, Hr4, Hr5, Hr6⟩, ⟨Ht0, Ht1, Ht2, Ht3, Ht4, Ht5, Ht6⟩, ⟨Hc3, Hc4, Hc5⟩⟩,
    ⟨⟨Ha0, Ha1, Ha2, Ha6⟩, ⟨Hd3, Hd4, Hd5, Hd6⟩⟩, HO⟩, Hk⟩
  icases (dst_at0 c _ (dev1_eq c)) $$ Hd3 with ⟨%f0, Hd3⟩
  icases (dst_at1 c _ (dev2_eq c)) $$ Hd4 with ⟨%f1, Hd4⟩
  icases (dst_at2 c _ (dev3_eq c)) $$ Hd5 with ⟨%f2, Hd5⟩
  icases (dst_here c) $$ Hd6 with ⟨%g, Hd6⟩
  icases (src_here m c) $$ Ha6 with Ha6
  icases (src_send m c) $$ [Ha0 Ha1 Ha2] with ⟨Ha0, Ha1, Ha2⟩
  · isplitl [Ha0]; · iexact Ha0
    isplitl [Ha1] <;> iassumption
  have hcopy := fun k => wp_copy_here p (pay m) (defs₀ (F := F)) 𝒱₀ none (Q := Kt) (f := k) K c 6 rfl (src := own c) (dst := dstM c) sem_here
    (hsrc := (View.wordExact_bits rfl).reshape _ _) (hdst := (View.wordExact_bits rfl).reshape _ _) (hsem := ⟨Or.inl rfl, trivial⟩)
    (q := fullShare) (fs := m ((c.tc : Thread nD τ).loc main_arg0)) (fd := g) (amt_here c) (pay_here m c g)
  iapply (hcopy _) $$ [Ha6 Hd6 Ht6]
  · isplitr; · iexact Ht
    isplitl [Ha6]; · iexact Ha6
    isplitl [Hd6]; · iexact Hd6
    iexact Ht6
  iintro Hc6
  have hput0 := fun k => wp_put p (pay m) (defs₀ (F := F)) 𝒱₀ none (Q := Kt) (f := k) K c 0 3 p.owed in0 rfl
    ⟨k0_dev1 c, k0_dev1_lt c⟩ (dev1_eq c) (src := src0 c) (dst := dstM c) sem_send0 sem_recv0 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f0) (amt_put0 c) amt_same0 (pay_send0 m c).1 (pay_recv0 m c _ (dev1_eq c) f0)
    (hroute c ⟨k0_dev1 c, k0_dev1_lt c⟩)
  iapply (hput0 _) $$ [Ha0 Hd3 HO Ht0 Ht3]
  · isplitr; · iexact Ht
    isplitl [Ha0]; · iexact Ha0
    isplitl [Hd3]; · iexact Hd3
    isplitl [HO]; · iexact HO
    isplitl [Ht0] <;> iassumption
  iintro ⟨Hc0, HO⟩
  have hput1 := fun k => wp_put p (pay m) (defs₀ (F := F)) 𝒱₀ none (Q := Kt) (f := k) K c 1 4 O1 in1 rfl
    ⟨k0_dev2 c, k0_dev2_lt c⟩ (dev2_eq c) (src := src1 c) (dst := dstM c) sem_send1 sem_recv1 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f1) (amt_put1 c) amt_same1 (pay_send1 m c).1 (pay_recv1 m c _ (dev2_eq c) f1)
    (hroute c ⟨k0_dev2 c, k0_dev2_lt c⟩)
  iapply (hput1 _) $$ [Ha1 Hd4 HO Ht1 Ht4]
  · isplitr; · iexact Ht
    isplitl [Ha1]; · iexact Ha1
    isplitl [Hd4]; · iexact Hd4
    isplitl [HO]; · iexact HO
    isplitl [Ht1] <;> iassumption
  iintro ⟨Hc1, HO⟩
  have hput2 := fun k => wp_put p (pay m) (defs₀ (F := F)) 𝒱₀ none (Q := Kt) (f := k) K c 2 5 O2 in2 rfl
    ⟨k0_dev3 c, k0_dev3_lt c⟩ (dev3_eq c) (src := src2 c) (dst := dstM c) sem_send2 sem_recv2 (hsc := rfl)
    (hsrc := (View.wordExact_bits rfl).reshape _ _) (hdst := (View.wordExact_bits rfl).reshape _ _)
    (hsem := ⟨⟨rfl, Or.inl rfl⟩, trivial⟩)
    (q := fullShare) (fs := m ((c.tc : Thread nD τ).loc main_arg0)) (fd := f2) (amt_put2 c) amt_same2 (pay_send2 m c).1 (pay_recv2 m c _ (dev3_eq c) f2)
    (hroute c ⟨k0_dev3 c, k0_dev3_lt c⟩)
  iapply (hput2 _) $$ [Ha2 Hd5 HO Ht2 Ht5]
  · isplitr; · iexact Ht
    isplitl [Ha2]; · iexact Ha2
    isplitl [Hd5]; · iexact Hd5
    isplitl [HO]; · iexact HO
    isplitl [Ht2] <;> iassumption
  iintro ⟨Hc2, HO⟩
  have hw0 := fun k => wp_take_dma p (pay m) (defs₀ (F := F)) 𝒱₀ none (Q := Kt) (f := k) K c 0 O3 none_owed sem_send0
    (src := dstM c) (dst := src0 c) (amt_arg _ _ _) (hdst := (View.wordExact_bits rfl).reshape _ _) (hsrc := (View.wordExact_bits rfl).reshape _ _)
  iapply (hw0 _) $$ [Hc0 HO Hr0]
  · isplitr; · iexact Ht
    isplitl [Hc0]; · iexact Hc0
    isplitl [HO] <;> iassumption
  iintro ⟨HO, Hz0, Hg0⟩
  have hw3 := fun k => wp_take_dma p (pay m) (defs₀ (F := F)) 𝒱₀ none (Q := Kt) (f := k) K c 3 O3 none_owed sem_recv0
    (src := src0 c) (dst := dstM c) (amt_res _ _ _) (hdst := (View.wordExact_bits rfl).reshape _ _) (hsrc := (View.wordExact_bits rfl).reshape _ _)
  iapply (hw3 _) $$ [Hc3 HO Hr3]
  · isplitr; · iexact Ht
    isplitl [Hc3]; · iexact Hc3
    isplitl [HO] <;> iassumption
  iintro ⟨HO, Hz3, Hg3⟩
  have hw1 := fun k => wp_take_dma p (pay m) (defs₀ (F := F)) 𝒱₀ none (Q := Kt) (f := k) K c 1 O3 none_owed sem_send1
    (src := dstM c) (dst := src1 c) (amt_arg _ _ _) (hdst := (View.wordExact_bits rfl).reshape _ _) (hsrc := (View.wordExact_bits rfl).reshape _ _)
  iapply (hw1 _) $$ [Hc1 HO Hr1]
  · isplitr; · iexact Ht
    isplitl [Hc1]; · iexact Hc1
    isplitl [HO] <;> iassumption
  iintro ⟨HO, Hz1, Hg1⟩
  have hw4 := fun k => wp_take_dma p (pay m) (defs₀ (F := F)) 𝒱₀ none (Q := Kt) (f := k) K c 4 O3 none_owed sem_recv1
    (src := src1 c) (dst := dstM c) (amt_res _ _ _) (hdst := (View.wordExact_bits rfl).reshape _ _) (hsrc := (View.wordExact_bits rfl).reshape _ _)
  iapply (hw4 _) $$ [Hc4 HO Hr4]
  · isplitr; · iexact Ht
    isplitl [Hc4]; · iexact Hc4
    isplitl [HO] <;> iassumption
  iintro ⟨HO, Hz4, Hg4⟩
  have hw2 := fun k => wp_take_dma p (pay m) (defs₀ (F := F)) 𝒱₀ none (Q := Kt) (f := k) K c 2 O3 none_owed sem_send2
    (src := dstM c) (dst := src2 c) (amt_arg _ _ _) (hdst := (View.wordExact_bits rfl).reshape _ _) (hsrc := (View.wordExact_bits rfl).reshape _ _)
  iapply (hw2 _) $$ [Hc2 HO Hr2]
  · isplitr; · iexact Ht
    isplitl [Hc2]; · iexact Hc2
    isplitl [HO] <;> iassumption
  iintro ⟨HO, Hz2, Hg2⟩
  have hw5 := fun k => wp_take_dma p (pay m) (defs₀ (F := F)) 𝒱₀ none (Q := Kt) (f := k) K c 5 O3 none_owed sem_recv2
    (src := src2 c) (dst := dstM c) (amt_res _ _ _) (hdst := (View.wordExact_bits rfl).reshape _ _) (hsrc := (View.wordExact_bits rfl).reshape _ _)
  iapply (hw5 _) $$ [Hc5 HO Hr5]
  · isplitr; · iexact Ht
    isplitl [Hc5]; · iexact Hc5
    isplitl [HO] <;> iassumption
  iintro ⟨HO, Hz5, Hg5⟩
  have hw6 := fun k => wp_take_dma p (pay m) (defs₀ (F := F)) 𝒱₀ none (Q := Kt) (f := k) K c 6 O3 none_owed sem_here
    (src := own c) (dst := dstM c) (amt_res _ _ _) (hdst := (View.wordExact_bits rfl).reshape _ _) (hsrc := (View.wordExact_bits rfl).reshape _ _)
  iapply (hw6 _) $$ [Hc6 HO Hr6]
  · isplitr; · iexact Ht
    isplitl [Hc6]; · iexact Hc6
    isplitl [HO] <;> iassumption
  iintro ⟨HO, Hz6, Hg6⟩
  icases (pay_own m c) $$ Hg6 with ⟨Hb6, Ha6⟩
  rw [wp_ret]
  imodintro
  iapply Hk
  isplitr [HO]
  · unfold Φ₁ fin
    isplitl [Hg0 Hg1 Hg2 Hg3 Hg4 Hg5 Hb6 Ha6]
    · isplitl [Hg0 Hg1 Hg2 Ha6]
      · rw [four m c]
        isplitl [Hg0]; · iapply (got_arg0 m c); iexact Hg0
        isplitl [Hg1]; · iapply (got_arg1 m c); iexact Hg1
        isplitl [Hg2]; · iapply (got_arg2 m c); iexact Hg2
        iexact Ha6
      · iapply (Entails.of_eq ((blocks main_v1 W B (fun c z => which c (z (0 : Fin 3)).val) which_mem mem_B c fullShare (res m c)).trans (sepW _)).symm)
        isplitl [Hg3]; · iapply (got_res0 m c); iexact Hg3
        isplitl [Hg4]; · iapply (got_res1 m c); iexact Hg4
        isplitl [Hg5]; · iapply (got_res2 m c); iexact Hg5
        iexact Hb6
    isplitl [Hz0]; · iexact Hz0
    isplitl [Hz1]; · iexact Hz1
    isplitl [Hz2]; · iexact Hz2
    isplitl [Hz3]; · iexact Hz3
    isplitl [Hz4]; · iexact Hz4
    isplitl [Hz5] <;> iassumption
  · rw [← O3_eq]; iexact HO

/-! ## The run -/

set_option maxRecDepth 4000 in
theorem body_obligation (c : Dev nD) : BodyObligation (datX m c) (defs₀ (F := F)) 𝒱₀ () Set.univ := fun t => by
  rw [fin_N0 t]
  simp only [Finset.univ_eq_empty (α := Fin cfg0.W), bigSep_empty]
  show iprop(iprop((start p (pay m) c ∗ mem m c) ∗ side m c) ∗ (datX m c).owesAt () t0_0.castSucc ∗ emp)
    ⊢ wp frame (wpE (defs₀ (F := F)) 𝒱₀ (c.tc : Thread nD τ) none) Set.univ
      call
      (fun _ => iprop(iprop(Φ₁ m c ∗ side m c) ∗ (datX m c).owesAt () t0_0.succ ∗ emp))
  unfold Dat.owesAt Pipeline.owesWithin
  rw [show (datX m c).owed t0_0.castSucc = due p p.owed c from rfl, show (datX m c).owed t0_0.succ = 0 from rfl]
  iintro ⟨⟨⟨Hs, Hm⟩, Hside⟩, ⟨%W, %hW, HO⟩, -⟩
  iapply (sound_body m c _)
  isplitl [Hs Hm HO]
  · isplitl [Hs]; · iexact Hs
    isplitl [Hm]; · iexact Hm
    unfold owing
    iexists W; iexact HO
  · unfold owing
    iintro ⟨HΦ, ⟨%W', HO⟩⟩
    rw [due_empty]
    isplitl [HΦ Hside]
    · isplitl [HΦ] <;> iassumption
    isplitl
    · iexists W'
      isplitr; · ipureintro; exact fun _ _ => Or.inl trivial
      iexact HO
    · iempintro

theorem ownSemFacts : Pipeline.OwnSemFacts cfg0.spec p.sem := by decide

omit [FloatOps F] in
/-- The unscoped buffers of a device are three. -/
theorem three (c : Dev nD) (V : (b : Ref sig .tc) → Buf (Elt F) ((c : Thread nD τ).loc b)) : (unscopedBufs c V : sProp 𝕄)
    = iprop(((c.tc : Thread nD τ).loc main_arg0 ↦{fullShare} V main_arg0) ∗ ((c.tc : Thread nD τ).loc main_v1 ↦{fullShare} V main_v1)
      ∗ ((c.tc : Thread nD τ).loc main_v2 ↦{fullShare} V main_v2)) := by
  unfold unscopedBufs; exact bigSep_eq_bigSepL_of_eq [main_arg0, main_v1, main_v2] (by decide) (by decide) _

/-- What a device starts with, and what it has after the exchange: the array of the sum comes along. -/
abbrev memS (c : Dev nD) : sProp 𝕄 := iprop(mem m c ∗ ((c.tc : Thread nD τ).loc main_v2 ↦{fullShare} m ((c.tc : Thread nD τ).loc main_v2)))
abbrev finS (c : Dev nD) : sProp 𝕄 := iprop(fin m c ∗ ((c.tc : Thread nD τ).loc main_v2 ↦{fullShare} m ((c.tc : Thread nD τ).loc main_v2)))

omit [FloatOps F] in
theorem deal : (bigSep Finset.univ fun c : Dev nD => unscopedBufs c (fun b => m ((c.tc : Thread nD τ).loc b)) : sProp 𝕄) ⊢ bigSep Finset.univ (memS m) := by
  rw [bigSep_congr fun c _ => three c _]
  unfold memS mem
  simp only [bigSep_sep']
  iintro ⟨Hx, Ho, Hs⟩
  isplitr [Hs]
  · isplitl [Hx]; · iexact Hx
    iapply (deal_blocks p main_v1 W B (fun c z => which c (z (0 : Fin 3)).val) which_mem mem_B fun c => m ((c.tc : Thread nD τ).loc main_v1))
    iexact Ho
  · iexact Hs

/-- After the exchange the second kernel finds all buffers at `mid`. -/
theorem to_mid (c : Dev nD) : finS m c ⊢ unscopedBufs c (mid m c) := by
  rw [three, mid_v1, mid_ne m c main_arg0 (by decide), mid_ne m c main_v2 (by decide)]
  unfold finS fin
  iintro ⟨⟨Ha, Hr⟩, Hs⟩
  isplitl [Ha]; · iexact Ha
  isplitl [Hr] <;> iassumption

/-- What is read of device `c`'s memory in the end. -/
def QY (c : Dev nD) (s : MemSt nD τ sig (Elt F)) : Prop :=
  s.mem ((c.tc : Thread nD τ).loc main_arg0) = m ((c.tc : Thread nD τ).loc main_arg0) ∧ s.mem ((c.tc : Thread nD τ).loc main_v2) = total (res m c)

/-- The end: the argument and the sum are among the buffers held. -/
theorem at_end (c : Dev nD) : unscopedBufs c (after (mid m) c) ⊢ (iprop(iprop(((c.tc : Thread nD τ).loc main_arg0 ↦{fullShare} m ((c.tc : Thread nD τ).loc main_arg0))
      ∗ ((c.tc : Thread nD τ).loc main_v2 ↦{fullShare} total (res m c)))) : sProp 𝕄) := by
  rw [three, after_v2, after_ne _ c main_arg0 (by decide), mid_ne m c main_arg0 (by decide), mid_v1]
  iintro ⟨Ha, -, Hs⟩
  isplitl [Ha] <;> iassumption

/-- For any float values, from any memory with zero counters: every fair execution ends, with each device's argument
    unchanged, its result the sum of the four blocks of its chip, and all counters at zero. -/
theorem run_main : θ_run (defs (F := F)) (onTc (τ := τ) (main (F := F))) ⟨m, fun _ => 0, ρ⟩
    (fun r => (∀ c : Dev nD, QY m c r.2) ∧ r.2.sem = fun _ => 0) :=
  run_exchange p (pay m) (fun q => (cfgs q).toPCfg) (fun _ q => (cfgs q).toPCfg_adm) (dats m) cellOf_inj defs₀ 𝒱₀ (x := (0 : Fin 2))
    winFacts0.to₀ ownSemFacts rfl rfl m ρ main (fun _ => [.region (seg (mid m) (datX m) (lv p))]) (fun _ => rfl)
    (fun _ => show [(1 : Fin 2)].Nodup by decide) (fun _ => show (0 : Fin 2) ∉ [(1 : Fin 2)] by decide)
    (fun c => (body_obligation m c).loose) (fun _ => rfl) (fun _ => rfl) (memS m) (finS m)
    (fun c => iprop(unscopedBufs c (mid m c) ∗ ∃ W, owes (c.tc : Thread nD τ) (0 : CellTallies nD τ sig Unit) W))
    (fun c => unscopedBufs c (after (mid m) c)) (deal m)
    (fun c => by
      show _ ⊢ iprop((start p (pay m) c ∗ mem m c) ∗ side m c)
      unfold side memS
      iintro ⟨Hs, ⟨Hm, Hv⟩, Hr⟩
      isplitl [Hs Hm]
      · isplitl [Hs] <;> iassumption
      isplitl [Hv] <;> iassumption)
    (fun c => by
      rw [seven fun i => (zero p c i : sProp 𝕄)]
      show iprop(Φ₁ m c ∗ side m c) ⊢ iprop(finS m c ∗ iprop(zero p c 0 ∗ zero p c 1 ∗ zero p c 2 ∗ zero p c 3 ∗ zero p c 4 ∗ zero p c 5 ∗ zero p c 6) ∗ Pipeline.scopedRest cfg0.spec c)
      unfold Φ₁ side finS
      iintro ⟨⟨Hf, Hz⟩, Hv, Hr⟩
      isplitl [Hf Hv]
      · isplitl [Hf] <;> iassumption
      isplitl [Hz] <;> iassumption)
    (fun c => by
      iintro ⟨Hf, HO⟩; imodintro
      isplitl [Hf]; · iapply (to_mid m c); iexact Hf
      iexact HO)
    (fun c => ⟨BI.Entails.refl _, BI.Entails.refl _⟩)
    (QY m)
    (fun c s' => (sep_mono_left (at_end m c)).trans (read_two s'))
    (fun s h hs => ⟨h, sem_eq_zero_of_scoped (by decide) hs⟩)

end Cert.ChipSumRun
-- ==== Proof.HostSum.lean ====
/-
# A host sum along one axis

The host's reduction by addition over the extended reals, at the coordinates of an index: the initial value and the sum along
the axis that is reduced.
-/
module

public import Idealize.ShloMosaic.Lib.ValueIdxRank6
public import Idealize.ShloMosaic.PureOps.Ideal
import Idealize.ShloMosaic.Lib.Pointwise.Reduce

@[expose] public section

namespace Cert.HostSum

open Idealize.ShloMosaic

/-- Along the first of five axes. -/
theorem axis0 {n0 n1 n2 n3 n4 : ℕ} (h : (⟨5, ![n0, n1, n2, n3, n4]⟩ : Shape).ReducesTo [0] ⟨4, ![n1, n2, n3, n4]⟩)
    (v : (⟨5, ![n0, n1, n2, n3, n4]⟩ : Shape).Idx → EReal) (z : EReal) (b : Fin n1) (c : Fin n2) (d : Fin n3) (e : Fin n4) :
    Ideal.hostReduceAdd h v z (ValueIdx.ix4 b c d e) = z + ∑ a : Fin n0, v (ValueIdx.ix5 a b c d e) :=
  Ideal.hostReduceAdd_r5_a0 h v z _

end Cert.HostSum
-- ==== Proof.ChipSumValue.lean ====
/-
# The exchange between the chips and the sum over them: the value

Over the extended reals: the kernels' result on device `c`, index by index, against the plain statement over whole arrays,
which sums over the chips that hold a block.
-/
module

public import proofs.«01_k».proof.Proof.ChipSumRun
public import proofs.«01_k».proof.Proof.Gen.ChipSumRefIdeal.Run
public import proofs.«01_k».proof.Proof.HostSum
public import Idealize.ShloMosaic.Lib.IdealHost
public import Idealize.ShloMosaic.Lib.ValueIdxRank6

@[expose] public section

noncomputable section

namespace Cert.ChipSumRun

open Idealize.ShloMosaic Idealize.ShloMosaic.TcCoe Idealize.ShloMosaic.ValueIdx Idealize.SL.Sem
open Cert.ChipSumIdeal Cert.ChipSumIdeal.Gen

section Ref

open Cert.ChipSumRefIdeal Cert.ChipSumRefIdeal.Gen

/-- The reference's sum over the chips that hold a block. -/
abbrev overChips (X : S32x86016x128.Idx → Elt Ideal .f32) : S2x4x86016x128.Idx → Elt Ideal .f32 :=
  Host.reduceAdd (F := Ideal) (shapeCast S4x2x4x86016x128 X shapeCasts_S32x86016x128_S4x2x4x86016x128) (constant (F := Ideal) Cert.ChipSumRefIdeal.S_ .f32 0x00000000#32)
    reducesTo_S4x2x4x86016x128_S2x4x86016x128_d0 h_S_

/-- The reference's term. -/
abbrev chipSum (X : S32x86016x128.Idx → Elt Ideal .f32) : S688128x128.Idx → Elt Ideal .f32 :=
  shapeCast S688128x128 (transpose S4x2x86016x128 [1, 0, 2, 3] (overChips X)
    transposes_S2x4x86016x128_S4x2x86016x128_1_0_2_3) shapeCasts_S4x2x86016x128_S688128x128

theorem overChips_apply (X : S32x86016x128.Idx → Elt Ideal .f32) (k : Fin 2) (h : Fin 4) (r : Fin 86016) (l : Fin 128) :
    overChips X (ix4 k h r l) = ∑ j : Fin 4, (X (ix3 (⟨j.val * 8 + k.val * 4 + h.val, by omega⟩ : Fin 32) r l) : EReal) := by
  refine (HostSum.axis0 reducesTo_S4x2x4x86016x128_S2x4x86016x128_d0 _ _ k h r l).trans ?_
  refine (congrArg (· + _) Ideal.ofBits_zero_f32).trans ((zero_add _).trans (Finset.sum_congr rfl fun j _ => ?_))
  exact shapeCast_apply _ _ (ix5 j k h r l) _ (by
    rw [Shape.rowMajor_val_five, Shape.rowMajor_val_three]
    show ((j.val * 8 + k.val * 4 + h.val) * 86016 + r.val) * 128 + l.val = (((j.val * 2 + k.val) * 4 + h.val) * 86016 + r.val) * 128 + l.val
    omega)

/-- The reference at an index: row `n` belongs to device `n / 86016`, that is to core `n / 86016 % 2` of chip `n / 172032`. -/
theorem chipSum_apply (X : S32x86016x128.Idx → Elt Ideal .f32) (n : Fin 688128) (l : Fin 128) :
    chipSum X (ix2 n l) = ∑ j : Fin 4, (X (ix3 (⟨j.val * 8 + n.val / 86016 % 2 * 4 + n.val / 172032, by omega⟩ : Fin 32)
      (⟨n.val % 86016, by omega⟩ : Fin 86016) l) : EReal) := by
  unfold chipSum
  rw [shapeCast_apply _ _ (ix2 n l) (ix4 (⟨n.val / 172032, by omega⟩ : Fin 4) (⟨n.val / 86016 % 2, by omega⟩ : Fin 2) (⟨n.val % 86016, by omega⟩ : Fin 86016) l)
      (by rw [Shape.rowMajor_val_four, Shape.rowMajor_val_two]
          show ((n.val / 172032 * 2 + n.val / 86016 % 2) * 86016 + n.val % 86016) * 128 + l.val = n.val * 128 + l.val
          omega),
    transpose_apply _ _ _ _ (ix4 (⟨n.val / 86016 % 2, by omega⟩ : Fin 2) (⟨n.val / 172032, by omega⟩ : Fin 4) (⟨n.val % 86016, by omega⟩ : Fin 86016) l)
      (fun b => by fin_cases b <;> rfl)]
  exact overChips_apply X _ _ _ _

end Ref

variable (m : (ℓ : Loc nD τ sig) → Buf (Elt Ideal) ℓ)

/-- The kernel's order of the four summands gives their sum. -/
theorem total_apply (x : S4x86016x128.Idx → Elt Ideal .f32) (r : Fin 86016) (l : Fin 128) :
    total (F := Ideal) x (ix2 r l) = ∑ j : Fin 4, (x (ix3 j r l) : EReal) :=
  (Fin.sum_univ_four fun j : Fin 4 => (x (ix3 j r l) : EReal)).symm

/-- Device `c`'s result is its block of the reference's. -/
theorem sum_block (X : (⟨3, ![32, 86016, 128]⟩ : Shape).Idx → Elt Ideal .f32)
    (hm : ∀ c : Dev nD, m ((c.tc : Thread nD τ).loc main_arg0) = Layout.block ⟨3, ![4, 86016, 128]⟩ ⟨3, ![32, 86016, 128]⟩ 0 8 c X)
    (c : Dev nD) : total (F := Ideal) (res m c) = Layout.block ⟨2, ![86016, 128]⟩ ⟨2, ![688128, 128]⟩ 0 8 c (chipSum X) := by
  have hc : c.val < 8 := c.isLt
  have H : ∀ (r : Fin 86016) (l : Fin 128), total (F := Ideal) (res m c) (ix2 r l)
      = Layout.block ⟨2, ![86016, 128]⟩ ⟨2, ![688128, 128]⟩ 0 8 c (chipSum X) (by decide) (ix2 r l) := by
    intro r l
    have hr : r.val < 86016 := r.isLt
    have hi : ∀ h : Layout.Tiles ⟨2, ![86016, 128]⟩ ⟨2, ![688128, 128]⟩ 0 8,
        h.idx c (ix2 r l) = ix2 (⟨c.val * 86016 + r.val, by omega⟩ : Fin 688128) l := fun h => by
      funext b; apply Fin.ext; rw [Layout.Tiles.idx_val]; fin_cases b <;> rfl
    have hs (j : Fin 4) : ∀ h : Layout.Tiles ⟨3, ![4, 86016, 128]⟩ ⟨3, ![32, 86016, 128]⟩ 0 8,
        h.idx (on c j.val) (ix3 (⟨c.val / 2, by omega⟩ : Fin 4) r l)
          = ix3 (⟨j.val * 8 + (c.val * 86016 + r.val) / 86016 % 2 * 4 + (c.val * 86016 + r.val) / 172032, by omega⟩ : Fin 32)
              (⟨(c.val * 86016 + r.val) % 86016, by omega⟩ : Fin 86016) l := fun h => by
      funext b; apply Fin.ext; rw [Layout.Tiles.idx_val]
      fin_cases b
      · show (2 * (j.val % 4) + c.val % 2) * 4 + c.val / 2
          = j.val * 8 + (c.val * 86016 + r.val) / 86016 % 2 * 4 + (c.val * 86016 + r.val) / 172032
        have := j.isLt
        omega
      · show r.val = (c.val * 86016 + r.val) % 86016
        omega
      · rfl
    refine (total_apply _ r l).trans ?_
    rw [Layout.block_apply, hi, chipSum_apply]
    refine Finset.sum_congr rfl fun j _ => ?_
    show arg m (on c j.val) (ix3 (⟨c.val / 2, by omega⟩ : Fin 4) r l) = _
    unfold arg
    rw [hm (on c j.val), Layout.block_apply, hs]
  funext i
  rw [eq_ix2 (n0 := 86016) (n1 := 128) i]
  exact H _ _

end Cert.ChipSumRun
-- ==== Proof.ChipSumClaims.lean ====
/-
# The exchange between the chips and the sum over them: the claims
-/
module

public import proofs.«01_k».proof.Proof.ChipSumValue
public import proofs.«01_k».proof.Defs
public import proofs.«01_k».proof.Proof.Gen.ChipSum
public import proofs.«01_k».proof.Proof.Gen.ChipSumRef.Run
public import Idealize.ShloMosaic.Lib.Quiescent

@[expose] public section

noncomputable section

namespace Cert.ChipSumRun

open Idealize.ShloMosaic Idealize.ShloMosaic.TcCoe Idealize.SL.Sem
open Cert.ChipSum.Gen Cert.ChipSumRef.Gen Cert.ChipSumIdeal.Gen Cert.ChipSumRefIdeal.Gen

/-- The kernel's two printings run the same bodies, label by label. -/
theorem same_defs₀ : Cert.ChipSum.defs₀ (F := Bits) = Cert.ChipSumIdeal.defs₀ (F := Bits) :=
  congrArg Defs.onTc (funext fun l => funext fun a => by
    match l, a with
    | ⟨0, _⟩, a => rfl
    | ⟨1, _⟩, a => rfl)
theorem same_defs : Cert.ChipSum.defs (F := Bits) = Cert.ChipSumIdeal.defs (F := Bits) := congrArg (Pipeline.defs _) same_defs₀

theorem frame_kernel : Cert.quiescent_ChipSum := fun m ρ _ => by
  rw [same_defs]
  exact (θ_run Cert.ChipSumIdeal.defs _ _).mono (fun _ h => ⟨fun c => (h.1 c).1, h.2⟩) (run_main (F := Bits) m ρ)
theorem frame_kernel_ideal : Cert.quiescent_ChipSumIdeal := fun m ρ _ =>
  (θ_run Cert.ChipSumIdeal.defs _ _).mono (fun _ h => ⟨fun c => (h.1 c).1, h.2⟩) (run_main (F := Ideal) m ρ)
theorem frame_ref : Cert.quiescent_ChipSumRef := fun m ρ _ =>
  (θ_run Cert.ChipSumRef.defs _ _).mono (fun r h => ⟨fun c => (h c).2, sem_eq_zero_of_no_sems (by decide) r.2⟩) (Cert.ChipSumRef.Value.run (F := Bits) m ρ)
theorem frame_ref_ideal : Cert.quiescent_ChipSumRefIdeal := fun m ρ _ =>
  (θ_run Cert.ChipSumRefIdeal.defs _ _).mono (fun r h => ⟨fun c => (h c).2, sem_eq_zero_of_no_sems (by decide) r.2⟩) (Cert.ChipSumRefIdeal.Value.run (F := Ideal) m ρ)

/-- Over the extended reals: every device ends with its part of the reference's sum. -/
theorem algebraic : Cert.algebraic_ChipSumIdeal_ChipSumRefIdeal := fun m ρ m' ρ' _ hm =>
  ⟨_, (θ_run Cert.ChipSumIdeal.defs _ _).mono (fun _ h c => ⟨(h.1 c).2.trans (sum_block m _ hm c), (h.1 c).1⟩) (run_main (F := Ideal) m ρ),
    (θ_run Cert.ChipSumRefIdeal.defs _ _).mono (fun _ h => h 0) (Cert.ChipSumRefIdeal.Value.run (F := Ideal) m' ρ')⟩

end Cert.ChipSumRun
-- ==== Proof.AdamwClaims.lean ====
/-
# The AdamW step of the packed shard: the claims

Every output is one pointwise function of the weights, the gradient and the moments, and the reference applies the same
operations to whole arrays: over the extended reals the two functions are the same term.
-/
module

public import proofs.«01_k».proof.Defs
public import proofs.«01_k».proof.Proof.Gen.Adamw.Frame
public import proofs.«01_k».proof.Proof.Gen.AdamwIdeal.Value
public import proofs.«01_k».proof.Proof.Gen.AdamwRef.Run
public import proofs.«01_k».proof.Proof.Gen.AdamwRefIdeal.Run
public import Idealize.ShloMosaic.Lib.Quiescent

@[expose] public section

noncomputable section

namespace Cert.AdamwRun

open Idealize.ShloMosaic Idealize.ShloMosaic.TcCoe Idealize.SL.Sem
open Cert.Adamw.Gen Cert.AdamwIdeal.Gen Cert.AdamwRef.Gen Cert.AdamwRefIdeal.Gen

theorem frame_kernel : Cert.quiescent_Adamw := fun m ρ _ => Cert.Adamw.Gen.frame m ρ
theorem frame_kernel_ideal : Cert.quiescent_AdamwIdeal := fun m ρ _ => Cert.AdamwIdeal.Gen.frame m ρ
theorem frame_ref : Cert.quiescent_AdamwRef := fun m ρ _ =>
  (θ_run Cert.AdamwRef.defs _ _).mono (fun r h => ⟨fun c => (h c).2.2.2, sem_eq_zero_of_no_sems (by decide) r.2⟩)
    (Cert.AdamwRef.Value.run (F := Bits) m ρ)
theorem frame_ref_ideal : Cert.quiescent_AdamwRefIdeal := fun m ρ _ =>
  (θ_run Cert.AdamwRefIdeal.defs _ _).mono (fun r h => ⟨fun c => (h c).2.2.2, sem_eq_zero_of_no_sems (by decide) r.2⟩)
    (Cert.AdamwRefIdeal.Value.run (F := Ideal) m ρ)

/-- Over the extended reals: the step and both moments are the reference's. -/
theorem algebraic : Cert.algebraic_AdamwIdeal_AdamwRefIdeal := fun m ρ m' ρ' _ hm =>
  ⟨_, _, _, Cert.AdamwIdeal.Value.run (F := Ideal) m ρ,
    (θ_run Cert.AdamwRefIdeal.defs _ _).mono (fun r h c => by
      obtain ⟨h1, h2, h3, h4⟩ := h c
      obtain ⟨e0, e1, e2, e3⟩ := hm c
      exact ⟨h1.trans (by rw [e0, e1, e2, e3]; rfl), h2.trans (by rw [e1, e2]; rfl), h3.trans (by rw [e1, e3]; rfl), h4⟩)
      (Cert.AdamwRefIdeal.Value.run (F := Ideal) m' ρ')⟩

end Cert.AdamwRun
-- ==== Proof.AdamwSmallClaims.lean ====
/-
# The AdamW step of the packed replicated weights: the claims

Every output is one pointwise function of the weights, the gradient and the moments, and the reference applies the same
operations to whole arrays: over the extended reals the two functions are the same term.
-/
module

public import proofs.«01_k».proof.Defs
public import proofs.«01_k».proof.Proof.Gen.AdamwSmall.Frame
public import proofs.«01_k».proof.Proof.Gen.AdamwSmallIdeal.Value
public import proofs.«01_k».proof.Proof.Gen.AdamwSmallRef.Run
public import proofs.«01_k».proof.Proof.Gen.AdamwSmallRefIdeal.Run
public import Idealize.ShloMosaic.Lib.Quiescent

@[expose] public section

noncomputable section

namespace Cert.AdamwSmallRun

open Idealize.ShloMosaic Idealize.ShloMosaic.TcCoe Idealize.SL.Sem
open Cert.AdamwSmall.Gen Cert.AdamwSmallIdeal.Gen Cert.AdamwSmallRef.Gen Cert.AdamwSmallRefIdeal.Gen

theorem frame_kernel : Cert.quiescent_AdamwSmall := fun m ρ _ => Cert.AdamwSmall.Gen.frame m ρ
theorem frame_kernel_ideal : Cert.quiescent_AdamwSmallIdeal := fun m ρ _ => Cert.AdamwSmallIdeal.Gen.frame m ρ
theorem frame_ref : Cert.quiescent_AdamwSmallRef := fun m ρ _ =>
  (θ_run Cert.AdamwSmallRef.defs _ _).mono (fun r h => ⟨fun c => (h c).2.2.2, sem_eq_zero_of_no_sems (by decide) r.2⟩)
    (Cert.AdamwSmallRef.Value.run (F := Bits) m ρ)
theorem frame_ref_ideal : Cert.quiescent_AdamwSmallRefIdeal := fun m ρ _ =>
  (θ_run Cert.AdamwSmallRefIdeal.defs _ _).mono (fun r h => ⟨fun c => (h c).2.2.2, sem_eq_zero_of_no_sems (by decide) r.2⟩)
    (Cert.AdamwSmallRefIdeal.Value.run (F := Ideal) m ρ)

/-- Over the extended reals: the step and both moments are the reference's. -/
theorem algebraic : Cert.algebraic_AdamwSmallIdeal_AdamwSmallRefIdeal := fun m ρ m' ρ' _ hm =>
  ⟨_, _, _, Cert.AdamwSmallIdeal.Value.run (F := Ideal) m ρ,
    (θ_run Cert.AdamwSmallRefIdeal.defs _ _).mono (fun r h c => by
      obtain ⟨h1, h2, h3, h4⟩ := h c
      obtain ⟨e0, e1, e2, e3⟩ := hm c
      exact ⟨h1.trans (by rw [e0, e1, e2, e3]; rfl), h2.trans (by rw [e1, e2]; rfl), h3.trans (by rw [e1, e3]; rfl), h4⟩)
      (Cert.AdamwSmallRefIdeal.Value.run (F := Ideal) m' ρ')⟩

end Cert.AdamwSmallRun
-- ==== Proof.LossHeadValue.lean ====
/-
# The loss and its derivative: the value

Over the extended reals. The derivative is pointwise, block by block. The loss is summed block by block: after the last
block the cell holds half the sum, over the blocks, of the sums over a block's rows, and half the sum over all rows is that,
the summands being at least zero.
-/
module

public import proofs.«01_k».proof.Proof.Gen.LossHeadIdeal.Value
public import proofs.«01_k».proof.Proof.Gen.LossHeadRefIdeal.Run
public import Idealize.ShloMosaic.Lib.Pipeline.ValueKit
public import Idealize.ShloMosaic.Lib.Pointwise
public import Idealize.ShloMosaic.Lib.IdealHost

@[expose] public section

noncomputable section

namespace Cert.LossHeadRun

open Idealize.ShloMosaic Idealize.ShloMosaic.TcCoe Idealize.SL.Sem
open Cert.LossHeadIdeal Cert.LossHeadIdeal.Gen

/-- One element's difference. -/
abbrev gap (a b : EReal) : EReal := a - b

/-- A row's mean of squares. -/
def rowMean {n : ℕ} (y t : (⟨2, ![n, 1024]⟩ : Shape).Idx → EReal) (r : Fin n) : EReal :=
  Ideal.div (∑ l : Fin 1024, gap (y (ix2 r l)) (t (ix2 r l)) * gap (y (ix2 r l)) (t (ix2 r l))) (Ideal.ofBits .f32 0x44800000#32)

/-- What a block adds to the loss. -/
theorem pay_apply (y t : Vec Ideal S512x1024 .f32) (acc : Vec Ideal S1x128 .f32) (j : S1x128.Idx) :
    k0_pay4 (F := Ideal) y t acc j = acc j + Ideal.ofBits .f32 0x3F000000#32 * ∑ r : Fin 512, rowMean y t r := by
  pointwise [k0_pay4, k0_pay2, rowMean]

/-- The block that the first point starts from. -/
theorem pay_zero (j : S1x128.Idx) : k0_pay1 (F := Ideal) j = 0 := Ideal.ofBits_zero_f32

/-- A half distributes over any sum: it is a nonnegative real. -/
theorem half_mul_sum {ι : Type} (s : Finset ι) (f : ι → EReal) :
    Ideal.ofBits .f32 0x3F000000#32 * ∑ i ∈ s, f i = ∑ i ∈ s, Ideal.ofBits .f32 0x3F000000#32 * f i := by
  have e : Ideal.ofBits .f32 0x3F000000#32 = (((1 : ℝ) / 2 : ℝ) : EReal) := by
    simp [Ideal.ofBits, Ideal.ieee, -EReal.coe_mul]; norm_num
  rw [e]
  classical
  induction s using Finset.induction with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

variable (m : (ℓ : Loc nD τ sig) → Buf (Elt Ideal) ℓ)

/-- The outputs and the targets on device `c`. -/
abbrev ys (c : Dev nD) : S8192x1024.Idx → EReal := m ((c : Thread nD τ).loc main_arg0)
abbrev ts (c : Dev nD) : S8192x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel

/-- Row `r` of block `t` is row `t * 512 + r` of the array. -/
theorem y_block (c : Dev nD) (t : Fin cfg0.N) (r : Fin 512) (l : Fin 1024) (h : t.val * 512 + r.val < 8192) :
    iblk m c 0 t (ix2 r l) = ys m c (ix2 (⟨t.val * 512 + r.val, h⟩ : Fin 8192) l) := by
  blk_ext [iblk, V, index0 t]

theorem t_block (c : Dev nD) (t : Fin cfg0.N) (r : Fin 512) (l : Fin 1024) (h : t.val * 512 + r.val < 8192) :
    iblk m c 1 t (ix2 r l) = ts m c (ix2 (⟨t.val * 512 + r.val, h⟩ : Fin 8192) l) := by
  blk_ext [iblk, V, index1 t]

/-- After the last block: half the sum over all rows. -/
theorem loss_last (c : Dev nD) (j : S1x128.Idx) :
    (outsAt0 m c t0_15.val t0_15.isLt).2 j
      = Ideal.ofBits .f32 0x3F000000#32 * ∑ r : Fin 8192, rowMean (ys m c) (ts m c) r := by
  rw [Pipeline.eq_sum_fin_of_reset_step_apply_last (fun n h => (outsAt0 m c n h).2) 16 (fun _ => 0)
    (fun t _ => Ideal.ofBits .f32 0x3F000000#32 * ∑ r : Fin 512, rowMean (iblk m c 0 t) (iblk m c 1 t) r)
    (fun t h j => by rw [outsAt0_A m c t h]; frame_out; rw [pay_apply, pay_zero])
    (fun t h j => by rw [outsAt0_B m c t h]; frame_out; rw [pay_apply])
    (le_of_eq N_0) t0_15 rfl j, zero_add, ← half_mul_sum]
  refine congrArg (Ideal.ofBits .f32 0x3F000000#32 * ·) ?_
  refine Fin.sum_mul_add_congr (S := 16) (n := 512) (f := rowMean (ys m c) (ts m c)) fun t r h => ?_
  unfold rowMean
  simp only [y_block m c t r _ h, t_block m c t r _ h]

/-- The loss cell after the run. -/
theorem loss_value (c : Dev nD) : (dats m 0 c).arrAt 3 cfg0.N
    = fun _ => Ideal.ofBits .f32 0x3F000000#32 * ∑ r : Fin 8192, rowMean (ys m c) (ts m c) r := by
  refine (dats m 0 c).arrAt_eq_of_after_last 3 t0_15 (by decide +kernel) _ fun j => ?_
  blk_simp
  rw [after0_3]
  exact loss_last m c _

/-- The derivative after the run. -/
theorem dy_value (c : Dev nD) : (dats m 0 c).arrAt 2 cfg0.N
    = fun i => Ideal.div (gap (ys m c i) (ts m c i)) (Ideal.ofBits .f32 0x44800000#32) := by
  refine (dats m 0 c).arrAt_eq_of_covers 2 _ (by decide +kernel) fun t hf y => ?_
  blk_simp
  rw [after0_2]
  have hy : iblk m c 0 t y = ys m c ((win0_2.blk t).view.emb y) := by blk_ext [iblk, V, index0 t, index2 t]
  have ht : iblk m c 1 t y = ts m c ((win0_2.blk t).view.emb y) := by blk_ext [iblk, V, index1 t, index2 t]
  have hp : (outsAt0 m c t.val t.isLt).1 = k0_pay3 (F := Ideal) (iblk m c 0 t) (iblk m c 1 t) := by
    by_cases h : t.val % 16 = 0
    · rw [outsAt0_A m c t h]; frame_out
    · rw [outsAt0_B m c t h]; frame_out
  rw [hp, ← hy, ← ht]
  rfl

section Ref

open Cert.LossHeadRefIdeal Cert.LossHeadRefIdeal.Gen

/-- The reference's loss, at any index of its row of lanes. -/
theorem ref_loss (y t : Cert.LossHeadRefIdeal.S8192x1024.Idx → Elt Ideal .f32) (j : Cert.LossHeadRefIdeal.S1x128.Idx) :
    broadcastInDim Cert.LossHeadRefIdeal.S1x128 ![] bcast_S_S1x128 (mulf (constant (F := Ideal) Cert.LossHeadRefIdeal.S_ .f32 0x3F000000#32)
      (Host.reduceAdd (Host.divf (Host.reduceAdd (mulf (subf y t) (subf y t)) (constant (F := Ideal) Cert.LossHeadRefIdeal.S_ .f32 0x00000000#32)
        reducesTo_S8192x1024_S8192_d1 h_S_) (broadcastInDim S8192 ![] bcast_S_S8192 (constant (F := Ideal) Cert.LossHeadRefIdeal.S_ .f32 0x44800000#32)))
        (constant (F := Ideal) Cert.LossHeadRefIdeal.S_ .f32 0x00000000#32) reducesTo_S8192_S_d0 h_S_)) j
      = Ideal.ofBits .f32 0x3F000000#32 * ∑ r : Fin 8192, rowMean y t r := by
  pointwise [rowMean]

end Ref

end Cert.LossHeadRun
-- ==== Proof.LossHeadClaims.lean ====
/-
# The loss and its derivative: the claims

The kernel runs one pipeline over blocks of rows; the two results, read after the run, are the reference's over the extended
reals.
-/
module

public import proofs.«01_k».proof.Defs
public import proofs.«01_k».proof.Proof.LossHeadValue
public import proofs.«01_k».proof.Proof.Gen.LossHead.Frame
public import proofs.«01_k».proof.Proof.Gen.LossHeadRef.Run
public import Idealize.ShloMosaic.Lib.Quiescent

@[expose] public section

noncomputable section

namespace Cert.LossHeadRun

open Idealize.ShloMosaic Idealize.ShloMosaic.TcCoe Idealize.SL.Sem
open Cert.LossHead.Gen Cert.LossHeadIdeal.Gen Cert.LossHeadRef.Gen Cert.LossHeadRefIdeal.Gen

theorem frame_kernel : Cert.quiescent_LossHead := fun m ρ _ => Cert.LossHead.Gen.frame m ρ
theorem frame_kernel_ideal : Cert.quiescent_LossHeadIdeal := fun m ρ _ => Cert.LossHeadIdeal.Gen.frame m ρ
theorem frame_ref : Cert.quiescent_LossHeadRef := fun m ρ _ =>
  (θ_run Cert.LossHeadRef.defs _ _).mono (fun r h => ⟨fun c => (h c).2.2, sem_eq_zero_of_no_sems (by decide) r.2⟩)
    (Cert.LossHeadRef.Value.run (F := Bits) m ρ)
theorem frame_ref_ideal : Cert.quiescent_LossHeadRefIdeal := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

/-- Over the extended reals: the derivative and the loss are the reference's. -/
theorem algebraic : Cert.algebraic_LossHeadIdeal_LossHeadRefIdeal := fun m ρ m' ρ' _ hm =>
  ⟨_, _, Cert.LossHeadIdeal.Value.run_blocks (F := Ideal) m ρ,
    (θ_run Cert.LossHeadRefIdeal.defs _ _).mono (fun r h c => by
      obtain ⟨h1, h2, h3⟩ := h c
      obtain ⟨e0, e1⟩ := hm c
      refine ⟨h1.trans ?_, h2.trans ?_, h3⟩
      · rw [e0, e1]
        exact (dy_value m c).symm
      · rw [e0, e1]
        exact (funext fun j => ref_loss _ _ j).trans (loss_value m c).symm)
      (Cert.LossHeadRefIdeal.Value.run (F := Ideal) m' ρ')⟩

end Cert.LossHeadRun
-- ==== Proof.InProducts.lean ====
/-
# The products of the input projection

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.In.Frame
public import proofs.«01_k».proof.Proof.Gen.InIdeal.Value
public import proofs.«01_k».proof.Proof.Gen.InRef.Run
public import proofs.«01_k».proof.Proof.Gen.InRefIdeal.Run
public import proofs.«01_k».proof.Proof.Gen.InDa.Frame
public import proofs.«01_k».proof.Proof.Gen.InDaIdeal.Value
public import proofs.«01_k».proof.Proof.Gen.InDaRef.Run
public import proofs.«01_k».proof.Proof.Gen.InDaRefIdeal.Run
public import proofs.«01_k».proof.Proof.Gen.InDw.Frame
public import proofs.«01_k».proof.Proof.Gen.InDwIdeal.Value
public import proofs.«01_k».proof.Proof.Gen.InDwRef.Run
public import proofs.«01_k».proof.Proof.Gen.InDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.InRun

open Cert.InIdeal Cert.InIdeal.Gen

/-- What a block of the contracted axis adds. -/
theorem pay_apply (acc : Vec Ideal S512x1664 .f32) (x : Vec Ideal S512x1024 .f32) (y : Vec Ideal S1024x1664 .f32) (j : S512x1664.Idx) :
    k0_pay2 (F := Ideal) acc x y j = acc j + ∑ k : Fin 1024, x (ix2 (j 0) k) * y (ix2 k (j 1)) := by
  pointwise [k0_pay2]

/-- The block that a sum starts from. -/
theorem pay_zero (j : S512x1664.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S1024x8320.Idx → EReal := m ((c : Thread nD τ).loc main_arg1)

theorem index0 : ∀ t : Fin grid0.N, win0_0.index t 0 = t.val / 5 ∧ win0_0.index t 1 = 0 := by decide +kernel
theorem index1 : ∀ t : Fin grid0.N, win0_1.index t 0 = 0 ∧ win0_1.index t 1 = t.val % 5 := by decide +kernel
theorem index2 : ∀ t : Fin grid0.N, win0_2.index t 0 = t.val / 5 ∧ win0_2.index t 1 = t.val % 5 := by decide +kernel

/-- The result after the run. -/
theorem value (c : Dev nD) : (dats m 0 c).arrAt 2 cfg0.N
    = fun i => ∑ l : Fin 1024, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.InRefIdeal.S8192x1024.Idx → Elt Ideal .f32) (b : Cert.InRefIdeal.S1024x8320.Idx → Elt Ideal .f32) (i : Cert.InRefIdeal.S8192x8320.Idx) :
    Host.dotGeneral (F := Ideal) (φ₁ := .f32) (φ₂ := .f32) Cert.InRefIdeal.dot_S8192x1024_S1024x8320_S8192x8320_1_0_0_1_n_n none a b i
      = ∑ l : Fin 1024, a (ix2 (i 0) l) * b (ix2 l (i 1)) := by
  pointwise []

theorem frame_kernel : Cert.quiescent_In := fun m ρ _ => Cert.In.Gen.frame m ρ
theorem frame_kernel_ideal : Cert.quiescent_InIdeal := fun m ρ _ => Cert.InIdeal.Gen.frame m ρ
theorem frame_ref : Cert.quiescent_InRef := fun m ρ _ =>
  (θ_run Cert.InRef.defs _ _).mono (fun r h => ⟨fun c => (h c).2, sem_eq_zero_of_no_sems (by decide) r.2⟩)
    (Cert.InRef.Value.run (F := Bits) m ρ)
theorem frame_ref_ideal : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- Over the extended reals: the reference's product. -/
theorem algebraic : Cert.algebraic_InIdeal_InRefIdeal := fun m ρ m' ρ' _ hm =>
  ⟨_, Cert.InIdeal.Value.run_blocks (F := Ideal) m ρ,
    (θ_run Cert.InRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.InRefIdeal.Value.run (F := Ideal) m' ρ')⟩

end Cert.InRun

namespace Cert.InDaRun

open Cert.InDaIdeal Cert.InDaIdeal.Gen

/-- What a block of the contracted axis adds. -/
theorem pay_apply (acc : Vec Ideal S512x1024 .f32) (x : Vec Ideal S512x640 .f32) (y : Vec Ideal S1024x640 .f32) (j : S512x1024.Idx) :
    k0_pay2 (F := Ideal) acc x y j = acc j + ∑ k : Fin 640, x (ix2 (j 0) k) * y (ix2 (j 1) k) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x8320.Idx → EReal := m ((c : Thread nD τ).loc main_arg0)
abbrev rhs (c : Dev nD) : S1024x8320.Idx → EReal := m ((c : Thread nD τ).loc main_arg1)

theorem index0 : ∀ t : Fin grid0.N, win0_0.index t 0 = t.val / 13 ∧ win0_0.index t 1 = t.val % 13 := by decide +kernel
theorem index1 : ∀ t : Fin grid0.N, win0_1.index t 0 = 0 ∧ win0_1.index t 1 = t.val % 13 := by decide +kernel
theorem index2 : ∀ t : Fin grid0.N, win0_2.index t 0 = t.val / 13 ∧ win0_2.index t 1 = 0 := by decide +kernel

/-- The result after the run. -/
theorem value (c : Dev nD) : (dats m 0 c).arrAt 2 cfg0.N
    = fun i => ∑ l : Fin 8320, lhs m c (ix2 (i 0) l) * rhs m c (ix2 (i 1) l) := by
  refine (dats m 0 c).arrAt_eq_of_covers 2 _ (by decide +kernel) fun t hf y => ?_
  blk_simp
  rw [after0_2, Pipeline.eq_sum_fin_of_reset_step_apply_of_flush (fun n h => outsAt0 m c n h) 13 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.InDaRefIdeal.S8192x8320.Idx → Elt Ideal .f32) (b : Cert.InDaRefIdeal.S1024x8320.Idx → Elt Ideal .f32) (i : Cert.InDaRefIdeal.S8192x1024.Idx) :
    Host.dotGeneral (F := Ideal) (φ₁ := .f32) (φ₂ := .f32) Cert.InDaRefIdeal.dot_S8192x8320_S8320x1024_S8192x1024_1_0_0_1_n_n none a (transpose Cert.InDaRefIdeal.S8320x1024 [1, 0] b Cert.InDaRefIdeal.Gen.transposes_S1024x8320_S8320x1024_1_0) i
      = ∑ l : Fin 8320, a (ix2 (i 0) l) * b (ix2 (i 1) l) := by
  pointwise []

theorem frame_kernel : Cert.quiescent_InDa := fun m ρ _ => Cert.InDa.Gen.frame m ρ
theorem frame_kernel_ideal : Cert.quiescent_InDaIdeal := fun m ρ _ => Cert.InDaIdeal.Gen.frame m ρ
theorem frame_ref : Cert.quiescent_InDaRef := fun m ρ _ =>
  (θ_run Cert.InDaRef.defs _ _).mono (fun r h => ⟨fun c => (h c).2, sem_eq_zero_of_no_sems (by decide) r.2⟩)
    (Cert.InDaRef.Value.run (F := Bits) m ρ)
theorem frame_ref_ideal : Cert.quiescent_InDaRefIdeal := fun m ρ _ =>
  (θ_run Cert.InDaRefIdeal.defs _ _).mono (fun r h => ⟨fun c => (h c).2, sem_eq_zero_of_no_sems (by decide) r.2⟩)
    (Cert.InDaRefIdeal.Value.run (F := Ideal) m ρ)

/-- Over the extended reals: the reference's product. -/
theorem algebraic : Cert.algebraic_InDaIdeal_InDaRefIdeal := fun m ρ m' ρ' _ hm =>
  ⟨_, Cert.InDaIdeal.Value.run_blocks (F := Ideal) m ρ,
    (θ_run Cert.InDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.InDaRefIdeal.Value.run (F := Ideal) m' ρ')⟩

end Cert.InDaRun

namespace Cert.InDwRun

open Cert.InDwIdeal Cert.InDwIdeal.Gen

/-- What a block of the contracted axis adds. -/
theorem pay_apply (acc : Vec Ideal S512x1664 .f32) (x : Vec Ideal S1024x512 .f32) (y : Vec Ideal S1024x1664 .f32) (j : S512x1664.Idx) :
    k0_pay2 (F := Ideal) acc x y j = acc j + ∑ k : Fin 1024, x (ix2 k (j 0)) * y (ix2 k (j 1)) := by
  pointwise [k0_pay2]

/-- The block that a sum starts from. -/
theorem pay_zero (j : S512x1664.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S8192x8320.Idx → EReal := m ((c : Thread nD τ).loc main_arg1)

theorem index0 : ∀ t : Fin grid0.N, win0_0.index t 0 = t.val % 8 ∧ win0_0.index t 1 = t.val / 40 := by decide +kernel
theorem index1 : ∀ t : Fin grid0.N, win0_1.index t 0 = t.val % 8 ∧ win0_1.index t 1 = t.val / 8 % 5 := by decide +kernel
theorem index2 : ∀ t : Fin grid0.N, win0_2.index t 0 = t.val / 40 ∧ win0_2.index t 1 = t.val / 8 % 5 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.InDwRefIdeal.S8192x1024.Idx → Elt Ideal .f32) (b : Cert.InDwRefIdeal.S8192x8320.Idx → Elt Ideal .f32) (i : Cert.InDwRefIdeal.S1024x8320.Idx) :
    Host.dotGeneral (F := Ideal) (φ₁ := .f32) (φ₂ := .f32) Cert.InDwRefIdeal.dot_S1024x8192_S8192x8320_S1024x8320_1_0_0_1_n_n none (transpose Cert.InDwRefIdeal.S1024x8192 [1, 0] a Cert.InDwRefIdeal.Gen.transposes_S8192x1024_S1024x8192_1_0) b i
      = ∑ l : Fin 8192, a (ix2 l (i 0)) * b (ix2 l (i 1)) := by
  pointwise []

theorem frame_kernel : Cert.quiescent_InDw := fun m ρ _ => Cert.InDw.Gen.frame m ρ
theorem frame_kernel_ideal : Cert.quiescent_InDwIdeal := fun m ρ _ => Cert.InDwIdeal.Gen.frame m ρ
theorem frame_ref : Cert.quiescent_InDwRef := fun m ρ _ =>
  (θ_run Cert.InDwRef.defs _ _).mono (fun r h => ⟨fun c => (h c).2, sem_eq_zero_of_no_sems (by decide) r.2⟩)
    (Cert.InDwRef.Value.run (F := Bits) m ρ)
theorem frame_ref_ideal : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- Over the extended reals: the reference's product. -/
theorem algebraic : Cert.algebraic_InDwIdeal_InDwRefIdeal := fun m ρ m' ρ' _ hm =>
  ⟨_, Cert.InDwIdeal.Value.run_blocks (F := Ideal) m ρ,
    (θ_run Cert.InDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.InDwRefIdeal.Value.run (F := Ideal) m' ρ')⟩

end Cert.InDwRun
-- ==== Proof.BranchProducts.lean ====
/-
# The products of the branches' output projections

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Branch.Frame
public import proofs.«01_k».proof.Proof.Gen.BranchIdeal.Value
public import proofs.«01_k».proof.Proof.Gen.BranchRef.Run
public import proofs.«01_k».proof.Proof.Gen.BranchRefIdeal.Run
public import proofs.«01_k».proof.Proof.Gen.BranchDa.Frame
public import proofs.«01_k».proof.Proof.Gen.BranchDaIdeal.Value
public import proofs.«01_k».proof.Proof.Gen.BranchDaRef.Run
public import proofs.«01_k».proof.Proof.Gen.BranchDaRefIdeal.Run
public import proofs.«01_k».proof.Proof.Gen.BranchDw.Frame
public import proofs.«01_k».proof.Proof.Gen.BranchDwIdeal.Value
public import proofs.«01_k».proof.Proof.Gen.BranchDwRef.Run
public import proofs.«01_k».proof.Proof.Gen.BranchDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.BranchRun

open Cert.BranchIdeal Cert.BranchIdeal.Gen

/-- What a block of the contracted axis adds. -/
theorem pay_apply (acc : Vec Ideal S512x1024 .f32) (x : Vec Ideal S512x512 .f32) (y : Vec Ideal S512x1024 .f32) (j : S512x1024.Idx) :
    k0_pay2 (F := Ideal) acc x y j = acc j + ∑ k : Fin 512, x (ix2 (j 0) k) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x512.Idx → EReal := m ((c : Thread nD τ).loc main_arg0)
abbrev rhs (c : Dev nD) : S512x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 512, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.BranchRefIdeal.S8192x512.Idx → Elt Ideal .f32) (b : Cert.BranchRefIdeal.S512x1024.Idx → Elt Ideal .f32) (i : Cert.BranchRefIdeal.S8192x1024.Idx) :
    Host.dotGeneral (F := Ideal) (φ₁ := .f32) (φ₂ := .f32) Cert.BranchRefIdeal.dot_S8192x512_S512x1024_S8192x1024_1_0_0_1_n_n none a b i
      = ∑ l : Fin 512, a (ix2 (i 0) l) * b (ix2 l (i 1)) := by
  pointwise []

theorem frame_kernel : Cert.quiescent_Branch := fun m ρ _ => Cert.Branch.Gen.frame m ρ
theorem frame_kernel_ideal : Cert.quiescent_BranchIdeal := fun m ρ _ => Cert.BranchIdeal.Gen.frame m ρ
theorem frame_ref : Cert.quiescent_BranchRef := fun m ρ _ =>
  (θ_run Cert.BranchRef.defs _ _).mono (fun r h => ⟨fun c => (h c).2, sem_eq_zero_of_no_sems (by decide) r.2⟩)
    (Cert.BranchRef.Value.run (F := Bits) m ρ)
theorem frame_ref_ideal : Cert.quiescent_BranchRefIdeal := fun m ρ _ =>
  (θ_run Cert.BranchRefIdeal.defs _ _).mono (fun r h => ⟨fun c => (h c).2, sem_eq_zero_of_no_sems (by decide) r.2⟩)
    (Cert.BranchRefIdeal.Value.run (F := Ideal) m ρ)

/-- Over the extended reals: the reference's product. -/
theorem algebraic : Cert.algebraic_BranchIdeal_BranchRefIdeal := fun m ρ m' ρ' _ hm =>
  ⟨_, Cert.BranchIdeal.Value.run_blocks (F := Ideal) m ρ,
    (θ_run Cert.BranchRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.BranchRefIdeal.Value.run (F := Ideal) m' ρ')⟩

end Cert.BranchRun

namespace Cert.BranchDaRun

open Cert.BranchDaIdeal Cert.BranchDaIdeal.Gen

/-- What a block of the contracted axis adds. -/
theorem pay_apply (acc : Vec Ideal S512x512 .f32) (x : Vec Ideal S512x1024 .f32) (y : Vec Ideal S512x1024 .f32) (j : S512x512.Idx) :
    k0_pay2 (F := Ideal) acc x y j = acc j + ∑ k : Fin 1024, x (ix2 (j 0) k) * y (ix2 (j 1) k) := by
  pointwise [k0_pay2]

/-- The block that a sum starts from. -/
theorem pay_zero (j : S512x512.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S512x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 1024, lhs m c (ix2 (i 0) l) * rhs m c (ix2 (i 1) l) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.BranchDaRefIdeal.S8192x1024.Idx → Elt Ideal .f32) (b : Cert.BranchDaRefIdeal.S512x1024.Idx → Elt Ideal .f32) (i : Cert.BranchDaRefIdeal.S8192x512.Idx) :
    Host.dotGeneral (F := Ideal) (φ₁ := .f32) (φ₂ := .f32) Cert.BranchDaRefIdeal.dot_S8192x1024_S1024x512_S8192x512_1_0_0_1_n_n none a (transpose Cert.BranchDaRefIdeal.S1024x512 [1, 0] b Cert.BranchDaRefIdeal.Gen.transposes_S512x1024_S1024x512_1_0) i
      = ∑ l : Fin 1024, a (ix2 (i 0) l) * b (ix2 (i 1) l) := by
  pointwise []

theorem frame_kernel : Cert.quiescent_BranchDa := fun m ρ _ => Cert.BranchDa.Gen.frame m ρ
theorem frame_kernel_ideal : Cert.quiescent_BranchDaIdeal := fun m ρ _ => Cert.BranchDaIdeal.Gen.frame m ρ
theorem frame_ref : Cert.quiescent_BranchDaRef := fun m ρ _ =>
  (θ_run Cert.BranchDaRef.defs _ _).mono (fun r h => ⟨fun c => (h c).2, sem_eq_zero_of_no_sems (by decide) r.2⟩)
    (Cert.BranchDaRef.Value.run (F := Bits) m ρ)
theorem frame_ref_ideal : Cert.quiescent_BranchDaRefIdeal := fun m ρ _ =>
  (θ_run Cert.BranchDaRefIdeal.defs _ _).mono (fun r h => ⟨fun c => (h c).2, sem_eq_zero_of_no_sems (by decide) r.2⟩)
    (Cert.BranchDaRefIdeal.Value.run (F := Ideal) m ρ)

/-- Over the extended reals: the reference's product. -/
theorem algebraic : Cert.algebraic_BranchDaIdeal_BranchDaRefIdeal := fun m ρ m' ρ' _ hm =>
  ⟨_, Cert.BranchDaIdeal.Value.run_blocks (F := Ideal) m ρ,
    (θ_run Cert.BranchDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.BranchDaRefIdeal.Value.run (F := Ideal) m' ρ')⟩

end Cert.BranchDaRun

namespace Cert.BranchDwRun

open Cert.BranchDwIdeal Cert.BranchDwIdeal.Gen

/-- What a block of the contracted axis adds. -/
theorem pay_apply (acc : Vec Ideal S512x1024 .f32) (x : Vec Ideal S1024x512 .f32) (y : Vec Ideal S1024x1024 .f32) (j : S512x1024.Idx) :
    k0_pay2 (F := Ideal) acc x y j = acc j + ∑ k : Fin 1024, x (ix2 k (j 0)) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x512.Idx → EReal := m ((c : Thread nD τ).loc main_arg0)
abbrev rhs (c : Dev nD) : S8192x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.BranchDwRefIdeal.S8192x512.Idx → Elt Ideal .f32) (b : Cert.BranchDwRefIdeal.S8192x1024.Idx → Elt Ideal .f32) (i : Cert.BranchDwRefIdeal.S512x1024.Idx) :
    Host.dotGeneral (F := Ideal) (φ₁ := .f32) (φ₂ := .f32) Cert.BranchDwRefIdeal.dot_S512x8192_S8192x1024_S512x1024_1_0_0_1_n_n none (transpose Cert.BranchDwRefIdeal.S512x8192 [1, 0] a Cert.BranchDwRefIdeal.Gen.transposes_S8192x512_S512x8192_1_0) b i
      = ∑ l : Fin 8192, a (ix2 l (i 0)) * b (ix2 l (i 1)) := by
  pointwise []

theorem frame_kernel : Cert.quiescent_BranchDw := fun m ρ _ => Cert.BranchDw.Gen.frame m ρ
theorem frame_kernel_ideal : Cert.quiescent_BranchDwIdeal := fun m ρ _ => Cert.BranchDwIdeal.Gen.frame m ρ
theorem frame_ref : Cert.quiescent_BranchDwRef := fun m ρ _ =>
  (θ_run Cert.BranchDwRef.defs _ _).mono (fun r h => ⟨fun c => (h c).2, sem_eq_zero_of_no_sems (by decide) r.2⟩)
    (Cert.BranchDwRef.Value.run (F := Bits) m ρ)
theorem frame_ref_ideal : Cert.quiescent_BranchDwRefIdeal := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

/-- Over the extended reals: the reference's product. -/
theorem algebraic : Cert.algebraic_BranchDwIdeal_BranchDwRefIdeal := fun m ρ m' ρ' _ hm =>
  ⟨_, Cert.BranchDwIdeal.Value.run_blocks (F := Ideal) m ρ,
    (θ_run Cert.BranchDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.BranchDwRefIdeal.Value.run (F := Ideal) m' ρ')⟩

end Cert.BranchDwRun
-- ==== Proof.OutProducts.lean ====
/-
# The products of the mixer's output projection

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Out.Frame
public import proofs.«01_k».proof.Proof.Gen.OutIdeal.Value
public import proofs.«01_k».proof.Proof.Gen.OutRef.Run
public import proofs.«01_k».proof.Proof.Gen.OutRefIdeal.Run
public import proofs.«01_k».proof.Proof.Gen.OutDa.Frame
public import proofs.«01_k».proof.Proof.Gen.OutDaIdeal.Value
public import proofs.«01_k».proof.Proof.Gen.OutDaRef.Run
public import proofs.«01_k».proof.Proof.Gen.OutDaRefIdeal.Run
public import proofs.«01_k».proof.Proof.Gen.OutDw.Frame
public import proofs.«01_k».proof.Proof.Gen.OutDwIdeal.Value
public import proofs.«01_k».proof.Proof.Gen.OutDwRef.Run
public import proofs.«01_k».proof.Proof.Gen.OutDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.OutRun

open Cert.OutIdeal Cert.OutIdeal.Gen

/-- What a block of the contracted axis adds. -/
theorem pay_apply (acc : Vec Ideal S512x1024 .f32) (x : Vec Ideal S512x1024 .f32) (y : Vec Ideal S1024x1024 .f32) (j : S512x1024.Idx) :
    k0_pay2 (F := Ideal) acc x y j = acc j + ∑ k : Fin 1024, x (ix2 (j 0) k) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S1024x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 1024, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.OutRefIdeal.S8192x1024.Idx → Elt Ideal .f32) (b : Cert.OutRefIdeal.S1024x1024.Idx → Elt Ideal .f32) (i : Cert.OutRefIdeal.S8192x1024.Idx) :
    Host.dotGeneral (F := Ideal) (φ₁ := .f32) (φ₂ := .f32) Cert.OutRefIdeal.dot_S8192x1024_S1024x1024_S8192x1024_1_0_0_1_n_n none a b i
      = ∑ l : Fin 1024, a (ix2 (i 0) l) * b (ix2 l (i 1)) := by
  pointwise []

theorem frame_kernel : Cert.quiescent_Out := fun m ρ _ => Cert.Out.Gen.frame m ρ
theorem frame_kernel_ideal : Cert.quiescent_OutIdeal := fun m ρ _ => Cert.OutIdeal.Gen.frame m ρ
theorem frame_ref : Cert.quiescent_OutRef := fun m ρ _ =>
  (θ_run Cert.OutRef.defs _ _).mono (fun r h => ⟨fun c => (h c).2, sem_eq_zero_of_no_sems (by decide) r.2⟩)
    (Cert.OutRef.Value.run (F := Bits) m ρ)
theorem frame_ref_ideal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Over the extended reals: the reference's product. -/
theorem algebraic : Cert.algebraic_OutIdeal_OutRefIdeal := fun m ρ m' ρ' _ hm =>
  ⟨_, Cert.OutIdeal.Value.run_blocks (F := Ideal) m ρ,
    (θ_run Cert.OutRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.OutRefIdeal.Value.run (F := Ideal) m' ρ')⟩

end Cert.OutRun

namespace Cert.OutDaRun

open Cert.OutDaIdeal Cert.OutDaIdeal.Gen

/-- What a block of the contracted axis adds. -/
theorem pay_apply (acc : Vec Ideal S512x1024 .f32) (x : Vec Ideal S512x1024 .f32) (y : Vec Ideal S1024x1024 .f32) (j : S512x1024.Idx) :
    k0_pay2 (F := Ideal) acc x y j = acc j + ∑ k : Fin 1024, x (ix2 (j 0) k) * y (ix2 (j 1) k) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S1024x1024.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 1024, lhs m c (ix2 (i 0) l) * rhs m c (ix2 (i 1) l) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.OutDaRefIdeal.S8192x1024.Idx → Elt Ideal .f32) (b : Cert.OutDaRefIdeal.S1024x1024.Idx → Elt Ideal .f32) (i : Cert.OutDaRefIdeal.S8192x1024.Idx) :
    Host.dotGeneral (F := Ideal) (φ₁ := .f32) (φ₂ := .f32) Cert.OutDaRefIdeal.dot_S8192x1024_S1024x1024_S8192x1024_1_0_0_1_n_n none a (transpose Cert.OutDaRefIdeal.S1024x1024 [1, 0] b Cert.OutDaRefIdeal.Gen.transposes_S1024x1024_S1024x1024_1_0) i
      = ∑ l : Fin 1024, a (ix2 (i 0) l) * b (ix2 (i 1) l) := by
  pointwise []

theorem frame_kernel : Cert.quiescent_OutDa := fun m ρ _ => Cert.OutDa.Gen.frame m ρ
theorem frame_kernel_ideal : Cert.quiescent_OutDaIdeal := fun m ρ _ => Cert.OutDaIdeal.Gen.frame m ρ
theorem frame_ref : Cert.quiescent_OutDaRef := fun m ρ _ =>
  (θ_run Cert.OutDaRef.defs _ _).mono (fun r h => ⟨fun c => (h c).2, sem_eq_zero_of_no_sems (by decide) r.2⟩)
    (Cert.OutDaRef.Value.run (F := Bits) m ρ)
theorem frame_ref_ideal : Cert.quiescent_OutDaRefIdeal := fun m ρ _ =>
  (θ_run Cert.OutDaRefIdeal.defs _ _).mono (fun r h => ⟨fun c => (h c).2, sem_eq_zero_of_no_sems (by decide) r.2⟩)
    (Cert.OutDaRefIdeal.Value.run (F := Ideal) m ρ)

/-- Over the extended reals: the reference's product. -/
theorem algebraic : Cert.algebraic_OutDaIdeal_OutDaRefIdeal := fun m ρ m' ρ' _ hm =>
  ⟨_, Cert.OutDaIdeal.Value.run_blocks (F := Ideal) m ρ,
    (θ_run Cert.OutDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.OutDaRefIdeal.Value.run (F := Ideal) m' ρ')⟩

end Cert.OutDaRun

namespace Cert.OutDwRun

open Cert.OutDwIdeal Cert.OutDwIdeal.Gen

/-- What a block of the contracted axis adds. -/
theorem pay_apply (acc : Vec Ideal S512x1024 .f32) (x : Vec Ideal S1024x512 .f32) (y : Vec Ideal S1024x1024 .f32) (j : S512x1024.Idx) :
    k0_pay2 (F := Ideal) acc x y j = acc j + ∑ k : Fin 1024, x (ix2 k (j 0)) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S8192x1024.Idx → EReal := m ((c : Thread nD τ).loc main_arg1)

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.OutDwRefIdeal.S8192x1024.Idx → Elt Ideal .f32) (b : Cert.OutDwRefIdeal.S8192x1024.Idx → Elt Ideal .f32) (i : Cert.OutDwRefIdeal.S1024x1024.Idx) :
    Host.dotGeneral (F := Ideal) (φ₁ := .f32) (φ₂ := .f32) Cert.OutDwRefIdeal.dot_S1024x8192_S8192x1024_S1024x1024_1_0_0_1_n_n none (transpose Cert.OutDwRefIdeal.S1024x8192 [1, 0] a Cert.OutDwRefIdeal.Gen.transposes_S8192x1024_S1024x8192_1_0) b i
      = ∑ l : Fin 8192, a (ix2 l (i 0)) * b (ix2 l (i 1)) := by
  pointwise []

theorem frame_kernel : Cert.quiescent_OutDw := fun m ρ _ => Cert.OutDw.Gen.frame m ρ
theorem frame_kernel_ideal : Cert.quiescent_OutDwIdeal := fun m ρ _ => Cert.OutDwIdeal.Gen.frame m ρ
theorem frame_ref : Cert.quiescent_OutDwRef := fun m ρ _ =>
  (θ_run Cert.OutDwRef.defs _ _).mono (fun r h => ⟨fun c => (h c).2, sem_eq_zero_of_no_sems (by decide) r.2⟩)
    (Cert.OutDwRef.Value.run (F := Bits) m ρ)
theorem frame_ref_ideal : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- Over the extended reals: the reference's product. -/
theorem algebraic : Cert.algebraic_OutDwIdeal_OutDwRefIdeal := fun m ρ m' ρ' _ hm =>
  ⟨_, Cert.OutDwIdeal.Value.run_blocks (F := Ideal) m ρ,
    (θ_run Cert.OutDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.OutDwRefIdeal.Value.run (F := Ideal) m' ρ')⟩

end Cert.OutDwRun
-- ==== Proof.QueryProducts.lean ====
/-
# The products of the query of the memory

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Query.Frame
public import proofs.«01_k».proof.Proof.Gen.QueryIdeal.Value
public import proofs.«01_k».proof.Proof.Gen.QueryRef.Run
public import proofs.«01_k».proof.Proof.Gen.QueryRefIdeal.Run
public import proofs.«01_k».proof.Proof.Gen.QueryDa.Frame
public import proofs.«01_k».proof.Proof.Gen.QueryDaIdeal.Value
public import proofs.«01_k».proof.Proof.Gen.QueryDaRef.Run
public import proofs.«01_k».proof.Proof.Gen.QueryDaRefIdeal.Run
public import proofs.«01_k».proof.Proof.Gen.QueryDw.Frame
public import proofs.«01_k».proof.Proof.Gen.QueryDwIdeal.Value
public import proofs.«01_k».proof.Proof.Gen.QueryDwRef.Run
public import proofs.«01_k».proof.Proof.Gen.QueryDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.QueryRun

open Cert.QueryIdeal Cert.QueryIdeal.Gen

/-- What a block of the contracted axis adds. -/
theorem pay_apply (acc : Vec Ideal S512x512 .f32) (x : Vec Ideal S512x1024 .f32) (y : Vec Ideal S1024x512 .f32) (j : S512x512.Idx) :
    k0_pay2 (F := Ideal) acc x y j = acc j + ∑ k : Fin 1024, x (ix2 (j 0) k) * y (ix2 k (j 1)) := by
  pointwise [k0_pay2]

/-- The block that a sum starts from. -/
theorem pay_zero (j : S512x512.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S1024x512.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 1024, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.QueryRefIdeal.S8192x1024.Idx → Elt Ideal .f32) (b : Cert.QueryRefIdeal.S1024x512.Idx → Elt Ideal .f32) (i : Cert.QueryRefIdeal.S8192x512.Idx) :
    Host.dotGeneral (F := Ideal) (φ₁ := .f32) (φ₂ := .f32) Cert.QueryRefIdeal.dot_S8192x1024_S1024x512_S8192x512_1_0_0_1_n_n none a b i
      = ∑ l : Fin 1024, a (ix2 (i 0) l) * b (ix2 l (i 1)) := by
  pointwise []

theorem frame_kernel : Cert.quiescent_Query := fun m ρ _ => Cert.Query.Gen.frame m ρ
theorem frame_kernel_ideal : Cert.quiescent_QueryIdeal := fun m ρ _ => Cert.QueryIdeal.Gen.frame m ρ
theorem frame_ref : Cert.quiescent_QueryRef := fun m ρ _ =>
  (θ_run Cert.QueryRef.defs _ _).mono (fun r h => ⟨fun c => (h c).2, sem_eq_zero_of_no_sems (by decide) r.2⟩)
    (Cert.QueryRef.Value.run (F := Bits) m ρ)
theorem frame_ref_ideal : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- Over the extended reals: the reference's product. -/
theorem algebraic : Cert.algebraic_QueryIdeal_QueryRefIdeal := fun m ρ m' ρ' _ hm =>
  ⟨_, Cert.QueryIdeal.Value.run_blocks (F := Ideal) m ρ,
    (θ_run Cert.QueryRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.QueryRefIdeal.Value.run (F := Ideal) m' ρ')⟩

end Cert.QueryRun

namespace Cert.QueryDaRun

open Cert.QueryDaIdeal Cert.QueryDaIdeal.Gen

/-- What a block of the contracted axis adds. -/
theorem pay_apply (acc : Vec Ideal S512x1024 .f32) (x : Vec Ideal S512x512 .f32) (y : Vec Ideal S1024x512 .f32) (j : S512x1024.Idx) :
    k0_pay2 (F := Ideal) acc x y j = acc j + ∑ k : Fin 512, x (ix2 (j 0) k) * y (ix2 (j 1) k) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x512.Idx → EReal := m ((c : Thread nD τ).loc main_arg0)
abbrev rhs (c : Dev nD) : S1024x512.Idx → EReal := m ((c : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 512, lhs m c (ix2 (i 0) l) * rhs m c (ix2 (i 1) l) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.QueryDaRefIdeal.S8192x512.Idx → Elt Ideal .f32) (b : Cert.QueryDaRefIdeal.S1024x512.Idx → Elt Ideal .f32) (i : Cert.QueryDaRefIdeal.S8192x1024.Idx) :
    Host.dotGeneral (F := Ideal) (φ₁ := .f32) (φ₂ := .f32) Cert.QueryDaRefIdeal.dot_S8192x512_S512x1024_S8192x1024_1_0_0_1_n_n none a (transpose Cert.QueryDaRefIdeal.S512x1024 [1, 0] b Cert.QueryDaRefIdeal.Gen.transposes_S1024x512_S512x1024_1_0) i
      = ∑ l : Fin 512, a (ix2 (i 0) l) * b (ix2 (i 1) l) := by
  pointwise []

theorem frame_kernel : Cert.quiescent_QueryDa := fun m ρ _ => Cert.QueryDa.Gen.frame m ρ
theorem frame_kernel_ideal : Cert.quiescent_QueryDaIdeal := fun m ρ _ => Cert.QueryDaIdeal.Gen.frame m ρ
theorem frame_ref : Cert.quiescent_QueryDaRef := fun m ρ _ =>
  (θ_run Cert.QueryDaRef.defs _ _).mono (fun r h => ⟨fun c => (h c).2, sem_eq_zero_of_no_sems (by decide) r.2⟩)
    (Cert.QueryDaRef.Value.run (F := Bits) m ρ)
theorem frame_ref_ideal : Cert.quiescent_QueryDaRefIdeal := fun m ρ _ =>
  (θ_run Cert.QueryDaRefIdeal.defs _ _).mono (fun r h => ⟨fun c => (h c).2, sem_eq_zero_of_no_sems (by decide) r.2⟩)
    (Cert.QueryDaRefIdeal.Value.run (F := Ideal) m ρ)

/-- Over the extended reals: the reference's product. -/
theorem algebraic : Cert.algebraic_QueryDaIdeal_QueryDaRefIdeal := fun m ρ m' ρ' _ hm =>
  ⟨_, Cert.QueryDaIdeal.Value.run_blocks (F := Ideal) m ρ,
    (θ_run Cert.QueryDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.QueryDaRefIdeal.Value.run (F := Ideal) m' ρ')⟩

end Cert.QueryDaRun

namespace Cert.QueryDwRun

open Cert.QueryDwIdeal Cert.QueryDwIdeal.Gen

/-- What a block of the contracted axis adds. -/
theorem pay_apply (acc : Vec Ideal S512x512 .f32) (x : Vec Ideal S1024x512 .f32) (y : Vec Ideal S1024x512 .f32) (j : S512x512.Idx) :
    k0_pay2 (F := Ideal) acc x y j = acc j + ∑ k : Fin 1024, x (ix2 k (j 0)) * y (ix2 k (j 1)) := by
  pointwise [k0_pay2]

/-- The block that a sum starts from. -/
theorem pay_zero (j : S512x512.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S8192x512.Idx → EReal := m ((c : Thread nD τ).loc main_arg1)

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.QueryDwRefIdeal.S8192x1024.Idx → Elt Ideal .f32) (b : Cert.QueryDwRefIdeal.S8192x512.Idx → Elt Ideal .f32) (i : Cert.QueryDwRefIdeal.S1024x512.Idx) :
    Host.dotGeneral (F := Ideal) (φ₁ := .f32) (φ₂ := .f32) Cert.QueryDwRefIdeal.dot_S1024x8192_S8192x512_S1024x512_1_0_0_1_n_n none (transpose Cert.QueryDwRefIdeal.S1024x8192 [1, 0] a Cert.QueryDwRefIdeal.Gen.transposes_S8192x1024_S1024x8192_1_0) b i
      = ∑ l : Fin 8192, a (ix2 l (i 0)) * b (ix2 l (i 1)) := by
  pointwise []

theorem frame_kernel : Cert.quiescent_QueryDw := fun m ρ _ => Cert.QueryDw.Gen.frame m ρ
theorem frame_kernel_ideal : Cert.quiescent_QueryDwIdeal := fun m ρ _ => Cert.QueryDwIdeal.Gen.frame m ρ
theorem frame_ref : Cert.quiescent_QueryDwRef := fun m ρ _ =>
  (θ_run Cert.QueryDwRef.defs _ _).mono (fun r h => ⟨fun c => (h c).2, sem_eq_zero_of_no_sems (by decide) r.2⟩)
    (Cert.QueryDwRef.Value.run (F := Bits) m ρ)
theorem frame_ref_ideal : Cert.quiescent_QueryDwRefIdeal := fun m ρ _ =>
  (θ_run Cert.QueryDwRefIdeal.defs _ _).mono (fun r h => ⟨fun c => (h c).2, sem_eq_zero_of_no_sems (by decide) r.2⟩)
    (Cert.QueryDwRefIdeal.Value.run (F := Ideal) m ρ)

/-- Over the extended reals: the reference's product. -/
theorem algebraic : Cert.algebraic_QueryDwIdeal_QueryDwRefIdeal := fun m ρ m' ρ' _ hm =>
  ⟨_, Cert.QueryDwIdeal.Value.run_blocks (F := Ideal) m ρ,
    (θ_run Cert.QueryDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.QueryDwRefIdeal.Value.run (F := Ideal) m' ρ')⟩

end Cert.QueryDwRun
-- ==== Proof.MemoryProducts.lean ====
/-
# The products of the keys and values of the memory

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Memory.Frame
public import proofs.«01_k».proof.Proof.Gen.MemoryIdeal.Value
public import proofs.«01_k».proof.Proof.Gen.MemoryRef.Run
public import proofs.«01_k».proof.Proof.Gen.MemoryRefIdeal.Run
public import proofs.«01_k».proof.Proof.Gen.MemoryDa.Frame
public import proofs.«01_k».proof.Proof.Gen.MemoryDaIdeal.Value
public import proofs.«01_k».proof.Proof.Gen.MemoryDaRef.Run
public import proofs.«01_k».proof.Proof.Gen.MemoryDaRefIdeal.Run
public import proofs.«01_k».proof.Proof.Gen.MemoryDw.Frame
public import proofs.«01_k».proof.Proof.Gen.MemoryDwIdeal.Value
public import proofs.«01_k».proof.Proof.Gen.MemoryDwRef.Run
public import proofs.«01_k».proof.Proof.Gen.MemoryDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.MemoryRun

open Cert.MemoryIdeal Cert.MemoryIdeal.Gen

/-- What a block of the contracted axis adds. -/
theorem pay_apply (acc : Vec Ideal S256x1024 .f32) (x : Vec Ideal S256x1024 .f32) (y : Vec Ideal S1024x1024 .f32) (j : S256x1024.Idx) :
    k0_pay2 (F := Ideal) acc x y j = acc j + ∑ k : Fin 1024, x (ix2 (j 0) k) * y (ix2 k (j 1)) := by
  pointwise [k0_pay2]

/-- The block that a sum starts from. -/
theorem pay_zero (j : S256x1024.Idx) : k0_pay1 (F := Ideal) j = 0 := Ideal.ofBits_zero_f32

variable (m : (ℓ : Loc nD τ sig) → Buf (Elt Ideal) ℓ)

/-- The two factors on device `c`. -/
abbrev lhs (c : Dev nD) : S256x1024.Idx → EReal := m ((c : Thread nD τ).loc main_arg0)
abbrev rhs (c : Dev nD) : S1024x1024.Idx → EReal := m ((c : Thread nD τ).loc main_arg1)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

/-- The result after the run. -/
theorem value (c : Dev nD) : (dats m 0 c).arrAt 2 cfg0.N
    = fun i => ∑ l : Fin 1024, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.MemoryRefIdeal.S256x1024.Idx → Elt Ideal .f32) (b : Cert.MemoryRefIdeal.S1024x1024.Idx → Elt Ideal .f32) (i : Cert.MemoryRefIdeal.S256x1024.Idx) :
    Host.dotGeneral (F := Ideal) (φ₁ := .f32) (φ₂ := .f32) Cert.MemoryRefIdeal.dot_S256x1024_S1024x1024_S256x1024_1_0_0_1_n_n none a b i
      = ∑ l : Fin 1024, a (ix2 (i 0) l) * b (ix2 l (i 1)) := by
  pointwise []

theorem frame_kernel : Cert.quiescent_Memory := fun m ρ _ => Cert.Memory.Gen.frame m ρ
theorem frame_kernel_ideal : Cert.quiescent_MemoryIdeal := fun m ρ _ => Cert.MemoryIdeal.Gen.frame m ρ
theorem frame_ref : Cert.quiescent_MemoryRef := fun m ρ _ =>
  (θ_run Cert.MemoryRef.defs _ _).mono (fun r h => ⟨fun c => (h c).2, sem_eq_zero_of_no_sems (by decide) r.2⟩)
    (Cert.MemoryRef.Value.run (F := Bits) m ρ)
theorem frame_ref_ideal : Cert.quiescent_MemoryRefIdeal := fun m ρ _ =>
  (θ_run Cert.MemoryRefIdeal.defs _ _).mono (fun r h => ⟨fun c => (h c).2, sem_eq_zero_of_no_sems (by decide) r.2⟩)
    (Cert.MemoryRefIdeal.Value.run (F := Ideal) m ρ)

/-- Over the extended reals: the reference's product. -/
theorem algebraic : Cert.algebraic_MemoryIdeal_MemoryRefIdeal := fun m ρ m' ρ' _ hm =>
  ⟨_, Cert.MemoryIdeal.Value.run_blocks (F := Ideal) m ρ,
    (θ_run Cert.MemoryRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.MemoryRefIdeal.Value.run (F := Ideal) m' ρ')⟩

end Cert.MemoryRun

namespace Cert.MemoryDaRun

open Cert.MemoryDaIdeal Cert.MemoryDaIdeal.Gen

/-- What a block of the contracted axis adds. -/
theorem pay_apply (acc : Vec Ideal S256x1024 .f32) (x : Vec Ideal S256x1024 .f32) (y : Vec Ideal S1024x1024 .f32) (j : S256x1024.Idx) :
    k0_pay2 (F := Ideal) acc x y j = acc j + ∑ k : Fin 1024, x (ix2 (j 0) k) * y (ix2 (j 1) k) := by
  pointwise [k0_pay2]

/-- The block that a sum starts from. -/
theorem pay_zero (j : S256x1024.Idx) : k0_pay1 (F := Ideal) j = 0 := Ideal.ofBits_zero_f32

variable (m : (ℓ : Loc nD τ sig) → Buf (Elt Ideal) ℓ)

/-- The two factors on device `c`. -/
abbrev lhs (c : Dev nD) : S256x1024.Idx → EReal := m ((c : Thread nD τ).loc main_arg0)
abbrev rhs (c : Dev nD) : S1024x1024.Idx → EReal := m ((c : Thread nD τ).loc main_arg1)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

/-- The result after the run. -/
theorem value (c : Dev nD) : (dats m 0 c).arrAt 2 cfg0.N
    = fun i => ∑ l : Fin 1024, lhs m c (ix2 (i 0) l) * rhs m c (ix2 (i 1) l) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.MemoryDaRefIdeal.S256x1024.Idx → Elt Ideal .f32) (b : Cert.MemoryDaRefIdeal.S1024x1024.Idx → Elt Ideal .f32) (i : Cert.MemoryDaRefIdeal.S256x1024.Idx) :
    Host.dotGeneral (F := Ideal) (φ₁ := .f32) (φ₂ := .f32) Cert.MemoryDaRefIdeal.dot_S256x1024_S1024x1024_S256x1024_1_0_0_1_n_n none a (transpose Cert.MemoryDaRefIdeal.S1024x1024 [1, 0] b Cert.MemoryDaRefIdeal.Gen.transposes_S1024x1024_S1024x1024_1_0) i
      = ∑ l : Fin 1024, a (ix2 (i 0) l) * b (ix2 (i 1) l) := by
  pointwise []

theorem frame_kernel : Cert.quiescent_MemoryDa := fun m ρ _ => Cert.MemoryDa.Gen.frame m ρ
theorem frame_kernel_ideal : Cert.quiescent_MemoryDaIdeal := fun m ρ _ => Cert.MemoryDaIdeal.Gen.frame m ρ
theorem frame_ref : Cert.quiescent_MemoryDaRef := fun m ρ _ =>
  (θ_run Cert.MemoryDaRef.defs _ _).mono (fun r h => ⟨fun c => (h c).2, sem_eq_zero_of_no_sems (by decide) r.2⟩)
    (Cert.MemoryDaRef.Value.run (F := Bits) m ρ)
theorem frame_ref_ideal : Cert.quiescent_MemoryDaRefIdeal := fun m ρ _ =>
  (θ_run Cert.MemoryDaRefIdeal.defs _ _).mono (fun r h => ⟨fun c => (h c).2, sem_eq_zero_of_no_sems (by decide) r.2⟩)
    (Cert.MemoryDaRefIdeal.Value.run (F := Ideal) m ρ)

/-- Over the extended reals: the reference's product. -/
theorem algebraic : Cert.algebraic_MemoryDaIdeal_MemoryDaRefIdeal := fun m ρ m' ρ' _ hm =>
  ⟨_, Cert.MemoryDaIdeal.Value.run_blocks (F := Ideal) m ρ,
    (θ_run Cert.MemoryDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.MemoryDaRefIdeal.Value.run (F := Ideal) m' ρ')⟩

end Cert.MemoryDaRun

namespace Cert.MemoryDwRun

open Cert.MemoryDwIdeal Cert.MemoryDwIdeal.Gen

/-- What a block of the contracted axis adds. -/
theorem pay_apply (acc : Vec Ideal S512x1024 .f32) (x : Vec Ideal S256x512 .f32) (y : Vec Ideal S256x1024 .f32) (j : S512x1024.Idx) :
    k0_pay2 (F := Ideal) acc x y j = acc j + ∑ k : Fin 256, x (ix2 k (j 0)) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S256x1024.Idx → EReal := m ((c : Thread nD τ).loc main_arg0)
abbrev rhs (c : Dev nD) : S256x1024.Idx → EReal := m ((c : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The result after the run. -/
theorem value (c : Dev nD) : (dats m 0 c).arrAt 2 cfg0.N
    = fun i => ∑ l : Fin 256, lhs m c (ix2 l (i 0)) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.MemoryDwRefIdeal.S256x1024.Idx → Elt Ideal .f32) (b : Cert.MemoryDwRefIdeal.S256x1024.Idx → Elt Ideal .f32) (i : Cert.MemoryDwRefIdeal.S1024x1024.Idx) :
    Host.dotGeneral (F := Ideal) (φ₁ := .f32) (φ₂ := .f32) Cert.MemoryDwRefIdeal.dot_S1024x256_S256x1024_S1024x1024_1_0_0_1_n_n none (transpose Cert.MemoryDwRefIdeal.S1024x256 [1, 0] a Cert.MemoryDwRefIdeal.Gen.transposes_S256x1024_S1024x256_1_0) b i
      = ∑ l : Fin 256, a (ix2 l (i 0)) * b (ix2 l (i 1)) := by
  pointwise []

theorem frame_kernel : Cert.quiescent_MemoryDw := fun m ρ _ => Cert.MemoryDw.Gen.frame m ρ
theorem frame_kernel_ideal : Cert.quiescent_MemoryDwIdeal := fun m ρ _ => Cert.MemoryDwIdeal.Gen.frame m ρ
theorem frame_ref : Cert.quiescent_MemoryDwRef := fun m ρ _ =>
  (θ_run Cert.MemoryDwRef.defs _ _).mono (fun r h => ⟨fun c => (h c).2, sem_eq_zero_of_no_sems (by decide) r.2⟩)
    (Cert.MemoryDwRef.Value.run (F := Bits) m ρ)
theorem frame_ref_ideal : Cert.quiescent_MemoryDwRefIdeal := fun m ρ _ =>
  (θ_run Cert.MemoryDwRefIdeal.defs _ _).mono (fun r h => ⟨fun c => (h c).2, sem_eq_zero_of_no_sems (by decide) r.2⟩)
    (Cert.MemoryDwRefIdeal.Value.run (F := Ideal) m ρ)

/-- Over the extended reals: the reference's product. -/
theorem algebraic : Cert.algebraic_MemoryDwIdeal_MemoryDwRefIdeal := fun m ρ m' ρ' _ hm =>
  ⟨_, Cert.MemoryDwIdeal.Value.run_blocks (F := Ideal) m ρ,
    (θ_run Cert.MemoryDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.MemoryDwRefIdeal.Value.run (F := Ideal) m' ρ')⟩

end Cert.MemoryDwRun
-- ==== Proof.UpProducts.lean ====
/-
# The products of the up projection

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Up.Frame
public import proofs.«01_k».proof.Proof.Gen.UpIdeal.Value
public import proofs.«01_k».proof.Proof.Gen.UpRef.Run
public import proofs.«01_k».proof.Proof.Gen.UpRefIdeal.Run
public import proofs.«01_k».proof.Proof.Gen.UpDa.Frame
public import proofs.«01_k».proof.Proof.Gen.UpDaIdeal.Value
public import proofs.«01_k».proof.Proof.Gen.UpDaRef.Run
public import proofs.«01_k».proof.Proof.Gen.UpDaRefIdeal.Run
public import proofs.«01_k».proof.Proof.Gen.UpDw.Frame
public import proofs.«01_k».proof.Proof.Gen.UpDwIdeal.Value
public import proofs.«01_k».proof.Proof.Gen.UpDwRef.Run
public import proofs.«01_k».proof.Proof.Gen.UpDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.UpRun

open Cert.UpIdeal Cert.UpIdeal.Gen

/-- What a block of the contracted axis adds. -/
theorem pay_apply (acc : Vec Ideal S512x1408 .f32) (x : Vec Ideal S512x1024 .f32) (y : Vec Ideal S1024x1408 .f32) (j : S512x1408.Idx) :
    k0_pay2 (F := Ideal) acc x y j = acc j + ∑ k : Fin 1024, x (ix2 (j 0) k) * y (ix2 k (j 1)) := by
  pointwise [k0_pay2]

/-- The block that a sum starts from. -/
theorem pay_zero (j : S512x1408.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S1024x5632.Idx → EReal := m ((c : Thread nD τ).loc main_arg1)

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel

/-- The result after the run. -/
theorem value (c : Dev nD) : (dats m 0 c).arrAt 2 cfg0.N
    = fun i => ∑ l : Fin 1024, lhs m c (ix2 (i 0) l) * rhs m c (ix2 l (i 1)) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.UpRefIdeal.S8192x1024.Idx → Elt Ideal .f32) (b : Cert.UpRefIdeal.S1024x5632.Idx → Elt Ideal .f32) (i : Cert.UpRefIdeal.S8192x5632.Idx) :
    Host.dotGeneral (F := Ideal) (φ₁ := .f32) (φ₂ := .f32) Cert.UpRefIdeal.dot_S8192x1024_S1024x5632_S8192x5632_1_0_0_1_n_n none a b i
      = ∑ l : Fin 1024, a (ix2 (i 0) l) * b (ix2 l (i 1)) := by
  pointwise []

theorem frame_kernel : Cert.quiescent_Up := fun m ρ _ => Cert.Up.Gen.frame m ρ
theorem frame_kernel_ideal : Cert.quiescent_UpIdeal := fun m ρ _ => Cert.UpIdeal.Gen.frame m ρ
theorem frame_ref : Cert.quiescent_UpRef := fun m ρ _ =>
  (θ_run Cert.UpRef.defs _ _).mono (fun r h => ⟨fun c => (h c).2, sem_eq_zero_of_no_sems (by decide) r.2⟩)
    (Cert.UpRef.Value.run (F := Bits) m ρ)
theorem frame_ref_ideal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- Over the extended reals: the reference's product. -/
theorem algebraic : Cert.algebraic_UpIdeal_UpRefIdeal := fun m ρ m' ρ' _ hm =>
  ⟨_, Cert.UpIdeal.Value.run_blocks (F := Ideal) m ρ,
    (θ_run Cert.UpRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.UpRefIdeal.Value.run (F := Ideal) m' ρ')⟩

end Cert.UpRun

namespace Cert.UpDaRun

open Cert.UpDaIdeal Cert.UpDaIdeal.Gen

/-- What a block of the contracted axis adds. -/
theorem pay_apply (acc : Vec Ideal S512x1024 .f32) (x : Vec Ideal S512x1408 .f32) (y : Vec Ideal S1024x1408 .f32) (j : S512x1024.Idx) :
    k0_pay2 (F := Ideal) acc x y j = acc j + ∑ k : Fin 1408, x (ix2 (j 0) k) * y (ix2 (j 1) k) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x5632.Idx → EReal := m ((c : Thread nD τ).loc main_arg0)
abbrev rhs (c : Dev nD) : S1024x5632.Idx → EReal := m ((c : Thread nD τ).loc main_arg1)

theorem index0 : ∀ t : Fin grid0.N, win0_0.index t 0 = t.val / 4 ∧ win0_0.index t 1 = t.val % 4 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = 0 := by decide +kernel

/-- The result after the run. -/
theorem value (c : Dev nD) : (dats m 0 c).arrAt 2 cfg0.N
    = fun i => ∑ l : Fin 5632, lhs m c (ix2 (i 0) l) * rhs m c (ix2 (i 1) l) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.UpDaRefIdeal.S8192x5632.Idx → Elt Ideal .f32) (b : Cert.UpDaRefIdeal.S1024x5632.Idx → Elt Ideal .f32) (i : Cert.UpDaRefIdeal.S8192x1024.Idx) :
    Host.dotGeneral (F := Ideal) (φ₁ := .f32) (φ₂ := .f32) Cert.UpDaRefIdeal.dot_S8192x5632_S5632x1024_S8192x1024_1_0_0_1_n_n none a (transpose Cert.UpDaRefIdeal.S5632x1024 [1, 0] b Cert.UpDaRefIdeal.Gen.transposes_S1024x5632_S5632x1024_1_0) i
      = ∑ l : Fin 5632, a (ix2 (i 0) l) * b (ix2 (i 1) l) := by
  pointwise []

theorem frame_kernel : Cert.quiescent_UpDa := fun m ρ _ => Cert.UpDa.Gen.frame m ρ
theorem frame_kernel_ideal : Cert.quiescent_UpDaIdeal := fun m ρ _ => Cert.UpDaIdeal.Gen.frame m ρ
theorem frame_ref : Cert.quiescent_UpDaRef := fun m ρ _ =>
  (θ_run Cert.UpDaRef.defs _ _).mono (fun r h => ⟨fun c => (h c).2, sem_eq_zero_of_no_sems (by decide) r.2⟩)
    (Cert.UpDaRef.Value.run (F := Bits) m ρ)
theorem frame_ref_ideal : Cert.quiescent_UpDaRefIdeal := fun m ρ _ =>
  (θ_run Cert.UpDaRefIdeal.defs _ _).mono (fun r h => ⟨fun c => (h c).2, sem_eq_zero_of_no_sems (by decide) r.2⟩)
    (Cert.UpDaRefIdeal.Value.run (F := Ideal) m ρ)

/-- Over the extended reals: the reference's product. -/
theorem algebraic : Cert.algebraic_UpDaIdeal_UpDaRefIdeal := fun m ρ m' ρ' _ hm =>
  ⟨_, Cert.UpDaIdeal.Value.run_blocks (F := Ideal) m ρ,
    (θ_run Cert.UpDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.UpDaRefIdeal.Value.run (F := Ideal) m' ρ')⟩

end Cert.UpDaRun

namespace Cert.UpDwRun

open Cert.UpDwIdeal Cert.UpDwIdeal.Gen

/-- What a block of the contracted axis adds. -/
theorem pay_apply (acc : Vec Ideal S512x1408 .f32) (x : Vec Ideal S1024x512 .f32) (y : Vec Ideal S1024x1408 .f32) (j : S512x1408.Idx) :
    k0_pay2 (F := Ideal) acc x y j = acc j + ∑ k : Fin 1024, x (ix2 k (j 0)) * y (ix2 k (j 1)) := by
  pointwise [k0_pay2]

/-- The block that a sum starts from. -/
theorem pay_zero (j : S512x1408.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S8192x5632.Idx → EReal := m ((c : Thread nD τ).loc main_arg1)

theorem index0 : ∀ t : Fin grid0.N, win0_0.index t 0 = t.val % 8 ∧ win0_0.index t 1 = t.val / 32 := by decide +kernel
theorem index1 : ∀ t : Fin grid0.N, win0_1.index t 0 = t.val % 8 ∧ win0_1.index t 1 = t.val / 8 % 4 := by decide +kernel
theorem index2 : ∀ t : Fin grid0.N, win0_2.index t 0 = t.val / 32 ∧ win0_2.index t 1 = t.val / 8 % 4 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.UpDwRefIdeal.S8192x1024.Idx → Elt Ideal .f32) (b : Cert.UpDwRefIdeal.S8192x5632.Idx → Elt Ideal .f32) (i : Cert.UpDwRefIdeal.S1024x5632.Idx) :
    Host.dotGeneral (F := Ideal) (φ₁ := .f32) (φ₂ := .f32) Cert.UpDwRefIdeal.dot_S1024x8192_S8192x5632_S1024x5632_1_0_0_1_n_n none (transpose Cert.UpDwRefIdeal.S1024x8192 [1, 0] a Cert.UpDwRefIdeal.Gen.transposes_S8192x1024_S1024x8192_1_0) b i
      = ∑ l : Fin 8192, a (ix2 l (i 0)) * b (ix2 l (i 1)) := by
  pointwise []

theorem frame_kernel : Cert.quiescent_UpDw := fun m ρ _ => Cert.UpDw.Gen.frame m ρ
theorem frame_kernel_ideal : Cert.quiescent_UpDwIdeal := fun m ρ _ => Cert.UpDwIdeal.Gen.frame m ρ
theorem frame_ref : Cert.quiescent_UpDwRef := fun m ρ _ =>
  (θ_run Cert.UpDwRef.defs _ _).mono (fun r h => ⟨fun c => (h c).2, sem_eq_zero_of_no_sems (by decide) r.2⟩)
    (Cert.UpDwRef.Value.run (F := Bits) m ρ)
theorem frame_ref_ideal : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- Over the extended reals: the reference's product. -/
theorem algebraic : Cert.algebraic_UpDwIdeal_UpDwRefIdeal := fun m ρ m' ρ' _ hm =>
  ⟨_, Cert.UpDwIdeal.Value.run_blocks (F := Ideal) m ρ,
    (θ_run Cert.UpDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.UpDwRefIdeal.Value.run (F := Ideal) m' ρ')⟩

end Cert.UpDwRun
-- ==== Proof.DownProducts.lean ====
/-
# The products of the down projection

Three calls: the product of the activations and the weight, and, on the way back, the result's cotangent times the weight
transposed, and the activations transposed times the cotangent. A block of a result is the sum over the blocks of the
contracted axis, from zero; over the extended reals, where rounding a factor changes nothing, that is the reference's product.
-/
module

public import proofs.«01_k».proof.Defs
public import proofs.«01_k».proof.Proof.Gen.Down.Frame
public import proofs.«01_k».proof.Proof.Gen.DownIdeal.Value
public import proofs.«01_k».proof.Proof.Gen.DownRef.Run
public import proofs.«01_k».proof.Proof.Gen.DownRefIdeal.Run
public import proofs.«01_k».proof.Proof.Gen.DownDa.Frame
public import proofs.«01_k».proof.Proof.Gen.DownDaIdeal.Value
public import proofs.«01_k».proof.Proof.Gen.DownDaRef.Run
public import proofs.«01_k».proof.Proof.Gen.DownDaRefIdeal.Run
public import proofs.«01_k».proof.Proof.Gen.DownDw.Frame
public import proofs.«01_k».proof.Proof.Gen.DownDwIdeal.Value
public import proofs.«01_k».proof.Proof.Gen.DownDwRef.Run
public import proofs.«01_k».proof.Proof.Gen.DownDwRefIdeal.Run
public import Idealize.ShloMosaic.Lib.Pipeline.ValueKit
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem

namespace Cert.DownRun

open Cert.DownIdeal Cert.DownIdeal.Gen

/-- What a block of the contracted axis adds. -/
theorem pay_apply (acc : Vec Ideal S512x1024 .f32) (x : Vec Ideal S512x1408 .f32) (y : Vec Ideal S1408x1024 .f32) (j : S512x1024.Idx) :
    k0_pay2 (F := Ideal) acc x y j = acc j + ∑ k : Fin 1408, x (ix2 (j 0) k) * y (ix2 k (j 1)) := by
  pointwise [k0_pay2]

/-- The block that a sum starts from. -/
theorem pay_zero (j : S512x1024.Idx) : k0_pay1 (F := Ideal) j = 0 := Ideal.ofBits_zero_f32

variable (m : (ℓ : Loc nD τ sig) → Buf (Elt Ideal) ℓ)

/-- The two factors on device `c`. -/
abbrev lhs (c : Dev nD) : S8192x2816.Idx → EReal := m ((c : Thread nD τ).loc main_arg0)
abbrev rhs (c : Dev nD) : S2816x1024.Idx → EReal := m ((c : Thread nD τ).loc main_arg1)

theorem index0 : ∀ t : Fin grid0.N, win0_0.index t 0 = t.val / 2 ∧ win0_0.index t 1 = t.val % 2 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = 0 := by decide +kernel

/-- The result after the run. -/
theorem value (c : Dev nD) : (dats m 0 c).arrAt 2 cfg0.N
    = fun i => ∑ l : Fin 2816, lhs m c (ix2 (i 0) l) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.DownRefIdeal.S8192x2816.Idx → Elt Ideal .f32) (b : Cert.DownRefIdeal.S2816x1024.Idx → Elt Ideal .f32) (i : Cert.DownRefIdeal.S8192x1024.Idx) :
    Host.dotGeneral (F := Ideal) (φ₁ := .f32) (φ₂ := .f32) Cert.DownRefIdeal.dot_S8192x2816_S2816x1024_S8192x1024_1_0_0_1_n_n none a b i
      = ∑ l : Fin 2816, a (ix2 (i 0) l) * b (ix2 l (i 1)) := by
  pointwise []

theorem frame_kernel : Cert.quiescent_Down := fun m ρ _ => Cert.Down.Gen.frame m ρ
theorem frame_kernel_ideal : Cert.quiescent_DownIdeal := fun m ρ _ => Cert.DownIdeal.Gen.frame m ρ
theorem frame_ref : Cert.quiescent_DownRef := fun m ρ _ =>
  (θ_run Cert.DownRef.defs _ _).mono (fun r h => ⟨fun c => (h c).2, sem_eq_zero_of_no_sems (by decide) r.2⟩)
    (Cert.DownRef.Value.run (F := Bits) m ρ)
theorem frame_ref_ideal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- Over the extended reals: the reference's product. -/
theorem algebraic : Cert.algebraic_DownIdeal_DownRefIdeal := fun m ρ m' ρ' _ hm =>
  ⟨_, Cert.DownIdeal.Value.run_blocks (F := Ideal) m ρ,
    (θ_run Cert.DownRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.DownRefIdeal.Value.run (F := Ideal) m' ρ')⟩

end Cert.DownRun

namespace Cert.DownDaRun

open Cert.DownDaIdeal Cert.DownDaIdeal.Gen

/-- What a block of the contracted axis adds. -/
theorem pay_apply (acc : Vec Ideal S512x1408 .f32) (x : Vec Ideal S512x1024 .f32) (y : Vec Ideal S1408x1024 .f32) (j : S512x1408.Idx) :
    k0_pay2 (F := Ideal) acc x y j = acc j + ∑ k : Fin 1024, x (ix2 (j 0) k) * y (ix2 (j 1) k) := by
  pointwise [k0_pay2]

/-- The block that a sum starts from. -/
theorem pay_zero (j : S512x1408.Idx) : k0_pay1 (F := Ideal) j = 0 := Ideal.ofBits_zero_f32

variable (m : (ℓ : Loc nD τ sig) → Buf (Elt Ideal) ℓ)

/-- The two factors on device `c`. -/
abbrev lhs (c : Dev nD) : S8192x1024.Idx → EReal := m ((c : Thread nD τ).loc main_arg0)
abbrev rhs (c : Dev nD) : S2816x1024.Idx → EReal := m ((c : Thread nD τ).loc main_arg1)

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = t.val % 2 := by decide +kernel

/-- The result after the run. -/
theorem value (c : Dev nD) : (dats m 0 c).arrAt 2 cfg0.N
    = fun i => ∑ l : Fin 1024, lhs m c (ix2 (i 0) l) * rhs m c (ix2 (i 1) l) := by
  refine (dats m 0 c).arrAt_eq_of_covers 2 _ (by decide +kernel) fun t hf y => ?_
  blk_simp
  rw [after0_2]
  unfold outsAt0
  frame_out
  rw [pay_apply, pay_zero, zero_add]
  refine Fin.sum_fin_congr fun k => ?_
  congr 1
  · blk_ext [iblk, V, index0 t, index2 t]
  · blk_ext [iblk, V, index1 t, index2 t]

/-- The reference's product, at any index. -/
theorem ref_apply (a : Cert.DownDaRefIdeal.S8192x1024.Idx → Elt Ideal .f32) (b : Cert.DownDaRefIdeal.S2816x1024.Idx → Elt Ideal .f32) (i : Cert.DownDaRefIdeal.S8192x2816.Idx) :
    Host.dotGeneral (F := Ideal) (φ₁ := .f32) (φ₂ := .f32) Cert.DownDaRefIdeal.dot_S8192x1024_S1024x2816_S8192x2816_1_0_0_1_n_n none a (transpose Cert.DownDaRefIdeal.S1024x2816 [1, 0] b Cert.DownDaRefIdeal.Gen.transposes_S2816x1024_S1024x2816_1_0) i
      = ∑ l : Fin 1024, a (ix2 (i 0) l) * b (ix2 (i 1) l) := by
  pointwise []

theorem frame_kernel : Cert.quiescent_DownDa := fun m ρ _ => Cert.DownDa.Gen.frame m ρ
theorem frame_kernel_ideal : Cert.quiescent_DownDaIdeal := fun m ρ _ => Cert.DownDaIdeal.Gen.frame m ρ
theorem frame_ref : Cert.quiescent_DownDaRef := fun m ρ _ =>
  (θ_run Cert.DownDaRef.defs _ _).mono (fun r h => ⟨fun c => (h c).2, sem_eq_zero_of_no_sems (by decide) r.2⟩)
    (Cert.DownDaRef.Value.run (F := Bits) m ρ)
theorem frame_ref_ideal : Cert.quiescent_DownDaRefIdeal := fun m ρ _ =>
  (θ_run Cert.DownDaRefIdeal.defs _ _).mono (fun r h => ⟨fun c => (h c).2, sem_eq_zero_of_no_sems (by decide) r.2⟩)
    (Cert.DownDaRefIdeal.Value.run (F := Ideal) m ρ)

/-- Over the extended reals: the reference's product. -/
theorem algebraic : Cert.algebraic_DownDaIdeal_DownDaRefIdeal := fun m ρ m' ρ' _ hm =>
  ⟨_, Cert.DownDaIdeal.Value.run_blocks (F := Ideal) m ρ,
    (θ_run Cert.DownDaRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.DownDaRefIdeal.Value.run (F := Ideal) m' ρ')⟩

end Cert.DownDaRun

namespace Cert.DownDwRun

open Cert.DownDwIdeal Cert.DownDwIdeal.Gen

/-- What a block of the contracted axis adds. -/
theorem pay_apply (acc : Vec Ideal S256x1024 .f32) (x : Vec Ideal S1024x256 .f32) (y : Vec Ideal S1024x1024 .f32) (j : S256x1024.Idx) :
    k0_pay2 (F := Ideal) acc x y j = acc j + ∑ k : Fin 1024, x (ix2 k (j 0)) * y (ix2 k (j 1)) := by
  pointwise [k0_pay2]

/-- The block that a sum starts from. -/
theorem pay_zero (j : S256x1024.Idx) : k0_pay1 (F := Ideal) j = 0 := Ideal.ofBits_zero_f32

variable (m : (ℓ : Loc nD τ sig) → Buf (Elt Ideal) ℓ)

/-- The two factors on device `c`. -/
abbrev lhs (c : Dev nD) : S8192x2816.Idx → EReal := m ((c : Thread nD τ).loc main_arg0)
abbrev rhs (c : Dev nD) : S8192x1024.Idx → EReal := m ((c : Thread nD τ).loc main_arg1)

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel

/-- The result after the run. -/
theorem value (c : Dev nD) : (dats m 0 c).arrAt 2 cfg0.N
    = fun i => ∑ l : Fin 8192, lhs m c (ix2 l (i 0)) * rhs m c (ix2 l (i 1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [pay_apply, pay_zero])
    (fun t h j => by rw [outsAt0_B m c t h]; frame_out; rw [pay_apply]) t ((flush0_2 t).mp hf) _, zero_add]
  refine Fin.sum_mul_add_congr fun s k h => ?_
  congr 1
  · blk_ext [iblk, V, index0 _, index2 t]
  · blk_ext [iblk, V, index1 _, index2 t]

/-- The reference's product, at any index. -/
theorem ref_apply (a : Cert.DownDwRefIdeal.S8192x2816.Idx → Elt Ideal .f32) (b : Cert.DownDwRefIdeal.S8192x1024.Idx → Elt Ideal .f32) (i : Cert.DownDwRefIdeal.S2816x1024.Idx) :
    Host.dotGeneral (F := Ideal) (φ₁ := .f32) (φ₂ := .f32) Cert.DownDwRefIdeal.dot_S2816x8192_S8192x1024_S2816x1024_1_0_0_1_n_n none (transpose Cert.DownDwRefIdeal.S2816x8192 [1, 0] a Cert.DownDwRefIdeal.Gen.transposes_S8192x2816_S2816x8192_1_0) b i
      = ∑ l : Fin 8192, a (ix2 l (i 0)) * b (ix2 l (i 1)) := by
  pointwise []

theorem frame_kernel : Cert.quiescent_DownDw := fun m ρ _ => Cert.DownDw.Gen.frame m ρ
theorem frame_kernel_ideal : Cert.quiescent_DownDwIdeal := fun m ρ _ => Cert.DownDwIdeal.Gen.frame m ρ
theorem frame_ref : Cert.quiescent_DownDwRef := fun m ρ _ =>
  (θ_run Cert.DownDwRef.defs _ _).mono (fun r h => ⟨fun c => (h c).2, sem_eq_zero_of_no_sems (by decide) r.2⟩)
    (Cert.DownDwRef.Value.run (F := Bits) m ρ)
theorem frame_ref_ideal : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- Over the extended reals: the reference's product. -/
theorem algebraic : Cert.algebraic_DownDwIdeal_DownDwRefIdeal := fun m ρ m' ρ' _ hm =>
  ⟨_, Cert.DownDwIdeal.Value.run_blocks (F := Ideal) m ρ,
    (θ_run Cert.DownDwRefIdeal.defs _ _).mono (fun r h c => by
      obtain ⟨h1, h2⟩ := h c
      obtain ⟨e0, e1⟩ := hm c
      refine ⟨h1.trans ?_, h2⟩
      rw [e0, e1]
      exact (funext fun i => ref_apply _ _ i).trans (value m c).symm)
      (Cert.DownDwRefIdeal.Value.run (F := Ideal) m' ρ')⟩

end Cert.DownDwRun
-- ==== Proof.GdnScanValue.lean ====
/-
# The recurrence: the kernel

A chunk corrects its values by the carried state, reads its outputs off the state and the corrected values, and moves the state
on. One grid point is one chunk, the heads written out one after another; the state is carried from point to point.
-/
module

public import proofs.«01_k».proof.Proof.Gen.GdnScanIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

noncomputable section

namespace Cert.GdnScanRun

open Idealize.ShloMosaic Idealize.ShloMosaic.TcCoe Idealize.SL.Sem
open Cert.GdnScanIdeal Cert.GdnScanIdeal.Gen

/-- The corrected values of a chunk. -/
def newV (u w : S1x4x64x128.Idx → EReal) (s : S4x128x128.Idx → EReal) (h : Fin 4) (c : Fin 64) (v : Fin 128) : EReal :=
  u (ix4 0 h c v) - ∑ k : Fin 128, w (ix4 0 h c k) * s (ix3 h k v)

/-- The state after a chunk. -/
def next (u w k : S1x4x64x128.Idx → EReal) (e : S1x4x1x128.Idx → EReal) (s : S4x128x128.Idx → EReal) : S4x128x128.Idx → EReal :=
  fun i => s i * e (ix4 0 (i 0) 0 (i 2)) + ∑ c : Fin 64, k (ix4 0 (i 0) c (i 1)) * newV u w s (i 0) c (i 2)

/-- The output of a chunk. -/
def out (q u w : S1x4x64x128.Idx → EReal) (a : S1x4x64x64.Idx → EReal) (s : S4x128x128.Idx → EReal) : S1x4x64x128.Idx → EReal :=
  fun i => (∑ k : Fin 128, q (ix4 0 (i 1) (i 2) k) * s (ix3 (i 1) k (i 3)))
    + ∑ c : Fin 64, a (ix4 0 (i 1) (i 2) c) * newV u w s (i 1) c (i 3)

/-- The state a chunk starts from, as the second output holds it. -/
def shown (s : S4x128x128.Idx → EReal) : S1x4x128x128.Idx → EReal := fun i => s (ix3 (i 1) (i 2) (i 3))

/-- Chunk `n` of an array. -/
def chunk (X : S128x4x64x128.Idx → EReal) (n : ℕ) : S1x4x64x128.Idx → EReal :=
  fun i => X (ix4 (⟨n % 128, Nat.mod_lt _ (by decide)⟩ : Fin 128) (i 1) (i 2) (i 3))

def chunkA (X : S128x4x64x64.Idx → EReal) (n : ℕ) : S1x4x64x64.Idx → EReal :=
  fun i => X (ix4 (⟨n % 128, Nat.mod_lt _ (by decide)⟩ : Fin 128) (i 1) (i 2) (i 3))

def chunkE (X : S128x4x1x128.Idx → EReal) (n : ℕ) : S1x4x1x128.Idx → EReal :=
  fun i => X (ix4 (⟨n % 128, Nat.mod_lt _ (by decide)⟩ : Fin 128) (i 1) (i 2) (i 3))

/-- The state before chunk `n`. -/
def stateAt (U W K : S128x4x64x128.Idx → EReal) (E : S128x4x1x128.Idx → EReal) : ℕ → S4x128x128.Idx → EReal
  | 0 => fun _ => 0
  | n + 1 => next (chunk U n) (chunk W n) (chunk K n) (chunkE E n) (stateAt U W K E n)

/-- All outputs. -/
def outs (Q U W : S128x4x64x128.Idx → EReal) (A : S128x4x64x64.Idx → EReal) (K : S128x4x64x128.Idx → EReal)
    (E : S128x4x1x128.Idx → EReal) : S128x4x64x128.Idx → EReal :=
  fun i => out (chunk Q (i 0).val) (chunk U (i 0).val) (chunk W (i 0).val) (chunkA A (i 0).val) (stateAt U W K E (i 0).val)
    (ix4 0 (i 1) (i 2) (i 3))

/-- All states. -/
def states (U W K : S128x4x64x128.Idx → EReal) (E : S128x4x1x128.Idx → EReal) : S128x4x128x128.Idx → EReal :=
  fun i => stateAt U W K E (i 0).val (ix3 (i 1) (i 2) (i 3))

variable (m : (ℓ : Loc nD τ sig) → Buf (Elt Ideal) ℓ)

/-- The state that the first chunk starts from. -/
theorem pay_zero (i : S4x128x128.Idx) : k0_pay3 (F := Ideal) i = 0 := Ideal.ofBits_zero_f32

/-! ## One point: the heads' stores are the parts of one chunk's step -/

/-- The state after the first chunk. -/
theorem next_A (c : Dev nD) (t : Fin cfg0.N) (h : t.val % 128 = 0) : (outsAt0 m c t.val t.isLt).2.2
    = next (iblk m c 1 t) (iblk m c 2 t) (iblk m c 4 t) (iblk m c 5 t) (k0_pay3 (F := Ideal)) := by
  rw [outsAt0_A m c t h]; frame_open
  simp (disch := decide) only [↓View.readCov_skip, ↓View.readCov_fill]
  frame_out
  funext y
  refine View.canon_append_of_piecesOf _ [_] [_, _, _, _] ⟨fun x => ?_, fun x => ?_, fun x => ?_, fun x => ?_, trivial⟩ y
    (View.cover_of_tiledL (s := S4x128x128) _ S1x128x128.size (by sl_kernel_rfl) y)
  · pointwise [k0_pay2, k0_pay25, k0_pay27, k0_pay28, next, newV, Rect.emb, Function.Embedding.coeFn_mk]
  · pointwise [k0_pay24, k0_pay18, k0_pay20, k0_pay21, k0_pay23, next, newV, Rect.emb, Function.Embedding.coeFn_mk]
  · pointwise [k0_pay17, k0_pay11, k0_pay13, k0_pay14, k0_pay15, next, newV, Rect.emb, Function.Embedding.coeFn_mk]
  · pointwise [k0_pay10, k0_pay4, k0_pay6, k0_pay7, next, newV, Rect.emb, Function.Embedding.coeFn_mk]

/-- The state after a later chunk. -/
theorem next_B (c : Dev nD) (t : Fin cfg0.N) (h : ¬t.val % 128 = 0) : (outsAt0 m c t.val t.isLt).2.2
    = next (iblk m c 1 t) (iblk m c 2 t) (iblk m c 4 t) (iblk m c 5 t) ((outsAt0 m c (t.val - 1) (by omega)).2.2) := by
  rw [outsAt0_B m c t h]; frame_open
  frame_out
  simp only [read_unread_whole]
  funext y
  refine View.canon_append_of_piecesOf _ [] [_, _, _, _] ⟨fun x => ?_, fun x => ?_, fun x => ?_, fun x => ?_, trivial⟩ y
    (View.cover_of_tiledL (s := S4x128x128) _ S1x128x128.size (by sl_kernel_rfl) y)
  · pointwise [k0_pay2, k0_pay25, k0_pay27, k0_pay28, next, newV, Rect.emb, Function.Embedding.coeFn_mk]
  · pointwise [k0_pay24, k0_pay18, k0_pay20, k0_pay21, k0_pay23, next, newV, Rect.emb, Function.Embedding.coeFn_mk]
  · pointwise [k0_pay17, k0_pay11, k0_pay13, k0_pay14, k0_pay15, next, newV, Rect.emb, Function.Embedding.coeFn_mk]
  · pointwise [k0_pay10, k0_pay4, k0_pay6, k0_pay7, next, newV, Rect.emb, Function.Embedding.coeFn_mk]

/-- The output of the first chunk. -/
theorem out_A (c : Dev nD) (t : Fin cfg0.N) (h : t.val % 128 = 0) : (outsAt0 m c t.val t.isLt).1
    = out (iblk m c 0 t) (iblk m c 1 t) (iblk m c 2 t) (iblk m c 3 t) (k0_pay3 (F := Ideal)) := by
  rw [outsAt0_A m c t h]; frame_open
  simp (disch := decide) only [↓View.readCov_skip, ↓View.readCov_fill]
  frame_out
  funext y
  refine View.canon_append_of_piecesOf _ [] [_, _, _, _] ⟨fun x => ?_, fun x => ?_, fun x => ?_, fun x => ?_, trivial⟩ y
    (View.cover_of_tiledL (s := S1x4x64x128) _ S1x1x64x128.size (by sl_kernel_rfl) y)
  · pointwise [k0_pay1, k0_pay25, k0_pay27, k0_pay28, k0_pay29, out, newV, Rect.emb, Function.Embedding.coeFn_mk]
  · pointwise [k0_pay22, k0_pay18, k0_pay20, k0_pay21, out, newV, Rect.emb, Function.Embedding.coeFn_mk]
  · pointwise [k0_pay16, k0_pay11, k0_pay13, k0_pay14, k0_pay15, out, newV, Rect.emb, Function.Embedding.coeFn_mk]
  · pointwise [k0_pay9, k0_pay4, k0_pay8, k0_pay6, k0_pay7, out, newV, Rect.emb, Function.Embedding.coeFn_mk]

/-- The output of a later chunk. -/
theorem out_B (c : Dev nD) (t : Fin cfg0.N) (h : ¬t.val % 128 = 0) : (outsAt0 m c t.val t.isLt).1
    = out (iblk m c 0 t) (iblk m c 1 t) (iblk m c 2 t) (iblk m c 3 t) ((outsAt0 m c (t.val - 1) (by omega)).2.2) := by
  rw [outsAt0_B m c t h]; frame_open
  frame_out
  simp only [read_unread_whole]
  funext y
  refine View.canon_append_of_piecesOf _ [] [_, _, _, _] ⟨fun x => ?_, fun x => ?_, fun x => ?_, fun x => ?_, trivial⟩ y
    (View.cover_of_tiledL (s := S1x4x64x128) _ S1x1x64x128.size (by sl_kernel_rfl) y)
  · pointwise [k0_pay1, k0_pay25, k0_pay27, k0_pay28, k0_pay29, out, newV, Rect.emb, Function.Embedding.coeFn_mk]
  · pointwise [k0_pay22, k0_pay18, k0_pay20, k0_pay21, out, newV, Rect.emb, Function.Embedding.coeFn_mk]
  · pointwise [k0_pay16, k0_pay11, k0_pay13, k0_pay14, k0_pay15, out, newV, Rect.emb, Function.Embedding.coeFn_mk]
  · pointwise [k0_pay9, k0_pay4, k0_pay8, k0_pay6, k0_pay7, out, newV, Rect.emb, Function.Embedding.coeFn_mk]

/-- The state stored for the first chunk. -/
theorem shown_A (c : Dev nD) (t : Fin cfg0.N) (h : t.val % 128 = 0) : (outsAt0 m c t.val t.isLt).2.1
    = shown (k0_pay3 (F := Ideal)) := by
  rw [outsAt0_A m c t h]; frame_open
  simp (disch := decide) only [↓View.readCov_skip, ↓View.readCov_fill]
  frame_out
  funext y
  refine View.canon_append_of_piecesOf _ [] [_, _, _, _] ⟨fun x => ?_, fun x => ?_, fun x => ?_, fun x => ?_, trivial⟩ y
    (View.cover_of_tiledL (s := S1x4x128x128) _ S1x1x128x128.size (by sl_kernel_rfl) y)
  · pointwise [k0_pay26, k0_pay25, shown, Rect.emb, Function.Embedding.coeFn_mk]
  · pointwise [k0_pay19, k0_pay18, shown, Rect.emb, Function.Embedding.coeFn_mk]
  · pointwise [k0_pay12, k0_pay11, shown, Rect.emb, Function.Embedding.coeFn_mk]
  · pointwise [k0_pay5, k0_pay4, shown, Rect.emb, Function.Embedding.coeFn_mk]

/-- The state stored for a later chunk. -/
theorem shown_B (c : Dev nD) (t : Fin cfg0.N) (h : ¬t.val % 128 = 0) : (outsAt0 m c t.val t.isLt).2.1
    = shown ((outsAt0 m c (t.val - 1) (by omega)).2.2) := by
  rw [outsAt0_B m c t h]; frame_open
  frame_out
  simp only [read_unread_whole]
  funext y
  refine View.canon_append_of_piecesOf _ [] [_, _, _, _] ⟨fun x => ?_, fun x => ?_, fun x => ?_, fun x => ?_, trivial⟩ y
    (View.cover_of_tiledL (s := S1x4x128x128) _ S1x1x128x128.size (by sl_kernel_rfl) y)
  · pointwise [k0_pay26, k0_pay25, shown, Rect.emb, Function.Embedding.coeFn_mk]
  · pointwise [k0_pay19, k0_pay18, shown, Rect.emb, Function.Embedding.coeFn_mk]
  · pointwise [k0_pay12, k0_pay11, shown, Rect.emb, Function.Embedding.coeFn_mk]
  · pointwise [k0_pay5, k0_pay4, shown, Rect.emb, Function.Embedding.coeFn_mk]

/-! ## All points -/

theorem index0 : ∀ t : Fin grid0.N, win0_0.index t 0 = t.val ∧ win0_0.index t 1 = 0 ∧ win0_0.index t 2 = 0 ∧ win0_0.index t 3 = 0 := by
  decide +kernel
theorem index1 : ∀ t : Fin grid0.N, win0_1.index t 0 = t.val ∧ win0_1.index t 1 = 0 ∧ win0_1.index t 2 = 0 ∧ win0_1.index t 3 = 0 := by
  decide +kernel
theorem index2 : ∀ t : Fin grid0.N, win0_2.index t 0 = t.val ∧ win0_2.index t 1 = 0 ∧ win0_2.index t 2 = 0 ∧ win0_2.index t 3 = 0 := by
  decide +kernel
theorem index3 : ∀ t : Fin grid0.N, win0_3.index t 0 = t.val ∧ win0_3.index t 1 = 0 ∧ win0_3.index t 2 = 0 ∧ win0_3.index t 3 = 0 := by
  decide +kernel
theorem index4 : ∀ t : Fin grid0.N, win0_4.index t 0 = t.val ∧ win0_4.index t 1 = 0 ∧ win0_4.index t 2 = 0 ∧ win0_4.index t 3 = 0 := by
  decide +kernel
theorem index5 : ∀ t : Fin grid0.N, win0_5.index t 0 = t.val ∧ win0_5.index t 1 = 0 ∧ win0_5.index t 2 = 0 ∧ win0_5.index t 3 = 0 := by
  decide +kernel
theorem index6 : ∀ t : Fin grid0.N, win0_6.index t 0 = t.val ∧ win0_6.index t 1 = 0 ∧ win0_6.index t 2 = 0 ∧ win0_6.index t 3 = 0 := by
  decide +kernel
theorem index7 : ∀ t : Fin grid0.N, win0_7.index t 0 = t.val ∧ win0_7.index t 1 = 0 ∧ win0_7.index t 2 = 0 ∧ win0_7.index t 3 = 0 := by
  decide +kernel

/-- The six arguments on device `c`. -/
abbrev argQ (c : Dev nD) : S128x4x64x128.Idx → EReal := m ((c : Thread nD τ).loc main_arg0)
abbrev argU (c : Dev nD) : S128x4x64x128.Idx → EReal := m ((c : Thread nD τ).loc main_arg1)
abbrev argW (c : Dev nD) : S128x4x64x128.Idx → EReal := m ((c : Thread nD τ).loc main_arg2)
abbrev argA (c : Dev nD) : S128x4x64x64.Idx → EReal := m ((c : Thread nD τ).loc main_arg3)
abbrev argK (c : Dev nD) : S128x4x64x128.Idx → EReal := m ((c : Thread nD τ).loc main_arg4)
abbrev argE (c : Dev nD) : S128x4x1x128.Idx → EReal := m ((c : Thread nD τ).loc main_arg5)

theorem lt_N (t : Fin cfg0.N) : t.val < 128 := lt_of_lt_of_eq t.isLt N_0

theorem q_block (c : Dev nD) (t : Fin cfg0.N) : iblk m c 0 t = chunk (argQ m c) t.val := by
  have := lt_N t
  funext y
  unfold chunk
  blk_ext [iblk, V, index0 t]
theorem u_block (c : Dev nD) (t : Fin cfg0.N) : iblk m c 1 t = chunk (argU m c) t.val := by
  have := lt_N t
  funext y
  unfold chunk
  blk_ext [iblk, V, index1 t]
theorem w_block (c : Dev nD) (t : Fin cfg0.N) : iblk m c 2 t = chunk (argW m c) t.val := by
  have := lt_N t
  funext y
  unfold chunk
  blk_ext [iblk, V, index2 t]
theorem a_block (c : Dev nD) (t : Fin cfg0.N) : iblk m c 3 t = chunkA (argA m c) t.val := by
  have := lt_N t
  funext y
  unfold chunkA
  blk_ext [iblk, V, index3 t]
theorem k_block (c : Dev nD) (t : Fin cfg0.N) : iblk m c 4 t = chunk (argK m c) t.val := by
  have := lt_N t
  funext y
  unfold chunk
  blk_ext [iblk, V, index4 t]
theorem e_block (c : Dev nD) (t : Fin cfg0.N) : iblk m c 5 t = chunkE (argE m c) t.val := by
  have := lt_N t
  funext y
  unfold chunkE
  blk_ext [iblk, V, index5 t]

/-- After chunk `n` the carried state is the recurrence's. -/
theorem carried (c : Dev nD) : ∀ (n : ℕ) (h : n < cfg0.N),
    (outsAt0 m c n h).2.2 = stateAt (argU m c) (argW m c) (argK m c) (argE m c) (n + 1)
  | 0, h => by
    rw [show (outsAt0 m c 0 h).2.2 = _ from next_A m c ⟨0, h⟩ rfl, u_block, w_block, k_block, e_block,
      show k0_pay3 (F := Ideal) = fun _ => 0 from funext pay_zero]
    rfl
  | n + 1, h => by
    have hn : n + 1 < 128 := lt_N ⟨n + 1, h⟩
    rw [show (outsAt0 m c (n + 1) h).2.2 = _ from next_B m c ⟨n + 1, h⟩ (by show ¬ (n + 1) % 128 = 0; omega), u_block, w_block, k_block, e_block]
    simp only [Nat.add_sub_cancel]
    rw [carried c n (by omega)]
    rfl

/-- What chunk `t` starts from. -/
theorem started (c : Dev nD) (t : Fin cfg0.N) (h : ¬ t.val % 128 = 0) :
    (outsAt0 m c (t.val - 1) (by omega)).2.2 = stateAt (argU m c) (argW m c) (argK m c) (argE m c) t.val := by
  rw [carried, Nat.sub_add_cancel (by omega)]

theorem out_point (c : Dev nD) (t : Fin cfg0.N) : (outsAt0 m c t.val t.isLt).1
    = out (chunk (argQ m c) t.val) (chunk (argU m c) t.val) (chunk (argW m c) t.val) (chunkA (argA m c) t.val)
        (stateAt (argU m c) (argW m c) (argK m c) (argE m c) t.val) := by
  have ht := lt_N t
  by_cases h : t.val % 128 = 0
  · rw [out_A m c t h, q_block, u_block, w_block, a_block, show k0_pay3 (F := Ideal) = fun _ => 0 from funext pay_zero,
      show t.val = 0 by omega]
    rfl
  · rw [out_B m c t h, q_block, u_block, w_block, a_block, started m c t h]

theorem shown_point (c : Dev nD) (t : Fin cfg0.N) : (outsAt0 m c t.val t.isLt).2.1
    = shown (stateAt (argU m c) (argW m c) (argK m c) (argE m c) t.val) := by
  have ht := lt_N t
  by_cases h : t.val % 128 = 0
  · rw [shown_A m c t h, show k0_pay3 (F := Ideal) = fun _ => 0 from funext pay_zero, show t.val = 0 by omega]
    rfl
  · rw [shown_B m c t h, started m c t h]

/-- Where a block of the two results lies. -/
theorem emb6 (t : Fin cfg0.N) (y : S1x4x64x128.Idx) :
    (win0_6.blk t).view.emb y = ix4 (⟨t.val, lt_N t⟩ : Fin 128) (y 1) (y 2) (y 3) := by
  blk_ext [index6 t]

theorem emb7 (t : Fin cfg0.N) (y : S1x4x128x128.Idx) :
    (win0_7.blk t).view.emb y = ix4 (⟨t.val, lt_N t⟩ : Fin 128) (y 1) (y 2) (y 3) := by
  blk_ext [index7 t]

/-- The outputs after the run. -/
theorem out_value (c : Dev nD) : (dats m 0 c).arrAt 6 cfg0.N
    = outs (argQ m c) (argU m c) (argW m c) (argA m c) (argK m c) (argE m c) := by
  refine (dats m 0 c).arrAt_eq_of_covers 6 _ (by decide +kernel) fun t hf y => ?_
  blk_simp
  rw [after0_6, out_point]
  exact Eq.trans rfl (congrArg (outs (argQ m c) (argU m c) (argW m c) (argA m c) (argK m c) (argE m c)) (emb6 t y)).symm

/-- The states after the run. -/
theorem state_value (c : Dev nD) : (dats m 0 c).arrAt 7 cfg0.N
    = states (argU m c) (argW m c) (argK m c) (argE m c) := by
  refine (dats m 0 c).arrAt_eq_of_covers 7 _ (by decide +kernel) fun t hf y => ?_
  blk_simp
  rw [after0_7, shown_point]
  exact Eq.trans rfl (congrArg (states (argU m c) (argW m c) (argK m c) (argE m c)) (emb7 t y)).symm

end Cert.GdnScanRun
-- ==== Proof.GdnScanRefValue.lean ====
/-
# The recurrence: the reference

The reference is a loop over the chunks. Before trip `n` its counter is `n`, its carried state is the recurrence's state before
chunk `n`, and its two results hold the outputs and the states of the chunks before `n`.
-/
module

public import proofs.«01_k».proof.Proof.GdnScanValue
public import proofs.«01_k».proof.Proof.Gen.GdnScanRefIdeal.Run
public import Idealize.ShloMosaic.Lib.DynamicIndex
public import Idealize.ShloMosaic.Lib.WordCmp

@[expose] public section

noncomputable section

namespace Cert.GdnScanRun

open Idealize.ShloMosaic Idealize.ShloMosaic.TcCoe Idealize.SL.Sem
open Idealize.ShloMosaic.StableHlo
open Cert.GdnScanRefIdeal Cert.GdnScanRefIdeal.Gen Cert.GdnScanRefIdeal.Value

/-- Where the slices of trip `n` start. -/
abbrev start (n : ℕ) : Fin 4 → ℤ := fun k => ((![(fun _ => BitVec.ofNat 32 n), constantI S_ 32 0#32, constantI S_ 32 0#32, constantI S_ 32 0#32] : Fin 4 → (⟨S_, .i32⟩ : BufTy).Contents (Elt Ideal)) k (Shape.Idx.first h_S_)).toInt

theorem start_eq (n : ℕ) (hn : n < 128) : ∀ a, start n a = ((![n, 0, 0, 0] : Fin 4 → ℕ) a : ℤ) := by
  intro a
  fin_cases a
  · exact toInt_ofNat_of_lt (by omega)
  · rfl
  · rfl
  · rfl

/-- A slice of an argument at trip `n`. -/
def chunkSlice (X : S128x4x64x128.Idx → EReal) (n : ℕ) : FVec Ideal S4x64x128 .f32 :=
  shapeCast S4x64x128 (Host.dynamicSlice S1x4x64x128 X (start n) sliceFits_S128x4x64x128_S1x4x64x128) shapeCasts_S1x4x64x128_S4x64x128

/-- It is the chunk. -/
theorem chunkSlice_apply (X : S128x4x64x128.Idx → EReal) (n : ℕ) (hn : n < 128) (h : Fin 4) (c : Fin 64) (k : Fin 128) :
    chunkSlice X n (ix3 h c k) = chunk X n (ix4 0 h c k) := by
  have e : (⟨n, hn⟩ : Fin 128) = ⟨n % 128, Nat.mod_lt _ (by decide)⟩ := Fin.ext (Nat.mod_eq_of_lt hn).symm
  unfold chunkSlice
  rw [Host.dynamicSlice_eq_extractStridedSlice S1x4x64x128 X (start n) ![n, 0, 0, 0] _ ⟨rfl, by intro a; fin_cases a <;> simp <;> omega⟩ (start_eq n hn)]
  pointwise [chunk, ← e]

/-- A slice of an argument at trip `n`. -/
def chunkASlice (X : S128x4x64x64.Idx → EReal) (n : ℕ) : FVec Ideal S4x64x64 .f32 :=
  shapeCast S4x64x64 (Host.dynamicSlice S1x4x64x64 X (start n) sliceFits_S128x4x64x64_S1x4x64x64) shapeCasts_S1x4x64x64_S4x64x64

/-- It is the chunk. -/
theorem chunkASlice_apply (X : S128x4x64x64.Idx → EReal) (n : ℕ) (hn : n < 128) (h : Fin 4) (c : Fin 64) (k : Fin 64) :
    chunkASlice X n (ix3 h c k) = chunkA X n (ix4 0 h c k) := by
  have e : (⟨n, hn⟩ : Fin 128) = ⟨n % 128, Nat.mod_lt _ (by decide)⟩ := Fin.ext (Nat.mod_eq_of_lt hn).symm
  unfold chunkASlice
  rw [Host.dynamicSlice_eq_extractStridedSlice S1x4x64x64 X (start n) ![n, 0, 0, 0] _ ⟨rfl, by intro a; fin_cases a <;> simp <;> omega⟩ (start_eq n hn)]
  pointwise [chunkA, ← e]

/-- A slice of an argument at trip `n`. -/
def chunkESlice (X : S128x4x1x128.Idx → EReal) (n : ℕ) : FVec Ideal S4x1x128 .f32 :=
  shapeCast S4x1x128 (Host.dynamicSlice S1x4x1x128 X (start n) sliceFits_S128x4x1x128_S1x4x1x128) shapeCasts_S1x4x1x128_S4x1x128

/-- It is the chunk. -/
theorem chunkESlice_apply (X : S128x4x1x128.Idx → EReal) (n : ℕ) (hn : n < 128) (h : Fin 4) (k : Fin 128) :
    chunkESlice X n (ix3 h 0 k) = chunkE X n (ix4 0 h 0 k) := by
  have e : (⟨n, hn⟩ : Fin 128) = ⟨n % 128, Nat.mod_lt _ (by decide)⟩ := Fin.ext (Nat.mod_eq_of_lt hn).symm
  unfold chunkESlice
  rw [Host.dynamicSlice_eq_extractStridedSlice S1x4x1x128 X (start n) ![n, 0, 0, 0] _ ⟨rfl, by intro a; fin_cases a <;> simp <;> omega⟩ (start_eq n hn)]
  pointwise [chunkE, ← e]

/-- A block written at chunk `n` of a result. -/
theorem write_apply {p q : ℕ} (X : (⟨4, ![128, 4, p, q]⟩ : Shape).Idx → EReal) (x : (⟨4, ![1, 4, p, q]⟩ : Shape).Idx → EReal) (n : ℕ) (hn : n < 128)
    (h : (⟨4, ![128, 4, p, q]⟩ : Shape).Slices (fun _ => 0) ⟨4, ![1, 4, p, q]⟩) (i : (⟨4, ![128, 4, p, q]⟩ : Shape).Idx) :
    Host.dynamicUpdateSlice X x (start n) h i = if (i 0).val = n then x (ix4 0 (i 1) (i 2) (i 3)) else X i := by
  have hs : (⟨4, ![128, 4, p, q]⟩ : Shape).Slices ![n, 0, 0, 0] ⟨4, ![1, 4, p, q]⟩ :=
    ⟨rfl, by intro a; fin_cases a <;> simp <;> omega⟩
  rw [WordCmp.dynamicUpdateSlice_eq_update X x (start n) h ![n, 0, 0, 0] hs (start_eq n hn), updateSlice_apply]
  by_cases hi : (i 0).val = n
  · rw [if_pos hi, dif_pos]
    · refine congrArg x (funext fun b => Fin.ext ?_)
      fin_cases b
      · show (i 0).val - n = 0
        omega
      · rfl
      · rfl
      · rfl
    · intro a
      have := (i a).isLt
      fin_cases a
      · show n ≤ (i 0).val ∧ (i 0).val < n + 1
        omega
      · exact ⟨Nat.zero_le _, by simpa using this⟩
      · exact ⟨Nat.zero_le _, by simpa using this⟩
      · exact ⟨Nat.zero_le _, by simpa using this⟩
  · rw [if_neg hi, dif_neg]
    intro ha
    have h0 := ha 0
    have : n ≤ (i 0).val ∧ (i 0).val < n + 1 := h0
    omega

variable (Q U W K : S128x4x64x128.Idx → EReal) (A : S128x4x64x64.Idx → EReal) (E : S128x4x1x128.Idx → EReal)

/-- What the loop's buffers hold before trip `n`. -/
structure Holds (V : Valuation τ sig (Elt Ideal)) (n : ℕ) : Prop where
  q : V (Proc.devRef .tc main_v3_0) = Q
  u : V (Proc.devRef .tc main_v3_1) = U
  w : V (Proc.devRef .tc main_v3_2) = W
  a : V (Proc.devRef .tc main_v3_3) = A
  k : V (Proc.devRef .tc main_v3_4) = K
  e : V (Proc.devRef .tc main_v3_5) = E
  counter : V (Proc.devRef .tc main_v3_6) = fun _ => BitVec.ofNat 32 n
  state : V (Proc.devRef .tc main_v3_7) = stateAt U W K E n
  out : ∀ i : S128x4x64x128.Idx, (i 0).val < n → (V (Proc.devRef .tc main_v3_8) : S128x4x64x128.Idx → EReal) i = outs Q U W A K E i
  shown : ∀ i : S128x4x128x128.Idx, (i 0).val < n → (V (Proc.devRef .tc main_v3_9) : S128x4x128x128.Idx → EReal) i = states U W K E i

variable {Q U W K A E} {V : Valuation τ sig (Elt Ideal)} {n : ℕ}

/-- The corrected values of trip `n`. -/
theorem newV_step (hV : Holds Q U W K A E V n) (hn : n < 128) (h : Fin 4) (c : Fin 64) (v : Fin 128) :
    (res_main_while0b_v11 V : FVec Ideal S4x64x128 .f32) (ix3 h c v) = newV (chunk U n) (chunk W n) (stateAt U W K E n) h c v := by
  unfold res_main_while0b_v11
  rw [hV.u, hV.w, hV.counter, hV.state]
  show subf (chunkSlice U n) (Host.dotGeneral (F := Ideal) (φ₁ := .f32) (φ₂ := .f32) dot_S4x64x128_S4x128x128_S4x64x128_2_1_1_2_0_0 none
    (chunkSlice W n) (stateAt U W K E n)) (ix3 h c v) = _
  pointwise [newV, chunkSlice_apply _ n hn]

/-- The state after trip `n`. -/
theorem state_step (hV : Holds Q U W K A E V n) (hn : n < 128) :
    step_main_v3_7 V = stateAt U W K E (n + 1) := by
  unfold step_main_v3_7
  rw [hV.k, hV.e, hV.counter, hV.state]
  funext i
  show addf (mulf (stateAt U W K E n) (broadcastInDim S4x128x128 ![0, 1, 2] bcast_S4x1x128_S4x128x128_0_1_2 (chunkESlice E n)))
    (Host.dotGeneral (F := Ideal) (φ₁ := .f32) (φ₂ := .f32) dot_S4x64x128_S4x64x128_S4x128x128_1_1_2_2_0_0 none
      (chunkSlice K n) (res_main_while0b_v11 V)) i = next _ _ _ _ _ i
  pointwise [next, chunkSlice_apply _ n hn, chunkESlice_apply _ n hn, newV_step hV hn]

/-- The output of trip `n`. -/
def tripOut (Q : S128x4x64x128.Idx → EReal) (A : S128x4x64x64.Idx → EReal) (s : S4x128x128.Idx → EReal) (n : ℕ)
    (V : Valuation τ sig (Elt Ideal)) : FVec Ideal S1x4x64x128 .f32 :=
  broadcastInDim S1x4x64x128 ![1, 2, 3] bcast_S4x64x128_S1x4x64x128_1_2_3
    (addf (Host.dotGeneral (F := Ideal) (φ₁ := .f32) (φ₂ := .f32) dot_S4x64x128_S4x128x128_S4x64x128_2_1_1_2_0_0 none (chunkSlice Q n) s)
      (Host.dotGeneral (F := Ideal) (φ₁ := .f32) (φ₂ := .f32) dot_S4x64x64_S4x64x128_S4x64x128_2_1_1_2_0_0 none (chunkASlice A n)
        (res_main_while0b_v11 V)))

theorem tripOut_apply (hV : Holds Q U W K A E V n) (hn : n < 128) (i : S1x4x64x128.Idx) : tripOut Q A (stateAt U W K E n) n V i
    = Cert.GdnScanRun.out (chunk Q n) (chunk U n) (chunk W n) (chunkA A n) (stateAt U W K E n) i := by
  unfold tripOut
  pointwise [Cert.GdnScanRun.out, chunkSlice_apply _ n hn, chunkASlice_apply _ n hn, newV_step hV hn]

/-- The outputs after trip `n`. -/
theorem out_step (hV : Holds Q U W K A E V n) (hn : n < 128) (i : S128x4x64x128.Idx) (hi : (i 0).val < n + 1) :
    (step_main_v3_8 V : S128x4x64x128.Idx → EReal) i = outs Q U W A K E i := by
  unfold step_main_v3_8
  rw [hV.q, hV.a, hV.counter, hV.state]
  show Host.dynamicUpdateSlice (V (Proc.devRef .tc main_v3_8) : S128x4x64x128.Idx → EReal) (tripOut Q A (stateAt U W K E n) n V) (start n)
    updateFits_S128x4x64x128_S1x4x64x128 i = _
  rw [write_apply _ _ n hn]
  split_ifs with h
  · rw [tripOut_apply hV hn, ← h]
    rfl
  · exact hV.out i (by omega)

/-- The states after trip `n`. -/
theorem shown_step (hV : Holds Q U W K A E V n) (hn : n < 128) (i : S128x4x128x128.Idx) (hi : (i 0).val < n + 1) :
    (step_main_v3_9 V : S128x4x128x128.Idx → EReal) i = states U W K E i := by
  unfold step_main_v3_9
  rw [hV.counter, hV.state]
  show Host.dynamicUpdateSlice (V (Proc.devRef .tc main_v3_9) : S128x4x128x128.Idx → EReal)
    (broadcastInDim S1x4x128x128 ![1, 2, 3] bcast_S4x128x128_S1x4x128x128_1_2_3 (stateAt U W K E n)) (start n)
    updateFits_S128x4x128x128_S1x4x128x128 i = _
  rw [write_apply _ _ n hn]
  split_ifs with h
  · rw [← h]
    pointwise [states]
  · exact hV.shown i (by omega)

/-- One trip. -/
theorem holds_step (hV : Holds Q U W K A E V n) (hn : n < 128) : Holds Q U W K A E (STEP V) (n + 1) where
  q := (STEP_main_v3_0 V).trans hV.q
  u := (STEP_main_v3_1 V).trans hV.u
  w := (STEP_main_v3_2 V).trans hV.w
  a := (STEP_main_v3_3 V).trans hV.a
  k := (STEP_main_v3_4 V).trans hV.k
  e := (STEP_main_v3_5 V).trans hV.e
  counter := by
    rw [STEP_main_v3_6]
    unfold step_main_v3_6
    rw [hV.counter]
    funext i
    show BitVec.ofNat 32 n + 1#32 = BitVec.ofNat 32 (n + 1)
    rw [BitVec.ofNat_add]
  state := (STEP_main_v3_7 V).trans (state_step hV hn)
  out i hi := by
    rw [STEP_main_v3_8]
    exact out_step hV hn i hi
  shown i hi := by
    rw [STEP_main_v3_9]
    exact shown_step hV hn i hi

/-- All trips. -/
theorem holds_trips (hV : Holds Q U W K A E V 0) : ∀ n ≤ 128, Holds Q U W K A E (STEP^[n] V) n
  | 0, _ => hV
  | n + 1, h => by
    rw [Function.iterate_succ_apply']
    exact holds_step (holds_trips hV n (by omega)) (by omega)

variable (m : (ℓ : Loc nD τ sig) → Buf (Elt Ideal) ℓ)

/-- Before the first trip. -/
theorem holds_entry (c : Dev nD) : Holds (m ((c : Thread nD τ).loc main_arg0)) (m ((c : Thread nD τ).loc main_arg1))
    (m ((c : Thread nD τ).loc main_arg2)) (m ((c : Thread nD τ).loc main_arg4)) (m ((c : Thread nD τ).loc main_arg3))
    (m ((c : Thread nD τ).loc main_arg5)) (entryContents preI m c) 0 where
  q := by
    simp only [entryContents, afterL_cons, afterL_nil]
    after_reads_simp
    rfl
  u := by
    simp only [entryContents, afterL_cons, afterL_nil]
    after_reads_simp
    rfl
  w := by
    simp only [entryContents, afterL_cons, afterL_nil]
    after_reads_simp
    rfl
  a := by
    simp only [entryContents, afterL_cons, afterL_nil]
    after_reads_simp
    rfl
  k := by
    simp only [entryContents, afterL_cons, afterL_nil]
    after_reads_simp
    rfl
  e := by
    simp only [entryContents, afterL_cons, afterL_nil]
    after_reads_simp
    rfl
  counter := ctr_entry m c
  state := by
    simp only [entryContents, afterL_cons, afterL_nil]
    after_reads_simp
    funext i
    exact Ideal.ofBits_zero_f32
  out i hi := absurd hi (Nat.not_lt_zero _)
  shown i hi := absurd hi (Nat.not_lt_zero _)

/-- The reference's outputs. -/
theorem ref_out (c : Dev nD) : (STEP^[128] (entryContents preI m c)) (Proc.devRef .tc main_v3_8)
    = outs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  funext fun i => (holds_trips (holds_entry m c) 128 le_rfl).out i (i 0).isLt

/-- The reference's states. -/
theorem ref_states (c : Dev nD) : (STEP^[128] (entryContents preI m c)) (Proc.devRef .tc main_v3_9)
    = states (m ((c : Thread nD τ).loc main_arg1)) (m ((c : Thread nD τ).loc main_arg2)) (m ((c : Thread nD τ).loc main_arg4))
        (m ((c : Thread nD τ).loc main_arg5)) :=
  funext fun i => (holds_trips (holds_entry m c) 128 le_rfl).shown i (i 0).isLt

end Cert.GdnScanRun
-- ==== Proof.GdnScanClaims.lean ====
/-
# The recurrence: the claims

The kernel is one pipeline over the chunks, the reference a loop over them; both leave the recurrence's outputs and states.
-/
module

public import proofs.«01_k».proof.Defs
public import proofs.«01_k».proof.Proof.GdnScanValue
public import proofs.«01_k».proof.Proof.GdnScanRefValue
public import proofs.«01_k».proof.Proof.Gen.GdnScan.Frame
public import proofs.«01_k».proof.Proof.Gen.GdnScanRef.Run
public import Idealize.ShloMosaic.Lib.Quiescent

@[expose] public section

noncomputable section

namespace Cert.GdnScanRun

open Idealize.ShloMosaic Idealize.ShloMosaic.TcCoe Idealize.SL.Sem
open Cert.GdnScan.Gen Cert.GdnScanIdeal.Gen Cert.GdnScanRef.Gen Cert.GdnScanRefIdeal.Gen

theorem frame_kernel : Cert.quiescent_GdnScan := fun m ρ _ => Cert.GdnScan.Gen.frame m ρ
theorem frame_kernel_ideal : Cert.quiescent_GdnScanIdeal := fun m ρ _ => Cert.GdnScanIdeal.Gen.frame m ρ
theorem frame_ref : Cert.quiescent_GdnScanRef := fun m ρ _ =>
  (θ_run Cert.GdnScanRef.defs _ _).mono (fun r h => ⟨fun c => (h c).2.2, sem_eq_zero_of_no_sems (by decide) r.2⟩)
    (Cert.GdnScanRef.Value.run (F := Bits) m ρ)
theorem frame_ref_ideal : Cert.quiescent_GdnScanRefIdeal := fun m ρ _ =>
  (θ_run Cert.GdnScanRefIdeal.defs _ _).mono (fun r h => ⟨fun c => (h c).2.2, sem_eq_zero_of_no_sems (by decide) r.2⟩)
    (Cert.GdnScanRefIdeal.Value.run (F := Ideal) m ρ)

/-- Over the extended reals: the outputs and the states are the reference's. -/
theorem algebraic : Cert.algebraic_GdnScanIdeal_GdnScanRefIdeal := fun m ρ m' ρ' _ hm =>
  ⟨_, _, Cert.GdnScanIdeal.Value.run_blocks (F := Ideal) m ρ,
    (θ_run Cert.GdnScanRefIdeal.defs _ _).mono (fun r h c => by
      obtain ⟨h1, h2, h3⟩ := h c
      obtain ⟨e0, e1, e2, e3, e4, e5⟩ := hm c
      refine ⟨h1.trans ?_, h2.trans ?_, h3⟩
      · refine (ref_out m' c).trans ?_
        rw [e0, e1, e2, e3, e4, e5]
        exact (out_value m c).symm
      · refine (ref_states m' c).trans ?_
        rw [e1, e2, e4, e5]
        exact (state_value m c).symm)
      (Cert.GdnScanRefIdeal.Value.run (F := Ideal) m' ρ')⟩

end Cert.GdnScanRun
-- ==== Proof.GdnGradValue.lean ====
/-
# The recurrence's derivative: the kernel

The chunks are taken from the last to the first. Each reads the state that its chunk started from, the derivative of its output
and the derivative of the state after it, and leaves the derivatives of its six arguments and of the state before it. One grid
point is one chunk, the heads written out one after another; the state's derivative is carried from point to point.
-/
module

public import proofs.«01_k».proof.Proof.GdnScanValue
public import proofs.«01_k».proof.Proof.Gen.GdnGradIdeal.Value

@[expose] public section

noncomputable section

namespace Cert.GdnGradRun

open Idealize.ShloMosaic Idealize.ShloMosaic.TcCoe Idealize.SL.Sem
open Cert.GdnGradIdeal Cert.GdnGradIdeal.Gen
open Cert.GdnScanRun (newV chunk chunkA chunkE)

/-- A chunk's state, without the chunk's own coordinate. -/
def bare (s : S1x4x128x128.Idx → EReal) : S4x128x128.Idx → EReal := fun i => s (ix4 0 (i 0) (i 1) (i 2))

/-- The derivative of a chunk's corrected values, which is that of its values too. -/
def dV (a : S1x4x64x64.Idx → EReal) (k o : S1x4x64x128.Idx → EReal) (d : S4x128x128.Idx → EReal) (h : Fin 4) (c : Fin 64) (v : Fin 128) : EReal :=
  (∑ e : Fin 64, a (ix4 0 h e c) * o (ix4 0 h e v)) + ∑ k' : Fin 128, k (ix4 0 h c k') * d (ix3 h k' v)

def dU (a : S1x4x64x64.Idx → EReal) (k o : S1x4x64x128.Idx → EReal) (d : S4x128x128.Idx → EReal) : S1x4x64x128.Idx → EReal :=
  fun i => dV a k o d (i 1) (i 2) (i 3)

def dQ (o : S1x4x64x128.Idx → EReal) (s : S1x4x128x128.Idx → EReal) : S1x4x64x128.Idx → EReal :=
  fun i => ∑ v : Fin 128, o (ix4 0 (i 1) (i 2) v) * s (ix4 0 (i 1) (i 3) v)

def dW (a : S1x4x64x64.Idx → EReal) (k o : S1x4x64x128.Idx → EReal) (s : S1x4x128x128.Idx → EReal) (d : S4x128x128.Idx → EReal) :
    S1x4x64x128.Idx → EReal :=
  fun i => -∑ v : Fin 128, dV a k o d (i 1) (i 2) v * s (ix4 0 (i 1) (i 3) v)

def dA (u w o : S1x4x64x128.Idx → EReal) (s : S1x4x128x128.Idx → EReal) : S1x4x64x64.Idx → EReal :=
  fun i => ∑ v : Fin 128, o (ix4 0 (i 1) (i 2) v) * newV u w (bare s) (i 1) (i 3) v

def dK (u w : S1x4x64x128.Idx → EReal) (s : S1x4x128x128.Idx → EReal) (d : S4x128x128.Idx → EReal) : S1x4x64x128.Idx → EReal :=
  fun i => ∑ v : Fin 128, newV u w (bare s) (i 1) (i 2) v * d (ix3 (i 1) (i 3) v)

def dE (s : S1x4x128x128.Idx → EReal) (d : S4x128x128.Idx → EReal) : S1x4x1x128.Idx → EReal :=
  fun i => ∑ k : Fin 128, d (ix3 (i 1) k (i 3)) * s (ix4 0 (i 1) k (i 3))

/-- The derivative of the state before a chunk, from that of the state after it. -/
def before (q w : S1x4x64x128.Idx → EReal) (a : S1x4x64x64.Idx → EReal) (k : S1x4x64x128.Idx → EReal) (e : S1x4x1x128.Idx → EReal)
    (o : S1x4x64x128.Idx → EReal) (d : S4x128x128.Idx → EReal) : S4x128x128.Idx → EReal :=
  fun i => d i * e (ix4 0 (i 0) 0 (i 2)) + (∑ c : Fin 64, q (ix4 0 (i 0) c (i 1)) * o (ix4 0 (i 0) c (i 2)))
    - ∑ c : Fin 64, w (ix4 0 (i 0) c (i 1)) * dV a k o d (i 0) c (i 2)

variable (m : (ℓ : Loc nD τ sig) → Buf (Elt Ideal) ℓ)

/-- The state's derivative that a point starts from: nothing at the first, what the point before left at a later one. -/
def started (c : Dev nD) (t : Fin cfg0.N) : S4x128x128.Idx → EReal :=
  if h : t.val % 128 = 0 then k0_pay2 (F := Ideal) else (outsAt0 m c (t.val - 1) (by omega)).2.2.2.2.2.2

theorem started_A (c : Dev nD) (t : Fin cfg0.N) (h : t.val % 128 = 0) : started m c t = k0_pay2 (F := Ideal) := dif_pos h
theorem started_B (c : Dev nD) (t : Fin cfg0.N) (h : ¬t.val % 128 = 0) :
    started m c t = (outsAt0 m c (t.val - 1) (by omega)).2.2.2.2.2.2 := dif_neg h

/-! ## One point: the heads' stores are the parts of one chunk's derivatives -/

theorem before_point (c : Dev nD) (t : Fin cfg0.N) : (outsAt0 m c t.val t.isLt).2.2.2.2.2.2
    = before (iblk m c 0 t) (iblk m c 2 t) (iblk m c 3 t) (iblk m c 4 t) (iblk m c 5 t) (iblk m c 7 t) (started m c t) := by
  by_cases h : t.val % 128 = 0
  · rw [outsAt0_A m c t h, started_A m c t h]; frame_open
    simp (disch := decide) only [↓View.readCov_skip, ↓View.readCov_fill]
    frame_out
    funext y
    refine View.canon_append_of_piecesOf _ [_] [_, _, _, _] ⟨fun x => ?_, fun x => ?_, fun x => ?_, fun x => ?_, trivial⟩ y
      (View.cover_of_tiledL (s := S4x128x128) _ S1x128x128.size (by sl_kernel_rfl) y)
    · pointwise [k0_pay1, k0_pay81, k0_pay82, k0_pay65, k0_pay66, k0_pay67, k0_pay68, k0_pay69, k0_pay70, k0_pay73, k0_pay72, before, dV, Rect.emb, Function.Embedding.coeFn_mk]
    · pointwise [k0_pay62, k0_pay44, k0_pay45, k0_pay46, k0_pay47, k0_pay48, k0_pay49, k0_pay50, k0_pay53, k0_pay54, before, dV, Rect.emb, Function.Embedding.coeFn_mk]
    · pointwise [k0_pay41, k0_pay40, k0_pay25, k0_pay26, k0_pay27, k0_pay28, k0_pay29, k0_pay31, k0_pay32, before, dV, Rect.emb, Function.Embedding.coeFn_mk]
    · pointwise [k0_pay22, k0_pay5, k0_pay6, k0_pay7, k0_pay8, k0_pay9, k0_pay10, k0_pay11, k0_pay13, k0_pay14, before, dV, Rect.emb, Function.Embedding.coeFn_mk]
  · rw [outsAt0_B m c t h, started_B m c t h]; frame_open
    frame_out
    simp only [read_unread_whole]
    funext y
    refine View.canon_append_of_piecesOf _ [] [_, _, _, _] ⟨fun x => ?_, fun x => ?_, fun x => ?_, fun x => ?_, trivial⟩ y
      (View.cover_of_tiledL (s := S4x128x128) _ S1x128x128.size (by sl_kernel_rfl) y)
    · pointwise [k0_pay1, k0_pay81, k0_pay82, k0_pay65, k0_pay66, k0_pay67, k0_pay68, k0_pay69, k0_pay70, k0_pay73, k0_pay72, before, dV, Rect.emb, Function.Embedding.coeFn_mk]
    · pointwise [k0_pay62, k0_pay44, k0_pay45, k0_pay46, k0_pay47, k0_pay48, k0_pay49, k0_pay50, k0_pay53, k0_pay54, before, dV, Rect.emb, Function.Embedding.coeFn_mk]
    · pointwise [k0_pay41, k0_pay40, k0_pay25, k0_pay26, k0_pay27, k0_pay28, k0_pay29, k0_pay31, k0_pay32, before, dV, Rect.emb, Function.Embedding.coeFn_mk]
    · pointwise [k0_pay22, k0_pay5, k0_pay6, k0_pay7, k0_pay8, k0_pay9, k0_pay10, k0_pay11, k0_pay13, k0_pay14, before, dV, Rect.emb, Function.Embedding.coeFn_mk]

theorem dQ_point (c : Dev nD) (t : Fin cfg0.N) : (outsAt0 m c t.val t.isLt).1
    = dQ (iblk m c 7 t) (iblk m c 6 t) := by
  by_cases h : t.val % 128 = 0
  case' pos =>
    rw [outsAt0_A m c t h]; frame_open
    simp (disch := decide) only [↓View.readCov_skip, ↓View.readCov_fill]
    frame_out
  case' neg =>
    rw [outsAt0_B m c t h]; frame_open
    frame_out
  all_goals
    funext y
    refine View.canon_append_of_piecesOf _ [] [_, _, _, _] ⟨fun x => ?_, fun x => ?_, fun x => ?_, fun x => ?_, trivial⟩ y
      (View.cover_of_tiledL (s := S1x4x64x128) _ S1x1x64x128.size (by sl_kernel_rfl) y)
    · pointwise [k0_pay77, k0_pay76, k0_pay64, k0_pay63, k0_pay70, dQ, Rect.emb, Function.Embedding.coeFn_mk]
    · pointwise [k0_pay57, k0_pay43, k0_pay42, k0_pay50, dQ, Rect.emb, Function.Embedding.coeFn_mk]
    · pointwise [k0_pay36, k0_pay35, k0_pay24, k0_pay23, k0_pay29, dQ, Rect.emb, Function.Embedding.coeFn_mk]
    · pointwise [k0_pay17, k0_pay4, k0_pay3, k0_pay11, dQ, Rect.emb, Function.Embedding.coeFn_mk]

theorem dU_point (c : Dev nD) (t : Fin cfg0.N) : (outsAt0 m c t.val t.isLt).2.1
    = dU (iblk m c 3 t) (iblk m c 4 t) (iblk m c 7 t) (started m c t) := by
  by_cases h : t.val % 128 = 0
  case' pos =>
    rw [outsAt0_A m c t h, started_A m c t h]; frame_open
    simp (disch := decide) only [↓View.readCov_skip, ↓View.readCov_fill]
    frame_out
  case' neg =>
    rw [outsAt0_B m c t h, started_B m c t h]; frame_open
    frame_out
    simp only [read_unread_whole]
  all_goals
    funext y
    refine View.canon_append_of_piecesOf _ [] [_, _, _, _] ⟨fun x => ?_, fun x => ?_, fun x => ?_, fun x => ?_, trivial⟩ y
      (View.cover_of_tiledL (s := S1x4x64x128) _ S1x1x64x128.size (by sl_kernel_rfl) y)
    · pointwise [k0_pay74, k0_pay72, k0_pay66, k0_pay65, k0_pay68, k0_pay70, dU, dV, Rect.emb, Function.Embedding.coeFn_mk]
    · pointwise [k0_pay55, k0_pay53, k0_pay45, k0_pay44, k0_pay47, k0_pay49, k0_pay50, dU, dV, Rect.emb, Function.Embedding.coeFn_mk]
    · pointwise [k0_pay33, k0_pay31, k0_pay26, k0_pay25, k0_pay29, dU, dV, Rect.emb, Function.Embedding.coeFn_mk]
    · pointwise [k0_pay15, k0_pay13, k0_pay6, k0_pay5, k0_pay8, k0_pay10, k0_pay11, dU, dV, Rect.emb, Function.Embedding.coeFn_mk]

theorem dW_point (c : Dev nD) (t : Fin cfg0.N) : (outsAt0 m c t.val t.isLt).2.2.1
    = dW (iblk m c 3 t) (iblk m c 4 t) (iblk m c 7 t) (iblk m c 6 t) (started m c t) := by
  by_cases h : t.val % 128 = 0
  case' pos =>
    rw [outsAt0_A m c t h, started_A m c t h]; frame_open
    simp (disch := decide) only [↓View.readCov_skip, ↓View.readCov_fill]
    frame_out
  case' neg =>
    rw [outsAt0_B m c t h, started_B m c t h]; frame_open
    frame_out
    simp only [read_unread_whole]
  all_goals
    funext y
    refine View.canon_append_of_piecesOf _ [] [_, _, _, _] ⟨fun x => ?_, fun x => ?_, fun x => ?_, fun x => ?_, trivial⟩ y
      (View.cover_of_tiledL (s := S1x4x64x128) _ S1x1x64x128.size (by sl_kernel_rfl) y)
    · pointwise [k0_pay79, k0_pay64, k0_pay63, k0_pay73, k0_pay72, k0_pay66, k0_pay65, k0_pay68, k0_pay70, dW, dV, zero_sub, Rect.emb, Function.Embedding.coeFn_mk]
    · pointwise [k0_pay59, k0_pay54, k0_pay53, k0_pay43, k0_pay42, k0_pay45, k0_pay44, k0_pay47, k0_pay49, k0_pay50, dW, dV, zero_sub, Rect.emb, Function.Embedding.coeFn_mk]
    · pointwise [k0_pay38, k0_pay24, k0_pay23, k0_pay32, k0_pay31, k0_pay26, k0_pay25, k0_pay29, dW, dV, zero_sub, Rect.emb, Function.Embedding.coeFn_mk]
    · pointwise [k0_pay20, k0_pay19, k0_pay14, k0_pay13, k0_pay4, k0_pay3, k0_pay6, k0_pay5, k0_pay8, k0_pay10, k0_pay11, dW, dV, zero_sub, Rect.emb, Function.Embedding.coeFn_mk]

theorem dA_point (c : Dev nD) (t : Fin cfg0.N) : (outsAt0 m c t.val t.isLt).2.2.2.1
    = dA (iblk m c 1 t) (iblk m c 2 t) (iblk m c 7 t) (iblk m c 6 t) := by
  by_cases h : t.val % 128 = 0
  case' pos =>
    rw [outsAt0_A m c t h]; frame_open
    simp (disch := decide) only [↓View.readCov_skip, ↓View.readCov_fill]
    frame_out
  case' neg =>
    rw [outsAt0_B m c t h]; frame_open
    frame_out
  all_goals
    funext y
    refine View.canon_append_of_piecesOf _ [] [_, _, _, _] ⟨fun x => ?_, fun x => ?_, fun x => ?_, fun x => ?_, trivial⟩ y
      (View.cover_of_tiledL (s := S1x4x64x64) _ S1x1x64x64.size (by sl_kernel_rfl) y)
    · pointwise [k0_pay75, k0_pay71, k0_pay64, k0_pay63, k0_pay67, k0_pay70, dA, newV, bare, Rect.emb, Function.Embedding.coeFn_mk]
    · pointwise [k0_pay56, k0_pay52, k0_pay51, k0_pay43, k0_pay42, k0_pay46, k0_pay50, dA, newV, bare, Rect.emb, Function.Embedding.coeFn_mk]
    · pointwise [k0_pay34, k0_pay24, k0_pay23, k0_pay27, k0_pay30, k0_pay29, dA, newV, bare, Rect.emb, Function.Embedding.coeFn_mk]
    · pointwise [k0_pay16, k0_pay12, k0_pay4, k0_pay3, k0_pay7, k0_pay11, dA, newV, bare, Rect.emb, Function.Embedding.coeFn_mk]

theorem dK_point (c : Dev nD) (t : Fin cfg0.N) : (outsAt0 m c t.val t.isLt).2.2.2.2.1
    = dK (iblk m c 1 t) (iblk m c 2 t) (iblk m c 6 t) (started m c t) := by
  by_cases h : t.val % 128 = 0
  case' pos =>
    rw [outsAt0_A m c t h, started_A m c t h]; frame_open
    simp (disch := decide) only [↓View.readCov_skip, ↓View.readCov_fill]
    frame_out
  case' neg =>
    rw [outsAt0_B m c t h, started_B m c t h]; frame_open
    frame_out
    simp only [read_unread_whole]
  all_goals
    funext y
    refine View.canon_append_of_piecesOf _ [] [_, _, _, _] ⟨fun x => ?_, fun x => ?_, fun x => ?_, fun x => ?_, trivial⟩ y
      (View.cover_of_tiledL (s := S1x4x64x128) _ S1x1x64x128.size (by sl_kernel_rfl) y)
    · pointwise [k0_pay78, k0_pay66, k0_pay65, k0_pay71, k0_pay64, k0_pay63, k0_pay67, dK, newV, bare, Rect.emb, Function.Embedding.coeFn_mk]
    · pointwise [k0_pay58, k0_pay52, k0_pay51, k0_pay45, k0_pay44, k0_pay43, k0_pay42, k0_pay46, dK, newV, bare, Rect.emb, Function.Embedding.coeFn_mk]
    · pointwise [k0_pay37, k0_pay26, k0_pay25, k0_pay30, k0_pay24, k0_pay23, k0_pay27, dK, newV, bare, Rect.emb, Function.Embedding.coeFn_mk]
    · pointwise [k0_pay18, k0_pay12, k0_pay4, k0_pay3, k0_pay6, k0_pay5, k0_pay7, dK, newV, bare, Rect.emb, Function.Embedding.coeFn_mk]

theorem dE_point (c : Dev nD) (t : Fin cfg0.N) : (outsAt0 m c t.val t.isLt).2.2.2.2.2.1
    = dE (iblk m c 6 t) (started m c t) := by
  by_cases h : t.val % 128 = 0
  case' pos =>
    rw [outsAt0_A m c t h, started_A m c t h]; frame_open
    simp (disch := decide) only [↓View.readCov_skip, ↓View.readCov_fill]
    frame_out
  case' neg =>
    rw [outsAt0_B m c t h, started_B m c t h]; frame_open
    frame_out
    simp only [read_unread_whole]
  all_goals
    funext y
    refine View.canon_append_of_piecesOf _ [] [_, _, _, _] ⟨fun x => ?_, fun x => ?_, fun x => ?_, fun x => ?_, trivial⟩ y
      (View.cover_of_tiledL (s := S1x4x1x128) _ S1x1x1x128.size (by sl_kernel_rfl) y)
    · pointwise [k0_pay80, k0_pay63, k0_pay65, dE, Rect.emb, Function.Embedding.coeFn_mk]
    · pointwise [k0_pay61, k0_pay60, k0_pay42, k0_pay44, dE, Rect.emb, Function.Embedding.coeFn_mk]
    · pointwise [k0_pay39, k0_pay23, k0_pay25, dE, Rect.emb, Function.Embedding.coeFn_mk]
    · pointwise [k0_pay21, k0_pay3, k0_pay5, dE, Rect.emb, Function.Embedding.coeFn_mk]

/-! ## All points -/

/-- The state that chunk `n` started from. -/
def chunkS (X : S128x4x128x128.Idx → EReal) (n : ℕ) : S1x4x128x128.Idx → EReal :=
  fun i => X (ix4 (⟨n % 128, Nat.mod_lt _ (by decide)⟩ : Fin 128) (i 1) (i 2) (i 3))

section results

variable (Q U W K O : S128x4x64x128.Idx → EReal) (A : S128x4x64x64.Idx → EReal) (E : S128x4x1x128.Idx → EReal)
  (S : S128x4x128x128.Idx → EReal)

/-- The state's derivative once the last `n` chunks are done. -/
def derAt : ℕ → S4x128x128.Idx → EReal
  | 0 => fun _ => 0
  | n + 1 => before (chunk Q (127 - n)) (chunk W (127 - n)) (chunkA A (127 - n)) (chunk K (127 - n)) (chunkE E (127 - n))
      (chunk O (127 - n)) (derAt n)

/-- The state's derivative after chunk `n`. -/
abbrev der (n : ℕ) : S4x128x128.Idx → EReal := derAt Q W K O A E (127 - n)

def allQ : S128x4x64x128.Idx → EReal :=
  fun i => dQ (chunk O (i 0).val) (chunkS S (i 0).val) (ix4 0 (i 1) (i 2) (i 3))

def allU : S128x4x64x128.Idx → EReal :=
  fun i => dU (chunkA A (i 0).val) (chunk K (i 0).val) (chunk O (i 0).val) (der Q W K O A E (i 0).val) (ix4 0 (i 1) (i 2) (i 3))

def allW : S128x4x64x128.Idx → EReal :=
  fun i => dW (chunkA A (i 0).val) (chunk K (i 0).val) (chunk O (i 0).val) (chunkS S (i 0).val) (der Q W K O A E (i 0).val)
    (ix4 0 (i 1) (i 2) (i 3))

def allA : S128x4x64x64.Idx → EReal :=
  fun i => dA (chunk U (i 0).val) (chunk W (i 0).val) (chunk O (i 0).val) (chunkS S (i 0).val) (ix4 0 (i 1) (i 2) (i 3))

def allK : S128x4x64x128.Idx → EReal :=
  fun i => dK (chunk U (i 0).val) (chunk W (i 0).val) (chunkS S (i 0).val) (der Q W K O A E (i 0).val) (ix4 0 (i 1) (i 2) (i 3))

def allE : S128x4x1x128.Idx → EReal :=
  fun i => dE (chunkS S (i 0).val) (der Q W K O A E (i 0).val) (ix4 0 (i 1) (i 2) (i 3))

end results

theorem index0 : ∀ t : Fin grid0.N, win0_0.index t 0 = 127 - t.val ∧ win0_0.index t 1 = 0 ∧ win0_0.index t 2 = 0 ∧ win0_0.index t 3 = 0 := by
  decide +kernel
theorem index1 : ∀ t : Fin grid0.N, win0_1.index t 0 = 127 - t.val ∧ win0_1.index t 1 = 0 ∧ win0_1.index t 2 = 0 ∧ win0_1.index t 3 = 0 := by
  decide +kernel
theorem index2 : ∀ t : Fin grid0.N, win0_2.index t 0 = 127 - t.val ∧ win0_2.index t 1 = 0 ∧ win0_2.index t 2 = 0 ∧ win0_2.index t 3 = 0 := by
  decide +kernel
theorem index3 : ∀ t : Fin grid0.N, win0_3.index t 0 = 127 - t.val ∧ win0_3.index t 1 = 0 ∧ win0_3.index t 2 = 0 ∧ win0_3.index t 3 = 0 := by
  decide +kernel
theorem index4 : ∀ t : Fin grid0.N, win0_4.index t 0 = 127 - t.val ∧ win0_4.index t 1 = 0 ∧ win0_4.index t 2 = 0 ∧ win0_4.index t 3 = 0 := by
  decide +kernel
theorem index5 : ∀ t : Fin grid0.N, win0_5.index t 0 = 127 - t.val ∧ win0_5.index t 1 = 0 ∧ win0_5.index t 2 = 0 ∧ win0_5.index t 3 = 0 := by
  decide +kernel
theorem index6 : ∀ t : Fin grid0.N, win0_6.index t 0 = 127 - t.val ∧ win0_6.index t 1 = 0 ∧ win0_6.index t 2 = 0 ∧ win0_6.index t 3 = 0 := by
  decide +kernel
theorem index7 : ∀ t : Fin grid0.N, win0_7.index t 0 = 127 - t.val ∧ win0_7.index t 1 = 0 ∧ win0_7.index t 2 = 0 ∧ win0_7.index t 3 = 0 := by
  decide +kernel
theorem index8 : ∀ t : Fin grid0.N, win0_8.index t 0 = 127 - t.val ∧ win0_8.index t 1 = 0 ∧ win0_8.index t 2 = 0 ∧ win0_8.index t 3 = 0 := by
  decide +kernel
theorem index9 : ∀ t : Fin grid0.N, win0_9.index t 0 = 127 - t.val ∧ win0_9.index t 1 = 0 ∧ win0_9.index t 2 = 0 ∧ win0_9.index t 3 = 0 := by
  decide +kernel
theorem index10 : ∀ t : Fin grid0.N, win0_10.index t 0 = 127 - t.val ∧ win0_10.index t 1 = 0 ∧ win0_10.index t 2 = 0 ∧ win0_10.index t 3 = 0 := by
  decide +kernel
theorem index11 : ∀ t : Fin grid0.N, win0_11.index t 0 = 127 - t.val ∧ win0_11.index t 1 = 0 ∧ win0_11.index t 2 = 0 ∧ win0_11.index t 3 = 0 := by
  decide +kernel
theorem index12 : ∀ t : Fin grid0.N, win0_12.index t 0 = 127 - t.val ∧ win0_12.index t 1 = 0 ∧ win0_12.index t 2 = 0 ∧ win0_12.index t 3 = 0 := by
  decide +kernel
theorem index13 : ∀ t : Fin grid0.N, win0_13.index t 0 = 127 - t.val ∧ win0_13.index t 1 = 0 ∧ win0_13.index t 2 = 0 ∧ win0_13.index t 3 = 0 := by
  decide +kernel

/-- The eight arguments on device `c`. -/
abbrev argQ (c : Dev nD) : S128x4x64x128.Idx → EReal := m ((c : Thread nD τ).loc main_arg0)
abbrev argU (c : Dev nD) : S128x4x64x128.Idx → EReal := m ((c : Thread nD τ).loc main_arg1)
abbrev argW (c : Dev nD) : S128x4x64x128.Idx → EReal := m ((c : Thread nD τ).loc main_arg2)
abbrev argA (c : Dev nD) : S128x4x64x64.Idx → EReal := m ((c : Thread nD τ).loc main_arg3)
abbrev argK (c : Dev nD) : S128x4x64x128.Idx → EReal := m ((c : Thread nD τ).loc main_arg4)
abbrev argE (c : Dev nD) : S128x4x1x128.Idx → EReal := m ((c : Thread nD τ).loc main_arg5)
abbrev argS (c : Dev nD) : S128x4x128x128.Idx → EReal := m ((c : Thread nD τ).loc main_arg6)
abbrev argO (c : Dev nD) : S128x4x64x128.Idx → EReal := m ((c : Thread nD τ).loc main_arg7)

theorem lt_N (t : Fin cfg0.N) : t.val < 128 := lt_of_lt_of_eq t.isLt N_0

theorem q_block (c : Dev nD) (t : Fin cfg0.N) : iblk m c 0 t = chunk (argQ m c) (127 - t.val) := by
  have := lt_N t
  funext y
  unfold chunk
  blk_ext [iblk, V, index0 t]
theorem u_block (c : Dev nD) (t : Fin cfg0.N) : iblk m c 1 t = chunk (argU m c) (127 - t.val) := by
  have := lt_N t
  funext y
  unfold chunk
  blk_ext [iblk, V, index1 t]
theorem w_block (c : Dev nD) (t : Fin cfg0.N) : iblk m c 2 t = chunk (argW m c) (127 - t.val) := by
  have := lt_N t
  funext y
  unfold chunk
  blk_ext [iblk, V, index2 t]
theorem a_block (c : Dev nD) (t : Fin cfg0.N) : iblk m c 3 t = chunkA (argA m c) (127 - t.val) := by
  have := lt_N t
  funext y
  unfold chunkA
  blk_ext [iblk, V, index3 t]
theorem k_block (c : Dev nD) (t : Fin cfg0.N) : iblk m c 4 t = chunk (argK m c) (127 - t.val) := by
  have := lt_N t
  funext y
  unfold chunk
  blk_ext [iblk, V, index4 t]
theorem e_block (c : Dev nD) (t : Fin cfg0.N) : iblk m c 5 t = chunkE (argE m c) (127 - t.val) := by
  have := lt_N t
  funext y
  unfold chunkE
  blk_ext [iblk, V, index5 t]
theorem s_block (c : Dev nD) (t : Fin cfg0.N) : iblk m c 6 t = chunkS (argS m c) (127 - t.val) := by
  have := lt_N t
  funext y
  unfold chunkS
  blk_ext [iblk, V, index6 t]
theorem o_block (c : Dev nD) (t : Fin cfg0.N) : iblk m c 7 t = chunk (argO m c) (127 - t.val) := by
  have := lt_N t
  funext y
  unfold chunk
  blk_ext [iblk, V, index7 t]

/-- After `n` points the carried derivative is that of the last `n` chunks. -/
theorem carried (c : Dev nD) : ∀ (n : ℕ) (h : n < cfg0.N),
    started m c ⟨n, h⟩ = derAt (argQ m c) (argW m c) (argK m c) (argO m c) (argA m c) (argE m c) n
  | 0, h => by
    rw [started_A m c ⟨0, h⟩ rfl]
    exact funext fun _ => Ideal.ofBits_zero_f32
  | n + 1, h => by
    have hn : n + 1 < 128 := lt_N ⟨n + 1, h⟩
    rw [started_B m c ⟨n + 1, h⟩ (by show ¬ (n + 1) % 128 = 0; omega)]
    simp only [Nat.add_sub_cancel]
    rw [show (outsAt0 m c n (by omega)).2.2.2.2.2.2 = _ from before_point m c ⟨n, by omega⟩, carried c n (by omega), q_block, w_block,
      a_block, k_block, e_block, o_block]
    rfl

theorem started_eq (c : Dev nD) (t : Fin cfg0.N) : started m c t
    = der (argQ m c) (argW m c) (argK m c) (argO m c) (argA m c) (argE m c) (127 - t.val) := by
  have := lt_N t
  rw [show started m c t = _ from carried m c t.val t.isLt, der, show 127 - (127 - t.val) = t.val by omega]

/-- Where a block of a result lies. -/
theorem emb8 (t : Fin cfg0.N) (y : S1x4x64x128.Idx) :
    (win0_8.blk t).view.emb y = ix4 (⟨127 - t.val, by omega⟩ : Fin 128) (y 1) (y 2) (y 3) := by
  have := lt_N t
  blk_ext [index8 t]
theorem emb9 (t : Fin cfg0.N) (y : S1x4x64x128.Idx) :
    (win0_9.blk t).view.emb y = ix4 (⟨127 - t.val, by omega⟩ : Fin 128) (y 1) (y 2) (y 3) := by
  have := lt_N t
  blk_ext [index9 t]
theorem emb10 (t : Fin cfg0.N) (y : S1x4x64x128.Idx) :
    (win0_10.blk t).view.emb y = ix4 (⟨127 - t.val, by omega⟩ : Fin 128) (y 1) (y 2) (y 3) := by
  have := lt_N t
  blk_ext [index10 t]
theorem emb11 (t : Fin cfg0.N) (y : S1x4x64x64.Idx) :
    (win0_11.blk t).view.emb y = ix4 (⟨127 - t.val, by omega⟩ : Fin 128) (y 1) (y 2) (y 3) := by
  have := lt_N t
  blk_ext [index11 t]
theorem emb12 (t : Fin cfg0.N) (y : S1x4x64x128.Idx) :
    (win0_12.blk t).view.emb y = ix4 (⟨127 - t.val, by omega⟩ : Fin 128) (y 1) (y 2) (y 3) := by
  have := lt_N t
  blk_ext [index12 t]
theorem emb13 (t : Fin cfg0.N) (y : S1x4x1x128.Idx) :
    (win0_13.blk t).view.emb y = ix4 (⟨127 - t.val, by omega⟩ : Fin 128) (y 1) (y 2) (y 3) := by
  have := lt_N t
  blk_ext [index13 t]

/-! The six results after the run. -/

theorem value8 (c : Dev nD) : (dats m 0 c).arrAt 8 cfg0.N
    = allQ (argO m c) (argS m c) := by
  refine (dats m 0 c).arrAt_eq_of_covers 8 _ (by decide +kernel) fun t hf y => ?_
  blk_simp
  rw [after0_8, dQ_point, o_block, s_block]
  exact Eq.trans rfl (congrArg (allQ (argO m c) (argS m c)) (emb8 t y)).symm

theorem value9 (c : Dev nD) : (dats m 0 c).arrAt 9 cfg0.N
    = allU (argQ m c) (argW m c) (argK m c) (argO m c) (argA m c) (argE m c) := by
  refine (dats m 0 c).arrAt_eq_of_covers 9 _ (by decide +kernel) fun t hf y => ?_
  blk_simp
  rw [after0_9, dU_point, a_block, k_block, o_block, started_eq]
  exact Eq.trans rfl (congrArg (allU (argQ m c) (argW m c) (argK m c) (argO m c) (argA m c) (argE m c)) (emb9 t y)).symm

theorem value10 (c : Dev nD) : (dats m 0 c).arrAt 10 cfg0.N
    = allW (argQ m c) (argW m c) (argK m c) (argO m c) (argA m c) (argE m c) (argS m c) := by
  refine (dats m 0 c).arrAt_eq_of_covers 10 _ (by decide +kernel) fun t hf y => ?_
  blk_simp
  rw [after0_10, dW_point, a_block, k_block, o_block, s_block, started_eq]
  exact Eq.trans rfl (congrArg (allW (argQ m c) (argW m c) (argK m c) (argO m c) (argA m c) (argE m c) (argS m c)) (emb10 t y)).symm

theorem value11 (c : Dev nD) : (dats m 0 c).arrAt 11 cfg0.N
    = allA (argU m c) (argW m c) (argO m c) (argS m c) := by
  refine (dats m 0 c).arrAt_eq_of_covers 11 _ (by decide +kernel) fun t hf y => ?_
  blk_simp
  rw [after0_11, dA_point, u_block, w_block, o_block, s_block]
  exact Eq.trans rfl (congrArg (allA (argU m c) (argW m c) (argO m c) (argS m c)) (emb11 t y)).symm

theorem value12 (c : Dev nD) : (dats m 0 c).arrAt 12 cfg0.N
    = allK (argQ m c) (argU m c) (argW m c) (argK m c) (argO m c) (argA m c) (argE m c) (argS m c) := by
  refine (dats m 0 c).arrAt_eq_of_covers 12 _ (by decide +kernel) fun t hf y => ?_
  blk_simp
  rw [after0_12, dK_point, u_block, w_block, s_block, started_eq]
  exact Eq.trans rfl (congrArg (allK (argQ m c) (argU m c) (argW m c) (argK m c) (argO m c) (argA m c) (argE m c) (argS m c)) (emb12 t y)).symm

theorem value13 (c : Dev nD) : (dats m 0 c).arrAt 13 cfg0.N
    = allE (argQ m c) (argW m c) (argK m c) (argO m c) (argA m c) (argE m c) (argS m c) := by
  refine (dats m 0 c).arrAt_eq_of_covers 13 _ (by decide +kernel) fun t hf y => ?_
  blk_simp
  rw [after0_13, dE_point, s_block, started_eq]
  exact Eq.trans rfl (congrArg (allE (argQ m c) (argW m c) (argK m c) (argO m c) (argA m c) (argE m c) (argS m c)) (emb13 t y)).symm

end Cert.GdnGradRun
-- ==== Proof.GdnGradRefValue.lean ====
/-
# The recurrence's derivative: the reference

The reference is a loop over the chunks from the last to the first. Before trip `n` its counter is `n`, its carried derivative is
that of the state once the last `n` chunks are done, and its six results hold the derivatives for those chunks.
-/
module

public import proofs.«01_k».proof.Proof.GdnScanRefValue
public import proofs.«01_k».proof.Proof.GdnGradValue
public import proofs.«01_k».proof.Proof.Gen.GdnGradRefIdeal.Run

@[expose] public section

noncomputable section

namespace Cert.GdnGradRun

open Idealize.ShloMosaic Idealize.ShloMosaic.TcCoe Idealize.SL.Sem
open Idealize.ShloMosaic.StableHlo
open Cert.GdnGradRefIdeal Cert.GdnGradRefIdeal.Gen Cert.GdnGradRefIdeal.Value
open Cert.GdnScanRun (newV chunk chunkA chunkE start start_eq chunkSlice chunkSlice_apply chunkASlice chunkASlice_apply chunkESlice
  chunkESlice_apply write_apply)

/-- A slice of the states. -/
def chunkSSlice (X : S128x4x128x128.Idx → EReal) (n : ℕ) : FVec Ideal S4x128x128 .f32 :=
  shapeCast S4x128x128 (Host.dynamicSlice S1x4x128x128 X (start n) sliceFits_S128x4x128x128_S1x4x128x128) shapeCasts_S1x4x128x128_S4x128x128

/-- It is the chunk's state. -/
theorem chunkSSlice_apply (X : S128x4x128x128.Idx → EReal) (n : ℕ) (hn : n < 128) (h : Fin 4) (k v : Fin 128) :
    chunkSSlice X n (ix3 h k v) = chunkS X n (ix4 0 h k v) := by
  have e : (⟨n, hn⟩ : Fin 128) = ⟨n % 128, Nat.mod_lt _ (by decide)⟩ := Fin.ext (Nat.mod_eq_of_lt hn).symm
  unfold chunkSSlice
  rw [Host.dynamicSlice_eq_extractStridedSlice S1x4x128x128 X (start n) ![n, 0, 0, 0] _ ⟨rfl, by intro a; fin_cases a <;> simp <;> omega⟩ (start_eq n hn)]
  pointwise [chunkS, ← e]

variable (Q U W K O : S128x4x64x128.Idx → EReal) (A : S128x4x64x64.Idx → EReal) (E : S128x4x1x128.Idx → EReal)
  (S : S128x4x128x128.Idx → EReal)

/-- What the loop's buffers hold before trip `n`. -/
structure Holds (V : Valuation τ sig (Elt Ideal)) (n : ℕ) : Prop where
  q : V (Proc.devRef .tc main_v7_0) = Q
  u : V (Proc.devRef .tc main_v7_1) = U
  w : V (Proc.devRef .tc main_v7_2) = W
  a : V (Proc.devRef .tc main_v7_3) = A
  k : V (Proc.devRef .tc main_v7_4) = K
  e : V (Proc.devRef .tc main_v7_5) = E
  s : V (Proc.devRef .tc main_v7_6) = S
  o : V (Proc.devRef .tc main_v7_7) = O
  counter : V (Proc.devRef .tc main_v7_8) = fun _ => BitVec.ofNat 32 n
  state : V (Proc.devRef .tc main_v7_9) = derAt Q W K O A E n
  dQ : ∀ i : S128x4x64x128.Idx, 128 ≤ (i 0).val + n → (V (Proc.devRef .tc main_v7_10) : S128x4x64x128.Idx → EReal) i = allQ O S i
  dU : ∀ i : S128x4x64x128.Idx, 128 ≤ (i 0).val + n → (V (Proc.devRef .tc main_v7_11) : S128x4x64x128.Idx → EReal) i = allU Q W K O A E i
  dW : ∀ i : S128x4x64x128.Idx, 128 ≤ (i 0).val + n → (V (Proc.devRef .tc main_v7_12) : S128x4x64x128.Idx → EReal) i = allW Q W K O A E S i
  dA : ∀ i : S128x4x64x64.Idx, 128 ≤ (i 0).val + n → (V (Proc.devRef .tc main_v7_13) : S128x4x64x64.Idx → EReal) i = allA U W O S i
  dK : ∀ i : S128x4x64x128.Idx, 128 ≤ (i 0).val + n → (V (Proc.devRef .tc main_v7_14) : S128x4x64x128.Idx → EReal) i = allK Q U W K O A E S i
  dE : ∀ i : S128x4x1x128.Idx, 128 ≤ (i 0).val + n → (V (Proc.devRef .tc main_v7_15) : S128x4x1x128.Idx → EReal) i = allE Q W K O A E S i

variable {Q U W K O A E S} {V : Valuation τ sig (Elt Ideal)} {n : ℕ}

/-- The chunk of trip `n`. -/
theorem index_step (hV : Holds Q U W K O A E S V n) (hn : n < 128) : res_main_while0b_v9 V = fun _ => BitVec.ofNat 32 (127 - n) := by
  have key : ∀ n : Fin 128, 128#32 - BitVec.ofNat 32 n.val - 1#32 = BitVec.ofNat 32 (127 - n.val) := by decide +kernel
  unfold res_main_while0b_v9
  rw [hV.counter]
  exact funext fun _ => key ⟨n, hn⟩

/-- The state's derivative at trip `n` is that after the trip's chunk. -/
theorem der_step (hn : n < 128) : derAt Q W K O A E n = der Q W K O A E (127 - n) := by
  rw [der, show 127 - (127 - n) = n by omega]

theorem w_step (hV : Holds Q U W K O A E S V n) (hn : n < 128) : res_main_while0b_v12 V = chunkSlice W (127 - n) := by
  unfold res_main_while0b_v12
  rw [hV.w, index_step hV hn]
  rfl

theorem s_step (hV : Holds Q U W K O A E S V n) (hn : n < 128) : res_main_while0b_v16 V = chunkSSlice S (127 - n) := by
  unfold res_main_while0b_v16
  rw [hV.s, index_step hV hn]
  rfl

theorem o_step (hV : Holds Q U W K O A E S V n) (hn : n < 128) : res_main_while0b_v17 V = chunkSlice O (127 - n) := by
  unfold res_main_while0b_v17
  rw [hV.o, index_step hV hn]
  rfl

/-- The corrected values of trip `n`. -/
theorem newV_step (hV : Holds Q U W K O A E S V n) (hn : n < 128) (h : Fin 4) (c : Fin 64) (v : Fin 128) :
    (res_main_while0b_v19 V : FVec Ideal S4x64x128 .f32) (ix3 h c v)
      = newV (chunk U (127 - n)) (chunk W (127 - n)) (bare (chunkS S (127 - n))) h c v := by
  have hj : 127 - n < 128 := by omega
  unfold res_main_while0b_v19
  rw [hV.u, index_step hV hn, w_step hV hn, s_step hV hn]
  show subf (chunkSlice U (127 - n)) (Host.dotGeneral (F := Ideal) (φ₁ := .f32) (φ₂ := .f32) dot_S4x64x128_S4x128x128_S4x64x128_2_1_1_2_0_0 none
    (chunkSlice W (127 - n)) (chunkSSlice S (127 - n))) (ix3 h c v) = _
  pointwise [newV, bare, chunkSlice_apply _ _ hj, chunkSSlice_apply _ _ hj]

/-- Their derivative. -/
theorem dV_step (hV : Holds Q U W K O A E S V n) (hn : n < 128) (h : Fin 4) (c : Fin 64) (v : Fin 128) :
    (res_main_while0b_v22 V : FVec Ideal S4x64x128 .f32) (ix3 h c v)
      = dV (chunkA A (127 - n)) (chunk K (127 - n)) (chunk O (127 - n)) (derAt Q W K O A E n) h c v := by
  have hj : 127 - n < 128 := by omega
  unfold res_main_while0b_v22
  rw [hV.a, hV.k, hV.state, index_step hV hn, o_step hV hn]
  show addf (Host.dotGeneral (F := Ideal) (φ₁ := .f32) (φ₂ := .f32) dot_S4x64x64_S4x64x128_S4x64x128_1_1_2_2_0_0 none (chunkASlice A (127 - n))
      (chunkSlice O (127 - n)))
    (Host.dotGeneral (F := Ideal) (φ₁ := .f32) (φ₂ := .f32) dot_S4x64x128_S4x128x128_S4x64x128_2_1_1_2_0_0 none
      (chunkSlice K (127 - n)) (derAt Q W K O A E n)) (ix3 h c v) = _
  pointwise [dV, chunkSlice_apply _ _ hj, chunkASlice_apply _ _ hj]

/-- The state's derivative after trip `n`. -/
theorem state_step (hV : Holds Q U W K O A E S V n) (hn : n < 128) : step_main_v7_9 V = derAt Q W K O A E (n + 1) := by
  have hj : 127 - n < 128 := by omega
  unfold step_main_v7_9
  rw [hV.q, hV.e, hV.state, index_step hV hn, w_step hV hn, o_step hV hn]
  funext i
  show subf (addf (mulf (derAt Q W K O A E n) (broadcastInDim S4x128x128 ![0, 1, 2] bcast_S4x1x128_S4x128x128_0_1_2 (chunkESlice E (127 - n))))
      (Host.dotGeneral (F := Ideal) (φ₁ := .f32) (φ₂ := .f32) dot_S4x64x128_S4x64x128_S4x128x128_1_1_2_2_0_0 none (chunkSlice Q (127 - n))
        (chunkSlice O (127 - n))))
    (Host.dotGeneral (F := Ideal) (φ₁ := .f32) (φ₂ := .f32) dot_S4x64x128_S4x64x128_S4x128x128_1_1_2_2_0_0 none (chunkSlice W (127 - n))
      (res_main_while0b_v22 V)) i = before _ _ _ _ _ _ _ i
  pointwise [before, chunkSlice_apply _ _ hj, chunkESlice_apply _ _ hj, dV_step hV hn]

/-- What trip `n` writes for the queries. -/
def tripQ (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x64x128 .f32 :=
  broadcastInDim S1x4x64x128 ![1, 2, 3] bcast_S4x64x128_S1x4x64x128_1_2_3
    (Host.dotGeneral (F := Ideal) (φ₁ := .f32) (φ₂ := .f32) dot_S4x64x128_S4x128x128_S4x64x128_2_2_1_1_0_0 none (chunkSlice O (127 - n)) (chunkSSlice S (127 - n)))

theorem tripQ_apply (hV : Holds Q U W K O A E S V n) (hn : n < 128) (i : S1x4x64x128.Idx) : tripQ Q U W K O A E S n V i
    = dQ (chunk O (127 - n)) (chunkS S (127 - n)) i := by
  have hj : 127 - n < 128 := by omega
  unfold tripQ
  pointwise [dQ, chunkSlice_apply _ _ hj, chunkSSlice_apply _ _ hj]

theorem dQ_step (hV : Holds Q U W K O A E S V n) (hn : n < 128) (i : S128x4x64x128.Idx) (hi : 128 ≤ (i 0).val + (n + 1)) :
    (step_main_v7_10 V : S128x4x64x128.Idx → EReal) i = allQ O S i := by
  unfold step_main_v7_10
  rw [index_step hV hn, s_step hV hn, o_step hV hn]
  show Host.dynamicUpdateSlice (V (Proc.devRef .tc main_v7_10) : S128x4x64x128.Idx → EReal) (tripQ Q U W K O A E S n V) (start (127 - n))
    updateFits_S128x4x64x128_S1x4x64x128 i = _
  rw [write_apply _ _ (127 - n) (by omega)]
  split_ifs with h
  · rw [tripQ_apply hV hn, ← h]
    rfl
  · exact hV.dQ i (by omega)

/-- What trip `n` writes for the values. -/
def tripU (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x64x128 .f32 :=
  broadcastInDim S1x4x64x128 ![1, 2, 3] bcast_S4x64x128_S1x4x64x128_1_2_3
    (res_main_while0b_v22 V)

theorem tripU_apply (hV : Holds Q U W K O A E S V n) (hn : n < 128) (i : S1x4x64x128.Idx) : tripU Q U W K O A E S n V i
    = dU (chunkA A (127 - n)) (chunk K (127 - n)) (chunk O (127 - n)) (derAt Q W K O A E n) i := by
  have hj : 127 - n < 128 := by omega
  unfold tripU
  pointwise [dU, dV_step hV hn]

theorem dU_step (hV : Holds Q U W K O A E S V n) (hn : n < 128) (i : S128x4x64x128.Idx) (hi : 128 ≤ (i 0).val + (n + 1)) :
    (step_main_v7_11 V : S128x4x64x128.Idx → EReal) i = allU Q W K O A E i := by
  unfold step_main_v7_11
  rw [index_step hV hn]
  show Host.dynamicUpdateSlice (V (Proc.devRef .tc main_v7_11) : S128x4x64x128.Idx → EReal) (tripU Q U W K O A E S n V) (start (127 - n))
    updateFits_S128x4x64x128_S1x4x64x128 i = _
  rw [write_apply _ _ (127 - n) (by omega)]
  split_ifs with h
  · rw [tripU_apply hV hn, der_step hn, ← h]
    rfl
  · exact hV.dU i (by omega)

/-- What trip `n` writes for the corrections. -/
def tripW (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x64x128 .f32 :=
  broadcastInDim S1x4x64x128 ![1, 2, 3] bcast_S4x64x128_S1x4x64x128_1_2_3
    (Host.negf (Host.dotGeneral (F := Ideal) (φ₁ := .f32) (φ₂ := .f32) dot_S4x64x128_S4x128x128_S4x64x128_2_2_1_1_0_0 none (res_main_while0b_v22 V) (chunkSSlice S (127 - n))))

theorem tripW_apply (hV : Holds Q U W K O A E S V n) (hn : n < 128) (i : S1x4x64x128.Idx) : tripW Q U W K O A E S n V i
    = dW (chunkA A (127 - n)) (chunk K (127 - n)) (chunk O (127 - n)) (chunkS S (127 - n)) (derAt Q W K O A E n) i := by
  have hj : 127 - n < 128 := by omega
  unfold tripW
  pointwise [dW, dV_step hV hn, chunkSSlice_apply _ _ hj]

theorem dW_step (hV : Holds Q U W K O A E S V n) (hn : n < 128) (i : S128x4x64x128.Idx) (hi : 128 ≤ (i 0).val + (n + 1)) :
    (step_main_v7_12 V : S128x4x64x128.Idx → EReal) i = allW Q W K O A E S i := by
  unfold step_main_v7_12
  rw [index_step hV hn, s_step hV hn]
  show Host.dynamicUpdateSlice (V (Proc.devRef .tc main_v7_12) : S128x4x64x128.Idx → EReal) (tripW Q U W K O A E S n V) (start (127 - n))
    updateFits_S128x4x64x128_S1x4x64x128 i = _
  rw [write_apply _ _ (127 - n) (by omega)]
  split_ifs with h
  · rw [tripW_apply hV hn, der_step hn, ← h]
    rfl
  · exact hV.dW i (by omega)

/-- What trip `n` writes for the weights within the chunk. -/
def tripA (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x64x64 .f32 :=
  broadcastInDim S1x4x64x64 ![1, 2, 3] bcast_S4x64x64_S1x4x64x64_1_2_3
    (Host.dotGeneral (F := Ideal) (φ₁ := .f32) (φ₂ := .f32) dot_S4x64x128_S4x64x128_S4x64x64_2_2_1_1_0_0 none (chunkSlice O (127 - n)) (res_main_while0b_v19 V))

theorem tripA_apply (hV : Holds Q U W K O A E S V n) (hn : n < 128) (i : S1x4x64x64.Idx) : tripA Q U W K O A E S n V i
    = dA (chunk U (127 - n)) (chunk W (127 - n)) (chunk O (127 - n)) (chunkS S (127 - n)) i := by
  have hj : 127 - n < 128 := by omega
  unfold tripA
  pointwise [dA, newV_step hV hn, chunkSlice_apply _ _ hj]

theorem dA_step (hV : Holds Q U W K O A E S V n) (hn : n < 128) (i : S128x4x64x64.Idx) (hi : 128 ≤ (i 0).val + (n + 1)) :
    (step_main_v7_13 V : S128x4x64x64.Idx → EReal) i = allA U W O S i := by
  unfold step_main_v7_13
  rw [index_step hV hn, o_step hV hn]
  show Host.dynamicUpdateSlice (V (Proc.devRef .tc main_v7_13) : S128x4x64x64.Idx → EReal) (tripA Q U W K O A E S n V) (start (127 - n))
    updateFits_S128x4x64x64_S1x4x64x64 i = _
  rw [write_apply _ _ (127 - n) (by omega)]
  split_ifs with h
  · rw [tripA_apply hV hn, ← h]
    rfl
  · exact hV.dA i (by omega)

/-- What trip `n` writes for the keys. -/
def tripK (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x64x128 .f32 :=
  broadcastInDim S1x4x64x128 ![1, 2, 3] bcast_S4x64x128_S1x4x64x128_1_2_3
    (Host.dotGeneral (F := Ideal) (φ₁ := .f32) (φ₂ := .f32) dot_S4x64x128_S4x128x128_S4x64x128_2_2_1_1_0_0 none (res_main_while0b_v19 V) (derAt Q W K O A E n))

theorem tripK_apply (hV : Holds Q U W K O A E S V n) (hn : n < 128) (i : S1x4x64x128.Idx) : tripK Q U W K O A E S n V i
    = dK (chunk U (127 - n)) (chunk W (127 - n)) (chunkS S (127 - n)) (derAt Q W K O A E n) i := by
  have hj : 127 - n < 128 := by omega
  unfold tripK
  pointwise [dK, newV_step hV hn]

theorem dK_step (hV : Holds Q U W K O A E S V n) (hn : n < 128) (i : S128x4x64x128.Idx) (hi : 128 ≤ (i 0).val + (n + 1)) :
    (step_main_v7_14 V : S128x4x64x128.Idx → EReal) i = allK Q U W K O A E S i := by
  unfold step_main_v7_14
  rw [index_step hV hn, hV.state]
  show Host.dynamicUpdateSlice (V (Proc.devRef .tc main_v7_14) : S128x4x64x128.Idx → EReal) (tripK Q U W K O A E S n V) (start (127 - n))
    updateFits_S128x4x64x128_S1x4x64x128 i = _
  rw [write_apply _ _ (127 - n) (by omega)]
  split_ifs with h
  · rw [tripK_apply hV hn, der_step hn, ← h]
    rfl
  · exact hV.dK i (by omega)

/-- What trip `n` writes for the decay. -/
def tripE (Q U W K O : S128x4x64x128.Idx → EReal) (A : S128x4x64x64.Idx → EReal) (E : S128x4x1x128.Idx → EReal)
    (S : S128x4x128x128.Idx → EReal) (n : ℕ) (V : Valuation τ sig (Elt Ideal)) : FVec Ideal S1x4x1x128 .f32 :=
  broadcastInDim S1x4x1x128 ![1, 2, 3] bcast_S4x1x128_S1x4x1x128_1_2_3
    (broadcastInDim S4x1x128 ![0, 2] bcast_S4x128_S4x1x128_0_2 (Host.reduceAdd (F := Ideal) (mulf (derAt Q W K O A E n) (chunkSSlice S (127 - n))) (constant (F := Ideal) S_ .f32 0x00000000#32) reducesTo_S4x128x128_S4x128_d1 h_S_))

theorem tripE_apply (hV : Holds Q U W K O A E S V n) (hn : n < 128) (i : S1x4x1x128.Idx) : tripE Q U W K O A E S n V i
    = dE (chunkS S (127 - n)) (derAt Q W K O A E n) i := by
  have hj : 127 - n < 128 := by omega
  unfold tripE
  pointwise [dE, chunkSSlice_apply _ _ hj, Ideal.ofBits_zero_f32, zero_add]

theorem dE_step (hV : Holds Q U W K O A E S V n) (hn : n < 128) (i : S128x4x1x128.Idx) (hi : 128 ≤ (i 0).val + (n + 1)) :
    (step_main_v7_15 V : S128x4x1x128.Idx → EReal) i = allE Q W K O A E S i := by
  unfold step_main_v7_15
  rw [index_step hV hn, hV.state, s_step hV hn]
  show Host.dynamicUpdateSlice (V (Proc.devRef .tc main_v7_15) : S128x4x1x128.Idx → EReal) (tripE Q U W K O A E S n V) (start (127 - n))
    updateFits_S128x4x1x128_S1x4x1x128 i = _
  rw [write_apply _ _ (127 - n) (by omega)]
  split_ifs with h
  · rw [tripE_apply hV hn, der_step hn, ← h]
    rfl
  · exact hV.dE i (by omega)

/-- One trip. -/
theorem holds_step (hV : Holds Q U W K O A E S V n) (hn : n < 128) : Holds Q U W K O A E S (STEP V) (n + 1) where
  q := (STEP_main_v7_0 V).trans hV.q
  u := (STEP_main_v7_1 V).trans hV.u
  w := (STEP_main_v7_2 V).trans hV.w
  a := (STEP_main_v7_3 V).trans hV.a
  k := (STEP_main_v7_4 V).trans hV.k
  e := (STEP_main_v7_5 V).trans hV.e
  s := (STEP_main_v7_6 V).trans hV.s
  o := (STEP_main_v7_7 V).trans hV.o
  counter := by
    rw [STEP_main_v7_8]
    unfold step_main_v7_8
    rw [hV.counter]
    funext i
    show BitVec.ofNat 32 n + 1#32 = BitVec.ofNat 32 (n + 1)
    rw [BitVec.ofNat_add]
  state := (STEP_main_v7_9 V).trans (state_step hV hn)
  dQ i hi := (congrFun (STEP_main_v7_10 V) i).trans (dQ_step hV hn i hi)
  dU i hi := (congrFun (STEP_main_v7_11 V) i).trans (dU_step hV hn i hi)
  dW i hi := (congrFun (STEP_main_v7_12 V) i).trans (dW_step hV hn i hi)
  dA i hi := (congrFun (STEP_main_v7_13 V) i).trans (dA_step hV hn i hi)
  dK i hi := (congrFun (STEP_main_v7_14 V) i).trans (dK_step hV hn i hi)
  dE i hi := (congrFun (STEP_main_v7_15 V) i).trans (dE_step hV hn i hi)

/-- All trips. -/
theorem holds_trips (hV : Holds Q U W K O A E S V 0) : ∀ n ≤ 128, Holds Q U W K O A E S (STEP^[n] V) n
  | 0, _ => hV
  | n + 1, h => by
    rw [Function.iterate_succ_apply']
    exact holds_step (holds_trips hV n (by omega)) (by omega)

variable (m : (ℓ : Loc nD τ sig) → Buf (Elt Ideal) ℓ)

/-- Before the first trip. -/
theorem holds_entry (c : Dev nD) : Holds (m ((c : Thread nD τ).loc main_arg0)) (m ((c : Thread nD τ).loc main_arg1)) (m ((c : Thread nD τ).loc main_arg2))
    (m ((c : Thread nD τ).loc main_arg4)) (m ((c : Thread nD τ).loc main_arg7)) (m ((c : Thread nD τ).loc main_arg3)) (m ((c : Thread nD τ).loc main_arg5)) (m ((c : Thread nD τ).loc main_arg6)) (entryContents preI m c) 0 where
  q := by
    simp only [entryContents, afterL_cons, afterL_nil]
    after_reads_simp
    rfl
  u := by
    simp only [entryContents, afterL_cons, afterL_nil]
    after_reads_simp
    rfl
  w := by
    simp only [entryContents, afterL_cons, afterL_nil]
    after_reads_simp
    rfl
  a := by
    simp only [entryContents, afterL_cons, afterL_nil]
    after_reads_simp
    rfl
  k := by
    simp only [entryContents, afterL_cons, afterL_nil]
    after_reads_simp
    rfl
  e := by
    simp only [entryContents, afterL_cons, afterL_nil]
    after_reads_simp
    rfl
  s := by
    simp only [entryContents, afterL_cons, afterL_nil]
    after_reads_simp
    rfl
  o := by
    simp only [entryContents, afterL_cons, afterL_nil]
    after_reads_simp
    rfl
  counter := ctr_entry m c
  state := by
    simp only [entryContents, afterL_cons, afterL_nil]
    after_reads_simp
    funext i
    exact Ideal.ofBits_zero_f32
  dQ i hi := absurd hi (by have := (i 0).isLt; simp at this; omega)
  dU i hi := absurd hi (by have := (i 0).isLt; simp at this; omega)
  dW i hi := absurd hi (by have := (i 0).isLt; simp at this; omega)
  dA i hi := absurd hi (by have := (i 0).isLt; simp at this; omega)
  dK i hi := absurd hi (by have := (i 0).isLt; simp at this; omega)
  dE i hi := absurd hi (by have := (i 0).isLt; simp at this; omega)

/-- After the last trip. -/
theorem holds_end (c : Dev nD) : Holds (m ((c : Thread nD τ).loc main_arg0)) (m ((c : Thread nD τ).loc main_arg1)) (m ((c : Thread nD τ).loc main_arg2))
    (m ((c : Thread nD τ).loc main_arg4)) (m ((c : Thread nD τ).loc main_arg7)) (m ((c : Thread nD τ).loc main_arg3)) (m ((c : Thread nD τ).loc main_arg5)) (m ((c : Thread nD τ).loc main_arg6)) (STEP^[128] (entryContents preI m c)) 128 :=
  holds_trips (holds_entry m c) 128 le_rfl

end Cert.GdnGradRun
-- ==== Proof.GdnGradClaims.lean ====
/-
# The recurrence's derivative: the claims

The kernel is one pipeline over the chunks, the reference a loop over them, both from the last to the first; both leave the
derivatives of the six arguments.
-/
module

public import proofs.«01_k».proof.Defs
public import proofs.«01_k».proof.Proof.GdnGradValue
public import proofs.«01_k».proof.Proof.GdnGradRefValue
public import proofs.«01_k».proof.Proof.Gen.GdnGrad.Frame
public import proofs.«01_k».proof.Proof.Gen.GdnGradRef.Run
public import Idealize.ShloMosaic.Lib.Quiescent

@[expose] public section

noncomputable section

namespace Cert.GdnGradRun

open Idealize.ShloMosaic Idealize.ShloMosaic.TcCoe Idealize.SL.Sem
open Cert.GdnGrad.Gen Cert.GdnGradIdeal.Gen Cert.GdnGradRef.Gen Cert.GdnGradRefIdeal.Gen

theorem frame_kernel : Cert.quiescent_GdnGrad := fun m ρ _ => Cert.GdnGrad.Gen.frame m ρ
theorem frame_kernel_ideal : Cert.quiescent_GdnGradIdeal := fun m ρ _ => Cert.GdnGradIdeal.Gen.frame m ρ
theorem frame_ref : Cert.quiescent_GdnGradRef := fun m ρ _ =>
  (θ_run Cert.GdnGradRef.defs _ _).mono (fun r h => ⟨fun c => (h c).2.2.2.2.2.2, sem_eq_zero_of_no_sems (by decide) r.2⟩)
    (Cert.GdnGradRef.Value.run (F := Bits) m ρ)
theorem frame_ref_ideal : Cert.quiescent_GdnGradRefIdeal := fun m ρ _ =>
  (θ_run Cert.GdnGradRefIdeal.defs _ _).mono (fun r h => ⟨fun c => (h c).2.2.2.2.2.2, sem_eq_zero_of_no_sems (by decide) r.2⟩)
    (Cert.GdnGradRefIdeal.Value.run (F := Ideal) m ρ)

/-- Over the extended reals: the derivatives are the reference's. -/
theorem algebraic : Cert.algebraic_GdnGradIdeal_GdnGradRefIdeal := fun m ρ m' ρ' _ hm =>
  ⟨_, _, _, _, _, _, Cert.GdnGradIdeal.Value.run_blocks (F := Ideal) m ρ,
    (θ_run Cert.GdnGradRefIdeal.defs _ _).mono (fun r h c => by
      obtain ⟨h1, h2, h3, h4, h5, h6, h7⟩ := h c
      obtain ⟨e0, e1, e2, e3, e4, e5, e6, e7⟩ := hm c
      have H := holds_end m' c
      rw [e0, e1, e2, e3, e4, e5, e6, e7] at H
      have last (j : Fin 128) : 128 ≤ j.val + 128 := Nat.le_add_left _ _
      refine ⟨h1.trans ?_, h2.trans ?_, h3.trans ?_, h4.trans ?_, h5.trans ?_, h6.trans ?_, h7⟩
      · exact (funext fun i => H.dQ i (last (i 0))).trans (value8 m c).symm
      · exact (funext fun i => H.dU i (last (i 0))).trans (value9 m c).symm
      · exact (funext fun i => H.dW i (last (i 0))).trans (value10 m c).symm
      · exact (funext fun i => H.dA i (last (i 0))).trans (value11 m c).symm
      · exact (funext fun i => H.dK i (last (i 0))).trans (value12 m c).symm
      · exact (funext fun i => H.dE i (last (i 0))).trans (value13 m c).symm)
      (Cert.GdnGradRefIdeal.Value.run (F := Ideal) m' ρ')⟩

end Cert.GdnGradRun
-- ==== Proof.StickMath.lean ====
/-
# The stick-breaking attention: one row

A query's keys by their number: what each leaves, its weight, and how a tile's part of the row's sum from its end joins the
rest. A tile's sum is taken in two parts, a number and what is left of it after rounding; over the extended reals the second is
a number less itself, which adds nothing unless the number is positive infinity, and `keep` never is.
-/
module

public import Idealize.ShloMosaic.Lib.IdealHost
public import Idealize.ShloMosaic.Lib.Pointwise
public import Idealize.ShloMosaic.Lib.WordCmp

@[expose] public section

noncomputable section

namespace Cert.StickRun

open Idealize.ShloMosaic

/-- Comparing two small numbers' words. -/
theorem slt_ofNat (a b : ℕ) (ha : a < 2 ^ 31) (hb : b < 2 ^ 31) :
    IntOp.cmpi .slt (BitVec.ofNat 32 a) (BitVec.ofNat 32 b) = if a < b then 1#1 else 0#1 := by
  rw [WordCmp.cmpi_slt_eq, WordCmp.toInt_ofNat_of_lt ha, WordCmp.toInt_ofNat_of_lt hb]
  by_cases h : a < b <;> simp [h]

theorem sge_ofNat (a b : ℕ) (ha : a < 2 ^ 31) (hb : b < 2 ^ 31) :
    IntOp.cmpi .sge (BitVec.ofNat 32 a) (BitVec.ofNat 32 b) = if b ≤ a then 1#1 else 0#1 := by
  rw [WordCmp.cmpi_sge_eq, WordCmp.toInt_ofNat_of_lt hb, WordCmp.toInt_ofNat_of_lt ha]
  by_cases h : b ≤ a <;> simp [h]

/-- The score's factor, one over the square root of the head's width. -/
abbrev scale : EReal := FloatOps.ofBits (F := Ideal) .f32 0x3DB504F3#32

/-- The logarithm of what a key leaves to the keys before it: minus the softplus of its score. -/
def keep (z : EReal) : EReal := 0 - (max z 0 + Ideal.log (1 + Ideal.exp (0 - max z (-z))))

/-- `keep` of each key before the query, nothing of the others. -/
def lk (Z : ℕ → EReal) (a x : ℕ) : EReal := if x < a then keep (Z x) else 0

/-- The weight of key `x` for query `a`. -/
def wt (Z : ℕ → EReal) (a x : ℕ) : EReal :=
  if x < a then Ideal.exp (Z x + ∑ j ∈ Finset.Ico x 8192, lk Z a j) else 0

/-- It is never positive infinity, for it is at most zero. -/
theorem keep_ne_top (z : EReal) : keep z ≠ ⊤ := by
  have he : ∀ w : EReal, 0 ≤ Ideal.exp w := by
    intro w
    induction w with
    | bot => exact le_refl _
    | top => exact le_top
    | coe r => rw [Ideal.exp_coe]; exact_mod_cast Real.exp_nonneg r
  have hl : ∀ w : EReal, 0 ≤ w → 0 ≤ Ideal.log (1 + w) := by
    intro w hw
    induction w with
    | bot => simp at hw
    | top => exact le_top
    | coe r =>
      have hr : (0 : ℝ) ≤ r := by exact_mod_cast hw
      rw [show (1 + (r : EReal)) = ((1 + r : ℝ) : EReal) by push_cast; rfl, Ideal.log_coe]
      have : ¬ (1 + r ≤ 0) := by linarith
      have h2 := Real.log_nonneg (show (1 : ℝ) ≤ 1 + r by linarith)
      rw [if_neg this]
      exact_mod_cast h2
  have h : 0 ≤ max z 0 + Ideal.log (1 + Ideal.exp (0 - max z (-z))) :=
    add_nonneg (le_max_right _ _) (hl _ (he _))
  unfold keep
  intro hk
  rw [zero_sub, EReal.neg_eq_top_iff] at hk
  rw [hk] at h
  simp at h

/-- A number and what is left of it, times zero or one. -/
theorem split_one (x : EReal) (hx : x ≠ ⊤) (c : EReal) (hc : c = 0 ∨ c = 1) : x * c + (x - x) * c = x * c := by
  rcases hc with rfl | rfl
  · simp
  · induction x with
    | bot => simp
    | top => exact absurd rfl hx
    | coe r => rw [← EReal.coe_sub]; simp

/-- A tile's keys, by their number in the row. -/
theorem sum_tile (f : ℕ → EReal) (J : ℕ) :
    ∑ l : Fin 256, f (J * 256 + l.val) = ∑ x ∈ Finset.Ico (J * 256) ((J + 1) * 256), f x := by
  rw [Fin.sum_univ_eq_sum_range (fun l => f (J * 256 + l)), Finset.sum_Ico_eq_sum_range,
    show (J + 1) * 256 - J * 256 = 256 by omega]

/-- A tile's sum from key `b` on, taken in two parts. -/
theorem split_tile (f : ℕ → EReal) (J b : ℕ) (hb : b < 256) (hf : ∀ x, f x ≠ ⊤) :
    (∑ l : Fin 256, f (J * 256 + l.val) * (if b ≤ l.val then 1 else 0))
      + (∑ l : Fin 256, (f (J * 256 + l.val) - f (J * 256 + l.val)) * (if b ≤ l.val then 1 else 0))
      = ∑ x ∈ Finset.Ico (J * 256 + b) ((J + 1) * 256), f x := by
  rw [← Finset.sum_add_distrib, Finset.sum_congr rfl fun l _ => split_one _ (hf _) _ (by split_ifs <;> simp)]
  rw [Finset.sum_congr rfl fun (l : Fin 256) _ =>
    show f (J * 256 + l.val) * (if b ≤ l.val then 1 else 0)
      = (fun x => if J * 256 + b ≤ x then f x else 0) (J * 256 + l.val) by
      by_cases h : b ≤ l.val <;> simp [h]]
  rw [sum_tile (fun x => if J * 256 + b ≤ x then f x else 0), ← Finset.sum_filter]
  refine Finset.sum_congr (Finset.ext fun x => ?_) fun _ _ => rfl
  simp only [Finset.mem_filter, Finset.mem_Ico]
  omega

theorem lk_ne_top (Z : ℕ → EReal) (a x : ℕ) : lk Z a x ≠ ⊤ := by
  unfold lk; split_ifs
  · exact keep_ne_top _
  · simp

/-- The exponent of a key: its score, the `lk` of its own tile from it on, and that of the tiles after. -/
theorem expo_tile (Z : ℕ → EReal) (a J b : ℕ) (hb : b < 256) (hJ : J < 32) (later : EReal)
    (h : later = ∑ x ∈ Finset.Ico ((J + 1) * 256) 8192, lk Z a x) :
    Z (J * 256 + b)
      + ((∑ l : Fin 256, lk Z a (J * 256 + l.val) * (if b ≤ l.val then 1 else 0))
        + (∑ l : Fin 256, (lk Z a (J * 256 + l.val) - lk Z a (J * 256 + l.val)) * (if b ≤ l.val then 1 else 0)))
      + later = Z (J * 256 + b) + ∑ x ∈ Finset.Ico (J * 256 + b) 8192, lk Z a x := by
  rw [split_tile _ J b hb (lk_ne_top Z a), h, add_assoc,
    Finset.sum_Ico_consecutive _ (by omega) (by omega)]

/-- Past the query nothing is left and nothing weighs. -/
theorem lk_after (Z : ℕ → EReal) (a n : ℕ) (hn : a ≤ n) : ∑ x ∈ Finset.Ico n 8192, lk Z a x = 0 :=
  Finset.sum_eq_zero fun x hx => if_neg (by have := (Finset.mem_Ico.1 hx).1; omega)

theorem wt_after (Z V : ℕ → EReal) (a n : ℕ) (hn : a ≤ n) : ∑ x ∈ Finset.Ico n 8192, wt Z a x * V x = 0 :=
  Finset.sum_eq_zero fun x hx => by
    rw [show wt Z a x = 0 from if_neg (by have := (Finset.mem_Ico.1 hx).1; omega), zero_mul]

/-- The scores of query `a` in head `h`, by the key's number. -/
def score (Q K : (⟨2, ![8192, 512]⟩ : Shape).Idx → EReal) (h : Fin 4) (a : Fin 8192) (x : ℕ) : EReal :=
  (∑ d : Fin 128, Q (ix2 a ⟨h.val * 128 + d.val, by have := h.isLt; have := d.isLt; omega⟩)
    * (if hx : x < 8192 then K (ix2 ⟨x, hx⟩ ⟨h.val * 128 + d.val, by have := h.isLt; have := d.isLt; omega⟩) else 0)) * scale

/-- The outputs: each query's weighted sum of the values. -/
def outs (Q K V : (⟨2, ![8192, 512]⟩ : Shape).Idx → EReal) : (⟨2, ![8192, 512]⟩ : Shape).Idx → EReal := fun i =>
  ∑ x ∈ Finset.range 8192, wt (score Q K ⟨(i 1).val / 128, by have : (i 1).val < 512 := (i 1).isLt; omega⟩ (i 0)) (i 0).val x
    * (if hx : x < 8192 then V (ix2 ⟨x, hx⟩ (i 1)) else 0)

/-- The totals: what each query's keys leave altogether. -/
def tots (Q K : (⟨2, ![8192, 512]⟩ : Shape).Idx → EReal) : (⟨3, ![4, 8192, 1]⟩ : Shape).Idx → EReal := fun i =>
  ∑ x ∈ Finset.range 8192, lk (score Q K (i 0) (i 1)) (i 1).val x

end Cert.StickRun
-- ==== Proof.StickValue.lean ====
/-
# The stick-breaking attention: the kernel

A point of the grid is one head's tile of 256 queries. It starts from the tile of keys on the diagonal and walks back to the
first. After `n` trips its carried values are the row's sum of `keep`, and its weighted sum of the values, over the keys from
tile `i - n` on.
-/
module

public import proofs.«01_k».proof.Proof.StickMath
public import proofs.«01_k».proof.Proof.Gen.StickIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

noncomputable section

namespace Cert.StickRun

open Idealize.ShloMosaic Idealize.ShloMosaic.TcCoe Idealize.SL.Sem
open Cert.StickIdeal Cert.StickIdeal.Gen

/-- The body's operations, element by element. -/
theorem pay3 (x y : Vec Ideal S256x128 .bf16) (j : S256x256.Idx) :
    k0_pay3 (F := Ideal) x y j = (∑ d : Fin 128, x (ix2 (j 0) d) * y (ix2 (j 1) d)) * scale := by
  pointwise [k0_pay3]

theorem pay4 (x y : Vec Ideal S256x128 .bf16) (j : S256x256.Idx) :
    k0_pay4 (F := Ideal) x y j = keep (k0_pay3 (F := Ideal) x y j) := by
  pointwise [k0_pay4, keep, Ideal.absf_def]

theorem pay13 (j : S256x256.Idx) : k0_pay13 (F := Ideal) j = if (j 1).val ≤ (j 0).val then 1 else 0 := by
  have e0 : (j 0).val < 256 := (j 0).isLt
  have e1 : (j 1).val < 256 := (j 1).isLt
  pointwise [k0_pay13]
  rw [sge_ofNat _ _ (by omega) (by omega)]
  by_cases h : (j 1).val ≤ (j 0).val
  · rw [if_pos h, if_pos h]; show (((1#32 : BitVec 32).toInt : ℝ) : EReal) = 1; simp
  · rw [if_neg h, if_neg h]; show (((0#32 : BitVec 32).toInt : ℝ) : EReal) = 0; simp

theorem pay12 (j : S256x256.Idx) : k0_pay12 j = if (j 1).val < (j 0).val then 1#1 else 0#1 := by
  have e0 : (j 0).val < 256 := (j 0).isLt
  have e1 : (j 1).val < 256 := (j 1).isLt
  pointwise [k0_pay12]
  exact slt_ofNat _ _ (by omega) (by omega)

theorem pay17 (x y : Vec Ideal S256x128 .bf16) (j : S256x256.Idx) :
    k0_pay17 (F := Ideal) x y j = if k0_pay12 j = 1#1 then keep (k0_pay3 (F := Ideal) x y j) else 0 := by
  pointwise [k0_pay17, k0_pay16, k0_pay3, keep, Ideal.absf_def]
  rfl

theorem pay18 (x y : Vec Ideal S256x128 .bf16) (j : S256x256.Idx) :
    k0_pay18 (F := Ideal) x y j = k0_pay3 (F := Ideal) x y j
      + ((∑ l : Fin 256, k0_pay17 (F := Ideal) x y (ix2 (j 0) l) * k0_pay13 (F := Ideal) (ix2 l (j 1)))
       + (∑ l : Fin 256, (k0_pay17 (F := Ideal) x y (ix2 (j 0) l) - k0_pay17 (F := Ideal) x y (ix2 (j 0) l)) * k0_pay13 (F := Ideal) (ix2 l (j 1)))) + 0 := by
  pointwise [k0_pay18, k0_pay16, k0_pay3, k0_pay14]

theorem pay6 (x y : Vec Ideal S256x128 .bf16) (l : Vec Ideal S256x1 .f32) (j : S256x1.Idx) :
    k0_pay6 (F := Ideal) x l y j = l j + ∑ b : Fin 256, k0_pay4 (F := Ideal) x y (ix2 (j 0) b) := by
  pointwise [k0_pay6]

theorem pay2 (l : Vec Ideal S256x1 .f32) (w : Vec Ideal S256x256 .f32) (j : S256x1.Idx) :
    k0_pay2 (F := Ideal) l w j = l j + ∑ b : Fin 256, w (ix2 (j 0) b) := by
  pointwise [k0_pay2]

theorem pay5 (x y : Vec Ideal S256x128 .bf16) (tri : Vec Ideal S256x256 .bf16) (l : Vec Ideal S256x1 .f32) (a : Vec Ideal S256x128 .f32) (v : Vec Ideal S256x128 .bf16) (j : S256x128.Idx) :
    k0_pay5 (F := Ideal) x tri l a y v j = a j + ∑ b : Fin 256, Ideal.exp (k0_pay3 (F := Ideal) x y (ix2 (j 0) b)
      + ((∑ c : Fin 256, k0_pay4 (F := Ideal) x y (ix2 (j 0) c) * tri (ix2 c b))
       + (∑ c : Fin 256, (k0_pay4 (F := Ideal) x y (ix2 (j 0) c) - k0_pay4 (F := Ideal) x y (ix2 (j 0) c)) * tri (ix2 c b))) + l (ix2 (j 0) 0)) * v (ix2 b (j 1)) := by
  pointwise [k0_pay5]

theorem pay1 (msk : IVec S256x256 1) (a : Vec Ideal S256x128 .f32) (e : Vec Ideal S256x256 .f32) (v : Vec Ideal S256x128 .bf16) (j : S256x128.Idx) :
    k0_pay1 (F := Ideal) msk a e v j = a j + ∑ b : Fin 256, (if msk (ix2 (j 0) b) = 1#1 then Ideal.exp (e (ix2 (j 0) b)) else 0) * v (ix2 b (j 1)) := by
  pointwise [k0_pay1]
  refine congrArg _ (Finset.sum_congr rfl fun b _ => ?_)
  by_cases h : msk (ix2 (j 0) b) = 1#1
  · rw [if_pos h, h]; rfl
  · rw [if_neg h, zero_mul]; exact if_neg h

theorem pay14 (j : S256x1.Idx) : k0_pay14 (F := Ideal) j = 0 := Ideal.ofBits_zero_f32
theorem pay15 (j : S256x128.Idx) : k0_pay15 (F := Ideal) j = 0 := Ideal.ofBits_zero_f32

/-- How often the loop runs, and where its tiles lie. -/
theorem trips1 (i : grid0.Coords) : (k0_t1_loop i).trips = (i 1).val := by revert i; decide +kernel
theorem off2 : ∀ (i : grid0.Coords) (k : Fin (k0_t1_loop i).trips), k0_off2 i k = ![256 * ((i 1).val - 1 - k.val), 0] := by decide +kernel

/-- Column `d` of the keys or the values, by the row's number. -/
def col (K : Vec Ideal S8192x128 .bf16) (d : Fin 128) (x : ℕ) : EReal := if h : x < 8192 then K (ix2 ⟨x, h⟩ d) else 0

/-- The scores of query `r` of a tile, by the key's number. -/
def row (X : Vec Ideal S256x128 .bf16) (K : Vec Ideal S8192x128 .bf16) (r : Fin 256) (x : ℕ) : EReal :=
  (∑ d : Fin 128, X (ix2 r d) * col K d x) * scale

theorem pay11 (l : Vec Ideal S256x1 .f32) (r : Fin 256) : k0_pay11 (F := Ideal) l (ix3 0 r 0) = l (ix2 r 0) := by
  pointwise [k0_pay11]

/-- The tile of keys from row `o` on. -/
theorem ld_row (K : Vec Ideal S8192x128 .bf16) (off : Fin 2 → ℕ) (J : ℕ) (ho : off = ![256 * J, 0]) (h : ∀ a, off a + S256x128.size a ≤ S8192x128.size a)
    (b : Fin 256) (d : Fin 128) :
    View.ld K (Rect.unit off S256x128.size h) (ix2 b d) = col K d (J * 256 + b.val) := by
  subst ho
  have hb : J * 256 + b.val < 8192 := by have := h 0; simp at this; have := b.isLt; omega
  unfold col
  rw [dif_pos hb]
  show K _ = K _
  congr 1
  funext a
  fin_cases a
  · exact Fin.ext (by simp [Rect.unit]; omega)
  · exact Fin.ext (by simp [Rect.unit])

/-- One trip. -/
theorem trip (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .f32) (harg5 : arg5.IsWhole) (arg6 : Memref sig .tc .vmem S1x256x1 .f32) (harg6 : arg6.IsWhole) (X : Vec Ideal S256x128 .bf16) (tri : FVec Ideal S256x256 .bf16) (K V : Vec Ideal S8192x128 .bf16) (k : Fin (k0_t1_loop i).trips) (acc : FVec Ideal S256x1 .f32 × FVec Ideal S256x128 .f32) :
    tripR_k0_t1 (F := Ideal) 𝒱 c bd i arg2 harg2 arg3 harg3 arg4 harg4 arg5 harg5 arg6 harg6 X tri (harg3.unread K) (harg4.unread V) k acc
      = (k0_pay6 X acc.1 (View.ld K (Rect.unit (k0_off2 i k) S256x128.size (k0_off2_inb i k))),
         k0_pay5 X tri acc.1 acc.2 (View.ld K (Rect.unit (k0_off2 i k) S256x128.size (k0_off2_inb i k))) (View.ld V (Rect.unit (k0_off2 i k) S256x128.size (k0_off2_inb i k)))) := by
  unfold tripR_k0_t1 trip_k0_t1
  dsimp only
  rw [View.readAt_eq_ld, View.readAt_eq_ld, harg3.read_unread, harg4.read_unread]

/-- What the loop starts from: the tile on the diagonal. -/
abbrev start (i : grid0.Coords) (X : Vec Ideal S256x128 .bf16) (K V : Vec Ideal S8192x128 .bf16) : FVec Ideal S256x1 .f32 × FVec Ideal S256x128 .f32 :=
  (k0_pay2 k0_pay14 (k0_pay17 X (View.ld K (Rect.unit (k0_off1 i) S256x128.size (k0_off1_inb i)))),
    k0_pay1 k0_pay12 k0_pay15 (k0_pay18 X (View.ld K (Rect.unit (k0_off1 i) S256x128.size (k0_off1_inb i))))
      (View.ld V (Rect.unit (k0_off1 i) S256x128.size (k0_off1_inb i))))

/-- A tile's scores are its row's. -/
theorem pay3_row (X : Vec Ideal S256x128 .bf16) (K : Vec Ideal S8192x128 .bf16) (off : Fin 2 → ℕ) (J : ℕ) (ho : off = ![256 * J, 0]) (h : ∀ a, off a + S256x128.size a ≤ S8192x128.size a)
    (r b : Fin 256) : k0_pay3 (F := Ideal) X (View.ld K (Rect.unit off S256x128.size h)) (ix2 r b) = row X K r (J * 256 + b.val) := by
  rw [pay3]
  unfold row
  refine congrArg (· * scale) (Finset.sum_congr rfl fun d _ => ?_)
  exact congrArg _ (ld_row K off J ho h b d)

/-- What the tile on the diagonal keeps. -/
theorem diag17 (i : grid0.Coords) (X : Vec Ideal S256x128 .bf16) (K : Vec Ideal S8192x128 .bf16) (r b : Fin 256) :
    k0_pay17 (F := Ideal) X (View.ld K (Rect.unit (k0_off1 i) S256x128.size (k0_off1_inb i))) (ix2 r b)
      = lk (row X K r) ((i 1).val * 256 + r.val) ((i 1).val * 256 + b.val) := by
  rw [pay17, pay12, pay3_row X K _ (i 1).val (k0_off1_eq i)]
  unfold lk
  show (if (if b.val < r.val then 1#1 else 0#1) = 1#1 then _ else 0) = _
  by_cases h : b.val < r.val
  · rw [if_pos (if_pos h), if_pos (by omega)]
  · rw [if_neg (by rw [if_neg h]; decide), if_neg (by omega)]

/-- The exponents of the tile on the diagonal. -/
theorem diag18 (i : grid0.Coords) (X : Vec Ideal S256x128 .bf16) (K : Vec Ideal S8192x128 .bf16) (r b : Fin 256) :
    k0_pay18 (F := Ideal) X (View.ld K (Rect.unit (k0_off1 i) S256x128.size (k0_off1_inb i))) (ix2 r b)
      = row X K r ((i 1).val * 256 + b.val) + ∑ x ∈ Finset.Ico ((i 1).val * 256 + b.val) 8192, lk (row X K r) ((i 1).val * 256 + r.val) x := by
  have hi : (i 1).val < 32 := (i 1).isLt
  rw [← expo_tile (row X K r) ((i 1).val * 256 + r.val) (i 1).val b.val b.isLt hi 0 (lk_after _ _ _ (by have := r.isLt; omega)).symm, pay18]
  refine congrArg₂ (· + ·) (congrArg₂ (· + ·) (pay3_row X K _ (i 1).val (k0_off1_eq i) _ r b) (congrArg₂ (· + ·) ?_ ?_)) rfl
  · refine Finset.sum_congr rfl fun l _ => ?_
    rw [pay13]; exact congrArg (· * _) (diag17 i X K r l)
  · refine Finset.sum_congr rfl fun l _ => ?_
    rw [pay13]; exact congrArg (fun w => (w - w) * _) (diag17 i X K r l)

/-- The carried values before the loop. -/
theorem start1 (i : grid0.Coords) (X : Vec Ideal S256x128 .bf16) (K V : Vec Ideal S8192x128 .bf16) (r : Fin 256) :
    (start i X K V).1 (ix2 r 0) = ∑ x ∈ Finset.Ico ((i 1).val * 256) 8192, lk (row X K r) ((i 1).val * 256 + r.val) x := by
  have hi : (i 1).val < 32 := (i 1).isLt
  show k0_pay2 _ _ _ = _
  rw [pay2, pay14, zero_add, ← Finset.sum_Ico_consecutive _ (show (i 1).val * 256 ≤ ((i 1).val + 1) * 256 by omega) (by omega),
    lk_after _ _ (((i 1).val + 1) * 256) (by have := r.isLt; omega), add_zero, ← sum_tile]
  refine Finset.sum_congr rfl fun b _ => ?_
  exact diag17 i X K r b

theorem start2 (i : grid0.Coords) (X : Vec Ideal S256x128 .bf16) (K V : Vec Ideal S8192x128 .bf16) (r : Fin 256) (d : Fin 128) :
    (start i X K V).2 (ix2 r d) = ∑ x ∈ Finset.Ico ((i 1).val * 256) 8192, wt (row X K r) ((i 1).val * 256 + r.val) x * col V d x := by
  have hi : (i 1).val < 32 := (i 1).isLt
  show k0_pay1 _ _ _ _ _ = _
  rw [pay1, pay15, zero_add, ← Finset.sum_Ico_consecutive _ (show (i 1).val * 256 ≤ ((i 1).val + 1) * 256 by omega) (by omega),
    wt_after _ _ _ (((i 1).val + 1) * 256) (by have := r.isLt; omega), add_zero, ← sum_tile]
  refine Finset.sum_congr rfl fun b _ => ?_
  show (if k0_pay12 (ix2 r b) = 1#1 then _ else 0) * View.ld V (Rect.unit (k0_off1 i) S256x128.size (k0_off1_inb i)) (ix2 b d) = _
  rw [ld_row V _ (i 1).val (k0_off1_eq i) _ b d, pay12]
  congr 1
  unfold wt
  by_cases h : b.val < r.val
  · rw [if_pos (by rw [show ((ix2 r b : S256x256.Idx) 1).val = b.val from rfl, show ((ix2 r b : S256x256.Idx) 0).val = r.val from rfl, if_pos h]), if_pos (by omega)]
    exact congrArg _ (diag18 i X K r b)
  · rw [if_neg (by rw [show ((ix2 r b : S256x256.Idx) 1).val = b.val from rfl, show ((ix2 r b : S256x256.Idx) 0).val = r.val from rfl, if_neg h]; decide), if_neg (by omega)]

/-- The carried values after `n` trips. -/
theorem state (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .f32) (harg5 : arg5.IsWhole) (arg6 : Memref sig .tc .vmem S1x256x1 .f32) (harg6 : arg6.IsWhole) (X : Vec Ideal S256x128 .bf16) (K V : Vec Ideal S8192x128 .bf16) (r : Fin 256) (d : Fin 128) : ∀ n : ℕ, n ≤ (i 1).val →
    (st_k0_t1 (F := Ideal) 𝒱 c bd i arg2 harg2 arg3 harg3 arg4 harg4 arg5 harg5 arg6 harg6 X k0_pay13 (harg3.unread K) (harg4.unread V) (start i X K V) n).1 (ix2 r 0)
        = ∑ x ∈ Finset.Ico (((i 1).val - n) * 256) 8192, lk (row X K r) ((i 1).val * 256 + r.val) x
    ∧ (st_k0_t1 (F := Ideal) 𝒱 c bd i arg2 harg2 arg3 harg3 arg4 harg4 arg5 harg5 arg6 harg6 X k0_pay13 (harg3.unread K) (harg4.unread V) (start i X K V) n).2 (ix2 r d)
        = ∑ x ∈ Finset.Ico (((i 1).val - n) * 256) 8192, wt (row X K r) ((i 1).val * 256 + r.val) x * col V d x := by
  have hi : (i 1).val < 32 := (i 1).isLt
  intro n
  induction n with
  | zero => exact fun _ => ⟨start1 i X K V r, start2 i X K V r d⟩
  | succ n ih =>
    intro hn
    obtain ⟨h1, h2⟩ := ih (by omega)
    have e := st_k0_t1_succ (F := Ideal) 𝒱 c bd i arg2 harg2 arg3 harg3 arg4 harg4 arg5 harg5 arg6 harg6 X k0_pay13 (harg3.unread K) (harg4.unread V) (start i X K V) ⟨n, by rw [trips1]; omega⟩
    simp only [] at e
    rw [e, trip]
    have ho := off2 i ⟨n, by rw [trips1]; omega⟩
    have hJ : (i 1).val - n = ((i 1).val - 1 - n) + 1 := by omega
    have hJ' : (i 1).val - (n + 1) = (i 1).val - 1 - n := by omega
    rw [hJ] at h1 h2
    rw [hJ']
    generalize hJ0 : (i 1).val - 1 - n = J at *
    have hJ2 : J + 1 ≤ (i 1).val := by omega
    have hl : ∀ b : Fin 256, k0_pay4 (F := Ideal) X (View.ld K (Rect.unit (k0_off2 i ⟨n, by rw [trips1]; omega⟩) S256x128.size (k0_off2_inb i _))) (ix2 r b)
        = lk (row X K r) ((i 1).val * 256 + r.val) (J * 256 + b.val) := fun b => by
      rw [pay4, pay3_row X K _ J ho, lk, if_pos (by have := b.isLt; omega)]
    constructor
    · show k0_pay6 _ _ _ _ = _
      rw [pay6, h1, ← Finset.sum_Ico_consecutive _ (show J * 256 ≤ (J + 1) * 256 by omega) (by omega), ← sum_tile, add_comm]
      exact congrArg (· + _) (Finset.sum_congr rfl fun b _ => hl b)
    · show k0_pay5 _ _ _ _ _ _ _ = _
      rw [pay5, h2, ← Finset.sum_Ico_consecutive _ (show J * 256 ≤ (J + 1) * 256 by omega) (by omega), ← sum_tile, add_comm]
      refine congrArg (· + _) (Finset.sum_congr rfl fun b _ => ?_)
      show Ideal.exp (k0_pay3 X _ (ix2 r b) + _ + _) * View.ld V (Rect.unit (k0_off2 i ⟨n, by rw [trips1]; omega⟩) S256x128.size (k0_off2_inb i _)) (ix2 b d) = _
      rw [ld_row V _ J ho _ b d, wt, if_pos (by have := b.isLt; omega)]
      congr 2
      rw [pay3_row X K _ J ho, ← expo_tile (row X K r) ((i 1).val * 256 + r.val) J b.val b.isLt (by omega) _ h1]
      congr 3
      · refine Finset.sum_congr rfl fun l _ => ?_
        rw [pay13]; exact congrArg (· * _) (hl l)
      · refine Finset.sum_congr rfl fun l _ => ?_
        rw [pay13]; exact congrArg (fun w => (w - w) * _) (hl l)

variable (m : (ℓ : Loc nD τ sig) → Buf (Elt Ideal) ℓ)

/-- The second loop, for the rest of an unrolled one, never runs. -/
theorem no_t2 (i : grid0.Coords) : (k0_t2_loop i).trips = 0 := by have := (k0_t2_abs i).2.1; omega

/-- A point's outputs and totals. -/
theorem o3 (c : Dev nD) (t : Fin cfg0.N) (r : Fin 256) (d : Fin 128) : (outsAt0 m c t).1 (ix2 r d)
    = ∑ x ∈ Finset.range 8192, wt (row (iblk m c 0 t) (iblk m c 1 t) r) ((grid0.coords t 1).val * 256 + r.val) x * col (iblk m c 2 t) d x := by
  unfold outsAt0
  frame_out
  rw [show Scf.trips _ _ _ = 0 from no_t2 (grid0.coords t), st_k0_t2_zero, show Scf.trips (0#32) _ _ = (grid0.coords t 1).val from trips1 (grid0.coords t)]
  refine (state _ _ _ _ _ _ _ _ _ _ _ _ _ _ _ _ _ r d _ (le_refl _)).2.trans ?_
  rw [Nat.sub_self, zero_mul, Finset.range_eq_Ico]

theorem o4 (c : Dev nD) (t : Fin cfg0.N) (r : Fin 256) : (outsAt0 m c t).2 (ix3 0 r 0)
    = ∑ x ∈ Finset.range 8192, lk (row (iblk m c 0 t) (iblk m c 1 t) r) ((grid0.coords t 1).val * 256 + r.val) x := by
  unfold outsAt0
  frame_out
  rw [show Scf.trips _ _ _ = 0 from no_t2 (grid0.coords t), st_k0_t2_zero, show Scf.trips (0#32) _ _ = (grid0.coords t 1).val from trips1 (grid0.coords t)]
  rw [pay11]
  refine (state _ _ _ _ _ _ _ _ _ _ _ _ _ _ _ _ _ r 0 _ (le_refl _)).1.trans ?_
  rw [Nat.sub_self, zero_mul, Finset.range_eq_Ico]

/-- The three arguments on device `c`. -/
abbrev argQ (c : Dev nD) : S8192x512.Idx → EReal := m ((c : Thread nD τ).loc main_arg0)
abbrev argK (c : Dev nD) : S8192x512.Idx → EReal := m ((c : Thread nD τ).loc main_arg1)
abbrev argV (c : Dev nD) : S8192x512.Idx → EReal := m ((c : Thread nD τ).loc main_arg2)

/-- The head and the tile of a point. -/
abbrev hd (t : Fin cfg0.N) : Fin 4 := grid0.coords t 0
abbrev tile (t : Fin cfg0.N) : Fin 32 := grid0.coords t 1

theorem index0 : ∀ t : Fin grid0.N, win0_0.index t 0 = (grid0.coords t 1).val ∧ win0_0.index t 1 = (grid0.coords t 0).val := by decide +kernel
theorem index1 : ∀ t : Fin grid0.N, win0_1.index t 0 = 0 ∧ win0_1.index t 1 = (grid0.coords t 0).val := by decide +kernel
theorem index2 : ∀ t : Fin grid0.N, win0_2.index t 0 = 0 ∧ win0_2.index t 1 = (grid0.coords t 0).val := by decide +kernel
theorem index3 : ∀ t : Fin grid0.N, win0_3.index t 0 = (grid0.coords t 1).val ∧ win0_3.index t 1 = (grid0.coords t 0).val := by decide +kernel
theorem index4 : ∀ t : Fin grid0.N, win0_4.index t 0 = (grid0.coords t 0).val ∧ win0_4.index t 1 = (grid0.coords t 1).val ∧ win0_4.index t 2 = 0 := by decide +kernel

theorem hd_lt (t : Fin cfg0.N) : (grid0.coords t 0).val < 4 := (grid0.coords t 0).isLt
theorem tile_lt (t : Fin cfg0.N) : (grid0.coords t 1).val < 32 := (grid0.coords t 1).isLt

/-- What a point reads. -/
theorem q_block (c : Dev nD) (t : Fin cfg0.N) (r : Fin 256) (d : Fin 128) :
    iblk m c 0 t (ix2 r d) = argQ m c (ix2 ⟨(grid0.coords t 1).val * 256 + r.val, by have := tile_lt t; have := r.isLt; omega⟩
      ⟨(grid0.coords t 0).val * 128 + d.val, by have := hd_lt t; have := d.isLt; omega⟩) := by
  blk_ext [iblk, V, index0 t]

theorem k_block (c : Dev nD) (t : Fin cfg0.N) (x : Fin 8192) (d : Fin 128) :
    iblk m c 1 t (ix2 x d) = argK m c (ix2 x ⟨(grid0.coords t 0).val * 128 + d.val, by have := hd_lt t; have := d.isLt; omega⟩) := by
  blk_ext [iblk, V, index1 t]

theorem v_block (c : Dev nD) (t : Fin cfg0.N) (x : Fin 8192) (d : Fin 128) :
    iblk m c 2 t (ix2 x d) = argV m c (ix2 x ⟨(grid0.coords t 0).val * 128 + d.val, by have := hd_lt t; have := d.isLt; omega⟩) := by
  blk_ext [iblk, V, index2 t]

/-- A point's rows are the call's. -/
theorem row_score (c : Dev nD) (t : Fin cfg0.N) (r : Fin 256) :
    row (iblk m c 0 t) (iblk m c 1 t) r = score (argQ m c) (argK m c) (hd t) ⟨(grid0.coords t 1).val * 256 + r.val, by have := tile_lt t; have := r.isLt; omega⟩ := by
  funext x
  unfold row score
  refine congrArg (· * scale) (Finset.sum_congr rfl fun d _ => congrArg₂ (· * ·) (q_block m c t r d) ?_)
  unfold col
  by_cases hx : x < 8192
  · rw [dif_pos hx, dif_pos hx]; exact k_block m c t ⟨x, hx⟩ d
  · rw [dif_neg hx, dif_neg hx]

/-- Where a block of the two results lies. -/
theorem emb3 (t : Fin cfg0.N) (y : S256x128.Idx) :
    (win0_3.blk t).view.emb y = ix2 (⟨(grid0.coords t 1).val * 256 + (y 0).val, by have := tile_lt t; have : (y 0).val < 256 := (y 0).isLt; omega⟩ : Fin 8192)
      (⟨(grid0.coords t 0).val * 128 + (y 1).val, by have := hd_lt t; have : (y 1).val < 128 := (y 1).isLt; omega⟩ : Fin 512) := by
  blk_ext [index3 t]

theorem emb4 (t : Fin cfg0.N) (y : S1x256x1.Idx) :
    (win0_4.blk t).view.emb y = ix3 (hd t) (⟨(grid0.coords t 1).val * 256 + (y 1).val, by have := tile_lt t; have : (y 1).val < 256 := (y 1).isLt; omega⟩ : Fin 8192) (0 : Fin 1) := by
  blk_ext [index4 t]

/-- A block of the outputs. -/
theorem out_point (c : Dev nD) (t : Fin cfg0.N) (y : S256x128.Idx) :
    (outsAt0 m c t).1 y = outs (argQ m c) (argK m c) (argV m c) (ix2 (⟨(grid0.coords t 1).val * 256 + (y 0).val, by have := tile_lt t; have : (y 0).val < 256 := (y 0).isLt; omega⟩ : Fin 8192)
      (⟨(grid0.coords t 0).val * 128 + (y 1).val, by have := hd_lt t; have : (y 1).val < 128 := (y 1).isLt; omega⟩ : Fin 512)) := by
  have h1 : (y 1).val < 128 := (y 1).isLt
  have hy : y = ix2 (y 0) (y 1) := by funext a; fin_cases a <;> rfl
  refine (congrArg _ hy).trans ((o3 m c t (y 0) (y 1)).trans ?_)
  unfold outs
  have hh : (⟨((grid0.coords t 0).val * 128 + (y 1).val) / 128, by have := hd_lt t; omega⟩ : Fin 4) = hd t := Fin.ext (by show _ / 128 = (grid0.coords t 0).val; omega)
  refine Finset.sum_congr rfl fun x hx => ?_
  refine congrArg₂ (· * ·) ((congrArg (fun R => wt R _ x) (row_score m c t (y 0))).trans
    (congrArg (fun h => wt (score (argQ m c) (argK m c) h _) _ x) hh.symm)) ?_
  unfold col
  rw [dif_pos (Finset.mem_range.1 hx), dif_pos (Finset.mem_range.1 hx)]
  exact v_block m c t ⟨x, Finset.mem_range.1 hx⟩ (y 1)

/-- A block of the totals. -/
theorem tot_point (c : Dev nD) (t : Fin cfg0.N) (y : S1x256x1.Idx) :
    (outsAt0 m c t).2 y = tots (argQ m c) (argK m c) (ix3 (hd t) (⟨(grid0.coords t 1).val * 256 + (y 1).val, by have := tile_lt t; have : (y 1).val < 256 := (y 1).isLt; omega⟩ : Fin 8192) (0 : Fin 1)) := by
  have hy : y = ix3 0 (y 1) 0 := by
    funext a
    fin_cases a
    · exact Subsingleton.elim (α := Fin 1) _ _
    · rfl
    · exact Subsingleton.elim (α := Fin 1) _ _
  refine (congrArg _ hy).trans ((o4 m c t (y 1)).trans ?_)
  exact Finset.sum_congr rfl fun x _ => congrArg (fun R => lk R _ x) (row_score m c t (y 1))

/-- The outputs after the run. -/
theorem out_value (c : Dev nD) : (dats m 0 c).arrAt 3 cfg0.N = outs (argQ m c) (argK m c) (argV m c) := by
  refine (dats m 0 c).arrAt_eq_of_covers 3 _ (by decide +kernel) fun t hf y => ?_
  blk_simp
  rw [after0_3]
  exact (out_point m c t y).trans (congrArg (outs (argQ m c) (argK m c) (argV m c)) (emb3 t y)).symm

/-- The totals after the run. -/
theorem tot_value (c : Dev nD) : (dats m 0 c).arrAt 4 cfg0.N = tots (argQ m c) (argK m c) := by
  refine (dats m 0 c).arrAt_eq_of_covers 4 _ (by decide +kernel) fun t hf y => ?_
  blk_simp
  rw [after0_4]
  exact (tot_point m c t y).trans (congrArg (tots (argQ m c) (argK m c)) (emb4 t y)).symm

end Cert.StickRun
-- ==== Proof.StickRefValue.lean ====
/-
# The stick-breaking attention: the reference

The reference takes whole rows: the scores, the masked `keep`, its sum from the row's end as a window sum, the weights, and the
product with the values.
-/
module

public import proofs.«01_k».proof.Proof.StickMath
public import proofs.«01_k».proof.Proof.Gen.StickRefIdeal.Run

@[expose] public section

noncomputable section

namespace Cert.StickRun

open Idealize.ShloMosaic Idealize.ShloMosaic.TcCoe Idealize.SL.Sem
open Cert.StickRefIdeal Cert.StickRefIdeal.Gen Cert.StickRefIdeal.Value

/-- A heads-first view of an argument. -/
def heads (X : (⟨S8192x512, .bf16⟩ : BufTy).Contents (Elt Ideal)) : FVec Ideal S8192x4x128 .f32 :=
  shapeCast _ (extf .f32 X bitsLt_bf16_f32) shapeCasts_S8192x512_S8192x4x128

theorem heads_apply (X : (⟨S8192x512, .bf16⟩ : BufTy).Contents (Elt Ideal)) (a : Fin 8192) (h : Fin 4) (d : Fin 128) :
    heads X (ix3 a h d) = X (ix2 a ⟨h.val * 128 + d.val, by have := h.isLt; have := d.isLt; omega⟩) := by
  pointwise [heads]

/-- The reference's scores. -/
def zR (Q K : FVec Ideal S8192x4x128 .f32) : FVec Ideal S4x8192x8192 .f32 :=
  mulf (Host.dotGeneral dot_S8192x4x128_S8192x4x128_S4x8192x8192_2_2_0_0_1_1 none Q K) (broadcastInDim S4x8192x8192 ![] bcast_S_S4x8192x8192 (constant S_ .f32 0x3DB504F3#32))

theorem zR_apply (Q K : FVec Ideal S8192x4x128 .f32) (h : Fin 4) (a x : Fin 8192) :
    zR Q K (ix3 h a x) = (∑ d : Fin 128, Q (ix3 a h d) * K (ix3 x h d)) * scale := by
  pointwise [zR]

/-- Which keys come before the query. -/
def before : IVec S4x8192x8192 1 :=
  broadcastInDim S4x8192x8192 ![1, 2] bcast_S8192x8192_S4x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

theorem before_apply (h : Fin 4) (a x : Fin 8192) : before (ix3 h a x) = if x.val < a.val then 1#1 else 0#1 := by
  pointwise [before]
  exact slt_ofNat _ _ (by have := x.isLt; omega) (by have := a.isLt; omega)

/-- The reference's masked `keep`. -/
def lkR (z : FVec Ideal S4x8192x8192 .f32) : FVec Ideal S4x8192x8192 .f32 :=
  select before (Host.negf (select (cmpf .une (subf z (broadcastInDim S4x8192x8192 ![] bcast_S_S4x8192x8192 (constant S_ .f32 0x00000000#32))) (subf z (broadcastInDim S4x8192x8192 ![] bcast_S_S4x8192x8192 (constant S_ .f32 0x00000000#32)))) (addf z (broadcastInDim S4x8192x8192 ![] bcast_S_S4x8192x8192 (constant S_ .f32 0x00000000#32))) (addf (maximumf z (broadcastInDim S4x8192x8192 ![] bcast_S_S4x8192x8192 (constant S_ .f32 0x00000000#32))) (Host.log1p (Host.exp (Host.negf (Host.absf (subf z (broadcastInDim S4x8192x8192 ![] bcast_S_S4x8192x8192 (constant S_ .f32 0x00000000#32)))))))))) (broadcastInDim S4x8192x8192 ![] bcast_S_S4x8192x8192 (id (constant S_ .f32 0x00000000#32)))

theorem lkR_apply (z : FVec Ideal S4x8192x8192 .f32) (j : S4x8192x8192.Idx) :
    lkR z j = if before j = 1#1 then keep (z j) else 0 := by
  pointwise [lkR, keep, Ideal.absf_def]
  by_cases hb : before j = 1#1
  · rw [if_pos hb, hb]
    show -(if z j ≠ z j then z j else max (z j) 0 + Ideal.log1p (Ideal.exp (-max (z j) (-z j)))) = _
    rw [if_neg (by simp), zero_sub, zero_sub]
    rfl
  · rw [if_neg hb]
    exact (if_neg hb).trans Ideal.ofBits_zero_f32

/-- The reference's running sum from the last key back. -/
def rcR (l : FVec Ideal S4x8192x8192 .f32) : FVec Ideal S4x8192x8192 .f32 :=
  Host.reduceWindowAdd ![1, 1, 8192] ![1, 1, 1] ![0, 0, 0] ![0, 0, 8191] l (broadcastInDim S_ ![] bcast_S_S_ (constant S_ .f32 0x00000000#32)) reduceWindows_S4x8192x8192_S4x8192x8192_w1s1p0_0_w1s1p0_0_w8192s1p0_8191 h_S_

/-- The window's positions, by their number. -/
def winEquiv : Fin 8192 ≃ (⟨3, ![1, 1, 8192]⟩ : Shape).Idx where
  toFun k := ix3 0 0 k
  invFun i := i 2
  left_inv k := rfl
  right_inv i := by
    funext a
    fin_cases a
    · exact Subsingleton.elim (α := Fin 1) _ _
    · exact Subsingleton.elim (α := Fin 1) _ _
    · rfl

/-- A fold that adds is a sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window sum is the sum over the window's positions. -/
theorem window_sum {s t : Shape} (window strides lo hi : Fin s.rank → ℕ) (h : s.ReduceWindows window strides lo hi t) (x : s.Idx → EReal) (v : EReal) (j : t.Idx) :
    Ideal.hostReduceWindowAdd window strides lo hi h x v j
      = v + ∑ i : (⟨s.rank, window⟩ : Shape).Idx,
          if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else v := by
  unfold Ideal.hostReduceWindowAdd Host.reduceWindow
  dsimp only
  refine (foldl_add _ _ _).trans (congrArg _ ?_)
  rw [← Fin.sum_univ_def]
  refine Eq.trans (Finset.sum_congr rfl fun n _ => dite_congr rfl (fun _ => rfl) (fun _ => rfl)) (Equiv.sum_comp (Shape.rowMajor (⟨s.rank, window⟩ : Shape)).symm (fun i : (⟨s.rank, window⟩ : Shape).Idx =>
    if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else v))

/-- The window sum from key `k` is the row's sum from it on. -/
theorem rcR_apply (l : FVec Ideal S4x8192x8192 .f32) (f : ℕ → EReal) (h : Fin 4) (a k : Fin 8192)
    (hf : ∀ x : Fin 8192, l (ix3 h a x) = f x.val) :
    rcR l (ix3 h a k) = ∑ x ∈ Finset.Ico k.val 8192, f x := by
  have h0 : (broadcastInDim S_ ![] bcast_S_S_ (constant (F := Ideal) S_ .f32 0x00000000#32)) (Shape.Idx.first h_S_) = 0 := Ideal.ofBits_zero_f32
  unfold rcR Host.reduceWindowAdd
  rw [Ideal.hostReduceWindowAdd_def, h0, window_sum, zero_add]
  refine (Equiv.sum_comp winEquiv _).symm.trans ?_
  have hw : ∀ w : Fin 8192, (if hin : ∀ b : Fin 3, (![0, 0, 0] : Fin 3 → ℕ) b ≤ ((ix3 h a k : S4x8192x8192.Idx) b).val * (![1, 1, 1] : Fin 3 → ℕ) b + (winEquiv w b).val
        ∧ ((ix3 h a k : S4x8192x8192.Idx) b).val * (![1, 1, 1] : Fin 3 → ℕ) b + (winEquiv w b).val - (![0, 0, 0] : Fin 3 → ℕ) b < S4x8192x8192.size b
      then l (fun b => ⟨((ix3 h a k : S4x8192x8192.Idx) b).val * (![1, 1, 1] : Fin 3 → ℕ) b + (winEquiv w b).val - (![0, 0, 0] : Fin 3 → ℕ) b, (hin b).2⟩) else 0)
      = if k.val + w.val < 8192 then f (k.val + w.val) else 0 := by
    intro w
    by_cases hk : k.val + w.val < 8192
    · rw [if_pos hk, dif_pos]
      · refine Eq.trans (congrArg l ?_) (hf ⟨k.val + w.val, hk⟩)
        funext b
        fin_cases b
        · exact Fin.ext (show h.val * 1 + 0 - 0 = h.val by omega)
        · exact Fin.ext (show a.val * 1 + 0 - 0 = a.val by omega)
        · exact Fin.ext (show k.val * 1 + w.val - 0 = k.val + w.val by omega)
      · intro b
        fin_cases b
        · exact ⟨Nat.zero_le _, show h.val * 1 + 0 - 0 < 4 by have := h.isLt; omega⟩
        · exact ⟨Nat.zero_le _, show a.val * 1 + 0 - 0 < 8192 by have := a.isLt; omega⟩
        · exact ⟨Nat.zero_le _, show k.val * 1 + w.val - 0 < 8192 by omega⟩
    · rw [if_neg hk, dif_neg]
      intro hin
      have := (hin 2).2
      exact hk (show k.val + w.val < 8192 by
        have e2 : k.val * 1 + w.val - 0 < 8192 := this
        omega)
  refine (Finset.sum_congr rfl fun w _ => hw w).trans ?_
  rw [Fin.sum_univ_eq_sum_range (fun w => if k.val + w < 8192 then f (k.val + w) else 0), ← Finset.sum_filter, Finset.sum_Ico_eq_sum_range]
  refine Finset.sum_congr (Finset.ext fun w => ?_) fun _ _ => rfl
  simp only [Finset.mem_filter, Finset.mem_range]
  omega

/-- The masked scores' literal. -/
theorem negInf : FloatOps.ofBits (F := Ideal) .f32 0xFF800000#32 = ⊥ := by
  show Ideal.ofBits .f32 0xFF800000#32 = ⊥
  simp [Ideal.ofBits, Ideal.ieee]

/-- The reference's weights. -/
def wR (z l : FVec Ideal S4x8192x8192 .f32) : FVec Ideal S4x8192x8192 .f32 :=
  Host.exp (select before (addf z (rcR l)) (broadcastInDim S4x8192x8192 ![] bcast_S_S4x8192x8192 (id (constant S_ .f32 0xFF800000#32))))

theorem wR_apply (z l : FVec Ideal S4x8192x8192 .f32) (j : S4x8192x8192.Idx) :
    wR z l j = if before j = 1#1 then Ideal.exp (z j + rcR l j) else 0 := by
  pointwise [wR]
  by_cases hb : before j = 1#1
  · rw [if_pos hb, hb]; rfl
  · rw [if_neg hb, show Scalar.select (before j) (z j + rcR l j) (id (constant (F := Ideal) S_ .f32 0xFF800000#32) ix0) = ⊥ from (if_neg hb).trans negInf]
    rfl

/-- The reference's product with the values. -/
def outR (w : FVec Ideal S4x8192x8192 .f32) (V : FVec Ideal S8192x4x128 .f32) : FVec Ideal S8192x512 .f32 :=
  shapeCast _ (transpose S8192x4x128 [2, 0, 1] (Host.dotGeneral dot_S8192x4x128_S4x8192x8192_S4x128x8192_0_2_2_1_1_0 none V w) transposes_S4x128x8192_S8192x4x128_2_0_1) shapeCasts_S8192x4x128_S8192x512

theorem outR_apply (w : FVec Ideal S4x8192x8192 .f32) (V : FVec Ideal S8192x4x128 .f32) (a : Fin 8192) (h : Fin 4) (d : Fin 128) :
    outR w V (ix2 a ⟨h.val * 128 + d.val, by have := h.isLt; have := d.isLt; omega⟩) = ∑ k : Fin 8192, V (ix3 k h d) * w (ix3 h a k) := by
  pointwise [outR]

/-- The reference's totals. -/
def totR (l : FVec Ideal S4x8192x8192 .f32) : FVec Ideal S4x8192x1 .f32 :=
  broadcastInDim S4x8192x1 ![0, 1] bcast_S4x8192_S4x8192x1_0_1 (Host.reduceAdd l (constant S_ .f32 0x00000000#32) reducesTo_S4x8192x8192_S4x8192_d2 h_S_)

theorem totR_apply (l : FVec Ideal S4x8192x8192 .f32) (h : Fin 4) (a : Fin 8192) :
    totR l (ix3 h a 0) = ∑ k : Fin 8192, l (ix3 h a k) := by
  pointwise [totR]

variable (Q K V : (⟨S8192x512, .bf16⟩ : BufTy).Contents (Elt Ideal))

theorem zR_score (h : Fin 4) (a x : Fin 8192) : zR (heads Q) (heads K) (ix3 h a x) = score Q K h a x.val := by
  rw [zR_apply]
  unfold score
  refine congrArg (· * scale) (Finset.sum_congr rfl fun d _ => ?_)
  rw [heads_apply, heads_apply, dif_pos x.isLt]

theorem lkR_lk (h : Fin 4) (a x : Fin 8192) : lkR (zR (heads Q) (heads K)) (ix3 h a x) = lk (score Q K h a) a.val x.val := by
  rw [lkR_apply, before_apply, zR_score]
  unfold lk
  by_cases hx : x.val < a.val
  · rw [if_pos (if_pos hx), if_pos hx]
  · rw [if_neg (by rw [if_neg hx]; decide), if_neg hx]

theorem wR_wt (h : Fin 4) (a x : Fin 8192) :
    wR (zR (heads Q) (heads K)) (lkR (zR (heads Q) (heads K))) (ix3 h a x) = wt (score Q K h a) a.val x.val := by
  rw [wR_apply, before_apply, zR_score, rcR_apply _ _ h a x (lkR_lk Q K h a)]
  unfold wt
  by_cases hx : x.val < a.val
  · rw [if_pos (if_pos hx), if_pos hx]
  · rw [if_neg (by rw [if_neg hx]; decide), if_neg hx]

/-- The reference's outputs. -/
theorem outR_outs : outR (wR (zR (heads Q) (heads K)) (lkR (zR (heads Q) (heads K)))) (heads V) = outs Q K V := by
  funext i
  have h1 : (i 1).val < 512 := (i 1).isLt
  have hi : i = ix2 (i 0) (⟨(⟨(i 1).val / 128, by omega⟩ : Fin 4).val * 128 + (⟨(i 1).val % 128, by omega⟩ : Fin 128).val, by
      show (i 1).val / 128 * 128 + (i 1).val % 128 < 512; omega⟩ : Fin 512) := by
    funext b
    fin_cases b
    · rfl
    · exact Fin.ext (show (i 1).val = (i 1).val / 128 * 128 + (i 1).val % 128 by omega)
  refine (congrArg _ hi).trans ((outR_apply _ _ (i 0) _ _).trans ?_)
  unfold outs
  rw [← Fin.sum_univ_eq_sum_range (fun x => wt (score Q K ⟨(i 1).val / 128, by omega⟩ (i 0)) (i 0).val x
    * (if hx : x < 8192 then V (ix2 ⟨x, hx⟩ (i 1)) else 0))]
  refine Finset.sum_congr rfl fun x _ => ?_
  refine (mul_comm _ _).trans (congrArg₂ (· * ·) (wR_wt Q K _ (i 0) x) ((heads_apply V x _ _).trans ?_))
  dsimp only
  rw [dif_pos x.isLt]
  exact congrArg V <| congrArg (ix2 x) (Fin.ext (show (i 1).val / 128 * 128 + (i 1).val % 128 = (i 1).val by omega))

/-- They are the rows' totals. -/
theorem totR_tots : totR (lkR (zR (heads Q) (heads K))) = tots Q K := by
  funext i
  have hi : i = ix3 (i 0) (i 1) 0 := by
    funext b
    fin_cases b
    · rfl
    · rfl
    · exact Subsingleton.elim (α := Fin 1) _ _
  refine (congrArg _ hi).trans ((totR_apply _ (i 0) (i 1)).trans ?_)
  unfold tots
  rw [← Fin.sum_univ_eq_sum_range (fun x => lk (score Q K (i 0) (i 1)) (i 1).val x)]
  exact Finset.sum_congr rfl fun x _ => lkR_lk Q K (i 0) (i 1) x

variable (m : (ℓ : Loc nD τ sig) → Buf (Elt Ideal) ℓ)

theorem ref_out (c : Dev nD) : res_out0 m c
    = outs (m ((c.tc : Thread nD τ).loc main_arg0)) (m ((c.tc : Thread nD τ).loc main_arg1)) (m ((c.tc : Thread nD τ).loc main_arg2)) :=
  Eq.trans rfl (outR_outs (m ((c.tc : Thread nD τ).loc main_arg0)) (m ((c.tc : Thread nD τ).loc main_arg1)) (m ((c.tc : Thread nD τ).loc main_arg2)))

end Cert.StickRun
-- ==== Proof.StickClaims.lean ====
/-
# The stick-breaking attention: the claims

The kernel walks each query tile's key tiles from the diagonal back, the reference takes whole rows; both leave the same
outputs and totals.
-/
module

public import proofs.«01_k».proof.Defs
public import proofs.«01_k».proof.Proof.StickValue
public import proofs.«01_k».proof.Proof.StickRefValue
public import proofs.«01_k».proof.Proof.Gen.Stick.Frame
public import proofs.«01_k».proof.Proof.Gen.StickRef.Run
public import Idealize.ShloMosaic.Lib.Quiescent

@[expose] public section

noncomputable section

namespace Cert.StickRun

open Idealize.ShloMosaic Idealize.ShloMosaic.TcCoe Idealize.SL.Sem
open Cert.Stick.Gen Cert.StickIdeal.Gen Cert.StickRef.Gen Cert.StickRefIdeal.Gen

theorem frame_kernel : Cert.quiescent_Stick := fun m ρ _ => Cert.Stick.Gen.frame m ρ
theorem frame_kernel_ideal : Cert.quiescent_StickIdeal := fun m ρ _ => Cert.StickIdeal.Gen.frame m ρ
theorem frame_ref : Cert.quiescent_StickRef := fun m ρ _ =>
  (θ_run Cert.StickRef.defs _ _).mono (fun r h => ⟨fun c => (h c).2.2, sem_eq_zero_of_no_sems (by decide) r.2⟩)
    (Cert.StickRef.Value.run (F := Bits) m ρ)
theorem frame_ref_ideal : Cert.quiescent_StickRefIdeal := fun m ρ _ =>
  (θ_run Cert.StickRefIdeal.defs _ _).mono (fun r h => ⟨fun c => (h c).2.2, sem_eq_zero_of_no_sems (by decide) r.2⟩)
    (Cert.StickRefIdeal.Value.run (F := Ideal) m ρ)

/-- Over the extended reals: the outputs and the totals are the reference's. -/
theorem algebraic : Cert.algebraic_StickIdeal_StickRefIdeal := fun m ρ m' ρ' _ hm =>
  ⟨_, _, Cert.StickIdeal.Value.run_blocks (F := Ideal) m ρ,
    (θ_run Cert.StickRefIdeal.defs _ _).mono (fun r h c => by
      obtain ⟨h1, h2, h3⟩ := h c
      obtain ⟨e0, e1, e2⟩ := hm c
      refine ⟨h1.trans ?_, h2.trans ?_, h3⟩
      · refine (ref_out m' c).trans ?_
        rw [e0, e1, e2]
        exact (out_value m c).symm
      · rw [e0, e1]
        exact (Eq.trans rfl (totR_tots (m ((c.tc : Thread Cert.StickIdeal.nD Cert.StickIdeal.τ).loc Cert.StickIdeal.main_arg0))
          (m ((c.tc : Thread Cert.StickIdeal.nD Cert.StickIdeal.τ).loc Cert.StickIdeal.main_arg1)))).trans (tot_value m c).symm)
      (Cert.StickRefIdeal.Value.run (F := Ideal) m' ρ')⟩

end Cert.StickRun
-- ==== Proof.lean ====
/-
# The claims, put together

For every call: the frames of the kernel and of its reference, at the machine's bit patterns and over the extended reals; no
operation was rewritten; every device ends with its part of the reference's result, over the extended reals and,
for the exchanges, bit for bit.
-/
module

public import proofs.«01_k».proof.Defs
public import proofs.«01_k».proof.Proof.GatherClaims
public import proofs.«01_k».proof.Proof.Gen.Gather
public import proofs.«01_k».proof.Proof.Gen.GatherIdeal
public import proofs.«01_k».proof.Proof.Gen.GatherRef
public import proofs.«01_k».proof.Proof.Gen.GatherRefIdeal
public import proofs.«01_k».proof.Proof.SiblingClaims
public import proofs.«01_k».proof.Proof.Gen.Sibling
public import proofs.«01_k».proof.Proof.Gen.SiblingIdeal
public import proofs.«01_k».proof.Proof.Gen.SiblingRef
public import proofs.«01_k».proof.Proof.Gen.SiblingRefIdeal
public import proofs.«01_k».proof.Proof.ChipsClaims
public import proofs.«01_k».proof.Proof.Gen.Chips
public import proofs.«01_k».proof.Proof.Gen.ChipsIdeal
public import proofs.«01_k».proof.Proof.Gen.ChipsRef
public import proofs.«01_k».proof.Proof.Gen.ChipsRefIdeal
public import proofs.«01_k».proof.Proof.ShareClaims
public import proofs.«01_k».proof.Proof.Gen.Share
public import proofs.«01_k».proof.Proof.Gen.ShareIdeal
public import proofs.«01_k».proof.Proof.Gen.ShareRef
public import proofs.«01_k».proof.Proof.Gen.ShareRefIdeal
public import proofs.«01_k».proof.Proof.PairSumClaims
public import proofs.«01_k».proof.Proof.Gen.PairSum
public import proofs.«01_k».proof.Proof.Gen.PairSumIdeal
public import proofs.«01_k».proof.Proof.Gen.PairSumRef
public import proofs.«01_k».proof.Proof.Gen.PairSumRefIdeal
public import proofs.«01_k».proof.Proof.ChipSumClaims
public import proofs.«01_k».proof.Proof.Gen.ChipSum
public import proofs.«01_k».proof.Proof.Gen.ChipSumIdeal
public import proofs.«01_k».proof.Proof.Gen.ChipSumRef
public import proofs.«01_k».proof.Proof.Gen.ChipSumRefIdeal
public import proofs.«01_k».proof.Proof.AdamwClaims
public import proofs.«01_k».proof.Proof.Gen.Adamw
public import proofs.«01_k».proof.Proof.Gen.AdamwIdeal
public import proofs.«01_k».proof.Proof.Gen.AdamwRef
public import proofs.«01_k».proof.Proof.Gen.AdamwRefIdeal
public import proofs.«01_k».proof.Proof.AdamwSmallClaims
public import proofs.«01_k».proof.Proof.Gen.AdamwSmall
public import proofs.«01_k».proof.Proof.Gen.AdamwSmallIdeal
public import proofs.«01_k».proof.Proof.Gen.AdamwSmallRef
public import proofs.«01_k».proof.Proof.Gen.AdamwSmallRefIdeal
public import proofs.«01_k».proof.Proof.LossHeadClaims
public import proofs.«01_k».proof.Proof.Gen.LossHead
public import proofs.«01_k».proof.Proof.Gen.LossHeadIdeal
public import proofs.«01_k».proof.Proof.Gen.LossHeadRef
public import proofs.«01_k».proof.Proof.Gen.LossHeadRefIdeal
public import proofs.«01_k».proof.Proof.InProducts
public import proofs.«01_k».proof.Proof.Gen.In
public import proofs.«01_k».proof.Proof.Gen.InIdeal
public import proofs.«01_k».proof.Proof.Gen.InRef
public import proofs.«01_k».proof.Proof.Gen.InRefIdeal
public import proofs.«01_k».proof.Proof.Gen.InDa
public import proofs.«01_k».proof.Proof.Gen.InDaIdeal
public import proofs.«01_k».proof.Proof.Gen.InDaRef
public import proofs.«01_k».proof.Proof.Gen.InDaRefIdeal
public import proofs.«01_k».proof.Proof.Gen.InDw
public import proofs.«01_k».proof.Proof.Gen.InDwIdeal
public import proofs.«01_k».proof.Proof.Gen.InDwRef
public import proofs.«01_k».proof.Proof.Gen.InDwRefIdeal
public import proofs.«01_k».proof.Proof.BranchProducts
public import proofs.«01_k».proof.Proof.Gen.Branch
public import proofs.«01_k».proof.Proof.Gen.BranchIdeal
public import proofs.«01_k».proof.Proof.Gen.BranchRef
public import proofs.«01_k».proof.Proof.Gen.BranchRefIdeal
public import proofs.«01_k».proof.Proof.Gen.BranchDa
public import proofs.«01_k».proof.Proof.Gen.BranchDaIdeal
public import proofs.«01_k».proof.Proof.Gen.BranchDaRef
public import proofs.«01_k».proof.Proof.Gen.BranchDaRefIdeal
public import proofs.«01_k».proof.Proof.Gen.BranchDw
public import proofs.«01_k».proof.Proof.Gen.BranchDwIdeal
public import proofs.«01_k».proof.Proof.Gen.BranchDwRef
public import proofs.«01_k».proof.Proof.Gen.BranchDwRefIdeal
public import proofs.«01_k».proof.Proof.OutProducts
public import proofs.«01_k».proof.Proof.Gen.Out
public import proofs.«01_k».proof.Proof.Gen.OutIdeal
public import proofs.«01_k».proof.Proof.Gen.OutRef
public import proofs.«01_k».proof.Proof.Gen.OutRefIdeal
public import proofs.«01_k».proof.Proof.Gen.OutDa
public import proofs.«01_k».proof.Proof.Gen.OutDaIdeal
public import proofs.«01_k».proof.Proof.Gen.OutDaRef
public import proofs.«01_k».proof.Proof.Gen.OutDaRefIdeal
public import proofs.«01_k».proof.Proof.Gen.OutDw
public import proofs.«01_k».proof.Proof.Gen.OutDwIdeal
public import proofs.«01_k».proof.Proof.Gen.OutDwRef
public import proofs.«01_k».proof.Proof.Gen.OutDwRefIdeal
public import proofs.«01_k».proof.Proof.QueryProducts
public import proofs.«01_k».proof.Proof.Gen.Query
public import proofs.«01_k».proof.Proof.Gen.QueryIdeal
public import proofs.«01_k».proof.Proof.Gen.QueryRef
public import proofs.«01_k».proof.Proof.Gen.QueryRefIdeal
public import proofs.«01_k».proof.Proof.Gen.QueryDa
public import proofs.«01_k».proof.Proof.Gen.QueryDaIdeal
public import proofs.«01_k».proof.Proof.Gen.QueryDaRef
public import proofs.«01_k».proof.Proof.Gen.QueryDaRefIdeal
public import proofs.«01_k».proof.Proof.Gen.QueryDw
public import proofs.«01_k».proof.Proof.Gen.QueryDwIdeal
public import proofs.«01_k».proof.Proof.Gen.QueryDwRef
public import proofs.«01_k».proof.Proof.Gen.QueryDwRefIdeal
public import proofs.«01_k».proof.Proof.MemoryProducts
public import proofs.«01_k».proof.Proof.Gen.Memory
public import proofs.«01_k».proof.Proof.Gen.MemoryIdeal
public import proofs.«01_k».proof.Proof.Gen.MemoryRef
public import proofs.«01_k».proof.Proof.Gen.MemoryRefIdeal
public import proofs.«01_k».proof.Proof.Gen.MemoryDa
public import proofs.«01_k».proof.Proof.Gen.MemoryDaIdeal
public import proofs.«01_k».proof.Proof.Gen.MemoryDaRef
public import proofs.«01_k».proof.Proof.Gen.MemoryDaRefIdeal
public import proofs.«01_k».proof.Proof.Gen.MemoryDw
public import proofs.«01_k».proof.Proof.Gen.MemoryDwIdeal
public import proofs.«01_k».proof.Proof.Gen.MemoryDwRef
public import proofs.«01_k».proof.Proof.Gen.MemoryDwRefIdeal
public import proofs.«01_k».proof.Proof.UpProducts
public import proofs.«01_k».proof.Proof.Gen.Up
public import proofs.«01_k».proof.Proof.Gen.UpIdeal
public import proofs.«01_k».proof.Proof.Gen.UpRef
public import proofs.«01_k».proof.Proof.Gen.UpRefIdeal
public import proofs.«01_k».proof.Proof.Gen.UpDa
public import proofs.«01_k».proof.Proof.Gen.UpDaIdeal
public import proofs.«01_k».proof.Proof.Gen.UpDaRef
public import proofs.«01_k».proof.Proof.Gen.UpDaRefIdeal
public import proofs.«01_k».proof.Proof.Gen.UpDw
public import proofs.«01_k».proof.Proof.Gen.UpDwIdeal
public import proofs.«01_k».proof.Proof.Gen.UpDwRef
public import proofs.«01_k».proof.Proof.Gen.UpDwRefIdeal
public import proofs.«01_k».proof.Proof.DownProducts
public import proofs.«01_k».proof.Proof.Gen.Down
public import proofs.«01_k».proof.Proof.Gen.DownIdeal
public import proofs.«01_k».proof.Proof.Gen.DownRef
public import proofs.«01_k».proof.Proof.Gen.DownRefIdeal
public import proofs.«01_k».proof.Proof.Gen.DownDa
public import proofs.«01_k».proof.Proof.Gen.DownDaIdeal
public import proofs.«01_k».proof.Proof.Gen.DownDaRef
public import proofs.«01_k».proof.Proof.Gen.DownDaRefIdeal
public import proofs.«01_k».proof.Proof.Gen.DownDw
public import proofs.«01_k».proof.Proof.Gen.DownDwIdeal
public import proofs.«01_k».proof.Proof.Gen.DownDwRef
public import proofs.«01_k».proof.Proof.Gen.DownDwRefIdeal
public import proofs.«01_k».proof.Proof.GdnScanClaims
public import proofs.«01_k».proof.Proof.Gen.GdnScan
public import proofs.«01_k».proof.Proof.Gen.GdnScanIdeal
public import proofs.«01_k».proof.Proof.Gen.GdnScanRef
public import proofs.«01_k».proof.Proof.Gen.GdnScanRefIdeal
public import proofs.«01_k».proof.Proof.GdnGradClaims
public import proofs.«01_k».proof.Proof.Gen.GdnGrad
public import proofs.«01_k».proof.Proof.Gen.GdnGradIdeal
public import proofs.«01_k».proof.Proof.Gen.GdnGradRef
public import proofs.«01_k».proof.Proof.Gen.GdnGradRefIdeal
public import proofs.«01_k».proof.Proof.StickClaims
public import proofs.«01_k».proof.Proof.Gen.Stick
public import proofs.«01_k».proof.Proof.Gen.StickIdeal
public import proofs.«01_k».proof.Proof.Gen.StickRef
public import proofs.«01_k».proof.Proof.Gen.StickRefIdeal

@[expose] public section

noncomputable section

namespace Cert.Proof

open Idealize.ShloMosaic Idealize.SL.Sem

theorem claim : Cert.Claim := ⟨
  Cert.Gather.Gen.facts, Cert.GatherIdeal.Gen.facts, Cert.GatherRef.Gen.facts, Cert.GatherRefIdeal.Gen.facts,
  Cert.Sibling.Gen.facts, Cert.SiblingIdeal.Gen.facts, Cert.SiblingRef.Gen.facts, Cert.SiblingRefIdeal.Gen.facts,
  Cert.Chips.Gen.facts, Cert.ChipsIdeal.Gen.facts, Cert.ChipsRef.Gen.facts, Cert.ChipsRefIdeal.Gen.facts,
  Cert.Share.Gen.facts, Cert.ShareIdeal.Gen.facts, Cert.ShareRef.Gen.facts, Cert.ShareRefIdeal.Gen.facts,
  Cert.PairSum.Gen.facts, Cert.PairSumIdeal.Gen.facts, Cert.PairSumRef.Gen.facts, Cert.PairSumRefIdeal.Gen.facts,
  Cert.ChipSum.Gen.facts, Cert.ChipSumIdeal.Gen.facts, Cert.ChipSumRef.Gen.facts, Cert.ChipSumRefIdeal.Gen.facts,
  Cert.Adamw.Gen.facts, Cert.AdamwIdeal.Gen.facts, Cert.AdamwRef.Gen.facts, Cert.AdamwRefIdeal.Gen.facts,
  Cert.AdamwSmall.Gen.facts, Cert.AdamwSmallIdeal.Gen.facts, Cert.AdamwSmallRef.Gen.facts, Cert.AdamwSmallRefIdeal.Gen.facts,
  Cert.LossHead.Gen.facts, Cert.LossHeadIdeal.Gen.facts, Cert.LossHeadRef.Gen.facts, Cert.LossHeadRefIdeal.Gen.facts,
  Cert.In.Gen.facts, Cert.InIdeal.Gen.facts, Cert.InRef.Gen.facts, Cert.InRefIdeal.Gen.facts,
  Cert.InDa.Gen.facts, Cert.InDaIdeal.Gen.facts, Cert.InDaRef.Gen.facts, Cert.InDaRefIdeal.Gen.facts,
  Cert.InDw.Gen.facts, Cert.InDwIdeal.Gen.facts, Cert.InDwRef.Gen.facts, Cert.InDwRefIdeal.Gen.facts,
  Cert.Branch.Gen.facts, Cert.BranchIdeal.Gen.facts, Cert.BranchRef.Gen.facts, Cert.BranchRefIdeal.Gen.facts,
  Cert.BranchDa.Gen.facts, Cert.BranchDaIdeal.Gen.facts, Cert.BranchDaRef.Gen.facts, Cert.BranchDaRefIdeal.Gen.facts,
  Cert.BranchDw.Gen.facts, Cert.BranchDwIdeal.Gen.facts, Cert.BranchDwRef.Gen.facts, Cert.BranchDwRefIdeal.Gen.facts,
  Cert.Out.Gen.facts, Cert.OutIdeal.Gen.facts, Cert.OutRef.Gen.facts, Cert.OutRefIdeal.Gen.facts,
  Cert.OutDa.Gen.facts, Cert.OutDaIdeal.Gen.facts, Cert.OutDaRef.Gen.facts, Cert.OutDaRefIdeal.Gen.facts,
  Cert.OutDw.Gen.facts, Cert.OutDwIdeal.Gen.facts, Cert.OutDwRef.Gen.facts, Cert.OutDwRefIdeal.Gen.facts,
  Cert.Query.Gen.facts, Cert.QueryIdeal.Gen.facts, Cert.QueryRef.Gen.facts, Cert.QueryRefIdeal.Gen.facts,
  Cert.QueryDa.Gen.facts, Cert.QueryDaIdeal.Gen.facts, Cert.QueryDaRef.Gen.facts, Cert.QueryDaRefIdeal.Gen.facts,
  Cert.QueryDw.Gen.facts, Cert.QueryDwIdeal.Gen.facts, Cert.QueryDwRef.Gen.facts, Cert.QueryDwRefIdeal.Gen.facts,
  Cert.Memory.Gen.facts, Cert.MemoryIdeal.Gen.facts, Cert.MemoryRef.Gen.facts, Cert.MemoryRefIdeal.Gen.facts,
  Cert.MemoryDa.Gen.facts, Cert.MemoryDaIdeal.Gen.facts, Cert.MemoryDaRef.Gen.facts, Cert.MemoryDaRefIdeal.Gen.facts,
  Cert.MemoryDw.Gen.facts, Cert.MemoryDwIdeal.Gen.facts, Cert.MemoryDwRef.Gen.facts, Cert.MemoryDwRefIdeal.Gen.facts,
  Cert.Up.Gen.facts, Cert.UpIdeal.Gen.facts, Cert.UpRef.Gen.facts, Cert.UpRefIdeal.Gen.facts,
  Cert.UpDa.Gen.facts, Cert.UpDaIdeal.Gen.facts, Cert.UpDaRef.Gen.facts, Cert.UpDaRefIdeal.Gen.facts,
  Cert.UpDw.Gen.facts, Cert.UpDwIdeal.Gen.facts, Cert.UpDwRef.Gen.facts, Cert.UpDwRefIdeal.Gen.facts,
  Cert.Down.Gen.facts, Cert.DownIdeal.Gen.facts, Cert.DownRef.Gen.facts, Cert.DownRefIdeal.Gen.facts,
  Cert.DownDa.Gen.facts, Cert.DownDaIdeal.Gen.facts, Cert.DownDaRef.Gen.facts, Cert.DownDaRefIdeal.Gen.facts,
  Cert.DownDw.Gen.facts, Cert.DownDwIdeal.Gen.facts, Cert.DownDwRef.Gen.facts, Cert.DownDwRefIdeal.Gen.facts,
  Cert.GdnScan.Gen.facts, Cert.GdnScanIdeal.Gen.facts, Cert.GdnScanRef.Gen.facts, Cert.GdnScanRefIdeal.Gen.facts,
  Cert.GdnGrad.Gen.facts, Cert.GdnGradIdeal.Gen.facts, Cert.GdnGradRef.Gen.facts, Cert.GdnGradRefIdeal.Gen.facts,
  Cert.Stick.Gen.facts, Cert.StickIdeal.Gen.facts, Cert.StickRef.Gen.facts, Cert.StickRefIdeal.Gen.facts,
  Cert.GatherRun.frame_kernel, Cert.GatherRun.frame_kernel_ideal, Cert.GatherRun.frame_ref, Cert.GatherRun.frame_ref_ideal,
  Cert.SiblingRun.frame_kernel, Cert.SiblingRun.frame_kernel_ideal, Cert.SiblingRun.frame_ref, Cert.SiblingRun.frame_ref_ideal,
  Cert.ChipsRun.frame_kernel, Cert.ChipsRun.frame_kernel_ideal, Cert.ChipsRun.frame_ref, Cert.ChipsRun.frame_ref_ideal,
  Cert.ShareRun.frame_kernel, Cert.ShareRun.frame_kernel_ideal, Cert.ShareRun.frame_ref, Cert.ShareRun.frame_ref_ideal,
  Cert.PairSumRun.frame_kernel, Cert.PairSumRun.frame_kernel_ideal, Cert.PairSumRun.frame_ref, Cert.PairSumRun.frame_ref_ideal,
  Cert.ChipSumRun.frame_kernel, Cert.ChipSumRun.frame_kernel_ideal, Cert.ChipSumRun.frame_ref, Cert.ChipSumRun.frame_ref_ideal,
  Cert.AdamwRun.frame_kernel, Cert.AdamwRun.frame_kernel_ideal, Cert.AdamwRun.frame_ref, Cert.AdamwRun.frame_ref_ideal,
  Cert.AdamwSmallRun.frame_kernel, Cert.AdamwSmallRun.frame_kernel_ideal, Cert.AdamwSmallRun.frame_ref, Cert.AdamwSmallRun.frame_ref_ideal,
  Cert.LossHeadRun.frame_kernel, Cert.LossHeadRun.frame_kernel_ideal, Cert.LossHeadRun.frame_ref, Cert.LossHeadRun.frame_ref_ideal,
  Cert.InRun.frame_kernel, Cert.InRun.frame_kernel_ideal, Cert.InRun.frame_ref, Cert.InRun.frame_ref_ideal,
  Cert.InDaRun.frame_kernel, Cert.InDaRun.frame_kernel_ideal, Cert.InDaRun.frame_ref, Cert.InDaRun.frame_ref_ideal,
  Cert.InDwRun.frame_kernel, Cert.InDwRun.frame_kernel_ideal, Cert.InDwRun.frame_ref, Cert.InDwRun.frame_ref_ideal,
  Cert.BranchRun.frame_kernel, Cert.BranchRun.frame_kernel_ideal, Cert.BranchRun.frame_ref, Cert.BranchRun.frame_ref_ideal,
  Cert.BranchDaRun.frame_kernel, Cert.BranchDaRun.frame_kernel_ideal, Cert.BranchDaRun.frame_ref, Cert.BranchDaRun.frame_ref_ideal,
  Cert.BranchDwRun.frame_kernel, Cert.BranchDwRun.frame_kernel_ideal, Cert.BranchDwRun.frame_ref, Cert.BranchDwRun.frame_ref_ideal,
  Cert.OutRun.frame_kernel, Cert.OutRun.frame_kernel_ideal, Cert.OutRun.frame_ref, Cert.OutRun.frame_ref_ideal,
  Cert.OutDaRun.frame_kernel, Cert.OutDaRun.frame_kernel_ideal, Cert.OutDaRun.frame_ref, Cert.OutDaRun.frame_ref_ideal,
  Cert.OutDwRun.frame_kernel, Cert.OutDwRun.frame_kernel_ideal, Cert.OutDwRun.frame_ref, Cert.OutDwRun.frame_ref_ideal,
  Cert.QueryRun.frame_kernel, Cert.QueryRun.frame_kernel_ideal, Cert.QueryRun.frame_ref, Cert.QueryRun.frame_ref_ideal,
  Cert.QueryDaRun.frame_kernel, Cert.QueryDaRun.frame_kernel_ideal, Cert.QueryDaRun.frame_ref, Cert.QueryDaRun.frame_ref_ideal,
  Cert.QueryDwRun.frame_kernel, Cert.QueryDwRun.frame_kernel_ideal, Cert.QueryDwRun.frame_ref, Cert.QueryDwRun.frame_ref_ideal,
  Cert.MemoryRun.frame_kernel, Cert.MemoryRun.frame_kernel_ideal, Cert.MemoryRun.frame_ref, Cert.MemoryRun.frame_ref_ideal,
  Cert.MemoryDaRun.frame_kernel, Cert.MemoryDaRun.frame_kernel_ideal, Cert.MemoryDaRun.frame_ref, Cert.MemoryDaRun.frame_ref_ideal,
  Cert.MemoryDwRun.frame_kernel, Cert.MemoryDwRun.frame_kernel_ideal, Cert.MemoryDwRun.frame_ref, Cert.MemoryDwRun.frame_ref_ideal,
  Cert.UpRun.frame_kernel, Cert.UpRun.frame_kernel_ideal, Cert.UpRun.frame_ref, Cert.UpRun.frame_ref_ideal,
  Cert.UpDaRun.frame_kernel, Cert.UpDaRun.frame_kernel_ideal, Cert.UpDaRun.frame_ref, Cert.UpDaRun.frame_ref_ideal,
  Cert.UpDwRun.frame_kernel, Cert.UpDwRun.frame_kernel_ideal, Cert.UpDwRun.frame_ref, Cert.UpDwRun.frame_ref_ideal,
  Cert.DownRun.frame_kernel, Cert.DownRun.frame_kernel_ideal, Cert.DownRun.frame_ref, Cert.DownRun.frame_ref_ideal,
  Cert.DownDaRun.frame_kernel, Cert.DownDaRun.frame_kernel_ideal, Cert.DownDaRun.frame_ref, Cert.DownDaRun.frame_ref_ideal,
  Cert.DownDwRun.frame_kernel, Cert.DownDwRun.frame_kernel_ideal, Cert.DownDwRun.frame_ref, Cert.DownDwRun.frame_ref_ideal,
  Cert.GdnScanRun.frame_kernel, Cert.GdnScanRun.frame_kernel_ideal, Cert.GdnScanRun.frame_ref, Cert.GdnScanRun.frame_ref_ideal,
  Cert.GdnGradRun.frame_kernel, Cert.GdnGradRun.frame_kernel_ideal, Cert.GdnGradRun.frame_ref, Cert.GdnGradRun.frame_ref_ideal,
  Cert.StickRun.frame_kernel, Cert.StickRun.frame_kernel_ideal, Cert.StickRun.frame_ref, Cert.StickRun.frame_ref_ideal,
  trivial, Cert.GatherRun.algebraic, Cert.GatherRun.bitexact,
  trivial, Cert.SiblingRun.algebraic, Cert.SiblingRun.bitexact,
  trivial, Cert.ChipsRun.algebraic, Cert.ChipsRun.bitexact,
  trivial, Cert.ShareRun.algebraic, Cert.ShareRun.bitexact,
  trivial, Cert.PairSumRun.algebraic,
  trivial, Cert.ChipSumRun.algebraic,
  trivial, Cert.AdamwRun.algebraic,
  trivial, Cert.AdamwSmallRun.algebraic,
  trivial, Cert.LossHeadRun.algebraic,
  trivial, Cert.InRun.algebraic,
  trivial, Cert.InDaRun.algebraic,
  trivial, Cert.InDwRun.algebraic,
  trivial, Cert.BranchRun.algebraic,
  trivial, Cert.BranchDaRun.algebraic,
  trivial, Cert.BranchDwRun.algebraic,
  trivial, Cert.OutRun.algebraic,
  trivial, Cert.OutDaRun.algebraic,
  trivial, Cert.OutDwRun.algebraic,
  trivial, Cert.QueryRun.algebraic,
  trivial, Cert.QueryDaRun.algebraic,
  trivial, Cert.QueryDwRun.algebraic,
  trivial, Cert.MemoryRun.algebraic,
  trivial, Cert.MemoryDaRun.algebraic,
  trivial, Cert.MemoryDwRun.algebraic,
  trivial, Cert.UpRun.algebraic,
  trivial, Cert.UpDaRun.algebraic,
  trivial, Cert.UpDwRun.algebraic,
  trivial, Cert.DownRun.algebraic,
  trivial, Cert.DownDaRun.algebraic,
  trivial, Cert.DownDwRun.algebraic,
  trivial, Cert.GdnScanRun.algebraic,
  trivial, Cert.GdnGradRun.algebraic,
  trivial, Cert.StickRun.algebraic⟩

end Cert.Proof

end
